-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradInA (m : (ℓ : Loc Cert.GradInA.nD Cert.GradInA.τ Cert.GradInA.sig) → Buf (Elt Bits) ℓ) : Prop :=
  True

def Pre_GradInAIdeal (m : (ℓ : Loc Cert.GradInAIdeal.nD Cert.GradInAIdeal.τ Cert.GradInAIdeal.sig) → Buf (Elt Ideal) ℓ) : Prop :=
  True

def Pre_GradInARefIdeal (m : (ℓ : Loc Cert.GradInARefIdeal.nD Cert.GradInARefIdeal.τ Cert.GradInARefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpA (m : (ℓ : Loc Cert.UpA.nD Cert.UpA.τ Cert.UpA.sig) → Buf (Elt Bits) ℓ) : Prop :=
  True

def Pre_UpAIdeal (m : (ℓ : Loc Cert.UpAIdeal.nD Cert.UpAIdeal.τ Cert.UpAIdeal.sig) → Buf (Elt Ideal) ℓ) : Prop :=
  True

def Pre_UpARefIdeal (m : (ℓ : Loc Cert.UpARefIdeal.nD Cert.UpARefIdeal.τ Cert.UpARefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradInA [hGradInA : Cert.GradInA.Facts] : Prop :=
  ∀ (m : (ℓ : Loc Cert.GradInA.nD Cert.GradInA.τ Cert.GradInA.sig) → Buf (Elt Bits) ℓ) (g : Dev Cert.GradInA.nD → PrngReg), Pre_GradInA m →
    θ_run (Cert.GradInA.defs (F := Bits)) (onTc (τ := Cert.GradInA.τ) (Cert.GradInA.main (F := Bits))) ⟨m, fun _ => 0, g⟩ (fun r => (∀ c : Dev Cert.GradInA.nD,
      r.2.mem ((c.tc : Thread Cert.GradInA.nD Cert.GradInA.τ).loc Cert.GradInA.main_arg0) = m ((c.tc : Thread Cert.GradInA.nD Cert.GradInA.τ).loc Cert.GradInA.main_arg0)
      ∧ r.2.mem ((c.tc : Thread Cert.GradInA.nD Cert.GradInA.τ).loc Cert.GradInA.main_arg1) = m ((c.tc : Thread Cert.GradInA.nD Cert.GradInA.τ).loc Cert.GradInA.main_arg1))
      ∧ r.2.sem = fun _ => 0)

def quiescent_GradInAIdeal [hGradInAIdeal : Cert.GradInAIdeal.Facts] : Prop :=
  ∀ (m : (ℓ : Loc Cert.GradInAIdeal.nD Cert.GradInAIdeal.τ Cert.GradInAIdeal.sig) → Buf (Elt Ideal) ℓ) (g : Dev Cert.GradInAIdeal.nD → PrngReg), Pre_GradInAIdeal m →
    θ_run (Cert.GradInAIdeal.defs (F := Ideal)) (onTc (τ := Cert.GradInAIdeal.τ) (Cert.GradInAIdeal.main (F := Ideal))) ⟨m, fun _ => 0, g⟩ (fun r => (∀ c : Dev Cert.GradInAIdeal.nD,
      r.2.mem ((c.tc : Thread Cert.GradInAIdeal.nD Cert.GradInAIdeal.τ).loc Cert.GradInAIdeal.main_arg0) = m ((c.tc : Thread Cert.GradInAIdeal.nD Cert.GradInAIdeal.τ).loc Cert.GradInAIdeal.main_arg0)
      ∧ r.2.mem ((c.tc : Thread Cert.GradInAIdeal.nD Cert.GradInAIdeal.τ).loc Cert.GradInAIdeal.main_arg1) = m ((c.tc : Thread Cert.GradInAIdeal.nD Cert.GradInAIdeal.τ).loc Cert.GradInAIdeal.main_arg1))
      ∧ r.2.sem = fun _ => 0)

def quiescent_GradInARefIdeal [hGradInARefIdeal : Cert.GradInARefIdeal.Facts] : Prop :=
  ∀ (m : (ℓ : Loc Cert.GradInARefIdeal.nD Cert.GradInARefIdeal.τ Cert.GradInARefIdeal.sig) → Buf (Elt Ideal) ℓ) (g : Dev Cert.GradInARefIdeal.nD → PrngReg), Pre_GradInARefIdeal m →
    θ_run (Cert.GradInARefIdeal.defs (F := Ideal)) (onTc (τ := Cert.GradInARefIdeal.τ) (Cert.GradInARefIdeal.main (F := Ideal))) ⟨m, fun _ => 0, g⟩ (fun r => (∀ c : Dev Cert.GradInARefIdeal.nD,
      r.2.mem ((c.tc : Thread Cert.GradInARefIdeal.nD Cert.GradInARefIdeal.τ).loc Cert.GradInARefIdeal.main_arg0) = m ((c.tc : Thread Cert.GradInARefIdeal.nD Cert.GradInARefIdeal.τ).loc Cert.GradInARefIdeal.main_arg0)
      ∧ r.2.mem ((c.tc : Thread Cert.GradInARefIdeal.nD Cert.GradInARefIdeal.τ).loc Cert.GradInARefIdeal.main_arg1) = m ((c.tc : Thread Cert.GradInARefIdeal.nD Cert.GradInARefIdeal.τ).loc Cert.GradInARefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_UpA [hUpA : Cert.UpA.Facts] : Prop :=
  ∀ (m : (ℓ : Loc Cert.UpA.nD Cert.UpA.τ Cert.UpA.sig) → Buf (Elt Bits) ℓ) (g : Dev Cert.UpA.nD → PrngReg), Pre_UpA m →
    θ_run (Cert.UpA.defs (F := Bits)) (onTc (τ := Cert.UpA.τ) (Cert.UpA.main (F := Bits))) ⟨m, fun _ => 0, g⟩ (fun r => (∀ c : Dev Cert.UpA.nD,
      r.2.mem ((c.tc : Thread Cert.UpA.nD Cert.UpA.τ).loc Cert.UpA.main_arg0) = m ((c.tc : Thread Cert.UpA.nD Cert.UpA.τ).loc Cert.UpA.main_arg0)
      ∧ r.2.mem ((c.tc : Thread Cert.UpA.nD Cert.UpA.τ).loc Cert.UpA.main_arg1) = m ((c.tc : Thread Cert.UpA.nD Cert.UpA.τ).loc Cert.UpA.main_arg1)
      ∧ r.2.mem ((c.tc : Thread Cert.UpA.nD Cert.UpA.τ).loc Cert.UpA.main_arg2) = m ((c.tc : Thread Cert.UpA.nD Cert.UpA.τ).loc Cert.UpA.main_arg2)
      ∧ r.2.mem ((c.tc : Thread Cert.UpA.nD Cert.UpA.τ).loc Cert.UpA.main_arg3) = m ((c.tc : Thread Cert.UpA.nD Cert.UpA.τ).loc Cert.UpA.main_arg3)
      ∧ r.2.mem ((c.tc : Thread Cert.UpA.nD Cert.UpA.τ).loc Cert.UpA.main_arg4) = m ((c.tc : Thread Cert.UpA.nD Cert.UpA.τ).loc Cert.UpA.main_arg4)
      ∧ r.2.mem ((c.tc : Thread Cert.UpA.nD Cert.UpA.τ).loc Cert.UpA.main_arg5) = m ((c.tc : Thread Cert.UpA.nD Cert.UpA.τ).loc Cert.UpA.main_arg5))
      ∧ r.2.sem = fun _ => 0)

def quiescent_UpAIdeal [hUpAIdeal : Cert.UpAIdeal.Facts] : Prop :=
  ∀ (m : (ℓ : Loc Cert.UpAIdeal.nD Cert.UpAIdeal.τ Cert.UpAIdeal.sig) → Buf (Elt Ideal) ℓ) (g : Dev Cert.UpAIdeal.nD → PrngReg), Pre_UpAIdeal m →
    θ_run (Cert.UpAIdeal.defs (F := Ideal)) (onTc (τ := Cert.UpAIdeal.τ) (Cert.UpAIdeal.main (F := Ideal))) ⟨m, fun _ => 0, g⟩ (fun r => (∀ c : Dev Cert.UpAIdeal.nD,
      r.2.mem ((c.tc : Thread Cert.UpAIdeal.nD Cert.UpAIdeal.τ).loc Cert.UpAIdeal.main_arg0) = m ((c.tc : Thread Cert.UpAIdeal.nD Cert.UpAIdeal.τ).loc Cert.UpAIdeal.main_arg0)
      ∧ r.2.mem ((c.tc : Thread Cert.UpAIdeal.nD Cert.UpAIdeal.τ).loc Cert.UpAIdeal.main_arg1) = m ((c.tc : Thread Cert.UpAIdeal.nD Cert.UpAIdeal.τ).loc Cert.UpAIdeal.main_arg1)
      ∧ r.2.mem ((c.tc : Thread Cert.UpAIdeal.nD Cert.UpAIdeal.τ).loc Cert.UpAIdeal.main_arg2) = m ((c.tc : Thread Cert.UpAIdeal.nD Cert.UpAIdeal.τ).loc Cert.UpAIdeal.main_arg2)
      ∧ r.2.mem ((c.tc : Thread Cert.UpAIdeal.nD Cert.UpAIdeal.τ).loc Cert.UpAIdeal.main_arg3) = m ((c.tc : Thread Cert.UpAIdeal.nD Cert.UpAIdeal.τ).loc Cert.UpAIdeal.main_arg3)
      ∧ r.2.mem ((c.tc : Thread Cert.UpAIdeal.nD Cert.UpAIdeal.τ).loc Cert.UpAIdeal.main_arg4) = m ((c.tc : Thread Cert.UpAIdeal.nD Cert.UpAIdeal.τ).loc Cert.UpAIdeal.main_arg4)
      ∧ r.2.mem ((c.tc : Thread Cert.UpAIdeal.nD Cert.UpAIdeal.τ).loc Cert.UpAIdeal.main_arg5) = m ((c.tc : Thread Cert.UpAIdeal.nD Cert.UpAIdeal.τ).loc Cert.UpAIdeal.main_arg5))
      ∧ r.2.sem = fun _ => 0)

def quiescent_UpARefIdeal [hUpARefIdeal : Cert.UpARefIdeal.Facts] : Prop :=
  ∀ (m : (ℓ : Loc Cert.UpARefIdeal.nD Cert.UpARefIdeal.τ Cert.UpARefIdeal.sig) → Buf (Elt Ideal) ℓ) (g : Dev Cert.UpARefIdeal.nD → PrngReg), Pre_UpARefIdeal m →
    θ_run (Cert.UpARefIdeal.defs (F := Ideal)) (onTc (τ := Cert.UpARefIdeal.τ) (Cert.UpARefIdeal.main (F := Ideal))) ⟨m, fun _ => 0, g⟩ (fun r => (∀ c : Dev Cert.UpARefIdeal.nD,
      r.2.mem ((c.tc : Thread Cert.UpARefIdeal.nD Cert.UpARefIdeal.τ).loc Cert.UpARefIdeal.main_arg0) = m ((c.tc : Thread Cert.UpARefIdeal.nD Cert.UpARefIdeal.τ).loc Cert.UpARefIdeal.main_arg0)
      ∧ r.2.mem ((c.tc : Thread Cert.UpARefIdeal.nD Cert.UpARefIdeal.τ).loc Cert.UpARefIdeal.main_arg1) = m ((c.tc : Thread Cert.UpARefIdeal.nD Cert.UpARefIdeal.τ).loc Cert.UpARefIdeal.main_arg1)
      ∧ r.2.mem ((c.tc : Thread Cert.UpARefIdeal.nD Cert.UpARefIdeal.τ).loc Cert.UpARefIdeal.main_arg2) = m ((c.tc : Thread Cert.UpARefIdeal.nD Cert.UpARefIdeal.τ).loc Cert.UpARefIdeal.main_arg2)
      ∧ r.2.mem ((c.tc : Thread Cert.UpARefIdeal.nD Cert.UpARefIdeal.τ).loc Cert.UpARefIdeal.main_arg3) = m ((c.tc : Thread Cert.UpARefIdeal.nD Cert.UpARefIdeal.τ).loc Cert.UpARefIdeal.main_arg3)
      ∧ r.2.mem ((c.tc : Thread Cert.UpARefIdeal.nD Cert.UpARefIdeal.τ).loc Cert.UpARefIdeal.main_arg4) = m ((c.tc : Thread Cert.UpARefIdeal.nD Cert.UpARefIdeal.τ).loc Cert.UpARefIdeal.main_arg4)
      ∧ r.2.mem ((c.tc : Thread Cert.UpARefIdeal.nD Cert.UpARefIdeal.τ).loc Cert.UpARefIdeal.main_arg5) = m ((c.tc : Thread Cert.UpARefIdeal.nD Cert.UpARefIdeal.τ).loc Cert.UpARefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2)
      ∧ r.2.mem ((c.tc : Thread Cert.ProjA.nD Cert.ProjA.τ).loc Cert.ProjA.main_arg3) = m ((c.tc : Thread Cert.ProjA.nD Cert.ProjA.τ).loc Cert.ProjA.main_arg3))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
      ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2)
      ∧ r.2.mem ((c.tc : Thread Cert.ProjARefIdeal.nD Cert.ProjARefIdeal.τ).loc Cert.ProjARefIdeal.main_arg3) = m ((c.tc : Thread Cert.ProjARefIdeal.nD Cert.ProjARefIdeal.τ).loc Cert.ProjARefIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def preserves_Kernel_KernelIdeal : Prop :=
  IdealRules.named_const.Statement Cert.KernelIdeal.κ "gelu_c1" .f32 0x3D372713#32 ((8943 / 200000 : ℝ) : EReal)
  ∧ IdealRules.named_const.Statement Cert.KernelIdeal.κ "gelu_c1_times_3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_v155) = v2 c
          ∧ r.2.mem ((c.tc : Thread Cert.ReferenceIdeal.nD Cert.ReferenceIdeal.τ).loc Cert.ReferenceIdeal.main_v151) = v3 c
          ∧ r.2.mem ((c.tc : Thread Cert.ReferenceIdeal.nD Cert.ReferenceIdeal.τ).loc Cert.ReferenceIdeal.main_v150) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v10) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v6) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradInA_GradInAIdeal : Prop :=
  True

def algebraic_GradInAIdeal_GradInARefIdeal [hGradInAIdeal : Cert.GradInAIdeal.Facts] [hGradInARefIdeal : Cert.GradInARefIdeal.Facts] : Prop :=
  ∀ (m : (ℓ : Loc Cert.GradInAIdeal.nD Cert.GradInAIdeal.τ Cert.GradInAIdeal.sig) → Buf (Elt Ideal) ℓ) (g : Dev Cert.GradInAIdeal.nD → PrngReg)
    (m' : (ℓ : Loc Cert.GradInARefIdeal.nD Cert.GradInARefIdeal.τ Cert.GradInARefIdeal.sig) → Buf (Elt Ideal) ℓ) (g' : Dev Cert.GradInARefIdeal.nD → PrngReg), Pre_GradInAIdeal m →
    (∀ c : Dev Cert.GradInAIdeal.nD,
      m' ((c.tc : Thread Cert.GradInARefIdeal.nD Cert.GradInARefIdeal.τ).loc Cert.GradInARefIdeal.main_arg0) = m ((c.tc : Thread Cert.GradInAIdeal.nD Cert.GradInAIdeal.τ).loc Cert.GradInAIdeal.main_arg0)
      ∧ m' ((c.tc : Thread Cert.GradInARefIdeal.nD Cert.GradInARefIdeal.τ).loc Cert.GradInARefIdeal.main_arg1) = m ((c.tc : Thread Cert.GradInAIdeal.nD Cert.GradInAIdeal.τ).loc Cert.GradInAIdeal.main_arg1)) →
    ∃ (v0 : (c : Dev Cert.GradInAIdeal.nD) → Buf (Elt Ideal) ((c.tc : Thread Cert.GradInAIdeal.nD Cert.GradInAIdeal.τ).loc Cert.GradInAIdeal.main_v0)),
      θ_run (Cert.GradInAIdeal.defs (F := Ideal)) (onTc (τ := Cert.GradInAIdeal.τ) (Cert.GradInAIdeal.main (F := Ideal))) ⟨m, fun _ => 0, g⟩ (fun r => ∀ c : Dev Cert.GradInAIdeal.nD,
          r.2.mem ((c.tc : Thread Cert.GradInAIdeal.nD Cert.GradInAIdeal.τ).loc Cert.GradInAIdeal.main_v0) = v0 c
          ∧ r.2.mem ((c.tc : Thread Cert.GradInAIdeal.nD Cert.GradInAIdeal.τ).loc Cert.GradInAIdeal.main_arg0) = m ((c.tc : Thread Cert.GradInAIdeal.nD Cert.GradInAIdeal.τ).loc Cert.GradInAIdeal.main_arg0)
          ∧ r.2.mem ((c.tc : Thread Cert.GradInAIdeal.nD Cert.GradInAIdeal.τ).loc Cert.GradInAIdeal.main_arg1) = m ((c.tc : Thread Cert.GradInAIdeal.nD Cert.GradInAIdeal.τ).loc Cert.GradInAIdeal.main_arg1))
      ∧ θ_run (Cert.GradInARefIdeal.defs (F := Ideal)) (onTc (τ := Cert.GradInARefIdeal.τ) (Cert.GradInARefIdeal.main (F := Ideal))) ⟨m', fun _ => 0, g'⟩ (fun r => ∀ c : Dev Cert.GradInARefIdeal.nD,
          r.2.mem ((c.tc : Thread Cert.GradInARefIdeal.nD Cert.GradInARefIdeal.τ).loc Cert.GradInARefIdeal.main_v8) = v0 c
          ∧ r.2.mem ((c.tc : Thread Cert.GradInARefIdeal.nD Cert.GradInARefIdeal.τ).loc Cert.GradInARefIdeal.main_arg0) = m' ((c.tc : Thread Cert.GradInARefIdeal.nD Cert.GradInARefIdeal.τ).loc Cert.GradInARefIdeal.main_arg0)
          ∧ r.2.mem ((c.tc : Thread Cert.GradInARefIdeal.nD Cert.GradInARefIdeal.τ).loc Cert.GradInARefIdeal.main_arg1) = m' ((c.tc : Thread Cert.GradInARefIdeal.nD Cert.GradInARefIdeal.τ).loc Cert.GradInARefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)) (v3 : (c : Dev Cert.UpIdeal.nD) → Buf (Elt Ideal) ((c.tc : Thread Cert.UpIdeal.nD Cert.UpIdeal.τ).loc Cert.UpIdeal.main_v0_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_v0_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v62) = v0 c
          ∧ r.2.mem ((c.tc : Thread Cert.UpRefIdeal.nD Cert.UpRefIdeal.τ).loc Cert.UpRefIdeal.main_v34) = v1 c
          ∧ r.2.mem ((c.tc : Thread Cert.UpRefIdeal.nD Cert.UpRefIdeal.τ).loc Cert.UpRefIdeal.main_v37) = v2 c
          ∧ r.2.mem ((c.tc : Thread Cert.UpRefIdeal.nD Cert.UpRefIdeal.τ).loc Cert.UpRefIdeal.main_v46) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_UpA_UpAIdeal : Prop :=
  True

def algebraic_UpAIdeal_UpARefIdeal [hUpAIdeal : Cert.UpAIdeal.Facts] [hUpARefIdeal : Cert.UpARefIdeal.Facts] : Prop :=
  ∀ (m : (ℓ : Loc Cert.UpAIdeal.nD Cert.UpAIdeal.τ Cert.UpAIdeal.sig) → Buf (Elt Ideal) ℓ) (g : Dev Cert.UpAIdeal.nD → PrngReg)
    (m' : (ℓ : Loc Cert.UpARefIdeal.nD Cert.UpARefIdeal.τ Cert.UpARefIdeal.sig) → Buf (Elt Ideal) ℓ) (g' : Dev Cert.UpARefIdeal.nD → PrngReg), Pre_UpAIdeal m →
    (∀ c : Dev Cert.UpAIdeal.nD,
      m' ((c.tc : Thread Cert.UpARefIdeal.nD Cert.UpARefIdeal.τ).loc Cert.UpARefIdeal.main_arg0) = m ((c.tc : Thread Cert.UpAIdeal.nD Cert.UpAIdeal.τ).loc Cert.UpAIdeal.main_arg0)
      ∧ m' ((c.tc : Thread Cert.UpARefIdeal.nD Cert.UpARefIdeal.τ).loc Cert.UpARefIdeal.main_arg1) = m ((c.tc : Thread Cert.UpAIdeal.nD Cert.UpAIdeal.τ).loc Cert.UpAIdeal.main_arg1)
      ∧ m' ((c.tc : Thread Cert.UpARefIdeal.nD Cert.UpARefIdeal.τ).loc Cert.UpARefIdeal.main_arg2) = m ((c.tc : Thread Cert.UpAIdeal.nD Cert.UpAIdeal.τ).loc Cert.UpAIdeal.main_arg2)
      ∧ m' ((c.tc : Thread Cert.UpARefIdeal.nD Cert.UpARefIdeal.τ).loc Cert.UpARefIdeal.main_arg3) = m ((c.tc : Thread Cert.UpAIdeal.nD Cert.UpAIdeal.τ).loc Cert.UpAIdeal.main_arg3)
      ∧ m' ((c.tc : Thread Cert.UpARefIdeal.nD Cert.UpARefIdeal.τ).loc Cert.UpARefIdeal.main_arg4) = m ((c.tc : Thread Cert.UpAIdeal.nD Cert.UpAIdeal.τ).loc Cert.UpAIdeal.main_arg4)
      ∧ m' ((c.tc : Thread Cert.UpARefIdeal.nD Cert.UpARefIdeal.τ).loc Cert.UpARefIdeal.main_arg5) = m ((c.tc : Thread Cert.UpAIdeal.nD Cert.UpAIdeal.τ).loc Cert.UpAIdeal.main_arg5)) →
    ∃ (v0 : (c : Dev Cert.UpAIdeal.nD) → Buf (Elt Ideal) ((c.tc : Thread Cert.UpAIdeal.nD Cert.UpAIdeal.τ).loc Cert.UpAIdeal.main_v0_0)) (v1 : (c : Dev Cert.UpAIdeal.nD) → Buf (Elt Ideal) ((c.tc : Thread Cert.UpAIdeal.nD Cert.UpAIdeal.τ).loc Cert.UpAIdeal.main_v0_1)) (v2 : (c : Dev Cert.UpAIdeal.nD) → Buf (Elt Ideal) ((c.tc : Thread Cert.UpAIdeal.nD Cert.UpAIdeal.τ).loc Cert.UpAIdeal.main_v0_2)) (v3 : (c : Dev Cert.UpAIdeal.nD) → Buf (Elt Ideal) ((c.tc : Thread Cert.UpAIdeal.nD Cert.UpAIdeal.τ).loc Cert.UpAIdeal.main_v0_3)),
      θ_run (Cert.UpAIdeal.defs (F := Ideal)) (onTc (τ := Cert.UpAIdeal.τ) (Cert.UpAIdeal.main (F := Ideal))) ⟨m, fun _ => 0, g⟩ (fun r => ∀ c : Dev Cert.UpAIdeal.nD,
          r.2.mem ((c.tc : Thread Cert.UpAIdeal.nD Cert.UpAIdeal.τ).loc Cert.UpAIdeal.main_v0_0) = v0 c
          ∧ r.2.mem ((c.tc : Thread Cert.UpAIdeal.nD Cert.UpAIdeal.τ).loc Cert.UpAIdeal.main_v0_1) = v1 c
          ∧ r.2.mem ((c.tc : Thread Cert.UpAIdeal.nD Cert.UpAIdeal.τ).loc Cert.UpAIdeal.main_v0_2) = v2 c
          ∧ r.2.mem ((c.tc : Thread Cert.UpAIdeal.nD Cert.UpAIdeal.τ).loc Cert.UpAIdeal.main_v0_3) = v3 c
          ∧ r.2.mem ((c.tc : Thread Cert.UpAIdeal.nD Cert.UpAIdeal.τ).loc Cert.UpAIdeal.main_arg0) = m ((c.tc : Thread Cert.UpAIdeal.nD Cert.UpAIdeal.τ).loc Cert.UpAIdeal.main_arg0)
          ∧ r.2.mem ((c.tc : Thread Cert.UpAIdeal.nD Cert.UpAIdeal.τ).loc Cert.UpAIdeal.main_arg1) = m ((c.tc : Thread Cert.UpAIdeal.nD Cert.UpAIdeal.τ).loc Cert.UpAIdeal.main_arg1)
          ∧ r.2.mem ((c.tc : Thread Cert.UpAIdeal.nD Cert.UpAIdeal.τ).loc Cert.UpAIdeal.main_arg2) = m ((c.tc : Thread Cert.UpAIdeal.nD Cert.UpAIdeal.τ).loc Cert.UpAIdeal.main_arg2)
          ∧ r.2.mem ((c.tc : Thread Cert.UpAIdeal.nD Cert.UpAIdeal.τ).loc Cert.UpAIdeal.main_arg3) = m ((c.tc : Thread Cert.UpAIdeal.nD Cert.UpAIdeal.τ).loc Cert.UpAIdeal.main_arg3)
          ∧ r.2.mem ((c.tc : Thread Cert.UpAIdeal.nD Cert.UpAIdeal.τ).loc Cert.UpAIdeal.main_arg4) = m ((c.tc : Thread Cert.UpAIdeal.nD Cert.UpAIdeal.τ).loc Cert.UpAIdeal.main_arg4)
          ∧ r.2.mem ((c.tc : Thread Cert.UpAIdeal.nD Cert.UpAIdeal.τ).loc Cert.UpAIdeal.main_arg5) = m ((c.tc : Thread Cert.UpAIdeal.nD Cert.UpAIdeal.τ).loc Cert.UpAIdeal.main_arg5))
      ∧ θ_run (Cert.UpARefIdeal.defs (F := Ideal)) (onTc (τ := Cert.UpARefIdeal.τ) (Cert.UpARefIdeal.main (F := Ideal))) ⟨m', fun _ => 0, g'⟩ (fun r => ∀ c : Dev Cert.UpARefIdeal.nD,
          r.2.mem ((c.tc : Thread Cert.UpARefIdeal.nD Cert.UpARefIdeal.τ).loc Cert.UpARefIdeal.main_v61) = v0 c
          ∧ r.2.mem ((c.tc : Thread Cert.UpARefIdeal.nD Cert.UpARefIdeal.τ).loc Cert.UpARefIdeal.main_v33) = v1 c
          ∧ r.2.mem ((c.tc : Thread Cert.UpARefIdeal.nD Cert.UpARefIdeal.τ).loc Cert.UpARefIdeal.main_v36) = v2 c
          ∧ r.2.mem ((c.tc : Thread Cert.UpARefIdeal.nD Cert.UpARefIdeal.τ).loc Cert.UpARefIdeal.main_v45) = v3 c
          ∧ r.2.mem ((c.tc : Thread Cert.UpARefIdeal.nD Cert.UpARefIdeal.τ).loc Cert.UpARefIdeal.main_arg0) = m' ((c.tc : Thread Cert.UpARefIdeal.nD Cert.UpARefIdeal.τ).loc Cert.UpARefIdeal.main_arg0)
          ∧ r.2.mem ((c.tc : Thread Cert.UpARefIdeal.nD Cert.UpARefIdeal.τ).loc Cert.UpARefIdeal.main_arg1) = m' ((c.tc : Thread Cert.UpARefIdeal.nD Cert.UpARefIdeal.τ).loc Cert.UpARefIdeal.main_arg1)
          ∧ r.2.mem ((c.tc : Thread Cert.UpARefIdeal.nD Cert.UpARefIdeal.τ).loc Cert.UpARefIdeal.main_arg2) = m' ((c.tc : Thread Cert.UpARefIdeal.nD Cert.UpARefIdeal.τ).loc Cert.UpARefIdeal.main_arg2)
          ∧ r.2.mem ((c.tc : Thread Cert.UpARefIdeal.nD Cert.UpARefIdeal.τ).loc Cert.UpARefIdeal.main_arg3) = m' ((c.tc : Thread Cert.UpARefIdeal.nD Cert.UpARefIdeal.τ).loc Cert.UpARefIdeal.main_arg3)
          ∧ r.2.mem ((c.tc : Thread Cert.UpARefIdeal.nD Cert.UpARefIdeal.τ).loc Cert.UpARefIdeal.main_arg4) = m' ((c.tc : Thread Cert.UpARefIdeal.nD Cert.UpARefIdeal.τ).loc Cert.UpARefIdeal.main_arg4)
          ∧ r.2.mem ((c.tc : Thread Cert.UpARefIdeal.nD Cert.UpARefIdeal.τ).loc Cert.UpARefIdeal.main_arg5) = m' ((c.tc : Thread Cert.UpARefIdeal.nD Cert.UpARefIdeal.τ).loc Cert.UpARefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v27) = v0 c
          ∧ r.2.mem ((c.tc : Thread Cert.ProjRefIdeal.nD Cert.ProjRefIdeal.τ).loc Cert.ProjRefIdeal.main_v29) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)
      ∧ m' ((c.tc : Thread Cert.ProjARefIdeal.nD Cert.ProjARefIdeal.τ).loc Cert.ProjARefIdeal.main_arg3) = m ((c.tc : Thread Cert.ProjAIdeal.nD Cert.ProjAIdeal.τ).loc Cert.ProjAIdeal.main_arg3)) →
    ∃ (v0 : (c : Dev Cert.ProjAIdeal.nD) → Buf (Elt Ideal) ((c.tc : Thread Cert.ProjAIdeal.nD Cert.ProjAIdeal.τ).loc Cert.ProjAIdeal.main_v0_0)) (v1 : (c : Dev Cert.ProjAIdeal.nD) → Buf (Elt Ideal) ((c.tc : Thread Cert.ProjAIdeal.nD Cert.ProjAIdeal.τ).loc Cert.ProjAIdeal.main_v0_1)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0_0) = v0 c
          ∧ r.2.mem ((c.tc : Thread Cert.ProjAIdeal.nD Cert.ProjAIdeal.τ).loc Cert.ProjAIdeal.main_v0_1) = v1 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
          ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v26) = v0 c
          ∧ r.2.mem ((c.tc : Thread Cert.ProjARefIdeal.nD Cert.ProjARefIdeal.τ).loc Cert.ProjARefIdeal.main_v28) = v1 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2)
          ∧ r.2.mem ((c.tc : Thread Cert.ProjARefIdeal.nD Cert.ProjARefIdeal.τ).loc Cert.ProjARefIdeal.main_arg3) = m' ((c.tc : Thread Cert.ProjARefIdeal.nD Cert.ProjARefIdeal.τ).loc Cert.ProjARefIdeal.main_arg3))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v9) = v0 c
          ∧ r.2.mem ((c.tc : Thread Cert.FwdRefIdeal.nD Cert.FwdRefIdeal.τ).loc Cert.FwdRefIdeal.main_v11) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def Claim : Prop :=
  ∃ (hKernel : Cert.Kernel.Facts) (hKernelIdeal : Cert.KernelIdeal.Facts) (hReferenceIdeal : Cert.ReferenceIdeal.Facts) (hGradIn : Cert.GradIn.Facts) (hGradInIdeal : Cert.GradInIdeal.Facts) (hGradInRefIdeal : Cert.GradInRefIdeal.Facts) (hGradOut : Cert.GradOut.Facts) (hGradOutIdeal : Cert.GradOutIdeal.Facts) (hGradOutRefIdeal : Cert.GradOutRefIdeal.Facts) (hGradInA : Cert.GradInA.Facts) (hGradInAIdeal : Cert.GradInAIdeal.Facts) (hGradInARefIdeal : Cert.GradInARefIdeal.Facts) (hUp : Cert.Up.Facts) (hUpIdeal : Cert.UpIdeal.Facts) (hUpRefIdeal : Cert.UpRefIdeal.Facts) (hUpA : Cert.UpA.Facts) (hUpAIdeal : Cert.UpAIdeal.Facts) (hUpARefIdeal : Cert.UpARefIdeal.Facts) (hProj : Cert.Proj.Facts) (hProjIdeal : Cert.ProjIdeal.Facts) (hProjRefIdeal : Cert.ProjRefIdeal.Facts) (hProjA : Cert.ProjA.Facts) (hProjAIdeal : Cert.ProjAIdeal.Facts) (hProjARefIdeal : Cert.ProjARefIdeal.Facts) (hFwd : Cert.Fwd.Facts) (hFwdIdeal : Cert.FwdIdeal.Facts) (hFwdRefIdeal : Cert.FwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GradIn (hGradIn := hGradIn)
    ∧ quiescent_GradInIdeal (hGradInIdeal := hGradInIdeal)
    ∧ quiescent_GradInRefIdeal (hGradInRefIdeal := hGradInRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradInA (hGradInA := hGradInA)
    ∧ quiescent_GradInAIdeal (hGradInAIdeal := hGradInAIdeal)
    ∧ quiescent_GradInARefIdeal (hGradInARefIdeal := hGradInARefIdeal)
    ∧ quiescent_Up (hUp := hUp)
    ∧ quiescent_UpIdeal (hUpIdeal := hUpIdeal)
    ∧ quiescent_UpRefIdeal (hUpRefIdeal := hUpRefIdeal)
    ∧ quiescent_UpA (hUpA := hUpA)
    ∧ quiescent_UpAIdeal (hUpAIdeal := hUpAIdeal)
    ∧ quiescent_UpARefIdeal (hUpARefIdeal := hUpARefIdeal)
    ∧ quiescent_Proj (hProj := hProj)
    ∧ quiescent_ProjIdeal (hProjIdeal := hProjIdeal)
    ∧ quiescent_ProjRefIdeal (hProjRefIdeal := hProjRefIdeal)
    ∧ quiescent_ProjA (hProjA := hProjA)
    ∧ quiescent_ProjAIdeal (hProjAIdeal := hProjAIdeal)
    ∧ quiescent_ProjARefIdeal (hProjARefIdeal := hProjARefIdeal)
    ∧ quiescent_Fwd (hFwd := hFwd)
    ∧ quiescent_FwdIdeal (hFwdIdeal := hFwdIdeal)
    ∧ quiescent_FwdRefIdeal (hFwdRefIdeal := hFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GradIn_GradInIdeal
    ∧ algebraic_GradInIdeal_GradInRefIdeal (hGradInIdeal := hGradInIdeal) (hGradInRefIdeal := hGradInRefIdeal)
    ∧ preserves_GradOut_GradOutIdeal
    ∧ algebraic_GradOutIdeal_GradOutRefIdeal (hGradOutIdeal := hGradOutIdeal) (hGradOutRefIdeal := hGradOutRefIdeal)
    ∧ preserves_GradInA_GradInAIdeal
    ∧ algebraic_GradInAIdeal_GradInARefIdeal (hGradInAIdeal := hGradInAIdeal) (hGradInARefIdeal := hGradInARefIdeal)
    ∧ preserves_Up_UpIdeal
    ∧ algebraic_UpIdeal_UpRefIdeal (hUpIdeal := hUpIdeal) (hUpRefIdeal := hUpRefIdeal)
    ∧ preserves_UpA_UpAIdeal
    ∧ algebraic_UpAIdeal_UpARefIdeal (hUpAIdeal := hUpAIdeal) (hUpARefIdeal := hUpARefIdeal)
    ∧ preserves_Proj_ProjIdeal
    ∧ algebraic_ProjIdeal_ProjRefIdeal (hProjIdeal := hProjIdeal) (hProjRefIdeal := hProjRefIdeal)
    ∧ preserves_ProjA_ProjAIdeal
    ∧ algebraic_ProjAIdeal_ProjARefIdeal (hProjAIdeal := hProjAIdeal) (hProjARefIdeal := hProjARefIdeal)
    ∧ preserves_Fwd_FwdIdeal
    ∧ algebraic_FwdIdeal_FwdRefIdeal (hFwdIdeal := hFwdIdeal) (hFwdRefIdeal := hFwdRefIdeal)
-- ==== Pre_finite.lean ====
abbrev S4096x6144 : Shape := ⟨2, ![4096, 6144]⟩
abbrev S4096x2048 : Shape := ⟨2, ![4096, 2048]⟩
abbrev S1x2048 : Shape := ⟨2, ![1, 2048]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S4096x6144 : S_.BroadcastsInDim S4096x6144 (![] : Fin 0 → Fin S4096x6144.rank)
  bcast_S_S4096x2048 : S_.BroadcastsInDim S4096x2048 (![] : Fin 0 → Fin S4096x2048.rank)
  bcast_S_S1x2048 : S_.BroadcastsInDim S1x2048 (![] : Fin 0 → Fin S1x2048.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn {F : FTy → Type} [FloatOps F] (main_arg0 : FVec F S4096x6144 .f32) (main_arg1 : FVec F S4096x2048 .bf16) (main_arg2 : FVec F S1x2048 .f32) (main_arg3 : FVec F S1x2048 .f32) (main_arg4 : FVec F S1x8x128x128 .f32) (main_arg5 : FVec F S1x8x128 .f32) : IVec S4096x6144 1 × IVec S4096x2048 1 × IVec S1x2048 1 × IVec S1x2048 1 × IVec S1x8x128x128 1 × IVec S1x8x128 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_v3 : FVec F S4096x2048 .bf16 := Host.absf main_arg1
  let main_cst_0 : FVec F S_ .bf16 := constant S_ .bf16 0x7F80#16
  let main_v4 : FVec F S4096x2048 .bf16 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x8x128x128 .f32 := Host.absf main_arg4
  let main_cst_3 : FVec F S_ .f32 := constant S_ .f32 0x7F800000#32
  let main_v13 : FVec F S1x8x128x128 .f32 := broadcastInDim S1x8x128x128 ![] bcast_S_S1x8x128x128 main_cst_3
  let main_v14 : IVec S1x8x128x128 1 := cmpf .olt main_v12 main_v13
  let main_v15 : FVec F S1x8x128 .f32 := Host.absf main_arg5
  let main_cst_4 : FVec F S_ .f32 := constant S_ .f32 0x7F800000#32
  let main_v16 : FVec F S1x8x128 .f32 := broadcastInDim S1x8x128 ![] bcast_S_S1x8x128 main_cst_4
  let main_v17 : IVec S1x8x128 1 := cmpf .olt main_v15 main_v16
  (main_v2, main_v5, main_v8, main_v11, main_v14, main_v17)
-- ==== Kernel.lean ====
abbrev S4096x6144 : Shape := ⟨2, ![4096, 6144]⟩
abbrev S4096x2048 : Shape := ⟨2, ![4096, 2048]⟩
abbrev S1x2048 : Shape := ⟨2, ![1, 2048]⟩
abbrev S1x8x128x128 : Shape := ⟨4, ![1, 8, 128, 128]⟩
abbrev S1x8x128 : Shape := ⟨3, ![1, 8, 128]⟩
abbrev S8x128 : Shape := ⟨2, ![8, 128]⟩
abbrev S8x128x1 : Shape := ⟨3, ![8, 128, 1]⟩
abbrev S8x128x128 : Shape := ⟨3, ![8, 128, 128]⟩
abbrev S128x6144 : Shape := ⟨2, ![128, 6144]⟩
abbrev S128x2048 : Shape := ⟨2, ![128, 2048]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S128 : Shape := ⟨1, ![128]⟩
abbrev S1x256 : Shape := ⟨2, ![1, 256]⟩
abbrev S1x128x1 : Shape := ⟨3, ![1, 128, 1]⟩
abbrev S256 : Shape := ⟨1, ![256]⟩

abbrev nBuf : Space → Nat
  | .hbm => 14
  | .vmem => 18
  | .smem => 0
  | _ => 0

abbrev bufTy : (tb : Table) → Fin (tcTables nBuf tb) → BufTy
  | .hbm, ⟨0, _⟩ => ⟨S4096x6144, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S1x8x128x128, .f32⟩
  | .hbm, ⟨5, _⟩ => ⟨S1x8x128, .f32⟩
  | .hbm, ⟨6, _⟩ => ⟨S8x128, .f32⟩
  | .hbm, ⟨7, _⟩ => ⟨S8x128x1, .f32⟩
  | .hbm, ⟨8, _⟩ => ⟨S8x128x128, .f32⟩
  | .hbm, ⟨9, _⟩ => ⟨S4096x6144, .bf16⟩
  | .hbm, ⟨10, _⟩ => ⟨S8x128x128, .f32⟩
  | .hbm, ⟨11, _⟩ => ⟨S8x128x1, .f32⟩
  | .hbm, ⟨12, _⟩ => ⟨S1x2048, .f32⟩
  | .hbm, ⟨13, _⟩ => ⟨S1x2048, .f32⟩
  | .local _ .vmem, ⟨0, _⟩ => ⟨S128x6144, .f32⟩
  | .local _ .vmem, ⟨1, _⟩ => ⟨S128x6144, .f32⟩
  | .local _ .vmem, ⟨2, _⟩ => ⟨S128x2048, .bf16⟩
  | .local _ .vmem, ⟨3, _⟩ => ⟨S128x2048, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S8x128x1, .f32⟩
  | .local _ .vmem, ⟨8, _⟩ => ⟨S128x6144, .bf16⟩
  | .local _ .vmem, ⟨9, _⟩ => ⟨S128x6144, .bf16⟩
  | .local _ .vmem, ⟨10, _⟩ => ⟨S8x128x128, .f32⟩
  | .local _ .vmem, ⟨11, _⟩ => ⟨S8x128x1, .f32⟩
  | .local _ .vmem, ⟨12, _⟩ => ⟨S1x2048, .f32⟩
  | .local _ .vmem, ⟨13, _⟩ => ⟨S1x2048, .f32⟩
  | .local _ .vmem, ⟨14, _⟩ => ⟨S8x128x128, .bf16⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gelu_c1" => some ((8943 / 200000 : ℝ) : EReal)
  | "gelu_c1_times_3" => some ((26829 / 200000 : ℝ) : EReal)
  | _ => none
-- ==== ReferenceIdeal.lean ====
abbrev S4096x6144 : Shape := ⟨2, ![4096, 6144]⟩
abbrev S4096x2048 : Shape := ⟨2, ![4096, 2048]⟩
abbrev S1x2048 : Shape := ⟨2, ![1, 2048]⟩
abbrev S1x8x128x128 : Shape := ⟨4, ![1, 8, 128, 128]⟩
abbrev S1x8x128 : Shape := ⟨3, ![1, 8, 128]⟩
abbrev S2048 : Shape := ⟨1, ![2048]⟩
abbrev S8x128x128 : Shape := ⟨3, ![8, 128, 128]⟩
abbrev S8x128 : Shape := ⟨2, ![8, 128]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S32x128x8x256 : Shape := ⟨4, ![32, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x32x256x128 : Shape := ⟨4, ![8, 32, 256, 128]⟩
abbrev S128x8 : Shape := ⟨2, ![128, 8]⟩
abbrev S1x128x8x1 : Shape := ⟨4, ![1, 128, 8, 1]⟩
abbrev S8x128x1 : Shape := ⟨3, ![8, 128, 1]⟩

abbrev nBuf : Space → Nat
  | .hbm => 252
  | .vmem => 0
  | .smem => 0
  | _ => 0

abbrev hbmTy0_0 (i : Nat) : BufTy := match i % 128 with
  | 0 => ⟨S4096x6144, .f32⟩
  | 1 => ⟨S4096x2048, .bf16⟩
  | 2 => ⟨S1x2048, .f32⟩
  | 3 => ⟨S1x2048, .f32⟩
  | 4 => ⟨S1x8x128x128, .f32⟩
  | 5 => ⟨S1x8x128, .f32⟩
  | 6 => ⟨S4096x2048, .f32⟩
  | 7 => ⟨S2048, .f32⟩
  | 8 => ⟨S2048, .f32⟩
  | 9 => ⟨S8x128x128, .f32⟩
  | 10 => ⟨S8x128, .f32⟩
  | 11 => ⟨S4096x4096, .f32⟩
  | 12 => ⟨S4096x2048, .f32⟩
  | 13 => ⟨S_, .f32⟩
  | 14 => ⟨S_, .f32⟩
  | 15 => ⟨S_, .f32⟩
  | 16 => ⟨S_, .f32⟩
  | 17 => ⟨S4096x4096, .f32⟩
  | 18 => ⟨S4096x4096, .f32⟩
  | 19 => ⟨S4096x4096, .f32⟩
  | 20 => ⟨S4096x4096, .f32⟩
  | 21 => ⟨S4096x4096, .f32⟩
  | 22 => ⟨S_, .f32⟩
  | 23 => ⟨S4096x4096, .f32⟩
  | 24 => ⟨S4096x4096, .f32⟩
  | 25 => ⟨S4096x4096, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S4096x4096, .f32⟩
  | 32 => ⟨S_, .f32⟩
  | 33 => ⟨S4096x4096, .f32⟩
  | 34 => ⟨S4096x4096, .f32⟩
  | 35 => ⟨S_, .f32⟩
  | 36 => ⟨S4096x4096, .f32⟩
  | 37 => ⟨S4096x4096, .f32⟩
  | 38 => ⟨S4096x4096, .f32⟩
  | 39 => ⟨S_, .f32⟩
  | 40 => ⟨S4096x4096, .f32⟩
  | 41 => ⟨S4096x4096, .f32⟩
  | 42 => ⟨S4096x4096, .f32⟩
  | 43 => ⟨S4096x2048, .f32⟩
  | 44 => ⟨S4096x2048, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S4096x2048, .f32⟩
  | 52 => ⟨S4096x2048, .f32⟩
  | 53 => ⟨S4096x2048, .f32⟩
  | 54 => ⟨S_, .f32⟩
  | 55 => ⟨S4096x2048, .f32⟩
  | 56 => ⟨S4096x2048, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S4096x2048, .f32⟩
  | 64 => ⟨S4096x2048, .f32⟩
  | 65 => ⟨S_, .f32⟩
  | 66 => ⟨S4096x1, .f32⟩
  | 67 => ⟨S4096x1, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S4096x2048, .f32⟩
  | 74 => ⟨S4096x2048, .f32⟩
  | 75 => ⟨S1x2048, .f32⟩
  | 76 => ⟨S4096x2048, .f32⟩
  | 77 => ⟨S4096x2048, .f32⟩
  | 78 => ⟨S1x2048, .f32⟩
  | 79 => ⟨S4096x2048, .f32⟩
  | 80 => ⟨S4096x2048, .f32⟩
  | 81 => ⟨S32x128x8x256, .f32⟩
  | 82 => ⟨S128, .i32⟩
  | 83 => ⟨S1x128, .i32⟩
  | 84 => ⟨S_, .i32⟩
  | 85 => ⟨S_, .i32⟩
  | 86 => ⟨S1x128, .i32⟩
  | 87 => ⟨S1x128, .i32⟩
  | 88 => ⟨S1x128, .i32⟩
  | 89 => ⟨S_, .i32⟩
  | 90 => ⟨S1x128, .i32⟩
  | 91 => ⟨S1x128, .i1⟩
  | 92 => ⟨S1x128, .i32⟩
  | 93 => ⟨S1x128, .i32⟩
  | 94 => ⟨S_, .i32⟩
  | 95 => ⟨S1x128, .i32⟩
  | 96 => ⟨S1x128, .i1⟩
  | 97 => ⟨S1x128, .i1⟩
  | 98 => ⟨S_, .i32⟩
  | 99 => ⟨S1x128, .i32⟩
  | 100 => ⟨S1x128, .i32⟩
  | 101 => ⟨S1x128, .i32⟩
  | 102 => ⟨S128x1, .i32⟩
  | 103 => ⟨S_, .i32⟩
  | 104 => ⟨S_, .i32⟩
  | 105 => ⟨S128x1, .i32⟩
  | 106 => ⟨S128x1, .i32⟩
  | 107 => ⟨S128x1, .i32⟩
  | 108 => ⟨S_, .i32⟩
  | 109 => ⟨S128x1, .i32⟩
  | 110 => ⟨S128x1, .i1⟩
  | 111 => ⟨S128x1, .i32⟩
  | 112 => ⟨S128x1, .i32⟩
  | 113 => ⟨S_, .i32⟩
  | 114 => ⟨S128x1, .i32⟩
  | 115 => ⟨S128x1, .i1⟩
  | 116 => ⟨S128x1, .i1⟩
  | 117 => ⟨S_, .i32⟩
  | 118 => ⟨S128x1, .i32⟩
  | 119 => ⟨S128x1, .i32⟩
  | 120 => ⟨S128x1, .i32⟩
  | 121 => ⟨S128x128, .i32⟩
  | 122 => ⟨S128x128, .i32⟩
  | 123 => ⟨S128x128, .i1⟩
  | 124 => ⟨S1x128x128, .i1⟩
  | 125 => ⟨S_, .f32⟩
  | 126 => ⟨S8x128x128, .i1⟩
  | 127 => ⟨S8x128x128, .f32⟩
  | _ => ⟨S4096x6144, .f32⟩

abbrev hbmTy0_1 (i : Nat) : BufTy := match i % 128 with
  | 0 => ⟨S8x128x128, .f32⟩
  | 1 => ⟨S_, .f32⟩
  | 2 => ⟨S8x128x128, .f32⟩
  | 3 => ⟨S8x32x256x128, .f32⟩
  | 4 => ⟨S32x128x8x256, .f32⟩
  | 5 => ⟨S128x8, .f32⟩
  | 6 => ⟨S1x128x8x1, .f32⟩
  | 7 => ⟨S32x128x8x256, .f32⟩
  | 8 => ⟨S32x128x8x256, .f32⟩
  | 9 => ⟨S4096x2048, .f32⟩
  | 10 => ⟨S4096x2048, .f32⟩
  | 11 => ⟨S4096x2048, .f32⟩
  | 12 => ⟨S4096x2048, .f32⟩
  | 13 => ⟨S_, .f32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S_, .f32⟩
  | 20 => ⟨S4096x2048, .f32⟩
  | 21 => ⟨S4096x2048, .f32⟩
  | 22 => ⟨S4096x2048, .f32⟩
  | 23 => ⟨S4096x2048, .f32⟩
  | 24 => ⟨S4096x2048, .f32⟩
  | 25 => ⟨S4096x2048, .f32⟩
  | 26 => ⟨S4096x2048, .f32⟩
  | 27 => ⟨S4096x2048, .f32⟩
  | 28 => ⟨S4096x2048, .f32⟩
  | 29 => ⟨S4096x2048, .f32⟩
  | 30 => ⟨S4096x2048, .f32⟩
  | 31 => ⟨S4096x2048, .f32⟩
  | 32 => ⟨S4096x2048, .f32⟩
  | 33 => ⟨S32x128x8x256, .f32⟩
  | 34 => ⟨S_, .f32⟩
  | 35 => ⟨S128x8, .f32⟩
  | 36 => ⟨S1x128x8x1, .f32⟩
  | 37 => ⟨S_, .f32⟩
  | 38 => ⟨S128x8, .f32⟩
  | 39 => ⟨S8x128, .f32⟩
  | 40 => ⟨S8x32x256x128, .f32⟩
  | 41 => ⟨S8x128x128, .f32⟩
  | 42 => ⟨S8x32x256x128, .f32⟩
  | 43 => ⟨S32x128x8x256, .f32⟩
  | 44 => ⟨S_, .f32⟩
  | 45 => ⟨S8x128x128, .f32⟩
  | 46 => ⟨S8x128x128, .f32⟩
  | 47 => ⟨S4096x2048, .f32⟩
  | 48 => ⟨S_, .f32⟩
  | 49 => ⟨S2048, .f32⟩
  | 50 => ⟨S1x2048, .f32⟩
  | 51 => ⟨S_, .f32⟩
  | 52 => ⟨S2048, .f32⟩
  | 53 => ⟨S4096x2048, .f32⟩
  | 54 => ⟨S_, .f32⟩
  | 55 => ⟨S2048, .f32⟩
  | 56 => ⟨S1x2048, .f32⟩
  | 57 => ⟨S4096x2048, .f32⟩
  | 58 => ⟨S4096x2048, .f32⟩
  | 59 => ⟨S_, .f32⟩
  | 60 => ⟨S2048, .f32⟩
  | 61 => ⟨S4096x2048, .f32⟩
  | 62 => ⟨S_, .f32⟩
  | 63 => ⟨S4096, .f32⟩
  | 64 => ⟨S4096x1, .f32⟩
  | 65 => ⟨S4096x2048, .f32⟩
  | 66 => ⟨S4096x2048, .f32⟩
  | 67 => ⟨S4096x1, .f32⟩
  | 68 => ⟨S4096x2048, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096, .f32⟩
  | 77 => ⟨S4096x2048, .f32⟩
  | 78 => ⟨S4096x2048, .f32⟩
  | 79 => ⟨S4096x2048, .f32⟩
  | 80 => ⟨S_, .f32⟩
  | 81 => ⟨S4096, .f32⟩
  | 82 => ⟨S4096x1, .f32⟩
  | 83 => ⟨S4096x2048, .f32⟩
  | 84 => ⟨S4096x1, .f32⟩
  | 85 => ⟨S_, .f32⟩
  | 86 => ⟨S4096x1, .f32⟩
  | 87 => ⟨S4096x1, .f32⟩
  | 88 => ⟨S_, .f32⟩
  | 89 => ⟨S4096, .f32⟩
  | 90 => ⟨S4096x2048, .f32⟩
  | 91 => ⟨S4096x2048, .f32⟩
  | 92 => ⟨S_, .f32⟩
  | 93 => ⟨S4096x4096, .f32⟩
  | 94 => ⟨S_, .f32⟩
  | 95 => ⟨S4096x4096, .f32⟩
  | 96 => ⟨S4096x4096, .f32⟩
  | 97 => ⟨S4096x4096, .f32⟩
  | 98 => ⟨S4096x4096, .f32⟩
  | 99 => ⟨S4096x4096, .f32⟩
  | 100 => ⟨S_, .f32⟩
  | 101 => ⟨S4096x4096, .f32⟩
  | 102 => ⟨S4096x4096, .f32⟩
  | 103 => ⟨S4096x4096, .f32⟩
  | 104 => ⟨S4096x4096, .f32⟩
  | 105 => ⟨S4096x4096, .f32⟩
  | 106 => ⟨S4096x4096, .f32⟩
  | 107 => ⟨S_, .f32⟩
  | 108 => ⟨S4096x4096, .f32⟩
  | 109 => ⟨S4096x4096, .f32⟩
  | 110 => ⟨S4096x4096, .f32⟩
  | 111 => ⟨S_, .f32⟩
  | 112 => ⟨S4096x6144, .f32⟩
  | 113 => ⟨S_, .f32⟩
  | 114 => ⟨S4096x6144, .f32⟩
  | 115 => ⟨S4096x6144, .f32⟩
  | 116 => ⟨S1x8x128, .f32⟩
  | 117 => ⟨S1x8x128x128, .f32⟩
  | 118 => ⟨S1x2048, .f32⟩
  | 119 => ⟨S1x2048, .f32⟩
  | 120 => ⟨S4096x6144, .bf16⟩
  | 121 => ⟨S8x128x128, .f32⟩
  | 122 => ⟨S8x128, .f32⟩
  | 123 => ⟨S8x128x1, .f32⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_c : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_c_0 : Ref sig .tc := ⟨.hbm, 98, rfl⟩
abbrev main_call0_v12 : Ref sig .tc := ⟨.hbm, 99, rfl⟩
abbrev main_call0_v13 : Ref sig .tc := ⟨.hbm, 100, rfl⟩
abbrev main_v63 : Ref sig .tc := ⟨.hbm, 101, rfl⟩
abbrev main_v64 : Ref sig .tc := ⟨.hbm, 102, rfl⟩
abbrev main_c_14 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_v8 : Ref sig .tc := ⟨.hbm, 112, rfl⟩
abbrev main_call1_c : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_c_0 : Ref sig .tc := ⟨.hbm, 117, rfl⟩
abbrev main_call1_v12 : Ref sig .tc := ⟨.hbm, 118, rfl⟩
abbrev main_call1_v13 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_15 : Ref sig .tc := ⟨.hbm, 125, rfl⟩
abbrev main_v70_1 : Ref sig .tc := ⟨.hbm, 126, rfl⟩
abbrev main_call2_v1 : Ref sig .tc := ⟨.hbm, 127, rfl⟩
abbrev main_v70_0 : Ref sig .tc := ⟨.hbm, 128, rfl⟩
abbrev main_call2_cst : Ref sig .tc := ⟨.hbm, 129, rfl⟩
abbrev main_v70_2 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_call3_v0 : Ref sig .tc := ⟨.hbm, 139, rfl⟩
abbrev main_call3_v1 : Ref sig .tc := ⟨.hbm, 140, rfl⟩
abbrev main_call3_cst : Ref sig .tc := ⟨.hbm, 141, rfl⟩
abbrev main_call3_v2 : Ref sig .tc := ⟨.hbm, 142, rfl⟩
abbrev main_call3_v3 : Ref sig .tc := ⟨.hbm, 143, rfl⟩
abbrev main_call3_cst_0 : Ref sig .tc := ⟨.hbm, 144, rfl⟩
abbrev main_call3_v4 : Ref sig .tc := ⟨.hbm, 145, rfl⟩
abbrev main_v79_2 : Ref sig .tc := ⟨.hbm, 146, rfl⟩
abbrev main_call3_cst_1 : Ref sig .tc := ⟨.hbm, 147, rfl⟩
abbrev main_call3_v6 : Ref sig .tc := ⟨.hbm, 148, rfl⟩
abbrev main_call3_v7 : Ref sig .tc := ⟨.hbm, 149, rfl⟩
abbrev main_v79_1 : Ref sig .tc := ⟨.hbm, 150, rfl⟩
abbrev main_v79_0 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_call4_v0 : Ref sig .tc := ⟨.hbm, 155, rfl⟩
abbrev main_call4_v1 : Ref sig .tc := ⟨.hbm, 156, rfl⟩
abbrev main_call4_v2 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_cst_16 : Ref sig .tc := ⟨.hbm, 162, rfl⟩
abbrev main_v87 : Ref sig .tc := ⟨.hbm, 163, rfl⟩
abbrev main_v88 : Ref sig .tc := ⟨.hbm, 164, rfl⟩
abbrev main_cst_17 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_call5_cst : Ref sig .tc := ⟨.hbm, 172, rfl⟩
abbrev main_call5_v0 : Ref sig .tc := ⟨.hbm, 173, rfl⟩
abbrev main_v95 : Ref sig .tc := ⟨.hbm, 174, rfl⟩
abbrev main_v96 : Ref sig .tc := ⟨.hbm, 175, rfl⟩
abbrev main_cst_18 : Ref sig .tc := ⟨.hbm, 176, rfl⟩
abbrev main_v97 : Ref sig .tc := ⟨.hbm, 177, rfl⟩
abbrev main_v98 : Ref sig .tc := ⟨.hbm, 178, rfl⟩
abbrev main_cst_19 : Ref sig .tc := ⟨.hbm, 179, rfl⟩
abbrev main_v99 : Ref sig .tc := ⟨.hbm, 180, rfl⟩
abbrev main_v100 : Ref sig .tc := ⟨.hbm, 181, rfl⟩
abbrev main_cst_20 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_cst_21 : Ref sig .tc := ⟨.hbm, 187, rfl⟩
abbrev main_v105 : Ref sig .tc := ⟨.hbm, 188, rfl⟩
abbrev main_v106 : Ref sig .tc := ⟨.hbm, 189, rfl⟩
abbrev main_cst_22 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_cst_23 : Ref sig .tc := ⟨.hbm, 197, rfl⟩
abbrev main_v113 : Ref sig .tc := ⟨.hbm, 198, rfl⟩
abbrev main_v114 : Ref sig .tc := ⟨.hbm, 199, rfl⟩
abbrev main_cst_24 : Ref sig .tc := ⟨.hbm, 200, rfl⟩
abbrev main_v115 : Ref sig .tc := ⟨.hbm, 201, rfl⟩
abbrev main_v116 : Ref sig .tc := ⟨.hbm, 202, rfl⟩
abbrev main_cst_25 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_cst_26 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_cst_27 : Ref sig .tc := ⟨.hbm, 213, rfl⟩
abbrev main_v125 : Ref sig .tc := ⟨.hbm, 214, rfl⟩
abbrev main_v126 : Ref sig .tc := ⟨.hbm, 215, rfl⟩
abbrev main_cst_28 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_cst_29 : Ref sig .tc := ⟨.hbm, 220, rfl⟩
abbrev main_v130 : Ref sig .tc := ⟨.hbm, 221, rfl⟩
abbrev main_cst_30 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_cst_31 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_32 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_cst_33 : Ref sig .tc := ⟨.hbm, 239, rfl⟩
abbrev main_v145 : Ref sig .tc := ⟨.hbm, 240, rfl⟩
abbrev main_cst_34 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩

abbrev nD : Nat := 1
abbrev τ : Topo := Topo.v7x

variable {F : FTy → Type} [FloatOps F]
-- ==== GradIn.lean ====
abbrev S4096x1024 : Shape := ⟨2, ![4096, 1024]⟩
abbrev S4x4096x2048 : Shape := ⟨3, ![4, 4096, 2048]⟩
abbrev S4x1024x2048 : Shape := ⟨3, ![4, 1024, 2048]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x4096x2048, .bf16⟩
  | .hbm, ⟨2, _⟩ => ⟨S4x1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInRefIdeal.lean ====
abbrev S4096x1024 : Shape := ⟨2, ![4096, 1024]⟩
abbrev S4x4096x2048 : Shape := ⟨3, ![4, 4096, 2048]⟩
abbrev S4096x4x2048 : Shape := ⟨3, ![4096, 4, 2048]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩
abbrev S1024x4x2048 : Shape := ⟨3, ![1024, 4, 2048]⟩
abbrev S4x1024x2048 : Shape := ⟨3, ![4, 1024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4096x2048, .bf16⟩
  | .hbm, ⟨2, _⟩ => ⟨S4x4096x2048, .f32⟩
  | .hbm, ⟨3, _⟩ => ⟨S4096x4x2048, .f32⟩
  | .hbm, ⟨4, _⟩ => ⟨S4096x8192, .f32⟩
  | .hbm, ⟨5, _⟩ => ⟨S_, .f32⟩
  | .hbm, ⟨6, _⟩ => ⟨S1024x8192, .f32⟩
  | .hbm, ⟨7, _⟩ => ⟨S4096x1024, .f32⟩
  | .hbm, ⟨8, _⟩ => ⟨S4096x8192, .f32⟩
  | .hbm, ⟨9, _⟩ => ⟨S8192x1024, .f32⟩
  | .hbm, ⟨10, _⟩ => ⟨S1024x8192, .f32⟩
  | .hbm, ⟨11, _⟩ => ⟨S1024x4x2048, .f32⟩
  | .hbm, ⟨12, _⟩ => ⟨S4x1024x2048, .f32⟩
  | .hbm, ⟨13, _⟩ => ⟨S4x1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== GradOut.lean ====
abbrev S4096x2048 : Shape := ⟨2, ![4096, 2048]⟩
abbrev S4096x1024 : Shape := ⟨2, ![4096, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradOutRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradInA.lean ====
abbrev S4096x1024 : Shape := ⟨2, ![4096, 1024]⟩
abbrev S4096x6144 : Shape := ⟨2, ![4096, 6144]⟩
abbrev S4x1024x1536 : Shape := ⟨3, ![4, 1024, 1536]⟩
abbrev S1024x1024 : Shape := ⟨2, ![1024, 1024]⟩
abbrev S1024x1536 : Shape := ⟨2, ![1024, 1536]⟩
abbrev S1x1024x1536 : Shape := ⟨3, ![1, 1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4x1024x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInARefIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S_, .f32⟩
  | .hbm, ⟨3, _⟩ => ⟨S1024x6144, .f32⟩
  | .hbm, ⟨4, _⟩ => ⟨S4096x1024, .f32⟩
  | .hbm, ⟨5, _⟩ => ⟨S4096x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S1024x4x1536, .f32⟩
  | .hbm, ⟨10, _⟩ => ⟨S4x1024x1536, .f32⟩
  | .hbm, ⟨11, _⟩ => ⟨S4x1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Up.lean ====
abbrev S4x4096x2048 : Shape := ⟨3, ![4, 4096, 2048]⟩
abbrev S4x1024x2048 : Shape := ⟨3, ![4, 1024, 2048]⟩
abbrev S4096x1024 : Shape := ⟨2, ![4096, 1024]⟩
abbrev S2x1x3072 : Shape := ⟨3, ![2, 1, 3072]⟩
abbrev S1x1024 : Shape := ⟨2, ![1, 1024]⟩
abbrev S2x1x1024 : Shape := ⟨3, ![2, 1, 1024]⟩
abbrev S1x1024x2048 : Shape := ⟨3, ![1, 1024, 2048]⟩
abbrev S1024x1024 : Shape := ⟨2, ![1024, 1024]⟩
abbrev S1x1x3072 : Shape := ⟨3, ![1, 1, 3072]⟩
abbrev S1x1x1024 : Shape := ⟨3, ![1, 1, 1024]⟩
abbrev S1024x2048 : Shape := ⟨2, ![1024, 2048]⟩
abbrev S1024 : Shape := ⟨1, ![1024]⟩
abbrev S1024x1 : Shape := ⟨2, ![1024, 1]⟩
abbrev S1x3072 : Shape := ⟨2, ![1, 3072]⟩

abbrev nBuf : Space → Nat
  | .hbm => 10
  | .vmem => 19
  | .smem => 0
  | _ => 0

abbrev bufTy : (tb : Table) → Fin (tcTables nBuf tb) → BufTy
  | .hbm, ⟨0, _⟩ => ⟨S4x4096x2048, .bf16⟩
  | .hbm, ⟨1, _⟩ => ⟨S4x1024x2048, .bf16⟩
  | .hbm, ⟨2, _⟩ => ⟨S4096x1024, .f32⟩
  | .hbm, ⟨3, _⟩ => ⟨S4096x1024, .f32⟩
  | .hbm, ⟨4, _⟩ => ⟨S2x1x3072, .f32⟩
  | .hbm, ⟨5, _⟩ => ⟨S1x1024, .f32⟩
  | .hbm, ⟨6, _⟩ => ⟨S4096x1024, .f32⟩
  | .hbm, ⟨7, _⟩ => ⟨S2x1x1024, .f32⟩
  | .hbm, ⟨8, _⟩ => ⟨S2x1x1024, .f32⟩
  | .hbm, ⟨9, _⟩ => ⟨S1x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1x3072, .f32⟩
  | .local _ .vmem, ⟨9, _⟩ => ⟨S1x1x3072, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1024x1024, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg0 : BitVec 32 := BitVec.ofNat 32 (i 0).val
  let c1024_i32 : BitVec 32 := 1024#32
  let v61 : BitVec 32 := Scalar.muli arg0 c1024_i32
  let c2048_i32 : BitVec 32 := 2048#32
  let c0_i32_33 : BitVec 32 := 0#32
  let v62 : BitVec 1 := Scalar.cmpi .eq c2048_i32 c0_i32_33
  let c1_i32 : BitVec 32 := 1#32
  let v63 : BitVec 32 := Scalar.select v62 c1_i32 c2048_i32
  let v64 : BitVec 32 := Scalar.remsi v61 v63
  let c0_i32_35 : BitVec 32 := 0#32
  let v66 : BitVec 1 := Scalar.cmpi .slt v64 c0_i32_35
  let c0_i32_36 : BitVec 32 := 0#32
  let v67 : BitVec 1 := Scalar.cmpi .slt v63 c0_i32_36
  let v68 : BitVec 1 := Scalar.xori v66 v67
  let c0_i32_34 : BitVec 32 := 0#32
  let v65 : BitVec 1 := Scalar.cmpi .ne v64 c0_i32_34
  let v69 : BitVec 1 := Scalar.andi v68 v65
  let v70 : BitVec 32 := Scalar.addi v64 v63
  let v71 : BitVec 32 := Scalar.select v69 v70 v64
  let c0_i32_37 : BitVec 32 := 0#32
  let v72 : BitVec 1 := Scalar.cmpi .eq v71 c0_i32_37
  let v73 : BitVec 32 := Scalar.extui v72
  let c0_i32_38 : BitVec 32 := 0#32
  let v74 : BitVec 1 := Scalar.cmpi .ne v73 c0_i32_38
  v74

def k0_cond4 (i : grid0.Coords) : BitVec 1 :=
  let arg0 : BitVec 32 := BitVec.ofNat 32 (i 0).val
  let c1024_i32_39 : BitVec 32 := 1024#32
  let v75 : BitVec 32 := Scalar.muli arg0 c1024_i32_39
  let c2048_i32_40 : BitVec 32 := 2048#32
  let c0_i32_41 : BitVec 32 := 0#32
  let v76 : BitVec 1 := Scalar.cmpi .eq c2048_i32_40 c0_i32_41
  let c1_i32_42 : BitVec 32 := 1#32
  let v77 : BitVec 32 := Scalar.select v76 c1_i32_42 c2048_i32_40
  let v78 : BitVec 32 := Scalar.remsi v75 v77
  let c0_i32_44 : BitVec 32 := 0#32
  let v80 : BitVec 1 := Scalar.cmpi .slt v78 c0_i32_44
  let c0_i32_45 : BitVec 32 := 0#32
  let v81 : BitVec 1 := Scalar.cmpi .slt v77 c0_i32_45
  let v82 : BitVec 1 := Scalar.xori v80 v81
  let c0_i32_43 : BitVec 32 := 0#32
  let v79 : BitVec 1 := Scalar.cmpi .ne v78 c0_i32_43
  let v83 : BitVec 1 := Scalar.andi v82 v79
  let v84 : BitVec 32 := Scalar.addi v78 v77
  let v85 : BitVec 32 := Scalar.select v83 v84 v78
  let c0_i32_46 : BitVec 32 := 0#32
  let v86 : BitVec 1 := Scalar.cmpi .ne v85 c0_i32_46
  let v87 : BitVec 32 := Scalar.extui v86
  let c0_i32_47 : BitVec 32 := 0#32
  let v88 : BitVec 1 := Scalar.cmpi .ne v87 c0_i32_47
  v88

def k0_cond5 (i : grid0.Coords) : BitVec 1 :=
  let arg0 : BitVec 32 := BitVec.ofNat 32 (i 0).val
  let c0_i32_48 : BitVec 32 := 0#32
  let v89 : BitVec 1 := Scalar.cmpi .eq arg0 c0_i32_48
  let v90 : BitVec 32 := Scalar.extui v89
  let c0_i32_49 : BitVec 32 := 0#32
  let v91 : BitVec 1 := Scalar.cmpi .ne v90 c0_i32_49
  v91

def k0_cond6 (i : grid0.Coords) : BitVec 1 :=
  let arg0 : BitVec 32 := BitVec.ofNat 32 (i 0).val
  let c0_i32_50 : BitVec 32 := 0#32
  let v92 : BitVec 1 := Scalar.cmpi .ne arg0 c0_i32_50
  let v93 : BitVec 32 := Scalar.extui v92
  let c0_i32_51 : BitVec 32 := 0#32
  let v94 : BitVec 1 := Scalar.cmpi .ne v93 c0_i32_51
  v94

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== UpRefIdeal.lean ====
abbrev S4x4096x2048 : Shape := ⟨3, ![4, 4096, 2048]⟩
abbrev S4x1024x2048 : Shape := ⟨3, ![4, 1024, 2048]⟩
abbrev S4096x1024 : Shape := ⟨2, ![4096, 1024]⟩
abbrev S2x1x3072 : Shape := ⟨3, ![2, 1, 3072]⟩
abbrev S1x1024 : Shape := ⟨2, ![1, 1024]⟩
abbrev S4096x4x2048 : Shape := ⟨3, ![4096, 4, 2048]⟩
abbrev S2x2048x8192 : Shape := ⟨3, ![2, 2048, 8192]⟩
abbrev S1024x4x2048 : Shape := ⟨3, ![1024, 4, 2048]⟩
abbrev S1024x8192 : Shape := ⟨2, ![1024, 8192]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x1024x2048, .bf16⟩
  | .hbm, ⟨2, _⟩ => ⟨S4096x1024, .f32⟩
  | .hbm, ⟨3, _⟩ => ⟨S4096x1024, .f32⟩
  | .hbm, ⟨4, _⟩ => ⟨S2x1x3072, .f32⟩
  | .hbm, ⟨5, _⟩ => ⟨S1x1024, .f32⟩
  | .hbm, ⟨6, _⟩ => ⟨S4x4096x2048, .f32⟩
  | .hbm, ⟨7, _⟩ => ⟨S4096x4x2048, .f32⟩
  | .hbm, ⟨8, _⟩ => ⟨S2x2048x8192, .f32⟩
  | .hbm, ⟨9, _⟩ => ⟨S4x1024x2048, .f32⟩
  | .hbm, ⟨10, _⟩ => ⟨S1024x4x2048, .f32⟩
  | .hbm, ⟨11, _⟩ => ⟨S1024x8192, .f32⟩
  | .hbm, ⟨12, _⟩ => ⟨S2x1x1024, .f32⟩
  | .hbm, ⟨13, _⟩ => ⟨S2x1x1024, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1024, .f32⟩
  | .hbm, ⟨31, _⟩ => ⟨S2x2048x1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x8192, .f32⟩
  | .hbm, ⟨43, _⟩ => ⟨S2x2048x1024, .f32⟩
  | .hbm, ⟨44, _⟩ => ⟨S_, .f32⟩
  | .hbm, ⟨45, _⟩ => ⟨S2x1024, .f32⟩
  | .hbm, ⟨46, _⟩ => ⟨S2x1x1024, .f32⟩
  | .hbm, ⟨47, _⟩ => ⟨S2x2048x1024, .f32⟩
  | .hbm, ⟨48, _⟩ => ⟨S_, .f32⟩
  | .hbm, ⟨49, _⟩ => ⟨S2x1024, .f32⟩
  | .hbm, ⟨50, _⟩ => ⟨S2x1x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S2x2048x1024, .f32⟩
  | .hbm, ⟨58, _⟩ => ⟨S2x2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2x2048x1024, .f32⟩
  | .hbm, ⟨63, _⟩ => ⟨S_, .f32⟩
  | .hbm, ⟨64, _⟩ => ⟨S2x2048, .f32⟩
  | .hbm, ⟨65, _⟩ => ⟨S2x2048x1, .f32⟩
  | .hbm, ⟨66, _⟩ => ⟨S2x2048x1024, .f32⟩
  | .hbm, ⟨67, _⟩ => ⟨S2x2048x1024, .f32⟩
  | .hbm, ⟨68, _⟩ => ⟨S2x2048x1, .f32⟩
  | .hbm, ⟨69, _⟩ => ⟨S_, .f32⟩
  | .hbm, ⟨70, _⟩ => ⟨S2x2048x1, .f32⟩
  | .hbm, ⟨71, _⟩ => ⟨S2x2048x1, .f32⟩
  | .hbm, ⟨72, _⟩ => ⟨S_, .f32⟩
  | .hbm, ⟨73, _⟩ => ⟨S2x2048, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S4096x1024, .f32⟩
  | .hbm, ⟨80, _⟩ => ⟨S4096x1024, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== UpA.lean ====
abbrev S4096x6144 : Shape := ⟨2, ![4096, 6144]⟩
abbrev S4x1024x1536 : Shape := ⟨3, ![4, 1024, 1536]⟩
abbrev S4096x1024 : Shape := ⟨2, ![4096, 1024]⟩
abbrev S2x1x3072 : Shape := ⟨3, ![2, 1, 3072]⟩
abbrev S1x1024 : Shape := ⟨2, ![1, 1024]⟩
abbrev S2x1x1024 : Shape := ⟨3, ![2, 1, 1024]⟩
abbrev S1024x1536 : Shape := ⟨2, ![1024, 1536]⟩
abbrev S1x1024x1536 : Shape := ⟨3, ![1, 1024, 1536]⟩
abbrev S1024x1024 : Shape := ⟨2, ![1024, 1024]⟩
abbrev S1x1x3072 : Shape := ⟨3, ![1, 1, 3072]⟩
abbrev S1x1x1024 : Shape := ⟨3, ![1, 1, 1024]⟩
abbrev S1024 : Shape := ⟨1, ![1024]⟩
abbrev S1024x1 : Shape := ⟨2, ![1024, 1]⟩
abbrev S1x3072 : Shape := ⟨2, ![1, 3072]⟩

abbrev nBuf : Space → Nat
  | .hbm => 10
  | .vmem => 19
  | .smem => 0
  | _ => 0

abbrev bufTy : (tb : Table) → Fin (tcTables nBuf tb) → BufTy
  | .hbm, ⟨0, _⟩ => ⟨S4096x6144, .bf16⟩
  | .hbm, ⟨1, _⟩ => ⟨S4x1024x1536, .bf16⟩
  | .hbm, ⟨2, _⟩ => ⟨S4096x1024, .f32⟩
  | .hbm, ⟨3, _⟩ => ⟨S4096x1024, .f32⟩
  | .hbm, ⟨4, _⟩ => ⟨S2x1x3072, .f32⟩
  | .hbm, ⟨5, _⟩ => ⟨S1x1024, .f32⟩
  | .hbm, ⟨6, _⟩ => ⟨S4096x1024, .f32⟩
  | .hbm, ⟨7, _⟩ => ⟨S2x1x1024, .f32⟩
  | .hbm, ⟨8, _⟩ => ⟨S2x1x1024, .f32⟩
  | .hbm, ⟨9, _⟩ => ⟨S1x1024, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1x3072, .f32⟩
  | .local _ .vmem, ⟨9, _⟩ => ⟨S1x1x3072, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c1024_i32 : BitVec 32 := 1024#32
  let v60 : BitVec 32 := Scalar.muli arg0 c1024_i32
  let c2048_i32 : BitVec 32 := 2048#32
  let c0_i32_32 : BitVec 32 := 0#32
  let v61 : BitVec 1 := Scalar.cmpi .eq c2048_i32 c0_i32_32
  let c1_i32 : BitVec 32 := 1#32
  let v62 : BitVec 32 := Scalar.select v61 c1_i32 c2048_i32
  let v63 : BitVec 32 := Scalar.remsi v60 v62
  let c0_i32_34 : BitVec 32 := 0#32
  let v65 : BitVec 1 := Scalar.cmpi .slt v63 c0_i32_34
  let c0_i32_35 : BitVec 32 := 0#32
  let v66 : BitVec 1 := Scalar.cmpi .slt v62 c0_i32_35
  let v67 : BitVec 1 := Scalar.xori v65 v66
  let c0_i32_33 : BitVec 32 := 0#32
  let v64 : BitVec 1 := Scalar.cmpi .ne v63 c0_i32_33
  let v68 : BitVec 1 := Scalar.andi v67 v64
  let v69 : BitVec 32 := Scalar.addi v63 v62
  let v70 : BitVec 32 := Scalar.select v68 v69 v63
  let c0_i32_36 : BitVec 32 := 0#32
  let v71 : BitVec 1 := Scalar.cmpi .eq v70 c0_i32_36
  let v72 : BitVec 32 := Scalar.extui v71
  let c0_i32_37 : BitVec 32 := 0#32
  let v73 : BitVec 1 := Scalar.cmpi .ne v72 c0_i32_37
  v73

def k0_cond4 (i : grid0.Coords) : BitVec 1 :=
  let arg0 : BitVec 32 := BitVec.ofNat 32 (i 0).val
  let c1024_i32_38 : BitVec 32 := 1024#32
  let v74 : BitVec 32 := Scalar.muli arg0 c1024_i32_38
  let c2048_i32_39 : BitVec 32 := 2048#32
  let c0_i32_40 : BitVec 32 := 0#32
  let v75 : BitVec 1 := Scalar.cmpi .eq c2048_i32_39 c0_i32_40
  let c1_i32_41 : BitVec 32 := 1#32
  let v76 : BitVec 32 := Scalar.select v75 c1_i32_41 c2048_i32_39
  let v77 : BitVec 32 := Scalar.remsi v74 v76
  let c0_i32_43 : BitVec 32 := 0#32
  let v79 : BitVec 1 := Scalar.cmpi .slt v77 c0_i32_43
  let c0_i32_44 : BitVec 32 := 0#32
  let v80 : BitVec 1 := Scalar.cmpi .slt v76 c0_i32_44
  let v81 : BitVec 1 := Scalar.xori v79 v80
  let c0_i32_42 : BitVec 32 := 0#32
  let v78 : BitVec 1 := Scalar.cmpi .ne v77 c0_i32_42
  let v82 : BitVec 1 := Scalar.andi v81 v78
  let v83 : BitVec 32 := Scalar.addi v77 v76
  let v84 : BitVec 32 := Scalar.select v82 v83 v77
  let c0_i32_45 : BitVec 32 := 0#32
  let v85 : BitVec 1 := Scalar.cmpi .ne v84 c0_i32_45
  let v86 : BitVec 32 := Scalar.extui v85
  let c0_i32_46 : BitVec 32 := 0#32
  let v87 : BitVec 1 := Scalar.cmpi .ne v86 c0_i32_46
  v87

def k0_cond5 (i : grid0.Coords) : BitVec 1 :=
  let arg0 : BitVec 32 := BitVec.ofNat 32 (i 0).val
  let c0_i32_47 : BitVec 32 := 0#32
  let v88 : BitVec 1 := Scalar.cmpi .eq arg0 c0_i32_47
  let v89 : BitVec 32 := Scalar.extui v88
  let c0_i32_48 : BitVec 32 := 0#32
  let v90 : BitVec 1 := Scalar.cmpi .ne v89 c0_i32_48
  v90

def k0_cond6 (i : grid0.Coords) : BitVec 1 :=
  let arg0 : BitVec 32 := BitVec.ofNat 32 (i 0).val
  let c0_i32_49 : BitVec 32 := 0#32
  let v91 : BitVec 1 := Scalar.cmpi .ne arg0 c0_i32_49
  let v92 : BitVec 32 := Scalar.extui v91
  let c0_i32_50 : BitVec 32 := 0#32
  let v93 : BitVec 1 := Scalar.cmpi .ne v92 c0_i32_50
  v93

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== UpARefIdeal.lean ====
abbrev S4096x6144 : Shape := ⟨2, ![4096, 6144]⟩
abbrev S4x1024x1536 : Shape := ⟨3, ![4, 1024, 1536]⟩
abbrev S4096x1024 : Shape := ⟨2, ![4096, 1024]⟩
abbrev S2x1x3072 : Shape := ⟨3, ![2, 1, 3072]⟩
abbrev S1x1024 : Shape := ⟨2, ![1, 1024]⟩
abbrev S2x2048x6144 : Shape := ⟨3, ![2, 2048, 6144]⟩
abbrev S1024x4x1536 : Shape := ⟨3, ![1024, 4, 1536]⟩
abbrev S1024x6144 : Shape := ⟨2, ![1024, 6144]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4x1024x1536, .bf16⟩
  | .hbm, ⟨2, _⟩ => ⟨S4096x1024, .f32⟩
  | .hbm, ⟨3, _⟩ => ⟨S4096x1024, .f32⟩
  | .hbm, ⟨4, _⟩ => ⟨S2x1x3072, .f32⟩
  | .hbm, ⟨5, _⟩ => ⟨S1x1024, .f32⟩
  | .hbm, ⟨6, _⟩ => ⟨S4096x6144, .f32⟩
  | .hbm, ⟨7, _⟩ => ⟨S2x2048x6144, .f32⟩
  | .hbm, ⟨8, _⟩ => ⟨S4x1024x1536, .f32⟩
  | .hbm, ⟨9, _⟩ => ⟨S1024x4x1536, .f32⟩
  | .hbm, ⟨10, _⟩ => ⟨S1024x6144, .f32⟩
  | .hbm, ⟨11, _⟩ => ⟨S2x1x1024, .f32⟩
  | .hbm, ⟨12, _⟩ => ⟨S2x1x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x6144, .f32⟩
  | .hbm, ⟨42, _⟩ => ⟨S2x2048x1024, .f32⟩
  | .hbm, ⟨43, _⟩ => ⟨S_, .f32⟩
  | .hbm, ⟨44, _⟩ => ⟨S2x1024, .f32⟩
  | .hbm, ⟨45, _⟩ => ⟨S2x1x1024, .f32⟩
  | .hbm, ⟨46, _⟩ => ⟨S2x2048x1024, .f32⟩
  | .hbm, ⟨47, _⟩ => ⟨S_, .f32⟩
  | .hbm, ⟨48, _⟩ => ⟨S2x1024, .f32⟩
  | .hbm, ⟨49, _⟩ => ⟨S2x1x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S_, .f32⟩
  | .hbm, ⟨54, _⟩ => ⟨S1024, .f32⟩
  | .hbm, ⟨55, _⟩ => ⟨S1x1x1024, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2x2048x1024, .f32⟩
  | .hbm, ⟨62, _⟩ => ⟨S_, .f32⟩
  | .hbm, ⟨63, _⟩ => ⟨S2x2048, .f32⟩
  | .hbm, ⟨64, _⟩ => ⟨S2x2048x1, .f32⟩
  | .hbm, ⟨65, _⟩ => ⟨S2x2048x1024, .f32⟩
  | .hbm, ⟨66, _⟩ => ⟨S2x2048x1024, .f32⟩
  | .hbm, ⟨67, _⟩ => ⟨S2x2048x1, .f32⟩
  | .hbm, ⟨68, _⟩ => ⟨S_, .f32⟩
  | .hbm, ⟨69, _⟩ => ⟨S2x2048x1, .f32⟩
  | .hbm, ⟨70, _⟩ => ⟨S2x2048x1, .f32⟩
  | .hbm, ⟨71, _⟩ => ⟨S_, .f32⟩
  | .hbm, ⟨72, _⟩ => ⟨S2x2048, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S4096x1024, .f32⟩
  | .hbm, ⟨79, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Proj.lean ====
abbrev S4096x1024 : Shape := ⟨2, ![4096, 1024]⟩
abbrev S2x1x3072 : Shape := ⟨3, ![2, 1, 3072]⟩
abbrev S1x1024 : Shape := ⟨2, ![1, 1024]⟩
abbrev S4x1024x2048 : Shape := ⟨3, ![4, 1024, 2048]⟩
abbrev S4x4096x2048 : Shape := ⟨3, ![4, 4096, 2048]⟩
abbrev S2048x1024 : Shape := ⟨2, ![2048, 1024]⟩
abbrev S1x1x3072 : Shape := ⟨3, ![1, 1, 3072]⟩
abbrev S1x1024x1024 : Shape := ⟨3, ![1, 1024, 1024]⟩
abbrev S1x2048x1024 : Shape := ⟨3, ![1, 2048, 1024]⟩
abbrev S2048 : Shape := ⟨1, ![2048]⟩
abbrev S2048x1 : Shape := ⟨2, ![2048, 1]⟩
abbrev S1x3072 : Shape := ⟨2, ![1, 3072]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S2x1x3072, .f32⟩
  | .hbm, ⟨2, _⟩ => ⟨S1x1024, .f32⟩
  | .hbm, ⟨3, _⟩ => ⟨S4x1024x2048, .bf16⟩
  | .hbm, ⟨4, _⟩ => ⟨S4x4096x2048, .f32⟩
  | .hbm, ⟨5, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1x2048x1024, .f32⟩
  | .local _ .vmem, ⟨8, _⟩ => ⟨S1x2048x1024, .f32⟩
  | .local _ .vmem, ⟨9, _⟩ => ⟨S2048x1024, .bf16⟩
  | .local _ .vmem, ⟨10, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c2048_i32_0 : BitVec 32 := 2048#32
  let v1 : BitVec 32 := Scalar.divsi v0 c2048_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2048_i32_0 c0_i32_2
  let v8 : BitVec 32 := Scalar.extui v7
  let c0_i32_3 : BitVec 32 := 0#32
  let v9 : BitVec 1 := Scalar.cmpi .slt c2048_i32_0 c0_i32_3
  let v10 : BitVec 32 := Scalar.extui v9
  let v11 : BitVec 32 := Scalar.subi v8 v10
  let v12 : BitVec 1 := Scalar.cmpi .ne v6 v11
  let v13 : BitVec 32 := Scalar.remsi v0 c2048_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjRefIdeal.lean ====
abbrev S4096x1024 : Shape := ⟨2, ![4096, 1024]⟩
abbrev S2x1x3072 : Shape := ⟨3, ![2, 1, 3072]⟩
abbrev S1x1024 : Shape := ⟨2, ![1, 1024]⟩
abbrev S4x1024x2048 : Shape := ⟨3, ![4, 1024, 2048]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4x2048 : Shape := ⟨3, ![1024, 4, 2048]⟩
abbrev S1024x8192 : Shape := ⟨2, ![1024, 8192]⟩
abbrev S2x2048x8192 : Shape := ⟨3, ![2, 2048, 8192]⟩
abbrev S4096x4x2048 : Shape := ⟨3, ![4096, 4, 2048]⟩
abbrev S4x4096x2048 : Shape := ⟨3, ![4, 4096, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1x3072, .f32⟩
  | .hbm, ⟨2, _⟩ => ⟨S1x1024, .f32⟩
  | .hbm, ⟨3, _⟩ => ⟨S4x1024x2048, .bf16⟩
  | .hbm, ⟨4, _⟩ => ⟨S2x1x1024, .f32⟩
  | .hbm, ⟨5, _⟩ => ⟨S2x1x1024, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S4x1024x2048, .f32⟩
  | .hbm, ⟨31, _⟩ => ⟨S1024x4x2048, .f32⟩
  | .hbm, ⟨32, _⟩ => ⟨S1024x8192, .f32⟩
  | .hbm, ⟨33, _⟩ => ⟨S2x2048x8192, .f32⟩
  | .hbm, ⟨34, _⟩ => ⟨S4096x4x2048, .f32⟩
  | .hbm, ⟨35, _⟩ => ⟨S4x4096x2048, .f32⟩
  | .hbm, ⟨36, _⟩ => ⟨S4096x1024, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== ProjA.lean ====
abbrev S4096x1024 : Shape := ⟨2, ![4096, 1024]⟩
abbrev S2x1x3072 : Shape := ⟨3, ![2, 1, 3072]⟩
abbrev S1x1024 : Shape := ⟨2, ![1, 1024]⟩
abbrev S4x1024x1536 : Shape := ⟨3, ![4, 1024, 1536]⟩
abbrev S4096x6144 : Shape := ⟨2, ![4096, 6144]⟩
abbrev S2048x1024 : Shape := ⟨2, ![2048, 1024]⟩
abbrev S1x1x3072 : Shape := ⟨3, ![1, 1, 3072]⟩
abbrev S1x1024x768 : Shape := ⟨3, ![1, 1024, 768]⟩
abbrev S2048x768 : Shape := ⟨2, ![2048, 768]⟩
abbrev S2048 : Shape := ⟨1, ![2048]⟩
abbrev S2048x1 : Shape := ⟨2, ![2048, 1]⟩
abbrev S1x3072 : Shape := ⟨2, ![1, 3072]⟩
abbrev S1024x768 : Shape := ⟨2, ![1024, 768]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S2x1x3072, .f32⟩
  | .hbm, ⟨2, _⟩ => ⟨S1x1024, .f32⟩
  | .hbm, ⟨3, _⟩ => ⟨S4x1024x1536, .bf16⟩
  | .hbm, ⟨4, _⟩ => ⟨S4096x6144, .f32⟩
  | .hbm, ⟨5, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1x1024x768, .bf16⟩
  | .local _ .vmem, ⟨6, _⟩ => ⟨S1x1024x768, .bf16⟩
  | .local _ .vmem, ⟨7, _⟩ => ⟨S2048x768, .f32⟩
  | .local _ .vmem, ⟨8, _⟩ => ⟨S2048x768, .f32⟩
  | .local _ .vmem, ⟨9, _⟩ => ⟨S2048x1024, .bf16⟩
  | .local _ .vmem, ⟨10, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c2048_i32_0 : BitVec 32 := 2048#32
  let v1 : BitVec 32 := Scalar.divsi v0 c2048_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2048_i32_0 c0_i32_2
  let v8 : BitVec 32 := Scalar.extui v7
  let c0_i32_3 : BitVec 32 := 0#32
  let v9 : BitVec 1 := Scalar.cmpi .slt c2048_i32_0 c0_i32_3
  let v10 : BitVec 32 := Scalar.extui v9
  let v11 : BitVec 32 := Scalar.subi v8 v10
  let v12 : BitVec 1 := Scalar.cmpi .ne v6 v11
  let v13 : BitVec 32 := Scalar.remsi v0 c2048_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjARefIdeal.lean ====
abbrev S4096x1024 : Shape := ⟨2, ![4096, 1024]⟩
abbrev S2x1x3072 : Shape := ⟨3, ![2, 1, 3072]⟩
abbrev S1x1024 : Shape := ⟨2, ![1, 1024]⟩
abbrev S4x1024x1536 : Shape := ⟨3, ![4, 1024, 1536]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4x1536 : Shape := ⟨3, ![1024, 4, 1536]⟩
abbrev S1024x6144 : Shape := ⟨2, ![1024, 6144]⟩
abbrev S2x2048x6144 : Shape := ⟨3, ![2, 2048, 6144]⟩
abbrev S4096x6144 : Shape := ⟨2, ![4096, 6144]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1x3072, .f32⟩
  | .hbm, ⟨2, _⟩ => ⟨S1x1024, .f32⟩
  | .hbm, ⟨3, _⟩ => ⟨S4x1024x1536, .bf16⟩
  | .hbm, ⟨4, _⟩ => ⟨S2x1x1024, .f32⟩
  | .hbm, ⟨5, _⟩ => ⟨S2x1x1024, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S4x1024x1536, .f32⟩
  | .hbm, ⟨31, _⟩ => ⟨S1024x4x1536, .f32⟩
  | .hbm, ⟨32, _⟩ => ⟨S1024x6144, .f32⟩
  | .hbm, ⟨33, _⟩ => ⟨S2x2048x6144, .f32⟩
  | .hbm, ⟨34, _⟩ => ⟨S4096x6144, .f32⟩
  | .hbm, ⟨35, _⟩ => ⟨S4096x1024, .f32⟩
  | .hbm, ⟨36, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Fwd.lean ====
abbrev S4096x2048 : Shape := ⟨2, ![4096, 2048]⟩
abbrev S2048x1024 : Shape := ⟨2, ![2048, 1024]⟩
abbrev S4096x1024 : Shape := ⟨2, ![4096, 1024]⟩
abbrev S2x1x3072 : Shape := ⟨3, ![2, 1, 3072]⟩
abbrev S1024x2048 : Shape := ⟨2, ![1024, 2048]⟩
abbrev S1024x1024 : Shape := ⟨2, ![1024, 1024]⟩
abbrev S1x1x3072 : Shape := ⟨3, ![1, 1, 3072]⟩
abbrev S1x3072 : Shape := ⟨2, ![1, 3072]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S2x1x3072, .f32⟩
  | .hbm, ⟨4, _⟩ => ⟨S4096x1024, .f32⟩
  | .hbm, ⟨5, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x3072, .f32⟩
  | .local _ .vmem, ⟨6, _⟩ => ⟨S1x1x3072, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdRefIdeal.lean ====
abbrev S4096x2048 : Shape := ⟨2, ![4096, 2048]⟩
abbrev S2048x1024 : Shape := ⟨2, ![2048, 1024]⟩
abbrev S4096x1024 : Shape := ⟨2, ![4096, 1024]⟩
abbrev S2x1x3072 : Shape := ⟨3, ![2, 1, 3072]⟩
abbrev S2x2048x2048 : Shape := ⟨3, ![2, 2048, 2048]⟩
abbrev S2x2048x1024 : Shape := ⟨3, ![2, 2048, 1024]⟩
abbrev S2x1x1024 : Shape := ⟨3, ![2, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S2x1x3072, .f32⟩
  | .hbm, ⟨4, _⟩ => ⟨S4096x2048, .f32⟩
  | .hbm, ⟨5, _⟩ => ⟨S2x2048x2048, .f32⟩
  | .hbm, ⟨6, _⟩ => ⟨S2048x1024, .f32⟩
  | .hbm, ⟨7, _⟩ => ⟨S2x2048x1024, .f32⟩
  | .hbm, ⟨8, _⟩ => ⟨S2x2048x1024, .f32⟩
  | .hbm, ⟨9, _⟩ => ⟨S2x1x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S4096x1024, .f32⟩
  | .hbm, ⟨14, _⟩ => ⟨S4096x1024, .f32⟩
  | .hbm, ⟨15, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Spec.lean ====
/- The gating unit's backward step over the reals: what one block of 128 rows computes, written on real arrays, and the
   rules that carry an extended-real expression whose leaves are real numbers to one real number. -/
module

public import proofs.«01_k».proof.KernelIdeal
public import Idealize.ShloMosaic.PureOps.Ideal
public import Idealize.ShloMosaic.PureOps.IdealRules
public import Idealize.ShloMosaic.Lib.Pointwise
public import Mathlib.Analysis.Real.Sqrt
public import Mathlib.Tactic.Ring
public import Mathlib.Tactic.FieldSimp
public import Mathlib.Tactic.NormNum
public import Mathlib.Tactic.Positivity

@[expose] public section

noncomputable section

namespace Cert.Sgu

open Idealize.ShloMosaic
open scoped BigOperators

/-! ## Extended reals that are real -/

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem c0_val : Ideal.ofBits .f32 0x3F4C422A#32 = ((13386282 * (2 : ℝ) ^ (-24 : ℤ) : ℝ) : EReal) := by
  simp [Ideal.ofBits, Ideal.ieee]

/-- The factor of the tanh form of GELU, the real number its f32 word denotes. -/
def c0 : ℝ := (Ideal.ofBits .f32 0x3F4C422A#32).toReal
/-- The normalisation's epsilon, the real number its f32 word denotes. -/
def eps : ℝ := (Ideal.ofBits .f32 0x358637BD#32).toReal

theorem c0_eq : Ideal.ofBits .f32 0x3F4C422A#32 = ((c0 : ℝ) : EReal) := by
  rw [c0, c0_val]; rfl

theorem eps_val : Ideal.ofBits .f32 0x358637BD#32 = ((8796093 * (2 : ℝ) ^ (-43 : ℤ) : ℝ) : EReal) := by
  simp [Ideal.ofBits, Ideal.ieee]

theorem eps_eq : Ideal.ofBits .f32 0x358637BD#32 = ((eps : ℝ) : EReal) := by
  rw [eps, eps_val]; rfl

theorem eps_pos : 0 < eps := by
  rw [eps, eps_val, EReal.toReal_coe]; positivity

theorem half_eq : Ideal.ofBits .f32 0x3F000000#32 = ((1 / 2 : ℝ) : EReal) := by
  simp [Ideal.ofBits, Ideal.ieee]; rw [← EReal.coe_mul]; norm_num

theorem neg_half_eq : Ideal.ofBits .f32 0xBF000000#32 = ((-(1 / 2) : ℝ) : EReal) := by
  simp [Ideal.ofBits, Ideal.ieee]; rw [← EReal.coe_mul]; norm_num

theorem three_eq : Ideal.ofBits .f32 0x40400000#32 = ((3 : ℝ) : EReal) := by
  simp [Ideal.ofBits, Ideal.ieee]; rw [← EReal.coe_mul]; norm_num

theorem two_eq : Ideal.ofBits .f32 0x40000000#32 = ((2 : ℝ) : EReal) := by
  simp [Ideal.ofBits, Ideal.ieee]; rw [← EReal.coe_mul]; norm_num

theorem n2048_eq : Ideal.ofBits .f32 0x45000000#32 = ((2048 : ℝ) : EReal) := by
  simp [Ideal.ofBits, Ideal.ieee]; rw [← EReal.coe_mul]; norm_num

theorem num_eq : Ideal.ofBits .f32 0x460BBC00#32 = ((8943 : ℝ) : EReal) := by
  simp [Ideal.ofBits, Ideal.ieee]; rw [← EReal.coe_mul]; norm_num

theorem den_eq : Ideal.ofBits .f32 0x48435000#32 = ((200000 : ℝ) : EReal) := by
  simp [Ideal.ofBits, Ideal.ieee]; rw [← EReal.coe_mul]; norm_num

theorem div_real {x y : ℝ} (h : y ≠ 0) : Ideal.div (x : EReal) (y : EReal) = ((x / y : ℝ) : EReal) := by
  rw [Ideal.div_coe h, ← EReal.coe_mul, mul_one_div]

theorem div_2048 (x : ℝ) : Ideal.div (x : EReal) ((2048 : ℝ) : EReal) = ((x / 2048 : ℝ) : EReal) :=
  div_real (by norm_num)

theorem rsqrt_real {x : ℝ} (h : 0 < x) : Ideal.rsqrt (x : EReal) = (((Real.sqrt x)⁻¹ : ℝ) : EReal) := by
  rw [Ideal.rsqrt_coe, if_neg (not_lt.mpr h.le), if_neg h.ne']

theorem named_c1 : (Named.named (F := Ideal) (φ := .f32) Cert.KernelIdeal.κ "gelu_c1" 0x3D372713#32 : EReal) = ((8943 / 200000 : ℝ) : EReal) :=
  rfl

theorem named_c3 : (Named.named (F := Ideal) (φ := .f32) Cert.KernelIdeal.κ "gelu_c1_times_3" 0x3E095D4F#32 : EReal) = ((26829 / 200000 : ℝ) : EReal) :=
  rfl

/-! ## The scalar functions -/

/-- The hyperbolic tangent inside GELU. -/
def gt (x : ℝ) : ℝ := Real.tanh (c0 * (x + 8943 / 200000 * x * x * x))
/-- GELU in its tanh form. -/
def gel (x : ℝ) : ℝ := 1 / 2 * x * (1 + gt x)
/-- Its derivative. -/
def dgel (x : ℝ) : ℝ := 1 / 2 * (1 + gt x) + 1 / 2 * x * (1 - gt x * gt x) * (c0 * (1 + 26829 / 200000 * x * x))
/-- The logistic function as half a hyperbolic tangent. -/
def sgm (x : ℝ) : ℝ := 1 / 2 * Real.tanh (1 / 2 * x) + 1 / 2
/-- SiLU. -/
def silu (x : ℝ) : ℝ := x * sgm x
/-- Its derivative. -/
def dsilu (x : ℝ) : ℝ := sgm x * (1 + x * (1 - sgm x))

/-! ## A block -/

/-- The real contents of one block's operands: the projection's rows `P`, the cotangent's rows `Y`, gain `G`, bias `B`, the masked
    mixing weights `W`, the mixing bias `b`. -/
structure Blk where
  P : Fin 128 → ℕ → ℝ
  Y : Fin 128 → ℕ → ℝ
  G : ℕ → ℝ
  B : ℕ → ℝ
  W : ℕ → Fin 128 → Fin 128 → ℝ
  b : ℕ → Fin 128 → ℝ

/-- The real contents of the four accumulators as a point finds them. -/
structure Acc where
  A7 : ℕ → Fin 128 → Fin 128 → ℝ
  A8 : ℕ → Fin 128 → ℝ
  A9 : ℕ → ℝ
  A10 : ℕ → ℝ

namespace Blk

variable (d : Blk)

/-- One group's 256 columns of `f`, summed. -/
def bsum (f : ℕ → ℕ → ℝ) (g : ℕ) : ℝ := ∑ k : Fin 256, f g (256 * g + k.val)
/-- The first `n` groups' columns, summed. -/
def psum (f : ℕ → ℕ → ℝ) (n : ℕ) : ℝ := ∑ g ∈ Finset.range n, bsum f g

def VG (r : Fin 128) (c : ℕ) : ℝ := gel (d.P r (2048 + c))
def DG (r : Fin 128) (c : ℕ) : ℝ := dgel (d.P r (2048 + c))
def MU (r : Fin 128) : ℝ := psum (fun _ => d.VG r) 8 / 2048
def VC (r : Fin 128) (c : ℕ) : ℝ := d.VG r c - d.MU r
def RS (r : Fin 128) : ℝ := (Real.sqrt (psum (fun _ c => d.VC r c * d.VC r c) 8 / 2048 + eps))⁻¹
def VH (r : Fin 128) (c : ℕ) : ℝ := d.VC r c * d.RS r
def VL (r : Fin 128) (c : ℕ) : ℝ := d.VH r c * d.G c + d.B c
def S (g : ℕ) (r : Fin 128) (c : ℕ) : ℝ := (∑ k : Fin 128, d.W g r k * d.VL k c) + d.b g r
def U (r : Fin 128) (c : ℕ) : ℝ := gel (d.P r c)
def DU (r : Fin 128) (c : ℕ) : ℝ := dgel (d.P r c)
def SG (r : Fin 128) (c : ℕ) : ℝ := silu (d.P r (4096 + c))
def DSG (r : Fin 128) (c : ℕ) : ℝ := dsilu (d.P r (4096 + c))
/-- The gradient of the first third of the projection. -/
def DPU (g : ℕ) (r : Fin 128) (c : ℕ) : ℝ := d.Y r c * d.S g r c * d.SG r c * d.DU r c
/-- The gradient of the last third. -/
def DPG (g : ℕ) (r : Fin 128) (c : ℕ) : ℝ := d.Y r c * d.U r c * d.S g r c * d.DSG r c
def DS (r : Fin 128) (c : ℕ) : ℝ := d.Y r c * d.U r c * d.SG r c
/-- The block's share of the mixing weights' gradient. -/
def DWS (g : ℕ) (r k : Fin 128) : ℝ := ∑ j : Fin 256, d.DS r (256 * g + j.val) * d.VL k (256 * g + j.val)
/-- The block's share of the mixing bias's gradient. -/
def DBS (g : ℕ) (r : Fin 128) : ℝ := ∑ j : Fin 256, d.DS r (256 * g + j.val)
def DVL (g : ℕ) (k : Fin 128) (c : ℕ) : ℝ := ∑ r : Fin 128, d.W g r k * d.DS r c
/-- The block's share of the gain's gradient. -/
def DLG (g : ℕ) (c : ℕ) : ℝ := ∑ k : Fin 128, d.DVL g k c * d.VH k c
/-- The block's share of the bias's gradient. -/
def DLB (g : ℕ) (c : ℕ) : ℝ := ∑ k : Fin 128, d.DVL g k c
def DVH (g : ℕ) (k : Fin 128) (c : ℕ) : ℝ := d.DVL g k c * d.G c
def M1 (r : Fin 128) : ℝ := psum (fun g => d.DVH g r) 8 / 2048
def M2 (r : Fin 128) : ℝ := psum (fun g c => d.DVH g r c * d.VH r c) 8 / 2048
/-- The gradient of the middle third. -/
def DPV (g : ℕ) (r : Fin 128) (c : ℕ) : ℝ := d.RS r * (d.DVH g r c - d.M1 r - d.VH r c * d.M2 r) * d.DG r c

/-- The whole gradient of the projection. -/
def DP (r : Fin 128) (c : ℕ) : ℝ :=
  if c < 2048 then d.DPU (c / 256) r c else if c < 4096 then d.DPV ((c - 2048) / 256) r (c - 2048) else d.DPG ((c - 4096) / 256) r (c - 4096)

theorem psum_zero (f : ℕ → ℕ → ℝ) : psum f 0 = 0 := Finset.sum_range_zero _
theorem psum_succ (f : ℕ → ℕ → ℝ) (n : ℕ) : psum f (n + 1) = psum f n + bsum f n := Finset.sum_range_succ _ _

theorem psum_nonneg (f : ℕ → ℕ → ℝ) (n : ℕ) (h : ∀ g c, 0 ≤ f g c) : 0 ≤ psum f n :=
  Finset.sum_nonneg fun g _ => Finset.sum_nonneg fun k _ => h _ _

theorem var_pos (r : Fin 128) : 0 < psum (fun _ c => d.VC r c * d.VC r c) 8 / 2048 + eps :=
  add_pos_of_nonneg_of_pos (div_nonneg (psum_nonneg _ _ fun _ _ => mul_self_nonneg _) (by norm_num)) eps_pos

end Blk

end Cert.Sgu

end
-- ==== Proof.Vals1.lean ====
module
public import proofs.«01_k».proof.Proof.Spec
public import proofs.«01_k».proof.Proof.Gen.KernelIdeal.Skeleton
import Idealize.ShloMosaic.Lib.Pipeline.ValueKit

/-! # The kernel's values on real contents, part 1

Each value the kernel's body computes in one grid point, as a real number, from what the values it is computed from hold. -/

@[expose] public section
set_option maxRecDepth 16384
noncomputable section
namespace Cert.Sgu
open Idealize.ShloMosaic Cert.KernelIdeal Cert.KernelIdeal.Gen

theorem L1 (d : Blk) (e : Acc) (v403 : FVec Ideal S128x1 .f32) (v1407 : FVec Ideal S128x1 .f32) (v1409 : FVec Ideal S128x1 .f32) (v1533 : FVec Ideal S128x256 .f32) (v1534 : Vec Ideal S128x256 .f32) (v1542 : Vec Ideal S128x256 .f32)
    (hv403 : ∀ (r : Fin 128), (v403 (ix2 r 0) : EReal) = ((d.RS r : ℝ) : EReal))
    (hv1407 : ∀ (r : Fin 128), (v1407 (ix2 r 0) : EReal) = ((d.M1 r : ℝ) : EReal))
    (hv1409 : ∀ (r : Fin 128), (v1409 (ix2 r 0) : EReal) = ((d.M2 r : ℝ) : EReal))
    (hv1533 : ∀ (r : Fin 128) (j : Fin 256), (v1533 (ix2 r j) : EReal) = ((((d.VG r (1792 + j.val) - d.MU r) * d.RS r) : ℝ) : EReal))
    (hv1534 : ∀ (r : Fin 128) (j : Fin 256), (v1534 (ix2 r j) : EReal) = ((d.DVH 7 r (1792 + j.val) : ℝ) : EReal))
    (hv1542 : ∀ (r : Fin 128) (j : Fin 256), (v1542 (ix2 r j) : EReal) = ((d.DG r (1792 + j.val) : ℝ) : EReal)) :
    ∀ (r : Fin 128) (j : Fin 256), ((k0_pay1 (F := Ideal) v403 v1407 v1409 v1533 v1534 v1542) (ix2 r j) : EReal) = ((d.DPV 7 r (1792 + j.val) : ℝ) : EReal) := by
  intro r j
  pointwise [k0_pay1, hv403, hv1407, hv1409, hv1533, hv1534, hv1542]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPV, Blk.VH, Blk.VC]

theorem L34 (d : Blk) (e : Acc) :
    ∀ (r : Fin 128), ((k0_pay34 (F := Ideal)) (ix2 r 0) : EReal) = (((0 : ℝ) : ℝ) : EReal) := by
  intro r
  pointwise [k0_pay34]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L35 (d : Blk) (e : Acc) (v4 : Vec Ideal S128x256 .f32)
    (hv4 : ∀ (r : Fin 128) (j : Fin 256), (v4 (ix2 r j) : EReal) = ((d.P r (2048 + j.val) : ℝ) : EReal)) :
    ∀ (r : Fin 128) (j : Fin 256), ((k0_pay35 (F := Ideal) v4) (ix2 r j) : EReal) = ((Real.tanh ((c0 * (d.P r (2048 + j.val) + ((((8943 / 200000) * d.P r (2048 + j.val)) * d.P r (2048 + j.val)) * d.P r (2048 + j.val))))) : ℝ) : EReal) := by
  intro r j
  pointwise [k0_pay35, hv4]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L36 (d : Blk) (e : Acc) (v4 : Vec Ideal S128x256 .f32)
    (hv4 : ∀ (r : Fin 128) (j : Fin 256), (v4 (ix2 r j) : EReal) = ((d.P r (2048 + j.val) : ℝ) : EReal)) :
    ∀ (r : Fin 128) (j : Fin 256), ((k0_pay36 (F := Ideal) v4) (ix2 r j) : EReal) = ((d.VG r j.val : ℝ) : EReal) := by
  intro r j
  pointwise [k0_pay36, hv4, L35 d e v4 hv4]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L37 (d : Blk) (e : Acc) (v4 : Vec Ideal S128x256 .f32)
    (hv4 : ∀ (r : Fin 128) (j : Fin 256), (v4 (ix2 r j) : EReal) = ((d.P r (2048 + j.val) : ℝ) : EReal)) :
    ∀ (r : Fin 128) (j : Fin 256), ((k0_pay37 (F := Ideal) v4) (ix2 r j) : EReal) = ((d.DG r j.val : ℝ) : EReal) := by
  intro r j
  pointwise [k0_pay37, hv4, L35 d e v4 hv4]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DG, dgel, gt]

theorem L38 (d : Blk) (e : Acc) (v17 : FVec Ideal S128x256 .f32)
    (hv17 : ∀ (r : Fin 128) (j : Fin 256), (v17 (ix2 r j) : EReal) = ((d.VG r j.val : ℝ) : EReal)) :
    ∀ (r : Fin 128) (j : Fin 256), ((k0_pay38 (F := Ideal) v17) (ix2 r j) : EReal) = ((d.VG r j.val : ℝ) : EReal) := by
  intro r j
  pointwise [k0_pay38, hv17]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L39 (d : Blk) (e : Acc) (v3 : FVec Ideal S128x1 .f32) (v17 : FVec Ideal S128x256 .f32)
    (hv3 : ∀ (r : Fin 128), (v3 (ix2 r 0) : EReal) = (((0 : ℝ) : ℝ) : EReal))
    (hv17 : ∀ (r : Fin 128) (j : Fin 256), (v17 (ix2 r j) : EReal) = ((d.VG r j.val : ℝ) : EReal)) :
    ∀ (r : Fin 128), ((k0_pay39 (F := Ideal) v3 v17) (ix2 r 0) : EReal) = ((Blk.psum (fun _ => d.VG r) 1 : ℝ) : EReal) := by
  intro r
  pointwise [k0_pay39, hv3, hv17]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L40 (d : Blk) (e : Acc) (v46 : Vec Ideal S128x256 .f32)
    (hv46 : ∀ (r : Fin 128) (j : Fin 256), (v46 (ix2 r j) : EReal) = ((d.P r (2304 + j.val) : ℝ) : EReal)) :
    ∀ (r : Fin 128) (j : Fin 256), ((k0_pay40 (F := Ideal) v46) (ix2 r j) : EReal) = ((Real.tanh ((c0 * (d.P r (2304 + j.val) + ((((8943 / 200000) * d.P r (2304 + j.val)) * d.P r (2304 + j.val)) * d.P r (2304 + j.val))))) : ℝ) : EReal) := by
  intro r j
  pointwise [k0_pay40, hv46]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L41 (d : Blk) (e : Acc) (v46 : Vec Ideal S128x256 .f32)
    (hv46 : ∀ (r : Fin 128) (j : Fin 256), (v46 (ix2 r j) : EReal) = ((d.P r (2304 + j.val) : ℝ) : EReal)) :
    ∀ (r : Fin 128) (j : Fin 256), ((k0_pay41 (F := Ideal) v46) (ix2 r j) : EReal) = ((d.VG r (256 + j.val) : ℝ) : EReal) := by
  intro r j
  pointwise [k0_pay41, hv46, L40 d e v46 hv46]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L42 (d : Blk) (e : Acc) (v46 : Vec Ideal S128x256 .f32)
    (hv46 : ∀ (r : Fin 128) (j : Fin 256), (v46 (ix2 r j) : EReal) = ((d.P r (2304 + j.val) : ℝ) : EReal)) :
    ∀ (r : Fin 128) (j : Fin 256), ((k0_pay42 (F := Ideal) v46) (ix2 r j) : EReal) = ((d.DG r (256 + j.val) : ℝ) : EReal) := by
  intro r j
  pointwise [k0_pay42, hv46, L40 d e v46 hv46]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DG, dgel, gt]

theorem L43 (d : Blk) (e : Acc) (v78 : FVec Ideal S128x256 .f32)
    (hv78 : ∀ (r : Fin 128) (j : Fin 256), (v78 (ix2 r j) : EReal) = ((d.DG r (256 + j.val) : ℝ) : EReal)) :
    ∀ (r : Fin 128) (j : Fin 256), ((k0_pay43 (F := Ideal) v78) (ix2 r j) : EReal) = ((d.DG r (256 + j.val) : ℝ) : EReal) := by
  intro r j
  pointwise [k0_pay43, hv78]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DG, dgel, gt]

theorem L44 (d : Blk) (e : Acc) (v59 : FVec Ideal S128x256 .f32)
    (hv59 : ∀ (r : Fin 128) (j : Fin 256), (v59 (ix2 r j) : EReal) = ((d.VG r (256 + j.val) : ℝ) : EReal)) :
    ∀ (r : Fin 128) (j : Fin 256), ((k0_pay44 (F := Ideal) v59) (ix2 r j) : EReal) = ((d.VG r (256 + j.val) : ℝ) : EReal) := by
  intro r j
  pointwise [k0_pay44, hv59]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L45 (d : Blk) (e : Acc) (v45 : FVec Ideal S128x1 .f32) (v59 : FVec Ideal S128x256 .f32)
    (hv45 : ∀ (r : Fin 128), (v45 (ix2 r 0) : EReal) = ((Blk.psum (fun _ => d.VG r) 1 : ℝ) : EReal))
    (hv59 : ∀ (r : Fin 128) (j : Fin 256), (v59 (ix2 r j) : EReal) = ((d.VG r (256 + j.val) : ℝ) : EReal)) :
    ∀ (r : Fin 128), ((k0_pay45 (F := Ideal) v45 v59) (ix2 r 0) : EReal) = ((Blk.psum (fun _ => d.VG r) 2 : ℝ) : EReal) := by
  intro r
  pointwise [k0_pay45, hv45, hv59]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L46 (d : Blk) (e : Acc) (v88 : Vec Ideal S128x256 .f32)
    (hv88 : ∀ (r : Fin 128) (j : Fin 256), (v88 (ix2 r j) : EReal) = ((d.P r (2560 + j.val) : ℝ) : EReal)) :
    ∀ (r : Fin 128) (j : Fin 256), ((k0_pay46 (F := Ideal) v88) (ix2 r j) : EReal) = ((Real.tanh ((c0 * (d.P r (2560 + j.val) + ((((8943 / 200000) * d.P r (2560 + j.val)) * d.P r (2560 + j.val)) * d.P r (2560 + j.val))))) : ℝ) : EReal) := by
  intro r j
  pointwise [k0_pay46, hv88]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L47 (d : Blk) (e : Acc) (v88 : Vec Ideal S128x256 .f32)
    (hv88 : ∀ (r : Fin 128) (j : Fin 256), (v88 (ix2 r j) : EReal) = ((d.P r (2560 + j.val) : ℝ) : EReal)) :
    ∀ (r : Fin 128) (j : Fin 256), ((k0_pay47 (F := Ideal) v88) (ix2 r j) : EReal) = ((d.VG r (512 + j.val) : ℝ) : EReal) := by
  intro r j
  pointwise [k0_pay47, hv88, L46 d e v88 hv88]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L48 (d : Blk) (e : Acc) (v88 : Vec Ideal S128x256 .f32)
    (hv88 : ∀ (r : Fin 128) (j : Fin 256), (v88 (ix2 r j) : EReal) = ((d.P r (2560 + j.val) : ℝ) : EReal)) :
    ∀ (r : Fin 128) (j : Fin 256), ((k0_pay48 (F := Ideal) v88) (ix2 r j) : EReal) = ((d.DG r (512 + j.val) : ℝ) : EReal) := by
  intro r j
  pointwise [k0_pay48, hv88, L46 d e v88 hv88]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DG, dgel, gt]

theorem L49 (d : Blk) (e : Acc) (v120 : FVec Ideal S128x256 .f32)
    (hv120 : ∀ (r : Fin 128) (j : Fin 256), (v120 (ix2 r j) : EReal) = ((d.DG r (512 + j.val) : ℝ) : EReal)) :
    ∀ (r : Fin 128) (j : Fin 256), ((k0_pay49 (F := Ideal) v120) (ix2 r j) : EReal) = ((d.DG r (512 + j.val) : ℝ) : EReal) := by
  intro r j
  pointwise [k0_pay49, hv120]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DG, dgel, gt]

theorem L50 (d : Blk) (e : Acc) (v101 : FVec Ideal S128x256 .f32)
    (hv101 : ∀ (r : Fin 128) (j : Fin 256), (v101 (ix2 r j) : EReal) = ((d.VG r (512 + j.val) : ℝ) : EReal)) :
    ∀ (r : Fin 128) (j : Fin 256), ((k0_pay50 (F := Ideal) v101) (ix2 r j) : EReal) = ((d.VG r (512 + j.val) : ℝ) : EReal) := by
  intro r j
  pointwise [k0_pay50, hv101]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L51 (d : Blk) (e : Acc) (v87 : FVec Ideal S128x1 .f32) (v101 : FVec Ideal S128x256 .f32)
    (hv87 : ∀ (r : Fin 128), (v87 (ix2 r 0) : EReal) = ((Blk.psum (fun _ => d.VG r) 2 : ℝ) : EReal))
    (hv101 : ∀ (r : Fin 128) (j : Fin 256), (v101 (ix2 r j) : EReal) = ((d.VG r (512 + j.val) : ℝ) : EReal)) :
    ∀ (r : Fin 128), ((k0_pay51 (F := Ideal) v87 v101) (ix2 r 0) : EReal) = ((Blk.psum (fun _ => d.VG r) 3 : ℝ) : EReal) := by
  intro r
  pointwise [k0_pay51, hv87, hv101]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L52 (d : Blk) (e : Acc) (v130 : Vec Ideal S128x256 .f32)
    (hv130 : ∀ (r : Fin 128) (j : Fin 256), (v130 (ix2 r j) : EReal) = ((d.P r (2816 + j.val) : ℝ) : EReal)) :
    ∀ (r : Fin 128) (j : Fin 256), ((k0_pay52 (F := Ideal) v130) (ix2 r j) : EReal) = ((Real.tanh ((c0 * (d.P r (2816 + j.val) + ((((8943 / 200000) * d.P r (2816 + j.val)) * d.P r (2816 + j.val)) * d.P r (2816 + j.val))))) : ℝ) : EReal) := by
  intro r j
  pointwise [k0_pay52, hv130]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L53 (d : Blk) (e : Acc) (v130 : Vec Ideal S128x256 .f32)
    (hv130 : ∀ (r : Fin 128) (j : Fin 256), (v130 (ix2 r j) : EReal) = ((d.P r (2816 + j.val) : ℝ) : EReal)) :
    ∀ (r : Fin 128) (j : Fin 256), ((k0_pay53 (F := Ideal) v130) (ix2 r j) : EReal) = ((d.VG r (768 + j.val) : ℝ) : EReal) := by
  intro r j
  pointwise [k0_pay53, hv130, L52 d e v130 hv130]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L54 (d : Blk) (e : Acc) (v130 : Vec Ideal S128x256 .f32)
    (hv130 : ∀ (r : Fin 128) (j : Fin 256), (v130 (ix2 r j) : EReal) = ((d.P r (2816 + j.val) : ℝ) : EReal)) :
    ∀ (r : Fin 128) (j : Fin 256), ((k0_pay54 (F := Ideal) v130) (ix2 r j) : EReal) = ((((1 / 2) * (1 + Real.tanh ((c0 * (d.P r (2816 + j.val) + ((((8943 / 200000) * d.P r (2816 + j.val)) * d.P r (2816 + j.val)) * d.P r (2816 + j.val))))))) : ℝ) : EReal) := by
  intro r j
  pointwise [k0_pay54, hv130, L52 d e v130 hv130]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L55 (d : Blk) (e : Acc) (v130 : Vec Ideal S128x256 .f32)
    (hv130 : ∀ (r : Fin 128) (j : Fin 256), (v130 (ix2 r j) : EReal) = ((d.P r (2816 + j.val) : ℝ) : EReal)) :
    ∀ (r : Fin 128) (j : Fin 256), ((k0_pay55 (F := Ideal) v130) (ix2 r j) : EReal) = ((((((1 / 2) * d.P r (2816 + j.val)) * (1 - (Real.tanh ((c0 * (d.P r (2816 + j.val) + ((((8943 / 200000) * d.P r (2816 + j.val)) * d.P r (2816 + j.val)) * d.P r (2816 + j.val))))) * Real.tanh ((c0 * (d.P r (2816 + j.val) + ((((8943 / 200000) * d.P r (2816 + j.val)) * d.P r (2816 + j.val)) * d.P r (2816 + j.val)))))))) * (c0 * (1 + (((26829 / 200000) * d.P r (2816 + j.val)) * d.P r (2816 + j.val))))) : ℝ) : EReal) := by
  intro r j
  pointwise [k0_pay55, hv130, L52 d e v130 hv130]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L56 (d : Blk) (e : Acc) (v147 : FVec Ideal S128x256 .f32) (v161 : FVec Ideal S128x256 .f32)
    (hv147 : ∀ (r : Fin 128) (j : Fin 256), (v147 (ix2 r j) : EReal) = ((((1 / 2) * (1 + Real.tanh ((c0 * (d.P r (2816 + j.val) + ((((8943 / 200000) * d.P r (2816 + j.val)) * d.P r (2816 + j.val)) * d.P r (2816 + j.val))))))) : ℝ) : EReal))
    (hv161 : ∀ (r : Fin 128) (j : Fin 256), (v161 (ix2 r j) : EReal) = ((((((1 / 2) * d.P r (2816 + j.val)) * (1 - (Real.tanh ((c0 * (d.P r (2816 + j.val) + ((((8943 / 200000) * d.P r (2816 + j.val)) * d.P r (2816 + j.val)) * d.P r (2816 + j.val))))) * Real.tanh ((c0 * (d.P r (2816 + j.val) + ((((8943 / 200000) * d.P r (2816 + j.val)) * d.P r (2816 + j.val)) * d.P r (2816 + j.val)))))))) * (c0 * (1 + (((26829 / 200000) * d.P r (2816 + j.val)) * d.P r (2816 + j.val))))) : ℝ) : EReal)) :
    ∀ (r : Fin 128) (j : Fin 256), ((k0_pay56 (F := Ideal) v147 v161) (ix2 r j) : EReal) = ((d.DG r (768 + j.val) : ℝ) : EReal) := by
  intro r j
  pointwise [k0_pay56, hv147, hv161]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DG, dgel, gt]

theorem L57 (d : Blk) (e : Acc) (v143 : FVec Ideal S128x256 .f32)
    (hv143 : ∀ (r : Fin 128) (j : Fin 256), (v143 (ix2 r j) : EReal) = ((d.VG r (768 + j.val) : ℝ) : EReal)) :
    ∀ (r : Fin 128) (j : Fin 256), ((k0_pay57 (F := Ideal) v143) (ix2 r j) : EReal) = ((d.VG r (768 + j.val) : ℝ) : EReal) := by
  intro r j
  pointwise [k0_pay57, hv143]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L58 (d : Blk) (e : Acc) (v129 : FVec Ideal S128x1 .f32) (v143 : FVec Ideal S128x256 .f32)
    (hv129 : ∀ (r : Fin 128), (v129 (ix2 r 0) : EReal) = ((Blk.psum (fun _ => d.VG r) 3 : ℝ) : EReal))
    (hv143 : ∀ (r : Fin 128) (j : Fin 256), (v143 (ix2 r j) : EReal) = ((d.VG r (768 + j.val) : ℝ) : EReal)) :
    ∀ (r : Fin 128), ((k0_pay58 (F := Ideal) v129 v143) (ix2 r 0) : EReal) = ((Blk.psum (fun _ => d.VG r) 4 : ℝ) : EReal) := by
  intro r
  pointwise [k0_pay58, hv129, hv143]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L59 (d : Blk) (e : Acc) (v172 : Vec Ideal S128x256 .f32)
    (hv172 : ∀ (r : Fin 128) (j : Fin 256), (v172 (ix2 r j) : EReal) = ((d.P r (3072 + j.val) : ℝ) : EReal)) :
    ∀ (r : Fin 128) (j : Fin 256), ((k0_pay59 (F := Ideal) v172) (ix2 r j) : EReal) = ((Real.tanh ((c0 * (d.P r (3072 + j.val) + ((((8943 / 200000) * d.P r (3072 + j.val)) * d.P r (3072 + j.val)) * d.P r (3072 + j.val))))) : ℝ) : EReal) := by
  intro r j
  pointwise [k0_pay59, hv172]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L60 (d : Blk) (e : Acc) (v172 : Vec Ideal S128x256 .f32)
    (hv172 : ∀ (r : Fin 128) (j : Fin 256), (v172 (ix2 r j) : EReal) = ((d.P r (3072 + j.val) : ℝ) : EReal)) :
    ∀ (r : Fin 128) (j : Fin 256), ((k0_pay60 (F := Ideal) v172) (ix2 r j) : EReal) = ((d.VG r (1024 + j.val) : ℝ) : EReal) := by
  intro r j
  pointwise [k0_pay60, hv172, L59 d e v172 hv172]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L61 (d : Blk) (e : Acc) (v172 : Vec Ideal S128x256 .f32)
    (hv172 : ∀ (r : Fin 128) (j : Fin 256), (v172 (ix2 r j) : EReal) = ((d.P r (3072 + j.val) : ℝ) : EReal)) :
    ∀ (r : Fin 128) (j : Fin 256), ((k0_pay61 (F := Ideal) v172) (ix2 r j) : EReal) = ((((1 / 2) * (1 + Real.tanh ((c0 * (d.P r (3072 + j.val) + ((((8943 / 200000) * d.P r (3072 + j.val)) * d.P r (3072 + j.val)) * d.P r (3072 + j.val))))))) : ℝ) : EReal) := by
  intro r j
  pointwise [k0_pay61, hv172, L59 d e v172 hv172]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L62 (d : Blk) (e : Acc) (v172 : Vec Ideal S128x256 .f32)
    (hv172 : ∀ (r : Fin 128) (j : Fin 256), (v172 (ix2 r j) : EReal) = ((d.P r (3072 + j.val) : ℝ) : EReal)) :
    ∀ (r : Fin 128) (j : Fin 256), ((k0_pay62 (F := Ideal) v172) (ix2 r j) : EReal) = (((((1 / 2) * d.P r (3072 + j.val)) * (1 - (Real.tanh ((c0 * (d.P r (3072 + j.val) + ((((8943 / 200000) * d.P r (3072 + j.val)) * d.P r (3072 + j.val)) * d.P r (3072 + j.val))))) * Real.tanh ((c0 * (d.P r (3072 + j.val) + ((((8943 / 200000) * d.P r (3072 + j.val)) * d.P r (3072 + j.val)) * d.P r (3072 + j.val)))))))) : ℝ) : EReal) := by
  intro r j
  pointwise [k0_pay62, hv172, L59 d e v172 hv172]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L63 (d : Blk) (e : Acc) (v172 : Vec Ideal S128x256 .f32)
    (hv172 : ∀ (r : Fin 128) (j : Fin 256), (v172 (ix2 r j) : EReal) = ((d.P r (3072 + j.val) : ℝ) : EReal)) :
    ∀ (r : Fin 128) (j : Fin 256), ((k0_pay63 (F := Ideal) v172) (ix2 r j) : EReal) = (((1 + (((26829 / 200000) * d.P r (3072 + j.val)) * d.P r (3072 + j.val))) : ℝ) : EReal) := by
  intro r j
  pointwise [k0_pay63, hv172]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L64 (d : Blk) (e : Acc) :
    ∀ (r : Fin 128) (j : Fin 256), ((k0_pay64 (F := Ideal)) (ix2 r j) : EReal) = ((c0 : ℝ) : EReal) := by
  intro r j
  pointwise [k0_pay64]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L65 (d : Blk) (e : Acc) (v189 : FVec Ideal S128x256 .f32) (v195 : FVec Ideal S128x256 .f32) (v200 : FVec Ideal S128x256 .f32) (v201 : FVec Ideal S128x256 .f32)
    (hv189 : ∀ (r : Fin 128) (j : Fin 256), (v189 (ix2 r j) : EReal) = ((((1 / 2) * (1 + Real.tanh ((c0 * (d.P r (3072 + j.val) + ((((8943 / 200000) * d.P r (3072 + j.val)) * d.P r (3072 + j.val)) * d.P r (3072 + j.val))))))) : ℝ) : EReal))
    (hv195 : ∀ (r : Fin 128) (j : Fin 256), (v195 (ix2 r j) : EReal) = (((((1 / 2) * d.P r (3072 + j.val)) * (1 - (Real.tanh ((c0 * (d.P r (3072 + j.val) + ((((8943 / 200000) * d.P r (3072 + j.val)) * d.P r (3072 + j.val)) * d.P r (3072 + j.val))))) * Real.tanh ((c0 * (d.P r (3072 + j.val) + ((((8943 / 200000) * d.P r (3072 + j.val)) * d.P r (3072 + j.val)) * d.P r (3072 + j.val)))))))) : ℝ) : EReal))
    (hv200 : ∀ (r : Fin 128) (j : Fin 256), (v200 (ix2 r j) : EReal) = (((1 + (((26829 / 200000) * d.P r (3072 + j.val)) * d.P r (3072 + j.val))) : ℝ) : EReal))
    (hv201 : ∀ (r : Fin 128) (j : Fin 256), (v201 (ix2 r j) : EReal) = ((c0 : ℝ) : EReal)) :
    ∀ (r : Fin 128) (j : Fin 256), ((k0_pay65 (F := Ideal) v189 v195 v200 v201) (ix2 r j) : EReal) = ((d.DG r (1024 + j.val) : ℝ) : EReal) := by
  intro r j
  pointwise [k0_pay65, hv189, hv195, hv200, hv201]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DG, dgel, gt]

theorem L66 (d : Blk) (e : Acc) (v185 : FVec Ideal S128x256 .f32)
    (hv185 : ∀ (r : Fin 128) (j : Fin 256), (v185 (ix2 r j) : EReal) = ((d.VG r (1024 + j.val) : ℝ) : EReal)) :
    ∀ (r : Fin 128) (j : Fin 256), ((k0_pay66 (F := Ideal) v185) (ix2 r j) : EReal) = ((d.VG r (1024 + j.val) : ℝ) : EReal) := by
  intro r j
  pointwise [k0_pay66, hv185]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L67 (d : Blk) (e : Acc) (v171 : FVec Ideal S128x1 .f32) (v185 : FVec Ideal S128x256 .f32)
    (hv171 : ∀ (r : Fin 128), (v171 (ix2 r 0) : EReal) = ((Blk.psum (fun _ => d.VG r) 4 : ℝ) : EReal))
    (hv185 : ∀ (r : Fin 128) (j : Fin 256), (v185 (ix2 r j) : EReal) = ((d.VG r (1024 + j.val) : ℝ) : EReal)) :
    ∀ (r : Fin 128), ((k0_pay67 (F := Ideal) v171 v185) (ix2 r 0) : EReal) = ((Blk.psum (fun _ => d.VG r) 5 : ℝ) : EReal) := by
  intro r
  pointwise [k0_pay67, hv171, hv185]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L68 (d : Blk) (e : Acc) (v214 : Vec Ideal S128x256 .f32)
    (hv214 : ∀ (r : Fin 128) (j : Fin 256), (v214 (ix2 r j) : EReal) = ((d.P r (3328 + j.val) : ℝ) : EReal)) :
    ∀ (r : Fin 128) (j : Fin 256), ((k0_pay68 (F := Ideal) v214) (ix2 r j) : EReal) = ((Real.tanh ((c0 * (d.P r (3328 + j.val) + ((((8943 / 200000) * d.P r (3328 + j.val)) * d.P r (3328 + j.val)) * d.P r (3328 + j.val))))) : ℝ) : EReal) := by
  intro r j
  pointwise [k0_pay68, hv214]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L69 (d : Blk) (e : Acc) (v214 : Vec Ideal S128x256 .f32)
    (hv214 : ∀ (r : Fin 128) (j : Fin 256), (v214 (ix2 r j) : EReal) = ((d.P r (3328 + j.val) : ℝ) : EReal)) :
    ∀ (r : Fin 128) (j : Fin 256), ((k0_pay69 (F := Ideal) v214) (ix2 r j) : EReal) = ((d.VG r (1280 + j.val) : ℝ) : EReal) := by
  intro r j
  pointwise [k0_pay69, hv214, L68 d e v214 hv214]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L70 (d : Blk) (e : Acc) (v214 : Vec Ideal S128x256 .f32)
    (hv214 : ∀ (r : Fin 128) (j : Fin 256), (v214 (ix2 r j) : EReal) = ((d.P r (3328 + j.val) : ℝ) : EReal)) :
    ∀ (r : Fin 128) (j : Fin 256), ((k0_pay70 (F := Ideal) v214) (ix2 r j) : EReal) = ((((1 / 2) * (1 + Real.tanh ((c0 * (d.P r (3328 + j.val) + ((((8943 / 200000) * d.P r (3328 + j.val)) * d.P r (3328 + j.val)) * d.P r (3328 + j.val))))))) : ℝ) : EReal) := by
  intro r j
  pointwise [k0_pay70, hv214, L68 d e v214 hv214]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L71 (d : Blk) (e : Acc) (v214 : Vec Ideal S128x256 .f32)
    (hv214 : ∀ (r : Fin 128) (j : Fin 256), (v214 (ix2 r j) : EReal) = ((d.P r (3328 + j.val) : ℝ) : EReal)) :
    ∀ (r : Fin 128) (j : Fin 256), ((k0_pay71 (F := Ideal) v214) (ix2 r j) : EReal) = (((((1 / 2) * d.P r (3328 + j.val)) * (1 - (Real.tanh ((c0 * (d.P r (3328 + j.val) + ((((8943 / 200000) * d.P r (3328 + j.val)) * d.P r (3328 + j.val)) * d.P r (3328 + j.val))))) * Real.tanh ((c0 * (d.P r (3328 + j.val) + ((((8943 / 200000) * d.P r (3328 + j.val)) * d.P r (3328 + j.val)) * d.P r (3328 + j.val)))))))) : ℝ) : EReal) := by
  intro r j
  pointwise [k0_pay71, hv214, L68 d e v214 hv214]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L72 (d : Blk) (e : Acc) (v214 : Vec Ideal S128x256 .f32)
    (hv214 : ∀ (r : Fin 128) (j : Fin 256), (v214 (ix2 r j) : EReal) = ((d.P r (3328 + j.val) : ℝ) : EReal)) :
    ∀ (r : Fin 128) (j : Fin 256), ((k0_pay72 (F := Ideal) v214) (ix2 r j) : EReal) = (((1 + (((26829 / 200000) * d.P r (3328 + j.val)) * d.P r (3328 + j.val))) : ℝ) : EReal) := by
  intro r j
  pointwise [k0_pay72, hv214]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L73 (d : Blk) (e : Acc) (v231 : FVec Ideal S128x256 .f32) (v237 : FVec Ideal S128x256 .f32) (v242 : FVec Ideal S128x256 .f32)
    (hv231 : ∀ (r : Fin 128) (j : Fin 256), (v231 (ix2 r j) : EReal) = ((((1 / 2) * (1 + Real.tanh ((c0 * (d.P r (3328 + j.val) + ((((8943 / 200000) * d.P r (3328 + j.val)) * d.P r (3328 + j.val)) * d.P r (3328 + j.val))))))) : ℝ) : EReal))
    (hv237 : ∀ (r : Fin 128) (j : Fin 256), (v237 (ix2 r j) : EReal) = (((((1 / 2) * d.P r (3328 + j.val)) * (1 - (Real.tanh ((c0 * (d.P r (3328 + j.val) + ((((8943 / 200000) * d.P r (3328 + j.val)) * d.P r (3328 + j.val)) * d.P r (3328 + j.val))))) * Real.tanh ((c0 * (d.P r (3328 + j.val) + ((((8943 / 200000) * d.P r (3328 + j.val)) * d.P r (3328 + j.val)) * d.P r (3328 + j.val)))))))) : ℝ) : EReal))
    (hv242 : ∀ (r : Fin 128) (j : Fin 256), (v242 (ix2 r j) : EReal) = (((1 + (((26829 / 200000) * d.P r (3328 + j.val)) * d.P r (3328 + j.val))) : ℝ) : EReal)) :
    ∀ (r : Fin 128) (j : Fin 256), ((k0_pay73 (F := Ideal) v231 v237 v242) (ix2 r j) : EReal) = ((d.DG r (1280 + j.val) : ℝ) : EReal) := by
  intro r j
  pointwise [k0_pay73, hv231, hv237, hv242]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DG, dgel, gt]

theorem L74 (d : Blk) (e : Acc) (v227 : FVec Ideal S128x256 .f32)
    (hv227 : ∀ (r : Fin 128) (j : Fin 256), (v227 (ix2 r j) : EReal) = ((d.VG r (1280 + j.val) : ℝ) : EReal)) :
    ∀ (r : Fin 128) (j : Fin 256), ((k0_pay74 (F := Ideal) v227) (ix2 r j) : EReal) = ((d.VG r (1280 + j.val) : ℝ) : EReal) := by
  intro r j
  pointwise [k0_pay74, hv227]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L75 (d : Blk) (e : Acc) (v213 : FVec Ideal S128x1 .f32) (v227 : FVec Ideal S128x256 .f32)
    (hv213 : ∀ (r : Fin 128), (v213 (ix2 r 0) : EReal) = ((Blk.psum (fun _ => d.VG r) 5 : ℝ) : EReal))
    (hv227 : ∀ (r : Fin 128) (j : Fin 256), (v227 (ix2 r j) : EReal) = ((d.VG r (1280 + j.val) : ℝ) : EReal)) :
    ∀ (r : Fin 128), ((k0_pay75 (F := Ideal) v213 v227) (ix2 r 0) : EReal) = ((Blk.psum (fun _ => d.VG r) 6 : ℝ) : EReal) := by
  intro r
  pointwise [k0_pay75, hv213, hv227]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L76 (d : Blk) (e : Acc) (v256 : Vec Ideal S128x256 .f32)
    (hv256 : ∀ (r : Fin 128) (j : Fin 256), (v256 (ix2 r j) : EReal) = ((d.P r (3584 + j.val) : ℝ) : EReal)) :
    ∀ (r : Fin 128) (j : Fin 256), ((k0_pay76 (F := Ideal) v256) (ix2 r j) : EReal) = ((Real.tanh ((c0 * (d.P r (3584 + j.val) + ((((8943 / 200000) * d.P r (3584 + j.val)) * d.P r (3584 + j.val)) * d.P r (3584 + j.val))))) : ℝ) : EReal) := by
  intro r j
  pointwise [k0_pay76, hv256]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L77 (d : Blk) (e : Acc) (v256 : Vec Ideal S128x256 .f32)
    (hv256 : ∀ (r : Fin 128) (j : Fin 256), (v256 (ix2 r j) : EReal) = ((d.P r (3584 + j.val) : ℝ) : EReal)) :
    ∀ (r : Fin 128) (j : Fin 256), ((k0_pay77 (F := Ideal) v256) (ix2 r j) : EReal) = ((d.VG r (1536 + j.val) : ℝ) : EReal) := by
  intro r j
  pointwise [k0_pay77, hv256, L76 d e v256 hv256]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L78 (d : Blk) (e : Acc) (v256 : Vec Ideal S128x256 .f32)
    (hv256 : ∀ (r : Fin 128) (j : Fin 256), (v256 (ix2 r j) : EReal) = ((d.P r (3584 + j.val) : ℝ) : EReal)) :
    ∀ (r : Fin 128) (j : Fin 256), ((k0_pay78 (F := Ideal) v256) (ix2 r j) : EReal) = ((((1 / 2) * (1 + Real.tanh ((c0 * (d.P r (3584 + j.val) + ((((8943 / 200000) * d.P r (3584 + j.val)) * d.P r (3584 + j.val)) * d.P r (3584 + j.val))))))) : ℝ) : EReal) := by
  intro r j
  pointwise [k0_pay78, hv256, L76 d e v256 hv256]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L79 (d : Blk) (e : Acc) (v256 : Vec Ideal S128x256 .f32)
    (hv256 : ∀ (r : Fin 128) (j : Fin 256), (v256 (ix2 r j) : EReal) = ((d.P r (3584 + j.val) : ℝ) : EReal)) :
    ∀ (r : Fin 128) (j : Fin 256), ((k0_pay79 (F := Ideal) v256) (ix2 r j) : EReal) = (((((1 / 2) * d.P r (3584 + j.val)) * (1 - (Real.tanh ((c0 * (d.P r (3584 + j.val) + ((((8943 / 200000) * d.P r (3584 + j.val)) * d.P r (3584 + j.val)) * d.P r (3584 + j.val))))) * Real.tanh ((c0 * (d.P r (3584 + j.val) + ((((8943 / 200000) * d.P r (3584 + j.val)) * d.P r (3584 + j.val)) * d.P r (3584 + j.val)))))))) : ℝ) : EReal) := by
  intro r j
  pointwise [k0_pay79, hv256, L76 d e v256 hv256]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L80 (d : Blk) (e : Acc) (v256 : Vec Ideal S128x256 .f32)
    (hv256 : ∀ (r : Fin 128) (j : Fin 256), (v256 (ix2 r j) : EReal) = ((d.P r (3584 + j.val) : ℝ) : EReal)) :
    ∀ (r : Fin 128) (j : Fin 256), ((k0_pay80 (F := Ideal) v256) (ix2 r j) : EReal) = (((((26829 / 200000) * d.P r (3584 + j.val)) * d.P r (3584 + j.val)) : ℝ) : EReal) := by
  intro r j
  pointwise [k0_pay80, hv256]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L81 (d : Blk) (e : Acc) (v273 : FVec Ideal S128x256 .f32) (v279 : FVec Ideal S128x256 .f32) (v282 : FVec Ideal S128x256 .f32)
    (hv273 : ∀ (r : Fin 128) (j : Fin 256), (v273 (ix2 r j) : EReal) = ((((1 / 2) * (1 + Real.tanh ((c0 * (d.P r (3584 + j.val) + ((((8943 / 200000) * d.P r (3584 + j.val)) * d.P r (3584 + j.val)) * d.P r (3584 + j.val))))))) : ℝ) : EReal))
    (hv279 : ∀ (r : Fin 128) (j : Fin 256), (v279 (ix2 r j) : EReal) = (((((1 / 2) * d.P r (3584 + j.val)) * (1 - (Real.tanh ((c0 * (d.P r (3584 + j.val) + ((((8943 / 200000) * d.P r (3584 + j.val)) * d.P r (3584 + j.val)) * d.P r (3584 + j.val))))) * Real.tanh ((c0 * (d.P r (3584 + j.val) + ((((8943 / 200000) * d.P r (3584 + j.val)) * d.P r (3584 + j.val)) * d.P r (3584 + j.val)))))))) : ℝ) : EReal))
    (hv282 : ∀ (r : Fin 128) (j : Fin 256), (v282 (ix2 r j) : EReal) = (((((26829 / 200000) * d.P r (3584 + j.val)) * d.P r (3584 + j.val)) : ℝ) : EReal)) :
    ∀ (r : Fin 128) (j : Fin 256), ((k0_pay81 (F := Ideal) v273 v279 v282 (Scalar.ofBits .f32 0x3F800000#32 : Ideal .f32)) (ix2 r j) : EReal) = ((d.DG r (1536 + j.val) : ℝ) : EReal) := by
  intro r j
  pointwise [k0_pay81, hv273, hv279, hv282]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DG, dgel, gt]

theorem L82 (d : Blk) (e : Acc) (v269 : FVec Ideal S128x256 .f32)
    (hv269 : ∀ (r : Fin 128) (j : Fin 256), (v269 (ix2 r j) : EReal) = ((d.VG r (1536 + j.val) : ℝ) : EReal)) :
    ∀ (r : Fin 128) (j : Fin 256), ((k0_pay82 (F := Ideal) v269) (ix2 r j) : EReal) = ((d.VG r (1536 + j.val) : ℝ) : EReal) := by
  intro r j
  pointwise [k0_pay82, hv269]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L83 (d : Blk) (e : Acc) (v255 : FVec Ideal S128x1 .f32) (v269 : FVec Ideal S128x256 .f32)
    (hv255 : ∀ (r : Fin 128), (v255 (ix2 r 0) : EReal) = ((Blk.psum (fun _ => d.VG r) 6 : ℝ) : EReal))
    (hv269 : ∀ (r : Fin 128) (j : Fin 256), (v269 (ix2 r j) : EReal) = ((d.VG r (1536 + j.val) : ℝ) : EReal)) :
    ∀ (r : Fin 128), ((k0_pay83 (F := Ideal) v255 v269) (ix2 r 0) : EReal) = ((Blk.psum (fun _ => d.VG r) 7 : ℝ) : EReal) := by
  intro r
  pointwise [k0_pay83, hv255, hv269]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L84 (d : Blk) (e : Acc) (v298 : Vec Ideal S128x256 .f32)
    (hv298 : ∀ (r : Fin 128) (j : Fin 256), (v298 (ix2 r j) : EReal) = ((d.P r (3840 + j.val) : ℝ) : EReal)) :
    ∀ (r : Fin 128) (j : Fin 256), ((k0_pay84 (F := Ideal) v298) (ix2 r j) : EReal) = ((Real.tanh ((c0 * (d.P r (3840 + j.val) + ((((8943 / 200000) * d.P r (3840 + j.val)) * d.P r (3840 + j.val)) * d.P r (3840 + j.val))))) : ℝ) : EReal) := by
  intro r j
  pointwise [k0_pay84, hv298]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L85 (d : Blk) (e : Acc) (v298 : Vec Ideal S128x256 .f32)
    (hv298 : ∀ (r : Fin 128) (j : Fin 256), (v298 (ix2 r j) : EReal) = ((d.P r (3840 + j.val) : ℝ) : EReal)) :
    ∀ (r : Fin 128) (j : Fin 256), ((k0_pay85 (F := Ideal) v298) (ix2 r j) : EReal) = ((d.VG r (1792 + j.val) : ℝ) : EReal) := by
  intro r j
  pointwise [k0_pay85, hv298, L84 d e v298 hv298]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L86 (d : Blk) (e : Acc) (v298 : Vec Ideal S128x256 .f32)
    (hv298 : ∀ (r : Fin 128) (j : Fin 256), (v298 (ix2 r j) : EReal) = ((d.P r (3840 + j.val) : ℝ) : EReal)) :
    ∀ (r : Fin 128) (j : Fin 256), ((k0_pay86 (F := Ideal) v298) (ix2 r j) : EReal) = ((((1 / 2) * (1 + Real.tanh ((c0 * (d.P r (3840 + j.val) + ((((8943 / 200000) * d.P r (3840 + j.val)) * d.P r (3840 + j.val)) * d.P r (3840 + j.val))))))) : ℝ) : EReal) := by
  intro r j
  pointwise [k0_pay86, hv298, L84 d e v298 hv298]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L87 (d : Blk) (e : Acc) (v298 : Vec Ideal S128x256 .f32)
    (hv298 : ∀ (r : Fin 128) (j : Fin 256), (v298 (ix2 r j) : EReal) = ((d.P r (3840 + j.val) : ℝ) : EReal)) :
    ∀ (r : Fin 128) (j : Fin 256), ((k0_pay87 (F := Ideal) v298) (ix2 r j) : EReal) = (((((1 / 2) * d.P r (3840 + j.val)) * (1 - (Real.tanh ((c0 * (d.P r (3840 + j.val) + ((((8943 / 200000) * d.P r (3840 + j.val)) * d.P r (3840 + j.val)) * d.P r (3840 + j.val))))) * Real.tanh ((c0 * (d.P r (3840 + j.val) + ((((8943 / 200000) * d.P r (3840 + j.val)) * d.P r (3840 + j.val)) * d.P r (3840 + j.val)))))))) : ℝ) : EReal) := by
  intro r j
  pointwise [k0_pay87, hv298, L84 d e v298 hv298]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L88 (d : Blk) (e : Acc) (v298 : Vec Ideal S128x256 .f32)
    (hv298 : ∀ (r : Fin 128) (j : Fin 256), (v298 (ix2 r j) : EReal) = ((d.P r (3840 + j.val) : ℝ) : EReal)) :
    ∀ (r : Fin 128) (j : Fin 256), ((k0_pay88 (F := Ideal) v298) (ix2 r j) : EReal) = ((((26829 / 200000) * d.P r (3840 + j.val)) : ℝ) : EReal) := by
  intro r j
  pointwise [k0_pay88, hv298]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L89 (d : Blk) (e : Acc) (v298 : Vec Ideal S128x256 .f32) (v315 : FVec Ideal S128x256 .f32) (v321 : FVec Ideal S128x256 .f32) (v323 : FVec Ideal S128x256 .f32)
    (hv298 : ∀ (r : Fin 128) (j : Fin 256), (v298 (ix2 r j) : EReal) = ((d.P r (3840 + j.val) : ℝ) : EReal))
    (hv315 : ∀ (r : Fin 128) (j : Fin 256), (v315 (ix2 r j) : EReal) = ((((1 / 2) * (1 + Real.tanh ((c0 * (d.P r (3840 + j.val) + ((((8943 / 200000) * d.P r (3840 + j.val)) * d.P r (3840 + j.val)) * d.P r (3840 + j.val))))))) : ℝ) : EReal))
    (hv321 : ∀ (r : Fin 128) (j : Fin 256), (v321 (ix2 r j) : EReal) = (((((1 / 2) * d.P r (3840 + j.val)) * (1 - (Real.tanh ((c0 * (d.P r (3840 + j.val) + ((((8943 / 200000) * d.P r (3840 + j.val)) * d.P r (3840 + j.val)) * d.P r (3840 + j.val))))) * Real.tanh ((c0 * (d.P r (3840 + j.val) + ((((8943 / 200000) * d.P r (3840 + j.val)) * d.P r (3840 + j.val)) * d.P r (3840 + j.val)))))))) : ℝ) : EReal))
    (hv323 : ∀ (r : Fin 128) (j : Fin 256), (v323 (ix2 r j) : EReal) = ((((26829 / 200000) * d.P r (3840 + j.val)) : ℝ) : EReal)) :
    ∀ (r : Fin 128) (j : Fin 256), ((k0_pay89 (F := Ideal) v298 v315 v321 v323) (ix2 r j) : EReal) = ((d.DG r (1792 + j.val) : ℝ) : EReal) := by
  intro r j
  pointwise [k0_pay89, hv298, hv315, hv321, hv323]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DG, dgel, gt]

theorem L90 (d : Blk) (e : Acc) (v311 : FVec Ideal S128x256 .f32)
    (hv311 : ∀ (r : Fin 128) (j : Fin 256), (v311 (ix2 r j) : EReal) = ((d.VG r (1792 + j.val) : ℝ) : EReal)) :
    ∀ (r : Fin 128) (j : Fin 256), ((k0_pay90 (F := Ideal) v311) (ix2 r j) : EReal) = ((d.VG r (1792 + j.val) : ℝ) : EReal) := by
  intro r j
  pointwise [k0_pay90, hv311]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VG, gel, gt]

theorem L91 (d : Blk) (e : Acc) (v297 : FVec Ideal S128x1 .f32) (v311 : FVec Ideal S128x256 .f32)
    (hv297 : ∀ (r : Fin 128), (v297 (ix2 r 0) : EReal) = ((Blk.psum (fun _ => d.VG r) 7 : ℝ) : EReal))
    (hv311 : ∀ (r : Fin 128) (j : Fin 256), (v311 (ix2 r j) : EReal) = ((d.VG r (1792 + j.val) : ℝ) : EReal)) :
    ∀ (r : Fin 128), ((k0_pay91 (F := Ideal) v297 v311) (ix2 r 0) : EReal) = ((d.MU r : ℝ) : EReal) := by
  intro r
  pointwise [k0_pay91, hv297, hv311]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.MU, Blk.psum_succ, Blk.psum_zero, Blk.bsum]

theorem L92 (d : Blk) (e : Acc) (v297 : FVec Ideal S128x1 .f32) (v311 : FVec Ideal S128x256 .f32) (v343 : Vec Ideal S128x256 .f32) (v350 : Vec Ideal S128x256 .f32) (v357 : Vec Ideal S128x256 .f32)
    (hv297 : ∀ (r : Fin 128), (v297 (ix2 r 0) : EReal) = ((Blk.psum (fun _ => d.VG r) 7 : ℝ) : EReal))
    (hv311 : ∀ (r : Fin 128) (j : Fin 256), (v311 (ix2 r j) : EReal) = ((d.VG r (1792 + j.val) : ℝ) : EReal))
    (hv343 : ∀ (r : Fin 128) (j : Fin 256), (v343 (ix2 r j) : EReal) = ((d.VG r j.val : ℝ) : EReal))
    (hv350 : ∀ (r : Fin 128) (j : Fin 256), (v350 (ix2 r j) : EReal) = ((d.VG r (256 + j.val) : ℝ) : EReal))
    (hv357 : ∀ (r : Fin 128) (j : Fin 256), (v357 (ix2 r j) : EReal) = ((d.VG r (512 + j.val) : ℝ) : EReal)) :
    ∀ (r : Fin 128), ((k0_pay92 (F := Ideal) v297 v311 v343 v350 v357) (ix2 r 0) : EReal) = ((Blk.psum (fun _ c => d.VC r c * d.VC r c) 3 : ℝ) : EReal) := by
  intro r
  pointwise [k0_pay92, hv297, hv311, hv343, hv350, hv357, L91 d e v297 v311 hv297 hv311]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum, Blk.VC]

theorem L93 (d : Blk) (e : Acc) (v341 : FVec Ideal S128x1 .f32) (v363 : FVec Ideal S128x1 .f32) (v364 : Vec Ideal S128x256 .f32) (v371 : Vec Ideal S128x256 .f32) (v378 : Vec Ideal S128x256 .f32) (v385 : Vec Ideal S128x256 .f32) (v392 : Vec Ideal S128x256 .f32)
    (hv341 : ∀ (r : Fin 128), (v341 (ix2 r 0) : EReal) = ((d.MU r : ℝ) : EReal))
    (hv363 : ∀ (r : Fin 128), (v363 (ix2 r 0) : EReal) = ((Blk.psum (fun _ c => d.VC r c * d.VC r c) 3 : ℝ) : EReal))
    (hv364 : ∀ (r : Fin 128) (j : Fin 256), (v364 (ix2 r j) : EReal) = ((d.VG r (768 + j.val) : ℝ) : EReal))
    (hv371 : ∀ (r : Fin 128) (j : Fin 256), (v371 (ix2 r j) : EReal) = ((d.VG r (1024 + j.val) : ℝ) : EReal))
    (hv378 : ∀ (r : Fin 128) (j : Fin 256), (v378 (ix2 r j) : EReal) = ((d.VG r (1280 + j.val) : ℝ) : EReal))
    (hv385 : ∀ (r : Fin 128) (j : Fin 256), (v385 (ix2 r j) : EReal) = ((d.VG r (1536 + j.val) : ℝ) : EReal))
    (hv392 : ∀ (r : Fin 128) (j : Fin 256), (v392 (ix2 r j) : EReal) = ((d.VG r (1792 + j.val) : ℝ) : EReal)) :
    ∀ (r : Fin 128), ((k0_pay93 (F := Ideal) v341 v363 v364 v371 v378 v385 v392) (ix2 r 0) : EReal) = ((d.RS r : ℝ) : EReal) := by
  intro r
  have hp := d.var_pos r
  simp only [Blk.RS]
  rw [← rsqrt_real hp]
  simp only [Blk.psum_succ, Blk.psum_zero, Blk.bsum, Blk.VC]
  pointwise [k0_pay93, hv341, hv363, hv364, hv371, hv378, hv385, hv392]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum, Blk.VC]

theorem L94 (d : Blk) (e : Acc) :
    ∀ (r : Fin 128), ((k0_pay94 (F := Ideal)) (ix2 r 0) : EReal) = (((0 : ℝ) : ℝ) : EReal) := by
  intro r
  pointwise [k0_pay94]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L95 (d : Blk) (e : Acc) :
    ∀ (r : Fin 128), ((k0_pay95 (F := Ideal) (Scalar.ofBits .f32 0x00000000#32 : Ideal .f32)) (ix2 r 0) : EReal) = (((0 : ℝ) : ℝ) : EReal) := by
  intro r
  pointwise [k0_pay95]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L96 (d : Blk) (e : Acc) (v341 : FVec Ideal S128x1 .f32) (v403 : FVec Ideal S128x1 .f32) (v407 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv407 : ∀ (r : Fin 128) (j : Fin 256), (v407 (ix2 r j) : EReal) = ((d.VG r j.val : ℝ) : EReal)) :
    ∀ (r : Fin 128) (j : Fin 256), ((k0_pay96 (F := Ideal) v341 v403 v407) (ix2 r j) : EReal) = ((d.VH r j.val : ℝ) : EReal) := by
  intro r j
  pointwise [k0_pay96, hv341, hv403, hv407]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VH, Blk.VC]

theorem L97 (d : Blk) (e : Acc) (v341 : FVec Ideal S128x1 .f32) (v403 : FVec Ideal S128x1 .f32) (v406 : Vec Ideal S1x256 .f32) (v407 : Vec Ideal S128x256 .f32) (v414 : Vec Ideal S1x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv406 : ∀ (j : Fin 256), (v406 (ix2 0 j) : EReal) = ((d.G j.val : ℝ) : EReal))
    (hv407 : ∀ (r : Fin 128) (j : Fin 256), (v407 (ix2 r j) : EReal) = ((d.VG r j.val : ℝ) : EReal))
    (hv414 : ∀ (j : Fin 256), (v414 (ix2 0 j) : EReal) = ((d.B j.val : ℝ) : EReal)) :
    ∀ (r : Fin 128) (j : Fin 256), ((k0_pay97 (F := Ideal) v341 v403 v406 v407 v414) (ix2 r j) : EReal) = ((d.VL r j.val : ℝ) : EReal) := by
  intro r j
  pointwise [k0_pay97, hv341, hv403, hv406, hv407, hv414, L96 d e v341 v403 v407 hv341 hv403 hv407]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VL, Blk.VH, Blk.VC]

theorem L98 (d : Blk) (e : Acc) (v341 : FVec Ideal S128x1 .f32) (v403 : FVec Ideal S128x1 .f32) (v406 : Vec Ideal S1x256 .f32) (v407 : Vec Ideal S128x256 .f32) (v414 : Vec Ideal S1x256 .f32) (v418 : Vec Ideal S1x128x128 .bf16) (v421 : Vec Ideal S1x128x1 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv406 : ∀ (j : Fin 256), (v406 (ix2 0 j) : EReal) = ((d.G j.val : ℝ) : EReal))
    (hv407 : ∀ (r : Fin 128) (j : Fin 256), (v407 (ix2 r j) : EReal) = ((d.VG r j.val : ℝ) : EReal))
    (hv414 : ∀ (j : Fin 256), (v414 (ix2 0 j) : EReal) = ((d.B j.val : ℝ) : EReal))
    (hv418 : ∀ (r : Fin 128) (b : Fin 128), (v418 (ix3 0 r b) : EReal) = ((d.W 0 r b : ℝ) : EReal))
    (hv421 : ∀ (r : Fin 128), (v421 (ix3 0 r 0) : EReal) = ((d.b 0 r : ℝ) : EReal)) :
    ∀ (r : Fin 128) (j : Fin 256), ((k0_pay98 (F := Ideal) v341 v403 v406 v407 v414 v418 v421) (ix2 r j) : EReal) = ((d.S 0 r j.val : ℝ) : EReal) := by
  intro r j
  pointwise [k0_pay98, hv341, hv403, hv406, hv407, hv414, hv418, hv421, L97 d e v341 v403 v406 v407 v414 hv341 hv403 hv406 hv407 hv414]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.S, Blk.VL, Blk.VH, Blk.VC]

theorem L99 (d : Blk) (e : Acc) (v425 : Vec Ideal S128x256 .f32)
    (hv425 : ∀ (r : Fin 128) (j : Fin 256), (v425 (ix2 r j) : EReal) = ((d.P r j.val : ℝ) : EReal)) :
    ∀ (r : Fin 128) (j : Fin 256), ((k0_pay99 (F := Ideal) v425) (ix2 r j) : EReal) = ((Real.tanh ((c0 * (d.P r j.val + ((((8943 / 200000) * d.P r j.val) * d.P r j.val) * d.P r j.val)))) : ℝ) : EReal) := by
  intro r j
  pointwise [k0_pay99, hv425]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L100 (d : Blk) (e : Acc) (v425 : Vec Ideal S128x256 .f32)
    (hv425 : ∀ (r : Fin 128) (j : Fin 256), (v425 (ix2 r j) : EReal) = ((d.P r j.val : ℝ) : EReal)) :
    ∀ (r : Fin 128) (j : Fin 256), ((k0_pay100 (F := Ideal) v425) (ix2 r j) : EReal) = ((d.U r j.val : ℝ) : EReal) := by
  intro r j
  pointwise [k0_pay100, hv425, L99 d e v425 hv425]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.U, gel, gt]

theorem L101 (d : Blk) (e : Acc) (v425 : Vec Ideal S128x256 .f32)
    (hv425 : ∀ (r : Fin 128) (j : Fin 256), (v425 (ix2 r j) : EReal) = ((d.P r j.val : ℝ) : EReal)) :
    ∀ (r : Fin 128) (j : Fin 256), ((k0_pay101 (F := Ideal) v425) (ix2 r j) : EReal) = ((((1 / 2) * (1 + Real.tanh ((c0 * (d.P r j.val + ((((8943 / 200000) * d.P r j.val) * d.P r j.val) * d.P r j.val)))))) : ℝ) : EReal) := by
  intro r j
  pointwise [k0_pay101, hv425, L99 d e v425 hv425]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L102 (d : Blk) (e : Acc) (v458 : Vec Ideal S128x256 .f32)
    (hv458 : ∀ (r : Fin 128) (j : Fin 256), (v458 (ix2 r j) : EReal) = ((d.P r (4096 + j.val) : ℝ) : EReal)) :
    ∀ (r : Fin 128) (j : Fin 256), ((k0_pay102 (F := Ideal) v458) (ix2 r j) : EReal) = (((((1 / 2) * Real.tanh (((1 / 2) * d.P r (4096 + j.val)))) + (1 / 2)) : ℝ) : EReal) := by
  intro r j
  pointwise [k0_pay102, hv458]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L103 (d : Blk) (e : Acc) (v458 : Vec Ideal S128x256 .f32)
    (hv458 : ∀ (r : Fin 128) (j : Fin 256), (v458 (ix2 r j) : EReal) = ((d.P r (4096 + j.val) : ℝ) : EReal)) :
    ∀ (r : Fin 128) (j : Fin 256), ((k0_pay103 (F := Ideal) v458) (ix2 r j) : EReal) = ((d.SG r j.val : ℝ) : EReal) := by
  intro r j
  pointwise [k0_pay103, hv458, L102 d e v458 hv458]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.SG, silu, sgm]

theorem L104 (d : Blk) (e : Acc) (v473 : Vec Ideal S128x256 .bf16)
    (hv473 : ∀ (r : Fin 128) (j : Fin 256), (v473 (ix2 r j) : EReal) = ((d.Y r j.val : ℝ) : EReal)) :
    ∀ (r : Fin 128) (j : Fin 256), ((k0_pay104 (F := Ideal) v473) (ix2 r j) : EReal) = ((d.Y r j.val : ℝ) : EReal) := by
  intro r j
  pointwise [k0_pay104, hv473]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L105 (d : Blk) (e : Acc) (v424 : FVec Ideal S128x256 .f32) (v425 : Vec Ideal S128x256 .f32) (v433 : FVec Ideal S128x256 .f32) (v442 : FVec Ideal S128x256 .f32) (v458 : Vec Ideal S128x256 .f32) (v473 : Vec Ideal S128x256 .bf16)
    (hv424 : ∀ (r : Fin 128) (j : Fin 256), (v424 (ix2 r j) : EReal) = ((d.S 0 r j.val : ℝ) : EReal))
    (hv425 : ∀ (r : Fin 128) (j : Fin 256), (v425 (ix2 r j) : EReal) = ((d.P r j.val : ℝ) : EReal))
    (hv433 : ∀ (r : Fin 128) (j : Fin 256), (v433 (ix2 r j) : EReal) = ((Real.tanh ((c0 * (d.P r j.val + ((((8943 / 200000) * d.P r j.val) * d.P r j.val) * d.P r j.val)))) : ℝ) : EReal))
    (hv442 : ∀ (r : Fin 128) (j : Fin 256), (v442 (ix2 r j) : EReal) = ((((1 / 2) * (1 + Real.tanh ((c0 * (d.P r j.val + ((((8943 / 200000) * d.P r j.val) * d.P r j.val) * d.P r j.val)))))) : ℝ) : EReal))
    (hv458 : ∀ (r : Fin 128) (j : Fin 256), (v458 (ix2 r j) : EReal) = ((d.P r (4096 + j.val) : ℝ) : EReal))
    (hv473 : ∀ (r : Fin 128) (j : Fin 256), (v473 (ix2 r j) : EReal) = ((d.Y r j.val : ℝ) : EReal)) :
    ∀ (r : Fin 128) (j : Fin 256), ((k0_pay105 (F := Ideal) v424 v425 v433 v442 (Scalar.ofBits .f32 0x3F000000#32 : Ideal .f32) v458 v473) (ix2 r j) : EReal) = ((d.DPU 0 r j.val : ℝ) : EReal) := by
  intro r j
  pointwise [k0_pay105, hv424, hv425, hv433, hv442, hv458, hv473, L104 d e v473 hv473, L103 d e v458 hv458]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPU, Blk.DU, dgel, gt]

theorem L106 (d : Blk) (e : Acc) (v424 : FVec Ideal S128x256 .f32) (v438 : FVec Ideal S128x256 .f32) (v458 : Vec Ideal S128x256 .f32) (v473 : Vec Ideal S128x256 .bf16)
    (hv424 : ∀ (r : Fin 128) (j : Fin 256), (v424 (ix2 r j) : EReal) = ((d.S 0 r j.val : ℝ) : EReal))
    (hv438 : ∀ (r : Fin 128) (j : Fin 256), (v438 (ix2 r j) : EReal) = ((d.U r j.val : ℝ) : EReal))
    (hv458 : ∀ (r : Fin 128) (j : Fin 256), (v458 (ix2 r j) : EReal) = ((d.P r (4096 + j.val) : ℝ) : EReal))
    (hv473 : ∀ (r : Fin 128) (j : Fin 256), (v473 (ix2 r j) : EReal) = ((d.Y r j.val : ℝ) : EReal)) :
    ∀ (r : Fin 128) (j : Fin 256), ((k0_pay106 (F := Ideal) v424 v438 v458 v473) (ix2 r j) : EReal) = ((d.DPG 0 r j.val : ℝ) : EReal) := by
  intro r j
  pointwise [k0_pay106, hv424, hv438, hv458, hv473, L102 d e v458 hv458, L104 d e v473 hv473]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPG, Blk.DSG, dsilu, sgm]

theorem L107 (d : Blk) (e : Acc) (v438 : FVec Ideal S128x256 .f32) (v466 : FVec Ideal S128x256 .f32) (v474 : FVec Ideal S128x256 .f32)
    (hv438 : ∀ (r : Fin 128) (j : Fin 256), (v438 (ix2 r j) : EReal) = ((d.U r j.val : ℝ) : EReal))
    (hv466 : ∀ (r : Fin 128) (j : Fin 256), (v466 (ix2 r j) : EReal) = ((d.SG r j.val : ℝ) : EReal))
    (hv474 : ∀ (r : Fin 128) (j : Fin 256), (v474 (ix2 r j) : EReal) = ((d.Y r j.val : ℝ) : EReal)) :
    ∀ (r : Fin 128) (j : Fin 256), ((k0_pay107 (F := Ideal) v438 v466 v474) (ix2 r j) : EReal) = ((d.DS r j.val : ℝ) : EReal) := by
  intro r j
  pointwise [k0_pay107, hv438, hv466, hv474]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L108 (d : Blk) (e : Acc) (v438 : FVec Ideal S128x256 .f32) (v466 : FVec Ideal S128x256 .f32) (v474 : FVec Ideal S128x256 .f32)
    (hv438 : ∀ (r : Fin 128) (j : Fin 256), (v438 (ix2 r j) : EReal) = ((d.U r j.val : ℝ) : EReal))
    (hv466 : ∀ (r : Fin 128) (j : Fin 256), (v466 (ix2 r j) : EReal) = ((d.SG r j.val : ℝ) : EReal))
    (hv474 : ∀ (r : Fin 128) (j : Fin 256), (v474 (ix2 r j) : EReal) = ((d.Y r j.val : ℝ) : EReal)) :
    ∀ (r : Fin 128) (j : Fin 256), ((k0_pay108 (F := Ideal) v438 v466 v474) (ix2 r j) : EReal) = ((d.DS r j.val : ℝ) : EReal) := by
  intro r j
  pointwise [k0_pay108, hv438, hv466, hv474, L107 d e v438 v466 v474 hv438 hv466 hv474]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L109 (d : Blk) (e : Acc) (v417 : FVec Ideal S128x256 .bf16) (v438 : FVec Ideal S128x256 .f32) (v466 : FVec Ideal S128x256 .f32) (v474 : FVec Ideal S128x256 .f32) (v488 : Vec Ideal S1x128x128 .f32)
    (hv417 : ∀ (r : Fin 128) (j : Fin 256), (v417 (ix2 r j) : EReal) = ((d.VL r j.val : ℝ) : EReal))
    (hv438 : ∀ (r : Fin 128) (j : Fin 256), (v438 (ix2 r j) : EReal) = ((d.U r j.val : ℝ) : EReal))
    (hv466 : ∀ (r : Fin 128) (j : Fin 256), (v466 (ix2 r j) : EReal) = ((d.SG r j.val : ℝ) : EReal))
    (hv474 : ∀ (r : Fin 128) (j : Fin 256), (v474 (ix2 r j) : EReal) = ((d.Y r j.val : ℝ) : EReal))
    (hv488 : ∀ (r : Fin 128) (b : Fin 128), (v488 (ix3 0 r b) : EReal) = ((e.A7 0 r b : ℝ) : EReal)) :
    ∀ (r : Fin 128) (b : Fin 128), ((k0_pay109 (F := Ideal) v417 v438 v466 v474 v488) (ix3 0 r b) : EReal) = ((e.A7 0 r b + d.DWS 0 r b : ℝ) : EReal) := by
  intro r b
  pointwise [k0_pay109, hv417, hv438, hv466, hv474, hv488, L108 d e v438 v466 v474 hv438 hv466 hv474]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DWS]

theorem L110 (d : Blk) (e : Acc) (v438 : FVec Ideal S128x256 .f32) (v466 : FVec Ideal S128x256 .f32) (v474 : FVec Ideal S128x256 .f32) (v495 : Vec Ideal S1x128x1 .f32)
    (hv438 : ∀ (r : Fin 128) (j : Fin 256), (v438 (ix2 r j) : EReal) = ((d.U r j.val : ℝ) : EReal))
    (hv466 : ∀ (r : Fin 128) (j : Fin 256), (v466 (ix2 r j) : EReal) = ((d.SG r j.val : ℝ) : EReal))
    (hv474 : ∀ (r : Fin 128) (j : Fin 256), (v474 (ix2 r j) : EReal) = ((d.Y r j.val : ℝ) : EReal))
    (hv495 : ∀ (r : Fin 128), (v495 (ix3 0 r 0) : EReal) = ((e.A8 0 r : ℝ) : EReal)) :
    ∀ (r : Fin 128), ((k0_pay110 (F := Ideal) v438 v466 v474 v495) (ix3 0 r 0) : EReal) = ((e.A8 0 r + d.DBS 0 r : ℝ) : EReal) := by
  intro r
  pointwise [k0_pay110, hv438, hv466, hv474, hv495, L107 d e v438 v466 v474 hv438 hv466 hv474]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DBS]

theorem L111 (d : Blk) (e : Acc) (v438 : FVec Ideal S128x256 .f32) (v466 : FVec Ideal S128x256 .f32) (v474 : FVec Ideal S128x256 .f32) (v503 : Vec Ideal S1x128x128 .bf16)
    (hv438 : ∀ (r : Fin 128) (j : Fin 256), (v438 (ix2 r j) : EReal) = ((d.U r j.val : ℝ) : EReal))
    (hv466 : ∀ (r : Fin 128) (j : Fin 256), (v466 (ix2 r j) : EReal) = ((d.SG r j.val : ℝ) : EReal))
    (hv474 : ∀ (r : Fin 128) (j : Fin 256), (v474 (ix2 r j) : EReal) = ((d.Y r j.val : ℝ) : EReal))
    (hv503 : ∀ (r : Fin 128) (b : Fin 128), (v503 (ix3 0 r b) : EReal) = ((d.W 0 r b : ℝ) : EReal)) :
    ∀ (r : Fin 128) (j : Fin 256), ((k0_pay111 (F := Ideal) v438 v466 v474 v503) (ix2 r j) : EReal) = ((d.DVL 0 r j.val : ℝ) : EReal) := by
  intro r j
  pointwise [k0_pay111, hv438, hv466, hv474, hv503, L108 d e v438 v466 v474 hv438 hv466 hv474]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVL]

theorem L112 (d : Blk) (e : Acc) (v411 : FVec Ideal S128x256 .f32) (v438 : FVec Ideal S128x256 .f32) (v466 : FVec Ideal S128x256 .f32) (v474 : FVec Ideal S128x256 .f32) (v503 : Vec Ideal S1x128x128 .bf16) (v506 : Vec Ideal S1x256 .f32)
    (hv411 : ∀ (r : Fin 128) (j : Fin 256), (v411 (ix2 r j) : EReal) = ((d.VH r j.val : ℝ) : EReal))
    (hv438 : ∀ (r : Fin 128) (j : Fin 256), (v438 (ix2 r j) : EReal) = ((d.U r j.val : ℝ) : EReal))
    (hv466 : ∀ (r : Fin 128) (j : Fin 256), (v466 (ix2 r j) : EReal) = ((d.SG r j.val : ℝ) : EReal))
    (hv474 : ∀ (r : Fin 128) (j : Fin 256), (v474 (ix2 r j) : EReal) = ((d.Y r j.val : ℝ) : EReal))
    (hv503 : ∀ (r : Fin 128) (b : Fin 128), (v503 (ix3 0 r b) : EReal) = ((d.W 0 r b : ℝ) : EReal))
    (hv506 : ∀ (j : Fin 256), (v506 (ix2 0 j) : EReal) = ((e.A9 j.val : ℝ) : EReal)) :
    ∀ (j : Fin 256), ((k0_pay112 (F := Ideal) v411 v438 v466 v474 v503 v506) (ix2 0 j) : EReal) = ((e.A9 j.val + d.DLG 0 j.val : ℝ) : EReal) := by
  intro j
  pointwise [k0_pay112, hv411, hv438, hv466, hv474, hv503, hv506, L111 d e v438 v466 v474 v503 hv438 hv466 hv474 hv503]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLG]

theorem L113 (d : Blk) (e : Acc) (v513 : Vec Ideal S1x256 .f32)
    (hv513 : ∀ (j : Fin 256), (v513 (ix2 0 j) : EReal) = ((e.A10 j.val : ℝ) : EReal)) :
    ∀ (j : Fin 256), ((k0_pay113 (F := Ideal) v513) (ix2 0 j) : EReal) = ((e.A10 j.val : ℝ) : EReal) := by
  intro j
  pointwise [k0_pay113, hv513]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L114 (d : Blk) (e : Acc) (v505 : FVec Ideal S128x256 .f32) (v514 : FVec Ideal S1x256 .f32)
    (hv505 : ∀ (r : Fin 128) (j : Fin 256), (v505 (ix2 r j) : EReal) = ((d.DVL 0 r j.val : ℝ) : EReal))
    (hv514 : ∀ (j : Fin 256), (v514 (ix2 0 j) : EReal) = ((e.A10 j.val : ℝ) : EReal)) :
    ∀ (j : Fin 256), ((k0_pay114 (F := Ideal) v505 v514) (ix2 0 j) : EReal) = ((e.A10 j.val + d.DLB 0 j.val : ℝ) : EReal) := by
  intro j
  pointwise [k0_pay114, hv505, hv514]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLB]

theorem L115 (d : Blk) (e : Acc) (v406 : Vec Ideal S1x256 .f32) (v505 : FVec Ideal S128x256 .f32)
    (hv406 : ∀ (j : Fin 256), (v406 (ix2 0 j) : EReal) = ((d.G j.val : ℝ) : EReal))
    (hv505 : ∀ (r : Fin 128) (j : Fin 256), (v505 (ix2 r j) : EReal) = ((d.DVL 0 r j.val : ℝ) : EReal)) :
    ∀ (r : Fin 128) (j : Fin 256), ((k0_pay115 (F := Ideal) v406 v505) (ix2 r j) : EReal) = ((d.DVH 0 r j.val : ℝ) : EReal) := by
  intro r j
  pointwise [k0_pay115, hv406, hv505]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L116 (d : Blk) (e : Acc) (v406 : Vec Ideal S1x256 .f32) (v505 : FVec Ideal S128x256 .f32)
    (hv406 : ∀ (j : Fin 256), (v406 (ix2 0 j) : EReal) = ((d.G j.val : ℝ) : EReal))
    (hv505 : ∀ (r : Fin 128) (j : Fin 256), (v505 (ix2 r j) : EReal) = ((d.DVL 0 r j.val : ℝ) : EReal)) :
    ∀ (r : Fin 128) (j : Fin 256), ((k0_pay116 (F := Ideal) v406 v505) (ix2 r j) : EReal) = ((d.DVH 0 r j.val : ℝ) : EReal) := by
  intro r j
  pointwise [k0_pay116, hv406, hv505, L115 d e v406 v505 hv406 hv505]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L117 (d : Blk) (e : Acc) (v404 : FVec Ideal S128x1 .f32) (v406 : Vec Ideal S1x256 .f32) (v505 : FVec Ideal S128x256 .f32)
    (hv404 : ∀ (r : Fin 128), (v404 (ix2 r 0) : EReal) = (((0 : ℝ) : ℝ) : EReal))
    (hv406 : ∀ (j : Fin 256), (v406 (ix2 0 j) : EReal) = ((d.G j.val : ℝ) : EReal))
    (hv505 : ∀ (r : Fin 128) (j : Fin 256), (v505 (ix2 r j) : EReal) = ((d.DVL 0 r j.val : ℝ) : EReal)) :
    ∀ (r : Fin 128), ((k0_pay117 (F := Ideal) v404 v406 v505) (ix2 r 0) : EReal) = ((Blk.psum (fun g => d.DVH g r) 1 : ℝ) : EReal) := by
  intro r
  pointwise [k0_pay117, hv404, hv406, hv505, L115 d e v406 v505 hv406 hv505]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L118 (d : Blk) (e : Acc) (v405 : FVec Ideal S128x1 .f32) (v406 : Vec Ideal S1x256 .f32) (v411 : FVec Ideal S128x256 .f32) (v505 : FVec Ideal S128x256 .f32)
    (hv405 : ∀ (r : Fin 128), (v405 (ix2 r 0) : EReal) = (((0 : ℝ) : ℝ) : EReal))
    (hv406 : ∀ (j : Fin 256), (v406 (ix2 0 j) : EReal) = ((d.G j.val : ℝ) : EReal))
    (hv411 : ∀ (r : Fin 128) (j : Fin 256), (v411 (ix2 r j) : EReal) = ((d.VH r j.val : ℝ) : EReal))
    (hv505 : ∀ (r : Fin 128) (j : Fin 256), (v505 (ix2 r j) : EReal) = ((d.DVL 0 r j.val : ℝ) : EReal)) :
    ∀ (r : Fin 128), ((k0_pay118 (F := Ideal) v405 v406 v411 v505) (ix2 r 0) : EReal) = ((Blk.psum (fun g c => d.DVH g r c * d.VH r c) 1 : ℝ) : EReal) := by
  intro r
  pointwise [k0_pay118, hv405, hv406, hv411, hv505, L115 d e v406 v505 hv406 hv505]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L119 (d : Blk) (e : Acc) (v341 : FVec Ideal S128x1 .f32) (v403 : FVec Ideal S128x1 .f32) (v532 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv532 : ∀ (r : Fin 128) (j : Fin 256), (v532 (ix2 r j) : EReal) = ((d.VG r (256 + j.val) : ℝ) : EReal)) :
    ∀ (r : Fin 128) (j : Fin 256), ((k0_pay119 (F := Ideal) v341 v403 v532) (ix2 r j) : EReal) = ((d.VH r (256 + j.val) : ℝ) : EReal) := by
  intro r j
  pointwise [k0_pay119, hv341, hv403, hv532]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VH, Blk.VC]

theorem L120 (d : Blk) (e : Acc) (v341 : FVec Ideal S128x1 .f32) (v403 : FVec Ideal S128x1 .f32) (v531 : Vec Ideal S1x256 .f32) (v532 : Vec Ideal S128x256 .f32) (v539 : Vec Ideal S1x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv531 : ∀ (j : Fin 256), (v531 (ix2 0 j) : EReal) = ((d.G (256 + j.val) : ℝ) : EReal))
    (hv532 : ∀ (r : Fin 128) (j : Fin 256), (v532 (ix2 r j) : EReal) = ((d.VG r (256 + j.val) : ℝ) : EReal))
    (hv539 : ∀ (j : Fin 256), (v539 (ix2 0 j) : EReal) = ((d.B (256 + j.val) : ℝ) : EReal)) :
    ∀ (r : Fin 128) (j : Fin 256), ((k0_pay120 (F := Ideal) v341 v403 v531 v532 v539) (ix2 r j) : EReal) = ((d.VL r (256 + j.val) : ℝ) : EReal) := by
  intro r j
  pointwise [k0_pay120, hv341, hv403, hv531, hv532, hv539, L119 d e v341 v403 v532 hv341 hv403 hv532]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VL, Blk.VH, Blk.VC]

theorem L121 (d : Blk) (e : Acc) (v341 : FVec Ideal S128x1 .f32) (v403 : FVec Ideal S128x1 .f32) (v531 : Vec Ideal S1x256 .f32) (v532 : Vec Ideal S128x256 .f32) (v539 : Vec Ideal S1x256 .f32) (v543 : Vec Ideal S1x128x128 .bf16) (v546 : Vec Ideal S1x128x1 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv531 : ∀ (j : Fin 256), (v531 (ix2 0 j) : EReal) = ((d.G (256 + j.val) : ℝ) : EReal))
    (hv532 : ∀ (r : Fin 128) (j : Fin 256), (v532 (ix2 r j) : EReal) = ((d.VG r (256 + j.val) : ℝ) : EReal))
    (hv539 : ∀ (j : Fin 256), (v539 (ix2 0 j) : EReal) = ((d.B (256 + j.val) : ℝ) : EReal))
    (hv543 : ∀ (r : Fin 128) (b : Fin 128), (v543 (ix3 0 r b) : EReal) = ((d.W 1 r b : ℝ) : EReal))
    (hv546 : ∀ (r : Fin 128), (v546 (ix3 0 r 0) : EReal) = ((d.b 1 r : ℝ) : EReal)) :
    ∀ (r : Fin 128) (j : Fin 256), ((k0_pay121 (F := Ideal) v341 v403 v531 v532 v539 v543 v546) (ix2 r j) : EReal) = ((d.S 1 r (256 + j.val) : ℝ) : EReal) := by
  intro r j
  pointwise [k0_pay121, hv341, hv403, hv531, hv532, hv539, hv543, hv546, L120 d e v341 v403 v531 v532 v539 hv341 hv403 hv531 hv532 hv539]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.S, Blk.VL, Blk.VH, Blk.VC]

theorem L122 (d : Blk) (e : Acc) (v550 : Vec Ideal S128x256 .f32)
    (hv550 : ∀ (r : Fin 128) (j : Fin 256), (v550 (ix2 r j) : EReal) = ((d.P r (256 + j.val) : ℝ) : EReal)) :
    ∀ (r : Fin 128) (j : Fin 256), ((k0_pay122 (F := Ideal) v550 (Named.named κ "gelu_c1" 0x3D372713#32 : Ideal .f32)) (ix2 r j) : EReal) = ((Real.tanh ((c0 * (d.P r (256 + j.val) + ((((8943 / 200000) * d.P r (256 + j.val)) * d.P r (256 + j.val)) * d.P r (256 + j.val))))) : ℝ) : EReal) := by
  intro r j
  pointwise [k0_pay122, hv550]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L123 (d : Blk) (e : Acc) (v550 : Vec Ideal S128x256 .f32)
    (hv550 : ∀ (r : Fin 128) (j : Fin 256), (v550 (ix2 r j) : EReal) = ((d.P r (256 + j.val) : ℝ) : EReal)) :
    ∀ (r : Fin 128) (j : Fin 256), ((k0_pay123 (F := Ideal) v550 (Named.named κ "gelu_c1" 0x3D372713#32 : Ideal .f32)) (ix2 r j) : EReal) = ((d.U r (256 + j.val) : ℝ) : EReal) := by
  intro r j
  pointwise [k0_pay123, hv550, L122 d e v550 hv550]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.U, gel, gt]

theorem L124 (d : Blk) (e : Acc) (v550 : Vec Ideal S128x256 .f32)
    (hv550 : ∀ (r : Fin 128) (j : Fin 256), (v550 (ix2 r j) : EReal) = ((d.P r (256 + j.val) : ℝ) : EReal)) :
    ∀ (r : Fin 128) (j : Fin 256), ((k0_pay124 (F := Ideal) v550 (Named.named κ "gelu_c1" 0x3D372713#32 : Ideal .f32)) (ix2 r j) : EReal) = ((d.DU r (256 + j.val) : ℝ) : EReal) := by
  intro r j
  pointwise [k0_pay124, hv550, L122 d e v550 hv550]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DU, dgel, gt]

theorem L125 (d : Blk) (e : Acc) (v583 : Vec Ideal S128x256 .f32)
    (hv583 : ∀ (r : Fin 128) (j : Fin 256), (v583 (ix2 r j) : EReal) = ((d.P r (4352 + j.val) : ℝ) : EReal)) :
    ∀ (r : Fin 128) (j : Fin 256), ((k0_pay125 (F := Ideal) v583) (ix2 r j) : EReal) = (((((1 / 2) * Real.tanh (((1 / 2) * d.P r (4352 + j.val)))) + (1 / 2)) : ℝ) : EReal) := by
  intro r j
  pointwise [k0_pay125, hv583]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L126 (d : Blk) (e : Acc) (v583 : Vec Ideal S128x256 .f32)
    (hv583 : ∀ (r : Fin 128) (j : Fin 256), (v583 (ix2 r j) : EReal) = ((d.P r (4352 + j.val) : ℝ) : EReal)) :
    ∀ (r : Fin 128) (j : Fin 256), ((k0_pay126 (F := Ideal) v583) (ix2 r j) : EReal) = ((d.SG r (256 + j.val) : ℝ) : EReal) := by
  intro r j
  pointwise [k0_pay126, hv583, L125 d e v583 hv583]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.SG, silu, sgm]

theorem L127 (d : Blk) (e : Acc) (v583 : Vec Ideal S128x256 .f32)
    (hv583 : ∀ (r : Fin 128) (j : Fin 256), (v583 (ix2 r j) : EReal) = ((d.P r (4352 + j.val) : ℝ) : EReal)) :
    ∀ (r : Fin 128) (j : Fin 256), ((k0_pay127 (F := Ideal) v583) (ix2 r j) : EReal) = (((d.P r (4352 + j.val) * (1 - (((1 / 2) * Real.tanh (((1 / 2) * d.P r (4352 + j.val)))) + (1 / 2)))) : ℝ) : EReal) := by
  intro r j
  pointwise [k0_pay127, hv583, L125 d e v583 hv583]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L128 (d : Blk) (e : Acc) (v598 : Vec Ideal S128x256 .bf16)
    (hv598 : ∀ (r : Fin 128) (j : Fin 256), (v598 (ix2 r j) : EReal) = ((d.Y r (256 + j.val) : ℝ) : EReal)) :
    ∀ (r : Fin 128) (j : Fin 256), ((k0_pay128 (F := Ideal) v598) (ix2 r j) : EReal) = ((d.Y r (256 + j.val) : ℝ) : EReal) := by
  intro r j
  pointwise [k0_pay128, hv598]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L129 (d : Blk) (e : Acc) (v549 : FVec Ideal S128x256 .f32) (v582 : FVec Ideal S128x256 .f32) (v591 : FVec Ideal S128x256 .f32) (v598 : Vec Ideal S128x256 .bf16)
    (hv549 : ∀ (r : Fin 128) (j : Fin 256), (v549 (ix2 r j) : EReal) = ((d.S 1 r (256 + j.val) : ℝ) : EReal))
    (hv582 : ∀ (r : Fin 128) (j : Fin 256), (v582 (ix2 r j) : EReal) = ((d.DU r (256 + j.val) : ℝ) : EReal))
    (hv591 : ∀ (r : Fin 128) (j : Fin 256), (v591 (ix2 r j) : EReal) = ((d.SG r (256 + j.val) : ℝ) : EReal))
    (hv598 : ∀ (r : Fin 128) (j : Fin 256), (v598 (ix2 r j) : EReal) = ((d.Y r (256 + j.val) : ℝ) : EReal)) :
    ∀ (r : Fin 128) (j : Fin 256), ((k0_pay129 (F := Ideal) v549 v582 v591 v598) (ix2 r j) : EReal) = ((d.DPU 1 r (256 + j.val) : ℝ) : EReal) := by
  intro r j
  pointwise [k0_pay129, hv549, hv582, hv591, hv598, L128 d e v598 hv598]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPU]

theorem L130 (d : Blk) (e : Acc) (v549 : FVec Ideal S128x256 .f32) (v563 : FVec Ideal S128x256 .f32) (v590 : FVec Ideal S128x256 .f32) (v594 : FVec Ideal S128x256 .f32) (v598 : Vec Ideal S128x256 .bf16)
    (hv549 : ∀ (r : Fin 128) (j : Fin 256), (v549 (ix2 r j) : EReal) = ((d.S 1 r (256 + j.val) : ℝ) : EReal))
    (hv563 : ∀ (r : Fin 128) (j : Fin 256), (v563 (ix2 r j) : EReal) = ((d.U r (256 + j.val) : ℝ) : EReal))
    (hv590 : ∀ (r : Fin 128) (j : Fin 256), (v590 (ix2 r j) : EReal) = (((((1 / 2) * Real.tanh (((1 / 2) * d.P r (4352 + j.val)))) + (1 / 2)) : ℝ) : EReal))
    (hv594 : ∀ (r : Fin 128) (j : Fin 256), (v594 (ix2 r j) : EReal) = (((d.P r (4352 + j.val) * (1 - (((1 / 2) * Real.tanh (((1 / 2) * d.P r (4352 + j.val)))) + (1 / 2)))) : ℝ) : EReal))
    (hv598 : ∀ (r : Fin 128) (j : Fin 256), (v598 (ix2 r j) : EReal) = ((d.Y r (256 + j.val) : ℝ) : EReal)) :
    ∀ (r : Fin 128) (j : Fin 256), ((k0_pay130 (F := Ideal) v549 v563 v590 v594 v598) (ix2 r j) : EReal) = ((d.DPG 1 r (256 + j.val) : ℝ) : EReal) := by
  intro r j
  pointwise [k0_pay130, hv549, hv563, hv590, hv594, hv598, L128 d e v598 hv598]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPG, Blk.DSG, dsilu, sgm]

theorem L131 (d : Blk) (e : Acc) (v563 : FVec Ideal S128x256 .f32) (v591 : FVec Ideal S128x256 .f32) (v598 : Vec Ideal S128x256 .bf16)
    (hv563 : ∀ (r : Fin 128) (j : Fin 256), (v563 (ix2 r j) : EReal) = ((d.U r (256 + j.val) : ℝ) : EReal))
    (hv591 : ∀ (r : Fin 128) (j : Fin 256), (v591 (ix2 r j) : EReal) = ((d.SG r (256 + j.val) : ℝ) : EReal))
    (hv598 : ∀ (r : Fin 128) (j : Fin 256), (v598 (ix2 r j) : EReal) = ((d.Y r (256 + j.val) : ℝ) : EReal)) :
    ∀ (r : Fin 128) (j : Fin 256), ((k0_pay131 (F := Ideal) v563 v591 v598) (ix2 r j) : EReal) = ((d.DS r (256 + j.val) : ℝ) : EReal) := by
  intro r j
  pointwise [k0_pay131, hv563, hv591, hv598, L128 d e v598 hv598]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L132 (d : Blk) (e : Acc) (v563 : FVec Ideal S128x256 .f32) (v591 : FVec Ideal S128x256 .f32) (v598 : Vec Ideal S128x256 .bf16)
    (hv563 : ∀ (r : Fin 128) (j : Fin 256), (v563 (ix2 r j) : EReal) = ((d.U r (256 + j.val) : ℝ) : EReal))
    (hv591 : ∀ (r : Fin 128) (j : Fin 256), (v591 (ix2 r j) : EReal) = ((d.SG r (256 + j.val) : ℝ) : EReal))
    (hv598 : ∀ (r : Fin 128) (j : Fin 256), (v598 (ix2 r j) : EReal) = ((d.Y r (256 + j.val) : ℝ) : EReal)) :
    ∀ (r : Fin 128) (j : Fin 256), ((k0_pay132 (F := Ideal) v563 v591 v598) (ix2 r j) : EReal) = ((d.DS r (256 + j.val) : ℝ) : EReal) := by
  intro r j
  pointwise [k0_pay132, hv563, hv591, hv598, L131 d e v563 v591 v598 hv563 hv591 hv598]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L133 (d : Blk) (e : Acc) (v542 : FVec Ideal S128x256 .bf16) (v563 : FVec Ideal S128x256 .f32) (v591 : FVec Ideal S128x256 .f32) (v598 : Vec Ideal S128x256 .bf16) (v613 : Vec Ideal S1x128x128 .f32)
    (hv542 : ∀ (r : Fin 128) (j : Fin 256), (v542 (ix2 r j) : EReal) = ((d.VL r (256 + j.val) : ℝ) : EReal))
    (hv563 : ∀ (r : Fin 128) (j : Fin 256), (v563 (ix2 r j) : EReal) = ((d.U r (256 + j.val) : ℝ) : EReal))
    (hv591 : ∀ (r : Fin 128) (j : Fin 256), (v591 (ix2 r j) : EReal) = ((d.SG r (256 + j.val) : ℝ) : EReal))
    (hv598 : ∀ (r : Fin 128) (j : Fin 256), (v598 (ix2 r j) : EReal) = ((d.Y r (256 + j.val) : ℝ) : EReal))
    (hv613 : ∀ (r : Fin 128) (b : Fin 128), (v613 (ix3 0 r b) : EReal) = ((e.A7 1 r b : ℝ) : EReal)) :
    ∀ (r : Fin 128) (b : Fin 128), ((k0_pay133 (F := Ideal) v542 v563 v591 v598 v613) (ix3 0 r b) : EReal) = ((e.A7 1 r b + d.DWS 1 r b : ℝ) : EReal) := by
  intro r b
  pointwise [k0_pay133, hv542, hv563, hv591, hv598, hv613, L132 d e v563 v591 v598 hv563 hv591 hv598]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DWS]

theorem L134 (d : Blk) (e : Acc) (v563 : FVec Ideal S128x256 .f32) (v591 : FVec Ideal S128x256 .f32) (v598 : Vec Ideal S128x256 .bf16) (v620 : Vec Ideal S1x128x1 .f32)
    (hv563 : ∀ (r : Fin 128) (j : Fin 256), (v563 (ix2 r j) : EReal) = ((d.U r (256 + j.val) : ℝ) : EReal))
    (hv591 : ∀ (r : Fin 128) (j : Fin 256), (v591 (ix2 r j) : EReal) = ((d.SG r (256 + j.val) : ℝ) : EReal))
    (hv598 : ∀ (r : Fin 128) (j : Fin 256), (v598 (ix2 r j) : EReal) = ((d.Y r (256 + j.val) : ℝ) : EReal))
    (hv620 : ∀ (r : Fin 128), (v620 (ix3 0 r 0) : EReal) = ((e.A8 1 r : ℝ) : EReal)) :
    ∀ (r : Fin 128), ((k0_pay134 (F := Ideal) v563 v591 v598 v620) (ix3 0 r 0) : EReal) = ((e.A8 1 r + d.DBS 1 r : ℝ) : EReal) := by
  intro r
  pointwise [k0_pay134, hv563, hv591, hv598, hv620, L131 d e v563 v591 v598 hv563 hv591 hv598]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DBS]

theorem L135 (d : Blk) (e : Acc) (v612 : FVec Ideal S128x256 .bf16) (v628 : Vec Ideal S1x128x128 .bf16)
    (hv612 : ∀ (r : Fin 128) (j : Fin 256), (v612 (ix2 r j) : EReal) = ((d.DS r (256 + j.val) : ℝ) : EReal))
    (hv628 : ∀ (r : Fin 128) (b : Fin 128), (v628 (ix3 0 r b) : EReal) = ((d.W 1 r b : ℝ) : EReal)) :
    ∀ (r : Fin 128) (j : Fin 256), ((k0_pay135 (F := Ideal) v612 v628) (ix2 r j) : EReal) = ((d.DVL 1 r (256 + j.val) : ℝ) : EReal) := by
  intro r j
  pointwise [k0_pay135, hv612, hv628]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVL]

theorem L136 (d : Blk) (e : Acc) (v536 : FVec Ideal S128x256 .f32) (v612 : FVec Ideal S128x256 .bf16) (v628 : Vec Ideal S1x128x128 .bf16) (v631 : Vec Ideal S1x256 .f32)
    (hv536 : ∀ (r : Fin 128) (j : Fin 256), (v536 (ix2 r j) : EReal) = ((d.VH r (256 + j.val) : ℝ) : EReal))
    (hv612 : ∀ (r : Fin 128) (j : Fin 256), (v612 (ix2 r j) : EReal) = ((d.DS r (256 + j.val) : ℝ) : EReal))
    (hv628 : ∀ (r : Fin 128) (b : Fin 128), (v628 (ix3 0 r b) : EReal) = ((d.W 1 r b : ℝ) : EReal))
    (hv631 : ∀ (j : Fin 256), (v631 (ix2 0 j) : EReal) = ((e.A9 (256 + j.val) : ℝ) : EReal)) :
    ∀ (j : Fin 256), ((k0_pay136 (F := Ideal) v536 v612 v628 v631) (ix2 0 j) : EReal) = ((e.A9 (256 + j.val) + d.DLG 1 (256 + j.val) : ℝ) : EReal) := by
  intro j
  pointwise [k0_pay136, hv536, hv612, hv628, hv631, L135 d e v612 v628 hv612 hv628]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLG]

theorem L137 (d : Blk) (e : Acc) (v612 : FVec Ideal S128x256 .bf16) (v628 : Vec Ideal S1x128x128 .bf16) (v638 : Vec Ideal S1x256 .f32)
    (hv612 : ∀ (r : Fin 128) (j : Fin 256), (v612 (ix2 r j) : EReal) = ((d.DS r (256 + j.val) : ℝ) : EReal))
    (hv628 : ∀ (r : Fin 128) (b : Fin 128), (v628 (ix3 0 r b) : EReal) = ((d.W 1 r b : ℝ) : EReal))
    (hv638 : ∀ (j : Fin 256), (v638 (ix2 0 j) : EReal) = ((e.A10 (256 + j.val) : ℝ) : EReal)) :
    ∀ (j : Fin 256), ((k0_pay137 (F := Ideal) v612 v628 v638) (ix2 0 j) : EReal) = ((e.A10 (256 + j.val) + d.DLB 1 (256 + j.val) : ℝ) : EReal) := by
  intro j
  pointwise [k0_pay137, hv612, hv628, hv638, L135 d e v612 v628 hv612 hv628]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLB]

theorem L138 (d : Blk) (e : Acc) (v531 : Vec Ideal S1x256 .f32) (v612 : FVec Ideal S128x256 .bf16) (v628 : Vec Ideal S1x128x128 .bf16)
    (hv531 : ∀ (j : Fin 256), (v531 (ix2 0 j) : EReal) = ((d.G (256 + j.val) : ℝ) : EReal))
    (hv612 : ∀ (r : Fin 128) (j : Fin 256), (v612 (ix2 r j) : EReal) = ((d.DS r (256 + j.val) : ℝ) : EReal))
    (hv628 : ∀ (r : Fin 128) (b : Fin 128), (v628 (ix3 0 r b) : EReal) = ((d.W 1 r b : ℝ) : EReal)) :
    ∀ (r : Fin 128) (j : Fin 256), ((k0_pay138 (F := Ideal) v531 v612 v628) (ix2 r j) : EReal) = ((d.DVH 1 r (256 + j.val) : ℝ) : EReal) := by
  intro r j
  pointwise [k0_pay138, hv531, hv612, hv628, L135 d e v612 v628 hv612 hv628]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L139 (d : Blk) (e : Acc) (v531 : Vec Ideal S1x256 .f32) (v612 : FVec Ideal S128x256 .bf16) (v628 : Vec Ideal S1x128x128 .bf16)
    (hv531 : ∀ (j : Fin 256), (v531 (ix2 0 j) : EReal) = ((d.G (256 + j.val) : ℝ) : EReal))
    (hv612 : ∀ (r : Fin 128) (j : Fin 256), (v612 (ix2 r j) : EReal) = ((d.DS r (256 + j.val) : ℝ) : EReal))
    (hv628 : ∀ (r : Fin 128) (b : Fin 128), (v628 (ix3 0 r b) : EReal) = ((d.W 1 r b : ℝ) : EReal)) :
    ∀ (r : Fin 128) (j : Fin 256), ((k0_pay139 (F := Ideal) v531 v612 v628) (ix2 r j) : EReal) = ((d.DVH 1 r (256 + j.val) : ℝ) : EReal) := by
  intro r j
  pointwise [k0_pay139, hv531, hv612, hv628, L138 d e v531 v612 v628 hv531 hv612 hv628]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L140 (d : Blk) (e : Acc) (v526 : FVec Ideal S128x1 .f32) (v531 : Vec Ideal S1x256 .f32) (v612 : FVec Ideal S128x256 .bf16) (v628 : Vec Ideal S1x128x128 .bf16)
    (hv526 : ∀ (r : Fin 128), (v526 (ix2 r 0) : EReal) = ((Blk.psum (fun g => d.DVH g r) 1 : ℝ) : EReal))
    (hv531 : ∀ (j : Fin 256), (v531 (ix2 0 j) : EReal) = ((d.G (256 + j.val) : ℝ) : EReal))
    (hv612 : ∀ (r : Fin 128) (j : Fin 256), (v612 (ix2 r j) : EReal) = ((d.DS r (256 + j.val) : ℝ) : EReal))
    (hv628 : ∀ (r : Fin 128) (b : Fin 128), (v628 (ix3 0 r b) : EReal) = ((d.W 1 r b : ℝ) : EReal)) :
    ∀ (r : Fin 128), ((k0_pay140 (F := Ideal) v526 v531 v612 v628) (ix2 r 0) : EReal) = ((Blk.psum (fun g => d.DVH g r) 2 : ℝ) : EReal) := by
  intro r
  pointwise [k0_pay140, hv526, hv531, hv612, hv628, L138 d e v531 v612 v628 hv531 hv612 hv628]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L141 (d : Blk) (e : Acc) (v530 : FVec Ideal S128x1 .f32) (v531 : Vec Ideal S1x256 .f32) (v536 : FVec Ideal S128x256 .f32) (v612 : FVec Ideal S128x256 .bf16) (v628 : Vec Ideal S1x128x128 .bf16)
    (hv530 : ∀ (r : Fin 128), (v530 (ix2 r 0) : EReal) = ((Blk.psum (fun g c => d.DVH g r c * d.VH r c) 1 : ℝ) : EReal))
    (hv531 : ∀ (j : Fin 256), (v531 (ix2 0 j) : EReal) = ((d.G (256 + j.val) : ℝ) : EReal))
    (hv536 : ∀ (r : Fin 128) (j : Fin 256), (v536 (ix2 r j) : EReal) = ((d.VH r (256 + j.val) : ℝ) : EReal))
    (hv612 : ∀ (r : Fin 128) (j : Fin 256), (v612 (ix2 r j) : EReal) = ((d.DS r (256 + j.val) : ℝ) : EReal))
    (hv628 : ∀ (r : Fin 128) (b : Fin 128), (v628 (ix3 0 r b) : EReal) = ((d.W 1 r b : ℝ) : EReal)) :
    ∀ (r : Fin 128), ((k0_pay141 (F := Ideal) v530 v531 v536 v612 v628) (ix2 r 0) : EReal) = ((Blk.psum (fun g c => d.DVH g r c * d.VH r c) 2 : ℝ) : EReal) := by
  intro r
  pointwise [k0_pay141, hv530, hv531, hv536, hv612, hv628, L138 d e v531 v612 v628 hv531 hv612 hv628]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L142 (d : Blk) (e : Acc) (v341 : FVec Ideal S128x1 .f32) (v403 : FVec Ideal S128x1 .f32) (v657 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv657 : ∀ (r : Fin 128) (j : Fin 256), (v657 (ix2 r j) : EReal) = ((d.VG r (512 + j.val) : ℝ) : EReal)) :
    ∀ (r : Fin 128) (j : Fin 256), ((k0_pay142 (F := Ideal) v341 v403 v657) (ix2 r j) : EReal) = ((d.VH r (512 + j.val) : ℝ) : EReal) := by
  intro r j
  pointwise [k0_pay142, hv341, hv403, hv657]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VH, Blk.VC]

theorem L143 (d : Blk) (e : Acc) (v341 : FVec Ideal S128x1 .f32) (v403 : FVec Ideal S128x1 .f32) (v656 : Vec Ideal S1x256 .f32) (v657 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv656 : ∀ (j : Fin 256), (v656 (ix2 0 j) : EReal) = ((d.G (512 + j.val) : ℝ) : EReal))
    (hv657 : ∀ (r : Fin 128) (j : Fin 256), (v657 (ix2 r j) : EReal) = ((d.VG r (512 + j.val) : ℝ) : EReal)) :
    ∀ (r : Fin 128) (j : Fin 256), ((k0_pay143 (F := Ideal) v341 v403 v656 v657) (ix2 r j) : EReal) = (((d.VH r (512 + j.val) * d.G (512 + j.val)) : ℝ) : EReal) := by
  intro r j
  pointwise [k0_pay143, hv341, hv403, hv656, hv657, L142 d e v341 v403 v657 hv341 hv403 hv657]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L144 (d : Blk) (e : Acc) (v663 : FVec Ideal S128x256 .f32) (v664 : Vec Ideal S1x256 .f32)
    (hv663 : ∀ (r : Fin 128) (j : Fin 256), (v663 (ix2 r j) : EReal) = (((d.VH r (512 + j.val) * d.G (512 + j.val)) : ℝ) : EReal))
    (hv664 : ∀ (j : Fin 256), (v664 (ix2 0 j) : EReal) = ((d.B (512 + j.val) : ℝ) : EReal)) :
    ∀ (r : Fin 128) (j : Fin 256), ((k0_pay144 (F := Ideal) v663 v664) (ix2 r j) : EReal) = ((d.VL r (512 + j.val) : ℝ) : EReal) := by
  intro r j
  pointwise [k0_pay144, hv663, hv664]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VL, Blk.VH, Blk.VC]

theorem L145 (d : Blk) (e : Acc) (v663 : FVec Ideal S128x256 .f32) (v664 : Vec Ideal S1x256 .f32) (v668 : Vec Ideal S1x128x128 .bf16) (v671 : Vec Ideal S1x128x1 .f32)
    (hv663 : ∀ (r : Fin 128) (j : Fin 256), (v663 (ix2 r j) : EReal) = (((d.VH r (512 + j.val) * d.G (512 + j.val)) : ℝ) : EReal))
    (hv664 : ∀ (j : Fin 256), (v664 (ix2 0 j) : EReal) = ((d.B (512 + j.val) : ℝ) : EReal))
    (hv668 : ∀ (r : Fin 128) (b : Fin 128), (v668 (ix3 0 r b) : EReal) = ((d.W 2 r b : ℝ) : EReal))
    (hv671 : ∀ (r : Fin 128), (v671 (ix3 0 r 0) : EReal) = ((d.b 2 r : ℝ) : EReal)) :
    ∀ (r : Fin 128) (j : Fin 256), ((k0_pay145 (F := Ideal) v663 v664 v668 v671) (ix2 r j) : EReal) = ((d.S 2 r (512 + j.val) : ℝ) : EReal) := by
  intro r j
  pointwise [k0_pay145, hv663, hv664, hv668, hv671, L144 d e v663 v664 hv663 hv664]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.S, Blk.VL, Blk.VH, Blk.VC]

theorem L146 (d : Blk) (e : Acc) (v675 : Vec Ideal S128x256 .f32)
    (hv675 : ∀ (r : Fin 128) (j : Fin 256), (v675 (ix2 r j) : EReal) = ((d.P r (512 + j.val) : ℝ) : EReal)) :
    ∀ (r : Fin 128) (j : Fin 256), ((k0_pay146 (F := Ideal) v675) (ix2 r j) : EReal) = ((Real.tanh ((c0 * (d.P r (512 + j.val) + ((((8943 / 200000) * d.P r (512 + j.val)) * d.P r (512 + j.val)) * d.P r (512 + j.val))))) : ℝ) : EReal) := by
  intro r j
  pointwise [k0_pay146, hv675]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L147 (d : Blk) (e : Acc) (v675 : Vec Ideal S128x256 .f32)
    (hv675 : ∀ (r : Fin 128) (j : Fin 256), (v675 (ix2 r j) : EReal) = ((d.P r (512 + j.val) : ℝ) : EReal)) :
    ∀ (r : Fin 128) (j : Fin 256), ((k0_pay147 (F := Ideal) v675) (ix2 r j) : EReal) = ((d.U r (512 + j.val) : ℝ) : EReal) := by
  intro r j
  pointwise [k0_pay147, hv675, L146 d e v675 hv675]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.U, gel, gt]

theorem L148 (d : Blk) (e : Acc) (v675 : Vec Ideal S128x256 .f32)
    (hv675 : ∀ (r : Fin 128) (j : Fin 256), (v675 (ix2 r j) : EReal) = ((d.P r (512 + j.val) : ℝ) : EReal)) :
    ∀ (r : Fin 128) (j : Fin 256), ((k0_pay148 (F := Ideal) v675) (ix2 r j) : EReal) = ((((1 / 2) * (1 + Real.tanh ((c0 * (d.P r (512 + j.val) + ((((8943 / 200000) * d.P r (512 + j.val)) * d.P r (512 + j.val)) * d.P r (512 + j.val))))))) : ℝ) : EReal) := by
  intro r j
  pointwise [k0_pay148, hv675, L146 d e v675 hv675]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L149 (d : Blk) (e : Acc) (v675 : Vec Ideal S128x256 .f32)
    (hv675 : ∀ (r : Fin 128) (j : Fin 256), (v675 (ix2 r j) : EReal) = ((d.P r (512 + j.val) : ℝ) : EReal)) :
    ∀ (r : Fin 128) (j : Fin 256), ((k0_pay149 (F := Ideal) v675) (ix2 r j) : EReal) = (((((1 / 2) * d.P r (512 + j.val)) * (1 - (Real.tanh ((c0 * (d.P r (512 + j.val) + ((((8943 / 200000) * d.P r (512 + j.val)) * d.P r (512 + j.val)) * d.P r (512 + j.val))))) * Real.tanh ((c0 * (d.P r (512 + j.val) + ((((8943 / 200000) * d.P r (512 + j.val)) * d.P r (512 + j.val)) * d.P r (512 + j.val)))))))) : ℝ) : EReal) := by
  intro r j
  pointwise [k0_pay149, hv675, L146 d e v675 hv675]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L150 (d : Blk) (e : Acc) (v675 : Vec Ideal S128x256 .f32)
    (hv675 : ∀ (r : Fin 128) (j : Fin 256), (v675 (ix2 r j) : EReal) = ((d.P r (512 + j.val) : ℝ) : EReal)) :
    ∀ (r : Fin 128) (j : Fin 256), ((k0_pay150 (F := Ideal) v675) (ix2 r j) : EReal) = (((1 + (((26829 / 200000) * d.P r (512 + j.val)) * d.P r (512 + j.val))) : ℝ) : EReal) := by
  intro r j
  pointwise [k0_pay150, hv675]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L151 (d : Blk) (e : Acc) (v708 : Vec Ideal S128x256 .f32)
    (hv708 : ∀ (r : Fin 128) (j : Fin 256), (v708 (ix2 r j) : EReal) = ((d.P r (4608 + j.val) : ℝ) : EReal)) :
    ∀ (r : Fin 128) (j : Fin 256), ((k0_pay151 (F := Ideal) v708) (ix2 r j) : EReal) = (((((1 / 2) * Real.tanh (((1 / 2) * d.P r (4608 + j.val)))) + (1 / 2)) : ℝ) : EReal) := by
  intro r j
  pointwise [k0_pay151, hv708]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L152 (d : Blk) (e : Acc) (v708 : Vec Ideal S128x256 .f32)
    (hv708 : ∀ (r : Fin 128) (j : Fin 256), (v708 (ix2 r j) : EReal) = ((d.P r (4608 + j.val) : ℝ) : EReal)) :
    ∀ (r : Fin 128) (j : Fin 256), ((k0_pay152 (F := Ideal) v708) (ix2 r j) : EReal) = ((d.SG r (512 + j.val) : ℝ) : EReal) := by
  intro r j
  pointwise [k0_pay152, hv708, L151 d e v708 hv708]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.SG, silu, sgm]

theorem L153 (d : Blk) (e : Acc) (v723 : Vec Ideal S128x256 .bf16)
    (hv723 : ∀ (r : Fin 128) (j : Fin 256), (v723 (ix2 r j) : EReal) = ((d.Y r (512 + j.val) : ℝ) : EReal)) :
    ∀ (r : Fin 128) (j : Fin 256), ((k0_pay153 (F := Ideal) v723) (ix2 r j) : EReal) = ((d.Y r (512 + j.val) : ℝ) : EReal) := by
  intro r j
  pointwise [k0_pay153, hv723]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L154 (d : Blk) (e : Acc) (v674 : FVec Ideal S128x256 .f32) (v692 : FVec Ideal S128x256 .f32) (v698 : FVec Ideal S128x256 .f32) (v703 : FVec Ideal S128x256 .f32) (v708 : Vec Ideal S128x256 .f32) (v723 : Vec Ideal S128x256 .bf16)
    (hv674 : ∀ (r : Fin 128) (j : Fin 256), (v674 (ix2 r j) : EReal) = ((d.S 2 r (512 + j.val) : ℝ) : EReal))
    (hv692 : ∀ (r : Fin 128) (j : Fin 256), (v692 (ix2 r j) : EReal) = ((((1 / 2) * (1 + Real.tanh ((c0 * (d.P r (512 + j.val) + ((((8943 / 200000) * d.P r (512 + j.val)) * d.P r (512 + j.val)) * d.P r (512 + j.val))))))) : ℝ) : EReal))
    (hv698 : ∀ (r : Fin 128) (j : Fin 256), (v698 (ix2 r j) : EReal) = (((((1 / 2) * d.P r (512 + j.val)) * (1 - (Real.tanh ((c0 * (d.P r (512 + j.val) + ((((8943 / 200000) * d.P r (512 + j.val)) * d.P r (512 + j.val)) * d.P r (512 + j.val))))) * Real.tanh ((c0 * (d.P r (512 + j.val) + ((((8943 / 200000) * d.P r (512 + j.val)) * d.P r (512 + j.val)) * d.P r (512 + j.val)))))))) : ℝ) : EReal))
    (hv703 : ∀ (r : Fin 128) (j : Fin 256), (v703 (ix2 r j) : EReal) = (((1 + (((26829 / 200000) * d.P r (512 + j.val)) * d.P r (512 + j.val))) : ℝ) : EReal))
    (hv708 : ∀ (r : Fin 128) (j : Fin 256), (v708 (ix2 r j) : EReal) = ((d.P r (4608 + j.val) : ℝ) : EReal))
    (hv723 : ∀ (r : Fin 128) (j : Fin 256), (v723 (ix2 r j) : EReal) = ((d.Y r (512 + j.val) : ℝ) : EReal)) :
    ∀ (r : Fin 128) (j : Fin 256), ((k0_pay154 (F := Ideal) v674 v692 v698 v703 v708 v723) (ix2 r j) : EReal) = ((d.DPU 2 r (512 + j.val) : ℝ) : EReal) := by
  intro r j
  pointwise [k0_pay154, hv674, hv692, hv698, hv703, hv708, hv723, L153 d e v723 hv723, L152 d e v708 hv708]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPU, Blk.DU, dgel, gt]

theorem L155 (d : Blk) (e : Acc) (v674 : FVec Ideal S128x256 .f32) (v688 : FVec Ideal S128x256 .f32) (v708 : Vec Ideal S128x256 .f32) (v723 : Vec Ideal S128x256 .bf16)
    (hv674 : ∀ (r : Fin 128) (j : Fin 256), (v674 (ix2 r j) : EReal) = ((d.S 2 r (512 + j.val) : ℝ) : EReal))
    (hv688 : ∀ (r : Fin 128) (j : Fin 256), (v688 (ix2 r j) : EReal) = ((d.U r (512 + j.val) : ℝ) : EReal))
    (hv708 : ∀ (r : Fin 128) (j : Fin 256), (v708 (ix2 r j) : EReal) = ((d.P r (4608 + j.val) : ℝ) : EReal))
    (hv723 : ∀ (r : Fin 128) (j : Fin 256), (v723 (ix2 r j) : EReal) = ((d.Y r (512 + j.val) : ℝ) : EReal)) :
    ∀ (r : Fin 128) (j : Fin 256), ((k0_pay155 (F := Ideal) v674 v688 v708 v723) (ix2 r j) : EReal) = ((d.DPG 2 r (512 + j.val) : ℝ) : EReal) := by
  intro r j
  pointwise [k0_pay155, hv674, hv688, hv708, hv723, L151 d e v708 hv708, L153 d e v723 hv723]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPG, Blk.DSG, dsilu, sgm]

theorem L156 (d : Blk) (e : Acc) (v688 : FVec Ideal S128x256 .f32) (v708 : Vec Ideal S128x256 .f32) (v723 : Vec Ideal S128x256 .bf16)
    (hv688 : ∀ (r : Fin 128) (j : Fin 256), (v688 (ix2 r j) : EReal) = ((d.U r (512 + j.val) : ℝ) : EReal))
    (hv708 : ∀ (r : Fin 128) (j : Fin 256), (v708 (ix2 r j) : EReal) = ((d.P r (4608 + j.val) : ℝ) : EReal))
    (hv723 : ∀ (r : Fin 128) (j : Fin 256), (v723 (ix2 r j) : EReal) = ((d.Y r (512 + j.val) : ℝ) : EReal)) :
    ∀ (r : Fin 128) (j : Fin 256), ((k0_pay156 (F := Ideal) v688 v708 v723) (ix2 r j) : EReal) = ((d.DS r (512 + j.val) : ℝ) : EReal) := by
  intro r j
  pointwise [k0_pay156, hv688, hv708, hv723, L153 d e v723 hv723, L152 d e v708 hv708]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L157 (d : Blk) (e : Acc) (v688 : FVec Ideal S128x256 .f32) (v708 : Vec Ideal S128x256 .f32) (v723 : Vec Ideal S128x256 .bf16)
    (hv688 : ∀ (r : Fin 128) (j : Fin 256), (v688 (ix2 r j) : EReal) = ((d.U r (512 + j.val) : ℝ) : EReal))
    (hv708 : ∀ (r : Fin 128) (j : Fin 256), (v708 (ix2 r j) : EReal) = ((d.P r (4608 + j.val) : ℝ) : EReal))
    (hv723 : ∀ (r : Fin 128) (j : Fin 256), (v723 (ix2 r j) : EReal) = ((d.Y r (512 + j.val) : ℝ) : EReal)) :
    ∀ (r : Fin 128) (j : Fin 256), ((k0_pay157 (F := Ideal) v688 v708 v723) (ix2 r j) : EReal) = ((d.DS r (512 + j.val) : ℝ) : EReal) := by
  intro r j
  pointwise [k0_pay157, hv688, hv708, hv723, L156 d e v688 v708 v723 hv688 hv708 hv723]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L158 (d : Blk) (e : Acc) (v667 : FVec Ideal S128x256 .bf16) (v688 : FVec Ideal S128x256 .f32) (v708 : Vec Ideal S128x256 .f32) (v723 : Vec Ideal S128x256 .bf16) (v738 : Vec Ideal S1x128x128 .f32)
    (hv667 : ∀ (r : Fin 128) (j : Fin 256), (v667 (ix2 r j) : EReal) = ((d.VL r (512 + j.val) : ℝ) : EReal))
    (hv688 : ∀ (r : Fin 128) (j : Fin 256), (v688 (ix2 r j) : EReal) = ((d.U r (512 + j.val) : ℝ) : EReal))
    (hv708 : ∀ (r : Fin 128) (j : Fin 256), (v708 (ix2 r j) : EReal) = ((d.P r (4608 + j.val) : ℝ) : EReal))
    (hv723 : ∀ (r : Fin 128) (j : Fin 256), (v723 (ix2 r j) : EReal) = ((d.Y r (512 + j.val) : ℝ) : EReal))
    (hv738 : ∀ (r : Fin 128) (b : Fin 128), (v738 (ix3 0 r b) : EReal) = ((e.A7 2 r b : ℝ) : EReal)) :
    ∀ (r : Fin 128) (b : Fin 128), ((k0_pay158 (F := Ideal) v667 v688 v708 v723 v738) (ix2 r b) : EReal) = (((e.A7 2 r b + d.DWS 2 r b) : ℝ) : EReal) := by
  intro r b
  pointwise [k0_pay158, hv667, hv688, hv708, hv723, hv738, L157 d e v688 v708 v723 hv688 hv708 hv723]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DWS]

theorem L159 (d : Blk) (e : Acc) (v741 : FVec Ideal S128x128 .f32)
    (hv741 : ∀ (r : Fin 128) (b : Fin 128), (v741 (ix2 r b) : EReal) = (((e.A7 2 r b + d.DWS 2 r b) : ℝ) : EReal)) :
    ∀ (r : Fin 128) (b : Fin 128), ((k0_pay159 (F := Ideal) v741) (ix3 0 r b) : EReal) = ((e.A7 2 r b + d.DWS 2 r b : ℝ) : EReal) := by
  intro r b
  pointwise [k0_pay159, hv741]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DWS]

theorem L160 (d : Blk) (e : Acc) (v736 : FVec Ideal S128x256 .f32) (v745 : Vec Ideal S1x128x1 .f32)
    (hv736 : ∀ (r : Fin 128) (j : Fin 256), (v736 (ix2 r j) : EReal) = ((d.DS r (512 + j.val) : ℝ) : EReal))
    (hv745 : ∀ (r : Fin 128), (v745 (ix3 0 r 0) : EReal) = ((e.A8 2 r : ℝ) : EReal)) :
    ∀ (r : Fin 128), ((k0_pay160 (F := Ideal) v736 v745) (ix3 0 r 0) : EReal) = ((e.A8 2 r + d.DBS 2 r : ℝ) : EReal) := by
  intro r
  pointwise [k0_pay160, hv736, hv745]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DBS]

theorem L161 (d : Blk) (e : Acc) (v737 : FVec Ideal S128x256 .bf16) (v753 : Vec Ideal S1x128x128 .bf16)
    (hv737 : ∀ (r : Fin 128) (j : Fin 256), (v737 (ix2 r j) : EReal) = ((d.DS r (512 + j.val) : ℝ) : EReal))
    (hv753 : ∀ (r : Fin 128) (b : Fin 128), (v753 (ix3 0 r b) : EReal) = ((d.W 2 r b : ℝ) : EReal)) :
    ∀ (r : Fin 128) (j : Fin 256), ((k0_pay161 (F := Ideal) v737 v753) (ix2 r j) : EReal) = ((d.DVL 2 r (512 + j.val) : ℝ) : EReal) := by
  intro r j
  pointwise [k0_pay161, hv737, hv753]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVL]

theorem L162 (d : Blk) (e : Acc) (v661 : FVec Ideal S128x256 .f32) (v737 : FVec Ideal S128x256 .bf16) (v753 : Vec Ideal S1x128x128 .bf16) (v756 : Vec Ideal S1x256 .f32)
    (hv661 : ∀ (r : Fin 128) (j : Fin 256), (v661 (ix2 r j) : EReal) = ((d.VH r (512 + j.val) : ℝ) : EReal))
    (hv737 : ∀ (r : Fin 128) (j : Fin 256), (v737 (ix2 r j) : EReal) = ((d.DS r (512 + j.val) : ℝ) : EReal))
    (hv753 : ∀ (r : Fin 128) (b : Fin 128), (v753 (ix3 0 r b) : EReal) = ((d.W 2 r b : ℝ) : EReal))
    (hv756 : ∀ (j : Fin 256), (v756 (ix2 0 j) : EReal) = ((e.A9 (512 + j.val) : ℝ) : EReal)) :
    ∀ (j : Fin 256), ((k0_pay162 (F := Ideal) v661 v737 v753 v756) (ix2 0 j) : EReal) = ((e.A9 (512 + j.val) + d.DLG 2 (512 + j.val) : ℝ) : EReal) := by
  intro j
  pointwise [k0_pay162, hv661, hv737, hv753, hv756, L161 d e v737 v753 hv737 hv753]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLG]

theorem L163 (d : Blk) (e : Acc) (v737 : FVec Ideal S128x256 .bf16) (v753 : Vec Ideal S1x128x128 .bf16) (v763 : Vec Ideal S1x256 .f32)
    (hv737 : ∀ (r : Fin 128) (j : Fin 256), (v737 (ix2 r j) : EReal) = ((d.DS r (512 + j.val) : ℝ) : EReal))
    (hv753 : ∀ (r : Fin 128) (b : Fin 128), (v753 (ix3 0 r b) : EReal) = ((d.W 2 r b : ℝ) : EReal))
    (hv763 : ∀ (j : Fin 256), (v763 (ix2 0 j) : EReal) = ((e.A10 (512 + j.val) : ℝ) : EReal)) :
    ∀ (j : Fin 256), ((k0_pay163 (F := Ideal) v737 v753 v763) (ix2 0 j) : EReal) = ((e.A10 (512 + j.val) + d.DLB 2 (512 + j.val) : ℝ) : EReal) := by
  intro j
  pointwise [k0_pay163, hv737, hv753, hv763, L161 d e v737 v753 hv737 hv753]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLB]

theorem L164 (d : Blk) (e : Acc) (v656 : Vec Ideal S1x256 .f32) (v737 : FVec Ideal S128x256 .bf16) (v753 : Vec Ideal S1x128x128 .bf16)
    (hv656 : ∀ (j : Fin 256), (v656 (ix2 0 j) : EReal) = ((d.G (512 + j.val) : ℝ) : EReal))
    (hv737 : ∀ (r : Fin 128) (j : Fin 256), (v737 (ix2 r j) : EReal) = ((d.DS r (512 + j.val) : ℝ) : EReal))
    (hv753 : ∀ (r : Fin 128) (b : Fin 128), (v753 (ix3 0 r b) : EReal) = ((d.W 2 r b : ℝ) : EReal)) :
    ∀ (r : Fin 128) (j : Fin 256), ((k0_pay164 (F := Ideal) v656 v737 v753) (ix2 r j) : EReal) = ((d.DVH 2 r (512 + j.val) : ℝ) : EReal) := by
  intro r j
  pointwise [k0_pay164, hv656, hv737, hv753, L161 d e v737 v753 hv737 hv753]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L165 (d : Blk) (e : Acc) (v656 : Vec Ideal S1x256 .f32) (v737 : FVec Ideal S128x256 .bf16) (v753 : Vec Ideal S1x128x128 .bf16)
    (hv656 : ∀ (j : Fin 256), (v656 (ix2 0 j) : EReal) = ((d.G (512 + j.val) : ℝ) : EReal))
    (hv737 : ∀ (r : Fin 128) (j : Fin 256), (v737 (ix2 r j) : EReal) = ((d.DS r (512 + j.val) : ℝ) : EReal))
    (hv753 : ∀ (r : Fin 128) (b : Fin 128), (v753 (ix3 0 r b) : EReal) = ((d.W 2 r b : ℝ) : EReal)) :
    ∀ (r : Fin 128) (j : Fin 256), ((k0_pay165 (F := Ideal) v656 v737 v753) (ix2 r j) : EReal) = ((d.DVH 2 r (512 + j.val) : ℝ) : EReal) := by
  intro r j
  pointwise [k0_pay165, hv656, hv737, hv753, L164 d e v656 v737 v753 hv656 hv737 hv753]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L166 (d : Blk) (e : Acc) (v651 : FVec Ideal S128x1 .f32) (v770 : FVec Ideal S128x256 .f32)
    (hv651 : ∀ (r : Fin 128), (v651 (ix2 r 0) : EReal) = ((Blk.psum (fun g => d.DVH g r) 2 : ℝ) : EReal))
    (hv770 : ∀ (r : Fin 128) (j : Fin 256), (v770 (ix2 r j) : EReal) = ((d.DVH 2 r (512 + j.val) : ℝ) : EReal)) :
    ∀ (r : Fin 128), ((k0_pay166 (F := Ideal) v651 v770) (ix2 r 0) : EReal) = ((Blk.psum (fun g => d.DVH g r) 3 : ℝ) : EReal) := by
  intro r
  pointwise [k0_pay166, hv651, hv770]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L167 (d : Blk) (e : Acc) (v655 : FVec Ideal S128x1 .f32) (v661 : FVec Ideal S128x256 .f32) (v770 : FVec Ideal S128x256 .f32)
    (hv655 : ∀ (r : Fin 128), (v655 (ix2 r 0) : EReal) = ((Blk.psum (fun g c => d.DVH g r c * d.VH r c) 2 : ℝ) : EReal))
    (hv661 : ∀ (r : Fin 128) (j : Fin 256), (v661 (ix2 r j) : EReal) = ((d.VH r (512 + j.val) : ℝ) : EReal))
    (hv770 : ∀ (r : Fin 128) (j : Fin 256), (v770 (ix2 r j) : EReal) = ((d.DVH 2 r (512 + j.val) : ℝ) : EReal)) :
    ∀ (r : Fin 128), ((k0_pay167 (F := Ideal) v655 v661 v770) (ix2 r 0) : EReal) = ((Blk.psum (fun g c => d.DVH g r c * d.VH r c) 3 : ℝ) : EReal) := by
  intro r
  pointwise [k0_pay167, hv655, hv661, hv770]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L168 (d : Blk) (e : Acc) (v341 : FVec Ideal S128x1 .f32) (v403 : FVec Ideal S128x1 .f32) (v782 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv782 : ∀ (r : Fin 128) (j : Fin 256), (v782 (ix2 r j) : EReal) = ((d.VG r (768 + j.val) : ℝ) : EReal)) :
    ∀ (r : Fin 128) (j : Fin 256), ((k0_pay168 (F := Ideal) v341 v403 v782) (ix2 r j) : EReal) = ((d.VH r (768 + j.val) : ℝ) : EReal) := by
  intro r j
  pointwise [k0_pay168, hv341, hv403, hv782]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VH, Blk.VC]

theorem L169 (d : Blk) (e : Acc) (v341 : FVec Ideal S128x1 .f32) (v403 : FVec Ideal S128x1 .f32) (v781 : Vec Ideal S1x256 .f32) (v782 : Vec Ideal S128x256 .f32) (v789 : Vec Ideal S1x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv781 : ∀ (j : Fin 256), (v781 (ix2 0 j) : EReal) = ((d.G (768 + j.val) : ℝ) : EReal))
    (hv782 : ∀ (r : Fin 128) (j : Fin 256), (v782 (ix2 r j) : EReal) = ((d.VG r (768 + j.val) : ℝ) : EReal))
    (hv789 : ∀ (j : Fin 256), (v789 (ix2 0 j) : EReal) = ((d.B (768 + j.val) : ℝ) : EReal)) :
    ∀ (r : Fin 128) (j : Fin 256), ((k0_pay169 (F := Ideal) v341 v403 v781 v782 v789) (ix2 r j) : EReal) = ((d.VL r (768 + j.val) : ℝ) : EReal) := by
  intro r j
  pointwise [k0_pay169, hv341, hv403, hv781, hv782, hv789, L168 d e v341 v403 v782 hv341 hv403 hv782]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VL, Blk.VH, Blk.VC]

theorem L170 (d : Blk) (e : Acc) (v341 : FVec Ideal S128x1 .f32) (v403 : FVec Ideal S128x1 .f32) (v781 : Vec Ideal S1x256 .f32) (v782 : Vec Ideal S128x256 .f32) (v789 : Vec Ideal S1x256 .f32) (v793 : Vec Ideal S1x128x128 .bf16) (v796 : Vec Ideal S1x128x1 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv781 : ∀ (j : Fin 256), (v781 (ix2 0 j) : EReal) = ((d.G (768 + j.val) : ℝ) : EReal))
    (hv782 : ∀ (r : Fin 128) (j : Fin 256), (v782 (ix2 r j) : EReal) = ((d.VG r (768 + j.val) : ℝ) : EReal))
    (hv789 : ∀ (j : Fin 256), (v789 (ix2 0 j) : EReal) = ((d.B (768 + j.val) : ℝ) : EReal))
    (hv793 : ∀ (r : Fin 128) (b : Fin 128), (v793 (ix3 0 r b) : EReal) = ((d.W 3 r b : ℝ) : EReal))
    (hv796 : ∀ (r : Fin 128), (v796 (ix3 0 r 0) : EReal) = ((d.b 3 r : ℝ) : EReal)) :
    ∀ (r : Fin 128) (j : Fin 256), ((k0_pay170 (F := Ideal) v341 v403 v781 v782 v789 v793 v796) (ix2 r j) : EReal) = ((d.S 3 r (768 + j.val) : ℝ) : EReal) := by
  intro r j
  pointwise [k0_pay170, hv341, hv403, hv781, hv782, hv789, hv793, hv796, L169 d e v341 v403 v781 v782 v789 hv341 hv403 hv781 hv782 hv789]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.S, Blk.VL, Blk.VH, Blk.VC]

theorem L171 (d : Blk) (e : Acc) (v800 : Vec Ideal S128x256 .f32)
    (hv800 : ∀ (r : Fin 128) (j : Fin 256), (v800 (ix2 r j) : EReal) = ((d.P r (768 + j.val) : ℝ) : EReal)) :
    ∀ (r : Fin 128) (j : Fin 256), ((k0_pay171 (F := Ideal) v800) (ix2 r j) : EReal) = ((Real.tanh ((c0 * (d.P r (768 + j.val) + ((((8943 / 200000) * d.P r (768 + j.val)) * d.P r (768 + j.val)) * d.P r (768 + j.val))))) : ℝ) : EReal) := by
  intro r j
  pointwise [k0_pay171, hv800]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L172 (d : Blk) (e : Acc) (v800 : Vec Ideal S128x256 .f32)
    (hv800 : ∀ (r : Fin 128) (j : Fin 256), (v800 (ix2 r j) : EReal) = ((d.P r (768 + j.val) : ℝ) : EReal)) :
    ∀ (r : Fin 128) (j : Fin 256), ((k0_pay172 (F := Ideal) v800) (ix2 r j) : EReal) = ((((1 / 2) * d.P r (768 + j.val)) : ℝ) : EReal) := by
  intro r j
  pointwise [k0_pay172, hv800]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L173 (d : Blk) (e : Acc) :
    ∀ (r : Fin 128) (j : Fin 256), ((k0_pay173 (F := Ideal)) (ix2 r j) : EReal) = ((1 : ℝ) : EReal) := by
  intro r j
  pointwise [k0_pay173]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L174 (d : Blk) (e : Acc) (v808 : FVec Ideal S128x256 .f32) (v810 : FVec Ideal S128x256 .f32) (v811 : FVec Ideal S128x256 .f32)
    (hv808 : ∀ (r : Fin 128) (j : Fin 256), (v808 (ix2 r j) : EReal) = ((Real.tanh ((c0 * (d.P r (768 + j.val) + ((((8943 / 200000) * d.P r (768 + j.val)) * d.P r (768 + j.val)) * d.P r (768 + j.val))))) : ℝ) : EReal))
    (hv810 : ∀ (r : Fin 128) (j : Fin 256), (v810 (ix2 r j) : EReal) = ((((1 / 2) * d.P r (768 + j.val)) : ℝ) : EReal))
    (hv811 : ∀ (r : Fin 128) (j : Fin 256), (v811 (ix2 r j) : EReal) = ((1 : ℝ) : EReal)) :
    ∀ (r : Fin 128) (j : Fin 256), ((k0_pay174 (F := Ideal) v808 v810 v811) (ix2 r j) : EReal) = ((d.U r (768 + j.val) : ℝ) : EReal) := by
  intro r j
  pointwise [k0_pay174, hv808, hv810, hv811]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.U, gel, gt]

theorem L175 (d : Blk) (e : Acc) (v833 : Vec Ideal S128x256 .f32)
    (hv833 : ∀ (r : Fin 128) (j : Fin 256), (v833 (ix2 r j) : EReal) = ((d.P r (4864 + j.val) : ℝ) : EReal)) :
    ∀ (r : Fin 128) (j : Fin 256), ((k0_pay175 (F := Ideal) v833) (ix2 r j) : EReal) = (((((1 / 2) * Real.tanh (((1 / 2) * d.P r (4864 + j.val)))) + (1 / 2)) : ℝ) : EReal) := by
  intro r j
  pointwise [k0_pay175, hv833]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

end Cert.Sgu

end
-- ==== Proof.Vals2.lean ====
module
public import proofs.«01_k».proof.Proof.Spec
public import proofs.«01_k».proof.Proof.Gen.KernelIdeal.Skeleton
public import proofs.«01_k».proof.Proof.Vals1
import Idealize.ShloMosaic.Lib.Pipeline.ValueKit

/-! # The kernel's values on real contents, part 2

Each value the kernel's body computes in one grid point, as a real number, from what the values it is computed from hold. -/

@[expose] public section
set_option maxRecDepth 16384
noncomputable section
namespace Cert.Sgu
open Idealize.ShloMosaic Cert.KernelIdeal Cert.KernelIdeal.Gen

theorem L176 (d : Blk) (e : Acc) (v833 : Vec Ideal S128x256 .f32)
    (hv833 : ∀ (r : Fin 128) (j : Fin 256), (v833 (ix2 r j) : EReal) = ((d.P r (4864 + j.val) : ℝ) : EReal)) :
    ∀ (r : Fin 128) (j : Fin 256), ((k0_pay176 (F := Ideal) v833) (ix2 r j) : EReal) = ((d.SG r (768 + j.val) : ℝ) : EReal) := by
  intro r j
  pointwise [k0_pay176, hv833, L175 d e v833 hv833]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.SG, silu, sgm]

theorem L177 (d : Blk) (e : Acc) (v833 : Vec Ideal S128x256 .f32)
    (hv833 : ∀ (r : Fin 128) (j : Fin 256), (v833 (ix2 r j) : EReal) = ((d.P r (4864 + j.val) : ℝ) : EReal)) :
    ∀ (r : Fin 128) (j : Fin 256), ((k0_pay177 (F := Ideal) v833) (ix2 r j) : EReal) = ((d.DSG r (768 + j.val) : ℝ) : EReal) := by
  intro r j
  pointwise [k0_pay177, hv833, L175 d e v833 hv833]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DSG, dsilu, sgm]

theorem L178 (d : Blk) (e : Acc) (v848 : Vec Ideal S128x256 .bf16)
    (hv848 : ∀ (r : Fin 128) (j : Fin 256), (v848 (ix2 r j) : EReal) = ((d.Y r (768 + j.val) : ℝ) : EReal)) :
    ∀ (r : Fin 128) (j : Fin 256), ((k0_pay178 (F := Ideal) v848) (ix2 r j) : EReal) = ((d.Y r (768 + j.val) : ℝ) : EReal) := by
  intro r j
  pointwise [k0_pay178, hv848]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L179 (d : Blk) (e : Acc) (v799 : FVec Ideal S128x256 .f32) (v800 : Vec Ideal S128x256 .f32) (v808 : FVec Ideal S128x256 .f32) (v833 : Vec Ideal S128x256 .f32) (v848 : Vec Ideal S128x256 .bf16)
    (hv799 : ∀ (r : Fin 128) (j : Fin 256), (v799 (ix2 r j) : EReal) = ((d.S 3 r (768 + j.val) : ℝ) : EReal))
    (hv800 : ∀ (r : Fin 128) (j : Fin 256), (v800 (ix2 r j) : EReal) = ((d.P r (768 + j.val) : ℝ) : EReal))
    (hv808 : ∀ (r : Fin 128) (j : Fin 256), (v808 (ix2 r j) : EReal) = ((Real.tanh ((c0 * (d.P r (768 + j.val) + ((((8943 / 200000) * d.P r (768 + j.val)) * d.P r (768 + j.val)) * d.P r (768 + j.val))))) : ℝ) : EReal))
    (hv833 : ∀ (r : Fin 128) (j : Fin 256), (v833 (ix2 r j) : EReal) = ((d.P r (4864 + j.val) : ℝ) : EReal))
    (hv848 : ∀ (r : Fin 128) (j : Fin 256), (v848 (ix2 r j) : EReal) = ((d.Y r (768 + j.val) : ℝ) : EReal)) :
    ∀ (r : Fin 128) (j : Fin 256), ((k0_pay179 (F := Ideal) v799 v800 v808 v833 v848) (ix2 r j) : EReal) = ((d.DPU 3 r (768 + j.val) : ℝ) : EReal) := by
  intro r j
  pointwise [k0_pay179, hv799, hv800, hv808, hv833, hv848, L178 d e v848 hv848, L176 d e v833 hv833]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPU, Blk.DU, dgel, gt]

theorem L180 (d : Blk) (e : Acc) (v799 : FVec Ideal S128x256 .f32) (v813 : FVec Ideal S128x256 .f32) (v847 : FVec Ideal S128x256 .f32) (v849 : FVec Ideal S128x256 .f32)
    (hv799 : ∀ (r : Fin 128) (j : Fin 256), (v799 (ix2 r j) : EReal) = ((d.S 3 r (768 + j.val) : ℝ) : EReal))
    (hv813 : ∀ (r : Fin 128) (j : Fin 256), (v813 (ix2 r j) : EReal) = ((d.U r (768 + j.val) : ℝ) : EReal))
    (hv847 : ∀ (r : Fin 128) (j : Fin 256), (v847 (ix2 r j) : EReal) = ((d.DSG r (768 + j.val) : ℝ) : EReal))
    (hv849 : ∀ (r : Fin 128) (j : Fin 256), (v849 (ix2 r j) : EReal) = ((d.Y r (768 + j.val) : ℝ) : EReal)) :
    ∀ (r : Fin 128) (j : Fin 256), ((k0_pay180 (F := Ideal) v799 v813 v847 v849) (ix2 r j) : EReal) = ((d.DPG 3 r (768 + j.val) : ℝ) : EReal) := by
  intro r j
  pointwise [k0_pay180, hv799, hv813, hv847, hv849]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPG]

theorem L181 (d : Blk) (e : Acc) (v813 : FVec Ideal S128x256 .f32) (v841 : FVec Ideal S128x256 .f32) (v849 : FVec Ideal S128x256 .f32)
    (hv813 : ∀ (r : Fin 128) (j : Fin 256), (v813 (ix2 r j) : EReal) = ((d.U r (768 + j.val) : ℝ) : EReal))
    (hv841 : ∀ (r : Fin 128) (j : Fin 256), (v841 (ix2 r j) : EReal) = ((d.SG r (768 + j.val) : ℝ) : EReal))
    (hv849 : ∀ (r : Fin 128) (j : Fin 256), (v849 (ix2 r j) : EReal) = ((d.Y r (768 + j.val) : ℝ) : EReal)) :
    ∀ (r : Fin 128) (j : Fin 256), ((k0_pay181 (F := Ideal) v813 v841 v849) (ix2 r j) : EReal) = ((d.DS r (768 + j.val) : ℝ) : EReal) := by
  intro r j
  pointwise [k0_pay181, hv813, hv841, hv849]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L182 (d : Blk) (e : Acc) (v813 : FVec Ideal S128x256 .f32) (v841 : FVec Ideal S128x256 .f32) (v849 : FVec Ideal S128x256 .f32)
    (hv813 : ∀ (r : Fin 128) (j : Fin 256), (v813 (ix2 r j) : EReal) = ((d.U r (768 + j.val) : ℝ) : EReal))
    (hv841 : ∀ (r : Fin 128) (j : Fin 256), (v841 (ix2 r j) : EReal) = ((d.SG r (768 + j.val) : ℝ) : EReal))
    (hv849 : ∀ (r : Fin 128) (j : Fin 256), (v849 (ix2 r j) : EReal) = ((d.Y r (768 + j.val) : ℝ) : EReal)) :
    ∀ (r : Fin 128) (j : Fin 256), ((k0_pay182 (F := Ideal) v813 v841 v849) (ix2 r j) : EReal) = ((d.DS r (768 + j.val) : ℝ) : EReal) := by
  intro r j
  pointwise [k0_pay182, hv813, hv841, hv849, L181 d e v813 v841 v849 hv813 hv841 hv849]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L183 (d : Blk) (e : Acc) (v792 : FVec Ideal S128x256 .bf16) (v813 : FVec Ideal S128x256 .f32) (v841 : FVec Ideal S128x256 .f32) (v849 : FVec Ideal S128x256 .f32) (v863 : Vec Ideal S1x128x128 .f32)
    (hv792 : ∀ (r : Fin 128) (j : Fin 256), (v792 (ix2 r j) : EReal) = ((d.VL r (768 + j.val) : ℝ) : EReal))
    (hv813 : ∀ (r : Fin 128) (j : Fin 256), (v813 (ix2 r j) : EReal) = ((d.U r (768 + j.val) : ℝ) : EReal))
    (hv841 : ∀ (r : Fin 128) (j : Fin 256), (v841 (ix2 r j) : EReal) = ((d.SG r (768 + j.val) : ℝ) : EReal))
    (hv849 : ∀ (r : Fin 128) (j : Fin 256), (v849 (ix2 r j) : EReal) = ((d.Y r (768 + j.val) : ℝ) : EReal))
    (hv863 : ∀ (r : Fin 128) (b : Fin 128), (v863 (ix3 0 r b) : EReal) = ((e.A7 3 r b : ℝ) : EReal)) :
    ∀ (r : Fin 128) (b : Fin 128), ((k0_pay183 (F := Ideal) v792 v813 v841 v849 v863) (ix3 0 r b) : EReal) = ((e.A7 3 r b + d.DWS 3 r b : ℝ) : EReal) := by
  intro r b
  pointwise [k0_pay183, hv792, hv813, hv841, hv849, hv863, L182 d e v813 v841 v849 hv813 hv841 hv849]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DWS]

theorem L184 (d : Blk) (e : Acc) (v813 : FVec Ideal S128x256 .f32) (v841 : FVec Ideal S128x256 .f32) (v849 : FVec Ideal S128x256 .f32) (v870 : Vec Ideal S1x128x1 .f32)
    (hv813 : ∀ (r : Fin 128) (j : Fin 256), (v813 (ix2 r j) : EReal) = ((d.U r (768 + j.val) : ℝ) : EReal))
    (hv841 : ∀ (r : Fin 128) (j : Fin 256), (v841 (ix2 r j) : EReal) = ((d.SG r (768 + j.val) : ℝ) : EReal))
    (hv849 : ∀ (r : Fin 128) (j : Fin 256), (v849 (ix2 r j) : EReal) = ((d.Y r (768 + j.val) : ℝ) : EReal))
    (hv870 : ∀ (r : Fin 128), (v870 (ix3 0 r 0) : EReal) = ((e.A8 3 r : ℝ) : EReal)) :
    ∀ (r : Fin 128), ((k0_pay184 (F := Ideal) v813 v841 v849 v870) (ix3 0 r 0) : EReal) = ((e.A8 3 r + d.DBS 3 r : ℝ) : EReal) := by
  intro r
  pointwise [k0_pay184, hv813, hv841, hv849, hv870, L181 d e v813 v841 v849 hv813 hv841 hv849]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DBS]

theorem L185 (d : Blk) (e : Acc) (v813 : FVec Ideal S128x256 .f32) (v841 : FVec Ideal S128x256 .f32) (v849 : FVec Ideal S128x256 .f32) (v878 : Vec Ideal S1x128x128 .bf16)
    (hv813 : ∀ (r : Fin 128) (j : Fin 256), (v813 (ix2 r j) : EReal) = ((d.U r (768 + j.val) : ℝ) : EReal))
    (hv841 : ∀ (r : Fin 128) (j : Fin 256), (v841 (ix2 r j) : EReal) = ((d.SG r (768 + j.val) : ℝ) : EReal))
    (hv849 : ∀ (r : Fin 128) (j : Fin 256), (v849 (ix2 r j) : EReal) = ((d.Y r (768 + j.val) : ℝ) : EReal))
    (hv878 : ∀ (r : Fin 128) (b : Fin 128), (v878 (ix3 0 r b) : EReal) = ((d.W 3 r b : ℝ) : EReal)) :
    ∀ (r : Fin 128) (j : Fin 256), ((k0_pay185 (F := Ideal) v813 v841 v849 v878) (ix2 r j) : EReal) = ((d.DVL 3 r (768 + j.val) : ℝ) : EReal) := by
  intro r j
  pointwise [k0_pay185, hv813, hv841, hv849, hv878, L182 d e v813 v841 v849 hv813 hv841 hv849]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVL]

theorem L186 (d : Blk) (e : Acc) (v786 : FVec Ideal S128x256 .f32) (v813 : FVec Ideal S128x256 .f32) (v841 : FVec Ideal S128x256 .f32) (v849 : FVec Ideal S128x256 .f32) (v878 : Vec Ideal S1x128x128 .bf16) (v881 : Vec Ideal S1x256 .f32)
    (hv786 : ∀ (r : Fin 128) (j : Fin 256), (v786 (ix2 r j) : EReal) = ((d.VH r (768 + j.val) : ℝ) : EReal))
    (hv813 : ∀ (r : Fin 128) (j : Fin 256), (v813 (ix2 r j) : EReal) = ((d.U r (768 + j.val) : ℝ) : EReal))
    (hv841 : ∀ (r : Fin 128) (j : Fin 256), (v841 (ix2 r j) : EReal) = ((d.SG r (768 + j.val) : ℝ) : EReal))
    (hv849 : ∀ (r : Fin 128) (j : Fin 256), (v849 (ix2 r j) : EReal) = ((d.Y r (768 + j.val) : ℝ) : EReal))
    (hv878 : ∀ (r : Fin 128) (b : Fin 128), (v878 (ix3 0 r b) : EReal) = ((d.W 3 r b : ℝ) : EReal))
    (hv881 : ∀ (j : Fin 256), (v881 (ix2 0 j) : EReal) = ((e.A9 (768 + j.val) : ℝ) : EReal)) :
    ∀ (j : Fin 256), ((k0_pay186 (F := Ideal) v786 v813 v841 v849 v878 v881) (ix2 0 j) : EReal) = ((e.A9 (768 + j.val) + d.DLG 3 (768 + j.val) : ℝ) : EReal) := by
  intro j
  pointwise [k0_pay186, hv786, hv813, hv841, hv849, hv878, hv881, L185 d e v813 v841 v849 v878 hv813 hv841 hv849 hv878]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLG]

theorem L187 (d : Blk) (e : Acc) (v880 : FVec Ideal S128x256 .f32) (v888 : Vec Ideal S1x256 .f32)
    (hv880 : ∀ (r : Fin 128) (j : Fin 256), (v880 (ix2 r j) : EReal) = ((d.DVL 3 r (768 + j.val) : ℝ) : EReal))
    (hv888 : ∀ (j : Fin 256), (v888 (ix2 0 j) : EReal) = ((e.A10 (768 + j.val) : ℝ) : EReal)) :
    ∀ (j : Fin 256), ((k0_pay187 (F := Ideal) v880 v888) (ix2 0 j) : EReal) = ((e.A10 (768 + j.val) + d.DLB 3 (768 + j.val) : ℝ) : EReal) := by
  intro j
  pointwise [k0_pay187, hv880, hv888]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLB]

theorem L188 (d : Blk) (e : Acc) (v781 : Vec Ideal S1x256 .f32) (v880 : FVec Ideal S128x256 .f32)
    (hv781 : ∀ (j : Fin 256), (v781 (ix2 0 j) : EReal) = ((d.G (768 + j.val) : ℝ) : EReal))
    (hv880 : ∀ (r : Fin 128) (j : Fin 256), (v880 (ix2 r j) : EReal) = ((d.DVL 3 r (768 + j.val) : ℝ) : EReal)) :
    ∀ (r : Fin 128) (j : Fin 256), ((k0_pay188 (F := Ideal) v781 v880) (ix2 r j) : EReal) = ((d.DVH 3 r (768 + j.val) : ℝ) : EReal) := by
  intro r j
  pointwise [k0_pay188, hv781, hv880]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L189 (d : Blk) (e : Acc) (v781 : Vec Ideal S1x256 .f32) (v880 : FVec Ideal S128x256 .f32)
    (hv781 : ∀ (j : Fin 256), (v781 (ix2 0 j) : EReal) = ((d.G (768 + j.val) : ℝ) : EReal))
    (hv880 : ∀ (r : Fin 128) (j : Fin 256), (v880 (ix2 r j) : EReal) = ((d.DVL 3 r (768 + j.val) : ℝ) : EReal)) :
    ∀ (r : Fin 128) (j : Fin 256), ((k0_pay189 (F := Ideal) v781 v880) (ix2 r j) : EReal) = ((d.DVH 3 r (768 + j.val) : ℝ) : EReal) := by
  intro r j
  pointwise [k0_pay189, hv781, hv880, L188 d e v781 v880 hv781 hv880]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L190 (d : Blk) (e : Acc) (v776 : FVec Ideal S128x1 .f32) (v781 : Vec Ideal S1x256 .f32) (v880 : FVec Ideal S128x256 .f32)
    (hv776 : ∀ (r : Fin 128), (v776 (ix2 r 0) : EReal) = ((Blk.psum (fun g => d.DVH g r) 3 : ℝ) : EReal))
    (hv781 : ∀ (j : Fin 256), (v781 (ix2 0 j) : EReal) = ((d.G (768 + j.val) : ℝ) : EReal))
    (hv880 : ∀ (r : Fin 128) (j : Fin 256), (v880 (ix2 r j) : EReal) = ((d.DVL 3 r (768 + j.val) : ℝ) : EReal)) :
    ∀ (r : Fin 128), ((k0_pay190 (F := Ideal) v776 v781 v880) (ix2 r 0) : EReal) = ((Blk.psum (fun g => d.DVH g r) 4 : ℝ) : EReal) := by
  intro r
  pointwise [k0_pay190, hv776, hv781, hv880, L188 d e v781 v880 hv781 hv880]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L191 (d : Blk) (e : Acc) (v780 : FVec Ideal S128x1 .f32) (v781 : Vec Ideal S1x256 .f32) (v786 : FVec Ideal S128x256 .f32) (v880 : FVec Ideal S128x256 .f32)
    (hv780 : ∀ (r : Fin 128), (v780 (ix2 r 0) : EReal) = ((Blk.psum (fun g c => d.DVH g r c * d.VH r c) 3 : ℝ) : EReal))
    (hv781 : ∀ (j : Fin 256), (v781 (ix2 0 j) : EReal) = ((d.G (768 + j.val) : ℝ) : EReal))
    (hv786 : ∀ (r : Fin 128) (j : Fin 256), (v786 (ix2 r j) : EReal) = ((d.VH r (768 + j.val) : ℝ) : EReal))
    (hv880 : ∀ (r : Fin 128) (j : Fin 256), (v880 (ix2 r j) : EReal) = ((d.DVL 3 r (768 + j.val) : ℝ) : EReal)) :
    ∀ (r : Fin 128), ((k0_pay191 (F := Ideal) v780 v781 v786 v880) (ix2 r 0) : EReal) = ((Blk.psum (fun g c => d.DVH g r c * d.VH r c) 4 : ℝ) : EReal) := by
  intro r
  pointwise [k0_pay191, hv780, hv781, hv786, hv880, L188 d e v781 v880 hv781 hv880]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L192 (d : Blk) (e : Acc) (v341 : FVec Ideal S128x1 .f32) (v403 : FVec Ideal S128x1 .f32) (v907 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv907 : ∀ (r : Fin 128) (j : Fin 256), (v907 (ix2 r j) : EReal) = ((d.VG r (1024 + j.val) : ℝ) : EReal)) :
    ∀ (r : Fin 128) (j : Fin 256), ((k0_pay192 (F := Ideal) v341 v403 v907) (ix2 r j) : EReal) = ((d.VH r (1024 + j.val) : ℝ) : EReal) := by
  intro r j
  pointwise [k0_pay192, hv341, hv403, hv907]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VH, Blk.VC]

theorem L193 (d : Blk) (e : Acc) (v341 : FVec Ideal S128x1 .f32) (v403 : FVec Ideal S128x1 .f32) (v906 : Vec Ideal S1x256 .f32) (v907 : Vec Ideal S128x256 .f32) (v914 : Vec Ideal S1x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv906 : ∀ (j : Fin 256), (v906 (ix2 0 j) : EReal) = ((d.G (1024 + j.val) : ℝ) : EReal))
    (hv907 : ∀ (r : Fin 128) (j : Fin 256), (v907 (ix2 r j) : EReal) = ((d.VG r (1024 + j.val) : ℝ) : EReal))
    (hv914 : ∀ (j : Fin 256), (v914 (ix2 0 j) : EReal) = ((d.B (1024 + j.val) : ℝ) : EReal)) :
    ∀ (r : Fin 128) (j : Fin 256), ((k0_pay193 (F := Ideal) v341 v403 v906 v907 v914) (ix2 r j) : EReal) = ((d.VL r (1024 + j.val) : ℝ) : EReal) := by
  intro r j
  pointwise [k0_pay193, hv341, hv403, hv906, hv907, hv914, L192 d e v341 v403 v907 hv341 hv403 hv907]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VL, Blk.VH, Blk.VC]

theorem L194 (d : Blk) (e : Acc) (v341 : FVec Ideal S128x1 .f32) (v403 : FVec Ideal S128x1 .f32) (v906 : Vec Ideal S1x256 .f32) (v907 : Vec Ideal S128x256 .f32) (v914 : Vec Ideal S1x256 .f32) (v918 : Vec Ideal S1x128x128 .bf16)
    (hv341 : ∀ (r : Fin 128), (v341 (ix2 r 0) : EReal) = ((d.MU r : ℝ) : EReal))
    (hv403 : ∀ (r : Fin 128), (v403 (ix2 r 0) : EReal) = ((d.RS r : ℝ) : EReal))
    (hv906 : ∀ (j : Fin 256), (v906 (ix2 0 j) : EReal) = ((d.G (1024 + j.val) : ℝ) : EReal))
    (hv907 : ∀ (r : Fin 128) (j : Fin 256), (v907 (ix2 r j) : EReal) = ((d.VG r (1024 + j.val) : ℝ) : EReal))
    (hv914 : ∀ (j : Fin 256), (v914 (ix2 0 j) : EReal) = ((d.B (1024 + j.val) : ℝ) : EReal))
    (hv918 : ∀ (r : Fin 128) (b : Fin 128), (v918 (ix3 0 r b) : EReal) = ((d.W 4 r b : ℝ) : EReal)) :
    ∀ (r : Fin 128) (j : Fin 256), ((k0_pay194 (F := Ideal) v341 v403 v906 v907 v914 v918) (ix2 r j) : EReal) = (((∑ k4 : Fin 128, d.W 4 r k4 * d.VL k4 (1024 + j.val)) : ℝ) : EReal) := by
  intro r j
  pointwise [k0_pay194, hv341, hv403, hv906, hv907, hv914, hv918, L193 d e v341 v403 v906 v907 v914 hv341 hv403 hv906 hv907 hv914]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L195 (d : Blk) (e : Acc) (v920 : FVec Ideal S128x256 .f32) (v921 : Vec Ideal S1x128x1 .f32)
    (hv920 : ∀ (r : Fin 128) (j : Fin 256), (v920 (ix2 r j) : EReal) = (((∑ k5 : Fin 128, d.W 4 r k5 * d.VL k5 (1024 + j.val)) : ℝ) : EReal))
    (hv921 : ∀ (r : Fin 128), (v921 (ix3 0 r 0) : EReal) = ((d.b 4 r : ℝ) : EReal)) :
    ∀ (r : Fin 128) (j : Fin 256), ((k0_pay195 (F := Ideal) v920 v921) (ix2 r j) : EReal) = ((d.S 4 r (1024 + j.val) : ℝ) : EReal) := by
  intro r j
  pointwise [k0_pay195, hv920, hv921]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.S, Blk.VL, Blk.VH, Blk.VC]

theorem L196 (d : Blk) (e : Acc) (v925 : Vec Ideal S128x256 .f32)
    (hv925 : ∀ (r : Fin 128) (j : Fin 256), (v925 (ix2 r j) : EReal) = ((d.P r (1024 + j.val) : ℝ) : EReal)) :
    ∀ (r : Fin 128) (j : Fin 256), ((k0_pay196 (F := Ideal) v925) (ix2 r j) : EReal) = ((Real.tanh ((c0 * (d.P r (1024 + j.val) + ((((8943 / 200000) * d.P r (1024 + j.val)) * d.P r (1024 + j.val)) * d.P r (1024 + j.val))))) : ℝ) : EReal) := by
  intro r j
  pointwise [k0_pay196, hv925]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L197 (d : Blk) (e : Acc) (v925 : Vec Ideal S128x256 .f32)
    (hv925 : ∀ (r : Fin 128) (j : Fin 256), (v925 (ix2 r j) : EReal) = ((d.P r (1024 + j.val) : ℝ) : EReal)) :
    ∀ (r : Fin 128) (j : Fin 256), ((k0_pay197 (F := Ideal) v925) (ix2 r j) : EReal) = ((d.U r (1024 + j.val) : ℝ) : EReal) := by
  intro r j
  pointwise [k0_pay197, hv925, L196 d e v925 hv925]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.U, gel, gt]

theorem L198 (d : Blk) (e : Acc) (v925 : Vec Ideal S128x256 .f32)
    (hv925 : ∀ (r : Fin 128) (j : Fin 256), (v925 (ix2 r j) : EReal) = ((d.P r (1024 + j.val) : ℝ) : EReal)) :
    ∀ (r : Fin 128) (j : Fin 256), ((k0_pay198 (F := Ideal) v925) (ix2 r j) : EReal) = ((d.DU r (1024 + j.val) : ℝ) : EReal) := by
  intro r j
  pointwise [k0_pay198, hv925, L196 d e v925 hv925]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DU, dgel, gt]

theorem L199 (d : Blk) (e : Acc) (v958 : Vec Ideal S128x256 .f32)
    (hv958 : ∀ (r : Fin 128) (j : Fin 256), (v958 (ix2 r j) : EReal) = ((d.P r (5120 + j.val) : ℝ) : EReal)) :
    ∀ (r : Fin 128) (j : Fin 256), ((k0_pay199 (F := Ideal) v958) (ix2 r j) : EReal) = ((Real.tanh (((1 / 2) * d.P r (5120 + j.val))) : ℝ) : EReal) := by
  intro r j
  pointwise [k0_pay199, hv958]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L200 (d : Blk) (e : Acc) :
    ∀ (r : Fin 128) (j : Fin 256), ((k0_pay200 (F := Ideal)) (ix2 r j) : EReal) = (((1 / 2) : ℝ) : EReal) := by
  intro r j
  pointwise [k0_pay200]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L201 (d : Blk) (e : Acc) (v961 : FVec Ideal S128x256 .f32) (v962 : FVec Ideal S128x256 .f32)
    (hv961 : ∀ (r : Fin 128) (j : Fin 256), (v961 (ix2 r j) : EReal) = ((Real.tanh (((1 / 2) * d.P r (5120 + j.val))) : ℝ) : EReal))
    (hv962 : ∀ (r : Fin 128) (j : Fin 256), (v962 (ix2 r j) : EReal) = (((1 / 2) : ℝ) : EReal)) :
    ∀ (r : Fin 128) (j : Fin 256), ((k0_pay201 (F := Ideal) v961 v962) (ix2 r j) : EReal) = (((((1 / 2) * Real.tanh (((1 / 2) * d.P r (5120 + j.val)))) + (1 / 2)) : ℝ) : EReal) := by
  intro r j
  pointwise [k0_pay201, hv961, hv962]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L202 (d : Blk) (e : Acc) (v958 : Vec Ideal S128x256 .f32) (v961 : FVec Ideal S128x256 .f32) (v962 : FVec Ideal S128x256 .f32)
    (hv958 : ∀ (r : Fin 128) (j : Fin 256), (v958 (ix2 r j) : EReal) = ((d.P r (5120 + j.val) : ℝ) : EReal))
    (hv961 : ∀ (r : Fin 128) (j : Fin 256), (v961 (ix2 r j) : EReal) = ((Real.tanh (((1 / 2) * d.P r (5120 + j.val))) : ℝ) : EReal))
    (hv962 : ∀ (r : Fin 128) (j : Fin 256), (v962 (ix2 r j) : EReal) = (((1 / 2) : ℝ) : EReal)) :
    ∀ (r : Fin 128) (j : Fin 256), ((k0_pay202 (F := Ideal) v958 v961 v962) (ix2 r j) : EReal) = ((d.SG r (1024 + j.val) : ℝ) : EReal) := by
  intro r j
  pointwise [k0_pay202, hv958, hv961, hv962, L201 d e v961 v962 hv961 hv962]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.SG, silu, sgm]

theorem L203 (d : Blk) (e : Acc) (v973 : Vec Ideal S128x256 .bf16)
    (hv973 : ∀ (r : Fin 128) (j : Fin 256), (v973 (ix2 r j) : EReal) = ((d.Y r (1024 + j.val) : ℝ) : EReal)) :
    ∀ (r : Fin 128) (j : Fin 256), ((k0_pay203 (F := Ideal) v973) (ix2 r j) : EReal) = ((d.Y r (1024 + j.val) : ℝ) : EReal) := by
  intro r j
  pointwise [k0_pay203, hv973]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L204 (d : Blk) (e : Acc) (v924 : FVec Ideal S128x256 .f32) (v957 : FVec Ideal S128x256 .f32) (v958 : Vec Ideal S128x256 .f32) (v961 : FVec Ideal S128x256 .f32) (v962 : FVec Ideal S128x256 .f32) (v973 : Vec Ideal S128x256 .bf16)
    (hv924 : ∀ (r : Fin 128) (j : Fin 256), (v924 (ix2 r j) : EReal) = ((d.S 4 r (1024 + j.val) : ℝ) : EReal))
    (hv957 : ∀ (r : Fin 128) (j : Fin 256), (v957 (ix2 r j) : EReal) = ((d.DU r (1024 + j.val) : ℝ) : EReal))
    (hv958 : ∀ (r : Fin 128) (j : Fin 256), (v958 (ix2 r j) : EReal) = ((d.P r (5120 + j.val) : ℝ) : EReal))
    (hv961 : ∀ (r : Fin 128) (j : Fin 256), (v961 (ix2 r j) : EReal) = ((Real.tanh (((1 / 2) * d.P r (5120 + j.val))) : ℝ) : EReal))
    (hv962 : ∀ (r : Fin 128) (j : Fin 256), (v962 (ix2 r j) : EReal) = (((1 / 2) : ℝ) : EReal))
    (hv973 : ∀ (r : Fin 128) (j : Fin 256), (v973 (ix2 r j) : EReal) = ((d.Y r (1024 + j.val) : ℝ) : EReal)) :
    ∀ (r : Fin 128) (j : Fin 256), ((k0_pay204 (F := Ideal) v924 v957 v958 v961 v962 v973) (ix2 r j) : EReal) = ((d.DPU 4 r (1024 + j.val) : ℝ) : EReal) := by
  intro r j
  pointwise [k0_pay204, hv924, hv957, hv958, hv961, hv962, hv973, L203 d e v973 hv973, L202 d e v958 v961 v962 hv958 hv961 hv962]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPU]

theorem L205 (d : Blk) (e : Acc) (v924 : FVec Ideal S128x256 .f32) (v938 : FVec Ideal S128x256 .f32) (v958 : Vec Ideal S128x256 .f32) (v961 : FVec Ideal S128x256 .f32) (v962 : FVec Ideal S128x256 .f32) (v973 : Vec Ideal S128x256 .bf16)
    (hv924 : ∀ (r : Fin 128) (j : Fin 256), (v924 (ix2 r j) : EReal) = ((d.S 4 r (1024 + j.val) : ℝ) : EReal))
    (hv938 : ∀ (r : Fin 128) (j : Fin 256), (v938 (ix2 r j) : EReal) = ((d.U r (1024 + j.val) : ℝ) : EReal))
    (hv958 : ∀ (r : Fin 128) (j : Fin 256), (v958 (ix2 r j) : EReal) = ((d.P r (5120 + j.val) : ℝ) : EReal))
    (hv961 : ∀ (r : Fin 128) (j : Fin 256), (v961 (ix2 r j) : EReal) = ((Real.tanh (((1 / 2) * d.P r (5120 + j.val))) : ℝ) : EReal))
    (hv962 : ∀ (r : Fin 128) (j : Fin 256), (v962 (ix2 r j) : EReal) = (((1 / 2) : ℝ) : EReal))
    (hv973 : ∀ (r : Fin 128) (j : Fin 256), (v973 (ix2 r j) : EReal) = ((d.Y r (1024 + j.val) : ℝ) : EReal)) :
    ∀ (r : Fin 128) (j : Fin 256), ((k0_pay205 (F := Ideal) v924 v938 v958 v961 v962 v973) (ix2 r j) : EReal) = ((d.DPG 4 r (1024 + j.val) : ℝ) : EReal) := by
  intro r j
  pointwise [k0_pay205, hv924, hv938, hv958, hv961, hv962, hv973, L201 d e v961 v962 hv961 hv962, L203 d e v973 hv973]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPG, Blk.DSG, dsilu, sgm]

theorem L206 (d : Blk) (e : Acc) (v938 : FVec Ideal S128x256 .f32) (v958 : Vec Ideal S128x256 .f32) (v961 : FVec Ideal S128x256 .f32) (v962 : FVec Ideal S128x256 .f32) (v973 : Vec Ideal S128x256 .bf16)
    (hv938 : ∀ (r : Fin 128) (j : Fin 256), (v938 (ix2 r j) : EReal) = ((d.U r (1024 + j.val) : ℝ) : EReal))
    (hv958 : ∀ (r : Fin 128) (j : Fin 256), (v958 (ix2 r j) : EReal) = ((d.P r (5120 + j.val) : ℝ) : EReal))
    (hv961 : ∀ (r : Fin 128) (j : Fin 256), (v961 (ix2 r j) : EReal) = ((Real.tanh (((1 / 2) * d.P r (5120 + j.val))) : ℝ) : EReal))
    (hv962 : ∀ (r : Fin 128) (j : Fin 256), (v962 (ix2 r j) : EReal) = (((1 / 2) : ℝ) : EReal))
    (hv973 : ∀ (r : Fin 128) (j : Fin 256), (v973 (ix2 r j) : EReal) = ((d.Y r (1024 + j.val) : ℝ) : EReal)) :
    ∀ (r : Fin 128) (j : Fin 256), ((k0_pay206 (F := Ideal) v938 v958 v961 v962 v973) (ix2 r j) : EReal) = ((d.DS r (1024 + j.val) : ℝ) : EReal) := by
  intro r j
  pointwise [k0_pay206, hv938, hv958, hv961, hv962, hv973, L203 d e v973 hv973, L202 d e v958 v961 v962 hv958 hv961 hv962]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L207 (d : Blk) (e : Acc) (v938 : FVec Ideal S128x256 .f32) (v958 : Vec Ideal S128x256 .f32) (v961 : FVec Ideal S128x256 .f32) (v962 : FVec Ideal S128x256 .f32) (v973 : Vec Ideal S128x256 .bf16)
    (hv938 : ∀ (r : Fin 128) (j : Fin 256), (v938 (ix2 r j) : EReal) = ((d.U r (1024 + j.val) : ℝ) : EReal))
    (hv958 : ∀ (r : Fin 128) (j : Fin 256), (v958 (ix2 r j) : EReal) = ((d.P r (5120 + j.val) : ℝ) : EReal))
    (hv961 : ∀ (r : Fin 128) (j : Fin 256), (v961 (ix2 r j) : EReal) = ((Real.tanh (((1 / 2) * d.P r (5120 + j.val))) : ℝ) : EReal))
    (hv962 : ∀ (r : Fin 128) (j : Fin 256), (v962 (ix2 r j) : EReal) = (((1 / 2) : ℝ) : EReal))
    (hv973 : ∀ (r : Fin 128) (j : Fin 256), (v973 (ix2 r j) : EReal) = ((d.Y r (1024 + j.val) : ℝ) : EReal)) :
    ∀ (r : Fin 128) (j : Fin 256), ((k0_pay207 (F := Ideal) v938 v958 v961 v962 v973) (ix2 r j) : EReal) = ((d.DS r (1024 + j.val) : ℝ) : EReal) := by
  intro r j
  pointwise [k0_pay207, hv938, hv958, hv961, hv962, hv973, L206 d e v938 v958 v961 v962 v973 hv938 hv958 hv961 hv962 hv973]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L208 (d : Blk) (e : Acc) (v917 : FVec Ideal S128x256 .bf16) (v938 : FVec Ideal S128x256 .f32) (v958 : Vec Ideal S128x256 .f32) (v961 : FVec Ideal S128x256 .f32) (v962 : FVec Ideal S128x256 .f32) (v973 : Vec Ideal S128x256 .bf16) (v988 : Vec Ideal S1x128x128 .f32)
    (hv917 : ∀ (r : Fin 128) (j : Fin 256), (v917 (ix2 r j) : EReal) = ((d.VL r (1024 + j.val) : ℝ) : EReal))
    (hv938 : ∀ (r : Fin 128) (j : Fin 256), (v938 (ix2 r j) : EReal) = ((d.U r (1024 + j.val) : ℝ) : EReal))
    (hv958 : ∀ (r : Fin 128) (j : Fin 256), (v958 (ix2 r j) : EReal) = ((d.P r (5120 + j.val) : ℝ) : EReal))
    (hv961 : ∀ (r : Fin 128) (j : Fin 256), (v961 (ix2 r j) : EReal) = ((Real.tanh (((1 / 2) * d.P r (5120 + j.val))) : ℝ) : EReal))
    (hv962 : ∀ (r : Fin 128) (j : Fin 256), (v962 (ix2 r j) : EReal) = (((1 / 2) : ℝ) : EReal))
    (hv973 : ∀ (r : Fin 128) (j : Fin 256), (v973 (ix2 r j) : EReal) = ((d.Y r (1024 + j.val) : ℝ) : EReal))
    (hv988 : ∀ (r : Fin 128) (b : Fin 128), (v988 (ix3 0 r b) : EReal) = ((e.A7 4 r b : ℝ) : EReal)) :
    ∀ (r : Fin 128) (b : Fin 128), ((k0_pay208 (F := Ideal) v917 v938 v958 v961 v962 v973 v988) (ix3 0 r b) : EReal) = ((e.A7 4 r b + d.DWS 4 r b : ℝ) : EReal) := by
  intro r b
  pointwise [k0_pay208, hv917, hv938, hv958, hv961, hv962, hv973, hv988, L207 d e v938 v958 v961 v962 v973 hv938 hv958 hv961 hv962 hv973]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DWS]

theorem L209 (d : Blk) (e : Acc) (v938 : FVec Ideal S128x256 .f32) (v958 : Vec Ideal S128x256 .f32) (v961 : FVec Ideal S128x256 .f32) (v962 : FVec Ideal S128x256 .f32) (v973 : Vec Ideal S128x256 .bf16) (v995 : Vec Ideal S1x128x1 .f32)
    (hv938 : ∀ (r : Fin 128) (j : Fin 256), (v938 (ix2 r j) : EReal) = ((d.U r (1024 + j.val) : ℝ) : EReal))
    (hv958 : ∀ (r : Fin 128) (j : Fin 256), (v958 (ix2 r j) : EReal) = ((d.P r (5120 + j.val) : ℝ) : EReal))
    (hv961 : ∀ (r : Fin 128) (j : Fin 256), (v961 (ix2 r j) : EReal) = ((Real.tanh (((1 / 2) * d.P r (5120 + j.val))) : ℝ) : EReal))
    (hv962 : ∀ (r : Fin 128) (j : Fin 256), (v962 (ix2 r j) : EReal) = (((1 / 2) : ℝ) : EReal))
    (hv973 : ∀ (r : Fin 128) (j : Fin 256), (v973 (ix2 r j) : EReal) = ((d.Y r (1024 + j.val) : ℝ) : EReal))
    (hv995 : ∀ (r : Fin 128), (v995 (ix3 0 r 0) : EReal) = ((e.A8 4 r : ℝ) : EReal)) :
    ∀ (r : Fin 128), ((k0_pay209 (F := Ideal) v938 v958 v961 v962 v973 v995) (ix2 r 0) : EReal) = (((e.A8 4 r + (∑ k6 : Fin 256, d.DS r (1024 + k6.val))) : ℝ) : EReal) := by
  intro r
  pointwise [k0_pay209, hv938, hv958, hv961, hv962, hv973, hv995, L206 d e v938 v958 v961 v962 v973 hv938 hv958 hv961 hv962 hv973]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L210 (d : Blk) (e : Acc) (v999 : FVec Ideal S128x1 .f32)
    (hv999 : ∀ (r : Fin 128), (v999 (ix2 r 0) : EReal) = (((e.A8 4 r + (∑ k7 : Fin 256, d.DS r (1024 + k7.val))) : ℝ) : EReal)) :
    ∀ (r : Fin 128), ((k0_pay210 (F := Ideal) v999) (ix3 0 r 0) : EReal) = ((e.A8 4 r + d.DBS 4 r : ℝ) : EReal) := by
  intro r
  pointwise [k0_pay210, hv999]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DBS]

theorem L211 (d : Blk) (e : Acc) (v987 : FVec Ideal S128x256 .bf16) (v1003 : Vec Ideal S1x128x128 .bf16)
    (hv987 : ∀ (r : Fin 128) (j : Fin 256), (v987 (ix2 r j) : EReal) = ((d.DS r (1024 + j.val) : ℝ) : EReal))
    (hv1003 : ∀ (r : Fin 128) (b : Fin 128), (v1003 (ix3 0 r b) : EReal) = ((d.W 4 r b : ℝ) : EReal)) :
    ∀ (r : Fin 128) (j : Fin 256), ((k0_pay211 (F := Ideal) v987 v1003) (ix2 r j) : EReal) = ((d.DVL 4 r (1024 + j.val) : ℝ) : EReal) := by
  intro r j
  pointwise [k0_pay211, hv987, hv1003]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVL]

theorem L212 (d : Blk) (e : Acc) (v911 : FVec Ideal S128x256 .f32) (v987 : FVec Ideal S128x256 .bf16) (v1003 : Vec Ideal S1x128x128 .bf16) (v1006 : Vec Ideal S1x256 .f32)
    (hv911 : ∀ (r : Fin 128) (j : Fin 256), (v911 (ix2 r j) : EReal) = ((d.VH r (1024 + j.val) : ℝ) : EReal))
    (hv987 : ∀ (r : Fin 128) (j : Fin 256), (v987 (ix2 r j) : EReal) = ((d.DS r (1024 + j.val) : ℝ) : EReal))
    (hv1003 : ∀ (r : Fin 128) (b : Fin 128), (v1003 (ix3 0 r b) : EReal) = ((d.W 4 r b : ℝ) : EReal))
    (hv1006 : ∀ (j : Fin 256), (v1006 (ix2 0 j) : EReal) = ((e.A9 (1024 + j.val) : ℝ) : EReal)) :
    ∀ (j : Fin 256), ((k0_pay212 (F := Ideal) v911 v987 v1003 v1006) (ix2 0 j) : EReal) = ((e.A9 (1024 + j.val) + d.DLG 4 (1024 + j.val) : ℝ) : EReal) := by
  intro j
  pointwise [k0_pay212, hv911, hv987, hv1003, hv1006, L211 d e v987 v1003 hv987 hv1003]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLG]

theorem L213 (d : Blk) (e : Acc) (v987 : FVec Ideal S128x256 .bf16) (v1003 : Vec Ideal S1x128x128 .bf16) (v1013 : Vec Ideal S1x256 .f32)
    (hv987 : ∀ (r : Fin 128) (j : Fin 256), (v987 (ix2 r j) : EReal) = ((d.DS r (1024 + j.val) : ℝ) : EReal))
    (hv1003 : ∀ (r : Fin 128) (b : Fin 128), (v1003 (ix3 0 r b) : EReal) = ((d.W 4 r b : ℝ) : EReal))
    (hv1013 : ∀ (j : Fin 256), (v1013 (ix2 0 j) : EReal) = ((e.A10 (1024 + j.val) : ℝ) : EReal)) :
    ∀ (j : Fin 256), ((k0_pay213 (F := Ideal) v987 v1003 v1013) (ix2 0 j) : EReal) = ((e.A10 (1024 + j.val) + d.DLB 4 (1024 + j.val) : ℝ) : EReal) := by
  intro j
  pointwise [k0_pay213, hv987, hv1003, hv1013, L211 d e v987 v1003 hv987 hv1003]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLB]

theorem L214 (d : Blk) (e : Acc) (v906 : Vec Ideal S1x256 .f32) (v987 : FVec Ideal S128x256 .bf16) (v1003 : Vec Ideal S1x128x128 .bf16)
    (hv906 : ∀ (j : Fin 256), (v906 (ix2 0 j) : EReal) = ((d.G (1024 + j.val) : ℝ) : EReal))
    (hv987 : ∀ (r : Fin 128) (j : Fin 256), (v987 (ix2 r j) : EReal) = ((d.DS r (1024 + j.val) : ℝ) : EReal))
    (hv1003 : ∀ (r : Fin 128) (b : Fin 128), (v1003 (ix3 0 r b) : EReal) = ((d.W 4 r b : ℝ) : EReal)) :
    ∀ (r : Fin 128) (j : Fin 256), ((k0_pay214 (F := Ideal) v906 v987 v1003) (ix2 r j) : EReal) = ((d.DVH 4 r (1024 + j.val) : ℝ) : EReal) := by
  intro r j
  pointwise [k0_pay214, hv906, hv987, hv1003, L211 d e v987 v1003 hv987 hv1003]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L215 (d : Blk) (e : Acc) (v906 : Vec Ideal S1x256 .f32) (v987 : FVec Ideal S128x256 .bf16) (v1003 : Vec Ideal S1x128x128 .bf16)
    (hv906 : ∀ (j : Fin 256), (v906 (ix2 0 j) : EReal) = ((d.G (1024 + j.val) : ℝ) : EReal))
    (hv987 : ∀ (r : Fin 128) (j : Fin 256), (v987 (ix2 r j) : EReal) = ((d.DS r (1024 + j.val) : ℝ) : EReal))
    (hv1003 : ∀ (r : Fin 128) (b : Fin 128), (v1003 (ix3 0 r b) : EReal) = ((d.W 4 r b : ℝ) : EReal)) :
    ∀ (r : Fin 128) (j : Fin 256), ((k0_pay215 (F := Ideal) v906 v987 v1003) (ix2 r j) : EReal) = ((d.DVH 4 r (1024 + j.val) : ℝ) : EReal) := by
  intro r j
  pointwise [k0_pay215, hv906, hv987, hv1003, L214 d e v906 v987 v1003 hv906 hv987 hv1003]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L216 (d : Blk) (e : Acc) (v901 : FVec Ideal S128x1 .f32) (v906 : Vec Ideal S1x256 .f32) (v987 : FVec Ideal S128x256 .bf16) (v1003 : Vec Ideal S1x128x128 .bf16)
    (hv901 : ∀ (r : Fin 128), (v901 (ix2 r 0) : EReal) = ((Blk.psum (fun g => d.DVH g r) 4 : ℝ) : EReal))
    (hv906 : ∀ (j : Fin 256), (v906 (ix2 0 j) : EReal) = ((d.G (1024 + j.val) : ℝ) : EReal))
    (hv987 : ∀ (r : Fin 128) (j : Fin 256), (v987 (ix2 r j) : EReal) = ((d.DS r (1024 + j.val) : ℝ) : EReal))
    (hv1003 : ∀ (r : Fin 128) (b : Fin 128), (v1003 (ix3 0 r b) : EReal) = ((d.W 4 r b : ℝ) : EReal)) :
    ∀ (r : Fin 128), ((k0_pay216 (F := Ideal) v901 v906 v987 v1003) (ix2 r 0) : EReal) = ((Blk.psum (fun g => d.DVH g r) 5 : ℝ) : EReal) := by
  intro r
  pointwise [k0_pay216, hv901, hv906, hv987, hv1003, L214 d e v906 v987 v1003 hv906 hv987 hv1003]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L217 (d : Blk) (e : Acc) (v905 : FVec Ideal S128x1 .f32) (v906 : Vec Ideal S1x256 .f32) (v911 : FVec Ideal S128x256 .f32) (v987 : FVec Ideal S128x256 .bf16) (v1003 : Vec Ideal S1x128x128 .bf16)
    (hv905 : ∀ (r : Fin 128), (v905 (ix2 r 0) : EReal) = ((Blk.psum (fun g c => d.DVH g r c * d.VH r c) 4 : ℝ) : EReal))
    (hv906 : ∀ (j : Fin 256), (v906 (ix2 0 j) : EReal) = ((d.G (1024 + j.val) : ℝ) : EReal))
    (hv911 : ∀ (r : Fin 128) (j : Fin 256), (v911 (ix2 r j) : EReal) = ((d.VH r (1024 + j.val) : ℝ) : EReal))
    (hv987 : ∀ (r : Fin 128) (j : Fin 256), (v987 (ix2 r j) : EReal) = ((d.DS r (1024 + j.val) : ℝ) : EReal))
    (hv1003 : ∀ (r : Fin 128) (b : Fin 128), (v1003 (ix3 0 r b) : EReal) = ((d.W 4 r b : ℝ) : EReal)) :
    ∀ (r : Fin 128), ((k0_pay217 (F := Ideal) v905 v906 v911 v987 v1003) (ix2 r 0) : EReal) = ((Blk.psum (fun g c => d.DVH g r c * d.VH r c) 5 : ℝ) : EReal) := by
  intro r
  pointwise [k0_pay217, hv905, hv906, hv911, hv987, hv1003, L214 d e v906 v987 v1003 hv906 hv987 hv1003]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L218 (d : Blk) (e : Acc) (v341 : FVec Ideal S128x1 .f32) (v403 : FVec Ideal S128x1 .f32) (v1032 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1032 : ∀ (r : Fin 128) (j : Fin 256), (v1032 (ix2 r j) : EReal) = ((d.VG r (1280 + j.val) : ℝ) : EReal)) :
    ∀ (r : Fin 128) (j : Fin 256), ((k0_pay218 (F := Ideal) v341 v403 v1032) (ix2 r j) : EReal) = ((d.VH r (1280 + j.val) : ℝ) : EReal) := by
  intro r j
  pointwise [k0_pay218, hv341, hv403, hv1032]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VH, Blk.VC]

theorem L219 (d : Blk) (e : Acc) (v341 : FVec Ideal S128x1 .f32) (v403 : FVec Ideal S128x1 .f32) (v1031 : Vec Ideal S1x256 .f32) (v1032 : Vec Ideal S128x256 .f32) (v1039 : Vec Ideal S1x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1031 : ∀ (j : Fin 256), (v1031 (ix2 0 j) : EReal) = ((d.G (1280 + j.val) : ℝ) : EReal))
    (hv1032 : ∀ (r : Fin 128) (j : Fin 256), (v1032 (ix2 r j) : EReal) = ((d.VG r (1280 + j.val) : ℝ) : EReal))
    (hv1039 : ∀ (j : Fin 256), (v1039 (ix2 0 j) : EReal) = ((d.B (1280 + j.val) : ℝ) : EReal)) :
    ∀ (r : Fin 128) (j : Fin 256), ((k0_pay219 (F := Ideal) v341 v403 v1031 v1032 v1039) (ix2 r j) : EReal) = ((d.VL r (1280 + j.val) : ℝ) : EReal) := by
  intro r j
  pointwise [k0_pay219, hv341, hv403, hv1031, hv1032, hv1039, L218 d e v341 v403 v1032 hv341 hv403 hv1032]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VL, Blk.VH, Blk.VC]

theorem L220 (d : Blk) (e : Acc) (v341 : FVec Ideal S128x1 .f32) (v403 : FVec Ideal S128x1 .f32) (v1031 : Vec Ideal S1x256 .f32) (v1032 : Vec Ideal S128x256 .f32) (v1039 : Vec Ideal S1x256 .f32) (v1043 : Vec Ideal S1x128x128 .bf16) (v1046 : Vec Ideal S1x128x1 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1031 : ∀ (j : Fin 256), (v1031 (ix2 0 j) : EReal) = ((d.G (1280 + j.val) : ℝ) : EReal))
    (hv1032 : ∀ (r : Fin 128) (j : Fin 256), (v1032 (ix2 r j) : EReal) = ((d.VG r (1280 + j.val) : ℝ) : EReal))
    (hv1039 : ∀ (j : Fin 256), (v1039 (ix2 0 j) : EReal) = ((d.B (1280 + j.val) : ℝ) : EReal))
    (hv1043 : ∀ (r : Fin 128) (b : Fin 128), (v1043 (ix3 0 r b) : EReal) = ((d.W 5 r b : ℝ) : EReal))
    (hv1046 : ∀ (r : Fin 128), (v1046 (ix3 0 r 0) : EReal) = ((d.b 5 r : ℝ) : EReal)) :
    ∀ (r : Fin 128) (j : Fin 256), ((k0_pay220 (F := Ideal) v341 v403 v1031 v1032 v1039 v1043 v1046) (ix2 r j) : EReal) = ((d.S 5 r (1280 + j.val) : ℝ) : EReal) := by
  intro r j
  pointwise [k0_pay220, hv341, hv403, hv1031, hv1032, hv1039, hv1043, hv1046, L219 d e v341 v403 v1031 v1032 v1039 hv341 hv403 hv1031 hv1032 hv1039]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.S, Blk.VL, Blk.VH, Blk.VC]

theorem L221 (d : Blk) (e : Acc) (v1050 : Vec Ideal S128x256 .f32)
    (hv1050 : ∀ (r : Fin 128) (j : Fin 256), (v1050 (ix2 r j) : EReal) = ((d.P r (1280 + j.val) : ℝ) : EReal)) :
    ∀ (r : Fin 128) (j : Fin 256), ((k0_pay221 (F := Ideal) v1050) (ix2 r j) : EReal) = ((Real.tanh ((c0 * (d.P r (1280 + j.val) + ((((8943 / 200000) * d.P r (1280 + j.val)) * d.P r (1280 + j.val)) * d.P r (1280 + j.val))))) : ℝ) : EReal) := by
  intro r j
  pointwise [k0_pay221, hv1050]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L222 (d : Blk) (e : Acc) (v1050 : Vec Ideal S128x256 .f32)
    (hv1050 : ∀ (r : Fin 128) (j : Fin 256), (v1050 (ix2 r j) : EReal) = ((d.P r (1280 + j.val) : ℝ) : EReal)) :
    ∀ (r : Fin 128) (j : Fin 256), ((k0_pay222 (F := Ideal) v1050) (ix2 r j) : EReal) = ((d.U r (1280 + j.val) : ℝ) : EReal) := by
  intro r j
  pointwise [k0_pay222, hv1050, L221 d e v1050 hv1050]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.U, gel, gt]

theorem L223 (d : Blk) (e : Acc) (v1050 : Vec Ideal S128x256 .f32)
    (hv1050 : ∀ (r : Fin 128) (j : Fin 256), (v1050 (ix2 r j) : EReal) = ((d.P r (1280 + j.val) : ℝ) : EReal)) :
    ∀ (r : Fin 128) (j : Fin 256), ((k0_pay223 (F := Ideal) v1050) (ix2 r j) : EReal) = ((((1 / 2) * (1 + Real.tanh ((c0 * (d.P r (1280 + j.val) + ((((8943 / 200000) * d.P r (1280 + j.val)) * d.P r (1280 + j.val)) * d.P r (1280 + j.val))))))) : ℝ) : EReal) := by
  intro r j
  pointwise [k0_pay223, hv1050, L221 d e v1050 hv1050]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L224 (d : Blk) (e : Acc) (v1050 : Vec Ideal S128x256 .f32)
    (hv1050 : ∀ (r : Fin 128) (j : Fin 256), (v1050 (ix2 r j) : EReal) = ((d.P r (1280 + j.val) : ℝ) : EReal)) :
    ∀ (r : Fin 128) (j : Fin 256), ((k0_pay224 (F := Ideal) v1050) (ix2 r j) : EReal) = ((((1 / 2) * d.P r (1280 + j.val)) : ℝ) : EReal) := by
  intro r j
  pointwise [k0_pay224, hv1050]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L225 (d : Blk) (e : Acc) (v1050 : Vec Ideal S128x256 .f32)
    (hv1050 : ∀ (r : Fin 128) (j : Fin 256), (v1050 (ix2 r j) : EReal) = ((d.P r (1280 + j.val) : ℝ) : EReal)) :
    ∀ (r : Fin 128) (j : Fin 256), ((k0_pay225 (F := Ideal) v1050) (ix2 r j) : EReal) = (((Real.tanh ((c0 * (d.P r (1280 + j.val) + ((((8943 / 200000) * d.P r (1280 + j.val)) * d.P r (1280 + j.val)) * d.P r (1280 + j.val))))) * Real.tanh ((c0 * (d.P r (1280 + j.val) + ((((8943 / 200000) * d.P r (1280 + j.val)) * d.P r (1280 + j.val)) * d.P r (1280 + j.val)))))) : ℝ) : EReal) := by
  intro r j
  pointwise [k0_pay225, hv1050, L221 d e v1050 hv1050]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L226 (d : Blk) (e : Acc) :
    ∀ (r : Fin 128) (j : Fin 256), ((k0_pay226 (F := Ideal)) (ix2 r j) : EReal) = ((1 : ℝ) : EReal) := by
  intro r j
  pointwise [k0_pay226]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L227 (d : Blk) (e : Acc) (v1083 : Vec Ideal S128x256 .f32)
    (hv1083 : ∀ (r : Fin 128) (j : Fin 256), (v1083 (ix2 r j) : EReal) = ((d.P r (5376 + j.val) : ℝ) : EReal)) :
    ∀ (r : Fin 128) (j : Fin 256), ((k0_pay227 (F := Ideal) v1083) (ix2 r j) : EReal) = (((((1 / 2) * Real.tanh (((1 / 2) * d.P r (5376 + j.val)))) + (1 / 2)) : ℝ) : EReal) := by
  intro r j
  pointwise [k0_pay227, hv1083]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L228 (d : Blk) (e : Acc) (v1083 : Vec Ideal S128x256 .f32)
    (hv1083 : ∀ (r : Fin 128) (j : Fin 256), (v1083 (ix2 r j) : EReal) = ((d.P r (5376 + j.val) : ℝ) : EReal)) :
    ∀ (r : Fin 128) (j : Fin 256), ((k0_pay228 (F := Ideal) v1083) (ix2 r j) : EReal) = ((d.SG r (1280 + j.val) : ℝ) : EReal) := by
  intro r j
  pointwise [k0_pay228, hv1083, L227 d e v1083 hv1083]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.SG, silu, sgm]

theorem L229 (d : Blk) (e : Acc) (v1098 : Vec Ideal S128x256 .bf16)
    (hv1098 : ∀ (r : Fin 128) (j : Fin 256), (v1098 (ix2 r j) : EReal) = ((d.Y r (1280 + j.val) : ℝ) : EReal)) :
    ∀ (r : Fin 128) (j : Fin 256), ((k0_pay229 (F := Ideal) v1098) (ix2 r j) : EReal) = ((d.Y r (1280 + j.val) : ℝ) : EReal) := by
  intro r j
  pointwise [k0_pay229, hv1098]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L230 (d : Blk) (e : Acc) (v1049 : FVec Ideal S128x256 .f32) (v1050 : Vec Ideal S128x256 .f32) (v1067 : FVec Ideal S128x256 .f32) (v1069 : FVec Ideal S128x256 .f32) (v1070 : FVec Ideal S128x256 .f32) (v1071 : FVec Ideal S128x256 .f32) (v1083 : Vec Ideal S128x256 .f32) (v1098 : Vec Ideal S128x256 .bf16)
    (hv1049 : ∀ (r : Fin 128) (j : Fin 256), (v1049 (ix2 r j) : EReal) = ((d.S 5 r (1280 + j.val) : ℝ) : EReal))
    (hv1050 : ∀ (r : Fin 128) (j : Fin 256), (v1050 (ix2 r j) : EReal) = ((d.P r (1280 + j.val) : ℝ) : EReal))
    (hv1067 : ∀ (r : Fin 128) (j : Fin 256), (v1067 (ix2 r j) : EReal) = ((((1 / 2) * (1 + Real.tanh ((c0 * (d.P r (1280 + j.val) + ((((8943 / 200000) * d.P r (1280 + j.val)) * d.P r (1280 + j.val)) * d.P r (1280 + j.val))))))) : ℝ) : EReal))
    (hv1069 : ∀ (r : Fin 128) (j : Fin 256), (v1069 (ix2 r j) : EReal) = ((((1 / 2) * d.P r (1280 + j.val)) : ℝ) : EReal))
    (hv1070 : ∀ (r : Fin 128) (j : Fin 256), (v1070 (ix2 r j) : EReal) = (((Real.tanh ((c0 * (d.P r (1280 + j.val) + ((((8943 / 200000) * d.P r (1280 + j.val)) * d.P r (1280 + j.val)) * d.P r (1280 + j.val))))) * Real.tanh ((c0 * (d.P r (1280 + j.val) + ((((8943 / 200000) * d.P r (1280 + j.val)) * d.P r (1280 + j.val)) * d.P r (1280 + j.val)))))) : ℝ) : EReal))
    (hv1071 : ∀ (r : Fin 128) (j : Fin 256), (v1071 (ix2 r j) : EReal) = ((1 : ℝ) : EReal))
    (hv1083 : ∀ (r : Fin 128) (j : Fin 256), (v1083 (ix2 r j) : EReal) = ((d.P r (5376 + j.val) : ℝ) : EReal))
    (hv1098 : ∀ (r : Fin 128) (j : Fin 256), (v1098 (ix2 r j) : EReal) = ((d.Y r (1280 + j.val) : ℝ) : EReal)) :
    ∀ (r : Fin 128) (j : Fin 256), ((k0_pay230 (F := Ideal) v1049 v1050 v1067 v1069 v1070 v1071 v1083 v1098) (ix2 r j) : EReal) = ((d.DPU 5 r (1280 + j.val) : ℝ) : EReal) := by
  intro r j
  pointwise [k0_pay230, hv1049, hv1050, hv1067, hv1069, hv1070, hv1071, hv1083, hv1098, L229 d e v1098 hv1098, L228 d e v1083 hv1083]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPU, Blk.DU, dgel, gt]

theorem L231 (d : Blk) (e : Acc) (v1049 : FVec Ideal S128x256 .f32) (v1063 : FVec Ideal S128x256 .f32) (v1083 : Vec Ideal S128x256 .f32) (v1098 : Vec Ideal S128x256 .bf16)
    (hv1049 : ∀ (r : Fin 128) (j : Fin 256), (v1049 (ix2 r j) : EReal) = ((d.S 5 r (1280 + j.val) : ℝ) : EReal))
    (hv1063 : ∀ (r : Fin 128) (j : Fin 256), (v1063 (ix2 r j) : EReal) = ((d.U r (1280 + j.val) : ℝ) : EReal))
    (hv1083 : ∀ (r : Fin 128) (j : Fin 256), (v1083 (ix2 r j) : EReal) = ((d.P r (5376 + j.val) : ℝ) : EReal))
    (hv1098 : ∀ (r : Fin 128) (j : Fin 256), (v1098 (ix2 r j) : EReal) = ((d.Y r (1280 + j.val) : ℝ) : EReal)) :
    ∀ (r : Fin 128) (j : Fin 256), ((k0_pay231 (F := Ideal) v1049 v1063 v1083 v1098) (ix2 r j) : EReal) = ((d.DPG 5 r (1280 + j.val) : ℝ) : EReal) := by
  intro r j
  pointwise [k0_pay231, hv1049, hv1063, hv1083, hv1098, L227 d e v1083 hv1083, L229 d e v1098 hv1098]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPG, Blk.DSG, dsilu, sgm]

theorem L232 (d : Blk) (e : Acc) (v1063 : FVec Ideal S128x256 .f32) (v1083 : Vec Ideal S128x256 .f32) (v1098 : Vec Ideal S128x256 .bf16)
    (hv1063 : ∀ (r : Fin 128) (j : Fin 256), (v1063 (ix2 r j) : EReal) = ((d.U r (1280 + j.val) : ℝ) : EReal))
    (hv1083 : ∀ (r : Fin 128) (j : Fin 256), (v1083 (ix2 r j) : EReal) = ((d.P r (5376 + j.val) : ℝ) : EReal))
    (hv1098 : ∀ (r : Fin 128) (j : Fin 256), (v1098 (ix2 r j) : EReal) = ((d.Y r (1280 + j.val) : ℝ) : EReal)) :
    ∀ (r : Fin 128) (j : Fin 256), ((k0_pay232 (F := Ideal) v1063 v1083 v1098) (ix2 r j) : EReal) = ((d.DS r (1280 + j.val) : ℝ) : EReal) := by
  intro r j
  pointwise [k0_pay232, hv1063, hv1083, hv1098, L229 d e v1098 hv1098, L228 d e v1083 hv1083]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L233 (d : Blk) (e : Acc) (v1063 : FVec Ideal S128x256 .f32) (v1083 : Vec Ideal S128x256 .f32) (v1098 : Vec Ideal S128x256 .bf16)
    (hv1063 : ∀ (r : Fin 128) (j : Fin 256), (v1063 (ix2 r j) : EReal) = ((d.U r (1280 + j.val) : ℝ) : EReal))
    (hv1083 : ∀ (r : Fin 128) (j : Fin 256), (v1083 (ix2 r j) : EReal) = ((d.P r (5376 + j.val) : ℝ) : EReal))
    (hv1098 : ∀ (r : Fin 128) (j : Fin 256), (v1098 (ix2 r j) : EReal) = ((d.Y r (1280 + j.val) : ℝ) : EReal)) :
    ∀ (r : Fin 128) (j : Fin 256), ((k0_pay233 (F := Ideal) v1063 v1083 v1098) (ix2 r j) : EReal) = ((d.DS r (1280 + j.val) : ℝ) : EReal) := by
  intro r j
  pointwise [k0_pay233, hv1063, hv1083, hv1098, L232 d e v1063 v1083 v1098 hv1063 hv1083 hv1098]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L234 (d : Blk) (e : Acc) (v1042 : FVec Ideal S128x256 .bf16) (v1112 : FVec Ideal S128x256 .bf16) (v1113 : Vec Ideal S1x128x128 .f32)
    (hv1042 : ∀ (r : Fin 128) (j : Fin 256), (v1042 (ix2 r j) : EReal) = ((d.VL r (1280 + j.val) : ℝ) : EReal))
    (hv1112 : ∀ (r : Fin 128) (j : Fin 256), (v1112 (ix2 r j) : EReal) = ((d.DS r (1280 + j.val) : ℝ) : EReal))
    (hv1113 : ∀ (r : Fin 128) (b : Fin 128), (v1113 (ix3 0 r b) : EReal) = ((e.A7 5 r b : ℝ) : EReal)) :
    ∀ (r : Fin 128) (b : Fin 128), ((k0_pay234 (F := Ideal) v1042 v1112 v1113) (ix3 0 r b) : EReal) = ((e.A7 5 r b + d.DWS 5 r b : ℝ) : EReal) := by
  intro r b
  pointwise [k0_pay234, hv1042, hv1112, hv1113]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DWS]

theorem L235 (d : Blk) (e : Acc) (v1111 : FVec Ideal S128x256 .f32) (v1120 : Vec Ideal S1x128x1 .f32)
    (hv1111 : ∀ (r : Fin 128) (j : Fin 256), (v1111 (ix2 r j) : EReal) = ((d.DS r (1280 + j.val) : ℝ) : EReal))
    (hv1120 : ∀ (r : Fin 128), (v1120 (ix3 0 r 0) : EReal) = ((e.A8 5 r : ℝ) : EReal)) :
    ∀ (r : Fin 128), ((k0_pay235 (F := Ideal) v1111 v1120) (ix3 0 r 0) : EReal) = ((e.A8 5 r + d.DBS 5 r : ℝ) : EReal) := by
  intro r
  pointwise [k0_pay235, hv1111, hv1120]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DBS]

theorem L236 (d : Blk) (e : Acc) (v1112 : FVec Ideal S128x256 .bf16) (v1128 : Vec Ideal S1x128x128 .bf16)
    (hv1112 : ∀ (r : Fin 128) (j : Fin 256), (v1112 (ix2 r j) : EReal) = ((d.DS r (1280 + j.val) : ℝ) : EReal))
    (hv1128 : ∀ (r : Fin 128) (b : Fin 128), (v1128 (ix3 0 r b) : EReal) = ((d.W 5 r b : ℝ) : EReal)) :
    ∀ (r : Fin 128) (j : Fin 256), ((k0_pay236 (F := Ideal) v1112 v1128) (ix2 r j) : EReal) = ((d.DVL 5 r (1280 + j.val) : ℝ) : EReal) := by
  intro r j
  pointwise [k0_pay236, hv1112, hv1128]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVL]

theorem L237 (d : Blk) (e : Acc) (v1036 : FVec Ideal S128x256 .f32) (v1112 : FVec Ideal S128x256 .bf16) (v1128 : Vec Ideal S1x128x128 .bf16) (v1131 : Vec Ideal S1x256 .f32)
    (hv1036 : ∀ (r : Fin 128) (j : Fin 256), (v1036 (ix2 r j) : EReal) = ((d.VH r (1280 + j.val) : ℝ) : EReal))
    (hv1112 : ∀ (r : Fin 128) (j : Fin 256), (v1112 (ix2 r j) : EReal) = ((d.DS r (1280 + j.val) : ℝ) : EReal))
    (hv1128 : ∀ (r : Fin 128) (b : Fin 128), (v1128 (ix3 0 r b) : EReal) = ((d.W 5 r b : ℝ) : EReal))
    (hv1131 : ∀ (j : Fin 256), (v1131 (ix2 0 j) : EReal) = ((e.A9 (1280 + j.val) : ℝ) : EReal)) :
    ∀ (j : Fin 256), ((k0_pay237 (F := Ideal) v1036 v1112 v1128 v1131) (ix2 0 j) : EReal) = ((e.A9 (1280 + j.val) + d.DLG 5 (1280 + j.val) : ℝ) : EReal) := by
  intro j
  pointwise [k0_pay237, hv1036, hv1112, hv1128, hv1131, L236 d e v1112 v1128 hv1112 hv1128]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLG]

theorem L238 (d : Blk) (e : Acc) (v1112 : FVec Ideal S128x256 .bf16) (v1128 : Vec Ideal S1x128x128 .bf16) (v1138 : Vec Ideal S1x256 .f32)
    (hv1112 : ∀ (r : Fin 128) (j : Fin 256), (v1112 (ix2 r j) : EReal) = ((d.DS r (1280 + j.val) : ℝ) : EReal))
    (hv1128 : ∀ (r : Fin 128) (b : Fin 128), (v1128 (ix3 0 r b) : EReal) = ((d.W 5 r b : ℝ) : EReal))
    (hv1138 : ∀ (j : Fin 256), (v1138 (ix2 0 j) : EReal) = ((e.A10 (1280 + j.val) : ℝ) : EReal)) :
    ∀ (j : Fin 256), ((k0_pay238 (F := Ideal) v1112 v1128 v1138) (ix2 0 j) : EReal) = ((e.A10 (1280 + j.val) + d.DLB 5 (1280 + j.val) : ℝ) : EReal) := by
  intro j
  pointwise [k0_pay238, hv1112, hv1128, hv1138, L236 d e v1112 v1128 hv1112 hv1128]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLB]

theorem L239 (d : Blk) (e : Acc) (v1031 : Vec Ideal S1x256 .f32) (v1130 : FVec Ideal S128x256 .f32)
    (hv1031 : ∀ (j : Fin 256), (v1031 (ix2 0 j) : EReal) = ((d.G (1280 + j.val) : ℝ) : EReal))
    (hv1130 : ∀ (r : Fin 128) (j : Fin 256), (v1130 (ix2 r j) : EReal) = ((d.DVL 5 r (1280 + j.val) : ℝ) : EReal)) :
    ∀ (r : Fin 128) (j : Fin 256), ((k0_pay239 (F := Ideal) v1031 v1130) (ix2 r j) : EReal) = ((d.DVH 5 r (1280 + j.val) : ℝ) : EReal) := by
  intro r j
  pointwise [k0_pay239, hv1031, hv1130]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L240 (d : Blk) (e : Acc) (v1031 : Vec Ideal S1x256 .f32) (v1130 : FVec Ideal S128x256 .f32)
    (hv1031 : ∀ (j : Fin 256), (v1031 (ix2 0 j) : EReal) = ((d.G (1280 + j.val) : ℝ) : EReal))
    (hv1130 : ∀ (r : Fin 128) (j : Fin 256), (v1130 (ix2 r j) : EReal) = ((d.DVL 5 r (1280 + j.val) : ℝ) : EReal)) :
    ∀ (r : Fin 128) (j : Fin 256), ((k0_pay240 (F := Ideal) v1031 v1130) (ix2 r j) : EReal) = ((d.DVH 5 r (1280 + j.val) : ℝ) : EReal) := by
  intro r j
  pointwise [k0_pay240, hv1031, hv1130, L239 d e v1031 v1130 hv1031 hv1130]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L241 (d : Blk) (e : Acc) (v1026 : FVec Ideal S128x1 .f32) (v1031 : Vec Ideal S1x256 .f32) (v1130 : FVec Ideal S128x256 .f32)
    (hv1026 : ∀ (r : Fin 128), (v1026 (ix2 r 0) : EReal) = ((Blk.psum (fun g => d.DVH g r) 5 : ℝ) : EReal))
    (hv1031 : ∀ (j : Fin 256), (v1031 (ix2 0 j) : EReal) = ((d.G (1280 + j.val) : ℝ) : EReal))
    (hv1130 : ∀ (r : Fin 128) (j : Fin 256), (v1130 (ix2 r j) : EReal) = ((d.DVL 5 r (1280 + j.val) : ℝ) : EReal)) :
    ∀ (r : Fin 128), ((k0_pay241 (F := Ideal) v1026 v1031 v1130) (ix2 r 0) : EReal) = ((Blk.psum (fun g => d.DVH g r) 6 : ℝ) : EReal) := by
  intro r
  pointwise [k0_pay241, hv1026, hv1031, hv1130, L239 d e v1031 v1130 hv1031 hv1130]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L242 (d : Blk) (e : Acc) (v1030 : FVec Ideal S128x1 .f32) (v1031 : Vec Ideal S1x256 .f32) (v1036 : FVec Ideal S128x256 .f32) (v1130 : FVec Ideal S128x256 .f32)
    (hv1030 : ∀ (r : Fin 128), (v1030 (ix2 r 0) : EReal) = ((Blk.psum (fun g c => d.DVH g r c * d.VH r c) 5 : ℝ) : EReal))
    (hv1031 : ∀ (j : Fin 256), (v1031 (ix2 0 j) : EReal) = ((d.G (1280 + j.val) : ℝ) : EReal))
    (hv1036 : ∀ (r : Fin 128) (j : Fin 256), (v1036 (ix2 r j) : EReal) = ((d.VH r (1280 + j.val) : ℝ) : EReal))
    (hv1130 : ∀ (r : Fin 128) (j : Fin 256), (v1130 (ix2 r j) : EReal) = ((d.DVL 5 r (1280 + j.val) : ℝ) : EReal)) :
    ∀ (r : Fin 128), ((k0_pay242 (F := Ideal) v1030 v1031 v1036 v1130) (ix2 r 0) : EReal) = ((Blk.psum (fun g c => d.DVH g r c * d.VH r c) 6 : ℝ) : EReal) := by
  intro r
  pointwise [k0_pay242, hv1030, hv1031, hv1036, hv1130, L239 d e v1031 v1130 hv1031 hv1130]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L243 (d : Blk) (e : Acc) (v341 : FVec Ideal S128x1 .f32) (v403 : FVec Ideal S128x1 .f32) (v1157 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1157 : ∀ (r : Fin 128) (j : Fin 256), (v1157 (ix2 r j) : EReal) = ((d.VG r (1536 + j.val) : ℝ) : EReal)) :
    ∀ (r : Fin 128) (j : Fin 256), ((k0_pay243 (F := Ideal) v341 v403 v1157) (ix2 r j) : EReal) = ((d.VH r (1536 + j.val) : ℝ) : EReal) := by
  intro r j
  pointwise [k0_pay243, hv341, hv403, hv1157]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VH, Blk.VC]

theorem L244 (d : Blk) (e : Acc) (v341 : FVec Ideal S128x1 .f32) (v403 : FVec Ideal S128x1 .f32) (v1156 : Vec Ideal S1x256 .f32) (v1157 : Vec Ideal S128x256 .f32) (v1164 : Vec Ideal S1x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1156 : ∀ (j : Fin 256), (v1156 (ix2 0 j) : EReal) = ((d.G (1536 + j.val) : ℝ) : EReal))
    (hv1157 : ∀ (r : Fin 128) (j : Fin 256), (v1157 (ix2 r j) : EReal) = ((d.VG r (1536 + j.val) : ℝ) : EReal))
    (hv1164 : ∀ (j : Fin 256), (v1164 (ix2 0 j) : EReal) = ((d.B (1536 + j.val) : ℝ) : EReal)) :
    ∀ (r : Fin 128) (j : Fin 256), ((k0_pay244 (F := Ideal) v341 v403 v1156 v1157 v1164) (ix2 r j) : EReal) = ((d.VL r (1536 + j.val) : ℝ) : EReal) := by
  intro r j
  pointwise [k0_pay244, hv341, hv403, hv1156, hv1157, hv1164, L243 d e v341 v403 v1157 hv341 hv403 hv1157]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VL, Blk.VH, Blk.VC]

theorem L245 (d : Blk) (e : Acc) (v341 : FVec Ideal S128x1 .f32) (v403 : FVec Ideal S128x1 .f32) (v1156 : Vec Ideal S1x256 .f32) (v1157 : Vec Ideal S128x256 .f32) (v1164 : Vec Ideal S1x256 .f32) (v1168 : Vec Ideal S1x128x128 .bf16) (v1171 : Vec Ideal S1x128x1 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1156 : ∀ (j : Fin 256), (v1156 (ix2 0 j) : EReal) = ((d.G (1536 + j.val) : ℝ) : EReal))
    (hv1157 : ∀ (r : Fin 128) (j : Fin 256), (v1157 (ix2 r j) : EReal) = ((d.VG r (1536 + j.val) : ℝ) : EReal))
    (hv1164 : ∀ (j : Fin 256), (v1164 (ix2 0 j) : EReal) = ((d.B (1536 + j.val) : ℝ) : EReal))
    (hv1168 : ∀ (r : Fin 128) (b : Fin 128), (v1168 (ix3 0 r b) : EReal) = ((d.W 6 r b : ℝ) : EReal))
    (hv1171 : ∀ (r : Fin 128), (v1171 (ix3 0 r 0) : EReal) = ((d.b 6 r : ℝ) : EReal)) :
    ∀ (r : Fin 128) (j : Fin 256), ((k0_pay245 (F := Ideal) v341 v403 v1156 v1157 v1164 v1168 v1171) (ix2 r j) : EReal) = ((d.S 6 r (1536 + j.val) : ℝ) : EReal) := by
  intro r j
  pointwise [k0_pay245, hv341, hv403, hv1156, hv1157, hv1164, hv1168, hv1171, L244 d e v341 v403 v1156 v1157 v1164 hv341 hv403 hv1156 hv1157 hv1164]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.S, Blk.VL, Blk.VH, Blk.VC]

theorem L246 (d : Blk) (e : Acc) (v1175 : Vec Ideal S128x256 .f32)
    (hv1175 : ∀ (r : Fin 128) (j : Fin 256), (v1175 (ix2 r j) : EReal) = ((d.P r (1536 + j.val) : ℝ) : EReal)) :
    ∀ (r : Fin 128) (j : Fin 256), ((k0_pay246 (F := Ideal) v1175) (ix2 r j) : EReal) = (((d.P r (1536 + j.val) + ((((8943 / 200000) * d.P r (1536 + j.val)) * d.P r (1536 + j.val)) * d.P r (1536 + j.val))) : ℝ) : EReal) := by
  intro r j
  pointwise [k0_pay246, hv1175]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L247 (d : Blk) (e : Acc) (v1180 : FVec Ideal S128x256 .f32)
    (hv1180 : ∀ (r : Fin 128) (j : Fin 256), (v1180 (ix2 r j) : EReal) = (((d.P r (1536 + j.val) + ((((8943 / 200000) * d.P r (1536 + j.val)) * d.P r (1536 + j.val)) * d.P r (1536 + j.val))) : ℝ) : EReal)) :
    ∀ (r : Fin 128) (j : Fin 256), ((k0_pay247 (F := Ideal) v1180) (ix2 r j) : EReal) = ((Real.tanh ((c0 * (d.P r (1536 + j.val) + ((((8943 / 200000) * d.P r (1536 + j.val)) * d.P r (1536 + j.val)) * d.P r (1536 + j.val))))) : ℝ) : EReal) := by
  intro r j
  pointwise [k0_pay247, hv1180]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L248 (d : Blk) (e : Acc) (v1175 : Vec Ideal S128x256 .f32) (v1180 : FVec Ideal S128x256 .f32)
    (hv1175 : ∀ (r : Fin 128) (j : Fin 256), (v1175 (ix2 r j) : EReal) = ((d.P r (1536 + j.val) : ℝ) : EReal))
    (hv1180 : ∀ (r : Fin 128) (j : Fin 256), (v1180 (ix2 r j) : EReal) = (((d.P r (1536 + j.val) + ((((8943 / 200000) * d.P r (1536 + j.val)) * d.P r (1536 + j.val)) * d.P r (1536 + j.val))) : ℝ) : EReal)) :
    ∀ (r : Fin 128) (j : Fin 256), ((k0_pay248 (F := Ideal) v1175 v1180) (ix2 r j) : EReal) = ((d.U r (1536 + j.val) : ℝ) : EReal) := by
  intro r j
  pointwise [k0_pay248, hv1175, hv1180, L247 d e v1180 hv1180]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.U, gel, gt]

theorem L249 (d : Blk) (e : Acc) (v1175 : Vec Ideal S128x256 .f32) (v1180 : FVec Ideal S128x256 .f32)
    (hv1175 : ∀ (r : Fin 128) (j : Fin 256), (v1175 (ix2 r j) : EReal) = ((d.P r (1536 + j.val) : ℝ) : EReal))
    (hv1180 : ∀ (r : Fin 128) (j : Fin 256), (v1180 (ix2 r j) : EReal) = (((d.P r (1536 + j.val) + ((((8943 / 200000) * d.P r (1536 + j.val)) * d.P r (1536 + j.val)) * d.P r (1536 + j.val))) : ℝ) : EReal)) :
    ∀ (r : Fin 128) (j : Fin 256), ((k0_pay249 (F := Ideal) v1175 v1180) (ix2 r j) : EReal) = ((d.DU r (1536 + j.val) : ℝ) : EReal) := by
  intro r j
  pointwise [k0_pay249, hv1175, hv1180, L247 d e v1180 hv1180]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DU, dgel, gt]

theorem L250 (d : Blk) (e : Acc) (v1208 : Vec Ideal S128x256 .f32)
    (hv1208 : ∀ (r : Fin 128) (j : Fin 256), (v1208 (ix2 r j) : EReal) = ((d.P r (5632 + j.val) : ℝ) : EReal)) :
    ∀ (r : Fin 128) (j : Fin 256), ((k0_pay250 (F := Ideal) v1208) (ix2 r j) : EReal) = (((((1 / 2) * Real.tanh (((1 / 2) * d.P r (5632 + j.val)))) + (1 / 2)) : ℝ) : EReal) := by
  intro r j
  pointwise [k0_pay250, hv1208]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L251 (d : Blk) (e : Acc) (v1208 : Vec Ideal S128x256 .f32)
    (hv1208 : ∀ (r : Fin 128) (j : Fin 256), (v1208 (ix2 r j) : EReal) = ((d.P r (5632 + j.val) : ℝ) : EReal)) :
    ∀ (r : Fin 128) (j : Fin 256), ((k0_pay251 (F := Ideal) v1208) (ix2 r j) : EReal) = ((d.SG r (1536 + j.val) : ℝ) : EReal) := by
  intro r j
  pointwise [k0_pay251, hv1208, L250 d e v1208 hv1208]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.SG, silu, sgm]

theorem L252 (d : Blk) (e : Acc) (v1208 : Vec Ideal S128x256 .f32)
    (hv1208 : ∀ (r : Fin 128) (j : Fin 256), (v1208 (ix2 r j) : EReal) = ((d.P r (5632 + j.val) : ℝ) : EReal)) :
    ∀ (r : Fin 128) (j : Fin 256), ((k0_pay252 (F := Ideal) v1208) (ix2 r j) : EReal) = ((d.DSG r (1536 + j.val) : ℝ) : EReal) := by
  intro r j
  pointwise [k0_pay252, hv1208, L250 d e v1208 hv1208]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DSG, dsilu, sgm]

theorem L253 (d : Blk) (e : Acc) (v1223 : Vec Ideal S128x256 .bf16)
    (hv1223 : ∀ (r : Fin 128) (j : Fin 256), (v1223 (ix2 r j) : EReal) = ((d.Y r (1536 + j.val) : ℝ) : EReal)) :
    ∀ (r : Fin 128) (j : Fin 256), ((k0_pay253 (F := Ideal) v1223) (ix2 r j) : EReal) = ((d.Y r (1536 + j.val) : ℝ) : EReal) := by
  intro r j
  pointwise [k0_pay253, hv1223]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L254 (d : Blk) (e : Acc) (v1174 : FVec Ideal S128x256 .f32) (v1207 : FVec Ideal S128x256 .f32) (v1216 : FVec Ideal S128x256 .f32) (v1223 : Vec Ideal S128x256 .bf16)
    (hv1174 : ∀ (r : Fin 128) (j : Fin 256), (v1174 (ix2 r j) : EReal) = ((d.S 6 r (1536 + j.val) : ℝ) : EReal))
    (hv1207 : ∀ (r : Fin 128) (j : Fin 256), (v1207 (ix2 r j) : EReal) = ((d.DU r (1536 + j.val) : ℝ) : EReal))
    (hv1216 : ∀ (r : Fin 128) (j : Fin 256), (v1216 (ix2 r j) : EReal) = ((d.SG r (1536 + j.val) : ℝ) : EReal))
    (hv1223 : ∀ (r : Fin 128) (j : Fin 256), (v1223 (ix2 r j) : EReal) = ((d.Y r (1536 + j.val) : ℝ) : EReal)) :
    ∀ (r : Fin 128) (j : Fin 256), ((k0_pay254 (F := Ideal) v1174 v1207 v1216 v1223) (ix2 r j) : EReal) = ((d.DPU 6 r (1536 + j.val) : ℝ) : EReal) := by
  intro r j
  pointwise [k0_pay254, hv1174, hv1207, hv1216, hv1223, L253 d e v1223 hv1223]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPU]

theorem L255 (d : Blk) (e : Acc) (v1174 : FVec Ideal S128x256 .f32) (v1188 : FVec Ideal S128x256 .f32) (v1222 : FVec Ideal S128x256 .f32) (v1223 : Vec Ideal S128x256 .bf16)
    (hv1174 : ∀ (r : Fin 128) (j : Fin 256), (v1174 (ix2 r j) : EReal) = ((d.S 6 r (1536 + j.val) : ℝ) : EReal))
    (hv1188 : ∀ (r : Fin 128) (j : Fin 256), (v1188 (ix2 r j) : EReal) = ((d.U r (1536 + j.val) : ℝ) : EReal))
    (hv1222 : ∀ (r : Fin 128) (j : Fin 256), (v1222 (ix2 r j) : EReal) = ((d.DSG r (1536 + j.val) : ℝ) : EReal))
    (hv1223 : ∀ (r : Fin 128) (j : Fin 256), (v1223 (ix2 r j) : EReal) = ((d.Y r (1536 + j.val) : ℝ) : EReal)) :
    ∀ (r : Fin 128) (j : Fin 256), ((k0_pay255 (F := Ideal) v1174 v1188 v1222 v1223) (ix2 r j) : EReal) = ((d.DPG 6 r (1536 + j.val) : ℝ) : EReal) := by
  intro r j
  pointwise [k0_pay255, hv1174, hv1188, hv1222, hv1223, L253 d e v1223 hv1223]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPG]

theorem L256 (d : Blk) (e : Acc) (v1188 : FVec Ideal S128x256 .f32) (v1216 : FVec Ideal S128x256 .f32) (v1223 : Vec Ideal S128x256 .bf16)
    (hv1188 : ∀ (r : Fin 128) (j : Fin 256), (v1188 (ix2 r j) : EReal) = ((d.U r (1536 + j.val) : ℝ) : EReal))
    (hv1216 : ∀ (r : Fin 128) (j : Fin 256), (v1216 (ix2 r j) : EReal) = ((d.SG r (1536 + j.val) : ℝ) : EReal))
    (hv1223 : ∀ (r : Fin 128) (j : Fin 256), (v1223 (ix2 r j) : EReal) = ((d.Y r (1536 + j.val) : ℝ) : EReal)) :
    ∀ (r : Fin 128) (j : Fin 256), ((k0_pay256 (F := Ideal) v1188 v1216 v1223) (ix2 r j) : EReal) = ((d.DS r (1536 + j.val) : ℝ) : EReal) := by
  intro r j
  pointwise [k0_pay256, hv1188, hv1216, hv1223, L253 d e v1223 hv1223]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L257 (d : Blk) (e : Acc) (v1188 : FVec Ideal S128x256 .f32) (v1216 : FVec Ideal S128x256 .f32) (v1223 : Vec Ideal S128x256 .bf16)
    (hv1188 : ∀ (r : Fin 128) (j : Fin 256), (v1188 (ix2 r j) : EReal) = ((d.U r (1536 + j.val) : ℝ) : EReal))
    (hv1216 : ∀ (r : Fin 128) (j : Fin 256), (v1216 (ix2 r j) : EReal) = ((d.SG r (1536 + j.val) : ℝ) : EReal))
    (hv1223 : ∀ (r : Fin 128) (j : Fin 256), (v1223 (ix2 r j) : EReal) = ((d.Y r (1536 + j.val) : ℝ) : EReal)) :
    ∀ (r : Fin 128) (j : Fin 256), ((k0_pay257 (F := Ideal) v1188 v1216 v1223) (ix2 r j) : EReal) = ((d.DS r (1536 + j.val) : ℝ) : EReal) := by
  intro r j
  pointwise [k0_pay257, hv1188, hv1216, hv1223, L256 d e v1188 v1216 v1223 hv1188 hv1216 hv1223]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L258 (d : Blk) (e : Acc) (v1167 : FVec Ideal S128x256 .bf16) (v1188 : FVec Ideal S128x256 .f32) (v1216 : FVec Ideal S128x256 .f32) (v1223 : Vec Ideal S128x256 .bf16) (v1238 : Vec Ideal S1x128x128 .f32)
    (hv1167 : ∀ (r : Fin 128) (j : Fin 256), (v1167 (ix2 r j) : EReal) = ((d.VL r (1536 + j.val) : ℝ) : EReal))
    (hv1188 : ∀ (r : Fin 128) (j : Fin 256), (v1188 (ix2 r j) : EReal) = ((d.U r (1536 + j.val) : ℝ) : EReal))
    (hv1216 : ∀ (r : Fin 128) (j : Fin 256), (v1216 (ix2 r j) : EReal) = ((d.SG r (1536 + j.val) : ℝ) : EReal))
    (hv1223 : ∀ (r : Fin 128) (j : Fin 256), (v1223 (ix2 r j) : EReal) = ((d.Y r (1536 + j.val) : ℝ) : EReal))
    (hv1238 : ∀ (r : Fin 128) (b : Fin 128), (v1238 (ix3 0 r b) : EReal) = ((e.A7 6 r b : ℝ) : EReal)) :
    ∀ (r : Fin 128) (b : Fin 128), ((k0_pay258 (F := Ideal) v1167 v1188 v1216 v1223 v1238) (ix3 0 r b) : EReal) = ((e.A7 6 r b + d.DWS 6 r b : ℝ) : EReal) := by
  intro r b
  pointwise [k0_pay258, hv1167, hv1188, hv1216, hv1223, hv1238, L257 d e v1188 v1216 v1223 hv1188 hv1216 hv1223]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DWS]

theorem L259 (d : Blk) (e : Acc) (v1188 : FVec Ideal S128x256 .f32) (v1216 : FVec Ideal S128x256 .f32) (v1223 : Vec Ideal S128x256 .bf16) (v1245 : Vec Ideal S1x128x1 .f32)
    (hv1188 : ∀ (r : Fin 128) (j : Fin 256), (v1188 (ix2 r j) : EReal) = ((d.U r (1536 + j.val) : ℝ) : EReal))
    (hv1216 : ∀ (r : Fin 128) (j : Fin 256), (v1216 (ix2 r j) : EReal) = ((d.SG r (1536 + j.val) : ℝ) : EReal))
    (hv1223 : ∀ (r : Fin 128) (j : Fin 256), (v1223 (ix2 r j) : EReal) = ((d.Y r (1536 + j.val) : ℝ) : EReal))
    (hv1245 : ∀ (r : Fin 128), (v1245 (ix3 0 r 0) : EReal) = ((e.A8 6 r : ℝ) : EReal)) :
    ∀ (r : Fin 128), ((k0_pay259 (F := Ideal) v1188 v1216 v1223 v1245) (ix3 0 r 0) : EReal) = ((e.A8 6 r + d.DBS 6 r : ℝ) : EReal) := by
  intro r
  pointwise [k0_pay259, hv1188, hv1216, hv1223, hv1245, L256 d e v1188 v1216 v1223 hv1188 hv1216 hv1223]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DBS]

theorem L260 (d : Blk) (e : Acc) (v1188 : FVec Ideal S128x256 .f32) (v1216 : FVec Ideal S128x256 .f32) (v1223 : Vec Ideal S128x256 .bf16) (v1253 : Vec Ideal S1x128x128 .bf16)
    (hv1188 : ∀ (r : Fin 128) (j : Fin 256), (v1188 (ix2 r j) : EReal) = ((d.U r (1536 + j.val) : ℝ) : EReal))
    (hv1216 : ∀ (r : Fin 128) (j : Fin 256), (v1216 (ix2 r j) : EReal) = ((d.SG r (1536 + j.val) : ℝ) : EReal))
    (hv1223 : ∀ (r : Fin 128) (j : Fin 256), (v1223 (ix2 r j) : EReal) = ((d.Y r (1536 + j.val) : ℝ) : EReal))
    (hv1253 : ∀ (r : Fin 128) (b : Fin 128), (v1253 (ix3 0 r b) : EReal) = ((d.W 6 r b : ℝ) : EReal)) :
    ∀ (r : Fin 128) (j : Fin 256), ((k0_pay260 (F := Ideal) v1188 v1216 v1223 v1253) (ix2 r j) : EReal) = ((d.DVL 6 r (1536 + j.val) : ℝ) : EReal) := by
  intro r j
  pointwise [k0_pay260, hv1188, hv1216, hv1223, hv1253, L257 d e v1188 v1216 v1223 hv1188 hv1216 hv1223]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVL]

theorem L261 (d : Blk) (e : Acc) (v1161 : FVec Ideal S128x256 .f32) (v1255 : FVec Ideal S128x256 .f32) (v1256 : Vec Ideal S1x256 .f32)
    (hv1161 : ∀ (r : Fin 128) (j : Fin 256), (v1161 (ix2 r j) : EReal) = ((d.VH r (1536 + j.val) : ℝ) : EReal))
    (hv1255 : ∀ (r : Fin 128) (j : Fin 256), (v1255 (ix2 r j) : EReal) = ((d.DVL 6 r (1536 + j.val) : ℝ) : EReal))
    (hv1256 : ∀ (j : Fin 256), (v1256 (ix2 0 j) : EReal) = ((e.A9 (1536 + j.val) : ℝ) : EReal)) :
    ∀ (j : Fin 256), ((k0_pay261 (F := Ideal) v1161 v1255 v1256) (ix2 0 j) : EReal) = ((e.A9 (1536 + j.val) + d.DLG 6 (1536 + j.val) : ℝ) : EReal) := by
  intro j
  pointwise [k0_pay261, hv1161, hv1255, hv1256]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLG]

theorem L262 (d : Blk) (e : Acc) (v1255 : FVec Ideal S128x256 .f32) (v1263 : Vec Ideal S1x256 .f32)
    (hv1255 : ∀ (r : Fin 128) (j : Fin 256), (v1255 (ix2 r j) : EReal) = ((d.DVL 6 r (1536 + j.val) : ℝ) : EReal))
    (hv1263 : ∀ (j : Fin 256), (v1263 (ix2 0 j) : EReal) = ((e.A10 (1536 + j.val) : ℝ) : EReal)) :
    ∀ (j : Fin 256), ((k0_pay262 (F := Ideal) v1255 v1263) (ix2 0 j) : EReal) = ((e.A10 (1536 + j.val) + d.DLB 6 (1536 + j.val) : ℝ) : EReal) := by
  intro j
  pointwise [k0_pay262, hv1255, hv1263]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLB]

theorem L263 (d : Blk) (e : Acc) (v1156 : Vec Ideal S1x256 .f32) (v1255 : FVec Ideal S128x256 .f32)
    (hv1156 : ∀ (j : Fin 256), (v1156 (ix2 0 j) : EReal) = ((d.G (1536 + j.val) : ℝ) : EReal))
    (hv1255 : ∀ (r : Fin 128) (j : Fin 256), (v1255 (ix2 r j) : EReal) = ((d.DVL 6 r (1536 + j.val) : ℝ) : EReal)) :
    ∀ (r : Fin 128) (j : Fin 256), ((k0_pay263 (F := Ideal) v1156 v1255) (ix2 r j) : EReal) = ((d.DVH 6 r (1536 + j.val) : ℝ) : EReal) := by
  intro r j
  pointwise [k0_pay263, hv1156, hv1255]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L264 (d : Blk) (e : Acc) (v1156 : Vec Ideal S1x256 .f32) (v1255 : FVec Ideal S128x256 .f32)
    (hv1156 : ∀ (j : Fin 256), (v1156 (ix2 0 j) : EReal) = ((d.G (1536 + j.val) : ℝ) : EReal))
    (hv1255 : ∀ (r : Fin 128) (j : Fin 256), (v1255 (ix2 r j) : EReal) = ((d.DVL 6 r (1536 + j.val) : ℝ) : EReal)) :
    ∀ (r : Fin 128) (j : Fin 256), ((k0_pay264 (F := Ideal) v1156 v1255) (ix2 r j) : EReal) = ((d.DVH 6 r (1536 + j.val) : ℝ) : EReal) := by
  intro r j
  pointwise [k0_pay264, hv1156, hv1255, L263 d e v1156 v1255 hv1156 hv1255]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L265 (d : Blk) (e : Acc) (v1151 : FVec Ideal S128x1 .f32) (v1156 : Vec Ideal S1x256 .f32) (v1255 : FVec Ideal S128x256 .f32)
    (hv1151 : ∀ (r : Fin 128), (v1151 (ix2 r 0) : EReal) = ((Blk.psum (fun g => d.DVH g r) 6 : ℝ) : EReal))
    (hv1156 : ∀ (j : Fin 256), (v1156 (ix2 0 j) : EReal) = ((d.G (1536 + j.val) : ℝ) : EReal))
    (hv1255 : ∀ (r : Fin 128) (j : Fin 256), (v1255 (ix2 r j) : EReal) = ((d.DVL 6 r (1536 + j.val) : ℝ) : EReal)) :
    ∀ (r : Fin 128), ((k0_pay265 (F := Ideal) v1151 v1156 v1255) (ix2 r 0) : EReal) = ((Blk.psum (fun g => d.DVH g r) 7 : ℝ) : EReal) := by
  intro r
  pointwise [k0_pay265, hv1151, hv1156, hv1255, L263 d e v1156 v1255 hv1156 hv1255]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L266 (d : Blk) (e : Acc) (v1155 : FVec Ideal S128x1 .f32) (v1156 : Vec Ideal S1x256 .f32) (v1161 : FVec Ideal S128x256 .f32) (v1255 : FVec Ideal S128x256 .f32)
    (hv1155 : ∀ (r : Fin 128), (v1155 (ix2 r 0) : EReal) = ((Blk.psum (fun g c => d.DVH g r c * d.VH r c) 6 : ℝ) : EReal))
    (hv1156 : ∀ (j : Fin 256), (v1156 (ix2 0 j) : EReal) = ((d.G (1536 + j.val) : ℝ) : EReal))
    (hv1161 : ∀ (r : Fin 128) (j : Fin 256), (v1161 (ix2 r j) : EReal) = ((d.VH r (1536 + j.val) : ℝ) : EReal))
    (hv1255 : ∀ (r : Fin 128) (j : Fin 256), (v1255 (ix2 r j) : EReal) = ((d.DVL 6 r (1536 + j.val) : ℝ) : EReal)) :
    ∀ (r : Fin 128), ((k0_pay266 (F := Ideal) v1155 v1156 v1161 v1255) (ix2 r 0) : EReal) = ((Blk.psum (fun g c => d.DVH g r c * d.VH r c) 7 : ℝ) : EReal) := by
  intro r
  pointwise [k0_pay266, hv1155, hv1156, hv1161, hv1255, L263 d e v1156 v1255 hv1156 hv1255]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L267 (d : Blk) (e : Acc) (v341 : FVec Ideal S128x1 .f32) (v403 : FVec Ideal S128x1 .f32) (v1282 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1282 : ∀ (r : Fin 128) (j : Fin 256), (v1282 (ix2 r j) : EReal) = ((d.VG r (1792 + j.val) : ℝ) : EReal)) :
    ∀ (r : Fin 128) (j : Fin 256), ((k0_pay267 (F := Ideal) v341 v403 v1282) (ix2 r j) : EReal) = ((d.VH r (1792 + j.val) : ℝ) : EReal) := by
  intro r j
  pointwise [k0_pay267, hv341, hv403, hv1282]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VH, Blk.VC]

theorem L268 (d : Blk) (e : Acc) (v341 : FVec Ideal S128x1 .f32) (v403 : FVec Ideal S128x1 .f32) (v1281 : Vec Ideal S1x256 .f32) (v1282 : Vec Ideal S128x256 .f32) (v1289 : Vec Ideal S1x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1281 : ∀ (j : Fin 256), (v1281 (ix2 0 j) : EReal) = ((d.G (1792 + j.val) : ℝ) : EReal))
    (hv1282 : ∀ (r : Fin 128) (j : Fin 256), (v1282 (ix2 r j) : EReal) = ((d.VG r (1792 + j.val) : ℝ) : EReal))
    (hv1289 : ∀ (j : Fin 256), (v1289 (ix2 0 j) : EReal) = ((d.B (1792 + j.val) : ℝ) : EReal)) :
    ∀ (r : Fin 128) (j : Fin 256), ((k0_pay268 (F := Ideal) v341 v403 v1281 v1282 v1289) (ix2 r j) : EReal) = ((d.VL r (1792 + j.val) : ℝ) : EReal) := by
  intro r j
  pointwise [k0_pay268, hv341, hv403, hv1281, hv1282, hv1289, L267 d e v341 v403 v1282 hv341 hv403 hv1282]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.VL, Blk.VH, Blk.VC]

theorem L269 (d : Blk) (e : Acc) (v1292 : FVec Ideal S128x256 .bf16) (v1293 : Vec Ideal S1x128x128 .bf16) (v1296 : Vec Ideal S1x128x1 .f32)
    (hv1292 : ∀ (r : Fin 128) (j : Fin 256), (v1292 (ix2 r j) : EReal) = ((d.VL r (1792 + j.val) : ℝ) : EReal))
    (hv1293 : ∀ (r : Fin 128) (b : Fin 128), (v1293 (ix3 0 r b) : EReal) = ((d.W 7 r b : ℝ) : EReal))
    (hv1296 : ∀ (r : Fin 128), (v1296 (ix3 0 r 0) : EReal) = ((d.b 7 r : ℝ) : EReal)) :
    ∀ (r : Fin 128) (j : Fin 256), ((k0_pay269 (F := Ideal) v1292 v1293 v1296) (ix2 r j) : EReal) = ((d.S 7 r (1792 + j.val) : ℝ) : EReal) := by
  intro r j
  pointwise [k0_pay269, hv1292, hv1293, hv1296]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.S, Blk.VL, Blk.VH, Blk.VC]

theorem L270 (d : Blk) (e : Acc) (v1300 : Vec Ideal S128x256 .f32)
    (hv1300 : ∀ (r : Fin 128) (j : Fin 256), (v1300 (ix2 r j) : EReal) = ((d.P r (1792 + j.val) : ℝ) : EReal)) :
    ∀ (r : Fin 128) (j : Fin 256), ((k0_pay270 (F := Ideal) v1300) (ix2 r j) : EReal) = ((Real.tanh ((c0 * (d.P r (1792 + j.val) + ((((8943 / 200000) * d.P r (1792 + j.val)) * d.P r (1792 + j.val)) * d.P r (1792 + j.val))))) : ℝ) : EReal) := by
  intro r j
  pointwise [k0_pay270, hv1300]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L271 (d : Blk) (e : Acc) (v1300 : Vec Ideal S128x256 .f32)
    (hv1300 : ∀ (r : Fin 128) (j : Fin 256), (v1300 (ix2 r j) : EReal) = ((d.P r (1792 + j.val) : ℝ) : EReal)) :
    ∀ (r : Fin 128) (j : Fin 256), ((k0_pay271 (F := Ideal) v1300) (ix2 r j) : EReal) = ((d.U r (1792 + j.val) : ℝ) : EReal) := by
  intro r j
  pointwise [k0_pay271, hv1300, L270 d e v1300 hv1300]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.U, gel, gt]

theorem L272 (d : Blk) (e : Acc) (v1300 : Vec Ideal S128x256 .f32)
    (hv1300 : ∀ (r : Fin 128) (j : Fin 256), (v1300 (ix2 r j) : EReal) = ((d.P r (1792 + j.val) : ℝ) : EReal)) :
    ∀ (r : Fin 128) (j : Fin 256), ((k0_pay272 (F := Ideal) v1300) (ix2 r j) : EReal) = ((d.DU r (1792 + j.val) : ℝ) : EReal) := by
  intro r j
  pointwise [k0_pay272, hv1300, L270 d e v1300 hv1300]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DU, dgel, gt]

theorem L273 (d : Blk) (e : Acc) (v1333 : Vec Ideal S128x256 .f32)
    (hv1333 : ∀ (r : Fin 128) (j : Fin 256), (v1333 (ix2 r j) : EReal) = ((d.P r (5888 + j.val) : ℝ) : EReal)) :
    ∀ (r : Fin 128) (j : Fin 256), ((k0_pay273 (F := Ideal) v1333) (ix2 r j) : EReal) = (((((1 / 2) * Real.tanh (((1 / 2) * d.P r (5888 + j.val)))) + (1 / 2)) : ℝ) : EReal) := by
  intro r j
  pointwise [k0_pay273, hv1333]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L274 (d : Blk) (e : Acc) (v1333 : Vec Ideal S128x256 .f32)
    (hv1333 : ∀ (r : Fin 128) (j : Fin 256), (v1333 (ix2 r j) : EReal) = ((d.P r (5888 + j.val) : ℝ) : EReal)) :
    ∀ (r : Fin 128) (j : Fin 256), ((k0_pay274 (F := Ideal) v1333) (ix2 r j) : EReal) = ((d.SG r (1792 + j.val) : ℝ) : EReal) := by
  intro r j
  pointwise [k0_pay274, hv1333, L273 d e v1333 hv1333]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.SG, silu, sgm]

theorem L275 (d : Blk) (e : Acc) (v1348 : Vec Ideal S128x256 .bf16)
    (hv1348 : ∀ (r : Fin 128) (j : Fin 256), (v1348 (ix2 r j) : EReal) = ((d.Y r (1792 + j.val) : ℝ) : EReal)) :
    ∀ (r : Fin 128) (j : Fin 256), ((k0_pay275 (F := Ideal) v1348) (ix2 r j) : EReal) = ((d.Y r (1792 + j.val) : ℝ) : EReal) := by
  intro r j
  pointwise [k0_pay275, hv1348]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L276 (d : Blk) (e : Acc) (v1299 : FVec Ideal S128x256 .f32) (v1332 : FVec Ideal S128x256 .f32) (v1333 : Vec Ideal S128x256 .f32) (v1348 : Vec Ideal S128x256 .bf16)
    (hv1299 : ∀ (r : Fin 128) (j : Fin 256), (v1299 (ix2 r j) : EReal) = ((d.S 7 r (1792 + j.val) : ℝ) : EReal))
    (hv1332 : ∀ (r : Fin 128) (j : Fin 256), (v1332 (ix2 r j) : EReal) = ((d.DU r (1792 + j.val) : ℝ) : EReal))
    (hv1333 : ∀ (r : Fin 128) (j : Fin 256), (v1333 (ix2 r j) : EReal) = ((d.P r (5888 + j.val) : ℝ) : EReal))
    (hv1348 : ∀ (r : Fin 128) (j : Fin 256), (v1348 (ix2 r j) : EReal) = ((d.Y r (1792 + j.val) : ℝ) : EReal)) :
    ∀ (r : Fin 128) (j : Fin 256), ((k0_pay276 (F := Ideal) v1299 v1332 v1333 v1348) (ix2 r j) : EReal) = ((d.DPU 7 r (1792 + j.val) : ℝ) : EReal) := by
  intro r j
  pointwise [k0_pay276, hv1299, hv1332, hv1333, hv1348, L275 d e v1348 hv1348, L274 d e v1333 hv1333]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPU]

theorem L277 (d : Blk) (e : Acc) (v1299 : FVec Ideal S128x256 .f32) (v1313 : FVec Ideal S128x256 .f32) (v1333 : Vec Ideal S128x256 .f32) (v1348 : Vec Ideal S128x256 .bf16)
    (hv1299 : ∀ (r : Fin 128) (j : Fin 256), (v1299 (ix2 r j) : EReal) = ((d.S 7 r (1792 + j.val) : ℝ) : EReal))
    (hv1313 : ∀ (r : Fin 128) (j : Fin 256), (v1313 (ix2 r j) : EReal) = ((d.U r (1792 + j.val) : ℝ) : EReal))
    (hv1333 : ∀ (r : Fin 128) (j : Fin 256), (v1333 (ix2 r j) : EReal) = ((d.P r (5888 + j.val) : ℝ) : EReal))
    (hv1348 : ∀ (r : Fin 128) (j : Fin 256), (v1348 (ix2 r j) : EReal) = ((d.Y r (1792 + j.val) : ℝ) : EReal)) :
    ∀ (r : Fin 128) (j : Fin 256), ((k0_pay277 (F := Ideal) v1299 v1313 v1333 v1348) (ix2 r j) : EReal) = ((d.DPG 7 r (1792 + j.val) : ℝ) : EReal) := by
  intro r j
  pointwise [k0_pay277, hv1299, hv1313, hv1333, hv1348, L273 d e v1333 hv1333, L275 d e v1348 hv1348]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPG, Blk.DSG, dsilu, sgm]

theorem L278 (d : Blk) (e : Acc) (v1313 : FVec Ideal S128x256 .f32) (v1333 : Vec Ideal S128x256 .f32) (v1348 : Vec Ideal S128x256 .bf16)
    (hv1313 : ∀ (r : Fin 128) (j : Fin 256), (v1313 (ix2 r j) : EReal) = ((d.U r (1792 + j.val) : ℝ) : EReal))
    (hv1333 : ∀ (r : Fin 128) (j : Fin 256), (v1333 (ix2 r j) : EReal) = ((d.P r (5888 + j.val) : ℝ) : EReal))
    (hv1348 : ∀ (r : Fin 128) (j : Fin 256), (v1348 (ix2 r j) : EReal) = ((d.Y r (1792 + j.val) : ℝ) : EReal)) :
    ∀ (r : Fin 128) (j : Fin 256), ((k0_pay278 (F := Ideal) v1313 v1333 v1348) (ix2 r j) : EReal) = ((d.DS r (1792 + j.val) : ℝ) : EReal) := by
  intro r j
  pointwise [k0_pay278, hv1313, hv1333, hv1348, L275 d e v1348 hv1348, L274 d e v1333 hv1333]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L279 (d : Blk) (e : Acc) (v1313 : FVec Ideal S128x256 .f32) (v1333 : Vec Ideal S128x256 .f32) (v1348 : Vec Ideal S128x256 .bf16)
    (hv1313 : ∀ (r : Fin 128) (j : Fin 256), (v1313 (ix2 r j) : EReal) = ((d.U r (1792 + j.val) : ℝ) : EReal))
    (hv1333 : ∀ (r : Fin 128) (j : Fin 256), (v1333 (ix2 r j) : EReal) = ((d.P r (5888 + j.val) : ℝ) : EReal))
    (hv1348 : ∀ (r : Fin 128) (j : Fin 256), (v1348 (ix2 r j) : EReal) = ((d.Y r (1792 + j.val) : ℝ) : EReal)) :
    ∀ (r : Fin 128) (j : Fin 256), ((k0_pay279 (F := Ideal) v1313 v1333 v1348) (ix2 r j) : EReal) = ((d.DS r (1792 + j.val) : ℝ) : EReal) := by
  intro r j
  pointwise [k0_pay279, hv1313, hv1333, hv1348, L278 d e v1313 v1333 v1348 hv1313 hv1333 hv1348]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DS]

theorem L280 (d : Blk) (e : Acc) (v1292 : FVec Ideal S128x256 .bf16) (v1313 : FVec Ideal S128x256 .f32) (v1333 : Vec Ideal S128x256 .f32) (v1348 : Vec Ideal S128x256 .bf16) (v1363 : Vec Ideal S1x128x128 .f32)
    (hv1292 : ∀ (r : Fin 128) (j : Fin 256), (v1292 (ix2 r j) : EReal) = ((d.VL r (1792 + j.val) : ℝ) : EReal))
    (hv1313 : ∀ (r : Fin 128) (j : Fin 256), (v1313 (ix2 r j) : EReal) = ((d.U r (1792 + j.val) : ℝ) : EReal))
    (hv1333 : ∀ (r : Fin 128) (j : Fin 256), (v1333 (ix2 r j) : EReal) = ((d.P r (5888 + j.val) : ℝ) : EReal))
    (hv1348 : ∀ (r : Fin 128) (j : Fin 256), (v1348 (ix2 r j) : EReal) = ((d.Y r (1792 + j.val) : ℝ) : EReal))
    (hv1363 : ∀ (r : Fin 128) (b : Fin 128), (v1363 (ix3 0 r b) : EReal) = ((e.A7 7 r b : ℝ) : EReal)) :
    ∀ (r : Fin 128) (b : Fin 128), ((k0_pay280 (F := Ideal) v1292 v1313 v1333 v1348 v1363) (ix3 0 r b) : EReal) = ((e.A7 7 r b + d.DWS 7 r b : ℝ) : EReal) := by
  intro r b
  pointwise [k0_pay280, hv1292, hv1313, hv1333, hv1348, hv1363, L279 d e v1313 v1333 v1348 hv1313 hv1333 hv1348]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DWS]

theorem L281 (d : Blk) (e : Acc) (v1361 : FVec Ideal S128x256 .f32) (v1370 : Vec Ideal S1x128x1 .f32)
    (hv1361 : ∀ (r : Fin 128) (j : Fin 256), (v1361 (ix2 r j) : EReal) = ((d.DS r (1792 + j.val) : ℝ) : EReal))
    (hv1370 : ∀ (r : Fin 128), (v1370 (ix3 0 r 0) : EReal) = ((e.A8 7 r : ℝ) : EReal)) :
    ∀ (r : Fin 128), ((k0_pay281 (F := Ideal) v1361 v1370) (ix3 0 r 0) : EReal) = ((e.A8 7 r + d.DBS 7 r : ℝ) : EReal) := by
  intro r
  pointwise [k0_pay281, hv1361, hv1370]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DBS]

theorem L282 (d : Blk) (e : Acc) (v1362 : FVec Ideal S128x256 .bf16) (v1378 : Vec Ideal S1x128x128 .bf16)
    (hv1362 : ∀ (r : Fin 128) (j : Fin 256), (v1362 (ix2 r j) : EReal) = ((d.DS r (1792 + j.val) : ℝ) : EReal))
    (hv1378 : ∀ (r : Fin 128) (b : Fin 128), (v1378 (ix3 0 r b) : EReal) = ((d.W 7 r b : ℝ) : EReal)) :
    ∀ (r : Fin 128) (j : Fin 256), ((k0_pay282 (F := Ideal) v1362 v1378) (ix2 r j) : EReal) = ((d.DVL 7 r (1792 + j.val) : ℝ) : EReal) := by
  intro r j
  pointwise [k0_pay282, hv1362, hv1378]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVL]

theorem L283 (d : Blk) (e : Acc) (v1286 : FVec Ideal S128x256 .f32) (v1362 : FVec Ideal S128x256 .bf16) (v1378 : Vec Ideal S1x128x128 .bf16) (v1381 : Vec Ideal S1x256 .f32)
    (hv1286 : ∀ (r : Fin 128) (j : Fin 256), (v1286 (ix2 r j) : EReal) = ((d.VH r (1792 + j.val) : ℝ) : EReal))
    (hv1362 : ∀ (r : Fin 128) (j : Fin 256), (v1362 (ix2 r j) : EReal) = ((d.DS r (1792 + j.val) : ℝ) : EReal))
    (hv1378 : ∀ (r : Fin 128) (b : Fin 128), (v1378 (ix3 0 r b) : EReal) = ((d.W 7 r b : ℝ) : EReal))
    (hv1381 : ∀ (j : Fin 256), (v1381 (ix2 0 j) : EReal) = ((e.A9 (1792 + j.val) : ℝ) : EReal)) :
    ∀ (j : Fin 256), ((k0_pay283 (F := Ideal) v1286 v1362 v1378 v1381) (ix2 0 j) : EReal) = ((e.A9 (1792 + j.val) + d.DLG 7 (1792 + j.val) : ℝ) : EReal) := by
  intro j
  pointwise [k0_pay283, hv1286, hv1362, hv1378, hv1381, L282 d e v1362 v1378 hv1362 hv1378]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLG]

theorem L284 (d : Blk) (e : Acc) (v1362 : FVec Ideal S128x256 .bf16) (v1378 : Vec Ideal S1x128x128 .bf16) (v1388 : Vec Ideal S1x256 .f32)
    (hv1362 : ∀ (r : Fin 128) (j : Fin 256), (v1362 (ix2 r j) : EReal) = ((d.DS r (1792 + j.val) : ℝ) : EReal))
    (hv1378 : ∀ (r : Fin 128) (b : Fin 128), (v1378 (ix3 0 r b) : EReal) = ((d.W 7 r b : ℝ) : EReal))
    (hv1388 : ∀ (j : Fin 256), (v1388 (ix2 0 j) : EReal) = ((e.A10 (1792 + j.val) : ℝ) : EReal)) :
    ∀ (j : Fin 256), ((k0_pay284 (F := Ideal) v1362 v1378 v1388) (ix2 0 j) : EReal) = ((e.A10 (1792 + j.val) + d.DLB 7 (1792 + j.val) : ℝ) : EReal) := by
  intro j
  pointwise [k0_pay284, hv1362, hv1378, hv1388, L282 d e v1362 v1378 hv1362 hv1378]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DLB]

theorem L285 (d : Blk) (e : Acc) (v1281 : Vec Ideal S1x256 .f32) (v1362 : FVec Ideal S128x256 .bf16) (v1378 : Vec Ideal S1x128x128 .bf16)
    (hv1281 : ∀ (j : Fin 256), (v1281 (ix2 0 j) : EReal) = ((d.G (1792 + j.val) : ℝ) : EReal))
    (hv1362 : ∀ (r : Fin 128) (j : Fin 256), (v1362 (ix2 r j) : EReal) = ((d.DS r (1792 + j.val) : ℝ) : EReal))
    (hv1378 : ∀ (r : Fin 128) (b : Fin 128), (v1378 (ix3 0 r b) : EReal) = ((d.W 7 r b : ℝ) : EReal)) :
    ∀ (r : Fin 128) (j : Fin 256), ((k0_pay285 (F := Ideal) v1281 v1362 v1378) (ix2 r j) : EReal) = ((d.DVH 7 r (1792 + j.val) : ℝ) : EReal) := by
  intro r j
  pointwise [k0_pay285, hv1281, hv1362, hv1378, L282 d e v1362 v1378 hv1362 hv1378]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L286 (d : Blk) (e : Acc) (v1281 : Vec Ideal S1x256 .f32) (v1362 : FVec Ideal S128x256 .bf16) (v1378 : Vec Ideal S1x128x128 .bf16)
    (hv1281 : ∀ (j : Fin 256), (v1281 (ix2 0 j) : EReal) = ((d.G (1792 + j.val) : ℝ) : EReal))
    (hv1362 : ∀ (r : Fin 128) (j : Fin 256), (v1362 (ix2 r j) : EReal) = ((d.DS r (1792 + j.val) : ℝ) : EReal))
    (hv1378 : ∀ (r : Fin 128) (b : Fin 128), (v1378 (ix3 0 r b) : EReal) = ((d.W 7 r b : ℝ) : EReal)) :
    ∀ (r : Fin 128) (j : Fin 256), ((k0_pay286 (F := Ideal) v1281 v1362 v1378) (ix2 r j) : EReal) = ((d.DVH 7 r (1792 + j.val) : ℝ) : EReal) := by
  intro r j
  pointwise [k0_pay286, hv1281, hv1362, hv1378, L285 d e v1281 v1362 v1378 hv1281 hv1362 hv1378]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DVH]

theorem L287 (d : Blk) (e : Acc) (v1276 : FVec Ideal S128x1 .f32) (v1281 : Vec Ideal S1x256 .f32) (v1362 : FVec Ideal S128x256 .bf16) (v1378 : Vec Ideal S1x128x128 .bf16)
    (hv1276 : ∀ (r : Fin 128), (v1276 (ix2 r 0) : EReal) = ((Blk.psum (fun g => d.DVH g r) 7 : ℝ) : EReal))
    (hv1281 : ∀ (j : Fin 256), (v1281 (ix2 0 j) : EReal) = ((d.G (1792 + j.val) : ℝ) : EReal))
    (hv1362 : ∀ (r : Fin 128) (j : Fin 256), (v1362 (ix2 r j) : EReal) = ((d.DS r (1792 + j.val) : ℝ) : EReal))
    (hv1378 : ∀ (r : Fin 128) (b : Fin 128), (v1378 (ix3 0 r b) : EReal) = ((d.W 7 r b : ℝ) : EReal)) :
    ∀ (r : Fin 128), ((k0_pay287 (F := Ideal) v1276 v1281 v1362 v1378) (ix2 r 0) : EReal) = ((Blk.psum (fun g => d.DVH g r) 8 : ℝ) : EReal) := by
  intro r
  pointwise [k0_pay287, hv1276, hv1281, hv1362, hv1378, L285 d e v1281 v1362 v1378 hv1281 hv1362 hv1378]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.psum_succ, Blk.psum_zero, Blk.bsum]

theorem L288 (d : Blk) (e : Acc) (v1401 : FVec Ideal S128x1 .f32)
    (hv1401 : ∀ (r : Fin 128), (v1401 (ix2 r 0) : EReal) = ((Blk.psum (fun g => d.DVH g r) 8 : ℝ) : EReal)) :
    ∀ (r : Fin 128), ((k0_pay288 (F := Ideal) v1401) (ix2 r 0) : EReal) = ((d.M1 r : ℝ) : EReal) := by
  intro r
  pointwise [k0_pay288, hv1401]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.M1, Blk.psum_succ, Blk.psum_zero, Blk.bsum]

theorem L289 (d : Blk) (e : Acc) (v1280 : FVec Ideal S128x1 .f32) (v1286 : FVec Ideal S128x256 .f32) (v1395 : FVec Ideal S128x256 .f32)
    (hv1280 : ∀ (r : Fin 128), (v1280 (ix2 r 0) : EReal) = ((Blk.psum (fun g c => d.DVH g r c * d.VH r c) 7 : ℝ) : EReal))
    (hv1286 : ∀ (r : Fin 128) (j : Fin 256), (v1286 (ix2 r j) : EReal) = ((d.VH r (1792 + j.val) : ℝ) : EReal))
    (hv1395 : ∀ (r : Fin 128) (j : Fin 256), (v1395 (ix2 r j) : EReal) = ((d.DVH 7 r (1792 + j.val) : ℝ) : EReal)) :
    ∀ (r : Fin 128), ((k0_pay289 (F := Ideal) v1280 v1286 v1395) (ix2 r 0) : EReal) = ((d.M2 r : ℝ) : EReal) := by
  intro r
  pointwise [k0_pay289, hv1280, hv1286, hv1395]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.M2, Blk.psum_succ, Blk.psum_zero, Blk.bsum]

theorem L290 (d : Blk) (e : Acc) (v341 : FVec Ideal S128x1 .f32) (v403 : FVec Ideal S128x1 .f32) (v1280 : FVec Ideal S128x1 .f32) (v1286 : FVec Ideal S128x256 .f32) (v1395 : FVec Ideal S128x256 .f32) (v1401 : FVec Ideal S128x1 .f32) (v1410 : Vec Ideal S128x256 .f32) (v1415 : Vec Ideal S128x256 .f32) (v1423 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1280 : ∀ (r : Fin 128), (v1280 (ix2 r 0) : EReal) = ((Blk.psum (fun g c => d.DVH g r c * d.VH r c) 7 : ℝ) : EReal))
    (hv1286 : ∀ (r : Fin 128) (j : Fin 256), (v1286 (ix2 r j) : EReal) = ((d.VH r (1792 + j.val) : ℝ) : EReal))
    (hv1395 : ∀ (r : Fin 128) (j : Fin 256), (v1395 (ix2 r j) : EReal) = ((d.DVH 7 r (1792 + j.val) : ℝ) : EReal))
    (hv1401 : ∀ (r : Fin 128), (v1401 (ix2 r 0) : EReal) = ((Blk.psum (fun g => d.DVH g r) 8 : ℝ) : EReal))
    (hv1410 : ∀ (r : Fin 128) (j : Fin 256), (v1410 (ix2 r j) : EReal) = ((d.VG r j.val : ℝ) : EReal))
    (hv1415 : ∀ (r : Fin 128) (j : Fin 256), (v1415 (ix2 r j) : EReal) = ((d.DVH 0 r j.val : ℝ) : EReal))
    (hv1423 : ∀ (r : Fin 128) (j : Fin 256), (v1423 (ix2 r j) : EReal) = ((d.DG r j.val : ℝ) : EReal)) :
    ∀ (r : Fin 128) (j : Fin 256), ((k0_pay290 (F := Ideal) v341 v403 v1280 v1286 v1395 v1401 v1410 v1415 v1423) (ix2 r j) : EReal) = ((d.DPV 0 r j.val : ℝ) : EReal) := by
  intro r j
  pointwise [k0_pay290, hv341, hv403, hv1280, hv1286, hv1395, hv1401, hv1410, hv1415, hv1423, L288 d e v1401 hv1401, L289 d e v1280 v1286 v1395 hv1280 hv1286 hv1395]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPV, Blk.VH, Blk.VC]

theorem L291 (d : Blk) (e : Acc) (v341 : FVec Ideal S128x1 .f32) (v403 : FVec Ideal S128x1 .f32) (v1280 : FVec Ideal S128x1 .f32) (v1286 : FVec Ideal S128x256 .f32) (v1395 : FVec Ideal S128x256 .f32) (v1401 : FVec Ideal S128x1 .f32) (v1427 : Vec Ideal S128x256 .f32) (v1432 : Vec Ideal S128x256 .f32) (v1440 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1280 : ∀ (r : Fin 128), (v1280 (ix2 r 0) : EReal) = ((Blk.psum (fun g c => d.DVH g r c * d.VH r c) 7 : ℝ) : EReal))
    (hv1286 : ∀ (r : Fin 128) (j : Fin 256), (v1286 (ix2 r j) : EReal) = ((d.VH r (1792 + j.val) : ℝ) : EReal))
    (hv1395 : ∀ (r : Fin 128) (j : Fin 256), (v1395 (ix2 r j) : EReal) = ((d.DVH 7 r (1792 + j.val) : ℝ) : EReal))
    (hv1401 : ∀ (r : Fin 128), (v1401 (ix2 r 0) : EReal) = ((Blk.psum (fun g => d.DVH g r) 8 : ℝ) : EReal))
    (hv1427 : ∀ (r : Fin 128) (j : Fin 256), (v1427 (ix2 r j) : EReal) = ((d.VG r (256 + j.val) : ℝ) : EReal))
    (hv1432 : ∀ (r : Fin 128) (j : Fin 256), (v1432 (ix2 r j) : EReal) = ((d.DVH 1 r (256 + j.val) : ℝ) : EReal))
    (hv1440 : ∀ (r : Fin 128) (j : Fin 256), (v1440 (ix2 r j) : EReal) = ((d.DG r (256 + j.val) : ℝ) : EReal)) :
    ∀ (r : Fin 128) (j : Fin 256), ((k0_pay291 (F := Ideal) v341 v403 v1280 v1286 v1395 v1401 v1427 v1432 v1440) (ix2 r j) : EReal) = ((d.DPV 1 r (256 + j.val) : ℝ) : EReal) := by
  intro r j
  pointwise [k0_pay291, hv341, hv403, hv1280, hv1286, hv1395, hv1401, hv1427, hv1432, hv1440, L288 d e v1401 hv1401, L289 d e v1280 v1286 v1395 hv1280 hv1286 hv1395]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPV, Blk.VH, Blk.VC]

theorem L292 (d : Blk) (e : Acc) (v341 : FVec Ideal S128x1 .f32) (v403 : FVec Ideal S128x1 .f32) (v1407 : FVec Ideal S128x1 .f32) (v1409 : FVec Ideal S128x1 .f32) (v1444 : Vec Ideal S128x256 .f32) (v1449 : Vec Ideal S128x256 .f32) (v1457 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1407 : ∀ (r : Fin 128), (v1407 (ix2 r 0) : EReal) = ((d.M1 r : ℝ) : EReal))
    (hv1409 : ∀ (r : Fin 128), (v1409 (ix2 r 0) : EReal) = ((d.M2 r : ℝ) : EReal))
    (hv1444 : ∀ (r : Fin 128) (j : Fin 256), (v1444 (ix2 r j) : EReal) = ((d.VG r (512 + j.val) : ℝ) : EReal))
    (hv1449 : ∀ (r : Fin 128) (j : Fin 256), (v1449 (ix2 r j) : EReal) = ((d.DVH 2 r (512 + j.val) : ℝ) : EReal))
    (hv1457 : ∀ (r : Fin 128) (j : Fin 256), (v1457 (ix2 r j) : EReal) = ((d.DG r (512 + j.val) : ℝ) : EReal)) :
    ∀ (r : Fin 128) (j : Fin 256), ((k0_pay292 (F := Ideal) v341 v403 v1407 v1409 v1444 v1449 v1457) (ix2 r j) : EReal) = ((d.DPV 2 r (512 + j.val) : ℝ) : EReal) := by
  intro r j
  pointwise [k0_pay292, hv341, hv403, hv1407, hv1409, hv1444, hv1449, hv1457]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPV, Blk.VH, Blk.VC]

theorem L293 (d : Blk) (e : Acc) (v341 : FVec Ideal S128x1 .f32) (v403 : FVec Ideal S128x1 .f32) (v1407 : FVec Ideal S128x1 .f32) (v1409 : FVec Ideal S128x1 .f32) (v1461 : Vec Ideal S128x256 .f32) (v1466 : Vec Ideal S128x256 .f32) (v1474 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1407 : ∀ (r : Fin 128), (v1407 (ix2 r 0) : EReal) = ((d.M1 r : ℝ) : EReal))
    (hv1409 : ∀ (r : Fin 128), (v1409 (ix2 r 0) : EReal) = ((d.M2 r : ℝ) : EReal))
    (hv1461 : ∀ (r : Fin 128) (j : Fin 256), (v1461 (ix2 r j) : EReal) = ((d.VG r (768 + j.val) : ℝ) : EReal))
    (hv1466 : ∀ (r : Fin 128) (j : Fin 256), (v1466 (ix2 r j) : EReal) = ((d.DVH 3 r (768 + j.val) : ℝ) : EReal))
    (hv1474 : ∀ (r : Fin 128) (j : Fin 256), (v1474 (ix2 r j) : EReal) = ((d.DG r (768 + j.val) : ℝ) : EReal)) :
    ∀ (r : Fin 128) (j : Fin 256), ((k0_pay293 (F := Ideal) v341 v403 v1407 v1409 v1461 v1466 v1474) (ix2 r j) : EReal) = ((d.DPV 3 r (768 + j.val) : ℝ) : EReal) := by
  intro r j
  pointwise [k0_pay293, hv341, hv403, hv1407, hv1409, hv1461, hv1466, hv1474]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPV, Blk.VH, Blk.VC]

theorem L294 (d : Blk) (e : Acc) (v341 : FVec Ideal S128x1 .f32) (v1478 : Vec Ideal S128x256 .f32)
    (hv341 : ∀ (r : Fin 128), (v341 (ix2 r 0) : EReal) = ((d.MU r : ℝ) : EReal))
    (hv1478 : ∀ (r : Fin 128) (j : Fin 256), (v1478 (ix2 r j) : EReal) = ((d.VG r (1024 + j.val) : ℝ) : EReal)) :
    ∀ (r : Fin 128) (j : Fin 256), ((k0_pay294 (F := Ideal) v341 v1478) (ix2 r j) : EReal) = (((d.VG r (1024 + j.val) - d.MU r) : ℝ) : EReal) := by
  intro r j
  pointwise [k0_pay294, hv341, hv1478]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L295 (d : Blk) (e : Acc) (v403 : FVec Ideal S128x1 .f32) (v1407 : FVec Ideal S128x1 .f32) (v1409 : FVec Ideal S128x1 .f32) (v1480 : FVec Ideal S128x256 .f32) (v1483 : Vec Ideal S128x256 .f32) (v1491 : Vec Ideal S128x256 .f32)
    (hv403 : ∀ (r : Fin 128), (v403 (ix2 r 0) : EReal) = ((d.RS r : ℝ) : EReal))
    (hv1407 : ∀ (r : Fin 128), (v1407 (ix2 r 0) : EReal) = ((d.M1 r : ℝ) : EReal))
    (hv1409 : ∀ (r : Fin 128), (v1409 (ix2 r 0) : EReal) = ((d.M2 r : ℝ) : EReal))
    (hv1480 : ∀ (r : Fin 128) (j : Fin 256), (v1480 (ix2 r j) : EReal) = (((d.VG r (1024 + j.val) - d.MU r) : ℝ) : EReal))
    (hv1483 : ∀ (r : Fin 128) (j : Fin 256), (v1483 (ix2 r j) : EReal) = ((d.DVH 4 r (1024 + j.val) : ℝ) : EReal))
    (hv1491 : ∀ (r : Fin 128) (j : Fin 256), (v1491 (ix2 r j) : EReal) = ((d.DG r (1024 + j.val) : ℝ) : EReal)) :
    ∀ (r : Fin 128) (j : Fin 256), ((k0_pay295 (F := Ideal) v403 v1407 v1409 v1480 v1483 v1491) (ix2 r j) : EReal) = ((d.DPV 4 r (1024 + j.val) : ℝ) : EReal) := by
  intro r j
  pointwise [k0_pay295, hv403, hv1407, hv1409, hv1480, hv1483, hv1491]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPV, Blk.VH, Blk.VC]

theorem L296 (d : Blk) (e : Acc) (v341 : FVec Ideal S128x1 .f32) (v403 : FVec Ideal S128x1 .f32) (v1407 : FVec Ideal S128x1 .f32) (v1409 : FVec Ideal S128x1 .f32) (v1495 : Vec Ideal S128x256 .f32) (v1500 : Vec Ideal S128x256 .f32) (v1508 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1407 : ∀ (r : Fin 128), (v1407 (ix2 r 0) : EReal) = ((d.M1 r : ℝ) : EReal))
    (hv1409 : ∀ (r : Fin 128), (v1409 (ix2 r 0) : EReal) = ((d.M2 r : ℝ) : EReal))
    (hv1495 : ∀ (r : Fin 128) (j : Fin 256), (v1495 (ix2 r j) : EReal) = ((d.VG r (1280 + j.val) : ℝ) : EReal))
    (hv1500 : ∀ (r : Fin 128) (j : Fin 256), (v1500 (ix2 r j) : EReal) = ((d.DVH 5 r (1280 + j.val) : ℝ) : EReal))
    (hv1508 : ∀ (r : Fin 128) (j : Fin 256), (v1508 (ix2 r j) : EReal) = ((d.DG r (1280 + j.val) : ℝ) : EReal)) :
    ∀ (r : Fin 128) (j : Fin 256), ((k0_pay296 (F := Ideal) v341 v403 v1407 v1409 v1495 v1500 v1508) (ix2 r j) : EReal) = ((d.DPV 5 r (1280 + j.val) : ℝ) : EReal) := by
  intro r j
  pointwise [k0_pay296, hv341, hv403, hv1407, hv1409, hv1495, hv1500, hv1508]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPV, Blk.VH, Blk.VC]

theorem L297 (d : Blk) (e : Acc) (v341 : FVec Ideal S128x1 .f32) (v403 : FVec Ideal S128x1 .f32) (v1512 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1512 : ∀ (r : Fin 128) (j : Fin 256), (v1512 (ix2 r j) : EReal) = ((d.VG r (1536 + j.val) : ℝ) : EReal)) :
    ∀ (r : Fin 128) (j : Fin 256), ((k0_pay297 (F := Ideal) v341 v403 v1512) (ix2 r j) : EReal) = ((((d.VG r (1536 + j.val) - d.MU r) * d.RS r) : ℝ) : EReal) := by
  intro r j
  pointwise [k0_pay297, hv341, hv403, hv1512]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L298 (d : Blk) (e : Acc) (v1407 : FVec Ideal S128x1 .f32) (v1517 : Vec Ideal S128x256 .f32)
    (hv1407 : ∀ (r : Fin 128), (v1407 (ix2 r 0) : EReal) = ((d.M1 r : ℝ) : EReal))
    (hv1517 : ∀ (r : Fin 128) (j : Fin 256), (v1517 (ix2 r j) : EReal) = ((d.DVH 6 r (1536 + j.val) : ℝ) : EReal)) :
    ∀ (r : Fin 128) (j : Fin 256), ((k0_pay298 (F := Ideal) v1407 v1517) (ix2 r j) : EReal) = (((d.DVH 6 r (1536 + j.val) - d.M1 r) : ℝ) : EReal) := by
  intro r j
  pointwise [k0_pay298, hv1407, hv1517]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L299 (d : Blk) (e : Acc) (v1409 : FVec Ideal S128x1 .f32)
    (hv1409 : ∀ (r : Fin 128), (v1409 (ix2 r 0) : EReal) = ((d.M2 r : ℝ) : EReal)) :
    ∀ (r : Fin 128) (j : Fin 256), ((k0_pay299 (F := Ideal) v1409) (ix2 r j) : EReal) = ((d.M2 r : ℝ) : EReal) := by
  intro r j
  pointwise [k0_pay299, hv1409]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

theorem L300 (d : Blk) (e : Acc) (v403 : FVec Ideal S128x1 .f32) (v1516 : FVec Ideal S128x256 .f32) (v1519 : FVec Ideal S128x256 .f32) (v1520 : FVec Ideal S128x256 .f32) (v1525 : Vec Ideal S128x256 .f32)
    (hv403 : ∀ (r : Fin 128), (v403 (ix2 r 0) : EReal) = ((d.RS r : ℝ) : EReal))
    (hv1516 : ∀ (r : Fin 128) (j : Fin 256), (v1516 (ix2 r j) : EReal) = ((((d.VG r (1536 + j.val) - d.MU r) * d.RS r) : ℝ) : EReal))
    (hv1519 : ∀ (r : Fin 128) (j : Fin 256), (v1519 (ix2 r j) : EReal) = (((d.DVH 6 r (1536 + j.val) - d.M1 r) : ℝ) : EReal))
    (hv1520 : ∀ (r : Fin 128) (j : Fin 256), (v1520 (ix2 r j) : EReal) = ((d.M2 r : ℝ) : EReal))
    (hv1525 : ∀ (r : Fin 128) (j : Fin 256), (v1525 (ix2 r j) : EReal) = ((d.DG r (1536 + j.val) : ℝ) : EReal)) :
    ∀ (r : Fin 128) (j : Fin 256), ((k0_pay300 (F := Ideal) v403 v1516 v1519 v1520 v1525) (ix2 r j) : EReal) = ((d.DPV 6 r (1536 + j.val) : ℝ) : EReal) := by
  intro r j
  pointwise [k0_pay300, hv403, hv1516, hv1519, hv1520, hv1525]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul, Blk.DPV, Blk.VH, Blk.VC]

theorem L301 (d : Blk) (e : Acc) (v341 : FVec Ideal S128x1 .f32) (v403 : FVec Ideal S128x1 .f32) (v1529 : Vec Ideal S128x256 .f32)
    (hv341 : ∀ (r : Fin 128), (v341 (ix2 r 0) : EReal) = ((d.MU r : ℝ) : EReal))
    (hv403 : ∀ (r : Fin 128), (v403 (ix2 r 0) : EReal) = ((d.RS r : ℝ) : EReal))
    (hv1529 : ∀ (r : Fin 128) (j : Fin 256), (v1529 (ix2 r j) : EReal) = ((d.VG r (1792 + j.val) : ℝ) : EReal)) :
    ∀ (r : Fin 128) (j : Fin 256), ((k0_pay301 (F := Ideal) v341 v403 v1529) (ix2 r j) : EReal) = ((((d.VG r (1792 + j.val) - d.MU r) * d.RS r) : ℝ) : EReal) := by
  intro r j
  pointwise [k0_pay301, hv341, hv403, hv1529]
  try simp only [half_eq, c0_eq, eps_eq, n2048_eq, two_eq, named_c1, named_c3, div_2048, zero_add, ← EReal.coe_zero, ← EReal.coe_one, ← EReal.coe_add, ← EReal.coe_mul, ← EReal.coe_sub, coe_sum, Ideal.tanh_coe]
  try simp only [mul_zero, zero_add, ← Nat.add_assoc, Nat.reduceAdd, Nat.reduceMul]

end Cert.Sgu

end
-- ==== Proof.Net.lean ====
module
public import proofs.«01_k».proof.Proof.Vals2
import Idealize.ShloMosaic.Lib.Pipeline.ValueKit

/-! # One grid point's values, from the blocks it loads

`In` holds what a point loads, `Holds` says which reals stand there; each value that the body stores or keeps is then named and evaluated,
by the lemmas of the modules before. -/

@[expose] public section
set_option maxRecDepth 16384
noncomputable section
namespace Cert.Sgu
open Idealize.ShloMosaic Cert.KernelIdeal Cert.KernelIdeal.Gen

/-- What a grid point loads: the blocks of the operands, and the slabs of the masked weights (`w`) and of the four accumulators. -/
structure In where
  x0 : Vec Ideal S128x6144 .f32
  x1 : Vec Ideal S128x2048 .bf16
  x2 : Vec Ideal S1x2048 .f32
  x3 : Vec Ideal S1x2048 .f32
  x5 : Vec Ideal S8x128x1 .f32
  (w0 w1 w2 w3 w4 w5 w6 w7 : Vec Ideal S1x128x128 .bf16)
  (p0 p1 p2 p3 p4 p5 p6 p7 : Vec Ideal S1x128x128 .f32)
  (q0 q1 q2 q3 q4 q5 q6 q7 : Vec Ideal S1x128x1 .f32)
  (s0 s1 s2 s3 s4 s5 s6 s7 : Vec Ideal S1x256 .f32)
  (t0 t1 t2 t3 t4 t5 t6 t7 : Vec Ideal S1x256 .f32)

namespace In
variable (I : In)
def x0s (o : ℕ) (inb : ∀ a, (![0, o] : Fin 2 → ℕ) a + S128x256.size a ≤ S128x6144.size a) : Vec Ideal S128x256 .f32 := View.ld I.x0 (Rect.unit (s := S128x6144) ![0, o] S128x256.size inb)
def x1s (o : ℕ) (inb : ∀ a, (![0, o] : Fin 2 → ℕ) a + S128x256.size a ≤ S128x2048.size a) : Vec Ideal S128x256 .bf16 := View.ld I.x1 (Rect.unit (s := S128x2048) ![0, o] S128x256.size inb)
def x2s (o : ℕ) (inb : ∀ a, (![0, o] : Fin 2 → ℕ) a + S1x256.size a ≤ S1x2048.size a) : Vec Ideal S1x256 .f32 := View.ld I.x2 (Rect.unit (s := S1x2048) ![0, o] S1x256.size inb)
def x3s (o : ℕ) (inb : ∀ a, (![0, o] : Fin 2 → ℕ) a + S1x256.size a ≤ S1x2048.size a) : Vec Ideal S1x256 .f32 := View.ld I.x3 (Rect.unit (s := S1x2048) ![0, o] S1x256.size inb)
def x5s (o : ℕ) (inb : ∀ a, (![o, 0, 0] : Fin 3 → ℕ) a + S1x128x1.size a ≤ S8x128x1.size a) : Vec Ideal S1x128x1 .f32 := View.ld I.x5 (Rect.unit (s := S8x128x1) ![o, 0, 0] S1x128x1.size inb)
end In

/-- The reals that a point loads. -/
structure Holds (d : Blk) (e : Acc) (I : In) : Prop where
  x0 : ∀ (r : Fin 128) (c : Fin 6144), (I.x0 (ix2 r c) : EReal) = ((d.P r c.val : ℝ) : EReal)
  x1 : ∀ (r : Fin 128) (c : Fin 2048), (I.x1 (ix2 r c) : EReal) = ((d.Y r c.val : ℝ) : EReal)
  x2 : ∀ c : Fin 2048, (I.x2 (ix2 0 c) : EReal) = ((d.G c.val : ℝ) : EReal)
  x3 : ∀ c : Fin 2048, (I.x3 (ix2 0 c) : EReal) = ((d.B c.val : ℝ) : EReal)
  x5 : ∀ (g : Fin 8) (r : Fin 128), (I.x5 (ix3 g r 0) : EReal) = ((d.b g.val r : ℝ) : EReal)
  w0 : ∀ r b : Fin 128, (I.w0 (ix3 0 r b) : EReal) = ((d.W 0 r b : ℝ) : EReal)
  p0 : ∀ r b : Fin 128, (I.p0 (ix3 0 r b) : EReal) = ((e.A7 0 r b : ℝ) : EReal)
  q0 : ∀ r : Fin 128, (I.q0 (ix3 0 r 0) : EReal) = ((e.A8 0 r : ℝ) : EReal)
  s0 : ∀ j : Fin 256, (I.s0 (ix2 0 j) : EReal) = ((e.A9 j.val : ℝ) : EReal)
  t0 : ∀ j : Fin 256, (I.t0 (ix2 0 j) : EReal) = ((e.A10 j.val : ℝ) : EReal)
  w1 : ∀ r b : Fin 128, (I.w1 (ix3 0 r b) : EReal) = ((d.W 1 r b : ℝ) : EReal)
  p1 : ∀ r b : Fin 128, (I.p1 (ix3 0 r b) : EReal) = ((e.A7 1 r b : ℝ) : EReal)
  q1 : ∀ r : Fin 128, (I.q1 (ix3 0 r 0) : EReal) = ((e.A8 1 r : ℝ) : EReal)
  s1 : ∀ j : Fin 256, (I.s1 (ix2 0 j) : EReal) = ((e.A9 (256 + j.val) : ℝ) : EReal)
  t1 : ∀ j : Fin 256, (I.t1 (ix2 0 j) : EReal) = ((e.A10 (256 + j.val) : ℝ) : EReal)
  w2 : ∀ r b : Fin 128, (I.w2 (ix3 0 r b) : EReal) = ((d.W 2 r b : ℝ) : EReal)
  p2 : ∀ r b : Fin 128, (I.p2 (ix3 0 r b) : EReal) = ((e.A7 2 r b : ℝ) : EReal)
  q2 : ∀ r : Fin 128, (I.q2 (ix3 0 r 0) : EReal) = ((e.A8 2 r : ℝ) : EReal)
  s2 : ∀ j : Fin 256, (I.s2 (ix2 0 j) : EReal) = ((e.A9 (512 + j.val) : ℝ) : EReal)
  t2 : ∀ j : Fin 256, (I.t2 (ix2 0 j) : EReal) = ((e.A10 (512 + j.val) : ℝ) : EReal)
  w3 : ∀ r b : Fin 128, (I.w3 (ix3 0 r b) : EReal) = ((d.W 3 r b : ℝ) : EReal)
  p3 : ∀ r b : Fin 128, (I.p3 (ix3 0 r b) : EReal) = ((e.A7 3 r b : ℝ) : EReal)
  q3 : ∀ r : Fin 128, (I.q3 (ix3 0 r 0) : EReal) = ((e.A8 3 r : ℝ) : EReal)
  s3 : ∀ j : Fin 256, (I.s3 (ix2 0 j) : EReal) = ((e.A9 (768 + j.val) : ℝ) : EReal)
  t3 : ∀ j : Fin 256, (I.t3 (ix2 0 j) : EReal) = ((e.A10 (768 + j.val) : ℝ) : EReal)
  w4 : ∀ r b : Fin 128, (I.w4 (ix3 0 r b) : EReal) = ((d.W 4 r b : ℝ) : EReal)
  p4 : ∀ r b : Fin 128, (I.p4 (ix3 0 r b) : EReal) = ((e.A7 4 r b : ℝ) : EReal)
  q4 : ∀ r : Fin 128, (I.q4 (ix3 0 r 0) : EReal) = ((e.A8 4 r : ℝ) : EReal)
  s4 : ∀ j : Fin 256, (I.s4 (ix2 0 j) : EReal) = ((e.A9 (1024 + j.val) : ℝ) : EReal)
  t4 : ∀ j : Fin 256, (I.t4 (ix2 0 j) : EReal) = ((e.A10 (1024 + j.val) : ℝ) : EReal)
  w5 : ∀ r b : Fin 128, (I.w5 (ix3 0 r b) : EReal) = ((d.W 5 r b : ℝ) : EReal)
  p5 : ∀ r b : Fin 128, (I.p5 (ix3 0 r b) : EReal) = ((e.A7 5 r b : ℝ) : EReal)
  q5 : ∀ r : Fin 128, (I.q5 (ix3 0 r 0) : EReal) = ((e.A8 5 r : ℝ) : EReal)
  s5 : ∀ j : Fin 256, (I.s5 (ix2 0 j) : EReal) = ((e.A9 (1280 + j.val) : ℝ) : EReal)
  t5 : ∀ j : Fin 256, (I.t5 (ix2 0 j) : EReal) = ((e.A10 (1280 + j.val) : ℝ) : EReal)
  w6 : ∀ r b : Fin 128, (I.w6 (ix3 0 r b) : EReal) = ((d.W 6 r b : ℝ) : EReal)
  p6 : ∀ r b : Fin 128, (I.p6 (ix3 0 r b) : EReal) = ((e.A7 6 r b : ℝ) : EReal)
  q6 : ∀ r : Fin 128, (I.q6 (ix3 0 r 0) : EReal) = ((e.A8 6 r : ℝ) : EReal)
  s6 : ∀ j : Fin 256, (I.s6 (ix2 0 j) : EReal) = ((e.A9 (1536 + j.val) : ℝ) : EReal)
  t6 : ∀ j : Fin 256, (I.t6 (ix2 0 j) : EReal) = ((e.A10 (1536 + j.val) : ℝ) : EReal)
  w7 : ∀ r b : Fin 128, (I.w7 (ix3 0 r b) : EReal) = ((d.W 7 r b : ℝ) : EReal)
  p7 : ∀ r b : Fin 128, (I.p7 (ix3 0 r b) : EReal) = ((e.A7 7 r b : ℝ) : EReal)
  q7 : ∀ r : Fin 128, (I.q7 (ix3 0 r 0) : EReal) = ((e.A8 7 r : ℝ) : EReal)
  s7 : ∀ j : Fin 256, (I.s7 (ix2 0 j) : EReal) = ((e.A9 (1792 + j.val) : ℝ) : EReal)
  t7 : ∀ j : Fin 256, (I.t7 (ix2 0 j) : EReal) = ((e.A10 (1792 + j.val) : ℝ) : EReal)

namespace Holds
variable {d : Blk} {e : Acc} {I : In} (H : Holds d e I)
include H

theorem x0s (o : ℕ) (inb : ∀ a, (![0, o] : Fin 2 → ℕ) a + S128x256.size a ≤ S128x6144.size a) : ∀ (r : Fin 128) (j : Fin 256), (I.x0s o inb (ix2 r j) : EReal) = ((d.P r (o + j.val) : ℝ) : EReal) := by
  intro r j
  have hb : o + 256 ≤ 6144 := inb 1
  have := H.x0 r ⟨o + j.val, by have := j.isLt; omega⟩
  rw [← this]
  refine congrArg I.x0 (funext fun a => Fin.ext ?_)
  fin_cases a <;> simp [Rect.unit, ix2, LoadRect.idx, Rect.toLoadRect]
theorem x0s0 (inb : ∀ a, (![0, 0] : Fin 2 → ℕ) a + S128x256.size a ≤ S128x6144.size a) : ∀ (r : Fin 128) (j : Fin 256), (I.x0s 0 inb (ix2 r j) : EReal) = ((d.P r j.val : ℝ) : EReal) := by
  intro r j
  rw [H.x0s 0 inb r j, Nat.zero_add]
theorem x1s (o : ℕ) (inb : ∀ a, (![0, o] : Fin 2 → ℕ) a + S128x256.size a ≤ S128x2048.size a) : ∀ (r : Fin 128) (j : Fin 256), (I.x1s o inb (ix2 r j) : EReal) = ((d.Y r (o + j.val) : ℝ) : EReal) := by
  intro r j
  have hb : o + 256 ≤ 2048 := inb 1
  have := H.x1 r ⟨o + j.val, by have := j.isLt; omega⟩
  rw [← this]
  refine congrArg I.x1 (funext fun a => Fin.ext ?_)
  fin_cases a <;> simp [Rect.unit, ix2, LoadRect.idx, Rect.toLoadRect]
theorem x1s0 (inb : ∀ a, (![0, 0] : Fin 2 → ℕ) a + S128x256.size a ≤ S128x2048.size a) : ∀ (r : Fin 128) (j : Fin 256), (I.x1s 0 inb (ix2 r j) : EReal) = ((d.Y r j.val : ℝ) : EReal) := by
  intro r j
  rw [H.x1s 0 inb r j, Nat.zero_add]
theorem x2s (o : ℕ) (inb : ∀ a, (![0, o] : Fin 2 → ℕ) a + S1x256.size a ≤ S1x2048.size a) : ∀ (j : Fin 256), (I.x2s o inb (ix2 0 j) : EReal) = ((d.G (o + j.val) : ℝ) : EReal) := by
  intro j
  have hb : o + 256 ≤ 2048 := inb 1
  have := H.x2 ⟨o + j.val, by have := j.isLt; omega⟩
  rw [← this]
  refine congrArg I.x2 (funext fun a => Fin.ext ?_)
  fin_cases a <;> simp [Rect.unit, ix2, LoadRect.idx, Rect.toLoadRect]
theorem x2s0 (inb : ∀ a, (![0, 0] : Fin 2 → ℕ) a + S1x256.size a ≤ S1x2048.size a) : ∀ (j : Fin 256), (I.x2s 0 inb (ix2 0 j) : EReal) = ((d.G j.val : ℝ) : EReal) := by
  intro j
  rw [H.x2s 0 inb j, Nat.zero_add]
theorem x3s (o : ℕ) (inb : ∀ a, (![0, o] : Fin 2 → ℕ) a + S1x256.size a ≤ S1x2048.size a) : ∀ (j : Fin 256), (I.x3s o inb (ix2 0 j) : EReal) = ((d.B (o + j.val) : ℝ) : EReal) := by
  intro j
  have hb : o + 256 ≤ 2048 := inb 1
  have := H.x3 ⟨o + j.val, by have := j.isLt; omega⟩
  rw [← this]
  refine congrArg I.x3 (funext fun a => Fin.ext ?_)
  fin_cases a <;> simp [Rect.unit, ix2, LoadRect.idx, Rect.toLoadRect]
theorem x3s0 (inb : ∀ a, (![0, 0] : Fin 2 → ℕ) a + S1x256.size a ≤ S1x2048.size a) : ∀ (j : Fin 256), (I.x3s 0 inb (ix2 0 j) : EReal) = ((d.B j.val : ℝ) : EReal) := by
  intro j
  rw [H.x3s 0 inb j, Nat.zero_add]
theorem x5s (o : ℕ) (inb : ∀ a, (![o, 0, 0] : Fin 3 → ℕ) a + S1x128x1.size a ≤ S8x128x1.size a) : ∀ r : Fin 128, (I.x5s o inb (ix3 0 r 0) : EReal) = ((d.b o r : ℝ) : EReal) := by
  intro r
  have hb : o + 1 ≤ 8 := inb 0
  have := H.x5 ⟨o, by omega⟩ r
  rw [← this]
  refine congrArg I.x5 (funext fun a => Fin.ext ?_)
  fin_cases a <;> simp [Rect.unit, ix3, LoadRect.idx, Rect.toLoadRect]

end Holds

def w3 (I : In) : FVec Ideal S128x1 .f32 := k0_pay34
theorem a3 {d : Blk} {e : Acc} {I : In} (H : Holds d e I) :
    ∀ (r : Fin 128), (w3 I (ix2 r 0) : EReal) = (((0 : ℝ) : ℝ) : EReal) :=
  L34 d e
def w17 (I : In) : FVec Ideal S128x256 .f32 := k0_pay36 (I.x0s 2048 inb_S128x6144_S128x256_0_2048)
theorem a17 {d : Blk} {e : Acc} {I : In} (H : Holds d e I) :
    ∀ (r : Fin 128) (j : Fin 256), (w17 I (ix2 r j) : EReal) = ((d.VG r j.val : ℝ) : EReal) :=
  L36 d e (I.x0s 2048 inb_S128x6144_S128x256_0_2048) (H.x0s 2048 _)
def w45 (I : In) : FVec Ideal S128x1 .f32 := k0_pay39 (w3 I) (w17 I)
theorem a45 {d : Blk} {e : Acc} {I : In} (H : Holds d e I) :
    ∀ (r : Fin 128), (w45 I (ix2 r 0) : EReal) = ((Blk.psum (fun _ => d.VG r) 1 : ℝ) : EReal) :=
  L39 d e (w3 I) (w17 I) (a3 H) (a17 H)
def w59 (I : In) : FVec Ideal S128x256 .f32 := k0_pay41 (I.x0s 2304 inb_S128x6144_S128x256_0_2304)
theorem a59 {d : Blk} {e : Acc} {I : In} (H : Holds d e I) :
    ∀ (r : Fin 128) (j : Fin 256), (w59 I (ix2 r j) : EReal) = ((d.VG r (256 + j.val) : ℝ) : EReal) :=
  L41 d e (I.x0s 2304 inb_S128x6144_S128x256_0_2304) (H.x0s 2304 _)
def w87 (I : In) : FVec Ideal S128x1 .f32 := k0_pay45 (w45 I) (w59 I)
theorem a87 {d : Blk} {e : Acc} {I : In} (H : Holds d e I) :
    ∀ (r : Fin 128), (w87 I (ix2 r 0) : EReal) = ((Blk.psum (fun _ => d.VG r) 2 : ℝ) : EReal) :=
  L45 d e (w45 I) (w59 I) (a45 H) (a59 H)
def w101 (I : In) : FVec Ideal S128x256 .f32 := k0_pay47 (I.x0s 2560 inb_S128x6144_S128x256_0_2560)
theorem a101 {d : Blk} {e : Acc} {I : In} (H : Holds d e I) :
    ∀ (r : Fin 128) (j : Fin 256), (w101 I (ix2 r j) : EReal) = ((d.VG r (512 + j.val) : ℝ) : EReal) :=
  L47 d e (I.x0s 2560 inb_S128x6144_S128x256_0_2560) (H.x0s 2560 _)
def w129 (I : In) : FVec Ideal S128x1 .f32 := k0_pay51 (w87 I) (w101 I)
theorem a129 {d : Blk} {e : Acc} {I : In} (H : Holds d e I) :
    ∀ (r : Fin 128), (w129 I (ix2 r 0) : EReal) = ((Blk.psum (fun _ => d.VG r) 3 : ℝ) : EReal) :=
  L51 d e (w87 I) (w101 I) (a87 H) (a101 H)
def w143 (I : In) : FVec Ideal S128x256 .f32 := k0_pay53 (I.x0s 2816 inb_S128x6144_S128x256_0_2816)
theorem a143 {d : Blk} {e : Acc} {I : In} (H : Holds d e I) :
    ∀ (r : Fin 128) (j : Fin 256), (w143 I (ix2 r j) : EReal) = ((d.VG r (768 + j.val) : ℝ) : EReal) :=
  L53 d e (I.x0s 2816 inb_S128x6144_S128x256_0_2816) (H.x0s 2816 _)
def w171 (I : In) : FVec Ideal S128x1 .f32 := k0_pay58 (w129 I) (w143 I)
theorem a171 {d : Blk} {e : Acc} {I : In} (H : Holds d e I) :
    ∀ (r : Fin 128), (w171 I (ix2 r 0) : EReal) = ((Blk.psum (fun _ => d.VG r) 4 : ℝ) : EReal) :=
  L58 d e (w129 I) (w143 I) (a129 H) (a143 H)
def w185 (I : In) : FVec Ideal S128x256 .f32 := k0_pay60 (I.x0s 3072 inb_S128x6144_S128x256_0_3072)
theorem a185 {d : Blk} {e : Acc} {I : In} (H : Holds d e I) :
    ∀ (r : Fin 128) (j : Fin 256), (w185 I (ix2 r j) : EReal) = ((d.VG r (1024 + j.val) : ℝ) : EReal) :=
  L60 d e (I.x0s 3072 inb_S128x6144_S128x256_0_3072) (H.x0s 3072 _)
def w213 (I : In) : FVec Ideal S128x1 .f32 := k0_pay67 (w171 I) (w185 I)
theorem a213 {d : Blk} {e : Acc} {I : In} (H : Holds d e I) :
    ∀ (r : Fin 128), (w213 I (ix2 r 0) : EReal) = ((Blk.psum (fun _ => d.VG r) 5 : ℝ) : EReal) :=
  L67 d e (w171 I) (w185 I) (a171 H) (a185 H)
def w227 (I : In) : FVec Ideal S128x256 .f32 := k0_pay69 (I.x0s 3328 inb_S128x6144_S128x256_0_3328)
theorem a227 {d : Blk} {e : Acc} {I : In} (H : Holds d e I) :
    ∀ (r : Fin 128) (j : Fin 256), (w227 I (ix2 r j) : EReal) = ((d.VG r (1280 + j.val) : ℝ) : EReal) :=
  L69 d e (I.x0s 3328 inb_S128x6144_S128x256_0_3328) (H.x0s 3328 _)
def w255 (I : In) : FVec Ideal S128x1 .f32 := k0_pay75 (w213 I) (w227 I)
theorem a255 {d : Blk} {e : Acc} {I : In} (H : Holds d e I) :
    ∀ (r : Fin 128), (w255 I (ix2 r 0) : EReal) = ((Blk.psum (fun _ => d.VG r) 6 : ℝ) : EReal) :=
  L75 d e (w213 I) (w227 I) (a213 H) (a227 H)
def w269 (I : In) : FVec Ideal S128x256 .f32 := k0_pay77 (I.x0s 3584 inb_S128x6144_S128x256_0_3584)
theorem a269 {d : Blk} {e : Acc} {I : In} (H : Holds d e I) :
    ∀ (r : Fin 128) (j : Fin 256), (w269 I (ix2 r j) : EReal) = ((d.VG r (1536 + j.val) : ℝ) : EReal) :=
  L77 d e (I.x0s 3584 inb_S128x6144_S128x256_0_3584) (H.x0s 3584 _)
def w297 (I : In) : FVec Ideal S128x1 .f32 := k0_pay83 (w255 I) (w269 I)
theorem a297 {d : Blk} {e : Acc} {I : In} (H : Holds d e I) :
    ∀ (r : Fin 128), (w297 I (ix2 r 0) : EReal) = ((Blk.psum (fun _ => d.VG r) 7 : ℝ) : EReal) :=
  L83 d e (w255 I) (w269 I) (a255 H) (a269 H)
def w311 (I : In) : FVec Ideal S128x256 .f32 := k0_pay85 (I.x0s 3840 inb_S128x6144_S128x256_0_3840)
theorem a311 {d : Blk} {e : Acc} {I : In} (H : Holds d e I) :
    ∀ (r : Fin 128) (j : Fin 256), (w311 I (ix2 r j) : EReal) = ((d.VG r (1792 + j.val) : ℝ) : EReal) :=
  L85 d e (I.x0s 3840 inb_S128x6144_S128x256_0_3840) (H.x0s 3840 _)
def w341 (I : In) : FVec Ideal S128x1 .f32 := k0_pay91 (w297 I) (w311 I)
theorem a341 {d : Blk} {e : Acc} {I : In} (H : Holds d e I) :
    ∀ (r : Fin 128), (w341 I (ix2 r 0) : EReal) = ((d.MU r : ℝ) : EReal) :=
  L91 d e (w297 I) (w311 I) (a297 H) (a311 H)
def w42 (I : In) : FVec Ideal S128x256 .f32 := k0_pay38 (w17 I)
theorem a42 {d : Blk} {e : Acc} {I : In} (H : Holds d e I) :
    ∀ (r : Fin 128) (j : Fin 256), (w42 I (ix2 r j) : EReal) = ((d.VG r j.val : ℝ) : EReal) :=
  L38 d e (w17 I) (a17 H)
def w84 (I : In) : FVec Ideal S128x256 .f32 := k0_pay44 (w59 I)
theorem a84 {d : Blk} {e : Acc} {I : In} (H : Holds d e I) :
    ∀ (r : Fin 128) (j : Fin 256), (w84 I (ix2 r j) : EReal) = ((d.VG r (256 + j.val) : ℝ) : EReal) :=
  L44 d e (w59 I) (a59 H)
def w126 (I : In) : FVec Ideal S128x256 .f32 := k0_pay50 (w101 I)
theorem a126 {d : Blk} {e : Acc} {I : In} (H : Holds d e I) :
    ∀ (r : Fin 128) (j : Fin 256), (w126 I (ix2 r j) : EReal) = ((d.VG r (512 + j.val) : ℝ) : EReal) :=
  L50 d e (w101 I) (a101 H)
def w363 (I : In) : FVec Ideal S128x1 .f32 := k0_pay92 (w297 I) (w311 I) (w42 I) (w84 I) (w126 I)
theorem a363 {d : Blk} {e : Acc} {I : In} (H : Holds d e I) :
    ∀ (r : Fin 128), (w363 I (ix2 r 0) : EReal) = ((Blk.psum (fun _ c => d.VC r c * d.VC r c) 3 : ℝ) : EReal) :=
  L92 d e (w297 I) (w311 I) (w42 I) (w84 I) (w126 I) (a297 H) (a311 H) (a42 H) (a84 H) (a126 H)
def w168 (I : In) : FVec Ideal S128x256 .f32 := k0_pay57 (w143 I)
theorem a168 {d : Blk} {e : Acc} {I : In} (H : Holds d e I) :
    ∀ (r : Fin 128) (j : Fin 256), (w168 I (ix2 r j) : EReal) = ((d.VG r (768 + j.val) : ℝ) : EReal) :=
  L57 d e (w143 I) (a143 H)
def w210 (I : In) : FVec Ideal S128x256 .f32 := k0_pay66 (w185 I)
theorem a210 {d : Blk} {e : Acc} {I : In} (H : Holds d e I) :
    ∀ (r : Fin 128) (j : Fin 256), (w210 I (ix2 r j) : EReal) = ((d.VG r (1024 + j.val) : ℝ) : EReal) :=
  L66 d e (w185 I) (a185 H)
def w252 (I : In) : FVec Ideal S128x256 .f32 := k0_pay74 (w227 I)
theorem a252 {d : Blk} {e : Acc} {I : In} (H : Holds d e I) :
    ∀ (r : Fin 128) (j : Fin 256), (w252 I (ix2 r j) : EReal) = ((d.VG r (1280 + j.val) : ℝ) : EReal) :=
  L74 d e (w227 I) (a227 H)
def w294 (I : In) : FVec Ideal S128x256 .f32 := k0_pay82 (w269 I)
theorem a294 {d : Blk} {e : Acc} {I : In} (H : Holds d e I) :
    ∀ (r : Fin 128) (j : Fin 256), (w294 I (ix2 r j) : EReal) = ((d.VG r (1536 + j.val) : ℝ) : EReal) :=
  L82 d e (w269 I) (a269 H)
def w336 (I : In) : FVec Ideal S128x256 .f32 := k0_pay90 (w311 I)
theorem a336 {d : Blk} {e : Acc} {I : In} (H : Holds d e I) :
    ∀ (r : Fin 128) (j : Fin 256), (w336 I (ix2 r j) : EReal) = ((d.VG r (1792 + j.val) : ℝ) : EReal) :=
  L90 d e (w311 I) (a311 H)
def w403 (I : In) : FVec Ideal S128x1 .f32 := k0_pay93 (w341 I) (w363 I) (w168 I) (w210 I) (w252 I) (w294 I) (w336 I)
theorem a403 {d : Blk} {e : Acc} {I : In} (H : Holds d e I) :
    ∀ (r : Fin 128), (w403 I (ix2 r 0) : EReal) = ((d.RS r : ℝ) : EReal) :=
  L93 d e (w341 I) (w363 I) (w168 I) (w210 I) (w252 I) (w294 I) (w336 I) (a341 H) (a363 H) (a168 H) (a210 H) (a252 H) (a294 H) (a336 H)
def w424 (I : In) : FVec Ideal S128x256 .f32 := k0_pay98 (w341 I) (w403 I) (I.x2s 0 inb_S1x2048_S1x256_0_0) (w42 I) (I.x3s 0 inb_S1x2048_S1x256_0_0) I.w0 (I.x5s 0 inb_S8x128x1_S1x128x1_0_0_0)
theorem a424 {d : Blk} {e : Acc} {I : In} (H : Holds d e I) :
    ∀ (r : Fin 128) (j : Fin 256), (w424 I (ix2 r j) : EReal) = ((d.S 0 r j.val : ℝ) : EReal) :=
  L98 d e (w341 I) (w403 I) (I.x2s 0 inb_S1x2048_S1x256_0_0) (w42 I) (I.x3s 0 inb_S1x2048_S1x256_0_0) I.w0 (I.x5s 0 inb_S8x128x1_S1x128x1_0_0_0) (a341 H) (a403 H) (H.x2s0 _) (a42 H) (H.x3s0 _) (H.w0) (H.x5s 0 _)
def w433 (I : In) : FVec Ideal S128x256 .f32 := k0_pay99 (I.x0s 0 inb_S128x6144_S128x256_0_0)
theorem a433 {d : Blk} {e : Acc} {I : In} (H : Holds d e I) :
    ∀ (r : Fin 128) (j : Fin 256), (w433 I (ix2 r j) : EReal) = ((Real.tanh ((c0 * (d.P r j.val + ((((8943 / 200000) * d.P r j.val) * d.P r j.val) * d.P r j.val)))) : ℝ) : EReal) :=
  L99 d e (I.x0s 0 inb_S128x6144_S128x256_0_0) (H.x0s0 _)
def w442 (I : In) : FVec Ideal S128x256 .f32 := k0_pay101 (I.x0s 0 inb_S128x6144_S128x256_0_0)
theorem a442 {d : Blk} {e : Acc} {I : In} (H : Holds d e I) :
    ∀ (r : Fin 128) (j : Fin 256), (w442 I (ix2 r j) : EReal) = ((((1 / 2) * (1 + Real.tanh ((c0 * (d.P r j.val + ((((8943 / 200000) * d.P r j.val) * d.P r j.val) * d.P r j.val)))))) : ℝ) : EReal) :=
  L101 d e (I.x0s 0 inb_S128x6144_S128x256_0_0) (H.x0s0 _)
def w478 (I : In) : FVec Ideal S128x256 .bf16 := k0_pay105 (w424 I) (I.x0s 0 inb_S128x6144_S128x256_0_0) (w433 I) (w442 I) (Scalar.ofBits .f32 0x3F000000#32) (I.x0s 4096 inb_S128x6144_S128x256_0_4096) (I.x1s 0 inb_S128x2048_S128x256_0_0)
theorem a478 {d : Blk} {e : Acc} {I : In} (H : Holds d e I) :
    ∀ (r : Fin 128) (j : Fin 256), (w478 I (ix2 r j) : EReal) = ((d.DPU 0 r j.val : ℝ) : EReal) :=
  L105 d e (w424 I) (I.x0s 0 inb_S128x6144_S128x256_0_0) (w433 I) (w442 I) (I.x0s 4096 inb_S128x6144_S128x256_0_4096) (I.x1s 0 inb_S128x2048_S128x256_0_0) (a424 H) (H.x0s0 _) (a433 H) (a442 H) (H.x0s 4096 _) (H.x1s0 _)
def w438 (I : In) : FVec Ideal S128x256 .f32 := k0_pay100 (I.x0s 0 inb_S128x6144_S128x256_0_0)
theorem a438 {d : Blk} {e : Acc} {I : In} (H : Holds d e I) :
    ∀ (r : Fin 128) (j : Fin 256), (w438 I (ix2 r j) : EReal) = ((d.U r j.val : ℝ) : EReal) :=
  L100 d e (I.x0s 0 inb_S128x6144_S128x256_0_0) (H.x0s0 _)
def w483 (I : In) : FVec Ideal S128x256 .bf16 := k0_pay106 (w424 I) (w438 I) (I.x0s 4096 inb_S128x6144_S128x256_0_4096) (I.x1s 0 inb_S128x2048_S128x256_0_0)
theorem a483 {d : Blk} {e : Acc} {I : In} (H : Holds d e I) :
    ∀ (r : Fin 128) (j : Fin 256), (w483 I (ix2 r j) : EReal) = ((d.DPG 0 r j.val : ℝ) : EReal) :=
  L106 d e (w424 I) (w438 I) (I.x0s 4096 inb_S128x6144_S128x256_0_4096) (I.x1s 0 inb_S128x2048_S128x256_0_0) (a424 H) (a438 H) (H.x0s 4096 _) (H.x1s0 _)
def w417 (I : In) : FVec Ideal S128x256 .bf16 := k0_pay97 (w341 I) (w403 I) (I.x2s 0 inb_S1x2048_S1x256_0_0) (w42 I) (I.x3s 0 inb_S1x2048_S1x256_0_0)
theorem a417 {d : Blk} {e : Acc} {I : In} (H : Holds d e I) :
    ∀ (r : Fin 128) (j : Fin 256), (w417 I (ix2 r j) : EReal) = ((d.VL r j.val : ℝ) : EReal) :=
  L97 d e (w341 I) (w403 I) (I.x2s 0 inb_S1x2048_S1x256_0_0) (w42 I) (I.x3s 0 inb_S1x2048_S1x256_0_0) (a341 H) (a403 H) (H.x2s0 _) (a42 H) (H.x3s0 _)
def w466 (I : In) : FVec Ideal S128x256 .f32 := k0_pay103 (I.x0s 4096 inb_S128x6144_S128x256_0_4096)
theorem a466 {d : Blk} {e : Acc} {I : In} (H : Holds d e I) :
    ∀ (r : Fin 128) (j : Fin 256), (w466 I (ix2 r j) : EReal) = ((d.SG r j.val : ℝ) : EReal) :=
  L103 d e (I.x0s 4096 inb_S128x6144_S128x256_0_4096) (H.x0s 4096 _)
def w474 (I : In) : FVec Ideal S128x256 .f32 := k0_pay104 (I.x1s 0 inb_S128x2048_S128x256_0_0)
theorem a474 {d : Blk} {e : Acc} {I : In} (H : Holds d e I) :
    ∀ (r : Fin 128) (j : Fin 256), (w474 I (ix2 r j) : EReal) = ((d.Y r j.val : ℝ) : EReal) :=
  L104 d e (I.x1s 0 inb_S128x2048_S128x256_0_0) (H.x1s0 _)
def w494 (I : In) : FVec Ideal S1x128x128 .f32 := k0_pay109 (w417 I) (w438 I) (w466 I) (w474 I) I.p0
theorem a494 {d : Blk} {e : Acc} {I : In} (H : Holds d e I) :
    ∀ (r : Fin 128) (b : Fin 128), (w494 I (ix3 0 r b) : EReal) = ((e.A7 0 r b + d.DWS 0 r b : ℝ) : EReal) :=
  L109 d e (w417 I) (w438 I) (w466 I) (w474 I) I.p0 (a417 H) (a438 H) (a466 H) (a474 H) (H.p0)
def w502 (I : In) : FVec Ideal S1x128x1 .f32 := k0_pay110 (w438 I) (w466 I) (w474 I) I.q0
theorem a502 {d : Blk} {e : Acc} {I : In} (H : Holds d e I) :
    ∀ (r : Fin 128), (w502 I (ix3 0 r 0) : EReal) = ((e.A8 0 r + d.DBS 0 r : ℝ) : EReal) :=
  L110 d e (w438 I) (w466 I) (w474 I) I.q0 (a438 H) (a466 H) (a474 H) (H.q0)
def w411 (I : In) : FVec Ideal S128x256 .f32 := k0_pay96 (w341 I) (w403 I) (w42 I)
theorem a411 {d : Blk} {e : Acc} {I : In} (H : Holds d e I) :
    ∀ (r : Fin 128) (j : Fin 256), (w411 I (ix2 r j) : EReal) = ((d.VH r j.val : ℝ) : EReal) :=
  L96 d e (w341 I) (w403 I) (w42 I) (a341 H) (a403 H) (a42 H)
def w511 (I : In) : FVec Ideal S1x256 .f32 := k0_pay112 (w411 I) (w438 I) (w466 I) (w474 I) I.w0 I.s0
theorem a511 {d : Blk} {e : Acc} {I : In} (H : Holds d e I) :
    ∀ (j : Fin 256), (w511 I (ix2 0 j) : EReal) = ((e.A9 j.val + d.DLG 0 j.val : ℝ) : EReal) :=
  L112 d e (w411 I) (w438 I) (w466 I) (w474 I) I.w0 I.s0 (a411 H) (a438 H) (a466 H) (a474 H) (H.w0) (H.s0)
def w505 (I : In) : FVec Ideal S128x256 .f32 := k0_pay111 (w438 I) (w466 I) (w474 I) I.w0
theorem a505 {d : Blk} {e : Acc} {I : In} (H : Holds d e I) :
    ∀ (r : Fin 128) (j : Fin 256), (w505 I (ix2 r j) : EReal) = ((d.DVL 0 r j.val : ℝ) : EReal) :=
  L111 d e (w438 I) (w466 I) (w474 I) I.w0 (a438 H) (a466 H) (a474 H) (H.w0)
def w514 (I : In) : FVec Ideal S1x256 .f32 := k0_pay113 I.t0
theorem a514 {d : Blk} {e : Acc} {I : In} (H : Holds d e I) :
    ∀ (j : Fin 256), (w514 I (ix2 0 j) : EReal) = ((e.A10 j.val : ℝ) : EReal) :=
  L113 d e I.t0 (H.t0)
def w517 (I : In) : FVec Ideal S1x256 .f32 := k0_pay114 (w505 I) (w514 I)
theorem a517 {d : Blk} {e : Acc} {I : In} (H : Holds d e I) :
    ∀ (j : Fin 256), (w517 I (ix2 0 j) : EReal) = ((e.A10 j.val + d.DLB 0 j.val : ℝ) : EReal) :=
  L114 d e (w505 I) (w514 I) (a505 H) (a514 H)
def w549 (I : In) : FVec Ideal S128x256 .f32 := k0_pay121 (w341 I) (w403 I) (I.x2s 256 inb_S1x2048_S1x256_0_256) (w84 I) (I.x3s 256 inb_S1x2048_S1x256_0_256) I.w1 (I.x5s 1 inb_S8x128x1_S1x128x1_1_0_0)
theorem a549 {d : Blk} {e : Acc} {I : In} (H : Holds d e I) :
    ∀ (r : Fin 128) (j : Fin 256), (w549 I (ix2 r j) : EReal) = ((d.S 1 r (256 + j.val) : ℝ) : EReal) :=
  L121 d e (w341 I) (w403 I) (I.x2s 256 inb_S1x2048_S1x256_0_256) (w84 I) (I.x3s 256 inb_S1x2048_S1x256_0_256) I.w1 (I.x5s 1 inb_S8x128x1_S1x128x1_1_0_0) (a341 H) (a403 H) (H.x2s 256 _) (a84 H) (H.x3s 256 _) (H.w1) (H.x5s 1 _)
def w582 (I : In) : FVec Ideal S128x256 .f32 := k0_pay124 (I.x0s 256 inb_S128x6144_S128x256_0_256) (Named.named κ "gelu_c1" 0x3D372713#32)
theorem a582 {d : Blk} {e : Acc} {I : In} (H : Holds d e I) :
    ∀ (r : Fin 128) (j : Fin 256), (w582 I (ix2 r j) : EReal) = ((d.DU r (256 + j.val) : ℝ) : EReal) :=
  L124 d e (I.x0s 256 inb_S128x6144_S128x256_0_256) (H.x0s 256 _)
def w591 (I : In) : FVec Ideal S128x256 .f32 := k0_pay126 (I.x0s 4352 inb_S128x6144_S128x256_0_4352)
theorem a591 {d : Blk} {e : Acc} {I : In} (H : Holds d e I) :
    ∀ (r : Fin 128) (j : Fin 256), (w591 I (ix2 r j) : EReal) = ((d.SG r (256 + j.val) : ℝ) : EReal) :=
  L126 d e (I.x0s 4352 inb_S128x6144_S128x256_0_4352) (H.x0s 4352 _)
def w603 (I : In) : FVec Ideal S128x256 .bf16 := k0_pay129 (w549 I) (w582 I) (w591 I) (I.x1s 256 inb_S128x2048_S128x256_0_256)
theorem a603 {d : Blk} {e : Acc} {I : In} (H : Holds d e I) :
    ∀ (r : Fin 128) (j : Fin 256), (w603 I (ix2 r j) : EReal) = ((d.DPU 1 r (256 + j.val) : ℝ) : EReal) :=
  L129 d e (w549 I) (w582 I) (w591 I) (I.x1s 256 inb_S128x2048_S128x256_0_256) (a549 H) (a582 H) (a591 H) (H.x1s 256 _)
def w563 (I : In) : FVec Ideal S128x256 .f32 := k0_pay123 (I.x0s 256 inb_S128x6144_S128x256_0_256) (Named.named κ "gelu_c1" 0x3D372713#32)
theorem a563 {d : Blk} {e : Acc} {I : In} (H : Holds d e I) :
    ∀ (r : Fin 128) (j : Fin 256), (w563 I (ix2 r j) : EReal) = ((d.U r (256 + j.val) : ℝ) : EReal) :=
  L123 d e (I.x0s 256 inb_S128x6144_S128x256_0_256) (H.x0s 256 _)
def w590 (I : In) : FVec Ideal S128x256 .f32 := k0_pay125 (I.x0s 4352 inb_S128x6144_S128x256_0_4352)
theorem a590 {d : Blk} {e : Acc} {I : In} (H : Holds d e I) :
    ∀ (r : Fin 128) (j : Fin 256), (w590 I (ix2 r j) : EReal) = (((((1 / 2) * Real.tanh (((1 / 2) * d.P r (4352 + j.val)))) + (1 / 2)) : ℝ) : EReal) :=
  L125 d e (I.x0s 4352 inb_S128x6144_S128x256_0_4352) (H.x0s 4352 _)
def w594 (I : In) : FVec Ideal S128x256 .f32 := k0_pay127 (I.x0s 4352 inb_S128x6144_S128x256_0_4352)
theorem a594 {d : Blk} {e : Acc} {I : In} (H : Holds d e I) :
    ∀ (r : Fin 128) (j : Fin 256), (w594 I (ix2 r j) : EReal) = (((d.P r (4352 + j.val) * (1 - (((1 / 2) * Real.tanh (((1 / 2) * d.P r (4352 + j.val)))) + (1 / 2)))) : ℝ) : EReal) :=
  L127 d e (I.x0s 4352 inb_S128x6144_S128x256_0_4352) (H.x0s 4352 _)
def w608 (I : In) : FVec Ideal S128x256 .bf16 := k0_pay130 (w549 I) (w563 I) (w590 I) (w594 I) (I.x1s 256 inb_S128x2048_S128x256_0_256)
theorem a608 {d : Blk} {e : Acc} {I : In} (H : Holds d e I) :
    ∀ (r : Fin 128) (j : Fin 256), (w608 I (ix2 r j) : EReal) = ((d.DPG 1 r (256 + j.val) : ℝ) : EReal) :=
  L130 d e (w549 I) (w563 I) (w590 I) (w594 I) (I.x1s 256 inb_S128x2048_S128x256_0_256) (a549 H) (a563 H) (a590 H) (a594 H) (H.x1s 256 _)
def w542 (I : In) : FVec Ideal S128x256 .bf16 := k0_pay120 (w341 I) (w403 I) (I.x2s 256 inb_S1x2048_S1x256_0_256) (w84 I) (I.x3s 256 inb_S1x2048_S1x256_0_256)
theorem a542 {d : Blk} {e : Acc} {I : In} (H : Holds d e I) :
    ∀ (r : Fin 128) (j : Fin 256), (w542 I (ix2 r j) : EReal) = ((d.VL r (256 + j.val) : ℝ) : EReal) :=
  L120 d e (w341 I) (w403 I) (I.x2s 256 inb_S1x2048_S1x256_0_256) (w84 I) (I.x3s 256 inb_S1x2048_S1x256_0_256) (a341 H) (a403 H) (H.x2s 256 _) (a84 H) (H.x3s 256 _)
def w619 (I : In) : FVec Ideal S1x128x128 .f32 := k0_pay133 (w542 I) (w563 I) (w591 I) (I.x1s 256 inb_S128x2048_S128x256_0_256) I.p1
theorem a619 {d : Blk} {e : Acc} {I : In} (H : Holds d e I) :
    ∀ (r : Fin 128) (b : Fin 128), (w619 I (ix3 0 r b) : EReal) = ((e.A7 1 r b + d.DWS 1 r b : ℝ) : EReal) :=
  L133 d e (w542 I) (w563 I) (w591 I) (I.x1s 256 inb_S128x2048_S128x256_0_256) I.p1 (a542 H) (a563 H) (a591 H) (H.x1s 256 _) (H.p1)
def w627 (I : In) : FVec Ideal S1x128x1 .f32 := k0_pay134 (w563 I) (w591 I) (I.x1s 256 inb_S128x2048_S128x256_0_256) I.q1
theorem a627 {d : Blk} {e : Acc} {I : In} (H : Holds d e I) :
    ∀ (r : Fin 128), (w627 I (ix3 0 r 0) : EReal) = ((e.A8 1 r + d.DBS 1 r : ℝ) : EReal) :=
  L134 d e (w563 I) (w591 I) (I.x1s 256 inb_S128x2048_S128x256_0_256) I.q1 (a563 H) (a591 H) (H.x1s 256 _) (H.q1)
def w536 (I : In) : FVec Ideal S128x256 .f32 := k0_pay119 (w341 I) (w403 I) (w84 I)
theorem a536 {d : Blk} {e : Acc} {I : In} (H : Holds d e I) :
    ∀ (r : Fin 128) (j : Fin 256), (w536 I (ix2 r j) : EReal) = ((d.VH r (256 + j.val) : ℝ) : EReal) :=
  L119 d e (w341 I) (w403 I) (w84 I) (a341 H) (a403 H) (a84 H)
def w612 (I : In) : FVec Ideal S128x256 .bf16 := k0_pay132 (w563 I) (w591 I) (I.x1s 256 inb_S128x2048_S128x256_0_256)
theorem a612 {d : Blk} {e : Acc} {I : In} (H : Holds d e I) :
    ∀ (r : Fin 128) (j : Fin 256), (w612 I (ix2 r j) : EReal) = ((d.DS r (256 + j.val) : ℝ) : EReal) :=
  L132 d e (w563 I) (w591 I) (I.x1s 256 inb_S128x2048_S128x256_0_256) (a563 H) (a591 H) (H.x1s 256 _)
def w636 (I : In) : FVec Ideal S1x256 .f32 := k0_pay136 (w536 I) (w612 I) I.w1 I.s1
theorem a636 {d : Blk} {e : Acc} {I : In} (H : Holds d e I) :
    ∀ (j : Fin 256), (w636 I (ix2 0 j) : EReal) = ((e.A9 (256 + j.val) + d.DLG 1 (256 + j.val) : ℝ) : EReal) :=
  L136 d e (w536 I) (w612 I) I.w1 I.s1 (a536 H) (a612 H) (H.w1) (H.s1)
def w642 (I : In) : FVec Ideal S1x256 .f32 := k0_pay137 (w612 I) I.w1 I.t1
theorem a642 {d : Blk} {e : Acc} {I : In} (H : Holds d e I) :
    ∀ (j : Fin 256), (w642 I (ix2 0 j) : EReal) = ((e.A10 (256 + j.val) + d.DLB 1 (256 + j.val) : ℝ) : EReal) :=
  L137 d e (w612 I) I.w1 I.t1 (a612 H) (H.w1) (H.t1)
def w663 (I : In) : FVec Ideal S128x256 .f32 := k0_pay143 (w341 I) (w403 I) (I.x2s 512 inb_S1x2048_S1x256_0_512) (w126 I)
theorem a663 {d : Blk} {e : Acc} {I : In} (H : Holds d e I) :
    ∀ (r : Fin 128) (j : Fin 256), (w663 I (ix2 r j) : EReal) = (((d.VH r (512 + j.val) * d.G (512 + j.val)) : ℝ) : EReal) :=
  L143 d e (w341 I) (w403 I) (I.x2s 512 inb_S1x2048_S1x256_0_512) (w126 I) (a341 H) (a403 H) (H.x2s 512 _) (a126 H)
def w674 (I : In) : FVec Ideal S128x256 .f32 := k0_pay145 (w663 I) (I.x3s 512 inb_S1x2048_S1x256_0_512) I.w2 (I.x5s 2 inb_S8x128x1_S1x128x1_2_0_0)
theorem a674 {d : Blk} {e : Acc} {I : In} (H : Holds d e I) :
    ∀ (r : Fin 128) (j : Fin 256), (w674 I (ix2 r j) : EReal) = ((d.S 2 r (512 + j.val) : ℝ) : EReal) :=
  L145 d e (w663 I) (I.x3s 512 inb_S1x2048_S1x256_0_512) I.w2 (I.x5s 2 inb_S8x128x1_S1x128x1_2_0_0) (a663 H) (H.x3s 512 _) (H.w2) (H.x5s 2 _)
def w692 (I : In) : FVec Ideal S128x256 .f32 := k0_pay148 (I.x0s 512 inb_S128x6144_S128x256_0_512)
theorem a692 {d : Blk} {e : Acc} {I : In} (H : Holds d e I) :
    ∀ (r : Fin 128) (j : Fin 256), (w692 I (ix2 r j) : EReal) = ((((1 / 2) * (1 + Real.tanh ((c0 * (d.P r (512 + j.val) + ((((8943 / 200000) * d.P r (512 + j.val)) * d.P r (512 + j.val)) * d.P r (512 + j.val))))))) : ℝ) : EReal) :=
  L148 d e (I.x0s 512 inb_S128x6144_S128x256_0_512) (H.x0s 512 _)
def w698 (I : In) : FVec Ideal S128x256 .f32 := k0_pay149 (I.x0s 512 inb_S128x6144_S128x256_0_512)
theorem a698 {d : Blk} {e : Acc} {I : In} (H : Holds d e I) :
    ∀ (r : Fin 128) (j : Fin 256), (w698 I (ix2 r j) : EReal) = (((((1 / 2) * d.P r (512 + j.val)) * (1 - (Real.tanh ((c0 * (d.P r (512 + j.val) + ((((8943 / 200000) * d.P r (512 + j.val)) * d.P r (512 + j.val)) * d.P r (512 + j.val))))) * Real.tanh ((c0 * (d.P r (512 + j.val) + ((((8943 / 200000) * d.P r (512 + j.val)) * d.P r (512 + j.val)) * d.P r (512 + j.val)))))))) : ℝ) : EReal) :=
  L149 d e (I.x0s 512 inb_S128x6144_S128x256_0_512) (H.x0s 512 _)
def w703 (I : In) : FVec Ideal S128x256 .f32 := k0_pay150 (I.x0s 512 inb_S128x6144_S128x256_0_512)
theorem a703 {d : Blk} {e : Acc} {I : In} (H : Holds d e I) :
    ∀ (r : Fin 128) (j : Fin 256), (w703 I (ix2 r j) : EReal) = (((1 + (((26829 / 200000) * d.P r (512 + j.val)) * d.P r (512 + j.val))) : ℝ) : EReal) :=
  L150 d e (I.x0s 512 inb_S128x6144_S128x256_0_512) (H.x0s 512 _)
def w728 (I : In) : FVec Ideal S128x256 .bf16 := k0_pay154 (w674 I) (w692 I) (w698 I) (w703 I) (I.x0s 4608 inb_S128x6144_S128x256_0_4608) (I.x1s 512 inb_S128x2048_S128x256_0_512)
theorem a728 {d : Blk} {e : Acc} {I : In} (H : Holds d e I) :
    ∀ (r : Fin 128) (j : Fin 256), (w728 I (ix2 r j) : EReal) = ((d.DPU 2 r (512 + j.val) : ℝ) : EReal) :=
  L154 d e (w674 I) (w692 I) (w698 I) (w703 I) (I.x0s 4608 inb_S128x6144_S128x256_0_4608) (I.x1s 512 inb_S128x2048_S128x256_0_512) (a674 H) (a692 H) (a698 H) (a703 H) (H.x0s 4608 _) (H.x1s 512 _)
def w688 (I : In) : FVec Ideal S128x256 .f32 := k0_pay147 (I.x0s 512 inb_S128x6144_S128x256_0_512)
theorem a688 {d : Blk} {e : Acc} {I : In} (H : Holds d e I) :
    ∀ (r : Fin 128) (j : Fin 256), (w688 I (ix2 r j) : EReal) = ((d.U r (512 + j.val) : ℝ) : EReal) :=
  L147 d e (I.x0s 512 inb_S128x6144_S128x256_0_512) (H.x0s 512 _)
def w733 (I : In) : FVec Ideal S128x256 .bf16 := k0_pay155 (w674 I) (w688 I) (I.x0s 4608 inb_S128x6144_S128x256_0_4608) (I.x1s 512 inb_S128x2048_S128x256_0_512)
theorem a733 {d : Blk} {e : Acc} {I : In} (H : Holds d e I) :
    ∀ (r : Fin 128) (j : Fin 256), (w733 I (ix2 r j) : EReal) = ((d.DPG 2 r (512 + j.val) : ℝ) : EReal) :=
  L155 d e (w674 I) (w688 I) (I.x0s 4608 inb_S128x6144_S128x256_0_4608) (I.x1s 512 inb_S128x2048_S128x256_0_512) (a674 H) (a688 H) (H.x0s 4608 _) (H.x1s 512 _)
def w667 (I : In) : FVec Ideal S128x256 .bf16 := k0_pay144 (w663 I) (I.x3s 512 inb_S1x2048_S1x256_0_512)
theorem a667 {d : Blk} {e : Acc} {I : In} (H : Holds d e I) :
    ∀ (r : Fin 128) (j : Fin 256), (w667 I (ix2 r j) : EReal) = ((d.VL r (512 + j.val) : ℝ) : EReal) :=
  L144 d e (w663 I) (I.x3s 512 inb_S1x2048_S1x256_0_512) (a663 H) (H.x3s 512 _)
def w741 (I : In) : FVec Ideal S128x128 .f32 := k0_pay158 (w667 I) (w688 I) (I.x0s 4608 inb_S128x6144_S128x256_0_4608) (I.x1s 512 inb_S128x2048_S128x256_0_512) I.p2
theorem a741 {d : Blk} {e : Acc} {I : In} (H : Holds d e I) :
    ∀ (r : Fin 128) (b : Fin 128), (w741 I (ix2 r b) : EReal) = (((e.A7 2 r b + d.DWS 2 r b) : ℝ) : EReal) :=
  L158 d e (w667 I) (w688 I) (I.x0s 4608 inb_S128x6144_S128x256_0_4608) (I.x1s 512 inb_S128x2048_S128x256_0_512) I.p2 (a667 H) (a688 H) (H.x0s 4608 _) (H.x1s 512 _) (H.p2)
def w744 (I : In) : FVec Ideal S1x128x128 .f32 := k0_pay159 (w741 I)
theorem a744 {d : Blk} {e : Acc} {I : In} (H : Holds d e I) :
    ∀ (r : Fin 128) (b : Fin 128), (w744 I (ix3 0 r b) : EReal) = ((e.A7 2 r b + d.DWS 2 r b : ℝ) : EReal) :=
  L159 d e (w741 I) (a741 H)
def w736 (I : In) : FVec Ideal S128x256 .f32 := k0_pay156 (w688 I) (I.x0s 4608 inb_S128x6144_S128x256_0_4608) (I.x1s 512 inb_S128x2048_S128x256_0_512)
theorem a736 {d : Blk} {e : Acc} {I : In} (H : Holds d e I) :
    ∀ (r : Fin 128) (j : Fin 256), (w736 I (ix2 r j) : EReal) = ((d.DS r (512 + j.val) : ℝ) : EReal) :=
  L156 d e (w688 I) (I.x0s 4608 inb_S128x6144_S128x256_0_4608) (I.x1s 512 inb_S128x2048_S128x256_0_512) (a688 H) (H.x0s 4608 _) (H.x1s 512 _)
def w752 (I : In) : FVec Ideal S1x128x1 .f32 := k0_pay160 (w736 I) I.q2
theorem a752 {d : Blk} {e : Acc} {I : In} (H : Holds d e I) :
    ∀ (r : Fin 128), (w752 I (ix3 0 r 0) : EReal) = ((e.A8 2 r + d.DBS 2 r : ℝ) : EReal) :=
  L160 d e (w736 I) I.q2 (a736 H) (H.q2)
def w661 (I : In) : FVec Ideal S128x256 .f32 := k0_pay142 (w341 I) (w403 I) (w126 I)
theorem a661 {d : Blk} {e : Acc} {I : In} (H : Holds d e I) :
    ∀ (r : Fin 128) (j : Fin 256), (w661 I (ix2 r j) : EReal) = ((d.VH r (512 + j.val) : ℝ) : EReal) :=
  L142 d e (w341 I) (w403 I) (w126 I) (a341 H) (a403 H) (a126 H)
def w737 (I : In) : FVec Ideal S128x256 .bf16 := k0_pay157 (w688 I) (I.x0s 4608 inb_S128x6144_S128x256_0_4608) (I.x1s 512 inb_S128x2048_S128x256_0_512)
theorem a737 {d : Blk} {e : Acc} {I : In} (H : Holds d e I) :
    ∀ (r : Fin 128) (j : Fin 256), (w737 I (ix2 r j) : EReal) = ((d.DS r (512 + j.val) : ℝ) : EReal) :=
  L157 d e (w688 I) (I.x0s 4608 inb_S128x6144_S128x256_0_4608) (I.x1s 512 inb_S128x2048_S128x256_0_512) (a688 H) (H.x0s 4608 _) (H.x1s 512 _)
def w761 (I : In) : FVec Ideal S1x256 .f32 := k0_pay162 (w661 I) (w737 I) I.w2 I.s2
theorem a761 {d : Blk} {e : Acc} {I : In} (H : Holds d e I) :
    ∀ (j : Fin 256), (w761 I (ix2 0 j) : EReal) = ((e.A9 (512 + j.val) + d.DLG 2 (512 + j.val) : ℝ) : EReal) :=
  L162 d e (w661 I) (w737 I) I.w2 I.s2 (a661 H) (a737 H) (H.w2) (H.s2)
def w767 (I : In) : FVec Ideal S1x256 .f32 := k0_pay163 (w737 I) I.w2 I.t2
theorem a767 {d : Blk} {e : Acc} {I : In} (H : Holds d e I) :
    ∀ (j : Fin 256), (w767 I (ix2 0 j) : EReal) = ((e.A10 (512 + j.val) + d.DLB 2 (512 + j.val) : ℝ) : EReal) :=
  L163 d e (w737 I) I.w2 I.t2 (a737 H) (H.w2) (H.t2)
def w799 (I : In) : FVec Ideal S128x256 .f32 := k0_pay170 (w341 I) (w403 I) (I.x2s 768 inb_S1x2048_S1x256_0_768) (w168 I) (I.x3s 768 inb_S1x2048_S1x256_0_768) I.w3 (I.x5s 3 inb_S8x128x1_S1x128x1_3_0_0)
theorem a799 {d : Blk} {e : Acc} {I : In} (H : Holds d e I) :
    ∀ (r : Fin 128) (j : Fin 256), (w799 I (ix2 r j) : EReal) = ((d.S 3 r (768 + j.val) : ℝ) : EReal) :=
  L170 d e (w341 I) (w403 I) (I.x2s 768 inb_S1x2048_S1x256_0_768) (w168 I) (I.x3s 768 inb_S1x2048_S1x256_0_768) I.w3 (I.x5s 3 inb_S8x128x1_S1x128x1_3_0_0) (a341 H) (a403 H) (H.x2s 768 _) (a168 H) (H.x3s 768 _) (H.w3) (H.x5s 3 _)
def w808 (I : In) : FVec Ideal S128x256 .f32 := k0_pay171 (I.x0s 768 inb_S128x6144_S128x256_0_768)
theorem a808 {d : Blk} {e : Acc} {I : In} (H : Holds d e I) :
    ∀ (r : Fin 128) (j : Fin 256), (w808 I (ix2 r j) : EReal) = ((Real.tanh ((c0 * (d.P r (768 + j.val) + ((((8943 / 200000) * d.P r (768 + j.val)) * d.P r (768 + j.val)) * d.P r (768 + j.val))))) : ℝ) : EReal) :=
  L171 d e (I.x0s 768 inb_S128x6144_S128x256_0_768) (H.x0s 768 _)
def w853 (I : In) : FVec Ideal S128x256 .bf16 := k0_pay179 (w799 I) (I.x0s 768 inb_S128x6144_S128x256_0_768) (w808 I) (I.x0s 4864 inb_S128x6144_S128x256_0_4864) (I.x1s 768 inb_S128x2048_S128x256_0_768)
theorem a853 {d : Blk} {e : Acc} {I : In} (H : Holds d e I) :
    ∀ (r : Fin 128) (j : Fin 256), (w853 I (ix2 r j) : EReal) = ((d.DPU 3 r (768 + j.val) : ℝ) : EReal) :=
  L179 d e (w799 I) (I.x0s 768 inb_S128x6144_S128x256_0_768) (w808 I) (I.x0s 4864 inb_S128x6144_S128x256_0_4864) (I.x1s 768 inb_S128x2048_S128x256_0_768) (a799 H) (H.x0s 768 _) (a808 H) (H.x0s 4864 _) (H.x1s 768 _)
def w810 (I : In) : FVec Ideal S128x256 .f32 := k0_pay172 (I.x0s 768 inb_S128x6144_S128x256_0_768)
theorem a810 {d : Blk} {e : Acc} {I : In} (H : Holds d e I) :
    ∀ (r : Fin 128) (j : Fin 256), (w810 I (ix2 r j) : EReal) = ((((1 / 2) * d.P r (768 + j.val)) : ℝ) : EReal) :=
  L172 d e (I.x0s 768 inb_S128x6144_S128x256_0_768) (H.x0s 768 _)
def w811 (I : In) : FVec Ideal S128x256 .f32 := k0_pay173
theorem a811 {d : Blk} {e : Acc} {I : In} (H : Holds d e I) :
    ∀ (r : Fin 128) (j : Fin 256), (w811 I (ix2 r j) : EReal) = ((1 : ℝ) : EReal) :=
  L173 d e
def w813 (I : In) : FVec Ideal S128x256 .f32 := k0_pay174 (w808 I) (w810 I) (w811 I)
theorem a813 {d : Blk} {e : Acc} {I : In} (H : Holds d e I) :
    ∀ (r : Fin 128) (j : Fin 256), (w813 I (ix2 r j) : EReal) = ((d.U r (768 + j.val) : ℝ) : EReal) :=
  L174 d e (w808 I) (w810 I) (w811 I) (a808 H) (a810 H) (a811 H)
def w847 (I : In) : FVec Ideal S128x256 .f32 := k0_pay177 (I.x0s 4864 inb_S128x6144_S128x256_0_4864)
theorem a847 {d : Blk} {e : Acc} {I : In} (H : Holds d e I) :
    ∀ (r : Fin 128) (j : Fin 256), (w847 I (ix2 r j) : EReal) = ((d.DSG r (768 + j.val) : ℝ) : EReal) :=
  L177 d e (I.x0s 4864 inb_S128x6144_S128x256_0_4864) (H.x0s 4864 _)
def w849 (I : In) : FVec Ideal S128x256 .f32 := k0_pay178 (I.x1s 768 inb_S128x2048_S128x256_0_768)
theorem a849 {d : Blk} {e : Acc} {I : In} (H : Holds d e I) :
    ∀ (r : Fin 128) (j : Fin 256), (w849 I (ix2 r j) : EReal) = ((d.Y r (768 + j.val) : ℝ) : EReal) :=
  L178 d e (I.x1s 768 inb_S128x2048_S128x256_0_768) (H.x1s 768 _)
def w858 (I : In) : FVec Ideal S128x256 .bf16 := k0_pay180 (w799 I) (w813 I) (w847 I) (w849 I)
theorem a858 {d : Blk} {e : Acc} {I : In} (H : Holds d e I) :
    ∀ (r : Fin 128) (j : Fin 256), (w858 I (ix2 r j) : EReal) = ((d.DPG 3 r (768 + j.val) : ℝ) : EReal) :=
  L180 d e (w799 I) (w813 I) (w847 I) (w849 I) (a799 H) (a813 H) (a847 H) (a849 H)
def w792 (I : In) : FVec Ideal S128x256 .bf16 := k0_pay169 (w341 I) (w403 I) (I.x2s 768 inb_S1x2048_S1x256_0_768) (w168 I) (I.x3s 768 inb_S1x2048_S1x256_0_768)
theorem a792 {d : Blk} {e : Acc} {I : In} (H : Holds d e I) :
    ∀ (r : Fin 128) (j : Fin 256), (w792 I (ix2 r j) : EReal) = ((d.VL r (768 + j.val) : ℝ) : EReal) :=
  L169 d e (w341 I) (w403 I) (I.x2s 768 inb_S1x2048_S1x256_0_768) (w168 I) (I.x3s 768 inb_S1x2048_S1x256_0_768) (a341 H) (a403 H) (H.x2s 768 _) (a168 H) (H.x3s 768 _)
def w841 (I : In) : FVec Ideal S128x256 .f32 := k0_pay176 (I.x0s 4864 inb_S128x6144_S128x256_0_4864)
theorem a841 {d : Blk} {e : Acc} {I : In} (H : Holds d e I) :
    ∀ (r : Fin 128) (j : Fin 256), (w841 I (ix2 r j) : EReal) = ((d.SG r (768 + j.val) : ℝ) : EReal) :=
  L176 d e (I.x0s 4864 inb_S128x6144_S128x256_0_4864) (H.x0s 4864 _)
def w869 (I : In) : FVec Ideal S1x128x128 .f32 := k0_pay183 (w792 I) (w813 I) (w841 I) (w849 I) I.p3
theorem a869 {d : Blk} {e : Acc} {I : In} (H : Holds d e I) :
    ∀ (r : Fin 128) (b : Fin 128), (w869 I (ix3 0 r b) : EReal) = ((e.A7 3 r b + d.DWS 3 r b : ℝ) : EReal) :=
  L183 d e (w792 I) (w813 I) (w841 I) (w849 I) I.p3 (a792 H) (a813 H) (a841 H) (a849 H) (H.p3)
def w877 (I : In) : FVec Ideal S1x128x1 .f32 := k0_pay184 (w813 I) (w841 I) (w849 I) I.q3
theorem a877 {d : Blk} {e : Acc} {I : In} (H : Holds d e I) :
    ∀ (r : Fin 128), (w877 I (ix3 0 r 0) : EReal) = ((e.A8 3 r + d.DBS 3 r : ℝ) : EReal) :=
  L184 d e (w813 I) (w841 I) (w849 I) I.q3 (a813 H) (a841 H) (a849 H) (H.q3)
def w786 (I : In) : FVec Ideal S128x256 .f32 := k0_pay168 (w341 I) (w403 I) (w168 I)
theorem a786 {d : Blk} {e : Acc} {I : In} (H : Holds d e I) :
    ∀ (r : Fin 128) (j : Fin 256), (w786 I (ix2 r j) : EReal) = ((d.VH r (768 + j.val) : ℝ) : EReal) :=
  L168 d e (w341 I) (w403 I) (w168 I) (a341 H) (a403 H) (a168 H)
def w886 (I : In) : FVec Ideal S1x256 .f32 := k0_pay186 (w786 I) (w813 I) (w841 I) (w849 I) I.w3 I.s3
theorem a886 {d : Blk} {e : Acc} {I : In} (H : Holds d e I) :
    ∀ (j : Fin 256), (w886 I (ix2 0 j) : EReal) = ((e.A9 (768 + j.val) + d.DLG 3 (768 + j.val) : ℝ) : EReal) :=
  L186 d e (w786 I) (w813 I) (w841 I) (w849 I) I.w3 I.s3 (a786 H) (a813 H) (a841 H) (a849 H) (H.w3) (H.s3)
def w880 (I : In) : FVec Ideal S128x256 .f32 := k0_pay185 (w813 I) (w841 I) (w849 I) I.w3
theorem a880 {d : Blk} {e : Acc} {I : In} (H : Holds d e I) :
    ∀ (r : Fin 128) (j : Fin 256), (w880 I (ix2 r j) : EReal) = ((d.DVL 3 r (768 + j.val) : ℝ) : EReal) :=
  L185 d e (w813 I) (w841 I) (w849 I) I.w3 (a813 H) (a841 H) (a849 H) (H.w3)
def w892 (I : In) : FVec Ideal S1x256 .f32 := k0_pay187 (w880 I) I.t3
theorem a892 {d : Blk} {e : Acc} {I : In} (H : Holds d e I) :
    ∀ (j : Fin 256), (w892 I (ix2 0 j) : EReal) = ((e.A10 (768 + j.val) + d.DLB 3 (768 + j.val) : ℝ) : EReal) :=
  L187 d e (w880 I) I.t3 (a880 H) (H.t3)
def w920 (I : In) : FVec Ideal S128x256 .f32 := k0_pay194 (w341 I) (w403 I) (I.x2s 1024 inb_S1x2048_S1x256_0_1024) (w210 I) (I.x3s 1024 inb_S1x2048_S1x256_0_1024) I.w4
theorem a920 {d : Blk} {e : Acc} {I : In} (H : Holds d e I) :
    ∀ (r : Fin 128) (j : Fin 256), (w920 I (ix2 r j) : EReal) = (((∑ k8 : Fin 128, d.W 4 r k8 * d.VL k8 (1024 + j.val)) : ℝ) : EReal) :=
  L194 d e (w341 I) (w403 I) (I.x2s 1024 inb_S1x2048_S1x256_0_1024) (w210 I) (I.x3s 1024 inb_S1x2048_S1x256_0_1024) I.w4 (a341 H) (a403 H) (H.x2s 1024 _) (a210 H) (H.x3s 1024 _) (H.w4)
def w924 (I : In) : FVec Ideal S128x256 .f32 := k0_pay195 (w920 I) (I.x5s 4 inb_S8x128x1_S1x128x1_4_0_0)
theorem a924 {d : Blk} {e : Acc} {I : In} (H : Holds d e I) :
    ∀ (r : Fin 128) (j : Fin 256), (w924 I (ix2 r j) : EReal) = ((d.S 4 r (1024 + j.val) : ℝ) : EReal) :=
  L195 d e (w920 I) (I.x5s 4 inb_S8x128x1_S1x128x1_4_0_0) (a920 H) (H.x5s 4 _)
def w957 (I : In) : FVec Ideal S128x256 .f32 := k0_pay198 (I.x0s 1024 inb_S128x6144_S128x256_0_1024)
theorem a957 {d : Blk} {e : Acc} {I : In} (H : Holds d e I) :
    ∀ (r : Fin 128) (j : Fin 256), (w957 I (ix2 r j) : EReal) = ((d.DU r (1024 + j.val) : ℝ) : EReal) :=
  L198 d e (I.x0s 1024 inb_S128x6144_S128x256_0_1024) (H.x0s 1024 _)
def w961 (I : In) : FVec Ideal S128x256 .f32 := k0_pay199 (I.x0s 5120 inb_S128x6144_S128x256_0_5120)
theorem a961 {d : Blk} {e : Acc} {I : In} (H : Holds d e I) :
    ∀ (r : Fin 128) (j : Fin 256), (w961 I (ix2 r j) : EReal) = ((Real.tanh (((1 / 2) * d.P r (5120 + j.val))) : ℝ) : EReal) :=
  L199 d e (I.x0s 5120 inb_S128x6144_S128x256_0_5120) (H.x0s 5120 _)
def w962 (I : In) : FVec Ideal S128x256 .f32 := k0_pay200
theorem a962 {d : Blk} {e : Acc} {I : In} (H : Holds d e I) :
    ∀ (r : Fin 128) (j : Fin 256), (w962 I (ix2 r j) : EReal) = (((1 / 2) : ℝ) : EReal) :=
  L200 d e
def w978 (I : In) : FVec Ideal S128x256 .bf16 := k0_pay204 (w924 I) (w957 I) (I.x0s 5120 inb_S128x6144_S128x256_0_5120) (w961 I) (w962 I) (I.x1s 1024 inb_S128x2048_S128x256_0_1024)
theorem a978 {d : Blk} {e : Acc} {I : In} (H : Holds d e I) :
    ∀ (r : Fin 128) (j : Fin 256), (w978 I (ix2 r j) : EReal) = ((d.DPU 4 r (1024 + j.val) : ℝ) : EReal) :=
  L204 d e (w924 I) (w957 I) (I.x0s 5120 inb_S128x6144_S128x256_0_5120) (w961 I) (w962 I) (I.x1s 1024 inb_S128x2048_S128x256_0_1024) (a924 H) (a957 H) (H.x0s 5120 _) (a961 H) (a962 H) (H.x1s 1024 _)
def w938 (I : In) : FVec Ideal S128x256 .f32 := k0_pay197 (I.x0s 1024 inb_S128x6144_S128x256_0_1024)
theorem a938 {d : Blk} {e : Acc} {I : In} (H : Holds d e I) :
    ∀ (r : Fin 128) (j : Fin 256), (w938 I (ix2 r j) : EReal) = ((d.U r (1024 + j.val) : ℝ) : EReal) :=
  L197 d e (I.x0s 1024 inb_S128x6144_S128x256_0_1024) (H.x0s 1024 _)
def w983 (I : In) : FVec Ideal S128x256 .bf16 := k0_pay205 (w924 I) (w938 I) (I.x0s 5120 inb_S128x6144_S128x256_0_5120) (w961 I) (w962 I) (I.x1s 1024 inb_S128x2048_S128x256_0_1024)
theorem a983 {d : Blk} {e : Acc} {I : In} (H : Holds d e I) :
    ∀ (r : Fin 128) (j : Fin 256), (w983 I (ix2 r j) : EReal) = ((d.DPG 4 r (1024 + j.val) : ℝ) : EReal) :=
  L205 d e (w924 I) (w938 I) (I.x0s 5120 inb_S128x6144_S128x256_0_5120) (w961 I) (w962 I) (I.x1s 1024 inb_S128x2048_S128x256_0_1024) (a924 H) (a938 H) (H.x0s 5120 _) (a961 H) (a962 H) (H.x1s 1024 _)
def w917 (I : In) : FVec Ideal S128x256 .bf16 := k0_pay193 (w341 I) (w403 I) (I.x2s 1024 inb_S1x2048_S1x256_0_1024) (w210 I) (I.x3s 1024 inb_S1x2048_S1x256_0_1024)
theorem a917 {d : Blk} {e : Acc} {I : In} (H : Holds d e I) :
    ∀ (r : Fin 128) (j : Fin 256), (w917 I (ix2 r j) : EReal) = ((d.VL r (1024 + j.val) : ℝ) : EReal) :=
  L193 d e (w341 I) (w403 I) (I.x2s 1024 inb_S1x2048_S1x256_0_1024) (w210 I) (I.x3s 1024 inb_S1x2048_S1x256_0_1024) (a341 H) (a403 H) (H.x2s 1024 _) (a210 H) (H.x3s 1024 _)
def w994 (I : In) : FVec Ideal S1x128x128 .f32 := k0_pay208 (w917 I) (w938 I) (I.x0s 5120 inb_S128x6144_S128x256_0_5120) (w961 I) (w962 I) (I.x1s 1024 inb_S128x2048_S128x256_0_1024) I.p4
theorem a994 {d : Blk} {e : Acc} {I : In} (H : Holds d e I) :
    ∀ (r : Fin 128) (b : Fin 128), (w994 I (ix3 0 r b) : EReal) = ((e.A7 4 r b + d.DWS 4 r b : ℝ) : EReal) :=
  L208 d e (w917 I) (w938 I) (I.x0s 5120 inb_S128x6144_S128x256_0_5120) (w961 I) (w962 I) (I.x1s 1024 inb_S128x2048_S128x256_0_1024) I.p4 (a917 H) (a938 H) (H.x0s 5120 _) (a961 H) (a962 H) (H.x1s 1024 _) (H.p4)
def w999 (I : In) : FVec Ideal S128x1 .f32 := k0_pay209 (w938 I) (I.x0s 5120 inb_S128x6144_S128x256_0_5120) (w961 I) (w962 I) (I.x1s 1024 inb_S128x2048_S128x256_0_1024) I.q4
theorem a999 {d : Blk} {e : Acc} {I : In} (H : Holds d e I) :
    ∀ (r : Fin 128), (w999 I (ix2 r 0) : EReal) = (((e.A8 4 r + (∑ k9 : Fin 256, d.DS r (1024 + k9.val))) : ℝ) : EReal) :=
  L209 d e (w938 I) (I.x0s 5120 inb_S128x6144_S128x256_0_5120) (w961 I) (w962 I) (I.x1s 1024 inb_S128x2048_S128x256_0_1024) I.q4 (a938 H) (H.x0s 5120 _) (a961 H) (a962 H) (H.x1s 1024 _) (H.q4)
def w1002 (I : In) : FVec Ideal S1x128x1 .f32 := k0_pay210 (w999 I)
theorem a1002 {d : Blk} {e : Acc} {I : In} (H : Holds d e I) :
    ∀ (r : Fin 128), (w1002 I (ix3 0 r 0) : EReal) = ((e.A8 4 r + d.DBS 4 r : ℝ) : EReal) :=
  L210 d e (w999 I) (a999 H)
def w911 (I : In) : FVec Ideal S128x256 .f32 := k0_pay192 (w341 I) (w403 I) (w210 I)
theorem a911 {d : Blk} {e : Acc} {I : In} (H : Holds d e I) :
    ∀ (r : Fin 128) (j : Fin 256), (w911 I (ix2 r j) : EReal) = ((d.VH r (1024 + j.val) : ℝ) : EReal) :=
  L192 d e (w341 I) (w403 I) (w210 I) (a341 H) (a403 H) (a210 H)
def w987 (I : In) : FVec Ideal S128x256 .bf16 := k0_pay207 (w938 I) (I.x0s 5120 inb_S128x6144_S128x256_0_5120) (w961 I) (w962 I) (I.x1s 1024 inb_S128x2048_S128x256_0_1024)
theorem a987 {d : Blk} {e : Acc} {I : In} (H : Holds d e I) :
    ∀ (r : Fin 128) (j : Fin 256), (w987 I (ix2 r j) : EReal) = ((d.DS r (1024 + j.val) : ℝ) : EReal) :=
  L207 d e (w938 I) (I.x0s 5120 inb_S128x6144_S128x256_0_5120) (w961 I) (w962 I) (I.x1s 1024 inb_S128x2048_S128x256_0_1024) (a938 H) (H.x0s 5120 _) (a961 H) (a962 H) (H.x1s 1024 _)
def w1011 (I : In) : FVec Ideal S1x256 .f32 := k0_pay212 (w911 I) (w987 I) I.w4 I.s4
theorem a1011 {d : Blk} {e : Acc} {I : In} (H : Holds d e I) :
    ∀ (j : Fin 256), (w1011 I (ix2 0 j) : EReal) = ((e.A9 (1024 + j.val) + d.DLG 4 (1024 + j.val) : ℝ) : EReal) :=
  L212 d e (w911 I) (w987 I) I.w4 I.s4 (a911 H) (a987 H) (H.w4) (H.s4)
def w1017 (I : In) : FVec Ideal S1x256 .f32 := k0_pay213 (w987 I) I.w4 I.t4
theorem a1017 {d : Blk} {e : Acc} {I : In} (H : Holds d e I) :
    ∀ (j : Fin 256), (w1017 I (ix2 0 j) : EReal) = ((e.A10 (1024 + j.val) + d.DLB 4 (1024 + j.val) : ℝ) : EReal) :=
  L213 d e (w987 I) I.w4 I.t4 (a987 H) (H.w4) (H.t4)
def w1049 (I : In) : FVec Ideal S128x256 .f32 := k0_pay220 (w341 I) (w403 I) (I.x2s 1280 inb_S1x2048_S1x256_0_1280) (w252 I) (I.x3s 1280 inb_S1x2048_S1x256_0_1280) I.w5 (I.x5s 5 inb_S8x128x1_S1x128x1_5_0_0)
theorem a1049 {d : Blk} {e : Acc} {I : In} (H : Holds d e I) :
    ∀ (r : Fin 128) (j : Fin 256), (w1049 I (ix2 r j) : EReal) = ((d.S 5 r (1280 + j.val) : ℝ) : EReal) :=
  L220 d e (w341 I) (w403 I) (I.x2s 1280 inb_S1x2048_S1x256_0_1280) (w252 I) (I.x3s 1280 inb_S1x2048_S1x256_0_1280) I.w5 (I.x5s 5 inb_S8x128x1_S1x128x1_5_0_0) (a341 H) (a403 H) (H.x2s 1280 _) (a252 H) (H.x3s 1280 _) (H.w5) (H.x5s 5 _)
def w1067 (I : In) : FVec Ideal S128x256 .f32 := k0_pay223 (I.x0s 1280 inb_S128x6144_S128x256_0_1280)
theorem a1067 {d : Blk} {e : Acc} {I : In} (H : Holds d e I) :
    ∀ (r : Fin 128) (j : Fin 256), (w1067 I (ix2 r j) : EReal) = ((((1 / 2) * (1 + Real.tanh ((c0 * (d.P r (1280 + j.val) + ((((8943 / 200000) * d.P r (1280 + j.val)) * d.P r (1280 + j.val)) * d.P r (1280 + j.val))))))) : ℝ) : EReal) :=
  L223 d e (I.x0s 1280 inb_S128x6144_S128x256_0_1280) (H.x0s 1280 _)
def w1069 (I : In) : FVec Ideal S128x256 .f32 := k0_pay224 (I.x0s 1280 inb_S128x6144_S128x256_0_1280)
theorem a1069 {d : Blk} {e : Acc} {I : In} (H : Holds d e I) :
    ∀ (r : Fin 128) (j : Fin 256), (w1069 I (ix2 r j) : EReal) = ((((1 / 2) * d.P r (1280 + j.val)) : ℝ) : EReal) :=
  L224 d e (I.x0s 1280 inb_S128x6144_S128x256_0_1280) (H.x0s 1280 _)
def w1070 (I : In) : FVec Ideal S128x256 .f32 := k0_pay225 (I.x0s 1280 inb_S128x6144_S128x256_0_1280)
theorem a1070 {d : Blk} {e : Acc} {I : In} (H : Holds d e I) :
    ∀ (r : Fin 128) (j : Fin 256), (w1070 I (ix2 r j) : EReal) = (((Real.tanh ((c0 * (d.P r (1280 + j.val) + ((((8943 / 200000) * d.P r (1280 + j.val)) * d.P r (1280 + j.val)) * d.P r (1280 + j.val))))) * Real.tanh ((c0 * (d.P r (1280 + j.val) + ((((8943 / 200000) * d.P r (1280 + j.val)) * d.P r (1280 + j.val)) * d.P r (1280 + j.val)))))) : ℝ) : EReal) :=
  L225 d e (I.x0s 1280 inb_S128x6144_S128x256_0_1280) (H.x0s 1280 _)
def w1071 (I : In) : FVec Ideal S128x256 .f32 := k0_pay226
theorem a1071 {d : Blk} {e : Acc} {I : In} (H : Holds d e I) :
    ∀ (r : Fin 128) (j : Fin 256), (w1071 I (ix2 r j) : EReal) = ((1 : ℝ) : EReal) :=
  L226 d e
def w1103 (I : In) : FVec Ideal S128x256 .bf16 := k0_pay230 (w1049 I) (I.x0s 1280 inb_S128x6144_S128x256_0_1280) (w1067 I) (w1069 I) (w1070 I) (w1071 I) (I.x0s 5376 inb_S128x6144_S128x256_0_5376) (I.x1s 1280 inb_S128x2048_S128x256_0_1280)
theorem a1103 {d : Blk} {e : Acc} {I : In} (H : Holds d e I) :
    ∀ (r : Fin 128) (j : Fin 256), (w1103 I (ix2 r j) : EReal) = ((d.DPU 5 r (1280 + j.val) : ℝ) : EReal) :=
  L230 d e (w1049 I) (I.x0s 1280 inb_S128x6144_S128x256_0_1280) (w1067 I) (w1069 I) (w1070 I) (w1071 I) (I.x0s 5376 inb_S128x6144_S128x256_0_5376) (I.x1s 1280 inb_S128x2048_S128x256_0_1280) (a1049 H) (H.x0s 1280 _) (a1067 H) (a1069 H) (a1070 H) (a1071 H) (H.x0s 5376 _) (H.x1s 1280 _)
def w1063 (I : In) : FVec Ideal S128x256 .f32 := k0_pay222 (I.x0s 1280 inb_S128x6144_S128x256_0_1280)
theorem a1063 {d : Blk} {e : Acc} {I : In} (H : Holds d e I) :
    ∀ (r : Fin 128) (j : Fin 256), (w1063 I (ix2 r j) : EReal) = ((d.U r (1280 + j.val) : ℝ) : EReal) :=
  L222 d e (I.x0s 1280 inb_S128x6144_S128x256_0_1280) (H.x0s 1280 _)
def w1108 (I : In) : FVec Ideal S128x256 .bf16 := k0_pay231 (w1049 I) (w1063 I) (I.x0s 5376 inb_S128x6144_S128x256_0_5376) (I.x1s 1280 inb_S128x2048_S128x256_0_1280)
theorem a1108 {d : Blk} {e : Acc} {I : In} (H : Holds d e I) :
    ∀ (r : Fin 128) (j : Fin 256), (w1108 I (ix2 r j) : EReal) = ((d.DPG 5 r (1280 + j.val) : ℝ) : EReal) :=
  L231 d e (w1049 I) (w1063 I) (I.x0s 5376 inb_S128x6144_S128x256_0_5376) (I.x1s 1280 inb_S128x2048_S128x256_0_1280) (a1049 H) (a1063 H) (H.x0s 5376 _) (H.x1s 1280 _)
def w1042 (I : In) : FVec Ideal S128x256 .bf16 := k0_pay219 (w341 I) (w403 I) (I.x2s 1280 inb_S1x2048_S1x256_0_1280) (w252 I) (I.x3s 1280 inb_S1x2048_S1x256_0_1280)
theorem a1042 {d : Blk} {e : Acc} {I : In} (H : Holds d e I) :
    ∀ (r : Fin 128) (j : Fin 256), (w1042 I (ix2 r j) : EReal) = ((d.VL r (1280 + j.val) : ℝ) : EReal) :=
  L219 d e (w341 I) (w403 I) (I.x2s 1280 inb_S1x2048_S1x256_0_1280) (w252 I) (I.x3s 1280 inb_S1x2048_S1x256_0_1280) (a341 H) (a403 H) (H.x2s 1280 _) (a252 H) (H.x3s 1280 _)
def w1112 (I : In) : FVec Ideal S128x256 .bf16 := k0_pay233 (w1063 I) (I.x0s 5376 inb_S128x6144_S128x256_0_5376) (I.x1s 1280 inb_S128x2048_S128x256_0_1280)
theorem a1112 {d : Blk} {e : Acc} {I : In} (H : Holds d e I) :
    ∀ (r : Fin 128) (j : Fin 256), (w1112 I (ix2 r j) : EReal) = ((d.DS r (1280 + j.val) : ℝ) : EReal) :=
  L233 d e (w1063 I) (I.x0s 5376 inb_S128x6144_S128x256_0_5376) (I.x1s 1280 inb_S128x2048_S128x256_0_1280) (a1063 H) (H.x0s 5376 _) (H.x1s 1280 _)
def w1119 (I : In) : FVec Ideal S1x128x128 .f32 := k0_pay234 (w1042 I) (w1112 I) I.p5
theorem a1119 {d : Blk} {e : Acc} {I : In} (H : Holds d e I) :
    ∀ (r : Fin 128) (b : Fin 128), (w1119 I (ix3 0 r b) : EReal) = ((e.A7 5 r b + d.DWS 5 r b : ℝ) : EReal) :=
  L234 d e (w1042 I) (w1112 I) I.p5 (a1042 H) (a1112 H) (H.p5)
def w1111 (I : In) : FVec Ideal S128x256 .f32 := k0_pay232 (w1063 I) (I.x0s 5376 inb_S128x6144_S128x256_0_5376) (I.x1s 1280 inb_S128x2048_S128x256_0_1280)
theorem a1111 {d : Blk} {e : Acc} {I : In} (H : Holds d e I) :
    ∀ (r : Fin 128) (j : Fin 256), (w1111 I (ix2 r j) : EReal) = ((d.DS r (1280 + j.val) : ℝ) : EReal) :=
  L232 d e (w1063 I) (I.x0s 5376 inb_S128x6144_S128x256_0_5376) (I.x1s 1280 inb_S128x2048_S128x256_0_1280) (a1063 H) (H.x0s 5376 _) (H.x1s 1280 _)
def w1127 (I : In) : FVec Ideal S1x128x1 .f32 := k0_pay235 (w1111 I) I.q5
theorem a1127 {d : Blk} {e : Acc} {I : In} (H : Holds d e I) :
    ∀ (r : Fin 128), (w1127 I (ix3 0 r 0) : EReal) = ((e.A8 5 r + d.DBS 5 r : ℝ) : EReal) :=
  L235 d e (w1111 I) I.q5 (a1111 H) (H.q5)
def w1036 (I : In) : FVec Ideal S128x256 .f32 := k0_pay218 (w341 I) (w403 I) (w252 I)
theorem a1036 {d : Blk} {e : Acc} {I : In} (H : Holds d e I) :
    ∀ (r : Fin 128) (j : Fin 256), (w1036 I (ix2 r j) : EReal) = ((d.VH r (1280 + j.val) : ℝ) : EReal) :=
  L218 d e (w341 I) (w403 I) (w252 I) (a341 H) (a403 H) (a252 H)
def w1136 (I : In) : FVec Ideal S1x256 .f32 := k0_pay237 (w1036 I) (w1112 I) I.w5 I.s5
theorem a1136 {d : Blk} {e : Acc} {I : In} (H : Holds d e I) :
    ∀ (j : Fin 256), (w1136 I (ix2 0 j) : EReal) = ((e.A9 (1280 + j.val) + d.DLG 5 (1280 + j.val) : ℝ) : EReal) :=
  L237 d e (w1036 I) (w1112 I) I.w5 I.s5 (a1036 H) (a1112 H) (H.w5) (H.s5)
def w1142 (I : In) : FVec Ideal S1x256 .f32 := k0_pay238 (w1112 I) I.w5 I.t5
theorem a1142 {d : Blk} {e : Acc} {I : In} (H : Holds d e I) :
    ∀ (j : Fin 256), (w1142 I (ix2 0 j) : EReal) = ((e.A10 (1280 + j.val) + d.DLB 5 (1280 + j.val) : ℝ) : EReal) :=
  L238 d e (w1112 I) I.w5 I.t5 (a1112 H) (H.w5) (H.t5)
def w1174 (I : In) : FVec Ideal S128x256 .f32 := k0_pay245 (w341 I) (w403 I) (I.x2s 1536 inb_S1x2048_S1x256_0_1536) (w294 I) (I.x3s 1536 inb_S1x2048_S1x256_0_1536) I.w6 (I.x5s 6 inb_S8x128x1_S1x128x1_6_0_0)
theorem a1174 {d : Blk} {e : Acc} {I : In} (H : Holds d e I) :
    ∀ (r : Fin 128) (j : Fin 256), (w1174 I (ix2 r j) : EReal) = ((d.S 6 r (1536 + j.val) : ℝ) : EReal) :=
  L245 d e (w341 I) (w403 I) (I.x2s 1536 inb_S1x2048_S1x256_0_1536) (w294 I) (I.x3s 1536 inb_S1x2048_S1x256_0_1536) I.w6 (I.x5s 6 inb_S8x128x1_S1x128x1_6_0_0) (a341 H) (a403 H) (H.x2s 1536 _) (a294 H) (H.x3s 1536 _) (H.w6) (H.x5s 6 _)
def w1180 (I : In) : FVec Ideal S128x256 .f32 := k0_pay246 (I.x0s 1536 inb_S128x6144_S128x256_0_1536)
theorem a1180 {d : Blk} {e : Acc} {I : In} (H : Holds d e I) :
    ∀ (r : Fin 128) (j : Fin 256), (w1180 I (ix2 r j) : EReal) = (((d.P r (1536 + j.val) + ((((8943 / 200000) * d.P r (1536 + j.val)) * d.P r (1536 + j.val)) * d.P r (1536 + j.val))) : ℝ) : EReal) :=
  L246 d e (I.x0s 1536 inb_S128x6144_S128x256_0_1536) (H.x0s 1536 _)
def w1207 (I : In) : FVec Ideal S128x256 .f32 := k0_pay249 (I.x0s 1536 inb_S128x6144_S128x256_0_1536) (w1180 I)
theorem a1207 {d : Blk} {e : Acc} {I : In} (H : Holds d e I) :
    ∀ (r : Fin 128) (j : Fin 256), (w1207 I (ix2 r j) : EReal) = ((d.DU r (1536 + j.val) : ℝ) : EReal) :=
  L249 d e (I.x0s 1536 inb_S128x6144_S128x256_0_1536) (w1180 I) (H.x0s 1536 _) (a1180 H)
def w1216 (I : In) : FVec Ideal S128x256 .f32 := k0_pay251 (I.x0s 5632 inb_S128x6144_S128x256_0_5632)
theorem a1216 {d : Blk} {e : Acc} {I : In} (H : Holds d e I) :
    ∀ (r : Fin 128) (j : Fin 256), (w1216 I (ix2 r j) : EReal) = ((d.SG r (1536 + j.val) : ℝ) : EReal) :=
  L251 d e (I.x0s 5632 inb_S128x6144_S128x256_0_5632) (H.x0s 5632 _)
def w1228 (I : In) : FVec Ideal S128x256 .bf16 := k0_pay254 (w1174 I) (w1207 I) (w1216 I) (I.x1s 1536 inb_S128x2048_S128x256_0_1536)
theorem a1228 {d : Blk} {e : Acc} {I : In} (H : Holds d e I) :
    ∀ (r : Fin 128) (j : Fin 256), (w1228 I (ix2 r j) : EReal) = ((d.DPU 6 r (1536 + j.val) : ℝ) : EReal) :=
  L254 d e (w1174 I) (w1207 I) (w1216 I) (I.x1s 1536 inb_S128x2048_S128x256_0_1536) (a1174 H) (a1207 H) (a1216 H) (H.x1s 1536 _)
def w1188 (I : In) : FVec Ideal S128x256 .f32 := k0_pay248 (I.x0s 1536 inb_S128x6144_S128x256_0_1536) (w1180 I)
theorem a1188 {d : Blk} {e : Acc} {I : In} (H : Holds d e I) :
    ∀ (r : Fin 128) (j : Fin 256), (w1188 I (ix2 r j) : EReal) = ((d.U r (1536 + j.val) : ℝ) : EReal) :=
  L248 d e (I.x0s 1536 inb_S128x6144_S128x256_0_1536) (w1180 I) (H.x0s 1536 _) (a1180 H)
def w1222 (I : In) : FVec Ideal S128x256 .f32 := k0_pay252 (I.x0s 5632 inb_S128x6144_S128x256_0_5632)
theorem a1222 {d : Blk} {e : Acc} {I : In} (H : Holds d e I) :
    ∀ (r : Fin 128) (j : Fin 256), (w1222 I (ix2 r j) : EReal) = ((d.DSG r (1536 + j.val) : ℝ) : EReal) :=
  L252 d e (I.x0s 5632 inb_S128x6144_S128x256_0_5632) (H.x0s 5632 _)
def w1233 (I : In) : FVec Ideal S128x256 .bf16 := k0_pay255 (w1174 I) (w1188 I) (w1222 I) (I.x1s 1536 inb_S128x2048_S128x256_0_1536)
theorem a1233 {d : Blk} {e : Acc} {I : In} (H : Holds d e I) :
    ∀ (r : Fin 128) (j : Fin 256), (w1233 I (ix2 r j) : EReal) = ((d.DPG 6 r (1536 + j.val) : ℝ) : EReal) :=
  L255 d e (w1174 I) (w1188 I) (w1222 I) (I.x1s 1536 inb_S128x2048_S128x256_0_1536) (a1174 H) (a1188 H) (a1222 H) (H.x1s 1536 _)
def w1167 (I : In) : FVec Ideal S128x256 .bf16 := k0_pay244 (w341 I) (w403 I) (I.x2s 1536 inb_S1x2048_S1x256_0_1536) (w294 I) (I.x3s 1536 inb_S1x2048_S1x256_0_1536)
theorem a1167 {d : Blk} {e : Acc} {I : In} (H : Holds d e I) :
    ∀ (r : Fin 128) (j : Fin 256), (w1167 I (ix2 r j) : EReal) = ((d.VL r (1536 + j.val) : ℝ) : EReal) :=
  L244 d e (w341 I) (w403 I) (I.x2s 1536 inb_S1x2048_S1x256_0_1536) (w294 I) (I.x3s 1536 inb_S1x2048_S1x256_0_1536) (a341 H) (a403 H) (H.x2s 1536 _) (a294 H) (H.x3s 1536 _)
def w1244 (I : In) : FVec Ideal S1x128x128 .f32 := k0_pay258 (w1167 I) (w1188 I) (w1216 I) (I.x1s 1536 inb_S128x2048_S128x256_0_1536) I.p6
theorem a1244 {d : Blk} {e : Acc} {I : In} (H : Holds d e I) :
    ∀ (r : Fin 128) (b : Fin 128), (w1244 I (ix3 0 r b) : EReal) = ((e.A7 6 r b + d.DWS 6 r b : ℝ) : EReal) :=
  L258 d e (w1167 I) (w1188 I) (w1216 I) (I.x1s 1536 inb_S128x2048_S128x256_0_1536) I.p6 (a1167 H) (a1188 H) (a1216 H) (H.x1s 1536 _) (H.p6)
def w1252 (I : In) : FVec Ideal S1x128x1 .f32 := k0_pay259 (w1188 I) (w1216 I) (I.x1s 1536 inb_S128x2048_S128x256_0_1536) I.q6
theorem a1252 {d : Blk} {e : Acc} {I : In} (H : Holds d e I) :
    ∀ (r : Fin 128), (w1252 I (ix3 0 r 0) : EReal) = ((e.A8 6 r + d.DBS 6 r : ℝ) : EReal) :=
  L259 d e (w1188 I) (w1216 I) (I.x1s 1536 inb_S128x2048_S128x256_0_1536) I.q6 (a1188 H) (a1216 H) (H.x1s 1536 _) (H.q6)
def w1161 (I : In) : FVec Ideal S128x256 .f32 := k0_pay243 (w341 I) (w403 I) (w294 I)
theorem a1161 {d : Blk} {e : Acc} {I : In} (H : Holds d e I) :
    ∀ (r : Fin 128) (j : Fin 256), (w1161 I (ix2 r j) : EReal) = ((d.VH r (1536 + j.val) : ℝ) : EReal) :=
  L243 d e (w341 I) (w403 I) (w294 I) (a341 H) (a403 H) (a294 H)
def w1255 (I : In) : FVec Ideal S128x256 .f32 := k0_pay260 (w1188 I) (w1216 I) (I.x1s 1536 inb_S128x2048_S128x256_0_1536) I.w6
theorem a1255 {d : Blk} {e : Acc} {I : In} (H : Holds d e I) :
    ∀ (r : Fin 128) (j : Fin 256), (w1255 I (ix2 r j) : EReal) = ((d.DVL 6 r (1536 + j.val) : ℝ) : EReal) :=
  L260 d e (w1188 I) (w1216 I) (I.x1s 1536 inb_S128x2048_S128x256_0_1536) I.w6 (a1188 H) (a1216 H) (H.x1s 1536 _) (H.w6)
def w1261 (I : In) : FVec Ideal S1x256 .f32 := k0_pay261 (w1161 I) (w1255 I) I.s6
theorem a1261 {d : Blk} {e : Acc} {I : In} (H : Holds d e I) :
    ∀ (j : Fin 256), (w1261 I (ix2 0 j) : EReal) = ((e.A9 (1536 + j.val) + d.DLG 6 (1536 + j.val) : ℝ) : EReal) :=
  L261 d e (w1161 I) (w1255 I) I.s6 (a1161 H) (a1255 H) (H.s6)
def w1267 (I : In) : FVec Ideal S1x256 .f32 := k0_pay262 (w1255 I) I.t6
theorem a1267 {d : Blk} {e : Acc} {I : In} (H : Holds d e I) :
    ∀ (j : Fin 256), (w1267 I (ix2 0 j) : EReal) = ((e.A10 (1536 + j.val) + d.DLB 6 (1536 + j.val) : ℝ) : EReal) :=
  L262 d e (w1255 I) I.t6 (a1255 H) (H.t6)
def w1292 (I : In) : FVec Ideal S128x256 .bf16 := k0_pay268 (w341 I) (w403 I) (I.x2s 1792 inb_S1x2048_S1x256_0_1792) (w336 I) (I.x3s 1792 inb_S1x2048_S1x256_0_1792)
theorem a1292 {d : Blk} {e : Acc} {I : In} (H : Holds d e I) :
    ∀ (r : Fin 128) (j : Fin 256), (w1292 I (ix2 r j) : EReal) = ((d.VL r (1792 + j.val) : ℝ) : EReal) :=
  L268 d e (w341 I) (w403 I) (I.x2s 1792 inb_S1x2048_S1x256_0_1792) (w336 I) (I.x3s 1792 inb_S1x2048_S1x256_0_1792) (a341 H) (a403 H) (H.x2s 1792 _) (a336 H) (H.x3s 1792 _)
def w1299 (I : In) : FVec Ideal S128x256 .f32 := k0_pay269 (w1292 I) I.w7 (I.x5s 7 inb_S8x128x1_S1x128x1_7_0_0)
theorem a1299 {d : Blk} {e : Acc} {I : In} (H : Holds d e I) :
    ∀ (r : Fin 128) (j : Fin 256), (w1299 I (ix2 r j) : EReal) = ((d.S 7 r (1792 + j.val) : ℝ) : EReal) :=
  L269 d e (w1292 I) I.w7 (I.x5s 7 inb_S8x128x1_S1x128x1_7_0_0) (a1292 H) (H.w7) (H.x5s 7 _)
def w1332 (I : In) : FVec Ideal S128x256 .f32 := k0_pay272 (I.x0s 1792 inb_S128x6144_S128x256_0_1792)
theorem a1332 {d : Blk} {e : Acc} {I : In} (H : Holds d e I) :
    ∀ (r : Fin 128) (j : Fin 256), (w1332 I (ix2 r j) : EReal) = ((d.DU r (1792 + j.val) : ℝ) : EReal) :=
  L272 d e (I.x0s 1792 inb_S128x6144_S128x256_0_1792) (H.x0s 1792 _)
def w1353 (I : In) : FVec Ideal S128x256 .bf16 := k0_pay276 (w1299 I) (w1332 I) (I.x0s 5888 inb_S128x6144_S128x256_0_5888) (I.x1s 1792 inb_S128x2048_S128x256_0_1792)
theorem a1353 {d : Blk} {e : Acc} {I : In} (H : Holds d e I) :
    ∀ (r : Fin 128) (j : Fin 256), (w1353 I (ix2 r j) : EReal) = ((d.DPU 7 r (1792 + j.val) : ℝ) : EReal) :=
  L276 d e (w1299 I) (w1332 I) (I.x0s 5888 inb_S128x6144_S128x256_0_5888) (I.x1s 1792 inb_S128x2048_S128x256_0_1792) (a1299 H) (a1332 H) (H.x0s 5888 _) (H.x1s 1792 _)
def w1313 (I : In) : FVec Ideal S128x256 .f32 := k0_pay271 (I.x0s 1792 inb_S128x6144_S128x256_0_1792)
theorem a1313 {d : Blk} {e : Acc} {I : In} (H : Holds d e I) :
    ∀ (r : Fin 128) (j : Fin 256), (w1313 I (ix2 r j) : EReal) = ((d.U r (1792 + j.val) : ℝ) : EReal) :=
  L271 d e (I.x0s 1792 inb_S128x6144_S128x256_0_1792) (H.x0s 1792 _)
def w1358 (I : In) : FVec Ideal S128x256 .bf16 := k0_pay277 (w1299 I) (w1313 I) (I.x0s 5888 inb_S128x6144_S128x256_0_5888) (I.x1s 1792 inb_S128x2048_S128x256_0_1792)
theorem a1358 {d : Blk} {e : Acc} {I : In} (H : Holds d e I) :
    ∀ (r : Fin 128) (j : Fin 256), (w1358 I (ix2 r j) : EReal) = ((d.DPG 7 r (1792 + j.val) : ℝ) : EReal) :=
  L277 d e (w1299 I) (w1313 I) (I.x0s 5888 inb_S128x6144_S128x256_0_5888) (I.x1s 1792 inb_S128x2048_S128x256_0_1792) (a1299 H) (a1313 H) (H.x0s 5888 _) (H.x1s 1792 _)
def w1369 (I : In) : FVec Ideal S1x128x128 .f32 := k0_pay280 (w1292 I) (w1313 I) (I.x0s 5888 inb_S128x6144_S128x256_0_5888) (I.x1s 1792 inb_S128x2048_S128x256_0_1792) I.p7
theorem a1369 {d : Blk} {e : Acc} {I : In} (H : Holds d e I) :
    ∀ (r : Fin 128) (b : Fin 128), (w1369 I (ix3 0 r b) : EReal) = ((e.A7 7 r b + d.DWS 7 r b : ℝ) : EReal) :=
  L280 d e (w1292 I) (w1313 I) (I.x0s 5888 inb_S128x6144_S128x256_0_5888) (I.x1s 1792 inb_S128x2048_S128x256_0_1792) I.p7 (a1292 H) (a1313 H) (H.x0s 5888 _) (H.x1s 1792 _) (H.p7)
def w1361 (I : In) : FVec Ideal S128x256 .f32 := k0_pay278 (w1313 I) (I.x0s 5888 inb_S128x6144_S128x256_0_5888) (I.x1s 1792 inb_S128x2048_S128x256_0_1792)
theorem a1361 {d : Blk} {e : Acc} {I : In} (H : Holds d e I) :
    ∀ (r : Fin 128) (j : Fin 256), (w1361 I (ix2 r j) : EReal) = ((d.DS r (1792 + j.val) : ℝ) : EReal) :=
  L278 d e (w1313 I) (I.x0s 5888 inb_S128x6144_S128x256_0_5888) (I.x1s 1792 inb_S128x2048_S128x256_0_1792) (a1313 H) (H.x0s 5888 _) (H.x1s 1792 _)
def w1377 (I : In) : FVec Ideal S1x128x1 .f32 := k0_pay281 (w1361 I) I.q7
theorem a1377 {d : Blk} {e : Acc} {I : In} (H : Holds d e I) :
    ∀ (r : Fin 128), (w1377 I (ix3 0 r 0) : EReal) = ((e.A8 7 r + d.DBS 7 r : ℝ) : EReal) :=
  L281 d e (w1361 I) I.q7 (a1361 H) (H.q7)
def w1286 (I : In) : FVec Ideal S128x256 .f32 := k0_pay267 (w341 I) (w403 I) (w336 I)
theorem a1286 {d : Blk} {e : Acc} {I : In} (H : Holds d e I) :
    ∀ (r : Fin 128) (j : Fin 256), (w1286 I (ix2 r j) : EReal) = ((d.VH r (1792 + j.val) : ℝ) : EReal) :=
  L267 d e (w341 I) (w403 I) (w336 I) (a341 H) (a403 H) (a336 H)
def w1362 (I : In) : FVec Ideal S128x256 .bf16 := k0_pay279 (w1313 I) (I.x0s 5888 inb_S128x6144_S128x256_0_5888) (I.x1s 1792 inb_S128x2048_S128x256_0_1792)
theorem a1362 {d : Blk} {e : Acc} {I : In} (H : Holds d e I) :
    ∀ (r : Fin 128) (j : Fin 256), (w1362 I (ix2 r j) : EReal) = ((d.DS r (1792 + j.val) : ℝ) : EReal) :=
  L279 d e (w1313 I) (I.x0s 5888 inb_S128x6144_S128x256_0_5888) (I.x1s 1792 inb_S128x2048_S128x256_0_1792) (a1313 H) (H.x0s 5888 _) (H.x1s 1792 _)
def w1386 (I : In) : FVec Ideal S1x256 .f32 := k0_pay283 (w1286 I) (w1362 I) I.w7 I.s7
theorem a1386 {d : Blk} {e : Acc} {I : In} (H : Holds d e I) :
    ∀ (j : Fin 256), (w1386 I (ix2 0 j) : EReal) = ((e.A9 (1792 + j.val) + d.DLG 7 (1792 + j.val) : ℝ) : EReal) :=
  L283 d e (w1286 I) (w1362 I) I.w7 I.s7 (a1286 H) (a1362 H) (H.w7) (H.s7)
def w1392 (I : In) : FVec Ideal S1x256 .f32 := k0_pay284 (w1362 I) I.w7 I.t7
theorem a1392 {d : Blk} {e : Acc} {I : In} (H : Holds d e I) :
    ∀ (j : Fin 256), (w1392 I (ix2 0 j) : EReal) = ((e.A10 (1792 + j.val) + d.DLB 7 (1792 + j.val) : ℝ) : EReal) :=
  L284 d e (w1362 I) I.w7 I.t7 (a1362 H) (H.w7) (H.t7)
def w405 (I : In) : FVec Ideal S128x1 .f32 := k0_pay95 (Scalar.ofBits .f32 0x00000000#32)
theorem a405 {d : Blk} {e : Acc} {I : In} (H : Holds d e I) :
    ∀ (r : Fin 128), (w405 I (ix2 r 0) : EReal) = (((0 : ℝ) : ℝ) : EReal) :=
  L95 d e
def w530 (I : In) : FVec Ideal S128x1 .f32 := k0_pay118 (w405 I) (I.x2s 0 inb_S1x2048_S1x256_0_0) (w411 I) (w505 I)
theorem a530 {d : Blk} {e : Acc} {I : In} (H : Holds d e I) :
    ∀ (r : Fin 128), (w530 I (ix2 r 0) : EReal) = ((Blk.psum (fun g c => d.DVH g r c * d.VH r c) 1 : ℝ) : EReal) :=
  L118 d e (w405 I) (I.x2s 0 inb_S1x2048_S1x256_0_0) (w411 I) (w505 I) (a405 H) (H.x2s0 _) (a411 H) (a505 H)
def w655 (I : In) : FVec Ideal S128x1 .f32 := k0_pay141 (w530 I) (I.x2s 256 inb_S1x2048_S1x256_0_256) (w536 I) (w612 I) I.w1
theorem a655 {d : Blk} {e : Acc} {I : In} (H : Holds d e I) :
    ∀ (r : Fin 128), (w655 I (ix2 r 0) : EReal) = ((Blk.psum (fun g c => d.DVH g r c * d.VH r c) 2 : ℝ) : EReal) :=
  L141 d e (w530 I) (I.x2s 256 inb_S1x2048_S1x256_0_256) (w536 I) (w612 I) I.w1 (a530 H) (H.x2s 256 _) (a536 H) (a612 H) (H.w1)
def w770 (I : In) : FVec Ideal S128x256 .f32 := k0_pay164 (I.x2s 512 inb_S1x2048_S1x256_0_512) (w737 I) I.w2
theorem a770 {d : Blk} {e : Acc} {I : In} (H : Holds d e I) :
    ∀ (r : Fin 128) (j : Fin 256), (w770 I (ix2 r j) : EReal) = ((d.DVH 2 r (512 + j.val) : ℝ) : EReal) :=
  L164 d e (I.x2s 512 inb_S1x2048_S1x256_0_512) (w737 I) I.w2 (H.x2s 512 _) (a737 H) (H.w2)
def w780 (I : In) : FVec Ideal S128x1 .f32 := k0_pay167 (w655 I) (w661 I) (w770 I)
theorem a780 {d : Blk} {e : Acc} {I : In} (H : Holds d e I) :
    ∀ (r : Fin 128), (w780 I (ix2 r 0) : EReal) = ((Blk.psum (fun g c => d.DVH g r c * d.VH r c) 3 : ℝ) : EReal) :=
  L167 d e (w655 I) (w661 I) (w770 I) (a655 H) (a661 H) (a770 H)
def w905 (I : In) : FVec Ideal S128x1 .f32 := k0_pay191 (w780 I) (I.x2s 768 inb_S1x2048_S1x256_0_768) (w786 I) (w880 I)
theorem a905 {d : Blk} {e : Acc} {I : In} (H : Holds d e I) :
    ∀ (r : Fin 128), (w905 I (ix2 r 0) : EReal) = ((Blk.psum (fun g c => d.DVH g r c * d.VH r c) 4 : ℝ) : EReal) :=
  L191 d e (w780 I) (I.x2s 768 inb_S1x2048_S1x256_0_768) (w786 I) (w880 I) (a780 H) (H.x2s 768 _) (a786 H) (a880 H)
def w1030 (I : In) : FVec Ideal S128x1 .f32 := k0_pay217 (w905 I) (I.x2s 1024 inb_S1x2048_S1x256_0_1024) (w911 I) (w987 I) I.w4
theorem a1030 {d : Blk} {e : Acc} {I : In} (H : Holds d e I) :
    ∀ (r : Fin 128), (w1030 I (ix2 r 0) : EReal) = ((Blk.psum (fun g c => d.DVH g r c * d.VH r c) 5 : ℝ) : EReal) :=
  L217 d e (w905 I) (I.x2s 1024 inb_S1x2048_S1x256_0_1024) (w911 I) (w987 I) I.w4 (a905 H) (H.x2s 1024 _) (a911 H) (a987 H) (H.w4)
def w1130 (I : In) : FVec Ideal S128x256 .f32 := k0_pay236 (w1112 I) I.w5
theorem a1130 {d : Blk} {e : Acc} {I : In} (H : Holds d e I) :
    ∀ (r : Fin 128) (j : Fin 256), (w1130 I (ix2 r j) : EReal) = ((d.DVL 5 r (1280 + j.val) : ℝ) : EReal) :=
  L236 d e (w1112 I) I.w5 (a1112 H) (H.w5)
def w1155 (I : In) : FVec Ideal S128x1 .f32 := k0_pay242 (w1030 I) (I.x2s 1280 inb_S1x2048_S1x256_0_1280) (w1036 I) (w1130 I)
theorem a1155 {d : Blk} {e : Acc} {I : In} (H : Holds d e I) :
    ∀ (r : Fin 128), (w1155 I (ix2 r 0) : EReal) = ((Blk.psum (fun g c => d.DVH g r c * d.VH r c) 6 : ℝ) : EReal) :=
  L242 d e (w1030 I) (I.x2s 1280 inb_S1x2048_S1x256_0_1280) (w1036 I) (w1130 I) (a1030 H) (H.x2s 1280 _) (a1036 H) (a1130 H)
def w1280 (I : In) : FVec Ideal S128x1 .f32 := k0_pay266 (w1155 I) (I.x2s 1536 inb_S1x2048_S1x256_0_1536) (w1161 I) (w1255 I)
theorem a1280 {d : Blk} {e : Acc} {I : In} (H : Holds d e I) :
    ∀ (r : Fin 128), (w1280 I (ix2 r 0) : EReal) = ((Blk.psum (fun g c => d.DVH g r c * d.VH r c) 7 : ℝ) : EReal) :=
  L266 d e (w1155 I) (I.x2s 1536 inb_S1x2048_S1x256_0_1536) (w1161 I) (w1255 I) (a1155 H) (H.x2s 1536 _) (a1161 H) (a1255 H)
def w1395 (I : In) : FVec Ideal S128x256 .f32 := k0_pay285 (I.x2s 1792 inb_S1x2048_S1x256_0_1792) (w1362 I) I.w7
theorem a1395 {d : Blk} {e : Acc} {I : In} (H : Holds d e I) :
    ∀ (r : Fin 128) (j : Fin 256), (w1395 I (ix2 r j) : EReal) = ((d.DVH 7 r (1792 + j.val) : ℝ) : EReal) :=
  L285 d e (I.x2s 1792 inb_S1x2048_S1x256_0_1792) (w1362 I) I.w7 (H.x2s 1792 _) (a1362 H) (H.w7)
def w404 (I : In) : FVec Ideal S128x1 .f32 := k0_pay94
theorem a404 {d : Blk} {e : Acc} {I : In} (H : Holds d e I) :
    ∀ (r : Fin 128), (w404 I (ix2 r 0) : EReal) = (((0 : ℝ) : ℝ) : EReal) :=
  L94 d e
def w526 (I : In) : FVec Ideal S128x1 .f32 := k0_pay117 (w404 I) (I.x2s 0 inb_S1x2048_S1x256_0_0) (w505 I)
theorem a526 {d : Blk} {e : Acc} {I : In} (H : Holds d e I) :
    ∀ (r : Fin 128), (w526 I (ix2 r 0) : EReal) = ((Blk.psum (fun g => d.DVH g r) 1 : ℝ) : EReal) :=
  L117 d e (w404 I) (I.x2s 0 inb_S1x2048_S1x256_0_0) (w505 I) (a404 H) (H.x2s0 _) (a505 H)
def w651 (I : In) : FVec Ideal S128x1 .f32 := k0_pay140 (w526 I) (I.x2s 256 inb_S1x2048_S1x256_0_256) (w612 I) I.w1
theorem a651 {d : Blk} {e : Acc} {I : In} (H : Holds d e I) :
    ∀ (r : Fin 128), (w651 I (ix2 r 0) : EReal) = ((Blk.psum (fun g => d.DVH g r) 2 : ℝ) : EReal) :=
  L140 d e (w526 I) (I.x2s 256 inb_S1x2048_S1x256_0_256) (w612 I) I.w1 (a526 H) (H.x2s 256 _) (a612 H) (H.w1)
def w776 (I : In) : FVec Ideal S128x1 .f32 := k0_pay166 (w651 I) (w770 I)
theorem a776 {d : Blk} {e : Acc} {I : In} (H : Holds d e I) :
    ∀ (r : Fin 128), (w776 I (ix2 r 0) : EReal) = ((Blk.psum (fun g => d.DVH g r) 3 : ℝ) : EReal) :=
  L166 d e (w651 I) (w770 I) (a651 H) (a770 H)
def w901 (I : In) : FVec Ideal S128x1 .f32 := k0_pay190 (w776 I) (I.x2s 768 inb_S1x2048_S1x256_0_768) (w880 I)
theorem a901 {d : Blk} {e : Acc} {I : In} (H : Holds d e I) :
    ∀ (r : Fin 128), (w901 I (ix2 r 0) : EReal) = ((Blk.psum (fun g => d.DVH g r) 4 : ℝ) : EReal) :=
  L190 d e (w776 I) (I.x2s 768 inb_S1x2048_S1x256_0_768) (w880 I) (a776 H) (H.x2s 768 _) (a880 H)
def w1026 (I : In) : FVec Ideal S128x1 .f32 := k0_pay216 (w901 I) (I.x2s 1024 inb_S1x2048_S1x256_0_1024) (w987 I) I.w4
theorem a1026 {d : Blk} {e : Acc} {I : In} (H : Holds d e I) :
    ∀ (r : Fin 128), (w1026 I (ix2 r 0) : EReal) = ((Blk.psum (fun g => d.DVH g r) 5 : ℝ) : EReal) :=
  L216 d e (w901 I) (I.x2s 1024 inb_S1x2048_S1x256_0_1024) (w987 I) I.w4 (a901 H) (H.x2s 1024 _) (a987 H) (H.w4)
def w1151 (I : In) : FVec Ideal S128x1 .f32 := k0_pay241 (w1026 I) (I.x2s 1280 inb_S1x2048_S1x256_0_1280) (w1130 I)
theorem a1151 {d : Blk} {e : Acc} {I : In} (H : Holds d e I) :
    ∀ (r : Fin 128), (w1151 I (ix2 r 0) : EReal) = ((Blk.psum (fun g => d.DVH g r) 6 : ℝ) : EReal) :=
  L241 d e (w1026 I) (I.x2s 1280 inb_S1x2048_S1x256_0_1280) (w1130 I) (a1026 H) (H.x2s 1280 _) (a1130 H)
def w1276 (I : In) : FVec Ideal S128x1 .f32 := k0_pay265 (w1151 I) (I.x2s 1536 inb_S1x2048_S1x256_0_1536) (w1255 I)
theorem a1276 {d : Blk} {e : Acc} {I : In} (H : Holds d e I) :
    ∀ (r : Fin 128), (w1276 I (ix2 r 0) : EReal) = ((Blk.psum (fun g => d.DVH g r) 7 : ℝ) : EReal) :=
  L265 d e (w1151 I) (I.x2s 1536 inb_S1x2048_S1x256_0_1536) (w1255 I) (a1151 H) (H.x2s 1536 _) (a1255 H)
def w1401 (I : In) : FVec Ideal S128x1 .f32 := k0_pay287 (w1276 I) (I.x2s 1792 inb_S1x2048_S1x256_0_1792) (w1362 I) I.w7
theorem a1401 {d : Blk} {e : Acc} {I : In} (H : Holds d e I) :
    ∀ (r : Fin 128), (w1401 I (ix2 r 0) : EReal) = ((Blk.psum (fun g => d.DVH g r) 8 : ℝ) : EReal) :=
  L287 d e (w1276 I) (I.x2s 1792 inb_S1x2048_S1x256_0_1792) (w1362 I) I.w7 (a1276 H) (H.x2s 1792 _) (a1362 H) (H.w7)
def w523 (I : In) : FVec Ideal S128x256 .f32 := k0_pay116 (I.x2s 0 inb_S1x2048_S1x256_0_0) (w505 I)
theorem a523 {d : Blk} {e : Acc} {I : In} (H : Holds d e I) :
    ∀ (r : Fin 128) (j : Fin 256), (w523 I (ix2 r j) : EReal) = ((d.DVH 0 r j.val : ℝ) : EReal) :=
  L116 d e (I.x2s 0 inb_S1x2048_S1x256_0_0) (w505 I) (H.x2s0 _) (a505 H)
def w39 (I : In) : FVec Ideal S128x256 .f32 := k0_pay37 (I.x0s 2048 inb_S128x6144_S128x256_0_2048)
theorem a39 {d : Blk} {e : Acc} {I : In} (H : Holds d e I) :
    ∀ (r : Fin 128) (j : Fin 256), (w39 I (ix2 r j) : EReal) = ((d.DG r j.val : ℝ) : EReal) :=
  L37 d e (I.x0s 2048 inb_S128x6144_S128x256_0_2048) (H.x0s 2048 _)
def w1425 (I : In) : FVec Ideal S128x256 .bf16 := k0_pay290 (w341 I) (w403 I) (w1280 I) (w1286 I) (w1395 I) (w1401 I) (w42 I) (w523 I) (w39 I)
theorem a1425 {d : Blk} {e : Acc} {I : In} (H : Holds d e I) :
    ∀ (r : Fin 128) (j : Fin 256), (w1425 I (ix2 r j) : EReal) = ((d.DPV 0 r j.val : ℝ) : EReal) :=
  L290 d e (w341 I) (w403 I) (w1280 I) (w1286 I) (w1395 I) (w1401 I) (w42 I) (w523 I) (w39 I) (a341 H) (a403 H) (a1280 H) (a1286 H) (a1395 H) (a1401 H) (a42 H) (a523 H) (a39 H)
def w648 (I : In) : FVec Ideal S128x256 .f32 := k0_pay139 (I.x2s 256 inb_S1x2048_S1x256_0_256) (w612 I) I.w1
theorem a648 {d : Blk} {e : Acc} {I : In} (H : Holds d e I) :
    ∀ (r : Fin 128) (j : Fin 256), (w648 I (ix2 r j) : EReal) = ((d.DVH 1 r (256 + j.val) : ℝ) : EReal) :=
  L139 d e (I.x2s 256 inb_S1x2048_S1x256_0_256) (w612 I) I.w1 (H.x2s 256 _) (a612 H) (H.w1)
def w78 (I : In) : FVec Ideal S128x256 .f32 := k0_pay42 (I.x0s 2304 inb_S128x6144_S128x256_0_2304)
theorem a78 {d : Blk} {e : Acc} {I : In} (H : Holds d e I) :
    ∀ (r : Fin 128) (j : Fin 256), (w78 I (ix2 r j) : EReal) = ((d.DG r (256 + j.val) : ℝ) : EReal) :=
  L42 d e (I.x0s 2304 inb_S128x6144_S128x256_0_2304) (H.x0s 2304 _)
def w81 (I : In) : FVec Ideal S128x256 .f32 := k0_pay43 (w78 I)
theorem a81 {d : Blk} {e : Acc} {I : In} (H : Holds d e I) :
    ∀ (r : Fin 128) (j : Fin 256), (w81 I (ix2 r j) : EReal) = ((d.DG r (256 + j.val) : ℝ) : EReal) :=
  L43 d e (w78 I) (a78 H)
def w1442 (I : In) : FVec Ideal S128x256 .bf16 := k0_pay291 (w341 I) (w403 I) (w1280 I) (w1286 I) (w1395 I) (w1401 I) (w84 I) (w648 I) (w81 I)
theorem a1442 {d : Blk} {e : Acc} {I : In} (H : Holds d e I) :
    ∀ (r : Fin 128) (j : Fin 256), (w1442 I (ix2 r j) : EReal) = ((d.DPV 1 r (256 + j.val) : ℝ) : EReal) :=
  L291 d e (w341 I) (w403 I) (w1280 I) (w1286 I) (w1395 I) (w1401 I) (w84 I) (w648 I) (w81 I) (a341 H) (a403 H) (a1280 H) (a1286 H) (a1395 H) (a1401 H) (a84 H) (a648 H) (a81 H)
def w1407 (I : In) : FVec Ideal S128x1 .f32 := k0_pay288 (w1401 I)
theorem a1407 {d : Blk} {e : Acc} {I : In} (H : Holds d e I) :
    ∀ (r : Fin 128), (w1407 I (ix2 r 0) : EReal) = ((d.M1 r : ℝ) : EReal) :=
  L288 d e (w1401 I) (a1401 H)
def w1409 (I : In) : FVec Ideal S128x1 .f32 := k0_pay289 (w1280 I) (w1286 I) (w1395 I)
theorem a1409 {d : Blk} {e : Acc} {I : In} (H : Holds d e I) :
    ∀ (r : Fin 128), (w1409 I (ix2 r 0) : EReal) = ((d.M2 r : ℝ) : EReal) :=
  L289 d e (w1280 I) (w1286 I) (w1395 I) (a1280 H) (a1286 H) (a1395 H)
def w773 (I : In) : FVec Ideal S128x256 .f32 := k0_pay165 (I.x2s 512 inb_S1x2048_S1x256_0_512) (w737 I) I.w2
theorem a773 {d : Blk} {e : Acc} {I : In} (H : Holds d e I) :
    ∀ (r : Fin 128) (j : Fin 256), (w773 I (ix2 r j) : EReal) = ((d.DVH 2 r (512 + j.val) : ℝ) : EReal) :=
  L165 d e (I.x2s 512 inb_S1x2048_S1x256_0_512) (w737 I) I.w2 (H.x2s 512 _) (a737 H) (H.w2)
def w120 (I : In) : FVec Ideal S128x256 .f32 := k0_pay48 (I.x0s 2560 inb_S128x6144_S128x256_0_2560)
theorem a120 {d : Blk} {e : Acc} {I : In} (H : Holds d e I) :
    ∀ (r : Fin 128) (j : Fin 256), (w120 I (ix2 r j) : EReal) = ((d.DG r (512 + j.val) : ℝ) : EReal) :=
  L48 d e (I.x0s 2560 inb_S128x6144_S128x256_0_2560) (H.x0s 2560 _)
def w123 (I : In) : FVec Ideal S128x256 .f32 := k0_pay49 (w120 I)
theorem a123 {d : Blk} {e : Acc} {I : In} (H : Holds d e I) :
    ∀ (r : Fin 128) (j : Fin 256), (w123 I (ix2 r j) : EReal) = ((d.DG r (512 + j.val) : ℝ) : EReal) :=
  L49 d e (w120 I) (a120 H)
def w1459 (I : In) : FVec Ideal S128x256 .bf16 := k0_pay292 (w341 I) (w403 I) (w1407 I) (w1409 I) (w126 I) (w773 I) (w123 I)
theorem a1459 {d : Blk} {e : Acc} {I : In} (H : Holds d e I) :
    ∀ (r : Fin 128) (j : Fin 256), (w1459 I (ix2 r j) : EReal) = ((d.DPV 2 r (512 + j.val) : ℝ) : EReal) :=
  L292 d e (w341 I) (w403 I) (w1407 I) (w1409 I) (w126 I) (w773 I) (w123 I) (a341 H) (a403 H) (a1407 H) (a1409 H) (a126 H) (a773 H) (a123 H)
def w898 (I : In) : FVec Ideal S128x256 .f32 := k0_pay189 (I.x2s 768 inb_S1x2048_S1x256_0_768) (w880 I)
theorem a898 {d : Blk} {e : Acc} {I : In} (H : Holds d e I) :
    ∀ (r : Fin 128) (j : Fin 256), (w898 I (ix2 r j) : EReal) = ((d.DVH 3 r (768 + j.val) : ℝ) : EReal) :=
  L189 d e (I.x2s 768 inb_S1x2048_S1x256_0_768) (w880 I) (H.x2s 768 _) (a880 H)
def w147 (I : In) : FVec Ideal S128x256 .f32 := k0_pay54 (I.x0s 2816 inb_S128x6144_S128x256_0_2816)
theorem a147 {d : Blk} {e : Acc} {I : In} (H : Holds d e I) :
    ∀ (r : Fin 128) (j : Fin 256), (w147 I (ix2 r j) : EReal) = ((((1 / 2) * (1 + Real.tanh ((c0 * (d.P r (2816 + j.val) + ((((8943 / 200000) * d.P r (2816 + j.val)) * d.P r (2816 + j.val)) * d.P r (2816 + j.val))))))) : ℝ) : EReal) :=
  L54 d e (I.x0s 2816 inb_S128x6144_S128x256_0_2816) (H.x0s 2816 _)
def w161 (I : In) : FVec Ideal S128x256 .f32 := k0_pay55 (I.x0s 2816 inb_S128x6144_S128x256_0_2816)
theorem a161 {d : Blk} {e : Acc} {I : In} (H : Holds d e I) :
    ∀ (r : Fin 128) (j : Fin 256), (w161 I (ix2 r j) : EReal) = ((((((1 / 2) * d.P r (2816 + j.val)) * (1 - (Real.tanh ((c0 * (d.P r (2816 + j.val) + ((((8943 / 200000) * d.P r (2816 + j.val)) * d.P r (2816 + j.val)) * d.P r (2816 + j.val))))) * Real.tanh ((c0 * (d.P r (2816 + j.val) + ((((8943 / 200000) * d.P r (2816 + j.val)) * d.P r (2816 + j.val)) * d.P r (2816 + j.val)))))))) * (c0 * (1 + (((26829 / 200000) * d.P r (2816 + j.val)) * d.P r (2816 + j.val))))) : ℝ) : EReal) :=
  L55 d e (I.x0s 2816 inb_S128x6144_S128x256_0_2816) (H.x0s 2816 _)
def w165 (I : In) : FVec Ideal S128x256 .f32 := k0_pay56 (w147 I) (w161 I)
theorem a165 {d : Blk} {e : Acc} {I : In} (H : Holds d e I) :
    ∀ (r : Fin 128) (j : Fin 256), (w165 I (ix2 r j) : EReal) = ((d.DG r (768 + j.val) : ℝ) : EReal) :=
  L56 d e (w147 I) (w161 I) (a147 H) (a161 H)
def w1476 (I : In) : FVec Ideal S128x256 .bf16 := k0_pay293 (w341 I) (w403 I) (w1407 I) (w1409 I) (w168 I) (w898 I) (w165 I)
theorem a1476 {d : Blk} {e : Acc} {I : In} (H : Holds d e I) :
    ∀ (r : Fin 128) (j : Fin 256), (w1476 I (ix2 r j) : EReal) = ((d.DPV 3 r (768 + j.val) : ℝ) : EReal) :=
  L293 d e (w341 I) (w403 I) (w1407 I) (w1409 I) (w168 I) (w898 I) (w165 I) (a341 H) (a403 H) (a1407 H) (a1409 H) (a168 H) (a898 H) (a165 H)
def w1480 (I : In) : FVec Ideal S128x256 .f32 := k0_pay294 (w341 I) (w210 I)
theorem a1480 {d : Blk} {e : Acc} {I : In} (H : Holds d e I) :
    ∀ (r : Fin 128) (j : Fin 256), (w1480 I (ix2 r j) : EReal) = (((d.VG r (1024 + j.val) - d.MU r) : ℝ) : EReal) :=
  L294 d e (w341 I) (w210 I) (a341 H) (a210 H)
def w1023 (I : In) : FVec Ideal S128x256 .f32 := k0_pay215 (I.x2s 1024 inb_S1x2048_S1x256_0_1024) (w987 I) I.w4
theorem a1023 {d : Blk} {e : Acc} {I : In} (H : Holds d e I) :
    ∀ (r : Fin 128) (j : Fin 256), (w1023 I (ix2 r j) : EReal) = ((d.DVH 4 r (1024 + j.val) : ℝ) : EReal) :=
  L215 d e (I.x2s 1024 inb_S1x2048_S1x256_0_1024) (w987 I) I.w4 (H.x2s 1024 _) (a987 H) (H.w4)
def w189 (I : In) : FVec Ideal S128x256 .f32 := k0_pay61 (I.x0s 3072 inb_S128x6144_S128x256_0_3072)
theorem a189 {d : Blk} {e : Acc} {I : In} (H : Holds d e I) :
    ∀ (r : Fin 128) (j : Fin 256), (w189 I (ix2 r j) : EReal) = ((((1 / 2) * (1 + Real.tanh ((c0 * (d.P r (3072 + j.val) + ((((8943 / 200000) * d.P r (3072 + j.val)) * d.P r (3072 + j.val)) * d.P r (3072 + j.val))))))) : ℝ) : EReal) :=
  L61 d e (I.x0s 3072 inb_S128x6144_S128x256_0_3072) (H.x0s 3072 _)
def w195 (I : In) : FVec Ideal S128x256 .f32 := k0_pay62 (I.x0s 3072 inb_S128x6144_S128x256_0_3072)
theorem a195 {d : Blk} {e : Acc} {I : In} (H : Holds d e I) :
    ∀ (r : Fin 128) (j : Fin 256), (w195 I (ix2 r j) : EReal) = (((((1 / 2) * d.P r (3072 + j.val)) * (1 - (Real.tanh ((c0 * (d.P r (3072 + j.val) + ((((8943 / 200000) * d.P r (3072 + j.val)) * d.P r (3072 + j.val)) * d.P r (3072 + j.val))))) * Real.tanh ((c0 * (d.P r (3072 + j.val) + ((((8943 / 200000) * d.P r (3072 + j.val)) * d.P r (3072 + j.val)) * d.P r (3072 + j.val)))))))) : ℝ) : EReal) :=
  L62 d e (I.x0s 3072 inb_S128x6144_S128x256_0_3072) (H.x0s 3072 _)
def w200 (I : In) : FVec Ideal S128x256 .f32 := k0_pay63 (I.x0s 3072 inb_S128x6144_S128x256_0_3072)
theorem a200 {d : Blk} {e : Acc} {I : In} (H : Holds d e I) :
    ∀ (r : Fin 128) (j : Fin 256), (w200 I (ix2 r j) : EReal) = (((1 + (((26829 / 200000) * d.P r (3072 + j.val)) * d.P r (3072 + j.val))) : ℝ) : EReal) :=
  L63 d e (I.x0s 3072 inb_S128x6144_S128x256_0_3072) (H.x0s 3072 _)
def w201 (I : In) : FVec Ideal S128x256 .f32 := k0_pay64
theorem a201 {d : Blk} {e : Acc} {I : In} (H : Holds d e I) :
    ∀ (r : Fin 128) (j : Fin 256), (w201 I (ix2 r j) : EReal) = ((c0 : ℝ) : EReal) :=
  L64 d e
def w207 (I : In) : FVec Ideal S128x256 .f32 := k0_pay65 (w189 I) (w195 I) (w200 I) (w201 I)
theorem a207 {d : Blk} {e : Acc} {I : In} (H : Holds d e I) :
    ∀ (r : Fin 128) (j : Fin 256), (w207 I (ix2 r j) : EReal) = ((d.DG r (1024 + j.val) : ℝ) : EReal) :=
  L65 d e (w189 I) (w195 I) (w200 I) (w201 I) (a189 H) (a195 H) (a200 H) (a201 H)
def w1493 (I : In) : FVec Ideal S128x256 .bf16 := k0_pay295 (w403 I) (w1407 I) (w1409 I) (w1480 I) (w1023 I) (w207 I)
theorem a1493 {d : Blk} {e : Acc} {I : In} (H : Holds d e I) :
    ∀ (r : Fin 128) (j : Fin 256), (w1493 I (ix2 r j) : EReal) = ((d.DPV 4 r (1024 + j.val) : ℝ) : EReal) :=
  L295 d e (w403 I) (w1407 I) (w1409 I) (w1480 I) (w1023 I) (w207 I) (a403 H) (a1407 H) (a1409 H) (a1480 H) (a1023 H) (a207 H)
def w1148 (I : In) : FVec Ideal S128x256 .f32 := k0_pay240 (I.x2s 1280 inb_S1x2048_S1x256_0_1280) (w1130 I)
theorem a1148 {d : Blk} {e : Acc} {I : In} (H : Holds d e I) :
    ∀ (r : Fin 128) (j : Fin 256), (w1148 I (ix2 r j) : EReal) = ((d.DVH 5 r (1280 + j.val) : ℝ) : EReal) :=
  L240 d e (I.x2s 1280 inb_S1x2048_S1x256_0_1280) (w1130 I) (H.x2s 1280 _) (a1130 H)
def w231 (I : In) : FVec Ideal S128x256 .f32 := k0_pay70 (I.x0s 3328 inb_S128x6144_S128x256_0_3328)
theorem a231 {d : Blk} {e : Acc} {I : In} (H : Holds d e I) :
    ∀ (r : Fin 128) (j : Fin 256), (w231 I (ix2 r j) : EReal) = ((((1 / 2) * (1 + Real.tanh ((c0 * (d.P r (3328 + j.val) + ((((8943 / 200000) * d.P r (3328 + j.val)) * d.P r (3328 + j.val)) * d.P r (3328 + j.val))))))) : ℝ) : EReal) :=
  L70 d e (I.x0s 3328 inb_S128x6144_S128x256_0_3328) (H.x0s 3328 _)
def w237 (I : In) : FVec Ideal S128x256 .f32 := k0_pay71 (I.x0s 3328 inb_S128x6144_S128x256_0_3328)
theorem a237 {d : Blk} {e : Acc} {I : In} (H : Holds d e I) :
    ∀ (r : Fin 128) (j : Fin 256), (w237 I (ix2 r j) : EReal) = (((((1 / 2) * d.P r (3328 + j.val)) * (1 - (Real.tanh ((c0 * (d.P r (3328 + j.val) + ((((8943 / 200000) * d.P r (3328 + j.val)) * d.P r (3328 + j.val)) * d.P r (3328 + j.val))))) * Real.tanh ((c0 * (d.P r (3328 + j.val) + ((((8943 / 200000) * d.P r (3328 + j.val)) * d.P r (3328 + j.val)) * d.P r (3328 + j.val)))))))) : ℝ) : EReal) :=
  L71 d e (I.x0s 3328 inb_S128x6144_S128x256_0_3328) (H.x0s 3328 _)
def w242 (I : In) : FVec Ideal S128x256 .f32 := k0_pay72 (I.x0s 3328 inb_S128x6144_S128x256_0_3328)
theorem a242 {d : Blk} {e : Acc} {I : In} (H : Holds d e I) :
    ∀ (r : Fin 128) (j : Fin 256), (w242 I (ix2 r j) : EReal) = (((1 + (((26829 / 200000) * d.P r (3328 + j.val)) * d.P r (3328 + j.val))) : ℝ) : EReal) :=
  L72 d e (I.x0s 3328 inb_S128x6144_S128x256_0_3328) (H.x0s 3328 _)
def w249 (I : In) : FVec Ideal S128x256 .f32 := k0_pay73 (w231 I) (w237 I) (w242 I)
theorem a249 {d : Blk} {e : Acc} {I : In} (H : Holds d e I) :
    ∀ (r : Fin 128) (j : Fin 256), (w249 I (ix2 r j) : EReal) = ((d.DG r (1280 + j.val) : ℝ) : EReal) :=
  L73 d e (w231 I) (w237 I) (w242 I) (a231 H) (a237 H) (a242 H)
def w1510 (I : In) : FVec Ideal S128x256 .bf16 := k0_pay296 (w341 I) (w403 I) (w1407 I) (w1409 I) (w252 I) (w1148 I) (w249 I)
theorem a1510 {d : Blk} {e : Acc} {I : In} (H : Holds d e I) :
    ∀ (r : Fin 128) (j : Fin 256), (w1510 I (ix2 r j) : EReal) = ((d.DPV 5 r (1280 + j.val) : ℝ) : EReal) :=
  L296 d e (w341 I) (w403 I) (w1407 I) (w1409 I) (w252 I) (w1148 I) (w249 I) (a341 H) (a403 H) (a1407 H) (a1409 H) (a252 H) (a1148 H) (a249 H)
def w1516 (I : In) : FVec Ideal S128x256 .f32 := k0_pay297 (w341 I) (w403 I) (w294 I)
theorem a1516 {d : Blk} {e : Acc} {I : In} (H : Holds d e I) :
    ∀ (r : Fin 128) (j : Fin 256), (w1516 I (ix2 r j) : EReal) = ((((d.VG r (1536 + j.val) - d.MU r) * d.RS r) : ℝ) : EReal) :=
  L297 d e (w341 I) (w403 I) (w294 I) (a341 H) (a403 H) (a294 H)
def w1273 (I : In) : FVec Ideal S128x256 .f32 := k0_pay264 (I.x2s 1536 inb_S1x2048_S1x256_0_1536) (w1255 I)
theorem a1273 {d : Blk} {e : Acc} {I : In} (H : Holds d e I) :
    ∀ (r : Fin 128) (j : Fin 256), (w1273 I (ix2 r j) : EReal) = ((d.DVH 6 r (1536 + j.val) : ℝ) : EReal) :=
  L264 d e (I.x2s 1536 inb_S1x2048_S1x256_0_1536) (w1255 I) (H.x2s 1536 _) (a1255 H)
def w1519 (I : In) : FVec Ideal S128x256 .f32 := k0_pay298 (w1407 I) (w1273 I)
theorem a1519 {d : Blk} {e : Acc} {I : In} (H : Holds d e I) :
    ∀ (r : Fin 128) (j : Fin 256), (w1519 I (ix2 r j) : EReal) = (((d.DVH 6 r (1536 + j.val) - d.M1 r) : ℝ) : EReal) :=
  L298 d e (w1407 I) (w1273 I) (a1407 H) (a1273 H)
def w1520 (I : In) : FVec Ideal S128x256 .f32 := k0_pay299 (w1409 I)
theorem a1520 {d : Blk} {e : Acc} {I : In} (H : Holds d e I) :
    ∀ (r : Fin 128) (j : Fin 256), (w1520 I (ix2 r j) : EReal) = ((d.M2 r : ℝ) : EReal) :=
  L299 d e (w1409 I) (a1409 H)
def w273 (I : In) : FVec Ideal S128x256 .f32 := k0_pay78 (I.x0s 3584 inb_S128x6144_S128x256_0_3584)
theorem a273 {d : Blk} {e : Acc} {I : In} (H : Holds d e I) :
    ∀ (r : Fin 128) (j : Fin 256), (w273 I (ix2 r j) : EReal) = ((((1 / 2) * (1 + Real.tanh ((c0 * (d.P r (3584 + j.val) + ((((8943 / 200000) * d.P r (3584 + j.val)) * d.P r (3584 + j.val)) * d.P r (3584 + j.val))))))) : ℝ) : EReal) :=
  L78 d e (I.x0s 3584 inb_S128x6144_S128x256_0_3584) (H.x0s 3584 _)
def w279 (I : In) : FVec Ideal S128x256 .f32 := k0_pay79 (I.x0s 3584 inb_S128x6144_S128x256_0_3584)
theorem a279 {d : Blk} {e : Acc} {I : In} (H : Holds d e I) :
    ∀ (r : Fin 128) (j : Fin 256), (w279 I (ix2 r j) : EReal) = (((((1 / 2) * d.P r (3584 + j.val)) * (1 - (Real.tanh ((c0 * (d.P r (3584 + j.val) + ((((8943 / 200000) * d.P r (3584 + j.val)) * d.P r (3584 + j.val)) * d.P r (3584 + j.val))))) * Real.tanh ((c0 * (d.P r (3584 + j.val) + ((((8943 / 200000) * d.P r (3584 + j.val)) * d.P r (3584 + j.val)) * d.P r (3584 + j.val)))))))) : ℝ) : EReal) :=
  L79 d e (I.x0s 3584 inb_S128x6144_S128x256_0_3584) (H.x0s 3584 _)
def w282 (I : In) : FVec Ideal S128x256 .f32 := k0_pay80 (I.x0s 3584 inb_S128x6144_S128x256_0_3584)
theorem a282 {d : Blk} {e : Acc} {I : In} (H : Holds d e I) :
    ∀ (r : Fin 128) (j : Fin 256), (w282 I (ix2 r j) : EReal) = (((((26829 / 200000) * d.P r (3584 + j.val)) * d.P r (3584 + j.val)) : ℝ) : EReal) :=
  L80 d e (I.x0s 3584 inb_S128x6144_S128x256_0_3584) (H.x0s 3584 _)
def w291 (I : In) : FVec Ideal S128x256 .f32 := k0_pay81 (w273 I) (w279 I) (w282 I) (Scalar.ofBits .f32 0x3F800000#32)
theorem a291 {d : Blk} {e : Acc} {I : In} (H : Holds d e I) :
    ∀ (r : Fin 128) (j : Fin 256), (w291 I (ix2 r j) : EReal) = ((d.DG r (1536 + j.val) : ℝ) : EReal) :=
  L81 d e (w273 I) (w279 I) (w282 I) (a273 H) (a279 H) (a282 H)
def w1527 (I : In) : FVec Ideal S128x256 .bf16 := k0_pay300 (w403 I) (w1516 I) (w1519 I) (w1520 I) (w291 I)
theorem a1527 {d : Blk} {e : Acc} {I : In} (H : Holds d e I) :
    ∀ (r : Fin 128) (j : Fin 256), (w1527 I (ix2 r j) : EReal) = ((d.DPV 6 r (1536 + j.val) : ℝ) : EReal) :=
  L300 d e (w403 I) (w1516 I) (w1519 I) (w1520 I) (w291 I) (a403 H) (a1516 H) (a1519 H) (a1520 H) (a291 H)
def w1533 (I : In) : FVec Ideal S128x256 .f32 := k0_pay301 (w341 I) (w403 I) (w336 I)
theorem a1533 {d : Blk} {e : Acc} {I : In} (H : Holds d e I) :
    ∀ (r : Fin 128) (j : Fin 256), (w1533 I (ix2 r j) : EReal) = ((((d.VG r (1792 + j.val) - d.MU r) * d.RS r) : ℝ) : EReal) :=
  L301 d e (w341 I) (w403 I) (w336 I) (a341 H) (a403 H) (a336 H)
def w1398 (I : In) : FVec Ideal S128x256 .f32 := k0_pay286 (I.x2s 1792 inb_S1x2048_S1x256_0_1792) (w1362 I) I.w7
theorem a1398 {d : Blk} {e : Acc} {I : In} (H : Holds d e I) :
    ∀ (r : Fin 128) (j : Fin 256), (w1398 I (ix2 r j) : EReal) = ((d.DVH 7 r (1792 + j.val) : ℝ) : EReal) :=
  L286 d e (I.x2s 1792 inb_S1x2048_S1x256_0_1792) (w1362 I) I.w7 (H.x2s 1792 _) (a1362 H) (H.w7)
def w315 (I : In) : FVec Ideal S128x256 .f32 := k0_pay86 (I.x0s 3840 inb_S128x6144_S128x256_0_3840)
theorem a315 {d : Blk} {e : Acc} {I : In} (H : Holds d e I) :
    ∀ (r : Fin 128) (j : Fin 256), (w315 I (ix2 r j) : EReal) = ((((1 / 2) * (1 + Real.tanh ((c0 * (d.P r (3840 + j.val) + ((((8943 / 200000) * d.P r (3840 + j.val)) * d.P r (3840 + j.val)) * d.P r (3840 + j.val))))))) : ℝ) : EReal) :=
  L86 d e (I.x0s 3840 inb_S128x6144_S128x256_0_3840) (H.x0s 3840 _)
def w321 (I : In) : FVec Ideal S128x256 .f32 := k0_pay87 (I.x0s 3840 inb_S128x6144_S128x256_0_3840)
theorem a321 {d : Blk} {e : Acc} {I : In} (H : Holds d e I) :
    ∀ (r : Fin 128) (j : Fin 256), (w321 I (ix2 r j) : EReal) = (((((1 / 2) * d.P r (3840 + j.val)) * (1 - (Real.tanh ((c0 * (d.P r (3840 + j.val) + ((((8943 / 200000) * d.P r (3840 + j.val)) * d.P r (3840 + j.val)) * d.P r (3840 + j.val))))) * Real.tanh ((c0 * (d.P r (3840 + j.val) + ((((8943 / 200000) * d.P r (3840 + j.val)) * d.P r (3840 + j.val)) * d.P r (3840 + j.val)))))))) : ℝ) : EReal) :=
  L87 d e (I.x0s 3840 inb_S128x6144_S128x256_0_3840) (H.x0s 3840 _)
def w323 (I : In) : FVec Ideal S128x256 .f32 := k0_pay88 (I.x0s 3840 inb_S128x6144_S128x256_0_3840)
theorem a323 {d : Blk} {e : Acc} {I : In} (H : Holds d e I) :
    ∀ (r : Fin 128) (j : Fin 256), (w323 I (ix2 r j) : EReal) = ((((26829 / 200000) * d.P r (3840 + j.val)) : ℝ) : EReal) :=
  L88 d e (I.x0s 3840 inb_S128x6144_S128x256_0_3840) (H.x0s 3840 _)
def w333 (I : In) : FVec Ideal S128x256 .f32 := k0_pay89 (I.x0s 3840 inb_S128x6144_S128x256_0_3840) (w315 I) (w321 I) (w323 I)
theorem a333 {d : Blk} {e : Acc} {I : In} (H : Holds d e I) :
    ∀ (r : Fin 128) (j : Fin 256), (w333 I (ix2 r j) : EReal) = ((d.DG r (1792 + j.val) : ℝ) : EReal) :=
  L89 d e (I.x0s 3840 inb_S128x6144_S128x256_0_3840) (w315 I) (w321 I) (w323 I) (H.x0s 3840 _) (a315 H) (a321 H) (a323 H)
def w1544 (I : In) : FVec Ideal S128x256 .bf16 := k0_pay1 (w403 I) (w1407 I) (w1409 I) (w1533 I) (w1398 I) (w333 I)
theorem a1544 {d : Blk} {e : Acc} {I : In} (H : Holds d e I) :
    ∀ (r : Fin 128) (j : Fin 256), (w1544 I (ix2 r j) : EReal) = ((d.DPV 7 r (1792 + j.val) : ℝ) : EReal) :=
  L1 d e (w403 I) (w1407 I) (w1409 I) (w1533 I) (w1398 I) (w333 I) (a403 H) (a1407 H) (a1409 H) (a1533 H) (a1398 H) (a333 H)

end Cert.Sgu

end
-- ==== Proof.OpenB.lean ====
module
public import proofs.«01_k».proof.Proof.Net
public import proofs.«01_k».proof.Proof.Gen.KernelIdeal.Value
import Idealize.ShloMosaic.Lib.Pipeline.ValueKit
import Idealize.ShloMosaic.Lib.Pipeline.ReadBack

/-! # What a middle point leaves in each output -/

@[expose] public section
set_option maxRecDepth 16384
set_option maxHeartbeats 4000000
noncomputable section
namespace Cert.Sgu
open Idealize.ShloMosaic Cert.KernelIdeal Cert.KernelIdeal.Gen

/-- What a point after the first loads: the accumulators as they stand, the mixing weights as the first point masked them. -/
def InB (x0 : Vec Ideal S128x6144 .f32) (x1 : Vec Ideal S128x2048 .bf16) (x2 x3 : Vec Ideal S1x2048 .f32) (x5 : Vec Ideal S8x128x1 .f32) (xo7 : Vec Ideal S8x128x128 .f32) (xo8 : Vec Ideal S8x128x1 .f32) (xo9 xo10 : Vec Ideal S1x2048 .f32) (xs0 : Vec Ideal S8x128x128 .bf16) : In :=
  ⟨x0,
   x1,
   x2,
   x3,
   x5,
   (View.ld xs0 (Rect.unit (s := S8x128x128) ![0, 0, 0] S1x128x128.size inb_S8x128x128_S1x128x128_0_0_0)),
   (View.ld xs0 (Rect.unit (s := S8x128x128) ![1, 0, 0] S1x128x128.size inb_S8x128x128_S1x128x128_1_0_0)),
   (View.ld xs0 (Rect.unit (s := S8x128x128) ![2, 0, 0] S1x128x128.size inb_S8x128x128_S1x128x128_2_0_0)),
   (View.ld xs0 (Rect.unit (s := S8x128x128) ![3, 0, 0] S1x128x128.size inb_S8x128x128_S1x128x128_3_0_0)),
   (View.ld xs0 (Rect.unit (s := S8x128x128) ![4, 0, 0] S1x128x128.size inb_S8x128x128_S1x128x128_4_0_0)),
   (View.ld xs0 (Rect.unit (s := S8x128x128) ![5, 0, 0] S1x128x128.size inb_S8x128x128_S1x128x128_5_0_0)),
   (View.ld xs0 (Rect.unit (s := S8x128x128) ![6, 0, 0] S1x128x128.size inb_S8x128x128_S1x128x128_6_0_0)),
   (View.ld xs0 (Rect.unit (s := S8x128x128) ![7, 0, 0] S1x128x128.size inb_S8x128x128_S1x128x128_7_0_0)),
   (View.ld xo7 (Rect.unit (s := S8x128x128) ![0, 0, 0] S1x128x128.size inb_S8x128x128_S1x128x128_0_0_0)),
   (View.ld xo7 (Rect.unit (s := S8x128x128) ![1, 0, 0] S1x128x128.size inb_S8x128x128_S1x128x128_1_0_0)),
   (View.ld xo7 (Rect.unit (s := S8x128x128) ![2, 0, 0] S1x128x128.size inb_S8x128x128_S1x128x128_2_0_0)),
   (View.ld xo7 (Rect.unit (s := S8x128x128) ![3, 0, 0] S1x128x128.size inb_S8x128x128_S1x128x128_3_0_0)),
   (View.ld xo7 (Rect.unit (s := S8x128x128) ![4, 0, 0] S1x128x128.size inb_S8x128x128_S1x128x128_4_0_0)),
   (View.ld xo7 (Rect.unit (s := S8x128x128) ![5, 0, 0] S1x128x128.size inb_S8x128x128_S1x128x128_5_0_0)),
   (View.ld xo7 (Rect.unit (s := S8x128x128) ![6, 0, 0] S1x128x128.size inb_S8x128x128_S1x128x128_6_0_0)),
   (View.ld xo7 (Rect.unit (s := S8x128x128) ![7, 0, 0] S1x128x128.size inb_S8x128x128_S1x128x128_7_0_0)),
   (View.ld xo8 (Rect.unit (s := S8x128x1) ![0, 0, 0] S1x128x1.size inb_S8x128x1_S1x128x1_0_0_0)),
   (View.ld xo8 (Rect.unit (s := S8x128x1) ![1, 0, 0] S1x128x1.size inb_S8x128x1_S1x128x1_1_0_0)),
   (View.ld xo8 (Rect.unit (s := S8x128x1) ![2, 0, 0] S1x128x1.size inb_S8x128x1_S1x128x1_2_0_0)),
   (View.ld xo8 (Rect.unit (s := S8x128x1) ![3, 0, 0] S1x128x1.size inb_S8x128x1_S1x128x1_3_0_0)),
   (View.ld xo8 (Rect.unit (s := S8x128x1) ![4, 0, 0] S1x128x1.size inb_S8x128x1_S1x128x1_4_0_0)),
   (View.ld xo8 (Rect.unit (s := S8x128x1) ![5, 0, 0] S1x128x1.size inb_S8x128x1_S1x128x1_5_0_0)),
   (View.ld xo8 (Rect.unit (s := S8x128x1) ![6, 0, 0] S1x128x1.size inb_S8x128x1_S1x128x1_6_0_0)),
   (View.ld xo8 (Rect.unit (s := S8x128x1) ![7, 0, 0] S1x128x1.size inb_S8x128x1_S1x128x1_7_0_0)),
   (View.ld xo9 (Rect.unit (s := S1x2048) ![0, 0] S1x256.size inb_S1x2048_S1x256_0_0)),
   (View.ld xo9 (Rect.unit (s := S1x2048) ![0, 256] S1x256.size inb_S1x2048_S1x256_0_256)),
   (View.ld xo9 (Rect.unit (s := S1x2048) ![0, 512] S1x256.size inb_S1x2048_S1x256_0_512)),
   (View.ld xo9 (Rect.unit (s := S1x2048) ![0, 768] S1x256.size inb_S1x2048_S1x256_0_768)),
   (View.ld xo9 (Rect.unit (s := S1x2048) ![0, 1024] S1x256.size inb_S1x2048_S1x256_0_1024)),
   (View.ld xo9 (Rect.unit (s := S1x2048) ![0, 1280] S1x256.size inb_S1x2048_S1x256_0_1280)),
   (View.ld xo9 (Rect.unit (s := S1x2048) ![0, 1536] S1x256.size inb_S1x2048_S1x256_0_1536)),
   (View.ld xo9 (Rect.unit (s := S1x2048) ![0, 1792] S1x256.size inb_S1x2048_S1x256_0_1792)),
   (View.ld xo10 (Rect.unit (s := S1x2048) ![0, 0] S1x256.size inb_S1x2048_S1x256_0_0)),
   (View.ld xo10 (Rect.unit (s := S1x2048) ![0, 256] S1x256.size inb_S1x2048_S1x256_0_256)),
   (View.ld xo10 (Rect.unit (s := S1x2048) ![0, 512] S1x256.size inb_S1x2048_S1x256_0_512)),
   (View.ld xo10 (Rect.unit (s := S1x2048) ![0, 768] S1x256.size inb_S1x2048_S1x256_0_768)),
   (View.ld xo10 (Rect.unit (s := S1x2048) ![0, 1024] S1x256.size inb_S1x2048_S1x256_0_1024)),
   (View.ld xo10 (Rect.unit (s := S1x2048) ![0, 1280] S1x256.size inb_S1x2048_S1x256_0_1280)),
   (View.ld xo10 (Rect.unit (s := S1x2048) ![0, 1536] S1x256.size inb_S1x2048_S1x256_0_1536)),
   (View.ld xo10 (Rect.unit (s := S1x2048) ![0, 1792] S1x256.size inb_S1x2048_S1x256_0_1792))⟩

theorem pu {d : Blk} {g c' : ℕ} {r : Fin 128} {v : EReal} (hv : v = ((d.DPU g r c' : ℝ) : EReal)) (c : ℕ) (hc : c = c') (h1 : c / 256 = g) (h2 : c < 2048) :
    v = ((d.DP r c : ℝ) : EReal) := by
  subst hc h1; rw [hv, Blk.DP, if_pos h2]

theorem pv {d : Blk} {g c' : ℕ} {r : Fin 128} {v : EReal} (hv : v = ((d.DPV g r c' : ℝ) : EReal)) (c : ℕ) (hc : c = 2048 + c') (h1 : c' / 256 = g) (h2 : c' < 2048) :
    v = ((d.DP r c : ℝ) : EReal) := by
  subst hc h1; rw [hv, Blk.DP, if_neg (by omega), if_pos (by omega), Nat.add_sub_cancel_left]

theorem pg {d : Blk} {g c' : ℕ} {r : Fin 128} {v : EReal} (hv : v = ((d.DPG g r c' : ℝ) : EReal)) (c : ℕ) (hc : c = 4096 + c') (h1 : c' / 256 = g) (h2 : c' < 2048) :
    v = ((d.DP r c : ℝ) : EReal) := by
  subst hc h1; rw [hv, Blk.DP, if_neg (by omega), if_neg (by omega), Nat.add_sub_cancel_left]

theorem pl {v : EReal} {A : ℕ → ℝ} {L : ℕ → ℕ → ℝ} {g c' : ℕ} (hv : v = ((A c' + L g c' : ℝ) : EReal)) (c : ℕ) (hc : c = c') (h1 : c / 256 = g) :
    v = ((A c + L (c / 256) c : ℝ) : EReal) := by
  subst hc h1; exact hv

/-- Where the later stores cover an index, the earlier ones do not count. -/
theorem canon_top {Val : EltTy → Type} {S : Shape} {e : EltTy} [∀ e, Nonempty (Val e)] : ∀ (L L' : List (View.Piece Val S e)) (y : S.Idx)
    (_ : ∃ p ∈ L, y ∈ p.1.set), View.canon (L ++ L') y = View.canon L y
  | [], _, _, h => by obtain ⟨p, hp, _⟩ := h; simp at hp
  | p :: L, L', y, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_top L L' y ?_
      obtain ⟨q, hq, hy⟩ := h
      rcases List.mem_cons.mp hq with rfl | hq'
      · exact absurd hy hm
      · exact ⟨q, hq', hy⟩

theorem canon8 {Val : EltTy → Type} {S : Shape} {e : EltTy} [∀ e, Nonempty (Val e)] (p1 p2 p3 p4 p5 p6 p7 p8 : View.Piece Val S e) (L' : List (View.Piece Val S e)) (y : S.Idx)
    (h : ∃ p ∈ [p1, p2, p3, p4, p5, p6, p7, p8], y ∈ p.1.set) :
    View.canon (p1 :: p2 :: p3 :: p4 :: p5 :: p6 :: p7 :: p8 :: L') y = View.canon [p1, p2, p3, p4, p5, p6, p7, p8] y :=
  canon_top [p1, p2, p3, p4, p5, p6, p7, p8] L' y h

theorem out0_B_6_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : ¬cond0_0 i) (hc1 : ¬cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32) (xo7 : Vec Ideal S8x128x128 .f32) (xo8 : Vec Ideal S8x128x1 .f32) (xo9 : Vec Ideal S1x2048 .f32) (xo10 : Vec Ideal S1x2048 .f32) (xs0 : Vec Ideal S8x128x128 .bf16)
    (H : Holds d e (InB x0 x1 x2 x3 x5 xo7 xo8 xo9 xo10 xs0)) (r : Fin 128) (l : Fin 6144) :
    (out0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xo9 xo10 xs0 (ix2 r l) : EReal) = ((d.DP r l.val : ℝ) : EReal) := by
  frame_open
  simp (disch := decide) only [↓ View.readCov_skip, ↓ View.readCov_cons_toLoadRect, ↓ View.readCov_fill]
  frame_out
  canon_tiles x h
  · have h1 : l.val = 3840 + (x 1).val := h1
    obtain rfl : r = x 0 := Fin.ext h0
    rw [eq_ix2 (n0 := 128) (n1 := 256) x]
    have hl : (x 1).val < 256 := (x 1).isLt
    exact pv (a1544 H (x 0) (x 1)) _ (by omega) (by omega) (by omega)
  · have h1 : l.val = 3584 + (x 1).val := h1
    obtain rfl : r = x 0 := Fin.ext h0
    rw [eq_ix2 (n0 := 128) (n1 := 256) x]
    have hl : (x 1).val < 256 := (x 1).isLt
    exact pv (a1527 H (x 0) (x 1)) _ (by omega) (by omega) (by omega)
  · have h1 : l.val = 3328 + (x 1).val := h1
    obtain rfl : r = x 0 := Fin.ext h0
    rw [eq_ix2 (n0 := 128) (n1 := 256) x]
    have hl : (x 1).val < 256 := (x 1).isLt
    exact pv (a1510 H (x 0) (x 1)) _ (by omega) (by omega) (by omega)
  · have h1 : l.val = 3072 + (x 1).val := h1
    obtain rfl : r = x 0 := Fin.ext h0
    rw [eq_ix2 (n0 := 128) (n1 := 256) x]
    have hl : (x 1).val < 256 := (x 1).isLt
    exact pv (a1493 H (x 0) (x 1)) _ (by omega) (by omega) (by omega)
  · have h1 : l.val = 2816 + (x 1).val := h1
    obtain rfl : r = x 0 := Fin.ext h0
    rw [eq_ix2 (n0 := 128) (n1 := 256) x]
    have hl : (x 1).val < 256 := (x 1).isLt
    exact pv (a1476 H (x 0) (x 1)) _ (by omega) (by omega) (by omega)
  · have h1 : l.val = 2560 + (x 1).val := h1
    obtain rfl : r = x 0 := Fin.ext h0
    rw [eq_ix2 (n0 := 128) (n1 := 256) x]
    have hl : (x 1).val < 256 := (x 1).isLt
    exact pv (a1459 H (x 0) (x 1)) _ (by omega) (by omega) (by omega)
  · have h1 : l.val = 2304 + (x 1).val := h1
    obtain rfl : r = x 0 := Fin.ext h0
    rw [eq_ix2 (n0 := 128) (n1 := 256) x]
    have hl : (x 1).val < 256 := (x 1).isLt
    exact pv (a1442 H (x 0) (x 1)) _ (by omega) (by omega) (by omega)
  · have h1 : l.val = 2048 + (x 1).val := h1
    obtain rfl : r = x 0 := Fin.ext h0
    rw [eq_ix2 (n0 := 128) (n1 := 256) x]
    have hl : (x 1).val < 256 := (x 1).isLt
    exact pv (a1425 H (x 0) (x 1)) _ (by omega) (by omega) (by omega)
  · have h1 : l.val = 5888 + (x 1).val := h1
    obtain rfl : r = x 0 := Fin.ext h0
    rw [eq_ix2 (n0 := 128) (n1 := 256) x]
    have hl : (x 1).val < 256 := (x 1).isLt
    exact pg (a1358 H (x 0) (x 1)) _ (by omega) (by omega) (by omega)
  · have h1 : l.val = 1792 + (x 1).val := h1
    obtain rfl : r = x 0 := Fin.ext h0
    rw [eq_ix2 (n0 := 128) (n1 := 256) x]
    have hl : (x 1).val < 256 := (x 1).isLt
    exact pu (a1353 H (x 0) (x 1)) _ h1 (by omega) (by omega)
  · have h1 : l.val = 5632 + (x 1).val := h1
    obtain rfl : r = x 0 := Fin.ext h0
    rw [eq_ix2 (n0 := 128) (n1 := 256) x]
    have hl : (x 1).val < 256 := (x 1).isLt
    exact pg (a1233 H (x 0) (x 1)) _ (by omega) (by omega) (by omega)
  · have h1 : l.val = 1536 + (x 1).val := h1
    obtain rfl : r = x 0 := Fin.ext h0
    rw [eq_ix2 (n0 := 128) (n1 := 256) x]
    have hl : (x 1).val < 256 := (x 1).isLt
    exact pu (a1228 H (x 0) (x 1)) _ h1 (by omega) (by omega)
  · have h1 : l.val = 5376 + (x 1).val := h1
    obtain rfl : r = x 0 := Fin.ext h0
    rw [eq_ix2 (n0 := 128) (n1 := 256) x]
    have hl : (x 1).val < 256 := (x 1).isLt
    exact pg (a1108 H (x 0) (x 1)) _ (by omega) (by omega) (by omega)
  · have h1 : l.val = 1280 + (x 1).val := h1
    obtain rfl : r = x 0 := Fin.ext h0
    rw [eq_ix2 (n0 := 128) (n1 := 256) x]
    have hl : (x 1).val < 256 := (x 1).isLt
    exact pu (a1103 H (x 0) (x 1)) _ h1 (by omega) (by omega)
  · have h1 : l.val = 5120 + (x 1).val := h1
    obtain rfl : r = x 0 := Fin.ext h0
    rw [eq_ix2 (n0 := 128) (n1 := 256) x]
    have hl : (x 1).val < 256 := (x 1).isLt
    exact pg (a983 H (x 0) (x 1)) _ (by omega) (by omega) (by omega)
  · have h1 : l.val = 1024 + (x 1).val := h1
    obtain rfl : r = x 0 := Fin.ext h0
    rw [eq_ix2 (n0 := 128) (n1 := 256) x]
    have hl : (x 1).val < 256 := (x 1).isLt
    exact pu (a978 H (x 0) (x 1)) _ h1 (by omega) (by omega)
  · have h1 : l.val = 4864 + (x 1).val := h1
    obtain rfl : r = x 0 := Fin.ext h0
    rw [eq_ix2 (n0 := 128) (n1 := 256) x]
    have hl : (x 1).val < 256 := (x 1).isLt
    exact pg (a858 H (x 0) (x 1)) _ (by omega) (by omega) (by omega)
  · have h1 : l.val = 768 + (x 1).val := h1
    obtain rfl : r = x 0 := Fin.ext h0
    rw [eq_ix2 (n0 := 128) (n1 := 256) x]
    have hl : (x 1).val < 256 := (x 1).isLt
    exact pu (a853 H (x 0) (x 1)) _ h1 (by omega) (by omega)
  · have h1 : l.val = 4608 + (x 1).val := h1
    obtain rfl : r = x 0 := Fin.ext h0
    rw [eq_ix2 (n0 := 128) (n1 := 256) x]
    have hl : (x 1).val < 256 := (x 1).isLt
    exact pg (a733 H (x 0) (x 1)) _ (by omega) (by omega) (by omega)
  · have h1 : l.val = 512 + (x 1).val := h1
    obtain rfl : r = x 0 := Fin.ext h0
    rw [eq_ix2 (n0 := 128) (n1 := 256) x]
    have hl : (x 1).val < 256 := (x 1).isLt
    exact pu (a728 H (x 0) (x 1)) _ h1 (by omega) (by omega)
  · have h1 : l.val = 4352 + (x 1).val := h1
    obtain rfl : r = x 0 := Fin.ext h0
    rw [eq_ix2 (n0 := 128) (n1 := 256) x]
    have hl : (x 1).val < 256 := (x 1).isLt
    exact pg (a608 H (x 0) (x 1)) _ (by omega) (by omega) (by omega)
  · have h1 : l.val = 256 + (x 1).val := h1
    obtain rfl : r = x 0 := Fin.ext h0
    rw [eq_ix2 (n0 := 128) (n1 := 256) x]
    have hl : (x 1).val < 256 := (x 1).isLt
    exact pu (a603 H (x 0) (x 1)) _ h1 (by omega) (by omega)
  · have h1 : l.val = 4096 + (x 1).val := h1
    obtain rfl : r = x 0 := Fin.ext h0
    rw [eq_ix2 (n0 := 128) (n1 := 256) x]
    have hl : (x 1).val < 256 := (x 1).isLt
    exact pg (a483 H (x 0) (x 1)) _ (by omega) (by omega) (by omega)
  · have h1 : l.val = (x 1).val := h1
    obtain rfl : r = x 0 := Fin.ext h0
    rw [eq_ix2 (n0 := 128) (n1 := 256) x]
    have hl : (x 1).val < 256 := (x 1).isLt
    exact pu (a478 H (x 0) (x 1)) _ h1 (by omega) (by omega)

theorem out0_B_7_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : ¬cond0_0 i) (hc1 : ¬cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32) (xo7 : Vec Ideal S8x128x128 .f32) (xo8 : Vec Ideal S8x128x1 .f32) (xo9 : Vec Ideal S1x2048 .f32) (xo10 : Vec Ideal S1x2048 .f32) (xs0 : Vec Ideal S8x128x128 .bf16)
    (H : Holds d e (InB x0 x1 x2 x3 x5 xo7 xo8 xo9 xo10 xs0)) (g : Fin 8) (r b : Fin 128) :
    (out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xo9 xo10 xs0 (ix3 g r b) : EReal) = ((e.A7 g.val r b + d.DWS g.val r b : ℝ) : EReal) := by
  frame_open
  simp (disch := decide) only [↓ View.readCov_skip, ↓ View.readCov_cons_toLoadRect, ↓ View.readCov_fill]
  frame_out
  canon_tiles x h
  · obtain rfl : g = 7 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a1369 H (x 1) (x 2)
  · obtain rfl : g = 6 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a1244 H (x 1) (x 2)
  · obtain rfl : g = 5 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a1119 H (x 1) (x 2)
  · obtain rfl : g = 4 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a994 H (x 1) (x 2)
  · obtain rfl : g = 3 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a869 H (x 1) (x 2)
  · obtain rfl : g = 2 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a744 H (x 1) (x 2)
  · obtain rfl : g = 1 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a619 H (x 1) (x 2)
  · obtain rfl : g = 0 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a494 H (x 1) (x 2)

theorem out0_B_8_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : ¬cond0_0 i) (hc1 : ¬cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32) (xo7 : Vec Ideal S8x128x128 .f32) (xo8 : Vec Ideal S8x128x1 .f32) (xo9 : Vec Ideal S1x2048 .f32) (xo10 : Vec Ideal S1x2048 .f32) (xs0 : Vec Ideal S8x128x128 .bf16)
    (H : Holds d e (InB x0 x1 x2 x3 x5 xo7 xo8 xo9 xo10 xs0)) (g : Fin 8) (r : Fin 128) :
    (out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xo9 xo10 xs0 (ix3 g r 0) : EReal) = ((e.A8 g.val r + d.DBS g.val r : ℝ) : EReal) := by
  frame_open
  simp (disch := decide) only [↓ View.readCov_skip, ↓ View.readCov_cons_toLoadRect, ↓ View.readCov_fill]
  frame_out
  canon_tiles x h
  · obtain rfl : g = 7 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a1377 H (x 1)
  · obtain rfl : g = 6 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a1252 H (x 1)
  · obtain rfl : g = 5 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a1127 H (x 1)
  · obtain rfl : g = 4 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a1002 H (x 1)
  · obtain rfl : g = 3 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a877 H (x 1)
  · obtain rfl : g = 2 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a752 H (x 1)
  · obtain rfl : g = 1 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a627 H (x 1)
  · obtain rfl : g = 0 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a502 H (x 1)

theorem out0_B_9_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : ¬cond0_0 i) (hc1 : ¬cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32) (xo7 : Vec Ideal S8x128x128 .f32) (xo8 : Vec Ideal S8x128x1 .f32) (xo9 : Vec Ideal S1x2048 .f32) (xo10 : Vec Ideal S1x2048 .f32) (xs0 : Vec Ideal S8x128x128 .bf16)
    (H : Holds d e (InB x0 x1 x2 x3 x5 xo7 xo8 xo9 xo10 xs0)) (l : Fin 2048) :
    (out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xo9 xo10 xs0 (ix2 0 l) : EReal) = ((e.A9 l.val + d.DLG (l.val / 256) l.val : ℝ) : EReal) := by
  frame_open
  simp (disch := decide) only [↓ View.readCov_skip, ↓ View.readCov_cons_toLoadRect, ↓ View.readCov_fill]
  frame_out
  canon_tiles x h
  · have h1 : l.val = 1792 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a1386 H (x 1)) _ h1 (by have : (x 1).val < 256 := (x 1).isLt; omega)
  · have h1 : l.val = 1536 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a1261 H (x 1)) _ h1 (by have : (x 1).val < 256 := (x 1).isLt; omega)
  · have h1 : l.val = 1280 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a1136 H (x 1)) _ h1 (by have : (x 1).val < 256 := (x 1).isLt; omega)
  · have h1 : l.val = 1024 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a1011 H (x 1)) _ h1 (by have : (x 1).val < 256 := (x 1).isLt; omega)
  · have h1 : l.val = 768 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a886 H (x 1)) _ h1 (by have : (x 1).val < 256 := (x 1).isLt; omega)
  · have h1 : l.val = 512 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a761 H (x 1)) _ h1 (by have : (x 1).val < 256 := (x 1).isLt; omega)
  · have h1 : l.val = 256 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a636 H (x 1)) _ h1 (by have : (x 1).val < 256 := (x 1).isLt; omega)
  · have h1 : l.val = (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a511 H (x 1)) _ h1 (by have : (x 1).val < 256 := (x 1).isLt; omega)

theorem out0_B_10_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : ¬cond0_0 i) (hc1 : ¬cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32) (xo7 : Vec Ideal S8x128x128 .f32) (xo8 : Vec Ideal S8x128x1 .f32) (xo9 : Vec Ideal S1x2048 .f32) (xo10 : Vec Ideal S1x2048 .f32) (xs0 : Vec Ideal S8x128x128 .bf16)
    (H : Holds d e (InB x0 x1 x2 x3 x5 xo7 xo8 xo9 xo10 xs0)) (l : Fin 2048) :
    (out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xo9 xo10 xs0 (ix2 0 l) : EReal) = ((e.A10 l.val + d.DLB (l.val / 256) l.val : ℝ) : EReal) := by
  frame_open
  simp (disch := decide) only [↓ View.readCov_skip, ↓ View.readCov_cons_toLoadRect, ↓ View.readCov_fill]
  frame_out
  canon_tiles x h
  · have h1 : l.val = 1792 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a1392 H (x 1)) _ h1 (by have : (x 1).val < 256 := (x 1).isLt; omega)
  · have h1 : l.val = 1536 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a1267 H (x 1)) _ h1 (by have : (x 1).val < 256 := (x 1).isLt; omega)
  · have h1 : l.val = 1280 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a1142 H (x 1)) _ h1 (by have : (x 1).val < 256 := (x 1).isLt; omega)
  · have h1 : l.val = 1024 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a1017 H (x 1)) _ h1 (by have : (x 1).val < 256 := (x 1).isLt; omega)
  · have h1 : l.val = 768 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a892 H (x 1)) _ h1 (by have : (x 1).val < 256 := (x 1).isLt; omega)
  · have h1 : l.val = 512 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a767 H (x 1)) _ h1 (by have : (x 1).val < 256 := (x 1).isLt; omega)
  · have h1 : l.val = 256 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a642 H (x 1)) _ h1 (by have : (x 1).val < 256 := (x 1).isLt; omega)
  · have h1 : l.val = (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a517 H (x 1)) _ h1 (by have : (x 1).val < 256 := (x 1).isLt; omega)

end Cert.Sgu

end
-- ==== Proof.Reads.lean ====
module
public import proofs.«01_k».proof.Proof.OpenB
import Idealize.ShloMosaic.Lib.Pipeline.ValueKit
import Idealize.ShloMosaic.Lib.Claim

/-! # The operands of the call as real arrays, and the block that each grid point is handed -/

@[expose] public section
set_option maxRecDepth 16384
noncomputable section
namespace Cert.Sgu
open Idealize.ShloMosaic Idealize.ShloMosaic.TcCoe Cert.KernelIdeal Cert.KernelIdeal.Gen
open scoped BigOperators

/-- The six operands as real arrays: the projection, the cotangent, gain, bias, mixing weights, mixing bias. -/
structure Arr where
  X0 : ℕ → ℕ → ℝ
  X1 : ℕ → ℕ → ℝ
  X2 : ℕ → ℝ
  X3 : ℕ → ℝ
  X4 : ℕ → Fin 128 → Fin 128 → ℝ
  X5 : ℕ → Fin 128 → ℝ

namespace Arr
variable (X : Arr)

/-- The mixing weights where a row may see a column, zero elsewhere. -/
def WM (g : ℕ) (a b : Fin 128) : ℝ := if b.val / 64 ≤ a.val / 64 then X.X4 g a b else 0

/-- Rows `128 n … 128 n + 127`, as a block. -/
def blk (n : ℕ) : Blk := ⟨fun r l => X.X0 (128 * n + r.val) l, fun r l => X.X1 (128 * n + r.val) l, X.X2, X.X3, X.WM, X.X5⟩

/-- What the first `n` blocks add up to. -/
def acc (n : ℕ) : Acc :=
  ⟨fun g r b => ∑ j ∈ Finset.range n, (X.blk j).DWS g r b, fun g r => ∑ j ∈ Finset.range n, (X.blk j).DBS g r,
   fun l => ∑ j ∈ Finset.range n, (X.blk j).DLG (l / 256) l, fun l => ∑ j ∈ Finset.range n, (X.blk j).DLB (l / 256) l⟩

end Arr

variable (m : (ℓ : Loc nD τ sig) → Buf (Elt Ideal) ℓ)

theorem hi0 : ∀ t : Fin cfg0.N, win0_0.index t (0 : Fin 2) = t.val ∧ win0_0.index t (1 : Fin 2) = 0 := (by decide +kernel : ∀ t : Fin grid0.N, _)
theorem hi1 : ∀ t : Fin cfg0.N, win0_1.index t (0 : Fin 2) = t.val ∧ win0_1.index t (1 : Fin 2) = 0 := (by decide +kernel : ∀ t : Fin grid0.N, _)
theorem hi2 : ∀ t : Fin cfg0.N, win0_2.index t (0 : Fin 2) = 0 ∧ win0_2.index t (1 : Fin 2) = 0 := (by decide +kernel : ∀ t : Fin grid0.N, _)
theorem hi3 : ∀ t : Fin cfg0.N, win0_3.index t (0 : Fin 2) = 0 ∧ win0_3.index t (1 : Fin 2) = 0 := (by decide +kernel : ∀ t : Fin grid0.N, _)
theorem hi4 : ∀ t : Fin cfg0.N, win0_4.index t (0 : Fin 3) = 0 ∧ win0_4.index t (1 : Fin 3) = 0 ∧ win0_4.index t (2 : Fin 3) = 0 := (by decide +kernel : ∀ t : Fin grid0.N, _)
theorem hi5 : ∀ t : Fin cfg0.N, win0_5.index t (0 : Fin 3) = 0 ∧ win0_5.index t (1 : Fin 3) = 0 ∧ win0_5.index t (2 : Fin 3) = 0 := (by decide +kernel : ∀ t : Fin grid0.N, _)

theorem row_lt (t : Fin cfg0.N) (r : Fin 128) : 128 * t.val + r.val < 4096 := by
  have h : t.val < 32 := lt_of_lt_of_eq t.isLt N_0
  omega

theorem rd0 (c : Dev nD) (t : Fin cfg0.N) (r : Fin 128) (l : Fin 6144) :
    iblk m c 0 t (ix2 (n0 := 128) (n1 := 6144) r l) = m ((c : Thread nD τ).loc main_arg0) (ix2 (n0 := 4096) (n1 := 6144) ⟨128 * t.val + r.val, row_lt t r⟩ l) := by
  blk_ext [iblk, V_main_arg0, hi0 t]

theorem rd1 (c : Dev nD) (t : Fin cfg0.N) (r : Fin 128) (l : Fin 2048) :
    iblk m c 1 t (ix2 (n0 := 128) (n1 := 2048) r l) = m ((c : Thread nD τ).loc main_arg1) (ix2 (n0 := 4096) (n1 := 2048) ⟨128 * t.val + r.val, row_lt t r⟩ l) := by
  blk_ext [iblk, V_main_arg1, hi1 t]

theorem rd2 (c : Dev nD) (t : Fin cfg0.N) (l : Fin 2048) :
    iblk m c 2 t (ix2 (n0 := 1) (n1 := 2048) 0 l) = m ((c : Thread nD τ).loc main_arg2) (ix2 (n0 := 1) (n1 := 2048) 0 l) := by
  blk_ext [iblk, V_main_arg2, hi2 t]

theorem rd3 (c : Dev nD) (t : Fin cfg0.N) (l : Fin 2048) :
    iblk m c 3 t (ix2 (n0 := 1) (n1 := 2048) 0 l) = m ((c : Thread nD τ).loc main_arg3) (ix2 (n0 := 1) (n1 := 2048) 0 l) := by
  blk_ext [iblk, V_main_arg3, hi3 t]

theorem rd4 (c : Dev nD) (t : Fin cfg0.N) (g : Fin 8) (a b : Fin 128) :
    iblk m c 4 t (ix3 (n0 := 8) (n1 := 128) (n2 := 128) g a b) = m ((c : Thread nD τ).loc main_arg4) (ix4 (n0 := 1) (n1 := 8) (n2 := 128) (n3 := 128) 0 g a b) := by
  have h : iblk m c 4 t (ix3 (n0 := 8) (n1 := 128) (n2 := 128) g a b) = V m c main_v2 (ix3 (n0 := 8) (n1 := 128) (n2 := 128) g a b) := by
    blk_ext [iblk, hi4 t]
  rw [h]
  entry_read
  pointwise

theorem rd5 (c : Dev nD) (t : Fin cfg0.N) (g : Fin 8) (a : Fin 128) :
    iblk m c 5 t (ix3 (n0 := 8) (n1 := 128) (n2 := 1) g a 0) = m ((c : Thread nD τ).loc main_arg5) (ix3 (n0 := 1) (n1 := 8) (n2 := 128) 0 g a) := by
  have h : iblk m c 5 t (ix3 (n0 := 8) (n1 := 128) (n2 := 1) g a 0) = V m c main_v1 (ix3 (n0 := 8) (n1 := 128) (n2 := 1) g a 0) := by
    blk_ext [iblk, hi5 t]
  rw [h]
  entry_read
  pointwise

end Cert.Sgu
end
-- ==== Proof.Rows.lean ====
module
public import proofs.«01_k».proof.Proof.Reads

/-! # The reference's real values, row by row of the whole projection -/

@[expose] public section
noncomputable section
namespace Cert.Sgu.Arr
open scoped BigOperators

variable (X : Arr)

def rMU (ρ : ℕ) : ℝ := (∑ k : Fin 2048, gel (X.X0 ρ (2048 + k.val))) / 2048
def rVC (ρ l : ℕ) : ℝ := gel (X.X0 ρ (2048 + l)) - X.rMU ρ
def rVA (ρ : ℕ) : ℝ := (∑ k : Fin 2048, X.rVC ρ k.val * X.rVC ρ k.val) / 2048 + eps
def rRS (ρ : ℕ) : ℝ := (Real.sqrt (X.rVA ρ))⁻¹
def rVH (ρ l : ℕ) : ℝ := X.rVC ρ l * X.rRS ρ
def rVL (ρ l : ℕ) : ℝ := X.rVH ρ l * X.X2 l + X.X3 l
/-- The mixed gate, at row `t` of block `n`, lane `j` of group `g`. -/
def rS (n : ℕ) (t : Fin 128) (g j : ℕ) : ℝ := (∑ k : Fin 128, X.rVL (128 * n + k.val) (256 * g + j) * X.WM g t k) + X.X5 g t
def rDS (ρ l : ℕ) : ℝ := gel (X.X0 ρ l) * (X.X1 ρ l * silu (X.X0 ρ (4096 + l)))
def rDVL (n : ℕ) (k : Fin 128) (g j : ℕ) : ℝ := ∑ t : Fin 128, X.rDS (128 * n + t.val) (256 * g + j) * X.WM g t k

/-! The same values with the row and the column whole. -/

def rST (ρ l : ℕ) : ℝ := X.rS (ρ / 128) ⟨ρ % 128, Nat.mod_lt _ (by norm_num)⟩ (l / 256) (l % 256)
def rDL (ρ l : ℕ) : ℝ := X.rDVL (ρ / 128) ⟨ρ % 128, Nat.mod_lt _ (by norm_num)⟩ (l / 256) (l % 256)
def rDH (ρ l : ℕ) : ℝ := X.rDL ρ l * X.X2 l
def rP (ρ l : ℕ) : ℝ := X.rDH ρ l * X.rRS ρ
/-- The part of the gate's gradient that passes through the variance. -/
def rQ (ρ l : ℕ) : ℝ := (∑ k : Fin 2048, X.rVC ρ k.val * X.rDH ρ k.val) * (-(1 / 2) * (X.rRS ρ / X.rVA ρ)) / 2048 * (2 * X.rVC ρ l)
def rDU (ρ l : ℕ) : ℝ := X.X1 ρ l * silu (X.X0 ρ (4096 + l)) * X.rST ρ l
def rDG (ρ l : ℕ) : ℝ := X.rP ρ l + X.rQ ρ l + ((∑ k : Fin 2048, -X.rP ρ k.val) + ∑ k : Fin 2048, -X.rQ ρ k.val) / 2048
/-- The gradient at the activation's output, both halves. -/
def rDW (ρ l : ℕ) : ℝ := if l < 2048 then X.rDU ρ l else X.rDG ρ (l - 2048)
def rE (ρ l : ℕ) : ℝ := c0 * (1 / 2 * X.X0 ρ l * X.rDW ρ l * ((1 + gt (X.X0 ρ l)) * (1 - gt (X.X0 ρ l))))
def rUY (ρ l : ℕ) : ℝ := gel (X.X0 ρ l) * X.rST ρ l * X.X1 ρ l
/-- The gradient of the projection. -/
def rDP (ρ l : ℕ) : ℝ :=
  if l < 4096 then X.rE ρ l + 8943 / 200000 * X.rE ρ l * (3 * (X.X0 ρ l * X.X0 ρ l)) + 1 / 2 * (X.rDW ρ l * (1 + gt (X.X0 ρ l)))
  else X.rUY ρ (l - 4096) * sgm (X.X0 ρ l) + X.X0 ρ l * X.rUY ρ (l - 4096) * (sgm (X.X0 ρ l) * (1 - sgm (X.X0 ρ l)))

theorem rVA_pos (ρ : ℕ) : 0 < X.rVA ρ :=
  add_pos_of_nonneg_of_pos (div_nonneg (Finset.sum_nonneg fun _ _ => mul_self_nonneg _) (by norm_num)) eps_pos

end Cert.Sgu.Arr
end
-- ==== Proof.Mask.lean ====
module
public import proofs.«01_k».proof.Proof.Spec
public import proofs.«01_k».proof.Proof.Gen.KernelIdeal.Skeleton
import Idealize.ShloMosaic.Lib.Pipeline.ValueKit

/-! # The block-causal mask

Row `a` of a block may look at column `b` when `b`'s block of 64 is not after `a`'s. The first point masks the mixing weights, the last
their gradient. -/

@[expose] public section
set_option maxRecDepth 16384
noncomputable section
namespace Cert.Sgu
open Idealize.ShloMosaic Cert.KernelIdeal Cert.KernelIdeal.Gen

/-- One slab of the mixing weights, masked as the first point stores it. -/
def mw (v : Vec Ideal S1x128x128 .f32) : Vec Ideal S1x128x128 .bf16 := k0_pay7 k0_pay3 k0_pay4 k0_pay5 v
/-- One slab of the mixing weights' gradient, masked as the last point stores it. -/
def ma (v : Vec Ideal S1x128x128 .f32) : Vec Ideal S1x128x128 .f32 := k0_pay20 k0_pay16 k0_pay17 k0_pay18 v

/-- The printed floored quotient by 64, on a lane number. -/
theorem fd : ∀ a : Fin 128,
    Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 a.val) 64#32) 0#32))
      (IntOp.subi (IntOp.divsi ArithUnit.vector (BitVec.ofNat 32 a.val) 64#32) 1#32)
      (IntOp.divsi ArithUnit.vector (BitVec.ofNat 32 a.val) 64#32) =
    BitVec.ofNat 32 (a.val / 64) := by decide +kernel

/-- The comparison of the two block numbers. -/
theorem cmp_sle (a b : Fin 128) :
    IntOp.cmpi CmpIPredicate.sle (BitVec.ofNat 32 (b.val / 64)) (BitVec.ofNat 32 (a.val / 64)) = if b.val / 64 ≤ a.val / 64 then 1#1 else 0#1 := by
  revert a b; decide +kernel

theorem mw_eq (v : Vec Ideal S1x128x128 .f32) (a b : Fin 128) :
    (mw v (ix3 0 a b) : EReal) = if b.val / 64 ≤ a.val / 64 then v (ix3 0 a b) else 0 := by
  unfold mw
  pointwise [k0_pay7, k0_pay6, k0_pay3, k0_pay4, k0_pay5]
  rw [fd a, fd b, cmp_sle]
  split <;> simp [Scalar.select]

theorem ma_eq (v : Vec Ideal S1x128x128 .f32) (a b : Fin 128) :
    (ma v (ix3 0 a b) : EReal) = if b.val / 64 ≤ a.val / 64 then v (ix3 0 a b) else 0 := by
  unfold ma
  pointwise [k0_pay20, k0_pay19, k0_pay16, k0_pay17, k0_pay18]
  rw [fd a, fd b, cmp_sle]
  split <;> simp [Scalar.select]

end Cert.Sgu

end
-- ==== Proof.OpenA.lean ====
module
public import proofs.«01_k».proof.Proof.Net
public import proofs.«01_k».proof.Proof.Gen.KernelIdeal.Value
import Idealize.ShloMosaic.Lib.Pipeline.ValueKit
import Idealize.ShloMosaic.Lib.Pipeline.ReadBack
public import proofs.«01_k».proof.Proof.OpenB
public import proofs.«01_k».proof.Proof.Mask

/-! # What the first point leaves -/

@[expose] public section
set_option maxRecDepth 16384
set_option maxHeartbeats 4000000
noncomputable section
namespace Cert.Sgu
open Idealize.ShloMosaic Cert.KernelIdeal Cert.KernelIdeal.Gen

/-- What the first point loads: accumulators of zeros, the mixing weights as it masks them. -/
def InA (x0 : Vec Ideal S128x6144 .f32) (x1 : Vec Ideal S128x2048 .bf16) (x2 x3 : Vec Ideal S1x2048 .f32) (x4 : Vec Ideal S8x128x128 .f32) (x5 : Vec Ideal S8x128x1 .f32) : In :=
  ⟨x0,
   x1,
   x2,
   x3,
   x5,
   (mw (View.ld x4 (Rect.unit (s := S8x128x128) ![0, 0, 0] S1x128x128.size inb_S8x128x128_S1x128x128_0_0_0))),
   (mw (View.ld x4 (Rect.unit (s := S8x128x128) ![1, 0, 0] S1x128x128.size inb_S8x128x128_S1x128x128_1_0_0))),
   (mw (View.ld x4 (Rect.unit (s := S8x128x128) ![2, 0, 0] S1x128x128.size inb_S8x128x128_S1x128x128_2_0_0))),
   (mw (View.ld x4 (Rect.unit (s := S8x128x128) ![3, 0, 0] S1x128x128.size inb_S8x128x128_S1x128x128_3_0_0))),
   (mw (View.ld x4 (Rect.unit (s := S8x128x128) ![4, 0, 0] S1x128x128.size inb_S8x128x128_S1x128x128_4_0_0))),
   (mw (View.ld x4 (Rect.unit (s := S8x128x128) ![5, 0, 0] S1x128x128.size inb_S8x128x128_S1x128x128_5_0_0))),
   (mw (View.ld x4 (Rect.unit (s := S8x128x128) ![6, 0, 0] S1x128x128.size inb_S8x128x128_S1x128x128_6_0_0))),
   (mw (View.ld x4 (Rect.unit (s := S8x128x128) ![7, 0, 0] S1x128x128.size inb_S8x128x128_S1x128x128_7_0_0))),
   (View.ld (k0_pay30 (F := Ideal)) (Rect.unit (s := S8x128x128) ![0, 0, 0] S1x128x128.size inb_S8x128x128_S1x128x128_0_0_0)),
   (View.ld (k0_pay30 (F := Ideal)) (Rect.unit (s := S8x128x128) ![1, 0, 0] S1x128x128.size inb_S8x128x128_S1x128x128_1_0_0)),
   (View.ld (k0_pay30 (F := Ideal)) (Rect.unit (s := S8x128x128) ![2, 0, 0] S1x128x128.size inb_S8x128x128_S1x128x128_2_0_0)),
   (View.ld (k0_pay30 (F := Ideal)) (Rect.unit (s := S8x128x128) ![3, 0, 0] S1x128x128.size inb_S8x128x128_S1x128x128_3_0_0)),
   (View.ld (k0_pay30 (F := Ideal)) (Rect.unit (s := S8x128x128) ![4, 0, 0] S1x128x128.size inb_S8x128x128_S1x128x128_4_0_0)),
   (View.ld (k0_pay30 (F := Ideal)) (Rect.unit (s := S8x128x128) ![5, 0, 0] S1x128x128.size inb_S8x128x128_S1x128x128_5_0_0)),
   (View.ld (k0_pay30 (F := Ideal)) (Rect.unit (s := S8x128x128) ![6, 0, 0] S1x128x128.size inb_S8x128x128_S1x128x128_6_0_0)),
   (View.ld (k0_pay30 (F := Ideal)) (Rect.unit (s := S8x128x128) ![7, 0, 0] S1x128x128.size inb_S8x128x128_S1x128x128_7_0_0)),
   (View.ld (k0_pay31 (F := Ideal)) (Rect.unit (s := S8x128x1) ![0, 0, 0] S1x128x1.size inb_S8x128x1_S1x128x1_0_0_0)),
   (View.ld (k0_pay31 (F := Ideal)) (Rect.unit (s := S8x128x1) ![1, 0, 0] S1x128x1.size inb_S8x128x1_S1x128x1_1_0_0)),
   (View.ld (k0_pay31 (F := Ideal)) (Rect.unit (s := S8x128x1) ![2, 0, 0] S1x128x1.size inb_S8x128x1_S1x128x1_2_0_0)),
   (View.ld (k0_pay31 (F := Ideal)) (Rect.unit (s := S8x128x1) ![3, 0, 0] S1x128x1.size inb_S8x128x1_S1x128x1_3_0_0)),
   (View.ld (k0_pay31 (F := Ideal)) (Rect.unit (s := S8x128x1) ![4, 0, 0] S1x128x1.size inb_S8x128x1_S1x128x1_4_0_0)),
   (View.ld (k0_pay31 (F := Ideal)) (Rect.unit (s := S8x128x1) ![5, 0, 0] S1x128x1.size inb_S8x128x1_S1x128x1_5_0_0)),
   (View.ld (k0_pay31 (F := Ideal)) (Rect.unit (s := S8x128x1) ![6, 0, 0] S1x128x1.size inb_S8x128x1_S1x128x1_6_0_0)),
   (View.ld (k0_pay31 (F := Ideal)) (Rect.unit (s := S8x128x1) ![7, 0, 0] S1x128x1.size inb_S8x128x1_S1x128x1_7_0_0)),
   (View.ld (k0_pay32 (F := Ideal)) (Rect.unit (s := S1x2048) ![0, 0] S1x256.size inb_S1x2048_S1x256_0_0)),
   (View.ld (k0_pay32 (F := Ideal)) (Rect.unit (s := S1x2048) ![0, 256] S1x256.size inb_S1x2048_S1x256_0_256)),
   (View.ld (k0_pay32 (F := Ideal)) (Rect.unit (s := S1x2048) ![0, 512] S1x256.size inb_S1x2048_S1x256_0_512)),
   (View.ld (k0_pay32 (F := Ideal)) (Rect.unit (s := S1x2048) ![0, 768] S1x256.size inb_S1x2048_S1x256_0_768)),
   (View.ld (k0_pay32 (F := Ideal)) (Rect.unit (s := S1x2048) ![0, 1024] S1x256.size inb_S1x2048_S1x256_0_1024)),
   (View.ld (k0_pay32 (F := Ideal)) (Rect.unit (s := S1x2048) ![0, 1280] S1x256.size inb_S1x2048_S1x256_0_1280)),
   (View.ld (k0_pay32 (F := Ideal)) (Rect.unit (s := S1x2048) ![0, 1536] S1x256.size inb_S1x2048_S1x256_0_1536)),
   (View.ld (k0_pay32 (F := Ideal)) (Rect.unit (s := S1x2048) ![0, 1792] S1x256.size inb_S1x2048_S1x256_0_1792)),
   (View.ld (k0_pay33 (F := Ideal)) (Rect.unit (s := S1x2048) ![0, 0] S1x256.size inb_S1x2048_S1x256_0_0)),
   (View.ld (k0_pay33 (F := Ideal)) (Rect.unit (s := S1x2048) ![0, 256] S1x256.size inb_S1x2048_S1x256_0_256)),
   (View.ld (k0_pay33 (F := Ideal)) (Rect.unit (s := S1x2048) ![0, 512] S1x256.size inb_S1x2048_S1x256_0_512)),
   (View.ld (k0_pay33 (F := Ideal)) (Rect.unit (s := S1x2048) ![0, 768] S1x256.size inb_S1x2048_S1x256_0_768)),
   (View.ld (k0_pay33 (F := Ideal)) (Rect.unit (s := S1x2048) ![0, 1024] S1x256.size inb_S1x2048_S1x256_0_1024)),
   (View.ld (k0_pay33 (F := Ideal)) (Rect.unit (s := S1x2048) ![0, 1280] S1x256.size inb_S1x2048_S1x256_0_1280)),
   (View.ld (k0_pay33 (F := Ideal)) (Rect.unit (s := S1x2048) ![0, 1536] S1x256.size inb_S1x2048_S1x256_0_1536)),
   (View.ld (k0_pay33 (F := Ideal)) (Rect.unit (s := S1x2048) ![0, 1792] S1x256.size inb_S1x2048_S1x256_0_1792))⟩

theorem ld_slab (v : Vec Ideal S8x128x128 .f32) (o : ℕ) (inb : ∀ a, (![o, 0, 0] : Fin 3 → ℕ) a + S1x128x128.size a ≤ S8x128x128.size a) (ho : o < 8) (a b : Fin 128) :
    View.ld v (Rect.unit (s := S8x128x128) ![o, 0, 0] S1x128x128.size inb) (ix3 0 a b) = v (ix3 ⟨o, ho⟩ a b) := by
  refine congrArg v (funext fun q => Fin.ext ?_)
  fin_cases q <;> simp [Rect.unit, ix3, LoadRect.idx, Rect.toLoadRect]

theorem mw_slab (v : Vec Ideal S8x128x128 .f32) (o : ℕ) (inb : ∀ a, (![o, 0, 0] : Fin 3 → ℕ) a + S1x128x128.size a ≤ S8x128x128.size a) (ho : o < 8) (x : S1x128x128.Idx) :
    (mw (View.ld v (Rect.unit (s := S8x128x128) ![o, 0, 0] S1x128x128.size inb)) x : EReal) = if (x 2).val / 64 ≤ (x 1).val / 64 then v (ix3 ⟨o, ho⟩ (x 1) (x 2)) else 0 := by
  have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
  have h := mw_eq (View.ld v (Rect.unit (s := S8x128x128) ![o, 0, 0] S1x128x128.size inb)) (x 1) (x 2)
  rw [hx]
  exact h.trans (congrArg (fun z : EReal => if (show Fin 128 from x 2).val / 64 ≤ (show Fin 128 from x 1).val / 64 then z else 0) (ld_slab v o inb ho (x 1) (x 2)))

theorem sout0_A_0_eq (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : cond0_0 i) (hc1 : ¬cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32) (g : Fin 8) (r b : Fin 128) :
    (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 (ix3 g r b) : EReal) = if b.val / 64 ≤ r.val / 64 then x4 (ix3 g r b) else 0 := by
  frame_open
  simp (disch := decide) only [↓ View.readCov_skip, ↓ View.readCov_cons_toLoadRect, ↓ View.readCov_fill]
  frame_out
  canon_tiles x h
  · obtain rfl : g = 7 := Fin.ext (by have h0 : g.val = _ := h0; have := (x 0).isLt; omega)
    obtain rfl : r = x 1 := Fin.ext h1
    obtain rfl : b = x 2 := Fin.ext h2
    exact mw_slab x4 7 inb_S8x128x128_S1x128x128_7_0_0 (by omega) x
  · obtain rfl : g = 6 := Fin.ext (by have h0 : g.val = _ := h0; have := (x 0).isLt; omega)
    obtain rfl : r = x 1 := Fin.ext h1
    obtain rfl : b = x 2 := Fin.ext h2
    exact mw_slab x4 6 inb_S8x128x128_S1x128x128_6_0_0 (by omega) x
  · obtain rfl : g = 5 := Fin.ext (by have h0 : g.val = _ := h0; have := (x 0).isLt; omega)
    obtain rfl : r = x 1 := Fin.ext h1
    obtain rfl : b = x 2 := Fin.ext h2
    exact mw_slab x4 5 inb_S8x128x128_S1x128x128_5_0_0 (by omega) x
  · obtain rfl : g = 4 := Fin.ext (by have h0 : g.val = _ := h0; have := (x 0).isLt; omega)
    obtain rfl : r = x 1 := Fin.ext h1
    obtain rfl : b = x 2 := Fin.ext h2
    exact mw_slab x4 4 inb_S8x128x128_S1x128x128_4_0_0 (by omega) x
  · obtain rfl : g = 3 := Fin.ext (by have h0 : g.val = _ := h0; have := (x 0).isLt; omega)
    obtain rfl : r = x 1 := Fin.ext h1
    obtain rfl : b = x 2 := Fin.ext h2
    exact mw_slab x4 3 inb_S8x128x128_S1x128x128_3_0_0 (by omega) x
  · obtain rfl : g = 2 := Fin.ext (by have h0 : g.val = _ := h0; have := (x 0).isLt; omega)
    obtain rfl : r = x 1 := Fin.ext h1
    obtain rfl : b = x 2 := Fin.ext h2
    exact mw_slab x4 2 inb_S8x128x128_S1x128x128_2_0_0 (by omega) x
  · obtain rfl : g = 1 := Fin.ext (by have h0 : g.val = _ := h0; have := (x 0).isLt; omega)
    obtain rfl : r = x 1 := Fin.ext h1
    obtain rfl : b = x 2 := Fin.ext h2
    exact mw_slab x4 1 inb_S8x128x128_S1x128x128_1_0_0 (by omega) x
  · obtain rfl : g = 0 := Fin.ext (by have h0 : g.val = _ := h0; have := (x 0).isLt; omega)
    obtain rfl : r = x 1 := Fin.ext h1
    obtain rfl : b = x 2 := Fin.ext h2
    exact mw_slab x4 0 inb_S8x128x128_S1x128x128_0_0_0 (by omega) x

theorem out0_A_6_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : cond0_0 i) (hc1 : ¬cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32)
    (H : Holds d e (InA x0 x1 x2 x3 x4 x5)) (r : Fin 128) (l : Fin 6144) :
    (out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 (ix2 r l) : EReal) = ((d.DP r l.val : ℝ) : EReal) := by
  frame_open
  simp (disch := decide) only [↓ View.readCov_skip, ↓ View.readCov_cons_toLoadRect, ↓ View.readCov_fill]
  frame_out
  canon_tiles x h
  · have h1 : l.val = 3840 + (x 1).val := h1
    obtain rfl : r = x 0 := Fin.ext h0
    rw [eq_ix2 (n0 := 128) (n1 := 256) x]
    have hl : (x 1).val < 256 := (x 1).isLt
    exact pv (a1544 H (x 0) (x 1)) _ (by omega) (by omega) (by omega)
  · have h1 : l.val = 3584 + (x 1).val := h1
    obtain rfl : r = x 0 := Fin.ext h0
    rw [eq_ix2 (n0 := 128) (n1 := 256) x]
    have hl : (x 1).val < 256 := (x 1).isLt
    exact pv (a1527 H (x 0) (x 1)) _ (by omega) (by omega) (by omega)
  · have h1 : l.val = 3328 + (x 1).val := h1
    obtain rfl : r = x 0 := Fin.ext h0
    rw [eq_ix2 (n0 := 128) (n1 := 256) x]
    have hl : (x 1).val < 256 := (x 1).isLt
    exact pv (a1510 H (x 0) (x 1)) _ (by omega) (by omega) (by omega)
  · have h1 : l.val = 3072 + (x 1).val := h1
    obtain rfl : r = x 0 := Fin.ext h0
    rw [eq_ix2 (n0 := 128) (n1 := 256) x]
    have hl : (x 1).val < 256 := (x 1).isLt
    exact pv (a1493 H (x 0) (x 1)) _ (by omega) (by omega) (by omega)
  · have h1 : l.val = 2816 + (x 1).val := h1
    obtain rfl : r = x 0 := Fin.ext h0
    rw [eq_ix2 (n0 := 128) (n1 := 256) x]
    have hl : (x 1).val < 256 := (x 1).isLt
    exact pv (a1476 H (x 0) (x 1)) _ (by omega) (by omega) (by omega)
  · have h1 : l.val = 2560 + (x 1).val := h1
    obtain rfl : r = x 0 := Fin.ext h0
    rw [eq_ix2 (n0 := 128) (n1 := 256) x]
    have hl : (x 1).val < 256 := (x 1).isLt
    exact pv (a1459 H (x 0) (x 1)) _ (by omega) (by omega) (by omega)
  · have h1 : l.val = 2304 + (x 1).val := h1
    obtain rfl : r = x 0 := Fin.ext h0
    rw [eq_ix2 (n0 := 128) (n1 := 256) x]
    have hl : (x 1).val < 256 := (x 1).isLt
    exact pv (a1442 H (x 0) (x 1)) _ (by omega) (by omega) (by omega)
  · have h1 : l.val = 2048 + (x 1).val := h1
    obtain rfl : r = x 0 := Fin.ext h0
    rw [eq_ix2 (n0 := 128) (n1 := 256) x]
    have hl : (x 1).val < 256 := (x 1).isLt
    exact pv (a1425 H (x 0) (x 1)) _ (by omega) (by omega) (by omega)
  · have h1 : l.val = 5888 + (x 1).val := h1
    obtain rfl : r = x 0 := Fin.ext h0
    rw [eq_ix2 (n0 := 128) (n1 := 256) x]
    have hl : (x 1).val < 256 := (x 1).isLt
    exact pg (a1358 H (x 0) (x 1)) _ (by omega) (by omega) (by omega)
  · have h1 : l.val = 1792 + (x 1).val := h1
    obtain rfl : r = x 0 := Fin.ext h0
    rw [eq_ix2 (n0 := 128) (n1 := 256) x]
    have hl : (x 1).val < 256 := (x 1).isLt
    exact pu (a1353 H (x 0) (x 1)) _ h1 (by omega) (by omega)
  · have h1 : l.val = 5632 + (x 1).val := h1
    obtain rfl : r = x 0 := Fin.ext h0
    rw [eq_ix2 (n0 := 128) (n1 := 256) x]
    have hl : (x 1).val < 256 := (x 1).isLt
    exact pg (a1233 H (x 0) (x 1)) _ (by omega) (by omega) (by omega)
  · have h1 : l.val = 1536 + (x 1).val := h1
    obtain rfl : r = x 0 := Fin.ext h0
    rw [eq_ix2 (n0 := 128) (n1 := 256) x]
    have hl : (x 1).val < 256 := (x 1).isLt
    exact pu (a1228 H (x 0) (x 1)) _ h1 (by omega) (by omega)
  · have h1 : l.val = 5376 + (x 1).val := h1
    obtain rfl : r = x 0 := Fin.ext h0
    rw [eq_ix2 (n0 := 128) (n1 := 256) x]
    have hl : (x 1).val < 256 := (x 1).isLt
    exact pg (a1108 H (x 0) (x 1)) _ (by omega) (by omega) (by omega)
  · have h1 : l.val = 1280 + (x 1).val := h1
    obtain rfl : r = x 0 := Fin.ext h0
    rw [eq_ix2 (n0 := 128) (n1 := 256) x]
    have hl : (x 1).val < 256 := (x 1).isLt
    exact pu (a1103 H (x 0) (x 1)) _ h1 (by omega) (by omega)
  · have h1 : l.val = 5120 + (x 1).val := h1
    obtain rfl : r = x 0 := Fin.ext h0
    rw [eq_ix2 (n0 := 128) (n1 := 256) x]
    have hl : (x 1).val < 256 := (x 1).isLt
    exact pg (a983 H (x 0) (x 1)) _ (by omega) (by omega) (by omega)
  · have h1 : l.val = 1024 + (x 1).val := h1
    obtain rfl : r = x 0 := Fin.ext h0
    rw [eq_ix2 (n0 := 128) (n1 := 256) x]
    have hl : (x 1).val < 256 := (x 1).isLt
    exact pu (a978 H (x 0) (x 1)) _ h1 (by omega) (by omega)
  · have h1 : l.val = 4864 + (x 1).val := h1
    obtain rfl : r = x 0 := Fin.ext h0
    rw [eq_ix2 (n0 := 128) (n1 := 256) x]
    have hl : (x 1).val < 256 := (x 1).isLt
    exact pg (a858 H (x 0) (x 1)) _ (by omega) (by omega) (by omega)
  · have h1 : l.val = 768 + (x 1).val := h1
    obtain rfl : r = x 0 := Fin.ext h0
    rw [eq_ix2 (n0 := 128) (n1 := 256) x]
    have hl : (x 1).val < 256 := (x 1).isLt
    exact pu (a853 H (x 0) (x 1)) _ h1 (by omega) (by omega)
  · have h1 : l.val = 4608 + (x 1).val := h1
    obtain rfl : r = x 0 := Fin.ext h0
    rw [eq_ix2 (n0 := 128) (n1 := 256) x]
    have hl : (x 1).val < 256 := (x 1).isLt
    exact pg (a733 H (x 0) (x 1)) _ (by omega) (by omega) (by omega)
  · have h1 : l.val = 512 + (x 1).val := h1
    obtain rfl : r = x 0 := Fin.ext h0
    rw [eq_ix2 (n0 := 128) (n1 := 256) x]
    have hl : (x 1).val < 256 := (x 1).isLt
    exact pu (a728 H (x 0) (x 1)) _ h1 (by omega) (by omega)
  · have h1 : l.val = 4352 + (x 1).val := h1
    obtain rfl : r = x 0 := Fin.ext h0
    rw [eq_ix2 (n0 := 128) (n1 := 256) x]
    have hl : (x 1).val < 256 := (x 1).isLt
    exact pg (a608 H (x 0) (x 1)) _ (by omega) (by omega) (by omega)
  · have h1 : l.val = 256 + (x 1).val := h1
    obtain rfl : r = x 0 := Fin.ext h0
    rw [eq_ix2 (n0 := 128) (n1 := 256) x]
    have hl : (x 1).val < 256 := (x 1).isLt
    exact pu (a603 H (x 0) (x 1)) _ h1 (by omega) (by omega)
  · have h1 : l.val = 4096 + (x 1).val := h1
    obtain rfl : r = x 0 := Fin.ext h0
    rw [eq_ix2 (n0 := 128) (n1 := 256) x]
    have hl : (x 1).val < 256 := (x 1).isLt
    exact pg (a483 H (x 0) (x 1)) _ (by omega) (by omega) (by omega)
  · have h1 : l.val = (x 1).val := h1
    obtain rfl : r = x 0 := Fin.ext h0
    rw [eq_ix2 (n0 := 128) (n1 := 256) x]
    have hl : (x 1).val < 256 := (x 1).isLt
    exact pu (a478 H (x 0) (x 1)) _ h1 (by omega) (by omega)

theorem out0_A_7_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : cond0_0 i) (hc1 : ¬cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32)
    (H : Holds d e (InA x0 x1 x2 x3 x4 x5)) (g : Fin 8) (r b : Fin 128) :
    (out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 (ix3 g r b) : EReal) = ((e.A7 g.val r b + d.DWS g.val r b : ℝ) : EReal) := by
  frame_open
  simp (disch := decide) only [↓ View.readCov_skip, ↓ View.readCov_cons_toLoadRect, ↓ View.readCov_fill]
  frame_out
  refine Eq.trans (canon8 _ _ _ _ _ _ _ _ _ _ ?_) ?_
  · refine View.cover_of_tiledL (s := S8x128x128) _ S1x128x128.size ?_ _
    rfl
  canon_tiles x h
  · obtain rfl : g = 7 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a1369 H (x 1) (x 2)
  · obtain rfl : g = 6 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a1244 H (x 1) (x 2)
  · obtain rfl : g = 5 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a1119 H (x 1) (x 2)
  · obtain rfl : g = 4 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a994 H (x 1) (x 2)
  · obtain rfl : g = 3 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a869 H (x 1) (x 2)
  · obtain rfl : g = 2 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a744 H (x 1) (x 2)
  · obtain rfl : g = 1 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a619 H (x 1) (x 2)
  · obtain rfl : g = 0 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    exact a494 H (x 1) (x 2)

theorem out0_A_8_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : cond0_0 i) (hc1 : ¬cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32)
    (H : Holds d e (InA x0 x1 x2 x3 x4 x5)) (g : Fin 8) (r : Fin 128) :
    (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 (ix3 g r 0) : EReal) = ((e.A8 g.val r + d.DBS g.val r : ℝ) : EReal) := by
  frame_open
  simp (disch := decide) only [↓ View.readCov_skip, ↓ View.readCov_cons_toLoadRect, ↓ View.readCov_fill]
  frame_out
  refine Eq.trans (canon8 _ _ _ _ _ _ _ _ _ _ ?_) ?_
  · refine View.cover_of_tiledL (s := S8x128x1) _ S1x128x1.size ?_ _
    rfl
  canon_tiles x h
  · obtain rfl : g = 7 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a1377 H (x 1)
  · obtain rfl : g = 6 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a1252 H (x 1)
  · obtain rfl : g = 5 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a1127 H (x 1)
  · obtain rfl : g = 4 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a1002 H (x 1)
  · obtain rfl : g = 3 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a877 H (x 1)
  · obtain rfl : g = 2 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a752 H (x 1)
  · obtain rfl : g = 1 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a627 H (x 1)
  · obtain rfl : g = 0 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a502 H (x 1)

theorem out0_A_9_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : cond0_0 i) (hc1 : ¬cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32)
    (H : Holds d e (InA x0 x1 x2 x3 x4 x5)) (l : Fin 2048) :
    (out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 (ix2 0 l) : EReal) = ((e.A9 l.val + d.DLG (l.val / 256) l.val : ℝ) : EReal) := by
  frame_open
  simp (disch := decide) only [↓ View.readCov_skip, ↓ View.readCov_cons_toLoadRect, ↓ View.readCov_fill]
  frame_out
  refine Eq.trans (canon8 _ _ _ _ _ _ _ _ _ _ ?_) ?_
  · refine View.cover_of_tiledL (s := S1x2048) _ S1x256.size ?_ _
    rfl
  canon_tiles x h
  · have h1 : l.val = 1792 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a1386 H (x 1)) _ h1 (by have : (x 1).val < 256 := (x 1).isLt; omega)
  · have h1 : l.val = 1536 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a1261 H (x 1)) _ h1 (by have : (x 1).val < 256 := (x 1).isLt; omega)
  · have h1 : l.val = 1280 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a1136 H (x 1)) _ h1 (by have : (x 1).val < 256 := (x 1).isLt; omega)
  · have h1 : l.val = 1024 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a1011 H (x 1)) _ h1 (by have : (x 1).val < 256 := (x 1).isLt; omega)
  · have h1 : l.val = 768 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a886 H (x 1)) _ h1 (by have : (x 1).val < 256 := (x 1).isLt; omega)
  · have h1 : l.val = 512 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a761 H (x 1)) _ h1 (by have : (x 1).val < 256 := (x 1).isLt; omega)
  · have h1 : l.val = 256 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a636 H (x 1)) _ h1 (by have : (x 1).val < 256 := (x 1).isLt; omega)
  · have h1 : l.val = (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a511 H (x 1)) _ h1 (by have : (x 1).val < 256 := (x 1).isLt; omega)

theorem out0_A_10_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : cond0_0 i) (hc1 : ¬cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32)
    (H : Holds d e (InA x0 x1 x2 x3 x4 x5)) (l : Fin 2048) :
    (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 (ix2 0 l) : EReal) = ((e.A10 l.val + d.DLB (l.val / 256) l.val : ℝ) : EReal) := by
  frame_open
  simp (disch := decide) only [↓ View.readCov_skip, ↓ View.readCov_cons_toLoadRect, ↓ View.readCov_fill]
  frame_out
  refine Eq.trans (canon8 _ _ _ _ _ _ _ _ _ _ ?_) ?_
  · refine View.cover_of_tiledL (s := S1x2048) _ S1x256.size ?_ _
    rfl
  canon_tiles x h
  · have h1 : l.val = 1792 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a1392 H (x 1)) _ h1 (by have : (x 1).val < 256 := (x 1).isLt; omega)
  · have h1 : l.val = 1536 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a1267 H (x 1)) _ h1 (by have : (x 1).val < 256 := (x 1).isLt; omega)
  · have h1 : l.val = 1280 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a1142 H (x 1)) _ h1 (by have : (x 1).val < 256 := (x 1).isLt; omega)
  · have h1 : l.val = 1024 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a1017 H (x 1)) _ h1 (by have : (x 1).val < 256 := (x 1).isLt; omega)
  · have h1 : l.val = 768 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a892 H (x 1)) _ h1 (by have : (x 1).val < 256 := (x 1).isLt; omega)
  · have h1 : l.val = 512 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a767 H (x 1)) _ h1 (by have : (x 1).val < 256 := (x 1).isLt; omega)
  · have h1 : l.val = 256 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a642 H (x 1)) _ h1 (by have : (x 1).val < 256 := (x 1).isLt; omega)
  · have h1 : l.val = (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a517 H (x 1)) _ h1 (by have : (x 1).val < 256 := (x 1).isLt; omega)

end Cert.Sgu

end
-- ==== Proof.OpenC.lean ====
module
public import proofs.«01_k».proof.Proof.Net
public import proofs.«01_k».proof.Proof.Gen.KernelIdeal.Value
import Idealize.ShloMosaic.Lib.Pipeline.ValueKit
import Idealize.ShloMosaic.Lib.Pipeline.ReadBack
public import proofs.«01_k».proof.Proof.OpenB
public import proofs.«01_k».proof.Proof.Mask

/-! # What the last point leaves -/

@[expose] public section
set_option maxRecDepth 16384
set_option maxHeartbeats 4000000
noncomputable section
namespace Cert.Sgu
open Idealize.ShloMosaic Cert.KernelIdeal Cert.KernelIdeal.Gen

theorem out0_C_6_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : ¬cond0_0 i) (hc1 : cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32) (xo7 : Vec Ideal S8x128x128 .f32) (xo8 : Vec Ideal S8x128x1 .f32) (xo9 : Vec Ideal S1x2048 .f32) (xo10 : Vec Ideal S1x2048 .f32) (xs0 : Vec Ideal S8x128x128 .bf16)
    (H : Holds d e (InB x0 x1 x2 x3 x5 xo7 xo8 xo9 xo10 xs0)) (r : Fin 128) (l : Fin 6144) :
    (out0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xo9 xo10 xs0 (ix2 r l) : EReal) = ((d.DP r l.val : ℝ) : EReal) := by
  frame_open
  simp (disch := decide) only [↓ View.readCov_skip, ↓ View.readCov_cons_toLoadRect, ↓ View.readCov_fill]
  frame_out
  canon_tiles x h
  · have h1 : l.val = 3840 + (x 1).val := h1
    obtain rfl : r = x 0 := Fin.ext h0
    rw [eq_ix2 (n0 := 128) (n1 := 256) x]
    have hl : (x 1).val < 256 := (x 1).isLt
    exact pv (a1544 H (x 0) (x 1)) _ (by omega) (by omega) (by omega)
  · have h1 : l.val = 3584 + (x 1).val := h1
    obtain rfl : r = x 0 := Fin.ext h0
    rw [eq_ix2 (n0 := 128) (n1 := 256) x]
    have hl : (x 1).val < 256 := (x 1).isLt
    exact pv (a1527 H (x 0) (x 1)) _ (by omega) (by omega) (by omega)
  · have h1 : l.val = 3328 + (x 1).val := h1
    obtain rfl : r = x 0 := Fin.ext h0
    rw [eq_ix2 (n0 := 128) (n1 := 256) x]
    have hl : (x 1).val < 256 := (x 1).isLt
    exact pv (a1510 H (x 0) (x 1)) _ (by omega) (by omega) (by omega)
  · have h1 : l.val = 3072 + (x 1).val := h1
    obtain rfl : r = x 0 := Fin.ext h0
    rw [eq_ix2 (n0 := 128) (n1 := 256) x]
    have hl : (x 1).val < 256 := (x 1).isLt
    exact pv (a1493 H (x 0) (x 1)) _ (by omega) (by omega) (by omega)
  · have h1 : l.val = 2816 + (x 1).val := h1
    obtain rfl : r = x 0 := Fin.ext h0
    rw [eq_ix2 (n0 := 128) (n1 := 256) x]
    have hl : (x 1).val < 256 := (x 1).isLt
    exact pv (a1476 H (x 0) (x 1)) _ (by omega) (by omega) (by omega)
  · have h1 : l.val = 2560 + (x 1).val := h1
    obtain rfl : r = x 0 := Fin.ext h0
    rw [eq_ix2 (n0 := 128) (n1 := 256) x]
    have hl : (x 1).val < 256 := (x 1).isLt
    exact pv (a1459 H (x 0) (x 1)) _ (by omega) (by omega) (by omega)
  · have h1 : l.val = 2304 + (x 1).val := h1
    obtain rfl : r = x 0 := Fin.ext h0
    rw [eq_ix2 (n0 := 128) (n1 := 256) x]
    have hl : (x 1).val < 256 := (x 1).isLt
    exact pv (a1442 H (x 0) (x 1)) _ (by omega) (by omega) (by omega)
  · have h1 : l.val = 2048 + (x 1).val := h1
    obtain rfl : r = x 0 := Fin.ext h0
    rw [eq_ix2 (n0 := 128) (n1 := 256) x]
    have hl : (x 1).val < 256 := (x 1).isLt
    exact pv (a1425 H (x 0) (x 1)) _ (by omega) (by omega) (by omega)
  · have h1 : l.val = 5888 + (x 1).val := h1
    obtain rfl : r = x 0 := Fin.ext h0
    rw [eq_ix2 (n0 := 128) (n1 := 256) x]
    have hl : (x 1).val < 256 := (x 1).isLt
    exact pg (a1358 H (x 0) (x 1)) _ (by omega) (by omega) (by omega)
  · have h1 : l.val = 1792 + (x 1).val := h1
    obtain rfl : r = x 0 := Fin.ext h0
    rw [eq_ix2 (n0 := 128) (n1 := 256) x]
    have hl : (x 1).val < 256 := (x 1).isLt
    exact pu (a1353 H (x 0) (x 1)) _ h1 (by omega) (by omega)
  · have h1 : l.val = 5632 + (x 1).val := h1
    obtain rfl : r = x 0 := Fin.ext h0
    rw [eq_ix2 (n0 := 128) (n1 := 256) x]
    have hl : (x 1).val < 256 := (x 1).isLt
    exact pg (a1233 H (x 0) (x 1)) _ (by omega) (by omega) (by omega)
  · have h1 : l.val = 1536 + (x 1).val := h1
    obtain rfl : r = x 0 := Fin.ext h0
    rw [eq_ix2 (n0 := 128) (n1 := 256) x]
    have hl : (x 1).val < 256 := (x 1).isLt
    exact pu (a1228 H (x 0) (x 1)) _ h1 (by omega) (by omega)
  · have h1 : l.val = 5376 + (x 1).val := h1
    obtain rfl : r = x 0 := Fin.ext h0
    rw [eq_ix2 (n0 := 128) (n1 := 256) x]
    have hl : (x 1).val < 256 := (x 1).isLt
    exact pg (a1108 H (x 0) (x 1)) _ (by omega) (by omega) (by omega)
  · have h1 : l.val = 1280 + (x 1).val := h1
    obtain rfl : r = x 0 := Fin.ext h0
    rw [eq_ix2 (n0 := 128) (n1 := 256) x]
    have hl : (x 1).val < 256 := (x 1).isLt
    exact pu (a1103 H (x 0) (x 1)) _ h1 (by omega) (by omega)
  · have h1 : l.val = 5120 + (x 1).val := h1
    obtain rfl : r = x 0 := Fin.ext h0
    rw [eq_ix2 (n0 := 128) (n1 := 256) x]
    have hl : (x 1).val < 256 := (x 1).isLt
    exact pg (a983 H (x 0) (x 1)) _ (by omega) (by omega) (by omega)
  · have h1 : l.val = 1024 + (x 1).val := h1
    obtain rfl : r = x 0 := Fin.ext h0
    rw [eq_ix2 (n0 := 128) (n1 := 256) x]
    have hl : (x 1).val < 256 := (x 1).isLt
    exact pu (a978 H (x 0) (x 1)) _ h1 (by omega) (by omega)
  · have h1 : l.val = 4864 + (x 1).val := h1
    obtain rfl : r = x 0 := Fin.ext h0
    rw [eq_ix2 (n0 := 128) (n1 := 256) x]
    have hl : (x 1).val < 256 := (x 1).isLt
    exact pg (a858 H (x 0) (x 1)) _ (by omega) (by omega) (by omega)
  · have h1 : l.val = 768 + (x 1).val := h1
    obtain rfl : r = x 0 := Fin.ext h0
    rw [eq_ix2 (n0 := 128) (n1 := 256) x]
    have hl : (x 1).val < 256 := (x 1).isLt
    exact pu (a853 H (x 0) (x 1)) _ h1 (by omega) (by omega)
  · have h1 : l.val = 4608 + (x 1).val := h1
    obtain rfl : r = x 0 := Fin.ext h0
    rw [eq_ix2 (n0 := 128) (n1 := 256) x]
    have hl : (x 1).val < 256 := (x 1).isLt
    exact pg (a733 H (x 0) (x 1)) _ (by omega) (by omega) (by omega)
  · have h1 : l.val = 512 + (x 1).val := h1
    obtain rfl : r = x 0 := Fin.ext h0
    rw [eq_ix2 (n0 := 128) (n1 := 256) x]
    have hl : (x 1).val < 256 := (x 1).isLt
    exact pu (a728 H (x 0) (x 1)) _ h1 (by omega) (by omega)
  · have h1 : l.val = 4352 + (x 1).val := h1
    obtain rfl : r = x 0 := Fin.ext h0
    rw [eq_ix2 (n0 := 128) (n1 := 256) x]
    have hl : (x 1).val < 256 := (x 1).isLt
    exact pg (a608 H (x 0) (x 1)) _ (by omega) (by omega) (by omega)
  · have h1 : l.val = 256 + (x 1).val := h1
    obtain rfl : r = x 0 := Fin.ext h0
    rw [eq_ix2 (n0 := 128) (n1 := 256) x]
    have hl : (x 1).val < 256 := (x 1).isLt
    exact pu (a603 H (x 0) (x 1)) _ h1 (by omega) (by omega)
  · have h1 : l.val = 4096 + (x 1).val := h1
    obtain rfl : r = x 0 := Fin.ext h0
    rw [eq_ix2 (n0 := 128) (n1 := 256) x]
    have hl : (x 1).val < 256 := (x 1).isLt
    exact pg (a483 H (x 0) (x 1)) _ (by omega) (by omega) (by omega)
  · have h1 : l.val = (x 1).val := h1
    obtain rfl : r = x 0 := Fin.ext h0
    rw [eq_ix2 (n0 := 128) (n1 := 256) x]
    have hl : (x 1).val < 256 := (x 1).isLt
    exact pu (a478 H (x 0) (x 1)) _ h1 (by omega) (by omega)

theorem out0_C_7_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : ¬cond0_0 i) (hc1 : cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32) (xo7 : Vec Ideal S8x128x128 .f32) (xo8 : Vec Ideal S8x128x1 .f32) (xo9 : Vec Ideal S1x2048 .f32) (xo10 : Vec Ideal S1x2048 .f32) (xs0 : Vec Ideal S8x128x128 .bf16)
    (H : Holds d e (InB x0 x1 x2 x3 x5 xo7 xo8 xo9 xo10 xs0)) (g : Fin 8) (r b : Fin 128) :
    (out0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xo9 xo10 xs0 (ix3 g r b) : EReal) = if b.val / 64 ≤ r.val / 64 then ((e.A7 g.val r b + d.DWS g.val r b : ℝ) : EReal) else 0 := by
  frame_open
  simp (disch := decide) only [↓ View.readCov_skip, ↓ View.readCov_cons_toLoadRect, ↓ View.readCov_fill]
  frame_out
  refine Eq.trans (canon8 _ _ _ _ _ _ _ _ _ _ ?_) ?_
  · refine View.cover_of_tiledL (s := S8x128x128) _ S1x128x128.size ?_ _
    rfl
  canon_tiles x h
  · obtain rfl : g = 7 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    refine (ma_eq (w1369 (InB x0 x1 x2 x3 x5 xo7 xo8 xo9 xo10 xs0)) (x 1) (x 2)).trans ?_
    exact congrArg (fun z : EReal => if (show Fin 128 from x 2).val / 64 ≤ (show Fin 128 from x 1).val / 64 then z else 0) (a1369 H (x 1) (x 2))
  · obtain rfl : g = 6 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    refine (ma_eq (w1244 (InB x0 x1 x2 x3 x5 xo7 xo8 xo9 xo10 xs0)) (x 1) (x 2)).trans ?_
    exact congrArg (fun z : EReal => if (show Fin 128 from x 2).val / 64 ≤ (show Fin 128 from x 1).val / 64 then z else 0) (a1244 H (x 1) (x 2))
  · obtain rfl : g = 5 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    refine (ma_eq (w1119 (InB x0 x1 x2 x3 x5 xo7 xo8 xo9 xo10 xs0)) (x 1) (x 2)).trans ?_
    exact congrArg (fun z : EReal => if (show Fin 128 from x 2).val / 64 ≤ (show Fin 128 from x 1).val / 64 then z else 0) (a1119 H (x 1) (x 2))
  · obtain rfl : g = 4 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    refine (ma_eq (w994 (InB x0 x1 x2 x3 x5 xo7 xo8 xo9 xo10 xs0)) (x 1) (x 2)).trans ?_
    exact congrArg (fun z : EReal => if (show Fin 128 from x 2).val / 64 ≤ (show Fin 128 from x 1).val / 64 then z else 0) (a994 H (x 1) (x 2))
  · obtain rfl : g = 3 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    refine (ma_eq (w869 (InB x0 x1 x2 x3 x5 xo7 xo8 xo9 xo10 xs0)) (x 1) (x 2)).trans ?_
    exact congrArg (fun z : EReal => if (show Fin 128 from x 2).val / 64 ≤ (show Fin 128 from x 1).val / 64 then z else 0) (a869 H (x 1) (x 2))
  · obtain rfl : g = 2 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    refine (ma_eq (w744 (InB x0 x1 x2 x3 x5 xo7 xo8 xo9 xo10 xs0)) (x 1) (x 2)).trans ?_
    exact congrArg (fun z : EReal => if (show Fin 128 from x 2).val / 64 ≤ (show Fin 128 from x 1).val / 64 then z else 0) (a744 H (x 1) (x 2))
  · obtain rfl : g = 1 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    refine (ma_eq (w619 (InB x0 x1 x2 x3 x5 xo7 xo8 xo9 xo10 xs0)) (x 1) (x 2)).trans ?_
    exact congrArg (fun z : EReal => if (show Fin 128 from x 2).val / 64 ≤ (show Fin 128 from x 1).val / 64 then z else 0) (a619 H (x 1) (x 2))
  · obtain rfl : g = 0 := Fin.ext (by have h0 : g.val = _ := h0; have := (x 0).isLt; omega)
    obtain rfl : r = x 1 := Fin.ext h1
    obtain rfl : b = x 2 := Fin.ext h2
    have hx : x = ix3 (n0 := 1) (n1 := 128) (n2 := 128) 0 (x 1) (x 2) := (eq_ix3 (n0 := 1) (n1 := 128) (n2 := 128) x).trans (congrArg (fun q => ix3 q (x 1) (x 2)) (Subsingleton.elim (α := Fin 1) _ _))
    rw [hx]
    refine (ma_eq (w494 (InB x0 x1 x2 x3 x5 xo7 xo8 xo9 xo10 xs0)) (x 1) (x 2)).trans ?_
    exact congrArg (fun z : EReal => if (show Fin 128 from x 2).val / 64 ≤ (show Fin 128 from x 1).val / 64 then z else 0) (a494 H (x 1) (x 2))

theorem out0_C_8_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : ¬cond0_0 i) (hc1 : cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32) (xo7 : Vec Ideal S8x128x128 .f32) (xo8 : Vec Ideal S8x128x1 .f32) (xo9 : Vec Ideal S1x2048 .f32) (xo10 : Vec Ideal S1x2048 .f32) (xs0 : Vec Ideal S8x128x128 .bf16)
    (H : Holds d e (InB x0 x1 x2 x3 x5 xo7 xo8 xo9 xo10 xs0)) (g : Fin 8) (r : Fin 128) :
    (out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xo9 xo10 xs0 (ix3 g r 0) : EReal) = ((e.A8 g.val r + d.DBS g.val r : ℝ) : EReal) := by
  frame_open
  simp (disch := decide) only [↓ View.readCov_skip, ↓ View.readCov_cons_toLoadRect, ↓ View.readCov_fill]
  frame_out
  canon_tiles x h
  · obtain rfl : g = 7 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a1377 H (x 1)
  · obtain rfl : g = 6 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a1252 H (x 1)
  · obtain rfl : g = 5 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a1127 H (x 1)
  · obtain rfl : g = 4 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a1002 H (x 1)
  · obtain rfl : g = 3 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a877 H (x 1)
  · obtain rfl : g = 2 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a752 H (x 1)
  · obtain rfl : g = 1 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a627 H (x 1)
  · obtain rfl : g = 0 := Fin.ext (by have h0 : g.val = _ := h0; have := (x 0).isLt; omega)
    obtain rfl : r = x 1 := Fin.ext h1
    have hx : x = ix3 (n0 := 1) (n1 := 128) (n2 := 1) 0 (x 1) 0 := (eq_ix3 (n0 := 1) (n1 := 128) (n2 := 1) x).trans (congrArg₂ (fun q q2 => ix3 q (x 1) q2) (Subsingleton.elim (α := Fin 1) _ _) (Subsingleton.elim (α := Fin 1) _ _))
    rw [hx]
    exact a502 H (x 1)

theorem out0_C_9_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : ¬cond0_0 i) (hc1 : cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32) (xo7 : Vec Ideal S8x128x128 .f32) (xo8 : Vec Ideal S8x128x1 .f32) (xo9 : Vec Ideal S1x2048 .f32) (xo10 : Vec Ideal S1x2048 .f32) (xs0 : Vec Ideal S8x128x128 .bf16)
    (H : Holds d e (InB x0 x1 x2 x3 x5 xo7 xo8 xo9 xo10 xs0)) (l : Fin 2048) :
    (out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xo9 xo10 xs0 (ix2 0 l) : EReal) = ((e.A9 l.val + d.DLG (l.val / 256) l.val : ℝ) : EReal) := by
  frame_open
  simp (disch := decide) only [↓ View.readCov_skip, ↓ View.readCov_cons_toLoadRect, ↓ View.readCov_fill]
  frame_out
  canon_tiles x h
  · have h1 : l.val = 1792 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a1386 H (x 1)) _ h1 (by have : (x 1).val < 256 := (x 1).isLt; omega)
  · have h1 : l.val = 1536 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a1261 H (x 1)) _ h1 (by have : (x 1).val < 256 := (x 1).isLt; omega)
  · have h1 : l.val = 1280 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a1136 H (x 1)) _ h1 (by have : (x 1).val < 256 := (x 1).isLt; omega)
  · have h1 : l.val = 1024 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a1011 H (x 1)) _ h1 (by have : (x 1).val < 256 := (x 1).isLt; omega)
  · have h1 : l.val = 768 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a886 H (x 1)) _ h1 (by have : (x 1).val < 256 := (x 1).isLt; omega)
  · have h1 : l.val = 512 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a761 H (x 1)) _ h1 (by have : (x 1).val < 256 := (x 1).isLt; omega)
  · have h1 : l.val = 256 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a636 H (x 1)) _ h1 (by have : (x 1).val < 256 := (x 1).isLt; omega)
  · have h1 : l.val = (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A9) (L := d.DLG) (a511 H (x 1)) _ h1 (by have : (x 1).val < 256 := (x 1).isLt; omega)

theorem out0_C_10_eq {d : Blk} {e : Acc} (c : Dev nD) (i : grid0.Coords) (arg1 : Memref sig .tc .vmem S128x6144 .f32) (harg1 : arg1.IsWhole) (arg2 : Memref sig .tc .vmem S128x2048 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128x128 .f32) (harg5 : arg5.IsWhole) (arg6 : Memref sig .tc .vmem S8x128x1 .f32) (harg6 : arg6.IsWhole) (arg7 : Memref sig .tc .vmem S128x6144 .bf16) (harg7 : arg7.IsWhole) (arg8 : Memref sig .tc .vmem S8x128x128 .f32) (harg8 : arg8.IsWhole) (arg9 : Memref sig .tc .vmem S8x128x1 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S8x128x128 .bf16) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (hc0 : ¬cond0_0 i) (hc1 : cond0_1 i)
    (x0 : Vec Ideal S128x6144 .f32) (x1 : Vec Ideal S128x2048 .bf16) (x2 : Vec Ideal S1x2048 .f32) (x3 : Vec Ideal S1x2048 .f32) (x4 : Vec Ideal S8x128x128 .f32) (x5 : Vec Ideal S8x128x1 .f32) (xo7 : Vec Ideal S8x128x128 .f32) (xo8 : Vec Ideal S8x128x1 .f32) (xo9 : Vec Ideal S1x2048 .f32) (xo10 : Vec Ideal S1x2048 .f32) (xs0 : Vec Ideal S8x128x128 .bf16)
    (H : Holds d e (InB x0 x1 x2 x3 x5 xo7 xo8 xo9 xo10 xs0)) (l : Fin 2048) :
    (out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xo7 xo8 xo9 xo10 xs0 (ix2 0 l) : EReal) = ((e.A10 l.val + d.DLB (l.val / 256) l.val : ℝ) : EReal) := by
  frame_open
  simp (disch := decide) only [↓ View.readCov_skip, ↓ View.readCov_cons_toLoadRect, ↓ View.readCov_fill]
  frame_out
  canon_tiles x h
  · have h1 : l.val = 1792 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a1392 H (x 1)) _ h1 (by have : (x 1).val < 256 := (x 1).isLt; omega)
  · have h1 : l.val = 1536 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a1267 H (x 1)) _ h1 (by have : (x 1).val < 256 := (x 1).isLt; omega)
  · have h1 : l.val = 1280 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a1142 H (x 1)) _ h1 (by have : (x 1).val < 256 := (x 1).isLt; omega)
  · have h1 : l.val = 1024 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a1017 H (x 1)) _ h1 (by have : (x 1).val < 256 := (x 1).isLt; omega)
  · have h1 : l.val = 768 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a892 H (x 1)) _ h1 (by have : (x 1).val < 256 := (x 1).isLt; omega)
  · have h1 : l.val = 512 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a767 H (x 1)) _ h1 (by have : (x 1).val < 256 := (x 1).isLt; omega)
  · have h1 : l.val = 256 + (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a642 H (x 1)) _ h1 (by have : (x 1).val < 256 := (x 1).isLt; omega)
  · have h1 : l.val = (x 1).val := h1
    have hx : x = ix2 (n0 := 1) (n1 := 256) 0 (x 1) := (eq_ix2 (n0 := 1) (n1 := 256) x).trans (congrArg (fun q => ix2 q (x 1)) (Subsingleton.elim (α := Fin 1) _ _))
    rw [hx]
    exact pl (A := e.A10) (L := d.DLB) (a517 H (x 1)) _ h1 (by have : (x 1).val < 256 := (x 1).isLt; omega)

end Cert.Sgu

end
-- ==== Proof.Fold.lean ====
module
public import proofs.«01_k».proof.Proof.OpenA
public import proofs.«01_k».proof.Proof.OpenC
public import proofs.«01_k».proof.Proof.Reads
import Idealize.ShloMosaic.Lib.Pipeline.ValueKit

/-! # What the outputs hold after each grid point -/

@[expose] public section
set_option maxRecDepth 16384
set_option maxHeartbeats 400000
noncomputable section
namespace Cert.Sgu
open Idealize.ShloMosaic Idealize.ShloMosaic.TcCoe Cert.KernelIdeal Cert.KernelIdeal.Gen
open scoped BigOperators

theorem ld_mix {e : EltTy} (v : Vec Ideal S8x128x128 e) (o : ℕ) (inb : ∀ a, (![o, 0, 0] : Fin 3 → ℕ) a + S1x128x128.size a ≤ S8x128x128.size a) (ho : o < 8) (a b : Fin 128) :
    View.ld v (Rect.unit (s := S8x128x128) ![o, 0, 0] S1x128x128.size inb) (ix3 0 a b) = v (ix3 ⟨o, ho⟩ a b) := by
  refine congrArg v (funext fun q => Fin.ext ?_)
  fin_cases q <;> simp [Rect.unit, ix3, LoadRect.idx, Rect.toLoadRect]

theorem ld_bias {e : EltTy} (v : Vec Ideal S8x128x1 e) (o : ℕ) (inb : ∀ a, (![o, 0, 0] : Fin 3 → ℕ) a + S1x128x1.size a ≤ S8x128x1.size a) (ho : o < 8) (a : Fin 128) :
    View.ld v (Rect.unit (s := S8x128x1) ![o, 0, 0] S1x128x1.size inb) (ix3 0 a 0) = v (ix3 ⟨o, ho⟩ a 0) := by
  refine congrArg v (funext fun q => Fin.ext ?_)
  fin_cases q <;> simp [Rect.unit, ix3, LoadRect.idx, Rect.toLoadRect]

theorem ld_lane {e : EltTy} (v : Vec Ideal S1x2048 e) (o : ℕ) (inb : ∀ a, (![0, o] : Fin 2 → ℕ) a + S1x256.size a ≤ S1x2048.size a) (j : Fin 256) (ho : o + j.val < 2048) :
    View.ld v (Rect.unit (s := S1x2048) ![0, o] S1x256.size inb) (ix2 0 j) = v (ix2 0 ⟨o + j.val, ho⟩) := by
  refine congrArg v (funext fun q => Fin.ext ?_)
  fin_cases q <;> simp [Rect.unit, ix2, LoadRect.idx, Rect.toLoadRect]

theorem ld_lane0 {v : Vec Ideal S1x2048 .f32} {f : ℕ → ℝ} (h : ∀ l : Fin 2048, (v (ix2 0 l) : EReal) = ((f l.val : ℝ) : EReal)) (inb : ∀ a, (![0, 0] : Fin 2 → ℕ) a + S1x256.size a ≤ S1x2048.size a) (j : Fin 256) :
    (View.ld v (Rect.unit (s := S1x2048) ![0, 0] S1x256.size inb) (ix2 0 j) : EReal) = ((f j.val : ℝ) : EReal) := by
  refine (ld_lane v 0 inb j (by have := j.isLt; omega)).trans ((h _).trans ?_)
  simp only [zero_add]

theorem zero30 (x : S8x128x128.Idx) : (k0_pay30 (F := Ideal) x : EReal) = 0 := by
  simp [k0_pay30]
  rfl
theorem zero31 (x : S8x128x1.Idx) : (k0_pay31 (F := Ideal) x : EReal) = 0 := by
  simp [k0_pay31]
  rfl
theorem zero32 (x : S1x2048.Idx) : (k0_pay32 (F := Ideal) x : EReal) = 0 := by
  simp [k0_pay32]
  rfl
theorem zero33 (x : S1x2048.Idx) : (k0_pay33 (F := Ideal) x : EReal) = 0 := by
  simp [k0_pay33]
  rfl

theorem ld_zero {s : Shape} {v : Vec Ideal s .f32} (h : ∀ x, (v x : EReal) = 0) (r : Rect s) (y : r.shape.Idx) : (View.ld v r y : EReal) = 0 := h _

theorem coe_of_zero {v : EReal} {x : ℝ} (h : v = 0) (hx : x = 0) : v = (x : EReal) := by rw [h, hx, EReal.coe_zero]

/-- A point after the first: what it loads, given what the point before left. -/
theorem holdsB {d : Blk} {e : Acc} (x0 : Vec Ideal S128x6144 .f32) (x1 : Vec Ideal S128x2048 .bf16) (x2 x3 : Vec Ideal S1x2048 .f32) (x5 : Vec Ideal S8x128x1 .f32) (xo7 : Vec Ideal S8x128x128 .f32) (xo8 : Vec Ideal S8x128x1 .f32) (xo9 xo10 : Vec Ideal S1x2048 .f32) (xs0 : Vec Ideal S8x128x128 .bf16)
    (h0 : ∀ (r : Fin 128) (l : Fin 6144), (x0 (ix2 r l) : EReal) = ((d.P r l.val : ℝ) : EReal))
    (h1 : ∀ (r : Fin 128) (l : Fin 2048), (x1 (ix2 r l) : EReal) = ((d.Y r l.val : ℝ) : EReal))
    (h2 : ∀ l : Fin 2048, (x2 (ix2 0 l) : EReal) = ((d.G l.val : ℝ) : EReal))
    (h3 : ∀ l : Fin 2048, (x3 (ix2 0 l) : EReal) = ((d.B l.val : ℝ) : EReal))
    (h5 : ∀ (g : Fin 8) (r : Fin 128), (x5 (ix3 g r 0) : EReal) = ((d.b g.val r : ℝ) : EReal))
    (hw : ∀ (g : Fin 8) (r b : Fin 128), (xs0 (ix3 g r b) : EReal) = ((d.W g.val r b : ℝ) : EReal))
    (h7 : ∀ (g : Fin 8) (r b : Fin 128), (xo7 (ix3 g r b) : EReal) = ((e.A7 g.val r b : ℝ) : EReal))
    (h8 : ∀ (g : Fin 8) (r : Fin 128), (xo8 (ix3 g r 0) : EReal) = ((e.A8 g.val r : ℝ) : EReal))
    (h9 : ∀ l : Fin 2048, (xo9 (ix2 0 l) : EReal) = ((e.A9 l.val : ℝ) : EReal))
    (h10 : ∀ l : Fin 2048, (xo10 (ix2 0 l) : EReal) = ((e.A10 l.val : ℝ) : EReal)) :
    Holds d e (InB x0 x1 x2 x3 x5 xo7 xo8 xo9 xo10 xs0) where
  x0 := h0
  x1 := h1
  x2 := h2
  x3 := h3
  x5 := h5
  w0 := fun r b => (ld_mix xs0 0 _ (by decide) r b).trans (hw 0 r b)
  p0 := fun r b => (ld_mix xo7 0 _ (by decide) r b).trans (h7 0 r b)
  q0 := fun r => (ld_bias xo8 0 _ (by decide) r).trans (h8 0 r)
  s0 := fun j => ld_lane0 h9 _ j
  t0 := fun j => ld_lane0 h10 _ j
  w1 := fun r b => (ld_mix xs0 1 _ (by decide) r b).trans (hw 1 r b)
  p1 := fun r b => (ld_mix xo7 1 _ (by decide) r b).trans (h7 1 r b)
  q1 := fun r => (ld_bias xo8 1 _ (by decide) r).trans (h8 1 r)
  s1 := fun j => (ld_lane xo9 256 _ j (by have := j.isLt; omega)).trans (h9 _)
  t1 := fun j => (ld_lane xo10 256 _ j (by have := j.isLt; omega)).trans (h10 _)
  w2 := fun r b => (ld_mix xs0 2 _ (by decide) r b).trans (hw 2 r b)
  p2 := fun r b => (ld_mix xo7 2 _ (by decide) r b).trans (h7 2 r b)
  q2 := fun r => (ld_bias xo8 2 _ (by decide) r).trans (h8 2 r)
  s2 := fun j => (ld_lane xo9 512 _ j (by have := j.isLt; omega)).trans (h9 _)
  t2 := fun j => (ld_lane xo10 512 _ j (by have := j.isLt; omega)).trans (h10 _)
  w3 := fun r b => (ld_mix xs0 3 _ (by decide) r b).trans (hw 3 r b)
  p3 := fun r b => (ld_mix xo7 3 _ (by decide) r b).trans (h7 3 r b)
  q3 := fun r => (ld_bias xo8 3 _ (by decide) r).trans (h8 3 r)
  s3 := fun j => (ld_lane xo9 768 _ j (by have := j.isLt; omega)).trans (h9 _)
  t3 := fun j => (ld_lane xo10 768 _ j (by have := j.isLt; omega)).trans (h10 _)
  w4 := fun r b => (ld_mix xs0 4 _ (by decide) r b).trans (hw 4 r b)
  p4 := fun r b => (ld_mix xo7 4 _ (by decide) r b).trans (h7 4 r b)
  q4 := fun r => (ld_bias xo8 4 _ (by decide) r).trans (h8 4 r)
  s4 := fun j => (ld_lane xo9 1024 _ j (by have := j.isLt; omega)).trans (h9 _)
  t4 := fun j => (ld_lane xo10 1024 _ j (by have := j.isLt; omega)).trans (h10 _)
  w5 := fun r b => (ld_mix xs0 5 _ (by decide) r b).trans (hw 5 r b)
  p5 := fun r b => (ld_mix xo7 5 _ (by decide) r b).trans (h7 5 r b)
  q5 := fun r => (ld_bias xo8 5 _ (by decide) r).trans (h8 5 r)
  s5 := fun j => (ld_lane xo9 1280 _ j (by have := j.isLt; omega)).trans (h9 _)
  t5 := fun j => (ld_lane xo10 1280 _ j (by have := j.isLt; omega)).trans (h10 _)
  w6 := fun r b => (ld_mix xs0 6 _ (by decide) r b).trans (hw 6 r b)
  p6 := fun r b => (ld_mix xo7 6 _ (by decide) r b).trans (h7 6 r b)
  q6 := fun r => (ld_bias xo8 6 _ (by decide) r).trans (h8 6 r)
  s6 := fun j => (ld_lane xo9 1536 _ j (by have := j.isLt; omega)).trans (h9 _)
  t6 := fun j => (ld_lane xo10 1536 _ j (by have := j.isLt; omega)).trans (h10 _)
  w7 := fun r b => (ld_mix xs0 7 _ (by decide) r b).trans (hw 7 r b)
  p7 := fun r b => (ld_mix xo7 7 _ (by decide) r b).trans (h7 7 r b)
  q7 := fun r => (ld_bias xo8 7 _ (by decide) r).trans (h8 7 r)
  s7 := fun j => (ld_lane xo9 1792 _ j (by have := j.isLt; omega)).trans (h9 _)
  t7 := fun j => (ld_lane xo10 1792 _ j (by have := j.isLt; omega)).trans (h10 _)

/-- The first point: the weights as it masks them, accumulators at zero. -/
theorem holdsA {d : Blk} {e : Acc} (x0 : Vec Ideal S128x6144 .f32) (x1 : Vec Ideal S128x2048 .bf16) (x2 x3 : Vec Ideal S1x2048 .f32) (x4 : Vec Ideal S8x128x128 .f32) (x5 : Vec Ideal S8x128x1 .f32)
    (h0 : ∀ (r : Fin 128) (l : Fin 6144), (x0 (ix2 r l) : EReal) = ((d.P r l.val : ℝ) : EReal))
    (h1 : ∀ (r : Fin 128) (l : Fin 2048), (x1 (ix2 r l) : EReal) = ((d.Y r l.val : ℝ) : EReal))
    (h2 : ∀ l : Fin 2048, (x2 (ix2 0 l) : EReal) = ((d.G l.val : ℝ) : EReal))
    (h3 : ∀ l : Fin 2048, (x3 (ix2 0 l) : EReal) = ((d.B l.val : ℝ) : EReal))
    (h5 : ∀ (g : Fin 8) (r : Fin 128), (x5 (ix3 g r 0) : EReal) = ((d.b g.val r : ℝ) : EReal))
    (hw : ∀ (g : Fin 8) (r b : Fin 128), ((if b.val / 64 ≤ r.val / 64 then x4 (ix3 g r b) else 0 : EReal)) = ((d.W g.val r b : ℝ) : EReal))
    (h7 : ∀ g r b, e.A7 g r b = 0) (h8 : ∀ g r, e.A8 g r = 0) (h9 : ∀ l, e.A9 l = 0) (h10 : ∀ l, e.A10 l = 0) :
    Holds d e (InA x0 x1 x2 x3 x4 x5) where
  x0 := h0
  x1 := h1
  x2 := h2
  x3 := h3
  x5 := h5
  w0 := fun r b => (mw_slab x4 0 _ (by decide) (ix3 0 r b)).trans (hw 0 r b)
  p0 := fun r b => coe_of_zero (ld_zero zero30 (Rect.unit (s := S8x128x128) ![0, 0, 0] S1x128x128.size inb_S8x128x128_S1x128x128_0_0_0) (ix3 0 r b)) (h7 _ r b)
  q0 := fun r => coe_of_zero (ld_zero zero31 (Rect.unit (s := S8x128x1) ![0, 0, 0] S1x128x1.size inb_S8x128x1_S1x128x1_0_0_0) (ix3 0 r 0)) (h8 _ r)
  s0 := fun j => coe_of_zero (ld_zero zero32 (Rect.unit (s := S1x2048) ![0, 0] S1x256.size inb_S1x2048_S1x256_0_0) (ix2 0 j)) (h9 _)
  t0 := fun j => coe_of_zero (ld_zero zero33 (Rect.unit (s := S1x2048) ![0, 0] S1x256.size inb_S1x2048_S1x256_0_0) (ix2 0 j)) (h10 _)
  w1 := fun r b => (mw_slab x4 1 _ (by decide) (ix3 0 r b)).trans (hw 1 r b)
  p1 := fun r b => coe_of_zero (ld_zero zero30 (Rect.unit (s := S8x128x128) ![1, 0, 0] S1x128x128.size inb_S8x128x128_S1x128x128_1_0_0) (ix3 0 r b)) (h7 _ r b)
  q1 := fun r => coe_of_zero (ld_zero zero31 (Rect.unit (s := S8x128x1) ![1, 0, 0] S1x128x1.size inb_S8x128x1_S1x128x1_1_0_0) (ix3 0 r 0)) (h8 _ r)
  s1 := fun j => coe_of_zero (ld_zero zero32 (Rect.unit (s := S1x2048) ![0, 256] S1x256.size inb_S1x2048_S1x256_0_256) (ix2 0 j)) (h9 _)
  t1 := fun j => coe_of_zero (ld_zero zero33 (Rect.unit (s := S1x2048) ![0, 256] S1x256.size inb_S1x2048_S1x256_0_256) (ix2 0 j)) (h10 _)
  w2 := fun r b => (mw_slab x4 2 _ (by decide) (ix3 0 r b)).trans (hw 2 r b)
  p2 := fun r b => coe_of_zero (ld_zero zero30 (Rect.unit (s := S8x128x128) ![2, 0, 0] S1x128x128.size inb_S8x128x128_S1x128x128_2_0_0) (ix3 0 r b)) (h7 _ r b)
  q2 := fun r => coe_of_zero (ld_zero zero31 (Rect.unit (s := S8x128x1) ![2, 0, 0] S1x128x1.size inb_S8x128x1_S1x128x1_2_0_0) (ix3 0 r 0)) (h8 _ r)
  s2 := fun j => coe_of_zero (ld_zero zero32 (Rect.unit (s := S1x2048) ![0, 512] S1x256.size inb_S1x2048_S1x256_0_512) (ix2 0 j)) (h9 _)
  t2 := fun j => coe_of_zero (ld_zero zero33 (Rect.unit (s := S1x2048) ![0, 512] S1x256.size inb_S1x2048_S1x256_0_512) (ix2 0 j)) (h10 _)
  w3 := fun r b => (mw_slab x4 3 _ (by decide) (ix3 0 r b)).trans (hw 3 r b)
  p3 := fun r b => coe_of_zero (ld_zero zero30 (Rect.unit (s := S8x128x128) ![3, 0, 0] S1x128x128.size inb_S8x128x128_S1x128x128_3_0_0) (ix3 0 r b)) (h7 _ r b)
  q3 := fun r => coe_of_zero (ld_zero zero31 (Rect.unit (s := S8x128x1) ![3, 0, 0] S1x128x1.size inb_S8x128x1_S1x128x1_3_0_0) (ix3 0 r 0)) (h8 _ r)
  s3 := fun j => coe_of_zero (ld_zero zero32 (Rect.unit (s := S1x2048) ![0, 768] S1x256.size inb_S1x2048_S1x256_0_768) (ix2 0 j)) (h9 _)
  t3 := fun j => coe_of_zero (ld_zero zero33 (Rect.unit (s := S1x2048) ![0, 768] S1x256.size inb_S1x2048_S1x256_0_768) (ix2 0 j)) (h10 _)
  w4 := fun r b => (mw_slab x4 4 _ (by decide) (ix3 0 r b)).trans (hw 4 r b)
  p4 := fun r b => coe_of_zero (ld_zero zero30 (Rect.unit (s := S8x128x128) ![4, 0, 0] S1x128x128.size inb_S8x128x128_S1x128x128_4_0_0) (ix3 0 r b)) (h7 _ r b)
  q4 := fun r => coe_of_zero (ld_zero zero31 (Rect.unit (s := S8x128x1) ![4, 0, 0] S1x128x1.size inb_S8x128x1_S1x128x1_4_0_0) (ix3 0 r 0)) (h8 _ r)
  s4 := fun j => coe_of_zero (ld_zero zero32 (Rect.unit (s := S1x2048) ![0, 1024] S1x256.size inb_S1x2048_S1x256_0_1024) (ix2 0 j)) (h9 _)
  t4 := fun j => coe_of_zero (ld_zero zero33 (Rect.unit (s := S1x2048) ![0, 1024] S1x256.size inb_S1x2048_S1x256_0_1024) (ix2 0 j)) (h10 _)
  w5 := fun r b => (mw_slab x4 5 _ (by decide) (ix3 0 r b)).trans (hw 5 r b)
  p5 := fun r b => coe_of_zero (ld_zero zero30 (Rect.unit (s := S8x128x128) ![5, 0, 0] S1x128x128.size inb_S8x128x128_S1x128x128_5_0_0) (ix3 0 r b)) (h7 _ r b)
  q5 := fun r => coe_of_zero (ld_zero zero31 (Rect.unit (s := S8x128x1) ![5, 0, 0] S1x128x1.size inb_S8x128x1_S1x128x1_5_0_0) (ix3 0 r 0)) (h8 _ r)
  s5 := fun j => coe_of_zero (ld_zero zero32 (Rect.unit (s := S1x2048) ![0, 1280] S1x256.size inb_S1x2048_S1x256_0_1280) (ix2 0 j)) (h9 _)
  t5 := fun j => coe_of_zero (ld_zero zero33 (Rect.unit (s := S1x2048) ![0, 1280] S1x256.size inb_S1x2048_S1x256_0_1280) (ix2 0 j)) (h10 _)
  w6 := fun r b => (mw_slab x4 6 _ (by decide) (ix3 0 r b)).trans (hw 6 r b)
  p6 := fun r b => coe_of_zero (ld_zero zero30 (Rect.unit (s := S8x128x128) ![6, 0, 0] S1x128x128.size inb_S8x128x128_S1x128x128_6_0_0) (ix3 0 r b)) (h7 _ r b)
  q6 := fun r => coe_of_zero (ld_zero zero31 (Rect.unit (s := S8x128x1) ![6, 0, 0] S1x128x1.size inb_S8x128x1_S1x128x1_6_0_0) (ix3 0 r 0)) (h8 _ r)
  s6 := fun j => coe_of_zero (ld_zero zero32 (Rect.unit (s := S1x2048) ![0, 1536] S1x256.size inb_S1x2048_S1x256_0_1536) (ix2 0 j)) (h9 _)
  t6 := fun j => coe_of_zero (ld_zero zero33 (Rect.unit (s := S1x2048) ![0, 1536] S1x256.size inb_S1x2048_S1x256_0_1536) (ix2 0 j)) (h10 _)
  w7 := fun r b => (mw_slab x4 7 _ (by decide) (ix3 0 r b)).trans (hw 7 r b)
  p7 := fun r b => coe_of_zero (ld_zero zero30 (Rect.unit (s := S8x128x128) ![7, 0, 0] S1x128x128.size inb_S8x128x128_S1x128x128_7_0_0) (ix3 0 r b)) (h7 _ r b)
  q7 := fun r => coe_of_zero (ld_zero zero31 (Rect.unit (s := S8x128x1) ![7, 0, 0] S1x128x1.size inb_S8x128x1_S1x128x1_7_0_0) (ix3 0 r 0)) (h8 _ r)
  s7 := fun j => coe_of_zero (ld_zero zero32 (Rect.unit (s := S1x2048) ![0, 1792] S1x256.size inb_S1x2048_S1x256_0_1792) (ix2 0 j)) (h9 _)
  t7 := fun j => coe_of_zero (ld_zero zero33 (Rect.unit (s := S1x2048) ![0, 1792] S1x256.size inb_S1x2048_S1x256_0_1792) (ix2 0 j)) (h10 _)

/-- The launch's arguments are these real arrays. -/
structure Reads (X : Arr) (m : (ℓ : Loc nD τ sig) → Buf (Elt Ideal) ℓ) (c : Dev nD) : Prop where
  x0 : ∀ (r : Fin 4096) (l : Fin 6144), (m ((c : Thread nD τ).loc main_arg0) (ix2 (n0 := 4096) (n1 := 6144) r l) : EReal) = ((X.X0 r.val l.val : ℝ) : EReal)
  x1 : ∀ (r : Fin 4096) (l : Fin 2048), (m ((c : Thread nD τ).loc main_arg1) (ix2 (n0 := 4096) (n1 := 2048) r l) : EReal) = ((X.X1 r.val l.val : ℝ) : EReal)
  x2 : ∀ l : Fin 2048, (m ((c : Thread nD τ).loc main_arg2) (ix2 (n0 := 1) (n1 := 2048) 0 l) : EReal) = ((X.X2 l.val : ℝ) : EReal)
  x3 : ∀ l : Fin 2048, (m ((c : Thread nD τ).loc main_arg3) (ix2 (n0 := 1) (n1 := 2048) 0 l) : EReal) = ((X.X3 l.val : ℝ) : EReal)
  x4 : ∀ (g : Fin 8) (a b : Fin 128), (m ((c : Thread nD τ).loc main_arg4) (ix4 (n0 := 1) (n1 := 8) (n2 := 128) (n3 := 128) 0 g a b) : EReal) = ((X.X4 g.val a b : ℝ) : EReal)
  x5 : ∀ (g : Fin 8) (a : Fin 128), (m ((c : Thread nD τ).loc main_arg5) (ix3 (n0 := 1) (n1 := 8) (n2 := 128) 0 g a) : EReal) = ((X.X5 g.val a : ℝ) : EReal)

/-- What the first `n` blocks add up to in the weights' gradient, masked after the last. -/
def Arr.A7M (X : Arr) (n : ℕ) (g : ℕ) (r b : Fin 128) : ℝ :=
  if n = 31 then (if b.val / 64 ≤ r.val / 64 then (X.acc (n + 1)).A7 g r b else 0) else (X.acc (n + 1)).A7 g r b

/-- What the outputs and the carried weights hold after point `n`. -/
structure Inv (X : Arr) (n : ℕ) (T : Vec Ideal S128x6144 .bf16 × Vec Ideal S8x128x128 .f32 × Vec Ideal S8x128x1 .f32 × Vec Ideal S1x2048 .f32 × Vec Ideal S1x2048 .f32 × Vec Ideal S8x128x128 .bf16) : Prop where
  o6 : ∀ (r : Fin 128) (l : Fin 6144), (T.1 (ix2 r l) : EReal) = (((X.blk n).DP r l.val : ℝ) : EReal)
  o7 : ∀ (g : Fin 8) (r b : Fin 128), (T.2.1 (ix3 g r b) : EReal) = ((X.A7M n g.val r b : ℝ) : EReal)
  o8 : ∀ (g : Fin 8) (r : Fin 128), (T.2.2.1 (ix3 g r 0) : EReal) = (((X.acc (n + 1)).A8 g.val r : ℝ) : EReal)
  o9 : ∀ l : Fin 2048, (T.2.2.2.1 (ix2 0 l) : EReal) = (((X.acc (n + 1)).A9 l.val : ℝ) : EReal)
  o10 : ∀ l : Fin 2048, (T.2.2.2.2.1 (ix2 0 l) : EReal) = (((X.acc (n + 1)).A10 l.val : ℝ) : EReal)
  sc : ∀ (g : Fin 8) (r b : Fin 128), (T.2.2.2.2.2 (ix3 g r b) : EReal) = ((X.WM g.val r b : ℝ) : EReal)

theorem Inv.of {X : Arr} {n : ℕ} {a : Vec Ideal S128x6144 .bf16} {b : Vec Ideal S8x128x128 .f32} {c : Vec Ideal S8x128x1 .f32} {d e : Vec Ideal S1x2048 .f32} {f : Vec Ideal S8x128x128 .bf16}
    (o6 : ∀ (r : Fin 128) (l : Fin 6144), (a (ix2 r l) : EReal) = (((X.blk n).DP r l.val : ℝ) : EReal))
    (o7 : ∀ (g : Fin 8) (r k : Fin 128), (b (ix3 g r k) : EReal) = ((X.A7M n g.val r k : ℝ) : EReal))
    (o8 : ∀ (g : Fin 8) (r : Fin 128), (c (ix3 g r 0) : EReal) = (((X.acc (n + 1)).A8 g.val r : ℝ) : EReal))
    (o9 : ∀ l : Fin 2048, (d (ix2 0 l) : EReal) = (((X.acc (n + 1)).A9 l.val : ℝ) : EReal))
    (o10 : ∀ l : Fin 2048, (e (ix2 0 l) : EReal) = (((X.acc (n + 1)).A10 l.val : ℝ) : EReal))
    (sc : ∀ (g : Fin 8) (r k : Fin 128), (f (ix3 g r k) : EReal) = ((X.WM g.val r k : ℝ) : EReal)) :
    Inv X n (a, b, c, d, e, f) := ⟨o6, o7, o8, o9, o10, sc⟩

variable {X : Arr} {m : (ℓ : Loc nD τ sig) → Buf (Elt Ideal) ℓ} {c : Dev nD}

theorem Reads.wm (R : Reads X m c) (t : Fin cfg0.N) (g : Fin 8) (r b : Fin 128) :
    (if b.val / 64 ≤ r.val / 64 then iblk m c 4 t (ix3 (n0 := 8) (n1 := 128) (n2 := 128) g r b) else 0 : EReal) = ((X.WM g.val r b : ℝ) : EReal) := by
  unfold Arr.WM
  split
  · exact (rd4 m c t g r b).trans (R.x4 g r b)
  · exact EReal.coe_zero.symm

theorem acc_succ7 (n : ℕ) (g : ℕ) (r b : Fin 128) : (X.acc (n + 1)).A7 g r b = (X.acc n).A7 g r b + (X.blk n).DWS g r b := Finset.sum_range_succ _ _
theorem acc_succ8 (n : ℕ) (g : ℕ) (r : Fin 128) : (X.acc (n + 1)).A8 g r = (X.acc n).A8 g r + (X.blk n).DBS g r := Finset.sum_range_succ _ _
theorem acc_succ9 (n l : ℕ) : (X.acc (n + 1)).A9 l = (X.acc n).A9 l + (X.blk n).DLG (l / 256) l := Finset.sum_range_succ _ _
theorem acc_succ10 (n l : ℕ) : (X.acc (n + 1)).A10 l = (X.acc n).A10 l + (X.blk n).DLB (l / 256) l := Finset.sum_range_succ _ _

theorem Reads.holdsA (R : Reads X m c) (t : Fin cfg0.N) (ht : t.val = 0) :
    Holds (X.blk t.val) (X.acc t.val) (InA (iblk m c 0 t) (iblk m c 1 t) (iblk m c 2 t) (iblk m c 3 t) (iblk m c 4 t) (iblk m c 5 t)) :=
  Cert.Sgu.holdsA _ _ _ _ _ _ (fun r l => (rd0 m c t r l).trans (R.x0 _ l)) (fun r l => (rd1 m c t r l).trans (R.x1 _ l)) (fun l => (rd2 m c t l).trans (R.x2 l))
    (fun l => (rd3 m c t l).trans (R.x3 l)) (fun g r => (rd5 m c t g r).trans (R.x5 g r)) (fun g r b => R.wm t g r b)
    (fun g r b => by rw [ht]; simp [Arr.acc]) (fun g r => by rw [ht]; simp [Arr.acc])
    (fun l => by rw [ht]; simp [Arr.acc]) (fun l => by rw [ht]; simp [Arr.acc])

theorem Reads.holdsB (R : Reads X m c) (t : Fin cfg0.N) (n : ℕ) (hn : t.val = n + 1) (h31 : ¬n = 31) (T : Vec Ideal S128x6144 .bf16 × Vec Ideal S8x128x128 .f32 × Vec Ideal S8x128x1 .f32 × Vec Ideal S1x2048 .f32 × Vec Ideal S1x2048 .f32 × Vec Ideal S8x128x128 .bf16) (I : Inv X n T) :
    Holds (X.blk t.val) (X.acc t.val) (InB (iblk m c 0 t) (iblk m c 1 t) (iblk m c 2 t) (iblk m c 3 t) (iblk m c 5 t) T.2.1 T.2.2.1 T.2.2.2.1 T.2.2.2.2.1 T.2.2.2.2.2) :=
  Cert.Sgu.holdsB _ _ _ _ _ _ _ _ _ _ (fun r l => (rd0 m c t r l).trans (R.x0 _ l)) (fun r l => (rd1 m c t r l).trans (R.x1 _ l)) (fun l => (rd2 m c t l).trans (R.x2 l))
    (fun l => (rd3 m c t l).trans (R.x3 l)) (fun g r => (rd5 m c t g r).trans (R.x5 g r)) (fun g r b => I.sc g r b)
    (fun g r b => by rw [hn]; exact (I.o7 g r b).trans (by rw [Arr.A7M, if_neg h31])) (fun g r => by rw [hn]; exact I.o8 g r)
    (fun l => by rw [hn]; exact I.o9 l) (fun l => by rw [hn]; exact I.o10 l)

theorem as_real {v : EReal} {x y : ℝ} (h : v = ((x : ℝ) : EReal)) (e : x = y) : v = ((y : ℝ) : EReal) := by rw [h, e]

theorem A7M_lt (n : ℕ) (h : ¬n = 31) (g : ℕ) (r b : Fin 128) : (X.acc n).A7 g r b + (X.blk n).DWS g r b = X.A7M n g r b := by
  rw [Arr.A7M, if_neg h, acc_succ7]

theorem A7M_last (n : ℕ) (h : n = 31) (g : ℕ) (r b : Fin 128) {v : EReal}
    (hv : v = if b.val / 64 ≤ r.val / 64 then (((X.acc n).A7 g r b + (X.blk n).DWS g r b : ℝ) : EReal) else 0) : v = ((X.A7M n g r b : ℝ) : EReal) := by
  rw [hv, Arr.A7M, if_pos h, acc_succ7]
  split
  · rfl
  · exact EReal.coe_zero.symm

/-- The first point. -/
theorem inv_zero (R : Reads X m c) (t : Fin cfg0.N) (ht : t.val = 0) (T : Vec Ideal S128x6144 .bf16 × Vec Ideal S8x128x128 .f32 × Vec Ideal S8x128x1 .f32 × Vec Ideal S1x2048 .f32 × Vec Ideal S1x2048 .f32 × Vec Ideal S8x128x128 .bf16) : Inv X t.val (Value.stAt0 m c t.val t.isLt T) := by
  have H := R.holdsA t ht
  have hn : ¬t.val = 31 := by omega
  have k0 : t.val % 32 = 0 := by omega
  have k1 : ¬t.val % 32 = 31 := by omega
  rw [Value.stAt0_A m c t T k0 k1]
  refine Inv.of ?_ ?_ ?_ ?_ ?_ ?_
  · exact fun r l => out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr k0) (fun h => k1 ((hcond0_1 t).mp h)) (iblk m c 0 t) (iblk m c 1 t) (iblk m c 2 t) (iblk m c 3 t) (iblk m c 4 t) (iblk m c 5 t) H r l
  · exact fun g r b => as_real (out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr k0) (fun h => k1 ((hcond0_1 t).mp h)) (iblk m c 0 t) (iblk m c 1 t) (iblk m c 2 t) (iblk m c 3 t) (iblk m c 4 t) (iblk m c 5 t) H g r b) (A7M_lt t.val hn g.val r b)
  · exact fun g r => as_real (out0_A_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr k0) (fun h => k1 ((hcond0_1 t).mp h)) (iblk m c 0 t) (iblk m c 1 t) (iblk m c 2 t) (iblk m c 3 t) (iblk m c 4 t) (iblk m c 5 t) H g r) (acc_succ8 t.val g.val r).symm
  · exact fun l => as_real (out0_A_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr k0) (fun h => k1 ((hcond0_1 t).mp h)) (iblk m c 0 t) (iblk m c 1 t) (iblk m c 2 t) (iblk m c 3 t) (iblk m c 4 t) (iblk m c 5 t) H l) (acc_succ9 t.val l.val).symm
  · exact fun l => as_real (out0_A_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr k0) (fun h => k1 ((hcond0_1 t).mp h)) (iblk m c 0 t) (iblk m c 1 t) (iblk m c 2 t) (iblk m c 3 t) (iblk m c 4 t) (iblk m c 5 t) H l) (acc_succ10 t.val l.val).symm
  · exact fun g r b => Eq.trans (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr k0) (fun h => k1 ((hcond0_1 t).mp h)) (iblk m c 0 t) (iblk m c 1 t) (iblk m c 2 t) (iblk m c 3 t) (iblk m c 4 t) (iblk m c 5 t) g r b) (R.wm t g r b)

/-- A later point but the last. -/
theorem inv_mid (R : Reads X m c) (t : Fin cfg0.N) (n : ℕ) (hn : t.val = n + 1) (hl : ¬t.val = 31) (T : Vec Ideal S128x6144 .bf16 × Vec Ideal S8x128x128 .f32 × Vec Ideal S8x128x1 .f32 × Vec Ideal S1x2048 .f32 × Vec Ideal S1x2048 .f32 × Vec Ideal S8x128x128 .bf16) (I : Inv X n T) : Inv X t.val (Value.stAt0 m c t.val t.isLt T) := by
  have hN : t.val < 32 := lt_of_lt_of_eq t.isLt N_0
  have H := R.holdsB t n hn (by omega) T I
  have k0 : ¬t.val % 32 = 0 := by omega
  have k1 : ¬t.val % 32 = 31 := by omega
  rw [Value.stAt0_B m c t T k0 k1]
  refine Inv.of ?_ ?_ ?_ ?_ ?_ ?_
  · exact fun r l => out0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => k0 ((hcond0_0 t).mp h)) (fun h => k1 ((hcond0_1 t).mp h)) (iblk m c 0 t) (iblk m c 1 t) (iblk m c 2 t) (iblk m c 3 t) (iblk m c 4 t) (iblk m c 5 t) T.2.1 T.2.2.1 T.2.2.2.1 T.2.2.2.2.1 T.2.2.2.2.2 H r l
  · exact fun g r b => as_real (out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => k0 ((hcond0_0 t).mp h)) (fun h => k1 ((hcond0_1 t).mp h)) (iblk m c 0 t) (iblk m c 1 t) (iblk m c 2 t) (iblk m c 3 t) (iblk m c 4 t) (iblk m c 5 t) T.2.1 T.2.2.1 T.2.2.2.1 T.2.2.2.2.1 T.2.2.2.2.2 H g r b) (A7M_lt t.val hl g.val r b)
  · exact fun g r => as_real (out0_B_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => k0 ((hcond0_0 t).mp h)) (fun h => k1 ((hcond0_1 t).mp h)) (iblk m c 0 t) (iblk m c 1 t) (iblk m c 2 t) (iblk m c 3 t) (iblk m c 4 t) (iblk m c 5 t) T.2.1 T.2.2.1 T.2.2.2.1 T.2.2.2.2.1 T.2.2.2.2.2 H g r) (acc_succ8 t.val g.val r).symm
  · exact fun l => as_real (out0_B_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => k0 ((hcond0_0 t).mp h)) (fun h => k1 ((hcond0_1 t).mp h)) (iblk m c 0 t) (iblk m c 1 t) (iblk m c 2 t) (iblk m c 3 t) (iblk m c 4 t) (iblk m c 5 t) T.2.1 T.2.2.1 T.2.2.2.1 T.2.2.2.2.1 T.2.2.2.2.2 H l) (acc_succ9 t.val l.val).symm
  · exact fun l => as_real (out0_B_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => k0 ((hcond0_0 t).mp h)) (fun h => k1 ((hcond0_1 t).mp h)) (iblk m c 0 t) (iblk m c 1 t) (iblk m c 2 t) (iblk m c 3 t) (iblk m c 4 t) (iblk m c 5 t) T.2.1 T.2.2.1 T.2.2.2.1 T.2.2.2.2.1 T.2.2.2.2.2 H l) (acc_succ10 t.val l.val).symm
  · exact I.sc

/-- The last point. -/
theorem inv_last (R : Reads X m c) (t : Fin cfg0.N) (n : ℕ) (hn : t.val = n + 1) (hl : t.val = 31) (T : Vec Ideal S128x6144 .bf16 × Vec Ideal S8x128x128 .f32 × Vec Ideal S8x128x1 .f32 × Vec Ideal S1x2048 .f32 × Vec Ideal S1x2048 .f32 × Vec Ideal S8x128x128 .bf16) (I : Inv X n T) : Inv X t.val (Value.stAt0 m c t.val t.isLt T) := by
  have H := R.holdsB t n hn (by omega) T I
  have k0 : ¬t.val % 32 = 0 := by omega
  have k1 : t.val % 32 = 31 := by omega
  rw [Value.stAt0_C m c t T k0 k1]
  refine Inv.of ?_ ?_ ?_ ?_ ?_ ?_
  · exact fun r l => out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => k0 ((hcond0_0 t).mp h)) ((hcond0_1 t).mpr k1) (iblk m c 0 t) (iblk m c 1 t) (iblk m c 2 t) (iblk m c 3 t) (iblk m c 4 t) (iblk m c 5 t) T.2.1 T.2.2.1 T.2.2.2.1 T.2.2.2.2.1 T.2.2.2.2.2 H r l
  · exact fun g r b => A7M_last t.val hl g.val r b (out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => k0 ((hcond0_0 t).mp h)) ((hcond0_1 t).mpr k1) (iblk m c 0 t) (iblk m c 1 t) (iblk m c 2 t) (iblk m c 3 t) (iblk m c 4 t) (iblk m c 5 t) T.2.1 T.2.2.1 T.2.2.2.1 T.2.2.2.2.1 T.2.2.2.2.2 H g r b)
  · exact fun g r => as_real (out0_C_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => k0 ((hcond0_0 t).mp h)) ((hcond0_1 t).mpr k1) (iblk m c 0 t) (iblk m c 1 t) (iblk m c 2 t) (iblk m c 3 t) (iblk m c 4 t) (iblk m c 5 t) T.2.1 T.2.2.1 T.2.2.2.1 T.2.2.2.2.1 T.2.2.2.2.2 H g r) (acc_succ8 t.val g.val r).symm
  · exact fun l => as_real (out0_C_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => k0 ((hcond0_0 t).mp h)) ((hcond0_1 t).mpr k1) (iblk m c 0 t) (iblk m c 1 t) (iblk m c 2 t) (iblk m c 3 t) (iblk m c 4 t) (iblk m c 5 t) T.2.1 T.2.2.1 T.2.2.2.1 T.2.2.2.2.1 T.2.2.2.2.2 H l) (acc_succ9 t.val l.val).symm
  · exact fun l => as_real (out0_C_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => k0 ((hcond0_0 t).mp h)) ((hcond0_1 t).mpr k1) (iblk m c 0 t) (iblk m c 1 t) (iblk m c 2 t) (iblk m c 3 t) (iblk m c 4 t) (iblk m c 5 t) T.2.1 T.2.2.1 T.2.2.2.1 T.2.2.2.2.1 T.2.2.2.2.2 H l) (acc_succ10 t.val l.val).symm
  · exact I.sc

/-- After every point. -/
theorem inv (R : Reads X m c) : ∀ (n : ℕ) (h : 0 + n < cfg0.N), Inv X (0 + n) (Pipeline.accAt (fun n h => Value.stAt0 m c n h Value.junk0) (Value.stAt0 m c) 0 n h)
  | 0, h => inv_zero R ⟨0, h⟩ rfl _
  | n + 1, h => by
    have I := inv R n (Nat.lt_of_succ_lt h)
    by_cases hl : 0 + (n + 1) = 31
    · exact inv_last R ⟨0 + (n + 1), h⟩ (0 + n) (by simp only; omega) hl _ I
    · exact inv_mid R ⟨0 + (n + 1), h⟩ (0 + n) (by simp only; omega) hl _ I

/-! ## The five results -/

theorem lt31 : 0 + 31 < cfg0.N := lt_of_lt_of_eq (by decide) N_0.symm

/-- After the last point. -/
theorem inv_end (R : Reads X m c) : Inv X 31 (Pipeline.accAt (fun n h => Value.stAt0 m c n h Value.junk0) (Value.stAt0 m c) 0 31 lt31) := by
  have I := inv R 31 lt31
  rw [Nat.zero_add] at I
  exact I

theorem G6_eq (R : Reads X m c) (n : Fin 32) (r : Fin 128) (l : Fin 6144) (row : Fin 4096) (hr : row.val = 128 * n.val + r.val) :
    (Value.G6 m c (ix2 (n0 := 4096) (n1 := 6144) row l) : EReal) = (((X.blk n.val).DP r l.val : ℝ) : EReal) := by
  have hl := l.isLt
  have hrr := r.isLt
  have hp : Value.pt6Of (ix2 (n0 := 4096) (n1 := 6144) row l) = n.val := by
    show 1 * (row.val / 128 - 0) + 1 * (l.val / 6144 - 0) = _
    omega
  have hN : cfg0.N = 32 := N_0
  have hx : Value.loc6Of (ix2 (n0 := 4096) (n1 := 6144) row l) = ix2 (n0 := 128) (n1 := 6144) r l := by
    funext a
    apply Fin.ext
    match a with
    | ⟨0, _⟩ => show row.val % 128 = r.val; omega
    | ⟨1, _⟩ => show l.val % 6144 = l.val; omega
  unfold Value.G6
  rw [dif_pos (by rw [hp, hN]; exact n.isLt), hx]
  refine ((inv R _ _).o6 r l).trans ?_
  rw [hp, zero_add]

theorem G7_eq (R : Reads X m c) (g : Fin 8) (r b : Fin 128) : (Value.G7 m c (ix3 (n0 := 8) (n1 := 128) (n2 := 128) g r b) : EReal) = ((X.A7M 31 g.val r b : ℝ) : EReal) := by
  have I := inv_end R
  rw [Value.G7_last]
  revert I
  generalize Pipeline.accAt (fun n h => Value.stAt0 m c n h Value.junk0) (Value.stAt0 m c) 0 31 lt31 = T
  intro I
  exact I.o7 g r b

theorem G8_eq (R : Reads X m c) (g : Fin 8) (r : Fin 128) : (Value.G8 m c (ix3 (n0 := 8) (n1 := 128) (n2 := 1) g r 0) : EReal) = (((X.acc 32).A8 g.val r : ℝ) : EReal) := by
  have I := inv_end R
  rw [Value.G8_last]
  revert I
  generalize Pipeline.accAt (fun n h => Value.stAt0 m c n h Value.junk0) (Value.stAt0 m c) 0 31 lt31 = T
  intro I
  exact I.o8 g r

theorem G9_eq (R : Reads X m c) (l : Fin 2048) : (Value.G9 m c (ix2 (n0 := 1) (n1 := 2048) 0 l) : EReal) = (((X.acc 32).A9 l.val : ℝ) : EReal) := by
  have I := inv_end R
  rw [Value.G9_last]
  revert I
  generalize Pipeline.accAt (fun n h => Value.stAt0 m c n h Value.junk0) (Value.stAt0 m c) 0 31 lt31 = T
  intro I
  exact I.o9 l

theorem G10_eq (R : Reads X m c) (l : Fin 2048) : (Value.G10 m c (ix2 (n0 := 1) (n1 := 2048) 0 l) : EReal) = (((X.acc 32).A10 l.val : ℝ) : EReal) := by
  have I := inv_end R
  rw [Value.G10_last]
  revert I
  generalize Pipeline.accAt (fun n h => Value.stAt0 m c n h Value.junk0) (Value.stAt0 m c) 0 31 lt31 = T
  intro I
  exact I.o10 l

end Cert.Sgu
end
-- ==== Proof.Bridge.lean ====
module
public import proofs.«01_k».proof.Proof.Rows
public import proofs.«01_k».proof.Proof.Fold

/-! # The kernel's real expressions are the reference's -/

@[expose] public section
noncomputable section
namespace Cert.Sgu
open scoped BigOperators

/-- A sum over `a` blocks of `b` is a sum over all. -/
theorem sum_blocks (a b : ℕ) (f : ℕ → ℝ) : ∑ k : Fin (a * b), f k.val = ∑ g : Fin a, ∑ j : Fin b, f (b * g.val + j.val) := by
  rw [← finProdFinEquiv.sum_comp, Fintype.sum_prod_type]
  simp [finProdFinEquiv, add_comm]

theorem psum_eq (f : ℕ → ℕ → ℝ) : Blk.psum f 8 = ∑ k : Fin 2048, f (k.val / 256) k.val := by
  refine Eq.trans ?_ (sum_blocks 8 256 fun k => f (k / 256) k).symm
  rw [Blk.psum, Finset.sum_range]
  refine Finset.sum_congr rfl fun g _ => Finset.sum_congr rfl fun j _ => ?_
  rw [show (256 * g.val + j.val) / 256 = g.val by omega]

theorem rows_eq (f : ℕ → ℝ) : ∑ k : Fin 4096, f k.val = ∑ n ∈ Finset.range 32, ∑ j : Fin 128, f (128 * n + j.val) := by
  rw [Finset.sum_range]
  exact sum_blocks 32 128 f

namespace Arr
variable (X : Arr) (n : ℕ) (r : Fin 128)

theorem bMU : (X.blk n).MU r = X.rMU (128 * n + r.val) := by rw [Blk.MU, psum_eq]; rfl
theorem bVC (c : ℕ) : (X.blk n).VC r c = X.rVC (128 * n + r.val) c := by rw [Blk.VC, bMU]; rfl
theorem bRS : (X.blk n).RS r = X.rRS (128 * n + r.val) := by
  rw [Blk.RS, psum_eq]
  simp only [bVC]
  rfl
theorem bVH (c : ℕ) : (X.blk n).VH r c = X.rVH (128 * n + r.val) c := by rw [Blk.VH, bVC, bRS, rVH]
theorem bVL (c : ℕ) : (X.blk n).VL r c = X.rVL (128 * n + r.val) c := by rw [Blk.VL, bVH, rVL]; rfl
theorem bDS (c : ℕ) : (X.blk n).DS r c = X.rDS (128 * n + r.val) c := by
  rw [rDS, mul_comm (gel _), mul_right_comm]; rfl

theorem split_row : (128 * n + r.val) / 128 = n ∧ (128 * n + r.val) % 128 = r.val := by omega
theorem split_col (c : ℕ) : 256 * (c / 256) + c % 256 = c := Nat.div_add_mod _ _

theorem bS (c : ℕ) : (X.blk n).S (c / 256) r c = X.rST (128 * n + r.val) c := by
  have h : (⟨(128 * n + r.val) % 128, Nat.mod_lt _ (by norm_num)⟩ : Fin 128) = r := Fin.ext (split_row n r).2
  rw [rST, rS, h, (split_row n r).1, split_col, Blk.S]
  refine congrArg₂ (· + ·) (Finset.sum_congr rfl fun k _ => ?_) rfl
  rw [bVL, mul_comm]; rfl
theorem bDL (c : ℕ) : (X.blk n).DVL (c / 256) r c = X.rDL (128 * n + r.val) c := by
  have h : (⟨(128 * n + r.val) % 128, Nat.mod_lt _ (by norm_num)⟩ : Fin 128) = r := Fin.ext (split_row n r).2
  rw [rDL, rDVL, h, (split_row n r).1, split_col, Blk.DVL]
  refine Finset.sum_congr rfl fun k _ => ?_
  rw [bDS, mul_comm]; rfl
theorem bDH (c : ℕ) : (X.blk n).DVH (c / 256) r c = X.rDH (128 * n + r.val) c := by rw [Blk.DVH, bDL]; rfl
theorem bM1 : (X.blk n).M1 r = (∑ k : Fin 2048, X.rDH (128 * n + r.val) k.val) / 2048 := by
  rw [Blk.M1, psum_eq]
  simp only [bDH]
theorem bM2 : (X.blk n).M2 r = (∑ k : Fin 2048, X.rDH (128 * n + r.val) k.val * X.rVH (128 * n + r.val) k.val) / 2048 := by
  rw [Blk.M2, psum_eq]
  simp only [bDH, bVH]

/-- The centred values sum to zero. -/
theorem sum_rVC (ρ : ℕ) : ∑ k : Fin 2048, X.rVC ρ k.val = 0 := by
  simp only [rVC, Finset.sum_sub_distrib, Finset.sum_const, Finset.card_univ, Fintype.card_fin, nsmul_eq_mul]
  rw [rMU]
  ring

theorem rRS_sq (ρ : ℕ) : X.rRS ρ * X.rRS ρ = (X.rVA ρ)⁻¹ := by
  rw [rRS, ← mul_inv, Real.mul_self_sqrt (X.rVA_pos ρ).le]

/-- The layer norm's gradient: the reference's three paths are the kernel's one formula. -/
theorem rDG_eq (ρ l : ℕ) : X.rDG ρ l = X.rRS ρ * (X.rDH ρ l - (∑ k : Fin 2048, X.rDH ρ k.val) / 2048 - X.rVH ρ l * ((∑ k : Fin 2048, X.rDH ρ k.val * X.rVH ρ k.val) / 2048)) := by
  have h1 : ∑ k : Fin 2048, -X.rQ ρ k.val = 0 := by
    simp only [rQ, Finset.sum_neg_distrib, ← Finset.mul_sum, sum_rVC, mul_zero, neg_zero]
  have h2 : ∑ k : Fin 2048, -X.rP ρ k.val = -((∑ k : Fin 2048, X.rDH ρ k.val) * X.rRS ρ) := by
    simp only [rP, Finset.sum_neg_distrib, ← Finset.sum_mul]
  have h3 : ∑ k : Fin 2048, X.rDH ρ k.val * X.rVH ρ k.val = (∑ k : Fin 2048, X.rVC ρ k.val * X.rDH ρ k.val) * X.rRS ρ := by
    rw [Finset.sum_mul]
    exact Finset.sum_congr rfl fun k _ => by rw [rVH]; ring
  rw [rDG, h1, h2, h3, rP, rQ, div_eq_mul_inv (X.rRS ρ), ← rRS_sq, rVH]
  ring

/-- GELU's gradient: the reference's product rule is the derivative. -/
theorem gelu_grad (w x e : ℝ) (he : e = c0 * (1 / 2 * x * w * ((1 + gt x) * (1 - gt x)))) :
    e + 8943 / 200000 * e * (3 * (x * x)) + 1 / 2 * (w * (1 + gt x)) = w * dgel x := by
  rw [he, dgel]; ring

theorem bDP (c : ℕ) : (X.blk n).DP r c = X.rDP (128 * n + r.val) c := by
  rw [Blk.DP, rDP]
  by_cases h : c < 2048
  · rw [if_pos h, if_pos (by omega), gelu_grad (X.rDW (128 * n + r.val) c) (X.X0 (128 * n + r.val) c) (X.rE (128 * n + r.val) c) rfl, rDW, if_pos h, rDU, Blk.DPU, bS]
    show X.X1 _ c * _ * silu (X.X0 (128 * n + r.val) (4096 + c)) * dgel (X.X0 (128 * n + r.val) c) = _
    ring
  · rw [if_neg h]
    by_cases h' : c < 4096
    · rw [if_pos h', if_pos h', gelu_grad (X.rDW (128 * n + r.val) c) (X.X0 (128 * n + r.val) c) (X.rE (128 * n + r.val) c) rfl, rDW, if_neg h, rDG_eq, Blk.DPV, bDH, bRS, bM1, bM2, bVH]
      show _ * dgel (X.X0 _ (2048 + (c - 2048))) = _
      rw [show 2048 + (c - 2048) = c by omega]
    · rw [if_neg h', if_neg h', Blk.DPG, bS, rUY]
      show X.X1 _ (c - 4096) * gel (X.X0 _ (c - 4096)) * _ * dsilu (X.X0 _ (4096 + (c - 4096))) = _
      rw [show 4096 + (c - 4096) = c by omega, dsilu]
      ring

theorem bA8 (g : ℕ) : (X.acc 32).A8 g r = ∑ n : Fin 32, ∑ j : Fin 256, X.rDS (128 * n.val + r.val) (256 * g + j.val) := by
  show ∑ n ∈ Finset.range 32, (X.blk n).DBS g r = _
  rw [Finset.sum_range]
  simp only [Blk.DBS, bDS]

theorem bA7 (g : ℕ) (a b : Fin 128) : X.A7M 31 g a b = if b.val / 64 ≤ a.val / 64 then ∑ n : Fin 32, ∑ j : Fin 256, X.rDS (128 * n.val + a.val) (256 * g + j.val) * X.rVL (128 * n.val + b.val) (256 * g + j.val) else 0 := by
  rw [A7M, if_pos rfl]
  congr 1
  show ∑ n ∈ Finset.range 32, (X.blk n).DWS g a b = _
  rw [Finset.sum_range]
  simp only [Blk.DWS, bDS, bVL]

theorem bA9 (l : ℕ) : (X.acc 32).A9 l = ∑ ρ : Fin 4096, X.rVH ρ.val l * X.rDL ρ.val l := by
  rw [rows_eq fun ρ => X.rVH ρ l * X.rDL ρ l]
  show ∑ n ∈ Finset.range 32, (X.blk n).DLG (l / 256) l = _
  simp only [Blk.DLG, bDL, bVH, mul_comm]

theorem bA10 (l : ℕ) : (X.acc 32).A10 l = ∑ ρ : Fin 4096, X.rDL ρ.val l := by
  rw [rows_eq fun ρ => X.rDL ρ l]
  show ∑ n ∈ Finset.range 32, (X.blk n).DLB (l / 256) l = _
  simp only [Blk.DLB, bDL]

end Arr
end Cert.Sgu
end
-- ==== Proof.RefA.lean ====
module
public import proofs.«01_k».proof.Proof.Rows
public import proofs.«01_k».proof.Proof.Gen.ReferenceIdeal.Run
import Idealize.ShloMosaic.Lib.Tactic.CleanTypes
import Idealize.ShloMosaic.Lib.Pipeline.ValueKit

/-! # The reference's named terms, read at an index -/

@[expose] public section
set_option maxRecDepth 16384
noncomputable section
namespace Cert.Sgu
open Idealize.ShloMosaic Idealize.ShloMosaic.TcCoe Cert.ReferenceIdeal Cert.ReferenceIdeal.Value
open scoped BigOperators

/-- The reference's arguments are these real arrays. -/
structure RReads (X : Arr) (V : Valuation τ sig (Elt Ideal)) : Prop where
  x0 : ∀ (r : Fin 4096) (l : Fin 6144), (V (Proc.devRef .tc main_arg0) (ix2 (n0 := 4096) (n1 := 6144) r l) : EReal) = ((X.X0 r.val l.val : ℝ) : EReal)
  x1 : ∀ (r : Fin 4096) (l : Fin 2048), (V (Proc.devRef .tc main_arg1) (ix2 (n0 := 4096) (n1 := 2048) r l) : EReal) = ((X.X1 r.val l.val : ℝ) : EReal)
  x2 : ∀ l : Fin 2048, (V (Proc.devRef .tc main_arg2) (ix2 (n0 := 1) (n1 := 2048) 0 l) : EReal) = ((X.X2 l.val : ℝ) : EReal)
  x3 : ∀ l : Fin 2048, (V (Proc.devRef .tc main_arg3) (ix2 (n0 := 1) (n1 := 2048) 0 l) : EReal) = ((X.X3 l.val : ℝ) : EReal)
  x4 : ∀ (g : Fin 8) (a b : Fin 128), (V (Proc.devRef .tc main_arg4) (ix4 (n0 := 1) (n1 := 8) (n2 := 128) (n3 := 128) 0 g a b) : EReal) = ((X.X4 g.val a b : ℝ) : EReal)
  x5 : ∀ (g : Fin 8) (a : Fin 128), (V (Proc.devRef .tc main_arg5) (ix3 (n0 := 1) (n1 := 8) (n2 := 128) 0 g a) : EReal) = ((X.X5 g.val a : ℝ) : EReal)

variable {X : Arr} {V : Valuation τ sig (Elt Ideal)}

theorem r0 (R : RReads X V) (r : Fin 4096) (l : Fin 2048) : (res_main_v0 V (ix2 (n0 := 4096) (n1 := 2048) r l) : EReal) = ((X.X1 r.val l.val : ℝ) : EReal) := by
  unfold res_main_v0
  clean_types
  pointwise [R.x1]

theorem r5 (R : RReads X V) (r : Fin 4096) (l : Fin 4096) : (res_main_v5 V (ix2 (n0 := 4096) (n1 := 4096) r l) : EReal) = ((X.X0 r.val l.val : ℝ) : EReal) := by
  unfold res_main_v5
  clean_types
  pointwise [R.x0]

theorem r6 (R : RReads X V) (r : Fin 4096) (l : Fin 2048) : (res_main_v6 V (ix2 (n0 := 4096) (n1 := 2048) r l) : EReal) = ((X.X0 r.val (4096 + l.val) : ℝ) : EReal) := by
  unfold res_main_v6
  clean_types
  pointwise [R.x0]

theorem r7 : (res_main_v7 V ix0 : EReal) = ((8943 / 200000 : ℝ) : EReal) := by
  unfold res_main_v7
  clean_types
  pointwise
  rw [num_eq, den_eq, div_real (by norm_num)]

theorem r9 (R : RReads X V) (r : Fin 4096) (l : Fin 4096) : (res_main_v9 V (ix2 (n0 := 4096) (n1 := 4096) r l) : EReal) = ((1 / 2 * X.X0 r.val l.val : ℝ) : EReal) := by
  unfold res_main_v9
  clean_types
  pointwise [r5 R]
  simp only [half_eq, ← EReal.coe_mul]

theorem r20 (R : RReads X V) (r : Fin 4096) (l : Fin 4096) : (res_main_v20 V (ix2 (n0 := 4096) (n1 := 4096) r l) : EReal) = ((gt (X.X0 r.val l.val) : ℝ) : EReal) := by
  unfold res_main_v20
  clean_types
  pointwise [r5 R, r7]
  simp only [c0_eq, ← EReal.coe_mul, ← EReal.coe_add, Ideal.tanh_coe]
  rw [gt]
  congr 3
  ring

theorem r27 (R : RReads X V) (r : Fin 4096) (l : Fin 4096) : (res_main_v27 V (ix2 (n0 := 4096) (n1 := 4096) r l) : EReal) = ((1 + gt (X.X0 r.val l.val) : ℝ) : EReal) := by
  unfold res_main_v27
  clean_types
  pointwise [r20 R]
  rw [← EReal.coe_one, ← EReal.coe_add]
theorem r28 (R : RReads X V) (r : Fin 4096) (l : Fin 4096) : (res_main_v28 V (ix2 (n0 := 4096) (n1 := 4096) r l) : EReal) = ((gel (X.X0 r.val l.val) : ℝ) : EReal) := by
  unfold res_main_v28
  clean_types
  pointwise [r9 R, r27 R]
  rw [← EReal.coe_mul, gel]
theorem r29 (R : RReads X V) (r : Fin 4096) (l : Fin 2048) : (res_main_v29 V (ix2 (n0 := 4096) (n1 := 2048) r l) : EReal) = ((gel (X.X0 r.val l.val) : ℝ) : EReal) := by
  unfold res_main_v29
  clean_types
  pointwise [r28 R]

theorem r30 (R : RReads X V) (r : Fin 4096) (l : Fin 2048) : (res_main_v30 V (ix2 (n0 := 4096) (n1 := 2048) r l) : EReal) = ((gel (X.X0 r.val (2048 + l.val)) : ℝ) : EReal) := by
  unfold res_main_v30
  clean_types
  pointwise [r28 R]

theorem r34 (R : RReads X V) (r : Fin 4096) : (res_main_v34 V (ix2 (n0 := 4096) (n1 := 1) r 0) : EReal) = ((X.rMU r.val : ℝ) : EReal) := by
  unfold res_main_v34
  clean_types
  pointwise [r30 R]
  rw [coe_sum, n2048_eq, div_2048, Arr.rMU]
theorem r36 (R : RReads X V) (r : Fin 4096) (l : Fin 2048) : (res_main_v36 V (ix2 (n0 := 4096) (n1 := 2048) r l) : EReal) = ((X.rVC r.val l.val : ℝ) : EReal) := by
  unfold res_main_v36
  clean_types
  pointwise [r30 R, r34 R]
  rw [← EReal.coe_sub, Arr.rVC]
theorem r45 (R : RReads X V) (r : Fin 4096) (l : Fin 2048) : (res_main_v45 V (ix2 (n0 := 4096) (n1 := 2048) r l) : EReal) = ((X.rVC r.val l.val : ℝ) : EReal) := by
  unfold res_main_v45
  clean_types
  pointwise [r30 R, r34 R]
  rw [← EReal.coe_sub, Arr.rVC]
theorem r47 (R : RReads X V) (r : Fin 4096) : (res_main_v47 V (ix2 (n0 := 4096) (n1 := 1) r 0) : EReal) = ((X.rVA r.val : ℝ) : EReal) := by
  unfold res_main_v47
  clean_types
  pointwise [r36 R]
  simp only [← EReal.coe_mul]
  rw [coe_sum, n2048_eq, div_2048, eps_eq, ← EReal.coe_add, Arr.rVA]
theorem r48 (R : RReads X V) (r : Fin 4096) : (res_main_v48 V (ix2 (n0 := 4096) (n1 := 1) r 0) : EReal) = ((X.rRS r.val : ℝ) : EReal) := by
  unfold res_main_v48
  clean_types
  pointwise [r47 R]
  rw [rsqrt_real (X.rVA_pos _), Arr.rRS]
theorem r53 (R : RReads X V) (r : Fin 4096) (l : Fin 2048) : (res_main_v53 V (ix2 (n0 := 4096) (n1 := 2048) r l) : EReal) = ((X.rVH r.val l.val : ℝ) : EReal) := by
  unfold res_main_v53
  clean_types
  pointwise [r45 R, r48 R]
  rw [← EReal.coe_mul, Arr.rVH]
theorem r54 (R : RReads X V) (l : Fin 2048) : (res_main_v54 V (ix2 (n0 := 1) (n1 := 2048) 0 l) : EReal) = ((X.X2 l.val : ℝ) : EReal) := by
  unfold res_main_v54
  clean_types
  pointwise [R.x2]

theorem r60 (R : RReads X V) (n : Fin 32) (t : Fin 128) (g : Fin 8) (j : Fin 256) : (res_main_v60 V (ix4 (n0 := 32) (n1 := 128) (n2 := 8) (n3 := 256) n t g j) : EReal) = ((X.rVL (128 * n.val + t.val) (256 * g.val + j.val) : ℝ) : EReal) := by
  unfold res_main_v60
  clean_types
  pointwise [r53 R, r54 R, R.x3]
  rw [← EReal.coe_mul, ← EReal.coe_add, Arr.rVL, Nat.mul_comm n.val 128, Nat.mul_comm g.val 256]
/-- The host's floored quotient by 64, on a lane number. -/
theorem fdh : ∀ a : Fin 128,
    Scalar.select
      (IntOp.andi
        (IntOp.cmpi CmpIPredicate.ne (if BitVec.ofNat 32 a.val = 0 then (0 : BitVec 32) else if (BitVec.ofNat 32 a.val).msb = true then -1 else 1)
          (if (64#32 : BitVec 32) = 0 then 0 else if BitVec.msb (64#32 : BitVec 32) = true then -1 else 1))
        (IntOp.cmpi CmpIPredicate.ne (IntOp.remsi ArithUnit.host (BitVec.ofNat 32 a.val) 64#32) 0#32))
      (IntOp.subi (IntOp.divsi ArithUnit.host (BitVec.ofNat 32 a.val) 64#32) 1#32)
      (IntOp.divsi ArithUnit.host (BitVec.ofNat 32 a.val) 64#32) = BitVec.ofNat 32 (a.val / 64) := by decide +kernel

theorem cmp_sleh (a b : Fin 128) :
    IntOp.cmpi CmpIPredicate.sle (BitVec.ofNat 32 (b.val / 64)) (BitVec.ofNat 32 (a.val / 64)) = if b.val / 64 ≤ a.val / 64 then 1#1 else 0#1 := by
  revert a b; decide +kernel

theorem c64 : res_main_call0_v0 V ix0 = 64#32 := rfl
theorem c64' : res_main_call1_v0 V ix0 = 64#32 := rfl

theorem r70_1 (g : Fin 8) (a b : Fin 128) : res_main_v70_1 V (ix3 (n0 := 8) (n1 := 128) (n2 := 128) g a b) = if b.val / 64 ≤ a.val / 64 then 1#1 else 0#1 := by
  unfold res_main_v70_1
  clean_types
  pointwise [res_main_v62, res_main_v64, c64, c64', res_main_call0_v2, res_main_call1_v2, res_main_v61]
  exact (congrArg₂ (IntOp.cmpi .sle) (fdh b) (fdh a)).trans (cmp_sleh a b)

theorem r70_0 (R : RReads X V) (g : Fin 8) (a b : Fin 128) : (res_main_v70_0 V (ix3 (n0 := 8) (n1 := 128) (n2 := 128) g a b) : EReal) = ((X.WM g.val a b : ℝ) : EReal) := by
  unfold res_main_v70_0
  clean_types
  pointwise [r70_1, R.x4]
  rw [Arr.WM]
  split <;> simp [Scalar.select]
theorem r77 (R : RReads X V) (n : Fin 32) (t : Fin 128) (g : Fin 8) (j : Fin 256) : (res_main_v77 V (ix2 (n0 := 4096) (n1 := 2048) ⟨128 * n.val + t.val, by omega⟩ ⟨256 * g.val + j.val, by omega⟩) : EReal) = ((X.rS n.val t g.val j.val : ℝ) : EReal) := by
  unfold res_main_v77
  clean_types
  pointwise [r60 R, r70_0 R, R.x5]
  simp only [← EReal.coe_mul]
  rw [coe_sum, ← EReal.coe_add, Arr.rS]

end Cert.Sgu
end
-- ==== Proof.RefB.lean ====
module
public import proofs.«01_k».proof.Proof.RefA
import Idealize.ShloMosaic.Lib.Tactic.CleanTypes
import Idealize.ShloMosaic.Lib.Pipeline.ValueKit

/-! # The reference's gradients, read at an index -/

@[expose] public section
set_option maxRecDepth 16384
noncomputable section
namespace Cert.Sgu
open Idealize.ShloMosaic Idealize.ShloMosaic.TcCoe Cert.ReferenceIdeal Cert.ReferenceIdeal.Gen Cert.ReferenceIdeal.Value
open scoped BigOperators

variable {X : Arr} {V : Valuation τ sig (Elt Ideal)}

/-- The logistic function through the exponential. -/
theorem sgm_exp (x : ℝ) : 1 / (1 + Real.exp (-x)) = sgm x := by
  have h : Real.exp (-x) = Real.exp (-(1 / 2 * x)) * Real.exp (-(1 / 2 * x)) := by rw [← Real.exp_add]; congr 1; ring
  have p := Real.exp_pos (1 / 2 * x)
  rw [sgm, Real.tanh_eq_sinh_div_cosh, Real.sinh_eq, Real.cosh_eq, h, Real.exp_neg]
  generalize Real.exp (1 / 2 * x) = a at p
  have := p.ne'
  field_simp
  ring

theorem exp_real (x : ℝ) : Ideal.exp ((x : ℝ) : EReal) = ((Real.exp x : ℝ) : EReal) := rfl

/-- A row's number from its block and its place there. -/
theorem row_eq (r : Fin 4096) (h : 128 * (r.val / 128) + r.val % 128 < 4096) : (⟨128 * (r.val / 128) + r.val % 128, h⟩ : Fin 4096) = r := Fin.ext (Nat.div_add_mod _ _)
theorem col_eq (l : Fin 2048) (h : 256 * (l.val / 256) + l.val % 256 < 2048) : (⟨256 * (l.val / 256) + l.val % 256, h⟩ : Fin 2048) = l := Fin.ext (Nat.div_add_mod _ _)

theorem r77g (R : RReads X V) (r : Fin 4096) (l : Fin 2048) : (res_main_v77 V (ix2 (n0 := 4096) (n1 := 2048) r l) : EReal) = ((X.rST r.val l.val : ℝ) : EReal) := by
  have h := r77 R ⟨r.val / 128, by omega⟩ ⟨r.val % 128, by omega⟩ ⟨l.val / 256, by omega⟩ ⟨l.val % 256, by omega⟩
  simp only [row_eq, col_eq] at h
  exact h

theorem r78 (R : RReads X V) (r : Fin 4096) (l : Fin 2048) : (res_main_v78 V (ix2 (n0 := 4096) (n1 := 2048) r l) : EReal) = ((gel (X.X0 r.val l.val) * X.rST r.val l.val : ℝ) : EReal) := by
  unfold res_main_v78
  clean_types
  pointwise [r29 R, r77g R]
  rw [← EReal.coe_mul]

theorem r79_2 (R : RReads X V) (r : Fin 4096) (l : Fin 2048) : (res_main_v79_2 V (ix2 (n0 := 4096) (n1 := 2048) r l) : EReal) = ((sgm (X.X0 r.val (4096 + l.val)) : ℝ) : EReal) := by
  unfold res_main_v79_2
  clean_types
  pointwise [r6 R]
  rw [← EReal.coe_neg, exp_real, ← EReal.coe_one, ← EReal.coe_add, div_real (by positivity), sgm_exp]

theorem r79_0 (R : RReads X V) (r : Fin 4096) (l : Fin 2048) : (res_main_v79_0 V (ix2 (n0 := 4096) (n1 := 2048) r l) : EReal) = ((silu (X.X0 r.val (4096 + l.val)) : ℝ) : EReal) := by
  unfold res_main_v79_0
  clean_types
  pointwise [r6 R, r79_2 R]
  rw [← EReal.coe_mul, silu]

theorem r81 (R : RReads X V) (r : Fin 4096) (l : Fin 2048) : (res_main_v81 V (ix2 (n0 := 4096) (n1 := 2048) r l) : EReal) = ((X.rUY r.val l.val : ℝ) : EReal) := by
  unfold res_main_v81
  clean_types
  pointwise [r78 R, r0 R]
  rw [← EReal.coe_mul, Arr.rUY]

theorem r82 (R : RReads X V) (r : Fin 4096) (l : Fin 2048) : (res_main_v82 V (ix2 (n0 := 4096) (n1 := 2048) r l) : EReal) = ((X.X1 r.val l.val * silu (X.X0 r.val (4096 + l.val)) : ℝ) : EReal) := by
  unfold res_main_v82
  clean_types
  pointwise [r0 R, r79_0 R]
  rw [← EReal.coe_mul]

theorem r86 (R : RReads X V) (n : Fin 32) (t : Fin 128) (g : Fin 8) (j : Fin 256) : (res_main_v86 V (ix4 (n0 := 32) (n1 := 128) (n2 := 8) (n3 := 256) n t g j) : EReal) = ((X.rDS (128 * n.val + t.val) (256 * g.val + j.val) : ℝ) : EReal) := by
  unfold res_main_v86
  clean_types
  pointwise [r29 R, r82 R]
  rw [← EReal.coe_mul, Arr.rDS, Nat.mul_comm n.val 128, Nat.mul_comm g.val 256]

theorem r91 (R : RReads X V) (n : Fin 32) (t : Fin 128) (g : Fin 8) (j : Fin 256) : (res_main_v91 V (ix4 (n0 := 8) (n1 := 32) (n2 := 256) (n3 := 128) g n j t) : EReal) = ((X.rDS (128 * n.val + t.val) (256 * g.val + j.val) : ℝ) : EReal) := by
  unfold res_main_v91
  clean_types
  pointwise [r86 R]

theorem r96 (R : RReads X V) (n : Fin 32) (t : Fin 128) (g : Fin 8) (j : Fin 256) : (res_main_v96 V (ix2 (n0 := 4096) (n1 := 2048) ⟨128 * n.val + t.val, by omega⟩ ⟨256 * g.val + j.val, by omega⟩) : EReal) = ((X.rDVL n.val t g.val j.val : ℝ) : EReal) := by
  unfold res_main_v96
  clean_types
  pointwise [r91 R, r70_0 R]
  simp only [← EReal.coe_mul]
  rw [coe_sum, Arr.rDVL]

theorem r96g (R : RReads X V) (r : Fin 4096) (l : Fin 2048) : (res_main_v96 V (ix2 (n0 := 4096) (n1 := 2048) r l) : EReal) = ((X.rDL r.val l.val : ℝ) : EReal) := by
  have h := r96 R ⟨r.val / 128, by omega⟩ ⟨r.val % 128, by omega⟩ ⟨l.val / 256, by omega⟩ ⟨l.val % 256, by omega⟩
  simp only [row_eq, col_eq] at h
  exact h

theorem r104 (R : RReads X V) (r : Fin 4096) (l : Fin 2048) : (res_main_v104 V (ix2 (n0 := 4096) (n1 := 2048) r l) : EReal) = ((X.rDH r.val l.val : ℝ) : EReal) := by
  unfold res_main_v104
  clean_types
  pointwise [r96g R, r54 R]
  rw [← EReal.coe_mul, Arr.rDH]

theorem r110 (R : RReads X V) (r : Fin 4096) (l : Fin 2048) : (res_main_v110 V (ix2 (n0 := 4096) (n1 := 2048) r l) : EReal) = ((X.rP r.val l.val : ℝ) : EReal) := by
  unfold res_main_v110
  clean_types
  pointwise [r104 R, r48 R]
  rw [← EReal.coe_mul, Arr.rP]

theorem r119 (R : RReads X V) (r : Fin 4096) (l : Fin 2048) : (res_main_v119 V (ix2 (n0 := 4096) (n1 := 2048) r l) : EReal) = ((X.rQ r.val l.val : ℝ) : EReal) := by
  unfold res_main_v119
  clean_types
  pointwise [r45 R, r104 R, r48 R, r47 R, r36 R]
  rw [Fin.sum_univ_one, r48 R, r47 R]
  simp only [n2048_eq, neg_half_eq, two_eq, div_real (X.rVA_pos _).ne', ← EReal.coe_mul, coe_sum, div_2048]
  rw [Arr.rQ]

theorem r132 (R : RReads X V) (r : Fin 4096) (l : Fin 4096) : (res_main_v132 V (ix2 (n0 := 4096) (n1 := 4096) r l) : EReal) = ((X.rDW r.val l.val : ℝ) : EReal) := by
  unfold res_main_v132
  clean_types
  pointwise [r110 R, r119 R, r82 R, r77g R]
  rw [Fin.sum_univ_one]
  simp only [n2048_eq, ← EReal.coe_neg, coe_sum, ← EReal.coe_add, ← EReal.coe_mul, div_2048]
  have hl := l.isLt
  rw [Arr.rDW]
  by_cases h : l.val < 2048
  · rw [dif_neg (by omega), dif_pos h, if_pos h, Arr.rDU, zero_add]
  · rw [dif_pos (by omega), dif_neg h, if_neg h, Arr.rDG, add_zero]

theorem r137 (R : RReads X V) (r : Fin 4096) (l : Fin 4096) : (res_main_v137 V (ix2 (n0 := 4096) (n1 := 4096) r l) : EReal) = ((X.rE r.val l.val : ℝ) : EReal) := by
  unfold res_main_v137
  clean_types
  pointwise [r9 R, r132 R, r20 R]
  simp only [c0_eq, ← EReal.coe_one, ← EReal.coe_mul, ← EReal.coe_add, ← EReal.coe_sub]
  rw [Arr.rE]

/-- The projection's gradient, as the reference composes it. -/
def t152 (V : Valuation τ sig (Elt Ideal)) : FVec Ideal S4096x6144 .bf16 :=
  truncf .bf16 (addf (pad S4096x6144 ![0, 4096] ![0, 0] ![0, 0] (addf (mulf (res_main_v81 V) (res_main_v79_2 V)) (mulf (mulf (res_main_v6 V) (res_main_v81 V)) (mulf (res_main_v79_2 V) (subf (broadcastInDim S4096x2048 ![] bcast_S_S4096x2048 (constant S_ .f32 0x3F800000#32)) (res_main_v79_2 V))))) (constant S_ .f32 0x00000000#32) pads_S4096x2048_S4096x6144_000_409600 h_S_) (pad S4096x6144 ![0, 0] ![0, 2048] ![0, 0] (addf (addf (res_main_v137 V) (mulf (mulf (broadcastInDim S4096x4096 ![] bcast_S_S4096x4096 (res_main_v7 V)) (res_main_v137 V)) (mulf (broadcastInDim S4096x4096 ![] bcast_S_S4096x4096 (constant S_ .f32 0x40400000#32)) (mulf (res_main_v5 V) (res_main_v5 V))))) (mulf (broadcastInDim S4096x4096 ![] bcast_S_S4096x4096 (constant S_ .f32 0x3F000000#32)) (mulf (res_main_v132 V) (res_main_v27 V)))) (constant S_ .f32 0x00000000#32) pads_S4096x4096_S4096x6144_000_020480 h_S_)) bitsLt_bf16_f32
/-- The mixing weights' gradient, as the reference composes it. -/
def t153 (V : Valuation τ sig (Elt Ideal)) : FVec Ideal S8x128x128 .f32 :=
  shapeCast _ (broadcastInDim S1x8x128x128 ![1, 2, 3] bcast_S8x128x128_S1x8x128x128_1_2_3 (select (res_main_v70_1 V) (Host.dotGeneral (φ₁ := .f32) (φ₂ := .f32) dot_S8x32x256x128_S32x128x8x256_S8x128x128_12_03_3_1_0_2 none (res_main_v91 V) (res_main_v60 V)) (broadcastInDim S8x128x128 ![] bcast_S_S8x128x128 (constant S_ .f32 0x00000000#32)))) shapeCasts_S1x8x128x128_S8x128x128
/-- The mixing bias's gradient, as the reference composes it. -/
def t155 (V : Valuation τ sig (Elt Ideal)) : FVec Ideal S8x128x1 .f32 :=
  shapeCast _ (shapeCast _ (broadcastInDim S1x8x128 ![1, 2] bcast_S8x128_S1x8x128_1_2 (transpose S8x128 [1, 0] (Host.reduceAdd (shapeCast _ (Host.reduceAdd (res_main_v86 V) (constant S_ .f32 0x00000000#32) reducesTo_S32x128x8x256_S128x8_d0_3 h_S_) shapeCasts_S128x8_S1x128x8x1) (constant S_ .f32 0x00000000#32) reducesTo_S1x128x8x1_S128x8_d0_3 h_S_) transposes_S128x8_S8x128_1_0)) shapeCasts_S1x8x128_S8x128) shapeCasts_S8x128_S8x128x1
/-- The gain's gradient, as the reference composes it. -/
def t151 (V : Valuation τ sig (Elt Ideal)) : FVec Ideal S1x2048 .f32 :=
  broadcastInDim S1x2048 ![1] bcast_S2048_S1x2048_1 (Host.reduceAdd (shapeCast _ (Host.reduceAdd (mulf (res_main_v53 V) (res_main_v96 V)) (constant S_ .f32 0x00000000#32) reducesTo_S4096x2048_S2048_d0 h_S_) shapeCasts_S2048_S1x2048) (constant S_ .f32 0x00000000#32) reducesTo_S1x2048_S2048_d0 h_S_)
/-- The bias's gradient, as the reference composes it. -/
def t150 (V : Valuation τ sig (Elt Ideal)) : FVec Ideal S1x2048 .f32 :=
  broadcastInDim S1x2048 ![1] bcast_S2048_S1x2048_1 (Host.reduceAdd (shapeCast _ (Host.reduceAdd (res_main_v96 V) (constant S_ .f32 0x00000000#32) reducesTo_S4096x2048_S2048_d0 h_S_) shapeCasts_S2048_S1x2048) (constant S_ .f32 0x00000000#32) reducesTo_S1x2048_S2048_d0 h_S_)

theorem e152 (R : RReads X V) (r : Fin 4096) (l : Fin 6144) : t152 V (ix2 (n0 := 4096) (n1 := 6144) r l) = ((X.rDP r.val l.val : ℝ) : EReal) := by
  unfold t152
  clean_types
  pointwise [r81 R, r79_2 R, r6 R, r137 R, r7, r5 R, r132 R, r27 R]
  simp only [three_eq, half_eq, ← EReal.coe_one, ← EReal.coe_mul, ← EReal.coe_add, ← EReal.coe_sub]
  have hl := l.isLt
  rw [Arr.rDP]
  by_cases h : l.val < 4096
  · rw [dif_neg (by omega), dif_pos h, if_pos h, ← EReal.coe_zero, ← EReal.coe_add, zero_add]
  · rw [dif_pos (by omega), dif_neg h, if_neg h, ← EReal.coe_zero, ← EReal.coe_add, add_zero, show 4096 + (l.val - 4096) = l.val by omega]

theorem e153 (R : RReads X V) (g : Fin 8) (a b : Fin 128) : t153 V (ix3 (n0 := 8) (n1 := 128) (n2 := 128) g a b) = (((if b.val / 64 ≤ a.val / 64 then ∑ n : Fin 32, ∑ j : Fin 256, X.rDS (128 * n.val + a.val) (256 * g.val + j.val) * X.rVL (128 * n.val + b.val) (256 * g.val + j.val) else 0) : ℝ) : EReal) := by
  unfold t153
  clean_types
  pointwise [r70_1, r91 R, r60 R]
  simp only [← EReal.coe_mul, coe_sum]
  split <;> simp [Scalar.select]

/-- A host sum over the first and last axes of four. -/
theorem red03 {a b c d : ℕ} (h : (⟨4, ![a, b, c, d]⟩ : Shape).ReducesTo [0, 3] ⟨2, ![b, c]⟩) (v : (⟨4, ![a, b, c, d]⟩ : Shape).Idx → EReal) (x : EReal) (t : Fin b) (g : Fin c) :
    Ideal.hostReduceAdd h v x (ix2 t g) = x + ∑ n : Fin a, ∑ j : Fin d, v (ix4 n t g j) := by
  unfold Ideal.hostReduceAdd
  congr 1
  refine (Finset.sum_filter_eq_sum_of_fiber _ (fun k : Fin a × Fin d => ix4 k.1 t g k.2) (fun _ _ e => Prod.ext (congrFun e 0) (congrFun e 3)) (fun i => ?_) v).trans ?_
  · constructor
    · intro e
      refine ⟨(i 0, i 3), ?_⟩
      funext q; apply Fin.ext
      match q with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext q; apply Fin.ext
      match q with
      | ⟨0, _⟩ => rfl
      | ⟨1, _⟩ => rfl
  · simp only [Fintype.sum_prod_type]

theorem e155 (R : RReads X V) (g : Fin 8) (a : Fin 128) : t155 V (ix3 (n0 := 8) (n1 := 128) (n2 := 1) g a 0) = ((∑ n : Fin 32, ∑ j : Fin 256, X.rDS (128 * n.val + a.val) (256 * g.val + j.val) : ℝ) : EReal) := by
  unfold t155
  clean_types
  pointwise [r86 R]
  rw [red03]
  pointwise [r86 R]
  rw [red03]
  pointwise [r86 R]
  rw [Fin.sum_univ_one, Fin.sum_univ_one]
  simp only [coe_sum]

theorem e151 (R : RReads X V) (l : Fin 2048) : t151 V (ix2 (n0 := 1) (n1 := 2048) 0 l) = ((∑ r : Fin 4096, X.rVH r.val l.val * X.rDL r.val l.val : ℝ) : EReal) := by
  unfold t151
  clean_types
  pointwise [r53 R, r96g R]
  rw [Fin.sum_univ_one]
  simp only [← EReal.coe_mul]
  rw [coe_sum]

theorem e150 (R : RReads X V) (l : Fin 2048) : t150 V (ix2 (n0 := 1) (n1 := 2048) 0 l) = ((∑ r : Fin 4096, X.rDL r.val l.val : ℝ) : EReal) := by
  unfold t150
  clean_types
  pointwise [r96g R]
  rw [Fin.sum_univ_one]
  rw [coe_sum]

end Cert.Sgu
end
-- ==== Proof.Finite.lean ====
module
public import proofs.«01_k».proof.Defs
public import proofs.«01_k».proof.Proof.Bridge
public import proofs.«01_k».proof.Proof.RefB
public import proofs.«01_k».proof.Proof.Gen.Pre_finite
import Idealize.ShloMosaic.Lib.Tactic.CleanTypes
import Idealize.ShloMosaic.Lib.Pipeline.ValueKit

/-! # Finite operands are real arrays -/

@[expose] public section
set_option maxRecDepth 16384
noncomputable section
namespace Cert.Sgu
open Idealize.ShloMosaic Idealize.ShloMosaic.TcCoe
open scoped BigOperators

theorem top32 : Ideal.ofBits .f32 0x7F800000#32 = ⊤ := by simp [Ideal.ofBits, Ideal.ieee]
theorem top16 : Ideal.ofBits .bf16 0x7F80#16 = ⊤ := by simp [Ideal.ofBits, Ideal.ieee]

/-- A value whose magnitude is below the top is the real it denotes. -/
theorem real_of_lt {x : EReal} (h : Ideal.cmp .olt (max x (-x)) ⊤ = 1#1) : x = ((x.toReal : ℝ) : EReal) := by
  refine (EReal.coe_toReal ?_ ?_).symm <;> rintro rfl <;> simp [Ideal.cmp] at h

/-- The real arrays of six operands. -/
def arrOf (a0 : FVec Ideal KernelIdeal.S4096x6144 .f32) (a1 : FVec Ideal KernelIdeal.S4096x2048 .bf16) (a2 a3 : FVec Ideal KernelIdeal.S1x2048 .f32)
    (a4 : FVec Ideal KernelIdeal.S1x8x128x128 .f32) (a5 : FVec Ideal KernelIdeal.S1x8x128 .f32) : Arr where
  X0 r l := if h : r < 4096 ∧ l < 6144 then (a0 (ix2 ⟨r, h.1⟩ ⟨l, h.2⟩) : EReal).toReal else 0
  X1 r l := if h : r < 4096 ∧ l < 2048 then (a1 (ix2 ⟨r, h.1⟩ ⟨l, h.2⟩) : EReal).toReal else 0
  X2 l := if h : l < 2048 then (a2 (ix2 0 ⟨l, h⟩) : EReal).toReal else 0
  X3 l := if h : l < 2048 then (a3 (ix2 0 ⟨l, h⟩) : EReal).toReal else 0
  X4 g a b := if h : g < 8 then (a4 (ix4 0 ⟨g, h⟩ a b) : EReal).toReal else 0
  X5 g a := if h : g < 8 then (a5 (ix3 0 ⟨g, h⟩ a) : EReal).toReal else 0

variable (m : (ℓ : Loc KernelIdeal.nD KernelIdeal.τ KernelIdeal.sig) → Buf (Elt Ideal) ℓ)

/-- The real arrays of the kernel's operands. -/
def arrAt (c : Dev KernelIdeal.nD) : Arr :=
  arrOf (m ((c : Thread KernelIdeal.nD KernelIdeal.τ).loc KernelIdeal.main_arg0)) (m ((c : Thread KernelIdeal.nD KernelIdeal.τ).loc KernelIdeal.main_arg1))
    (m ((c : Thread KernelIdeal.nD KernelIdeal.τ).loc KernelIdeal.main_arg2)) (m ((c : Thread KernelIdeal.nD KernelIdeal.τ).loc KernelIdeal.main_arg3))
    (m ((c : Thread KernelIdeal.nD KernelIdeal.τ).loc KernelIdeal.main_arg4)) (m ((c : Thread KernelIdeal.nD KernelIdeal.τ).loc KernelIdeal.main_arg5))

theorem reads_of (h : Pre_KernelIdeal_finite m) (c : Dev KernelIdeal.nD) : Reads (arrAt m c) m c := by
  obtain ⟨h0, h1, h2, h3, h4, h5⟩ := h c
  constructor
  · intro r l
    have e := congrFun h0 (ix2 (n0 := 4096) (n1 := 6144) r l)
    rw [show (arrAt m c).X0 r.val l.val = _ from dif_pos ⟨r.isLt, l.isLt⟩]
    exact real_of_lt (by rw [← top32]; exact e)
  · intro r l
    have e := congrFun h1 (ix2 (n0 := 4096) (n1 := 2048) r l)
    rw [show (arrAt m c).X1 r.val l.val = _ from dif_pos ⟨r.isLt, l.isLt⟩]
    exact real_of_lt (by rw [← top16]; exact e)
  · intro l
    have e := congrFun h2 (ix2 (n0 := 1) (n1 := 2048) 0 l)
    rw [show (arrAt m c).X2 l.val = _ from dif_pos l.isLt]
    exact real_of_lt (by rw [← top32]; exact e)
  · intro l
    have e := congrFun h3 (ix2 (n0 := 1) (n1 := 2048) 0 l)
    rw [show (arrAt m c).X3 l.val = _ from dif_pos l.isLt]
    exact real_of_lt (by rw [← top32]; exact e)
  · intro g a b
    have e := congrFun h4 (ix4 (n0 := 1) (n1 := 8) (n2 := 128) (n3 := 128) 0 g a b)
    rw [show (arrAt m c).X4 g.val a b = _ from dif_pos g.isLt]
    exact real_of_lt (by rw [← top32]; exact e)
  · intro g a
    have e := congrFun h5 (ix3 (n0 := 1) (n1 := 8) (n2 := 128) 0 g a)
    rw [show (arrAt m c).X5 g.val a = _ from dif_pos g.isLt]
    exact real_of_lt (by rw [← top32]; exact e)

end Cert.Sgu
end
-- ==== Proof.Tie.lean ====
module
public import proofs.«01_k».proof.Proof.Finite

/-! # The two programs' results are equal -/

@[expose] public section
set_option maxRecDepth 16384
noncomputable section
namespace Cert.Sgu
open Idealize.ShloMosaic Idealize.ShloMosaic.TcCoe
open scoped BigOperators

variable {m : (ℓ : Loc KernelIdeal.nD KernelIdeal.τ KernelIdeal.sig) → Buf (Elt Ideal) ℓ} {c : Dev KernelIdeal.nD} {X : Arr}
  {V : Valuation ReferenceIdeal.τ ReferenceIdeal.sig (Elt Ideal)}

/-- The same real arrays, at the reference's operands. -/
theorem Reads.toRef (R : Reads X m c)
    (e0 : V (Proc.devRef .tc ReferenceIdeal.main_arg0) = m ((c : Thread KernelIdeal.nD KernelIdeal.τ).loc KernelIdeal.main_arg0))
    (e1 : V (Proc.devRef .tc ReferenceIdeal.main_arg1) = m ((c : Thread KernelIdeal.nD KernelIdeal.τ).loc KernelIdeal.main_arg1))
    (e2 : V (Proc.devRef .tc ReferenceIdeal.main_arg2) = m ((c : Thread KernelIdeal.nD KernelIdeal.τ).loc KernelIdeal.main_arg2))
    (e3 : V (Proc.devRef .tc ReferenceIdeal.main_arg3) = m ((c : Thread KernelIdeal.nD KernelIdeal.τ).loc KernelIdeal.main_arg3))
    (e4 : V (Proc.devRef .tc ReferenceIdeal.main_arg4) = m ((c : Thread KernelIdeal.nD KernelIdeal.τ).loc KernelIdeal.main_arg4))
    (e5 : V (Proc.devRef .tc ReferenceIdeal.main_arg5) = m ((c : Thread KernelIdeal.nD KernelIdeal.τ).loc KernelIdeal.main_arg5)) : RReads X V where
  x0 r l := (congrFun e0 _).trans (R.x0 r l)
  x1 r l := (congrFun e1 _).trans (R.x1 r l)
  x2 l := (congrFun e2 _).trans (R.x2 l)
  x3 l := (congrFun e3 _).trans (R.x3 l)
  x4 g a b := (congrFun e4 _).trans (R.x4 g a b)
  x5 g a := (congrFun e5 _).trans (R.x5 g a)

theorem ext2 {a b : ℕ} {α : Type} (f g : (⟨2, ![a, b]⟩ : Shape).Idx → α) (h : ∀ (i : Fin a) (j : Fin b), f (ix2 i j) = g (ix2 i j)) : f = g := by
  funext x
  rw [show x = ix2 (x 0) (x 1) from funext fun q => by match q with | ⟨0, _⟩ => rfl | ⟨1, _⟩ => rfl]
  exact h _ _
theorem ext3 {a b d : ℕ} {α : Type} (f g : (⟨3, ![a, b, d]⟩ : Shape).Idx → α) (h : ∀ (i : Fin a) (j : Fin b) (k : Fin d), f (ix3 i j k) = g (ix3 i j k)) : f = g := by
  funext x
  rw [show x = ix3 (x 0) (x 1) (x 2) from funext fun q => by match q with | ⟨0, _⟩ => rfl | ⟨1, _⟩ => rfl | ⟨2, _⟩ => rfl]
  exact h _ _ _

variable (R : Reads X m c) (Q : RReads X V)
include R Q

theorem tie6 : t152 V = KernelIdeal.Value.G6 m c := by
  refine ext2 _ _ fun i j => (e152 Q i j).trans ?_
  have h : 128 * (i.val / 128) + i.val % 128 = i.val := Nat.div_add_mod _ _
  refine Eq.trans ?_ (G6_eq R ⟨i.val / 128, by omega⟩ ⟨i.val % 128, by omega⟩ j i h.symm).symm
  rw [Arr.bDP]
  exact congrArg (fun ρ : ℕ => ((X.rDP ρ j.val : ℝ) : EReal)) h.symm
theorem tie7 : t153 V = KernelIdeal.Value.G7 m c := by
  refine ext3 _ _ fun g a b => (e153 Q g a b).trans ?_
  rw [← Arr.bA7]
  exact (G7_eq R g a b).symm
theorem tie8 : t155 V = KernelIdeal.Value.G8 m c := by
  refine ext3 _ _ fun g a z => ?_
  obtain rfl : z = 0 := Subsingleton.elim _ _
  refine (e155 Q g a).trans ?_
  rw [← Arr.bA8]
  exact (G8_eq R g a).symm
theorem tie9 : t151 V = KernelIdeal.Value.G9 m c := by
  refine ext2 _ _ fun z l => ?_
  obtain rfl : z = 0 := Subsingleton.elim _ _
  refine (e151 Q l).trans ?_
  rw [← Arr.bA9]
  exact (G9_eq R l).symm
theorem tie10 : t150 V = KernelIdeal.Value.G10 m c := by
  refine ext2 _ _ fun z l => ?_
  obtain rfl : z = 0 := Subsingleton.elim _ _
  refine (e150 Q l).trans ?_
  rw [← Arr.bA10]
  exact (G10_eq R l).symm

end Cert.Sgu
end
-- ==== Proof.Prod.lean ====
module
public import Idealize.ShloMosaic.Lib.Pipeline.ValueKit

/-! # A sum by blocks, over the extended reals

A product's contraction, cut into blocks of consecutive terms that are added one after the other, is the whole contraction.
No finiteness is needed: addition of extended reals is commutative and associative. -/

@[expose] public section
noncomputable section
namespace Cert.Prod
open Idealize.ShloMosaic

/-- What the first `n` blocks of `b` terms of `f` add up to. -/
def part (b : ℕ) (f : ℕ → EReal) (n : ℕ) : EReal := ∑ p ∈ Finset.range n, ∑ s : Fin b, f (b * p + s.val)

theorem part_zero (b : ℕ) (f : ℕ → EReal) : part b f 0 = 0 := Finset.sum_range_zero _

theorem part_succ (b : ℕ) (f : ℕ → EReal) (n : ℕ) : part b f (n + 1) = part b f n + ∑ s : Fin b, f (b * n + s.val) :=
  Finset.sum_range_succ _ _

/-- All blocks together are the sum over all terms. -/
theorem part_all (b n : ℕ) (f : ℕ → EReal) : part b f n = ∑ k : Fin (n * b), f k.val := by
  rw [part, Finset.sum_range, ← finProdFinEquiv.sum_comp, Fintype.sum_prod_type]
  simp [finProdFinEquiv, add_comm]

section
variable {α : Type*} {N : ℕ} (b : ℕ) (f : ℕ → ℕ → EReal) (g : (n : ℕ) → n < N → α → α) (z : α) (sc : α → EReal)
  (first : ∀ n h x, n % 4 = 0 → sc (g n h x) = 0 + ∑ s : Fin b, f (n / 4) (b * (n % 4) + s.val))
  (next : ∀ n h x, ¬n % 4 = 0 → sc (g n h x) = sc x + ∑ s : Fin b, f (n / 4) (b * (n % 4) + s.val))
include first next

/-- A cell that every fourth step starts anew at a block's sum, and the other steps add one to, holds the blocks so far. -/
theorem fold : ∀ (n : ℕ) (h : 0 + n < N), sc (Pipeline.accAt (fun n h => g n h z) g 0 n h) = part b (f (n / 4)) (n % 4 + 1)
  | 0, h => by rw [Pipeline.accAt_zero, first _ _ _ rfl, part_succ, part_zero]
  | n + 1, h => by
    rw [Pipeline.accAt_succ]
    by_cases k : (n + 1) % 4 = 0
    · rw [first _ h _ (by omega), Nat.zero_add, part_succ, k, part_zero]
    · rw [next _ h _ (by omega), fold n, Nat.zero_add, show n / 4 = (n + 1) / 4 by omega, show n % 4 + 1 = (n + 1) % 4 by omega, ← part_succ]

/-- What the last of four steps copies from the cell: all four blocks. -/
theorem fold_last (out : α → EReal) (last : ∀ n h x, n % 4 = 3 → out (g n h x) = sc (g n h x)) (n : ℕ) (h : 0 + n < N) (k : n % 4 = 3) :
    out (Pipeline.accAt (fun n h => g n h z) g 0 n h) = ∑ k : Fin (4 * b), f (n / 4) k.val := by
  have e := fold b f g z sc first next n h
  rw [k] at e
  rw [← part_all, ← e]
  cases n with
  | zero => exact absurd k (by decide)
  | succ n => exact last _ h _ (by omega)
end

/-- Two arrays that hold the same at every pair, or triple, of coordinates are one. -/
theorem ext2 {a b : ℕ} {α : Type} (f g : (⟨2, ![a, b]⟩ : Shape).Idx → α) (h : ∀ (i : Fin a) (j : Fin b), f (ix2 i j) = g (ix2 i j)) : f = g := by
  funext x
  rw [show x = ix2 (x 0) (x 1) from funext fun q => by match q with | ⟨0, _⟩ => rfl | ⟨1, _⟩ => rfl]
  exact h _ _
theorem ext3 {a b d : ℕ} {α : Type} (f g : (⟨3, ![a, b, d]⟩ : Shape).Idx → α) (h : ∀ (i : Fin a) (j : Fin b) (k : Fin d), f (ix3 i j k) = g (ix3 i j k)) : f = g := by
  funext x
  rw [show x = ix3 (x 0) (x 1) (x 2) from funext fun q => by match q with | ⟨0, _⟩ => rfl | ⟨1, _⟩ => rfl | ⟨2, _⟩ => rfl]
  exact h _ _ _

theorem hz2 : (![0, 0] : Fin 2 → Nat) = fun _ => 0 := funext fun a => by fin_cases a <;> rfl
theorem hz3 : (![0, 0, 0] : Fin 3 → Nat) = fun _ => 0 := funext fun a => by fin_cases a <;> rfl

end Cert.Prod
end
-- ==== Proof.GradIn.lean ====
module
public import proofs.«01_k».proof.Proof.Prod
public import proofs.«01_k».proof.Proof.Gen.GradInIdeal.Value
public import proofs.«01_k».proof.Proof.Gen.GradInRefIdeal.Run
import Idealize.ShloMosaic.Lib.Pipeline.ValueKit
import Idealize.ShloMosaic.Lib.Pipeline.ReadBack

/-! # The gradient of mixer B's input projection: what the kernel leaves

The grid has 4 sections of the columns, and for each 4 blocks of 1024 rows. The scratch accumulates the blocks' products; the
last block's point writes the section. -/

@[expose] public section
set_option maxRecDepth 16384
set_option maxHeartbeats 1000000
noncomputable section
namespace Cert.GradIn
open Idealize.ShloMosaic Idealize.ShloMosaic.TcCoe Cert.Prod Cert.GradInIdeal Cert.GradInIdeal.Gen

section opened
variable (c : Dev nD) (i : grid0.Coords) (a2 : Memref sig .tc .vmem S1024x1024 .bf16) (h2 : a2.IsWhole) (a3 : Memref sig .tc .vmem S1x1024x2048 .bf16) (h3 : a3.IsWhole)
  (a4 : Memref sig .tc .vmem S1x1024x2048 .bf16) (h4 : a4.IsWhole) (a5 : Memref sig .tc .vmem S1024x2048 .f32) (h5 : a5.IsWhole)
  (x0 : Vec Ideal S1024x1024 .bf16) (x1 : Vec Ideal S1x1024x2048 .bf16) (xs : Vec Ideal S1024x2048 .f32)

/-- The first block's point leaves the block's product, added to zero. -/
theorem soutA (k0 : cond0_0 i) (k1 : ¬cond0_1 i) : sout0_A_0 c i a2 h2 a3 h3 a4 h4 a5 h5 k0 k1 x0 x1 = k0_pay2 k0_pay1 x0 x1 := by
  unfold sout0_A_0
  rw [View.read_writes_eq_canon _ _ _ (scover0_A_0 c i a2 h2 a3 h3 a4 h4 a5 h5 k0 k1 x0 x1)]
  unfold kernelRun0_A
  dsimp only
  sl_unfold_words
  rw [View.canon_cons_unit_zero (S := S1024x2048) hz2, View.readCov_unit_zero (S := S1024x2048) _ hz2]
  simp only [View.readAt_eq_ld, h2.read_unread, h3.read_unread, View.ld_unit_zero (S := S1024x1024) hz2, View.ld_unit_zero (S := S1x1024x2048) hz3]

/-- A later point adds its block's product to what the scratch holds. -/
theorem soutB (k0 : ¬cond0_0 i) (k1 : ¬cond0_1 i) : sout0_B_0 c i a2 h2 a3 h3 a4 h4 a5 h5 k0 k1 x0 x1 xs = k0_pay2 xs x0 x1 := by
  unfold sout0_B_0
  rw [View.read_writes_eq_canon _ _ _ (scover0_B_0 c i a2 h2 a3 h3 a4 h4 a5 h5 k0 k1 x0 x1 xs)]
  unfold kernelRun0_B
  dsimp only
  sl_unfold_words
  rw [View.canon_unit_zero hz2]
  simp only [View.readAt_eq_ld, h2.read_unread, h3.read_unread, h5.read_unread, View.ld_unit_zero (S := S1024x1024) hz2, View.ld_unit_zero (S := S1x1024x2048) hz3, View.ld_unit_zero (S := S1024x2048) hz2]

/-- The last block's point does so too. -/
theorem soutC (k0 : ¬cond0_0 i) (k1 : cond0_1 i) : sout0_C_0 c i a2 h2 a3 h3 a4 h4 a5 h5 k0 k1 x0 x1 xs = k0_pay2 xs x0 x1 := by
  unfold sout0_C_0
  rw [View.read_writes_eq_canon _ _ _ (scover0_C_0 c i a2 h2 a3 h3 a4 h4 a5 h5 k0 k1 x0 x1 xs)]
  unfold kernelRun0_C
  dsimp only
  sl_unfold_words
  rw [View.canon_unit_zero hz2]
  simp only [View.readAt_eq_ld, h2.read_unread, h3.read_unread, h5.read_unread, View.ld_unit_zero (S := S1024x1024) hz2, View.ld_unit_zero (S := S1x1024x2048) hz3, View.ld_unit_zero (S := S1024x2048) hz2]

/-- The last block's point writes what the scratch then holds. -/
theorem outC (k0 : ¬cond0_0 i) (k1 : cond0_1 i) : out0_C_2 c i a2 h2 a3 h3 a4 h4 a5 h5 k0 k1 x0 x1 xs = k0_pay3 (k0_pay2 xs x0 x1) := by
  unfold out0_C_2
  rw [View.read_writes_eq_canon _ _ _ (cover0_C_2 c i a2 h2 a3 h3 a4 h4 a5 h5 k0 k1 x0 x1 xs)]
  unfold kernelRun0_C
  dsimp only
  sl_unfold_words
  rw [View.canon_unit_zero hz3, View.readCov_unit_zero (S := S1024x2048) _ hz2]
  simp only [View.readAt_eq_ld, h2.read_unread, h3.read_unread, h5.read_unread, View.ld_unit_zero (S := S1024x1024) hz2, View.ld_unit_zero (S := S1x1024x2048) hz3, View.ld_unit_zero (S := S1024x2048) hz2]
end opened

theorem pay1 (r : Fin 1024) (l : Fin 2048) : (k0_pay1 (F := Ideal) (ix2 r l) : EReal) = 0 := by
  pointwise [k0_pay1]

theorem pay2 (x0 : Vec Ideal S1024x1024 .bf16) (x1 : Vec Ideal S1x1024x2048 .bf16) (xs : Vec Ideal S1024x2048 .f32) (r : Fin 1024) (l : Fin 2048) :
    (k0_pay2 (F := Ideal) xs x0 x1 (ix2 r l) : EReal) = xs (ix2 r l) + ∑ s : Fin 1024, (x0 (ix2 s r) : EReal) * x1 (ix3 0 s l) := by
  pointwise [k0_pay2]

theorem pay3 (xs : Vec Ideal S1024x2048 .f32) (r : Fin 1024) (l : Fin 2048) : (k0_pay3 (F := Ideal) xs (ix3 0 r l) : EReal) = xs (ix2 r l) := by
  pointwise [k0_pay3]

variable (m : (ℓ : Loc nD τ sig) → Buf (Elt Ideal) ℓ)

theorem hi0 : ∀ t : Fin cfg0.N, win0_0.index t (0 : Fin 2) = t.val % 4 ∧ win0_0.index t (1 : Fin 2) = 0 := (by decide +kernel : ∀ t : Fin grid0.N, _)
theorem hi1 : ∀ t : Fin cfg0.N, win0_1.index t (0 : Fin 3) = t.val / 4 ∧ win0_1.index t (1 : Fin 3) = t.val % 4 ∧ win0_1.index t (2 : Fin 3) = 0 := (by decide +kernel : ∀ t : Fin grid0.N, _)

theorem row_lt (n : ℕ) (s : Fin 1024) : 1024 * (n % 4) + s.val < 4096 := by omega
theorem sec_lt (t : Fin cfg0.N) : t.val / 4 < 4 := by
  have h : t.val < 16 := lt_of_lt_of_eq t.isLt N_0
  omega

/-- The two operands' entries. -/
def A (c : Dev nD) (k : Fin 4096) (r : Fin 1024) : EReal := m ((c : Thread nD τ).loc main_arg0) (ix2 (n0 := 4096) (n1 := 1024) k r)
def D (c : Dev nD) (j : Fin 4) (k : Fin 4096) (l : Fin 2048) : EReal := m ((c : Thread nD τ).loc main_arg1) (ix3 (n0 := 4) (n1 := 4096) (n2 := 2048) j k l)

theorem rd0 (c : Dev nD) (t : Fin cfg0.N) (s r : Fin 1024) :
    iblk m c 0 t (ix2 (n0 := 1024) (n1 := 1024) s r) = A m c ⟨1024 * (t.val % 4) + s.val, row_lt _ s⟩ r := by
  blk_ext [A, iblk, V_main_arg0, hi0 t]

theorem rd1 (c : Dev nD) (t : Fin cfg0.N) (s : Fin 1024) (l : Fin 2048) :
    iblk m c 1 t (ix3 (n0 := 1) (n1 := 1024) (n2 := 2048) 0 s l)
      = D m c ⟨t.val / 4, sec_lt t⟩ ⟨1024 * (t.val % 4) + s.val, row_lt _ s⟩ l := by
  blk_ext [D, iblk, V_main_arg1, hi1 t]

/-- Term `k` of the product's entry in row `r` and column `l` of section `j`. -/
def term (c : Dev nD) (r : Fin 1024) (l : Fin 2048) (j k : ℕ) : EReal :=
  if h : j < 4 ∧ k < 4096 then A m c ⟨k, h.2⟩ r * D m c ⟨j, h.1⟩ ⟨k, h.2⟩ l else 0

/-- A point's product at an entry: one block of the contraction. -/
theorem step_sum (c : Dev nD) (t : Fin cfg0.N) (xs : Vec Ideal S1024x2048 .f32) (r : Fin 1024) (l : Fin 2048) :
    (k0_pay2 (F := Ideal) xs (iblk m c 0 t) (iblk m c 1 t) (ix2 r l) : EReal)
      = xs (ix2 r l) + ∑ s : Fin 1024, term m c r l (t.val / 4) (1024 * (t.val % 4) + s.val) := by
  rw [pay2]
  refine congrArg _ (Finset.sum_congr rfl fun s _ => ?_)
  rw [term, dif_pos ⟨sec_lt t, row_lt t.val s⟩]
  exact congrArg₂ (fun a b : EReal => a * b) (rd0 m c t s r) (rd1 m c t s l)

/-- A section's first point leaves its block's product. -/
theorem first (c : Dev nD) (t : Fin cfg0.N) (k : t.val % 4 = 0) (T) (r : Fin 1024) (l : Fin 2048) :
    ((Value.stAt0 m c t.val t.isLt T).2 (ix2 r l) : EReal) = 0 + ∑ s : Fin 1024, term m c r l (t.val / 4) (1024 * (t.val % 4) + s.val) := by
  rw [Value.stAt0_A m c t T k (by omega)]
  dsimp only
  rw [soutA, step_sum, pay1]

/-- A later point adds its block's. -/
theorem next (c : Dev nD) (t : Fin cfg0.N) (k : ¬t.val % 4 = 0) (T) (r : Fin 1024) (l : Fin 2048) :
    ((Value.stAt0 m c t.val t.isLt T).2 (ix2 r l) : EReal) = T.2 (ix2 r l) + ∑ s : Fin 1024, term m c r l (t.val / 4) (1024 * (t.val % 4) + s.val) := by
  by_cases k1 : t.val % 4 = 3
  · rw [Value.stAt0_C m c t T k k1]
    dsimp only
    rw [soutC, step_sum]
  · rw [Value.stAt0_B m c t T k k1]
    dsimp only
    rw [soutB, step_sum]

/-- The last one writes what the scratch holds. -/
theorem last (c : Dev nD) (t : Fin cfg0.N) (k1 : t.val % 4 = 3) (T) (r : Fin 1024) (l : Fin 2048) :
    ((Value.stAt0 m c t.val t.isLt T).1 (ix3 0 r l) : EReal) = (Value.stAt0 m c t.val t.isLt T).2 (ix2 r l) := by
  rw [Value.stAt0_C m c t T (by omega) k1]
  dsimp only
  rw [outC, pay3, soutC]

/-- The kernel's result at an index: the whole contraction. -/
theorem result (c : Dev nD) (j : Fin 4) (r : Fin 1024) (l : Fin 2048) :
    Value.G2 m c (ix3 (n0 := 4) (n1 := 1024) (n2 := 2048) j r l) = ∑ k : Fin 4096, A m c k r * D m c j k l := by
  have hj := j.isLt
  have hr := r.isLt
  have hl := l.isLt
  have hN : cfg0.N = 16 := N_0
  have hp : Value.pt2Of (ix3 (n0 := 4) (n1 := 1024) (n2 := 2048) j r l) = 4 * j.val + 3 := by
    show 4 * (1 * (j.val / 1 - 0) + 1 * (r.val / 1024 - 0) + 1 * (l.val / 2048 - 0)) + 3 = _
    omega
  have hx : Value.loc2Of (ix3 (n0 := 4) (n1 := 1024) (n2 := 2048) j r l) = ix3 (n0 := 1) (n1 := 1024) (n2 := 2048) 0 r l := by
    funext a
    apply Fin.ext
    match a with
    | ⟨0, _⟩ => show j.val % 1 = 0; omega
    | ⟨1, _⟩ => show r.val % 1024 = r.val; omega
    | ⟨2, _⟩ => show l.val % 2048 = l.val; omega
  unfold Value.G2
  rw [dif_pos (by omega), hx]
  refine (fold_last 1024 (term m c r l) (Value.stAt0 m c) Value.junk0 (fun T => T.2 (ix2 r l)) (fun n h T k => first m c ⟨n, h⟩ k T r l)
    (fun n h T k => next m c ⟨n, h⟩ k T r l) (fun T => T.1 (ix3 0 r l)) (fun n h T k => last m c ⟨n, h⟩ k T r l) _ _ (by omega)).trans ?_
  rw [show Value.pt2Of (ix3 (n0 := 4) (n1 := 1024) (n2 := 2048) j r l) / 4 = j.val by omega]
  exact Finset.sum_congr rfl fun k _ => dif_pos ⟨hj, k.isLt⟩

/-- What the reference leaves, as its operations compute it from its two arguments. -/
def ref (x0 : FVec Ideal S4096x1024 .bf16) (x1 : FVec Ideal S4x4096x2048 .bf16) : FVec Ideal S4x1024x2048 .bf16 :=
  truncf .bf16 (transpose S4x1024x2048 [1, 0, 2] (shapeCast GradInRefIdeal.S1024x4x2048 (transpose GradInRefIdeal.S1024x8192 [1, 0] (Host.dotGeneral GradInRefIdeal.dot_S4096x8192_S4096x1024_S8192x1024_0_0_1_1_n_n none (shapeCast GradInRefIdeal.S4096x8192 (transpose GradInRefIdeal.S4096x4x2048 [1, 0, 2] (extf .f32 x1 GradInRefIdeal.Gen.bitsLt_bf16_f32) GradInRefIdeal.Gen.transposes_S4x4096x2048_S4096x4x2048_1_0_2) GradInRefIdeal.Gen.shapeCasts_S4096x4x2048_S4096x8192) (extf .f32 x0 GradInRefIdeal.Gen.bitsLt_bf16_f32)) GradInRefIdeal.Gen.transposes_S8192x1024_S1024x8192_1_0) GradInRefIdeal.Gen.shapeCasts_S1024x8192_S1024x4x2048) GradInRefIdeal.Gen.transposes_S1024x4x2048_S4x1024x2048_1_0_2) GradInRefIdeal.Gen.bitsLt_bf16_f32

theorem ref_apply (x0 : FVec Ideal S4096x1024 .bf16) (x1 : FVec Ideal S4x4096x2048 .bf16) (j : Fin 4) (r : Fin 1024) (l : Fin 2048) :
    (ref x0 x1 (ix3 j r l) : EReal) = ∑ k : Fin 4096, (x1 (ix3 j k l) : EReal) * x0 (ix2 k r) := by
  pointwise [ref]

/-- The two results are one array. -/
theorem tie (c : Dev nD) : ref (m ((c : Thread nD τ).loc main_arg0)) (m ((c : Thread nD τ).loc main_arg1)) = Value.G2 m c :=
  ext3 _ _ fun j r l => (ref_apply _ _ j r l).trans ((Finset.sum_congr rfl fun _ _ => mul_comm _ _).trans (result m c j r l).symm)

end Cert.GradIn
end
-- ==== Proof.GradOut.lean ====
module
public import proofs.«01_k».proof.Proof.Prod
public import proofs.«01_k».proof.Proof.Gen.GradOutIdeal.Value
public import proofs.«01_k».proof.Proof.Gen.GradOutRefIdeal.Run
import Idealize.ShloMosaic.Lib.Pipeline.ValueKit
import Idealize.ShloMosaic.Lib.Pipeline.ReadBack

/-! # The gradient of a mixer's output projection: what the kernel leaves

The grid has 4 blocks of 1024 rows. The scratch accumulates their products; the last block's point writes the result. Both
mixers' output projections have these shapes, so the one program stands for both calls. -/

@[expose] public section
set_option maxRecDepth 16384
set_option maxHeartbeats 1000000
noncomputable section
namespace Cert.GradOut
open Idealize.ShloMosaic Idealize.ShloMosaic.TcCoe Cert.Prod Cert.GradOutIdeal Cert.GradOutIdeal.Gen

section opened
variable (c : Dev nD) (i : grid0.Coords) (a2 : Memref sig .tc .vmem S1024x2048 .bf16) (h2 : a2.IsWhole) (a3 : Memref sig .tc .vmem S1024x1024 .bf16) (h3 : a3.IsWhole)
  (a4 : Memref sig .tc .vmem S2048x1024 .bf16) (h4 : a4.IsWhole) (a5 : Memref sig .tc .vmem S2048x1024 .f32) (h5 : a5.IsWhole)
  (x0 : Vec Ideal S1024x2048 .bf16) (x1 : Vec Ideal S1024x1024 .bf16) (xs : Vec Ideal S2048x1024 .f32)

/-- The first block's point leaves the block's product, added to zero. -/
theorem soutA (k0 : cond0_0 i) (k1 : ¬cond0_1 i) : sout0_A_0 c i a2 h2 a3 h3 a4 h4 a5 h5 k0 k1 x0 x1 = k0_pay2 k0_pay1 x0 x1 := by
  unfold sout0_A_0
  rw [View.read_writes_eq_canon _ _ _ (scover0_A_0 c i a2 h2 a3 h3 a4 h4 a5 h5 k0 k1 x0 x1)]
  unfold kernelRun0_A
  dsimp only
  sl_unfold_words
  rw [View.canon_cons_unit_zero (S := S2048x1024) hz2, View.readCov_unit_zero (S := S2048x1024) _ hz2]
  simp only [View.readAt_eq_ld, h2.read_unread, h3.read_unread, View.ld_unit_zero (S := S1024x2048) hz2, View.ld_unit_zero (S := S1024x1024) hz2]

/-- A later point adds its block's product to what the scratch holds. -/
theorem soutB (k0 : ¬cond0_0 i) (k1 : ¬cond0_1 i) : sout0_B_0 c i a2 h2 a3 h3 a4 h4 a5 h5 k0 k1 x0 x1 xs = k0_pay2 xs x0 x1 := by
  unfold sout0_B_0
  rw [View.read_writes_eq_canon _ _ _ (scover0_B_0 c i a2 h2 a3 h3 a4 h4 a5 h5 k0 k1 x0 x1 xs)]
  unfold kernelRun0_B
  dsimp only
  sl_unfold_words
  rw [View.canon_unit_zero hz2]
  simp only [View.readAt_eq_ld, h2.read_unread, h3.read_unread, h5.read_unread, View.ld_unit_zero (S := S1024x2048) hz2, View.ld_unit_zero (S := S1024x1024) hz2, View.ld_unit_zero (S := S2048x1024) hz2]

/-- The last block's point does so too. -/
theorem soutC (k0 : ¬cond0_0 i) (k1 : cond0_1 i) : sout0_C_0 c i a2 h2 a3 h3 a4 h4 a5 h5 k0 k1 x0 x1 xs = k0_pay2 xs x0 x1 := by
  unfold sout0_C_0
  rw [View.read_writes_eq_canon _ _ _ (scover0_C_0 c i a2 h2 a3 h3 a4 h4 a5 h5 k0 k1 x0 x1 xs)]
  unfold kernelRun0_C
  dsimp only
  sl_unfold_words
  rw [View.canon_unit_zero hz2]
  simp only [View.readAt_eq_ld, h2.read_unread, h3.read_unread, h5.read_unread, View.ld_unit_zero (S := S1024x2048) hz2, View.ld_unit_zero (S := S1024x1024) hz2, View.ld_unit_zero (S := S2048x1024) hz2]

/-- The last block's point writes what the scratch then holds. -/
theorem outC (k0 : ¬cond0_0 i) (k1 : cond0_1 i) : out0_C_2 c i a2 h2 a3 h3 a4 h4 a5 h5 k0 k1 x0 x1 xs = k0_pay3 (k0_pay2 xs x0 x1) := by
  unfold out0_C_2
  rw [View.read_writes_eq_canon _ _ _ (cover0_C_2 c i a2 h2 a3 h3 a4 h4 a5 h5 k0 k1 x0 x1 xs)]
  unfold kernelRun0_C
  dsimp only
  sl_unfold_words
  rw [View.canon_unit_zero hz2, View.readCov_unit_zero (S := S2048x1024) _ hz2]
  simp only [View.readAt_eq_ld, h2.read_unread, h3.read_unread, h5.read_unread, View.ld_unit_zero (S := S1024x2048) hz2, View.ld_unit_zero (S := S1024x1024) hz2, View.ld_unit_zero (S := S2048x1024) hz2]
end opened

theorem pay1 (r : Fin 2048) (l : Fin 1024) : (k0_pay1 (F := Ideal) (ix2 r l) : EReal) = 0 := by
  pointwise [k0_pay1]

theorem pay2 (x0 : Vec Ideal S1024x2048 .bf16) (x1 : Vec Ideal S1024x1024 .bf16) (xs : Vec Ideal S2048x1024 .f32) (r : Fin 2048) (l : Fin 1024) :
    (k0_pay2 (F := Ideal) xs x0 x1 (ix2 r l) : EReal) = xs (ix2 r l) + ∑ s : Fin 1024, (x0 (ix2 s r) : EReal) * x1 (ix2 s l) := by
  pointwise [k0_pay2]

theorem pay3 (xs : Vec Ideal S2048x1024 .f32) (r : Fin 2048) (l : Fin 1024) : (k0_pay3 (F := Ideal) xs (ix2 r l) : EReal) = xs (ix2 r l) := by
  pointwise [k0_pay3]

variable (m : (ℓ : Loc nD τ sig) → Buf (Elt Ideal) ℓ)

theorem hi0 : ∀ t : Fin cfg0.N, win0_0.index t (0 : Fin 2) = t.val % 4 ∧ win0_0.index t (1 : Fin 2) = 0 := (by decide +kernel : ∀ t : Fin grid0.N, _)
theorem hi1 : ∀ t : Fin cfg0.N, win0_1.index t (0 : Fin 2) = t.val % 4 ∧ win0_1.index t (1 : Fin 2) = 0 := (by decide +kernel : ∀ t : Fin grid0.N, _)

theorem row_lt (n : ℕ) (s : Fin 1024) : 1024 * (n % 4) + s.val < 4096 := by omega
/-- The two operands' entries. -/
def A (c : Dev nD) (k : Fin 4096) (r : Fin 2048) : EReal := m ((c : Thread nD τ).loc main_arg0) (ix2 (n0 := 4096) (n1 := 2048) k r)
def D (c : Dev nD) (k : Fin 4096) (l : Fin 1024) : EReal := m ((c : Thread nD τ).loc main_arg1) (ix2 (n0 := 4096) (n1 := 1024) k l)

theorem rd0 (c : Dev nD) (t : Fin cfg0.N) (s : Fin 1024) (r : Fin 2048) :
    iblk m c 0 t (ix2 (n0 := 1024) (n1 := 2048) s r) = A m c ⟨1024 * (t.val % 4) + s.val, row_lt _ s⟩ r := by
  blk_ext [A, iblk, V_main_arg0, hi0 t]

theorem rd1 (c : Dev nD) (t : Fin cfg0.N) (s : Fin 1024) (l : Fin 1024) :
    iblk m c 1 t (ix2 (n0 := 1024) (n1 := 1024) s l)
      = D m c ⟨1024 * (t.val % 4) + s.val, row_lt _ s⟩ l := by
  blk_ext [D, iblk, V_main_arg1, hi1 t]

/-- Term `k` of the product's entry in row `r` and column `l`; there is one section. -/
def term (c : Dev nD) (r : Fin 2048) (l : Fin 1024) (j k : ℕ) : EReal :=
  if h : k < 4096 then A m c ⟨k, h⟩ r * D m c ⟨k, h⟩ l else 0

/-- A point's product at an entry: one block of the contraction. -/
theorem step_sum (c : Dev nD) (t : Fin cfg0.N) (xs : Vec Ideal S2048x1024 .f32) (r : Fin 2048) (l : Fin 1024) :
    (k0_pay2 (F := Ideal) xs (iblk m c 0 t) (iblk m c 1 t) (ix2 r l) : EReal)
      = xs (ix2 r l) + ∑ s : Fin 1024, term m c r l (t.val / 4) (1024 * (t.val % 4) + s.val) := by
  rw [pay2]
  refine congrArg _ (Finset.sum_congr rfl fun s _ => ?_)
  rw [term, dif_pos (row_lt t.val s)]
  exact congrArg₂ (fun a b : EReal => a * b) (rd0 m c t s r) (rd1 m c t s l)

/-- A section's first point leaves its block's product. -/
theorem first (c : Dev nD) (t : Fin cfg0.N) (k : t.val % 4 = 0) (T) (r : Fin 2048) (l : Fin 1024) :
    ((Value.stAt0 m c t.val t.isLt T).2 (ix2 r l) : EReal) = 0 + ∑ s : Fin 1024, term m c r l (t.val / 4) (1024 * (t.val % 4) + s.val) := by
  rw [Value.stAt0_A m c t T k (by omega)]
  dsimp only
  rw [soutA, step_sum, pay1]

/-- A later point adds its block's. -/
theorem next (c : Dev nD) (t : Fin cfg0.N) (k : ¬t.val % 4 = 0) (T) (r : Fin 2048) (l : Fin 1024) :
    ((Value.stAt0 m c t.val t.isLt T).2 (ix2 r l) : EReal) = T.2 (ix2 r l) + ∑ s : Fin 1024, term m c r l (t.val / 4) (1024 * (t.val % 4) + s.val) := by
  by_cases k1 : t.val % 4 = 3
  · rw [Value.stAt0_C m c t T k k1]
    dsimp only
    rw [soutC, step_sum]
  · rw [Value.stAt0_B m c t T k k1]
    dsimp only
    rw [soutB, step_sum]

/-- The last one writes what the scratch holds. -/
theorem last (c : Dev nD) (t : Fin cfg0.N) (k1 : t.val % 4 = 3) (T) (r : Fin 2048) (l : Fin 1024) :
    ((Value.stAt0 m c t.val t.isLt T).1 (ix2 r l) : EReal) = (Value.stAt0 m c t.val t.isLt T).2 (ix2 r l) := by
  rw [Value.stAt0_C m c t T (by omega) k1]
  dsimp only
  rw [outC, pay3, soutC]

/-- The kernel's result at an index: the whole contraction. -/
theorem result (c : Dev nD) (r : Fin 2048) (l : Fin 1024) :
    Value.G2 m c (ix2 (n0 := 2048) (n1 := 1024) r l) = ∑ k : Fin 4096, A m c k r * D m c k l := by
  have hr := r.isLt
  have hl := l.isLt
  have hN : cfg0.N = 4 := N_0
  have hp : Value.pt2Of (ix2 (n0 := 2048) (n1 := 1024) r l) = 3 := by
    show 4 * (1 * (r.val / 2048 - 0) + 1 * (l.val / 1024 - 0)) + 3 = _
    omega
  have hx : Value.loc2Of (ix2 (n0 := 2048) (n1 := 1024) r l) = ix2 (n0 := 2048) (n1 := 1024) r l := by
    funext a
    apply Fin.ext
    match a with
    | ⟨0, _⟩ => show r.val % 2048 = r.val; omega
    | ⟨1, _⟩ => show l.val % 1024 = l.val; omega
  unfold Value.G2
  rw [dif_pos (by omega), hx]
  refine (fold_last 1024 (term m c r l) (Value.stAt0 m c) Value.junk0 (fun T => T.2 (ix2 r l)) (fun n h T k => first m c ⟨n, h⟩ k T r l)
    (fun n h T k => next m c ⟨n, h⟩ k T r l) (fun T => T.1 (ix2 r l)) (fun n h T k => last m c ⟨n, h⟩ k T r l) _ _ (by omega)).trans ?_
  exact Finset.sum_congr rfl fun k _ => dif_pos k.isLt

/-- What the reference leaves, as its operations compute it from its two arguments. -/
def ref (x0 : FVec Ideal S4096x2048 .bf16) (x1 : FVec Ideal S4096x1024 .bf16) : FVec Ideal S2048x1024 .bf16 :=
  truncf .bf16 (transpose S2048x1024 [1, 0] (Host.dotGeneral GradOutRefIdeal.dot_S4096x1024_S4096x2048_S1024x2048_0_0_1_1_n_n none (extf .f32 x1 GradOutRefIdeal.Gen.bitsLt_bf16_f32) (extf .f32 x0 GradOutRefIdeal.Gen.bitsLt_bf16_f32)) GradOutRefIdeal.Gen.transposes_S1024x2048_S2048x1024_1_0) GradOutRefIdeal.Gen.bitsLt_bf16_f32

theorem ref_apply (x0 : FVec Ideal S4096x2048 .bf16) (x1 : FVec Ideal S4096x1024 .bf16) (r : Fin 2048) (l : Fin 1024) :
    (ref x0 x1 (ix2 r l) : EReal) = ∑ k : Fin 4096, (x1 (ix2 k l) : EReal) * x0 (ix2 k r) := by
  pointwise [ref]

/-- The two results are one array. -/
theorem tie (c : Dev nD) : ref (m ((c : Thread nD τ).loc main_arg0)) (m ((c : Thread nD τ).loc main_arg1)) = Value.G2 m c :=
  ext2 _ _ fun r l => (ref_apply _ _ r l).trans ((Finset.sum_congr rfl fun _ _ => mul_comm _ _).trans (result m c r l).symm)

end Cert.GradOut
end
-- ==== Proof.GradInA.lean ====
module
public import proofs.«01_k».proof.Proof.Prod
public import proofs.«01_k».proof.Proof.Gen.GradInAIdeal.Value
public import proofs.«01_k».proof.Proof.Gen.GradInARefIdeal.Run
import Idealize.ShloMosaic.Lib.Pipeline.ValueKit
import Idealize.ShloMosaic.Lib.Pipeline.ReadBack

/-! # The gradient of mixer A's input projection: what the kernel leaves

The grid has 4 sections of the columns, and for each 4 blocks of 1024 rows. The scratch accumulates the blocks' products; the
last block's point writes the section. -/

@[expose] public section
set_option maxRecDepth 16384
set_option maxHeartbeats 1000000
noncomputable section
namespace Cert.GradInA
open Idealize.ShloMosaic Idealize.ShloMosaic.TcCoe Cert.Prod Cert.GradInAIdeal Cert.GradInAIdeal.Gen

section opened
variable (c : Dev nD) (i : grid0.Coords) (a2 : Memref sig .tc .vmem S1024x1024 .bf16) (h2 : a2.IsWhole) (a3 : Memref sig .tc .vmem S1024x1536 .bf16) (h3 : a3.IsWhole)
  (a4 : Memref sig .tc .vmem S1x1024x1536 .bf16) (h4 : a4.IsWhole) (a5 : Memref sig .tc .vmem S1024x1536 .f32) (h5 : a5.IsWhole)
  (x0 : Vec Ideal S1024x1024 .bf16) (x1 : Vec Ideal S1024x1536 .bf16) (xs : Vec Ideal S1024x1536 .f32)

/-- The first block's point leaves the block's product, added to zero. -/
theorem soutA (k0 : cond0_0 i) (k1 : ¬cond0_1 i) : sout0_A_0 c i a2 h2 a3 h3 a4 h4 a5 h5 k0 k1 x0 x1 = k0_pay2 k0_pay1 x0 x1 := by
  unfold sout0_A_0
  rw [View.read_writes_eq_canon _ _ _ (scover0_A_0 c i a2 h2 a3 h3 a4 h4 a5 h5 k0 k1 x0 x1)]
  unfold kernelRun0_A
  dsimp only
  sl_unfold_words
  rw [View.canon_cons_unit_zero (S := S1024x1536) hz2, View.readCov_unit_zero (S := S1024x1536) _ hz2]
  simp only [View.readAt_eq_ld, h2.read_unread, h3.read_unread, View.ld_unit_zero (S := S1024x1024) hz2, View.ld_unit_zero (S := S1024x1536) hz2]

/-- A later point adds its block's product to what the scratch holds. -/
theorem soutB (k0 : ¬cond0_0 i) (k1 : ¬cond0_1 i) : sout0_B_0 c i a2 h2 a3 h3 a4 h4 a5 h5 k0 k1 x0 x1 xs = k0_pay2 xs x0 x1 := by
  unfold sout0_B_0
  rw [View.read_writes_eq_canon _ _ _ (scover0_B_0 c i a2 h2 a3 h3 a4 h4 a5 h5 k0 k1 x0 x1 xs)]
  unfold kernelRun0_B
  dsimp only
  sl_unfold_words
  rw [View.canon_unit_zero hz2]
  simp only [View.readAt_eq_ld, h2.read_unread, h3.read_unread, h5.read_unread, View.ld_unit_zero (S := S1024x1024) hz2, View.ld_unit_zero (S := S1024x1536) hz2]

/-- The last block's point does so too. -/
theorem soutC (k0 : ¬cond0_0 i) (k1 : cond0_1 i) : sout0_C_0 c i a2 h2 a3 h3 a4 h4 a5 h5 k0 k1 x0 x1 xs = k0_pay2 xs x0 x1 := by
  unfold sout0_C_0
  rw [View.read_writes_eq_canon _ _ _ (scover0_C_0 c i a2 h2 a3 h3 a4 h4 a5 h5 k0 k1 x0 x1 xs)]
  unfold kernelRun0_C
  dsimp only
  sl_unfold_words
  rw [View.canon_unit_zero hz2]
  simp only [View.readAt_eq_ld, h2.read_unread, h3.read_unread, h5.read_unread, View.ld_unit_zero (S := S1024x1024) hz2, View.ld_unit_zero (S := S1024x1536) hz2]

/-- The last block's point writes what the scratch then holds. -/
theorem outC (k0 : ¬cond0_0 i) (k1 : cond0_1 i) : out0_C_2 c i a2 h2 a3 h3 a4 h4 a5 h5 k0 k1 x0 x1 xs = k0_pay3 (k0_pay2 xs x0 x1) := by
  unfold out0_C_2
  rw [View.read_writes_eq_canon _ _ _ (cover0_C_2 c i a2 h2 a3 h3 a4 h4 a5 h5 k0 k1 x0 x1 xs)]
  unfold kernelRun0_C
  dsimp only
  sl_unfold_words
  rw [View.canon_unit_zero hz3, View.readCov_unit_zero (S := S1024x1536) _ hz2]
  simp only [View.readAt_eq_ld, h2.read_unread, h3.read_unread, h5.read_unread, View.ld_unit_zero (S := S1024x1024) hz2, View.ld_unit_zero (S := S1024x1536) hz2]
end opened

theorem pay1 (r : Fin 1024) (l : Fin 1536) : (k0_pay1 (F := Ideal) (ix2 r l) : EReal) = 0 := by
  pointwise [k0_pay1]

theorem pay2 (x0 : Vec Ideal S1024x1024 .bf16) (x1 : Vec Ideal S1024x1536 .bf16) (xs : Vec Ideal S1024x1536 .f32) (r : Fin 1024) (l : Fin 1536) :
    (k0_pay2 (F := Ideal) xs x0 x1 (ix2 r l) : EReal) = xs (ix2 r l) + ∑ s : Fin 1024, (x0 (ix2 s r) : EReal) * x1 (ix2 s l) := by
  pointwise [k0_pay2]

theorem pay3 (xs : Vec Ideal S1024x1536 .f32) (r : Fin 1024) (l : Fin 1536) : (k0_pay3 (F := Ideal) xs (ix3 0 r l) : EReal) = xs (ix2 r l) := by
  pointwise [k0_pay3]

variable (m : (ℓ : Loc nD τ sig) → Buf (Elt Ideal) ℓ)

theorem hi0 : ∀ t : Fin cfg0.N, win0_0.index t (0 : Fin 2) = t.val % 4 ∧ win0_0.index t (1 : Fin 2) = 0 := (by decide +kernel : ∀ t : Fin grid0.N, _)
theorem hi1 : ∀ t : Fin cfg0.N, win0_1.index t (0 : Fin 2) = t.val % 4 ∧ win0_1.index t (1 : Fin 2) = t.val / 4 := (by decide +kernel : ∀ t : Fin grid0.N, _)

theorem row_lt (n : ℕ) (s : Fin 1024) : 1024 * (n % 4) + s.val < 4096 := by omega
theorem sec_lt (t : Fin cfg0.N) : t.val / 4 < 4 := by
  have h : t.val < 16 := lt_of_lt_of_eq t.isLt N_0
  omega

/-- The two operands' entries. -/
def A (c : Dev nD) (k : Fin 4096) (r : Fin 1024) : EReal := m ((c : Thread nD τ).loc main_arg0) (ix2 (n0 := 4096) (n1 := 1024) k r)
def D (c : Dev nD) (j : Fin 4) (k : Fin 4096) (l : Fin 1536) : EReal := m ((c : Thread nD τ).loc main_arg1) (ix2 (n0 := 4096) (n1 := 6144) k ⟨j.val * 1536 + l.val, by omega⟩)

theorem rd0 (c : Dev nD) (t : Fin cfg0.N) (s r : Fin 1024) :
    iblk m c 0 t (ix2 (n0 := 1024) (n1 := 1024) s r) = A m c ⟨1024 * (t.val % 4) + s.val, row_lt _ s⟩ r := by
  blk_ext [A, iblk, V_main_arg0, hi0 t]

theorem rd1 (c : Dev nD) (t : Fin cfg0.N) (s : Fin 1024) (l : Fin 1536) :
    iblk m c 1 t (ix2 (n0 := 1024) (n1 := 1536) s l)
      = D m c ⟨t.val / 4, sec_lt t⟩ ⟨1024 * (t.val % 4) + s.val, row_lt _ s⟩ l := by
  blk_ext [D, iblk, V_main_arg1, hi1 t]

/-- Term `k` of the product's entry in row `r` and column `l` of section `j`. -/
def term (c : Dev nD) (r : Fin 1024) (l : Fin 1536) (j k : ℕ) : EReal :=
  if h : j < 4 ∧ k < 4096 then A m c ⟨k, h.2⟩ r * D m c ⟨j, h.1⟩ ⟨k, h.2⟩ l else 0

/-- A point's product at an entry: one block of the contraction. -/
theorem step_sum (c : Dev nD) (t : Fin cfg0.N) (xs : Vec Ideal S1024x1536 .f32) (r : Fin 1024) (l : Fin 1536) :
    (k0_pay2 (F := Ideal) xs (iblk m c 0 t) (iblk m c 1 t) (ix2 r l) : EReal)
      = xs (ix2 r l) + ∑ s : Fin 1024, term m c r l (t.val / 4) (1024 * (t.val % 4) + s.val) := by
  rw [pay2]
  refine congrArg _ (Finset.sum_congr rfl fun s _ => ?_)
  rw [term, dif_pos ⟨sec_lt t, row_lt t.val s⟩]
  exact congrArg₂ (fun a b : EReal => a * b) (rd0 m c t s r) (rd1 m c t s l)

/-- A section's first point leaves its block's product. -/
theorem first (c : Dev nD) (t : Fin cfg0.N) (k : t.val % 4 = 0) (T) (r : Fin 1024) (l : Fin 1536) :
    ((Value.stAt0 m c t.val t.isLt T).2 (ix2 r l) : EReal) = 0 + ∑ s : Fin 1024, term m c r l (t.val / 4) (1024 * (t.val % 4) + s.val) := by
  rw [Value.stAt0_A m c t T k (by omega)]
  dsimp only
  rw [soutA, step_sum, pay1]

/-- A later point adds its block's. -/
theorem next (c : Dev nD) (t : Fin cfg0.N) (k : ¬t.val % 4 = 0) (T) (r : Fin 1024) (l : Fin 1536) :
    ((Value.stAt0 m c t.val t.isLt T).2 (ix2 r l) : EReal) = T.2 (ix2 r l) + ∑ s : Fin 1024, term m c r l (t.val / 4) (1024 * (t.val % 4) + s.val) := by
  by_cases k1 : t.val % 4 = 3
  · rw [Value.stAt0_C m c t T k k1]
    dsimp only
    rw [soutC, step_sum]
  · rw [Value.stAt0_B m c t T k k1]
    dsimp only
    rw [soutB, step_sum]

/-- The last one writes what the scratch holds. -/
theorem last (c : Dev nD) (t : Fin cfg0.N) (k1 : t.val % 4 = 3) (T) (r : Fin 1024) (l : Fin 1536) :
    ((Value.stAt0 m c t.val t.isLt T).1 (ix3 0 r l) : EReal) = (Value.stAt0 m c t.val t.isLt T).2 (ix2 r l) := by
  rw [Value.stAt0_C m c t T (by omega) k1]
  dsimp only
  rw [outC, pay3, soutC]

/-- The kernel's result at an index: the whole contraction. -/
theorem result (c : Dev nD) (j : Fin 4) (r : Fin 1024) (l : Fin 1536) :
    Value.G2 m c (ix3 (n0 := 4) (n1 := 1024) (n2 := 1536) j r l) = ∑ k : Fin 4096, A m c k r * D m c j k l := by
  have hj := j.isLt
  have hr := r.isLt
  have hl := l.isLt
  have hN : cfg0.N = 16 := N_0
  have hp : Value.pt2Of (ix3 (n0 := 4) (n1 := 1024) (n2 := 1536) j r l) = 4 * j.val + 3 := by
    show 4 * (1 * (j.val / 1 - 0) + 1 * (r.val / 1024 - 0) + 1 * (l.val / 1536 - 0)) + 3 = _
    omega
  have hx : Value.loc2Of (ix3 (n0 := 4) (n1 := 1024) (n2 := 1536) j r l) = ix3 (n0 := 1) (n1 := 1024) (n2 := 1536) 0 r l := by
    funext a
    apply Fin.ext
    match a with
    | ⟨0, _⟩ => show j.val % 1 = 0; omega
    | ⟨1, _⟩ => show r.val % 1024 = r.val; omega
    | ⟨2, _⟩ => show l.val % 1536 = l.val; omega
  unfold Value.G2
  rw [dif_pos (by omega), hx]
  refine (fold_last 1024 (term m c r l) (Value.stAt0 m c) Value.junk0 (fun T => T.2 (ix2 r l)) (fun n h T k => first m c ⟨n, h⟩ k T r l)
    (fun n h T k => next m c ⟨n, h⟩ k T r l) (fun T => T.1 (ix3 0 r l)) (fun n h T k => last m c ⟨n, h⟩ k T r l) _ _ (by omega)).trans ?_
  rw [show Value.pt2Of (ix3 (n0 := 4) (n1 := 1024) (n2 := 1536) j r l) / 4 = j.val by omega]
  exact Finset.sum_congr rfl fun k _ => dif_pos ⟨hj, k.isLt⟩

/-- What the reference leaves, as its operations compute it from its two arguments. -/
def ref (x0 : FVec Ideal S4096x1024 .bf16) (x1 : FVec Ideal S4096x6144 .bf16) : FVec Ideal S4x1024x1536 .bf16 :=
  truncf .bf16 (transpose S4x1024x1536 [1, 0, 2] (shapeCast GradInARefIdeal.S1024x4x1536 (transpose GradInARefIdeal.S1024x6144 [1, 0] (Host.dotGeneral GradInARefIdeal.dot_S4096x6144_S4096x1024_S6144x1024_0_0_1_1_n_n none (extf .f32 x1 GradInARefIdeal.Gen.bitsLt_bf16_f32) (extf .f32 x0 GradInARefIdeal.Gen.bitsLt_bf16_f32)) GradInARefIdeal.Gen.transposes_S6144x1024_S1024x6144_1_0) GradInARefIdeal.Gen.shapeCasts_S1024x6144_S1024x4x1536) GradInARefIdeal.Gen.transposes_S1024x4x1536_S4x1024x1536_1_0_2) GradInARefIdeal.Gen.bitsLt_bf16_f32

theorem ref_apply (x0 : FVec Ideal S4096x1024 .bf16) (x1 : FVec Ideal S4096x6144 .bf16) (j : Fin 4) (r : Fin 1024) (l : Fin 1536) :
    (ref x0 x1 (ix3 j r l) : EReal) = ∑ k : Fin 4096, (x1 (ix2 k ⟨j.val * 1536 + l.val, by omega⟩) : EReal) * x0 (ix2 k r) := by
  pointwise [ref]

/-- The two results are one array. -/
theorem tie (c : Dev nD) : ref (m ((c : Thread nD τ).loc main_arg0)) (m ((c : Thread nD τ).loc main_arg1)) = Value.G2 m c :=
  ext3 _ _ fun j r l => (ref_apply _ _ j r l).trans ((Finset.sum_congr rfl fun _ _ => mul_comm _ _).trans (result m c j r l).symm)

end Cert.GradInA
end
-- ==== Proof.Norm.lean ====
module
public import Idealize.ShloMosaic.Lib.Pipeline.ValueKit

/-! # The gradient of an RMS norm, over the extended reals

The kernel's closed form `r · (g − x·r · mean(g · x·r))` against the derivative taken step by step through the mean of the
squares and the inverse root. The two agree for all extended reals: the inverse root `r` is a real number that is not
negative, so that products with it distribute over every sum. -/

@[expose] public section
noncomputable section
namespace Cert.Norm
open Idealize.ShloMosaic

theorem n1024_eq : Ideal.ofBits .f32 0x44800000#32 = ((1024 : ℝ) : EReal) := by
  simp [Ideal.ofBits, Ideal.ieee]; rw [← EReal.coe_mul]; norm_num

theorem half_eq : Ideal.ofBits .f32 0xBF000000#32 = ((-(1 / 2) : ℝ) : EReal) := by
  simp [Ideal.ofBits, Ideal.ieee]; rw [← EReal.coe_mul]; norm_num

theorem eps_eq : ∃ e : ℝ, 0 < e ∧ Ideal.ofBits .f32 0x358637BD#32 = (e : EReal) := by
  refine ⟨8796093 / 8796093022208, by norm_num, ?_⟩
  simp [Ideal.ofBits, Ideal.ieee]; rw [← EReal.coe_mul]; norm_num

/-- The mean of the squares and the small constant, and its inverse root. -/
def vv (x : Fin 1024 → EReal) : EReal := Ideal.div (∑ k, x k * x k) (Ideal.ofBits .f32 0x44800000#32) + Ideal.ofBits .f32 0x358637BD#32
def rr (x : Fin 1024 → EReal) : EReal := Ideal.rsqrt (vv x)

theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- The inverse root is zero where a square is infinite, and a positive real elsewhere. -/
theorem rr_cases (x : Fin 1024 → EReal) :
    (vv x = ⊤ ∧ rr x = 0) ∨ ∃ v : ℝ, 0 < v ∧ vv x = v ∧ rr x = ((Real.sqrt v)⁻¹ : ℝ) := by
  obtain ⟨e, he, ee⟩ := eps_eq
  have h0 : (0 : EReal) ≤ ∑ k, x k * x k := Finset.sum_nonneg fun k _ => sq_nonneg _
  unfold rr
  generalize hv : vv x = V
  rw [vv, n1024_eq, Ideal.div_coe (by norm_num), ee] at hv
  generalize (∑ k, x k * x k) = s at h0 hv
  subst hv
  induction s using EReal.rec with
  | bot => simp at h0
  | top =>
    left
    have : ((⊤ : EReal) * ((1 / 1024 : ℝ) : EReal) + (e : EReal)) = ⊤ := by
      rw [EReal.top_mul_coe_of_pos (by norm_num)]; exact EReal.top_add_coe e
    rw [this]
    exact ⟨rfl, Ideal.rsqrt_top⟩
  | coe s =>
    right
    have hs : 0 ≤ s := by exact_mod_cast h0
    have hp : 0 < s * (1 / 1024) + e := by positivity
    refine ⟨_, hp, by push_cast; rfl, ?_⟩
    rw [← EReal.coe_mul, ← EReal.coe_add, Ideal.rsqrt_coe, if_neg (not_lt.mpr hp.le), if_neg hp.ne']

theorem sum_mul {ι : Type*} (s : Finset ι) (f : ι → EReal) (r : EReal) (h0 : 0 ≤ r) (ht : r ≠ ⊤) : (∑ k ∈ s, f k) * r = ∑ k ∈ s, f k * r := by
  induction s using Finset.cons_induction with
  | empty => simp
  | cons a s ha ih => rw [Finset.sum_cons, Finset.sum_cons, EReal.right_distrib_of_nonneg_of_ne_top h0 ht, ih]

/-- The kernel's closed form. -/
def kern (x g : Fin 1024 → EReal) (l : Fin 1024) : EReal :=
  rr x * (g l - x l * rr x * Ideal.div (∑ k, g k * (x k * rr x)) (Ideal.ofBits .f32 0x44800000#32))

/-- The reference's: the gradient that reaches the mean of the squares. -/
def qq (x g : Fin 1024 → EReal) : EReal :=
  Ideal.div ((∑ k, x k * g k) * (Ideal.ofBits .f32 0xBF000000#32 * Ideal.div (rr x) (vv x))) (Ideal.ofBits .f32 0x44800000#32)
def refr (x g : Fin 1024 → EReal) (l : Fin 1024) : EReal := g l * rr x + x l * qq x g + qq x g * x l

theorem kern_eq (x g : Fin 1024 → EReal) (l : Fin 1024) : kern x g l = refr x g l := by
  have hS : ∀ r : EReal, 0 ≤ r → r ≠ ⊤ → (∑ k, g k * (x k * r)) = (∑ k, x k * g k) * r := fun r h0 ht => by
    rw [sum_mul _ _ r h0 ht]
    exact Finset.sum_congr rfl fun k _ => by rw [← mul_assoc, mul_comm (g k)]
  rcases rr_cases x with ⟨hv, hr⟩ | ⟨v, hp, hv, hr⟩
  · rw [kern, refr, qq, hr, hv]
    rw [n1024_eq, Ideal.div_coe (by norm_num), Ideal.div_coe (by norm_num)]
    simp [Ideal.div, EReal.top_ne_zero]
  · have hq : 0 < (Real.sqrt v)⁻¹ := inv_pos.mpr (Real.sqrt_pos.mpr hp)
    have h0 : (0 : EReal) ≤ ((Real.sqrt v)⁻¹ : ℝ) := by exact_mod_cast hq.le
    rw [kern, refr, qq, hr, hv, hS _ h0 (EReal.coe_ne_top _), n1024_eq, half_eq, Ideal.div_coe (by norm_num), Ideal.div_coe (by norm_num), Ideal.div_coe hp.ne']
    have hvq : (1 / v : ℝ) = (Real.sqrt v)⁻¹ * (Real.sqrt v)⁻¹ := by
      rw [← mul_inv, Real.mul_self_sqrt hp.le, one_div]
    rw [hvq]
    generalize (Real.sqrt v)⁻¹ = ρ at *
    generalize (∑ k, x k * g k) = S
    rw [sub_eq_add_neg, EReal.left_distrib_of_nonneg_of_ne_top h0 (EReal.coe_ne_top _), add_assoc]
    congr 1
    · exact mul_comm _ _
    · have e1 : (ρ : EReal) * -(x l * ρ * (S * ρ * ((1 / 1024 : ℝ) : EReal))) = (x l * S) * ((-(ρ * ρ * ρ * (1 / 1024)) : ℝ) : EReal) := by
        rw [EReal.coe_neg, EReal.coe_mul, EReal.coe_mul, EReal.coe_mul, mul_neg, mul_neg]
        congr 1
        ac_rfl
      have e2 : x l * (S * (((-(1 / 2) : ℝ) : EReal) * ((ρ : EReal) * ((ρ * ρ : ℝ) : EReal))) * ((1 / 1024 : ℝ) : EReal)) = (x l * S) * ((-(1 / 2) * (ρ * (ρ * ρ)) * (1 / 1024) : ℝ) : EReal) := by
        simp only [EReal.coe_mul]
        ac_rfl
      have e3 (z : EReal) : z + z = z * ((2 : ℝ) : EReal) := by
        rw [show ((2 : ℝ) : EReal) = 1 + 1 by rw [← EReal.coe_one, ← EReal.coe_add]; norm_num, mul_comm, EReal.right_distrib_of_nonneg zero_le_one zero_le_one, one_mul]
      rw [mul_comm _ (x l), e1, e2, e3, mul_assoc (x l * S), ← EReal.coe_mul]
      congr 2
      ring

/-- A host sum over the first two axes of three. -/
theorem red01 {a b d : ℕ} (h : (⟨3, ![a, b, d]⟩ : Shape).ReducesTo [0, 1] ⟨1, ![d]⟩) (v : (⟨3, ![a, b, d]⟩ : Shape).Idx → EReal) (x : EReal) (l : Fin d) :
    Ideal.hostReduceAdd h v x (ix1 l) = x + ∑ n : Fin a, ∑ s : Fin b, v (ix3 n s l) := by
  unfold Ideal.hostReduceAdd
  congr 1
  refine (Finset.sum_filter_eq_sum_of_fiber _ (fun k : Fin a × Fin b => ix3 k.1 k.2 l) (fun _ _ e => Prod.ext (congrFun e 0) (congrFun e 1)) (fun i => ?_) v).trans ?_
  · constructor
    · intro e
      refine ⟨(i 0, i 1), ?_⟩
      funext q; apply Fin.ext
      match q with
      | ⟨0, _⟩ => rfl
      | ⟨1, _⟩ => rfl
      | ⟨2, _⟩ => exact (congrArg Fin.val (congrFun e 0)).symm
    · rintro ⟨k, rfl⟩
      funext q; apply Fin.ext
      match q with
      | ⟨0, _⟩ => rfl
  · simp only [Fintype.sum_prod_type]

/-- What every step keeps holds of the fold. -/
theorem sweep {α : Type*} {N : ℕ} (P : ℕ → α → Prop) (g : (n : ℕ) → n < N → α → α) (z : α)
    (step : ∀ n h x, (n ≠ 0 → P (n - 1) x) → P n (g n h x)) : ∀ (n : ℕ) (h : 0 + n < N), P n (Pipeline.accAt (fun n h => g n h z) g 0 n h)
  | 0, h => by rw [Pipeline.accAt_zero]; exact step _ _ _ fun k => absurd rfl k
  | n + 1, h => by
    rw [Pipeline.accAt_succ]
    have key : ∀ k (hk : k < N), k = n + 1 → P (n + 1) (g k hk (Pipeline.accAt (fun n h => g n h z) g 0 n (by omega))) := by
      rintro _ hk rfl
      exact step _ hk _ fun _ => sweep P g z step n _
    exact key _ h (Nat.zero_add _)

theorem ofNat_eq {N n : ℕ} [NeZero N] (h : n < N) : Fin.ofNat N n = ⟨n, h⟩ := Fin.ext (Nat.mod_eq_of_lt h)

end Cert.Norm
end
-- ==== Proof.Sums.lean ====
module
public import proofs.«01_k».proof.Proof.Prod
public import proofs.«01_k».proof.Proof.Norm
public import proofs.«01_k».proof.Proof.Gen.UpIdeal.Skeleton
import Idealize.ShloMosaic.Lib.Pipeline.ValueKit
import Idealize.ShloMosaic.Lib.Pipeline.ReadBack

/-! # The gradient through a projection and the norm before it, block by block

The kernel's values at an index, and what the carried state holds after each point of the grid: 4 blocks of 1024 rows, and
for each the 4 sections of the projection's columns. `w` is a section's width. -/

@[expose] public section
set_option maxRecDepth 16384
set_option maxHeartbeats 400000
noncomputable section
namespace Cert.Sums
open Idealize.ShloMosaic Idealize.ShloMosaic.TcCoe Cert.Prod Cert.UpIdeal Cert.UpIdeal.Gen

theorem pay1 (r l : Fin 1024) : (k0_pay1 (F := Ideal) (ix2 r l) : EReal) = 0 := by
  pointwise [k0_pay1]

theorem pay4 (x : Vec Ideal S1024x1024 .f32) (r : Fin 1024) : (k0_pay4 (F := Ideal) x (ix2 r 0) : EReal) = Norm.rr fun k => x (ix2 r k) := by
  pointwise [k0_pay4, Norm.rr, Norm.vv]

theorem pay5 (x : Vec Ideal S1024x1024 .f32) (r l : Fin 1024) : (k0_pay5 (F := Ideal) x (ix2 r l) : EReal) = x (ix2 r l) * Norm.rr fun k => x (ix2 r k) := by
  rw [← pay4]
  pointwise [k0_pay5]

theorem pay6 (d : Vec Ideal S1024x1024 .f32) (l : Fin 1024) : (k0_pay6 (F := Ideal) d (ix2 0 l) : EReal) = ∑ r : Fin 1024, (d (ix2 r l) : EReal) := by
  pointwise [k0_pay6]

theorem pay7 (d x : Vec Ideal S1024x1024 .f32) (g : Vec Ideal S1x1024 .f32) (l : Fin 1024) :
    (k0_pay7 (F := Ideal) d x g (ix2 0 l) : EReal) = ∑ r : Fin 1024, (d (ix2 r l) : EReal) * ((k0_pay5 (F := Ideal) x (ix2 r l) : EReal) * g (ix2 0 l)) := by
  pointwise [k0_pay7]

theorem pay8 (d : Vec Ideal S1024x1024 .f32) (o : Vec Ideal S1x1x3072 .f32) (r l : Fin 1024) :
    (k0_pay8 (F := Ideal) d o (ix2 r l) : EReal) = d (ix2 r l) * (1 + o (ix3 0 0 ⟨1024 + l.val, by omega⟩)) := by
  pointwise [k0_pay8]

theorem pay9 (d x : Vec Ideal S1024x1024 .f32) (o : Vec Ideal S1x1x3072 .f32) (l : Fin 1024) :
    (k0_pay9 (F := Ideal) d x o (ix2 0 l) : EReal) = ∑ r : Fin 1024, (k0_pay8 (F := Ideal) d o (ix2 r l) : EReal) * k0_pay5 (F := Ideal) x (ix2 r l) := by
  pointwise [k0_pay9]

theorem pay10 (d x : Vec Ideal S1024x1024 .f32) (o : Vec Ideal S1x1x3072 .f32) (g : Vec Ideal S1x1024 .f32) (r l : Fin 1024) :
    (k0_pay10 (F := Ideal) d x o g (ix2 r l) : EReal) = Norm.kern (fun k => x (ix2 r k)) (fun k => (k0_pay8 (F := Ideal) d o (ix2 r k) : EReal) * g (ix2 0 k)) l := by
  rw [Norm.kern]
  pointwise [k0_pay10]
  simp only [pay5, pay4]

theorem pay11 (d x : Vec Ideal S1024x1024 .f32) (r l : Fin 1024) : (k0_pay11 (F := Ideal) d x (ix2 r l) : EReal) = x (ix2 r l) + d (ix2 r l) := by
  pointwise [k0_pay11]

theorem pay12 (d : Vec Ideal S1x1024 .f32) (l : Fin 1024) : (k0_pay12 (F := Ideal) d (ix3 0 0 l) : EReal) = d (ix2 0 l) := by
  pointwise [k0_pay12]

theorem pay13 (d : Vec Ideal S1x1024 .f32) (l : Fin 1024) : (k0_pay13 (F := Ideal) d (ix3 0 0 l) : EReal) = d (ix2 0 l) := by
  pointwise [k0_pay13]

theorem pay14 (d : Vec Ideal S1x1024 .f32) (e : Vec Ideal S1x1x1024 .f32) (l : Fin 1024) : (k0_pay14 (F := Ideal) d e (ix3 0 0 l) : EReal) = e (ix3 0 0 l) + d (ix2 0 l) := by
  pointwise [k0_pay14]

theorem pay15 (d : Vec Ideal S1x1024 .f32) (e : Vec Ideal S1x1x1024 .f32) (l : Fin 1024) : (k0_pay15 (F := Ideal) d e (ix3 0 0 l) : EReal) = e (ix3 0 0 l) + d (ix2 0 l) := by
  pointwise [k0_pay15]

theorem pay3 (d e : Vec Ideal S1x1024 .f32) (l : Fin 1024) : (k0_pay3 (F := Ideal) d e (ix2 0 l) : EReal) = e (ix2 0 l) + d (ix2 0 l) := by
  pointwise [k0_pay3]

/-- A call's numbers: a section's width, the terms of the product at a row and a column, the rows, the gradient to be added,
the modulation's factor and the gain. -/
structure Data where
  w : ℕ
  dt : ℕ → Fin 1024 → ℕ → EReal
  x : ℕ → Fin 1024 → EReal
  ox : ℕ → Fin 1024 → EReal
  fac : ℕ → Fin 1024 → EReal
  g : Fin 1024 → EReal

variable (A : Data)

/-- The gradient that reaches the modulated norm, and the terms of the other results. -/
def Data.dh (row : ℕ) (l : Fin 1024) : EReal := part A.w (A.dt row l) 4
def Data.fsc (row : ℕ) (l : Fin 1024) : EReal := A.dh row l * ((A.x row l * Norm.rr (A.x row)) * A.g l)
def Data.fng (row : ℕ) (l : Fin 1024) : EReal := (A.dh row l * A.fac row l) * (A.x row l * Norm.rr (A.x row))
def Data.fdx (row : ℕ) (l : Fin 1024) : EReal := A.ox row l + Norm.kern (A.x row) (fun k => A.dh row k * A.fac row k * A.g k) l

/-- The blocks that point `n` reads. -/
structure Blk (n : ℕ) (xb ob : Vec Ideal S1024x1024 .f32) (mb : Vec Ideal S1x1x3072 .f32) (gb : Vec Ideal S1x1024 .f32) : Prop where
  x : ∀ r l : Fin 1024, (xb (ix2 r l) : EReal) = A.x (1024 * (n / 4) + r.val) l
  o : ∀ r l : Fin 1024, (ob (ix2 r l) : EReal) = A.ox (1024 * (n / 4) + r.val) l
  m : ∀ r l : Fin 1024, (1 + mb (ix3 0 0 ⟨1024 + l.val, by omega⟩) : EReal) = A.fac (1024 * (n / 4) + r.val) l
  g : ∀ l : Fin 1024, (gb (ix2 0 l) : EReal) = A.g l

section done
variable {A} {n : ℕ} {xb ob : Vec Ideal S1024x1024 .f32} {mb : Vec Ideal S1x1x3072 .f32} {gb : Vec Ideal S1x1024 .f32} (B : Blk A n xb ob mb gb)
  (d : Vec Ideal S1024x1024 .f32) (hd : ∀ r l : Fin 1024, (d (ix2 r l) : EReal) = A.dh (1024 * (n / 4) + r.val) l)

include B
theorem row_x (r : Fin 1024) : (fun k => (xb (ix2 r k) : EReal)) = A.x (1024 * (n / 4) + r.val) := funext fun k => B.x r k

theorem at5 (r l : Fin 1024) : (k0_pay5 (F := Ideal) xb (ix2 r l) : EReal) = A.x (1024 * (n / 4) + r.val) l * Norm.rr (A.x (1024 * (n / 4) + r.val)) := by
  rw [pay5, row_x B, B.x]

include hd
theorem at8 (r l : Fin 1024) : (k0_pay8 (F := Ideal) d mb (ix2 r l) : EReal) = A.dh (1024 * (n / 4) + r.val) l * A.fac (1024 * (n / 4) + r.val) l := by
  rw [pay8, hd, B.m r l]

theorem at6 (l : Fin 1024) : (k0_pay6 (F := Ideal) d (ix2 0 l) : EReal) = ∑ r : Fin 1024, A.dh (1024 * (n / 4) + r.val) l := by
  rw [pay6]
  exact Finset.sum_congr rfl fun r _ => hd r l

theorem at7 (l : Fin 1024) : (k0_pay7 (F := Ideal) d xb gb (ix2 0 l) : EReal) = ∑ r : Fin 1024, A.fsc (1024 * (n / 4) + r.val) l := by
  rw [pay7]
  refine Finset.sum_congr rfl fun r _ => ?_
  rw [hd, at5 B, B.g, Data.fsc]

theorem at9 (l : Fin 1024) : (k0_pay9 (F := Ideal) d xb mb (ix2 0 l) : EReal) = ∑ r : Fin 1024, A.fng (1024 * (n / 4) + r.val) l := by
  rw [pay9]
  refine Finset.sum_congr rfl fun r _ => ?_
  rw [at8 B d hd, at5 B, Data.fng]

theorem at11 (r l : Fin 1024) : (k0_pay11 (F := Ideal) (k0_pay10 d xb mb gb) ob (ix2 r l) : EReal) = A.fdx (1024 * (n / 4) + r.val) l := by
  rw [pay11, pay10, B.o, row_x B, Data.fdx]
  refine congrArg (fun f => _ + Norm.kern _ f l) (funext fun k => ?_)
  rw [at8 B d hd, B.g]
end done

/-- The carried state: the four results' blocks and the scratch. -/
abbrev St := Vec Ideal S1024x1024 .f32 × Vec Ideal S1x1x1024 .f32 × Vec Ideal S1x1x1024 .f32 × Vec Ideal S1x1024 .f32 × Vec Ideal S1024x1024 .f32

/-- What the carried state holds after point `n`. -/
structure Inv (n : ℕ) (T : St) : Prop where
  dx : n % 4 = 3 → ∀ r l : Fin 1024, (T.1 (ix2 r l) : EReal) = A.fdx (1024 * (n / 4) + r.val) l
  sh : 3 ≤ n % 8 → ∀ l : Fin 1024, (T.2.1 (ix3 0 0 l) : EReal) = part 1024 (fun q => A.dh (2048 * (n / 8) + q) l) ((n % 8 + 1) / 4)
  sc : 3 ≤ n % 8 → ∀ l : Fin 1024, (T.2.2.1 (ix3 0 0 l) : EReal) = part 1024 (fun q => A.fsc (2048 * (n / 8) + q) l) ((n % 8 + 1) / 4)
  ng : 3 ≤ n → ∀ l : Fin 1024, (T.2.2.2.1 (ix2 0 l) : EReal) = part 1024 (fun q => A.fng q l) ((n + 1) / 4)
  scr : ∀ r l : Fin 1024, (T.2.2.2.2 (ix2 r l) : EReal) = part A.w (A.dt (1024 * (n / 4) + r.val) l) (n % 4 + 1)

/-- A point that is not a block's last keeps the partial sums. -/
theorem keep (n : ℕ) (hn : ¬n % 4 = 3) (T T' : St) (h : n ≠ 0 → Inv A (n - 1) T) (e : T'.2 = (T.2.1, T.2.2.1, T.2.2.2.1, T'.2.2.2.2))
    (scr : ∀ r l : Fin 1024, (T'.2.2.2.2 (ix2 r l) : EReal) = part A.w (A.dt (1024 * (n / 4) + r.val) l) (n % 4 + 1)) : Inv A n T' := by
  refine ⟨fun k => absurd k hn, fun k l => ?_, fun k l => ?_, fun k l => ?_, scr⟩
  · rw [e, (h (by omega)).sh (by omega) l, show (n - 1) / 8 = n / 8 by omega, show ((n - 1) % 8 + 1) / 4 = (n % 8 + 1) / 4 by omega]
  · rw [e, (h (by omega)).sc (by omega) l, show (n - 1) / 8 = n / 8 by omega, show ((n - 1) % 8 + 1) / 4 = (n % 8 + 1) / 4 by omega]
  · rw [e, (h (by omega)).ng (by omega) l, show (n - 1 + 1) / 4 = (n + 1) / 4 by omega]

/-- The first block of a sum, and the next. -/
theorem start (f g : ℕ → EReal) (a : ℕ) (h : ∀ s : ℕ, f (a + s) = g s) : ∑ r : Fin 1024, f (a + r.val) = part 1024 g 1 := by
  rw [part_succ, part_zero, zero_add]
  exact Finset.sum_congr rfl fun s _ => by rw [h, Nat.mul_zero, Nat.zero_add]
theorem more (f g : ℕ → EReal) (a j k : ℕ) (e : j + 1 = k) (h : ∀ s : ℕ, f (a + s) = g (1024 * j + s)) : part 1024 g j + ∑ r : Fin 1024, f (a + r.val) = part 1024 g k := by
  rw [← e, part_succ]
  exact congrArg _ (Finset.sum_congr rfl fun s _ => h s.val)

/-- One point: the state before it satisfies the invariant, or it is the grid's first. -/
theorem step (n : ℕ) (h16 : n < 16) (T T' : St) (h : n ≠ 0 → Inv A (n - 1) T)
    {xb ob : Vec Ideal S1024x1024 .f32} {mb : Vec Ideal S1x1x3072 .f32} {gb : Vec Ideal S1x1024 .f32} (B : Blk A n xb ob mb gb) (d : Vec Ideal S1024x1024 .f32)
    (h0 : n % 4 = 0 → ∀ r l : Fin 1024, (d (ix2 r l) : EReal) = ∑ s : Fin A.w, A.dt (1024 * (n / 4) + r.val) l (A.w * (n % 4) + s.val))
    (h1 : ¬n % 4 = 0 → ∀ r l : Fin 1024, (d (ix2 r l) : EReal) = T.2.2.2.2 (ix2 r l) + ∑ s : Fin A.w, A.dt (1024 * (n / 4) + r.val) l (A.w * (n % 4) + s.val))
    (eK : ¬n % 4 = 3 → T'.2 = (T.2.1, T.2.2.1, T.2.2.2.1, d))
    (eC : n % 4 = 3 → n < 4 → T' = (k0_pay11 (F := Ideal) (k0_pay10 d xb mb gb) ob, k0_pay12 (F := Ideal) (k0_pay6 d), k0_pay13 (F := Ideal) (k0_pay7 d xb gb),
      k0_pay9 (F := Ideal) d xb mb, d))
    (eD : n % 4 = 3 → ¬n < 4 → ¬n % 8 = 3 → T' = (k0_pay11 (F := Ideal) (k0_pay10 d xb mb gb) ob, k0_pay14 (F := Ideal) (k0_pay6 d) T.2.1, k0_pay15 (F := Ideal) (k0_pay7 d xb gb) T.2.2.1,
      k0_pay3 (F := Ideal) (k0_pay9 (F := Ideal) d xb mb) T.2.2.2.1, d))
    (eE : n % 4 = 3 → ¬n < 4 → n % 8 = 3 → T' = (k0_pay11 (F := Ideal) (k0_pay10 d xb mb gb) ob, k0_pay12 (F := Ideal) (k0_pay6 d), k0_pay13 (F := Ideal) (k0_pay7 d xb gb),
      k0_pay3 (F := Ideal) (k0_pay9 (F := Ideal) d xb mb) T.2.2.2.1, d)) : Inv A n T' := by
  have scr : ∀ r l : Fin 1024, (d (ix2 r l) : EReal) = part A.w (A.dt (1024 * (n / 4) + r.val) l) (n % 4 + 1) := fun r l => by
    by_cases z : n % 4 = 0
    · rw [h0 z, z, part_succ, part_zero, zero_add]
    · rw [h1 z, (h (by omega)).scr r l, show (n - 1) / 4 = n / 4 by omega, show (n - 1) % 4 + 1 = n % 4 by omega, part_succ]
  by_cases h3 : n % 4 = 3
  · have hd : ∀ r l : Fin 1024, (d (ix2 r l) : EReal) = A.dh (1024 * (n / 4) + r.val) l := fun r l => by
      rw [scr r l, h3, Data.dh]
    have sh1 : ∀ l : Fin 1024, ∀ f : ℕ → Fin 1024 → EReal, n % 8 = 3 → ∑ r : Fin 1024, f (1024 * (n / 4) + r.val) l = part 1024 (fun q => f (2048 * (n / 8) + q) l) ((n % 8 + 1) / 4) := fun l f k => by
      rw [show (n % 8 + 1) / 4 = 1 by omega]
      exact start (fun q => f q l) _ _ fun s => congrArg (fun q => f q l) (by omega)
    have sh2 : ∀ l : Fin 1024, ∀ f : ℕ → Fin 1024 → EReal, ¬n % 8 = 3 → part 1024 (fun q => f (2048 * ((n - 1) / 8) + q) l) (((n - 1) % 8 + 1) / 4) + ∑ r : Fin 1024, f (1024 * (n / 4) + r.val) l
        = part 1024 (fun q => f (2048 * (n / 8) + q) l) ((n % 8 + 1) / 4) := fun l f k => by
      rw [show (n - 1) / 8 = n / 8 by omega]
      exact more (fun q => f q l) _ _ _ _ (by omega) fun s => congrArg (fun q => f q l) (by omega)
    by_cases h4 : n < 4
    · rw [eC h3 h4]
      refine ⟨fun _ r l => at11 B d hd r l, fun _ l => ?_, fun _ l => ?_, fun _ l => ?_, scr⟩
      · exact (pay12 _ _).trans ((at6 B d hd l).trans (sh1 l A.dh (by omega)))
      · exact (pay13 _ _).trans ((at7 B d hd l).trans (sh1 l A.fsc (by omega)))
      · rw [show (n + 1) / 4 = 1 by omega]
        exact (at9 B d hd l).trans (start (fun q => A.fng q l) _ _ fun s => congrArg (fun q => A.fng q l) (by omega))
    · have ng : ∀ l : Fin 1024, (k0_pay3 (F := Ideal) (k0_pay9 (F := Ideal) d xb mb) T.2.2.2.1 (ix2 0 l) : EReal) = part 1024 (fun q => A.fng q l) ((n + 1) / 4) := fun l => by
        rw [pay3, (h (by omega)).ng (by omega) l, at9 B d hd l]
        exact more (fun q => A.fng q l) _ _ _ _ (by omega) fun s => congrArg (fun q => A.fng q l) (by omega)
      by_cases h8 : n % 8 = 3
      · rw [eE h3 h4 h8]
        refine ⟨fun _ r l => at11 B d hd r l, fun _ l => ?_, fun _ l => ?_, fun _ l => ng l, scr⟩
        · exact (pay12 _ _).trans ((at6 B d hd l).trans (sh1 l A.dh h8))
        · exact (pay13 _ _).trans ((at7 B d hd l).trans (sh1 l A.fsc h8))
      · rw [eD h3 h4 h8]
        refine ⟨fun _ r l => at11 B d hd r l, fun _ l => ?_, fun _ l => ?_, fun _ l => ng l, scr⟩
        · refine (pay14 _ _ _).trans (Eq.trans ?_ (sh2 l A.dh h8))
          rw [(h (by omega)).sh (by omega) l, at6 B d hd l]
        · refine (pay15 _ _ _).trans (Eq.trans ?_ (sh2 l A.fsc h8))
          rw [(h (by omega)).sc (by omega) l, at7 B d hd l]
  · exact keep A n h3 T T' h (by rw [eK h3]) fun r l => by rw [eK h3]; exact scr r l
end Cert.Sums
end
-- ==== Proof.Up.lean ====
module
public import proofs.«01_k».proof.Proof.Sums
public import proofs.«01_k».proof.Proof.Gen.UpIdeal.Value
import Idealize.ShloMosaic.Lib.Pipeline.ValueKit
import Idealize.ShloMosaic.Lib.Pipeline.ReadBack

/-! # The gradient of mixer B's input projection to its input: what the grid's points leave -/

@[expose] public section
set_option maxRecDepth 16384
set_option maxHeartbeats 200000
noncomputable section
namespace Cert.Up
open Idealize.ShloMosaic Idealize.ShloMosaic.TcCoe Cert.Prod Cert.Sums Cert.UpIdeal Cert.UpIdeal.Gen

variable (m : (ℓ : Loc nD τ sig) → Buf (Elt Ideal) ℓ)

/-- A block's first point leaves its section's product, added to zero. -/
theorem stA (c : Dev nD) (t : Fin cfg0.N) (acc) (h0 : t.val % 4 = 0) (h1 : ¬t.val % 4 = 3) :
    (Value.stAt0 m c t.val t.isLt acc).2 = (acc.2.1, acc.2.2.1, acc.2.2.2.1, k0_pay2 k0_pay1 (iblk m c 0 t) (iblk m c 1 t)) := by
  rw [Value.stAt0_A m c t acc h0 h1]
  refine Prod.ext rfl (Prod.ext rfl (Prod.ext rfl ?_))
  dsimp only
  unfold sout0_A_0
  rw [View.read_writes_eq_canon _ _ _ (fun y => scover0_A_0 (y := y) ..)]
  unfold kernelRun0_A
  dsimp only
  sl_unfold_words
  rw [View.canon_cons_unit_zero (S := S1024x1024) hz2, View.readCov_unit_zero (S := S1024x1024) _ hz2]
  simp only [View.readAt_eq_ld, (hs0_0 t).read_unread, (hs0_1 t).read_unread, View.ld_unit_zero (S := S1x1024x2048) hz3]

/-- A later point adds its section's product to what the scratch holds. -/
theorem stB (c : Dev nD) (t : Fin cfg0.N) (acc) (h0 : ¬t.val % 4 = 0) (h1 : ¬t.val % 4 = 3) :
    (Value.stAt0 m c t.val t.isLt acc).2 = (acc.2.1, acc.2.2.1, acc.2.2.2.1, k0_pay2 acc.2.2.2.2 (iblk m c 0 t) (iblk m c 1 t)) := by
  rw [Value.stAt0_B m c t acc h0 h1]
  refine Prod.ext rfl (Prod.ext rfl (Prod.ext rfl ?_))
  dsimp only
  unfold sout0_B_0
  rw [View.read_writes_eq_canon _ _ _ (fun y => scover0_B_0 (y := y) ..)]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1x1024x2048) hz3, View.ld_unit_zero (S := S1024x1024) hz2]

/-- The first block's last point: the gradient's block, and its partial sums. -/
theorem stC (c : Dev nD) (t : Fin cfg0.N) (acc) (h0 : ¬t.val % 4 = 0) (h1 : t.val % 4 = 3) (h2 : (t.val % 8 = 0 ∨ t.val % 8 = 1 ∨ t.val % 8 = 2 ∨ t.val % 8 = 3))
    (h3 : ¬(t.val % 8 = 4 ∨ t.val % 8 = 5 ∨ t.val % 8 = 6 ∨ t.val % 8 = 7)) (h4 : t.val < 4) (h5 : ¬4 ≤ t.val)
    (dh : Vec Ideal S1024x1024 .f32) (e : k0_pay2 (F := Ideal) acc.2.2.2.2 (iblk m c 0 t) (iblk m c 1 t) = dh) :
    Value.stAt0 m c t.val t.isLt acc = (k0_pay11 (F := Ideal) (k0_pay10 dh (iblk m c 2 t) (iblk m c 4 t) (iblk m c 5 t)) (iblk m c 3 t),
      k0_pay12 (F := Ideal) (k0_pay6 dh), k0_pay13 (F := Ideal) (k0_pay7 dh (iblk m c 2 t) (iblk m c 5 t)),
      k0_pay9 (F := Ideal) dh (iblk m c 2 t) (iblk m c 4 t), dh) := by
  subst e
  rw [Value.stAt0_C m c t acc h0 h1 h2 h3 h4 h5]
  refine Prod.ext ?_ (Prod.ext ?_ (Prod.ext ?_ (Prod.ext ?_ ?_))) <;> dsimp only
  all_goals first
    | (unfold out0_C_6; rw [View.read_writes_eq_canon _ _ _ (fun y => cover0_C_6 (y := y) ..)])
    | (unfold out0_C_7; rw [View.read_writes_eq_canon _ _ _ (fun y => cover0_C_7 (y := y) ..)])
    | (unfold out0_C_8; rw [View.read_writes_eq_canon _ _ _ (fun y => cover0_C_8 (y := y) ..)])
    | (unfold out0_C_9; rw [View.read_writes_eq_canon _ _ _ (fun y => cover0_C_9 (y := y) ..)])
    | (unfold sout0_C_0; rw [View.read_writes_eq_canon _ _ _ (fun y => scover0_C_0 (y := y) ..)])
  all_goals
    unfold kernelRun0_C
    dsimp only
    sl_unfold_words
    first | rw [View.canon_unit_zero hz2] | rw [View.canon_unit_zero hz3]
    simp only [View.readCov_unit_zero (S := S1024x1024) _ hz2, View.readAt_eq_ld, (hs0_0 t).read_unread, (hs0_1 t).read_unread, (hs0_2 t).read_unread,
      (hs0_3 t).read_unread, (hs0_4 t).read_unread, (hs0_5 t).read_unread, (hs0_7 t).read_unread, (hs0_8 t).read_unread, (hs0_9 t).read_unread,
      (Memref.isWhole_whole _).read_unread, View.ld_unit_zero (S := S1x1024x2048) hz3, View.ld_unit_zero (S := S1024x1024) hz2,
      View.ld_unit_zero (S := S1x1024) hz2, View.ld_unit_zero (S := S1x1x3072) hz3, View.ld_unit_zero (S := S1x1x1024) hz3]

/-- A later block of the same batch entry adds its partial sums to each of the three. -/
theorem stD (c : Dev nD) (t : Fin cfg0.N) (acc) (h0 : ¬t.val % 4 = 0) (h1 : t.val % 4 = 3) (h2 : ¬(t.val % 8 = 0 ∨ t.val % 8 = 1 ∨ t.val % 8 = 2 ∨ t.val % 8 = 3))
    (h3 : (t.val % 8 = 4 ∨ t.val % 8 = 5 ∨ t.val % 8 = 6 ∨ t.val % 8 = 7)) (h4 : ¬t.val < 4) (h5 : 4 ≤ t.val)
    (dh : Vec Ideal S1024x1024 .f32) (e : k0_pay2 (F := Ideal) acc.2.2.2.2 (iblk m c 0 t) (iblk m c 1 t) = dh) :
    Value.stAt0 m c t.val t.isLt acc = (k0_pay11 (F := Ideal) (k0_pay10 dh (iblk m c 2 t) (iblk m c 4 t) (iblk m c 5 t)) (iblk m c 3 t),
      k0_pay14 (F := Ideal) (k0_pay6 dh) acc.2.1, k0_pay15 (F := Ideal) (k0_pay7 dh (iblk m c 2 t) (iblk m c 5 t)) acc.2.2.1,
      k0_pay3 (F := Ideal) (k0_pay9 (F := Ideal) dh (iblk m c 2 t) (iblk m c 4 t)) acc.2.2.2.1, dh) := by
  subst e
  rw [Value.stAt0_D m c t acc h0 h1 h2 h3 h4 h5]
  refine Prod.ext ?_ (Prod.ext ?_ (Prod.ext ?_ (Prod.ext ?_ ?_))) <;> dsimp only
  all_goals first
    | (unfold out0_D_6; rw [View.read_writes_eq_canon _ _ _ (fun y => cover0_D_6 (y := y) ..)])
    | (unfold out0_D_7; rw [View.read_writes_eq_canon _ _ _ (fun y => cover0_D_7 (y := y) ..)])
    | (unfold out0_D_8; rw [View.read_writes_eq_canon _ _ _ (fun y => cover0_D_8 (y := y) ..)])
    | (unfold out0_D_9; rw [View.read_writes_eq_canon _ _ _ (fun y => cover0_D_9 (y := y) ..)])
    | (unfold sout0_D_0; rw [View.read_writes_eq_canon _ _ _ (fun y => scover0_D_0 (y := y) ..)])
  all_goals
    unfold kernelRun0_D
    dsimp only
    sl_unfold_words
    first | rw [View.canon_unit_zero hz2] | rw [View.canon_unit_zero hz3]
    simp only [View.readCov_unit_zero (S := S1024x1024) _ hz2, View.readAt_eq_ld, (hs0_0 t).read_unread, (hs0_1 t).read_unread, (hs0_2 t).read_unread,
      (hs0_3 t).read_unread, (hs0_4 t).read_unread, (hs0_5 t).read_unread, (hs0_7 t).read_unread, (hs0_8 t).read_unread, (hs0_9 t).read_unread,
      (Memref.isWhole_whole _).read_unread, View.ld_unit_zero (S := S1x1024x2048) hz3, View.ld_unit_zero (S := S1024x1024) hz2,
      View.ld_unit_zero (S := S1x1024) hz2, View.ld_unit_zero (S := S1x1x3072) hz3, View.ld_unit_zero (S := S1x1x1024) hz3]

/-- A batch entry's first block starts two of the sums anew and adds to the third. -/
theorem stE (c : Dev nD) (t : Fin cfg0.N) (acc) (h0 : ¬t.val % 4 = 0) (h1 : t.val % 4 = 3) (h2 : (t.val % 8 = 0 ∨ t.val % 8 = 1 ∨ t.val % 8 = 2 ∨ t.val % 8 = 3))
    (h3 : ¬(t.val % 8 = 4 ∨ t.val % 8 = 5 ∨ t.val % 8 = 6 ∨ t.val % 8 = 7)) (h4 : ¬t.val < 4) (h5 : 4 ≤ t.val)
    (dh : Vec Ideal S1024x1024 .f32) (e : k0_pay2 (F := Ideal) acc.2.2.2.2 (iblk m c 0 t) (iblk m c 1 t) = dh) :
    Value.stAt0 m c t.val t.isLt acc = (k0_pay11 (F := Ideal) (k0_pay10 dh (iblk m c 2 t) (iblk m c 4 t) (iblk m c 5 t)) (iblk m c 3 t),
      k0_pay12 (F := Ideal) (k0_pay6 dh), k0_pay13 (F := Ideal) (k0_pay7 dh (iblk m c 2 t) (iblk m c 5 t)),
      k0_pay3 (F := Ideal) (k0_pay9 (F := Ideal) dh (iblk m c 2 t) (iblk m c 4 t)) acc.2.2.2.1, dh) := by
  subst e
  rw [Value.stAt0_E m c t acc h0 h1 h2 h3 h4 h5]
  refine Prod.ext ?_ (Prod.ext ?_ (Prod.ext ?_ (Prod.ext ?_ ?_))) <;> dsimp only
  all_goals first
    | (unfold out0_E_6; rw [View.read_writes_eq_canon _ _ _ (fun y => cover0_E_6 (y := y) ..)])
    | (unfold out0_E_7; rw [View.read_writes_eq_canon _ _ _ (fun y => cover0_E_7 (y := y) ..)])
    | (unfold out0_E_8; rw [View.read_writes_eq_canon _ _ _ (fun y => cover0_E_8 (y := y) ..)])
    | (unfold out0_E_9; rw [View.read_writes_eq_canon _ _ _ (fun y => cover0_E_9 (y := y) ..)])
    | (unfold sout0_E_0; rw [View.read_writes_eq_canon _ _ _ (fun y => scover0_E_0 (y := y) ..)])
  all_goals
    unfold kernelRun0_E
    dsimp only
    sl_unfold_words
    first | rw [View.canon_unit_zero hz2] | rw [View.canon_unit_zero hz3]
    simp only [View.readCov_unit_zero (S := S1024x1024) _ hz2, View.readAt_eq_ld, (hs0_0 t).read_unread, (hs0_1 t).read_unread, (hs0_2 t).read_unread,
      (hs0_3 t).read_unread, (hs0_4 t).read_unread, (hs0_5 t).read_unread, (hs0_7 t).read_unread, (hs0_8 t).read_unread, (hs0_9 t).read_unread,
      (Memref.isWhole_whole _).read_unread, View.ld_unit_zero (S := S1x1024x2048) hz3, View.ld_unit_zero (S := S1024x1024) hz2,
      View.ld_unit_zero (S := S1x1024) hz2, View.ld_unit_zero (S := S1x1x3072) hz3, View.ld_unit_zero (S := S1x1x1024) hz3]
end Cert.Up
end
-- ==== Proof.UpRef.lean ====
module
public import proofs.«01_k».proof.Proof.Sums
public import proofs.«01_k».proof.Proof.Gen.UpRefIdeal.Run
import Idealize.ShloMosaic.Lib.Pipeline.ValueKit

/-! # The reference's gradient through the modulated norm, at an index

The last part sets it equal to the sums that the kernel forms. -/

@[expose] public section
set_option maxRecDepth 16384
set_option maxHeartbeats 400000
noncomputable section
namespace Cert.UpRef
open Idealize.ShloMosaic Idealize.ShloMosaic.TcCoe Cert.UpRefIdeal Cert.UpRefIdeal.Gen

/-- The reference's intermediate values, from its arguments. -/
def scaled (h : FVec Ideal S2x2048x1024 .f32) (o : FVec Ideal S2x1x3072 .f32) : FVec Ideal S2x2048x1024 .f32 :=
  mulf h (broadcastInDim S2x2048x1024 ![0, 1, 2] bcast_S2x1x1024_S2x2048x1024_0_1_2 (addf (broadcastInDim S2x1x1024 ![] bcast_S_S2x1x1024 (constant S_ .f32 0x3F800000#32)) (extractStridedSlice S2x1x1024 ![0, 0, 1024] o slices_S2x1x3072_S2x1x1024_0_0_1024)))
def gains (g : FVec Ideal S1x1024 .f32) : FVec Ideal S2x2048x1024 .f32 :=
  broadcastInDim S2x2048x1024 ![0, 1, 2] bcast_S1x1x1024_S2x2048x1024_0_1_2 (broadcastInDim S1x1x1024 ![1, 2] bcast_S1x1024_S1x1x1024_1_2 g)
def rows (x : FVec Ideal S4096x1024 .f32) : FVec Ideal S2x2048x1024 .f32 := shapeCast _ x shapeCasts_S4096x1024_S2x2048x1024
def var (y : FVec Ideal S2x2048x1024 .f32) : FVec Ideal S2x2048x1 .f32 :=
  addf (Host.divf (broadcastInDim S2x2048x1 ![0, 1] bcast_S2x2048_S2x2048x1_0_1 (Host.reduceAdd (mulf y y) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))
def inv (v : FVec Ideal S2x2048x1 .f32) : FVec Ideal S2x2048x1024 .f32 := broadcastInDim S2x2048x1024 ![0, 1, 2] bcast_S2x2048x1_S2x2048x1024_0_1_2 (Host.rsqrt v)
def quad (y u : FVec Ideal S2x2048x1024 .f32) (v : FVec Ideal S2x2048x1 .f32) : FVec Ideal S2x2048x1024 .f32 :=
  broadcastInDim S2x2048x1024 ![0, 1] bcast_S2x2048_S2x2048x1024_0_1 (Host.reduceAdd (Host.divf (mulf (shapeCast _ (Host.reduceAdd (mulf y u) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt v) v))) (broadcastInDim S2x2048x1 ![] bcast_S_S2x2048x1 (constant S_ .f32 0x44800000#32))) (constant S_ .f32 0x00000000#32) reducesTo_S2x2048x1_S2x2048_d2 h_S_)
def total (e : FVec Ideal S4096x1024 .f32) (y u r q : FVec Ideal S2x2048x1024 .f32) : FVec Ideal S4096x1024 .f32 :=
  addf e (shapeCast _ (addf (addf (mulf u r) (mulf y q)) (mulf q y)) shapeCasts_S2x2048x1024_S4096x1024)
/-- The gradient to the rows, from the gradient `h` that reaches the modulated norm. -/
def grad (h : FVec Ideal S2x2048x1024 .f32) (x e : FVec Ideal S4096x1024 .f32) (o : FVec Ideal S2x1x3072 .f32) (g : FVec Ideal S1x1024 .f32) : FVec Ideal S4096x1024 .f32 :=
  total e (rows x) (mulf (scaled h o) (gains g)) (inv (var (rows x))) (quad (rows x) (mulf (scaled h o) (gains g)) (var (rows x)))
def overSeq (h : FVec Ideal S2x2048x1024 .f32) : FVec Ideal S2x1x1024 .f32 :=
  shapeCast _ (Host.reduceAdd h (constant S_ .f32 0x00000000#32) reducesTo_S2x2048x1024_S2x1024_d1 h_S_) shapeCasts_S2x1024_S2x1x1024
def overAll (h : FVec Ideal S2x2048x1024 .f32) : FVec Ideal S1x1024 .f32 :=
  broadcastInDim S1x1024 ![1] bcast_S1024_S1x1024_1 (Host.reduceAdd (shapeCast _ (Host.reduceAdd h (constant S_ .f32 0x00000000#32) reducesTo_S2x2048x1024_S1024_d0_1 h_S_) shapeCasts_S1024_S1x1x1024) (constant S_ .f32 0x00000000#32) reducesTo_S1x1x1024_S1024_d0_1 h_S_)

theorem row_lt (b : Fin 2) (s : Fin 2048) : b.val * 2048 + s.val < 4096 := by omega

theorem scaled_apply (h : FVec Ideal S2x2048x1024 .f32) (o : FVec Ideal S2x1x3072 .f32) (b : Fin 2) (s : Fin 2048) (l : Fin 1024) :
    (scaled h o (ix3 b s l) : EReal) = h (ix3 b s l) * (1 + o (ix3 b 0 ⟨1024 + l.val, by omega⟩)) := by
  pointwise [scaled]
theorem gains_apply (g : FVec Ideal S1x1024 .f32) (b : Fin 2) (s : Fin 2048) (l : Fin 1024) : (gains g (ix3 b s l) : EReal) = g (ix2 0 l) := by
  pointwise [gains]
theorem rows_apply (x : FVec Ideal S4096x1024 .f32) (b : Fin 2) (s : Fin 2048) (l : Fin 1024) : (rows x (ix3 b s l) : EReal) = x (ix2 ⟨b.val * 2048 + s.val, row_lt b s⟩ l) := by
  pointwise [rows]
theorem var_apply (y : FVec Ideal S2x2048x1024 .f32) (b : Fin 2) (s : Fin 2048) : (var y (ix3 b s 0) : EReal) = Norm.vv fun k => y (ix3 b s k) := by
  pointwise [var, Norm.vv]
theorem inv_apply (v : FVec Ideal S2x2048x1 .f32) (b : Fin 2) (s : Fin 2048) (l : Fin 1024) : (inv v (ix3 b s l) : EReal) = Ideal.rsqrt (v (ix3 b s 0)) := by
  pointwise [inv]
theorem quad_apply (y u : FVec Ideal S2x2048x1024 .f32) (v : FVec Ideal S2x2048x1 .f32) (b : Fin 2) (s : Fin 2048) (l : Fin 1024) :
    (quad y u v (ix3 b s l) : EReal) = Ideal.div ((∑ k : Fin 1024, (y (ix3 b s k) : EReal) * u (ix3 b s k)) * (Ideal.ofBits .f32 0xBF000000#32 * Ideal.div (Ideal.rsqrt (v (ix3 b s 0))) (v (ix3 b s 0)))) (Ideal.ofBits .f32 0x44800000#32) := by
  pointwise [quad]
  rw [Fin.sum_univ_one]
theorem total_apply (e : FVec Ideal S4096x1024 .f32) (y u r q : FVec Ideal S2x2048x1024 .f32) (row : Fin 4096) (l : Fin 1024) :
    (total e y u r q (ix2 row l) : EReal) = e (ix2 row l) + (u (ix3 ⟨row.val / 2048, by omega⟩ ⟨row.val % 2048, by omega⟩ l) * r (ix3 ⟨row.val / 2048, by omega⟩ ⟨row.val % 2048, by omega⟩ l) + y (ix3 ⟨row.val / 2048, by omega⟩ ⟨row.val % 2048, by omega⟩ l) * q (ix3 ⟨row.val / 2048, by omega⟩ ⟨row.val % 2048, by omega⟩ l)
      + q (ix3 ⟨row.val / 2048, by omega⟩ ⟨row.val % 2048, by omega⟩ l) * y (ix3 ⟨row.val / 2048, by omega⟩ ⟨row.val % 2048, by omega⟩ l)) := by
  pointwise [total]
theorem overSeq_apply (h : FVec Ideal S2x2048x1024 .f32) (b : Fin 2) (l : Fin 1024) : (overSeq h (ix3 b 0 l) : EReal) = ∑ s : Fin 2048, (h (ix3 b s l) : EReal) := by
  pointwise [overSeq]
theorem overAll_apply (h : FVec Ideal S2x2048x1024 .f32) (l : Fin 1024) : (overAll h (ix2 0 l) : EReal) = ∑ b : Fin 2, ∑ s : Fin 2048, (h (ix3 b s l) : EReal) := by
  pointwise [overAll]
  rw [Norm.red01]
  pointwise []
  rw [Norm.red01]
  pointwise []
  rw [Fin.sum_univ_one, Fin.sum_univ_one]

section sums
open Cert.Sums Cert.Prod
/-- The reference's arguments, and the gradient that reaches the modulated norm, hold a call's numbers. -/
structure Is (A : Data) (h : FVec Ideal S2x2048x1024 .f32) (x e : FVec Ideal S4096x1024 .f32) (o : FVec Ideal S2x1x3072 .f32) (g : FVec Ideal S1x1024 .f32) : Prop where
  h : ∀ (b : Fin 2) (s : Fin 2048) (l : Fin 1024), (h (ix3 b s l) : EReal) = A.dh (b.val * 2048 + s.val) l
  x : ∀ (row : Fin 4096) (l : Fin 1024), (x (ix2 row l) : EReal) = A.x row.val l
  e : ∀ (row : Fin 4096) (l : Fin 1024), (e (ix2 row l) : EReal) = A.ox row.val l
  o : ∀ (b : Fin 2) (s : Fin 2048) (l : Fin 1024), (1 + o (ix3 b 0 ⟨1024 + l.val, by omega⟩) : EReal) = A.fac (b.val * 2048 + s.val) l
  g : ∀ l : Fin 1024, (g (ix2 0 l) : EReal) = A.g l

variable {A : Data} {h : FVec Ideal S2x2048x1024 .f32} {x e : FVec Ideal S4096x1024 .f32} {o : FVec Ideal S2x1x3072 .f32} {g : FVec Ideal S1x1024 .f32} (I : Is A h x e o g)
  (b : Fin 2) (s : Fin 2048) (l : Fin 1024)
include I

theorem at_x : (rows x (ix3 b s l) : EReal) = A.x (b.val * 2048 + s.val) l := (rows_apply _ b s l).trans (I.x _ l)
theorem at_var : (var (rows x) (ix3 b s 0) : EReal) = Norm.vv (A.x (b.val * 2048 + s.val)) := (var_apply _ b s).trans (congrArg Norm.vv (funext fun k => at_x I b s k))
theorem at_inv : (inv (var (rows x)) (ix3 b s l) : EReal) = Norm.rr (A.x (b.val * 2048 + s.val)) := (inv_apply _ b s l).trans (congrArg Ideal.rsqrt (at_var I b s))
theorem at_scaled : (scaled h o (ix3 b s l) : EReal) = A.dh (b.val * 2048 + s.val) l * A.fac (b.val * 2048 + s.val) l := by
  rw [scaled_apply, I.h, I.o b s l]
theorem at_u : (mulf (scaled h o) (gains g) (ix3 b s l) : EReal) = A.dh (b.val * 2048 + s.val) l * A.fac (b.val * 2048 + s.val) l * A.g l :=
  congrArg₂ (fun a b : EReal => a * b) (at_scaled I b s l) ((gains_apply _ b s l).trans (I.g l))
theorem at_quad : (quad (rows x) (mulf (scaled h o) (gains g)) (var (rows x)) (ix3 b s l) : EReal)
    = Norm.qq (A.x (b.val * 2048 + s.val)) fun k => A.dh (b.val * 2048 + s.val) k * A.fac (b.val * 2048 + s.val) k * A.g k := by
  refine (quad_apply _ _ _ b s l).trans ?_
  rw [Norm.qq, Norm.rr, at_var I]
  refine congrArg (fun a : EReal => Ideal.div (a * _) _) (Finset.sum_congr rfl fun k _ => ?_)
  exact congrArg₂ (fun a b : EReal => a * b) (at_x I b s k) (at_u I b s k)

theorem grad_eq (row : Fin 4096) : (grad h x e o g (ix2 row l) : EReal) = A.fdx row.val l := by
  have hr := row.isLt
  have k : row.val / 2048 * 2048 + row.val % 2048 = row.val := by omega
  refine (total_apply _ _ _ _ _ row l).trans ?_
  rw [Data.fdx, Norm.kern_eq, Norm.refr, I.e]
  refine congrArg (fun a : EReal => _ + a) ?_
  rw [at_u I, at_x I, at_inv I, at_quad I]
  rw [k]
theorem shift_eq : (overSeq h (ix3 b 0 l) : EReal) = ∑ s : Fin 2048, A.dh (2048 * b.val + s.val) l :=
  (overSeq_apply _ b l).trans (Finset.sum_congr rfl fun s _ => by rw [I.h, Nat.mul_comm])
theorem scale_eq : (overSeq (mulf (mulf (mulf (rows x) (inv (var (rows x)))) (gains g)) h) (ix3 b 0 l) : EReal) = ∑ s : Fin 2048, A.fsc (2048 * b.val + s.val) l := by
  refine (overSeq_apply _ b l).trans (Finset.sum_congr rfl fun s _ => ?_)
  rw [Nat.mul_comm 2048 b.val, Data.fsc, mul_comm (A.dh _ l)]
  exact congrArg₂ (fun a b : EReal => a * b) (congrArg₂ (fun a b : EReal => a * b) (congrArg₂ (fun a b : EReal => a * b) (at_x I b s l) (at_inv I b s l)) ((gains_apply _ b s l).trans (I.g l))) (I.h b s l)
theorem gain_eq : (overAll (mulf (mulf (rows x) (inv (var (rows x)))) (scaled h o)) (ix2 0 l) : EReal) = ∑ q : Fin 4096, A.fng q.val l := by
  refine (overAll_apply _ l).trans (Eq.trans ?_ (part_all 2048 2 (fun q => A.fng q l)))
  rw [part, Finset.sum_range]
  refine Finset.sum_congr rfl fun b _ => Finset.sum_congr rfl fun s _ => ?_
  rw [Nat.mul_comm 2048 b.val, Data.fng, mul_comm (A.dh _ l * _)]
  exact congrArg₂ (fun a b : EReal => a * b) (congrArg₂ (fun a b : EReal => a * b) (at_x I b s l) (at_inv I b s l)) (at_scaled I b s l)
end sums
end Cert.UpRef
end
-- ==== Proof.UpTie.lean ====
module
public import proofs.«01_k».proof.Proof.Up
public import proofs.«01_k».proof.Proof.UpRef
public import proofs.«01_k».proof.Proof.Gen.UpRefIdeal.Run
import Idealize.ShloMosaic.Lib.Pipeline.ValueKit
import Idealize.ShloMosaic.Lib.Pipeline.ReadBack

/-! # The gradient of mixer B's input projection to its input: the kernel's results are the reference's -/

@[expose] public section
set_option maxRecDepth 16384
set_option maxHeartbeats 400000
noncomputable section
namespace Cert.Up
open Idealize.ShloMosaic Idealize.ShloMosaic.TcCoe Cert.Prod Cert.Sums Cert.UpIdeal Cert.UpIdeal.Gen

variable (m : (ℓ : Loc nD τ sig) → Buf (Elt Ideal) ℓ)

theorem pay1 (r l : Fin 1024) : (k0_pay1 (F := Ideal) (ix2 r l) : EReal) = 0 := by
  pointwise [k0_pay1]

theorem pay2 (x0 x1 : Vec Ideal S1x1024x2048 .bf16) (xs : Vec Ideal S1024x1024 .f32) (r l : Fin 1024) :
    (k0_pay2 (F := Ideal) xs x0 x1 (ix2 r l) : EReal) = xs (ix2 r l) + ∑ s : Fin 2048, (x0 (ix3 0 r s) : EReal) * x1 (ix3 0 l s) := by
  pointwise [k0_pay2]

theorem hi0 : ∀ t : Fin cfg0.N, win0_0.index t (0 : Fin 3) = t.val % 4 ∧ win0_0.index t (1 : Fin 3) = t.val / 4 ∧ win0_0.index t (2 : Fin 3) = 0 := (by decide +kernel : ∀ t : Fin grid0.N, _)
theorem hi1 : ∀ t : Fin cfg0.N, win0_1.index t (0 : Fin 3) = t.val % 4 ∧ win0_1.index t (1 : Fin 3) = 0 ∧ win0_1.index t (2 : Fin 3) = 0 := (by decide +kernel : ∀ t : Fin grid0.N, _)
theorem hi2 : ∀ t : Fin cfg0.N, win0_2.index t (0 : Fin 2) = t.val / 4 ∧ win0_2.index t (1 : Fin 2) = 0 := (by decide +kernel : ∀ t : Fin grid0.N, _)
theorem hi3 : ∀ t : Fin cfg0.N, win0_3.index t (0 : Fin 2) = t.val / 4 ∧ win0_3.index t (1 : Fin 2) = 0 := (by decide +kernel : ∀ t : Fin grid0.N, _)
theorem hi4 : ∀ t : Fin cfg0.N, win0_4.index t (0 : Fin 3) = t.val / 8 ∧ win0_4.index t (1 : Fin 3) = 0 ∧ win0_4.index t (2 : Fin 3) = 0 := (by decide +kernel : ∀ t : Fin grid0.N, _)
theorem hi5 : ∀ t : Fin cfg0.N, win0_5.index t (0 : Fin 2) = 0 ∧ win0_5.index t (1 : Fin 2) = 0 := (by decide +kernel : ∀ t : Fin grid0.N, _)

theorem t_lt (t : Fin cfg0.N) : t.val < 16 := lt_of_lt_of_eq t.isLt N_0

/-- The arguments' entries, by numbers below the extents. -/
def D (c : Dev nD) (j : Fin 4) (row : Fin 4096) (k : Fin 2048) : EReal := m ((c : Thread nD τ).loc main_arg0) (ix3 (n0 := 4) (n1 := 4096) (n2 := 2048) j row k)
def W (c : Dev nD) (j : Fin 4) (l : Fin 1024) (k : Fin 2048) : EReal := m ((c : Thread nD τ).loc main_arg1) (ix3 (n0 := 4) (n1 := 1024) (n2 := 2048) j l k)
def X (c : Dev nD) (row : Fin 4096) (l : Fin 1024) : EReal := m ((c : Thread nD τ).loc main_arg2) (ix2 (n0 := 4096) (n1 := 1024) row l)
def O (c : Dev nD) (row : Fin 4096) (l : Fin 1024) : EReal := m ((c : Thread nD τ).loc main_arg3) (ix2 (n0 := 4096) (n1 := 1024) row l)
def M (c : Dev nD) (b : Fin 2) (l : Fin 3072) : EReal := m ((c : Thread nD τ).loc main_arg4) (ix3 (n0 := 2) (n1 := 1) (n2 := 3072) b 0 l)
def Gn (c : Dev nD) (l : Fin 1024) : EReal := m ((c : Thread nD τ).loc main_arg5) (ix2 (n0 := 1) (n1 := 1024) 0 l)

theorem row_lt (t : Fin cfg0.N) (r : Fin 1024) : 1024 * (t.val / 4) + r.val < 4096 := by have := t_lt t; omega
theorem b_lt (t : Fin cfg0.N) : t.val / 8 < 2 := by have := t_lt t; omega
theorem sec_lt (n : ℕ) : n % 4 < 4 := Nat.mod_lt _ (by decide)

theorem rd0 (c : Dev nD) (t : Fin cfg0.N) (r : Fin 1024) (s : Fin 2048) :
    iblk m c 0 t (ix3 (n0 := 1) (n1 := 1024) (n2 := 2048) 0 r s) = D m c ⟨t.val % 4, sec_lt _⟩ ⟨1024 * (t.val / 4) + r.val, row_lt t r⟩ s := by
  blk_ext [D, iblk, V_main_arg0, hi0 t]
theorem rd1 (c : Dev nD) (t : Fin cfg0.N) (r : Fin 1024) (s : Fin 2048) :
    iblk m c 1 t (ix3 (n0 := 1) (n1 := 1024) (n2 := 2048) 0 r s) = W m c ⟨t.val % 4, sec_lt _⟩ r s := by
  blk_ext [W, iblk, V_main_arg1, hi1 t]
theorem rd2 (c : Dev nD) (t : Fin cfg0.N) (r l : Fin 1024) :
    iblk m c 2 t (ix2 (n0 := 1024) (n1 := 1024) r l) = X m c ⟨1024 * (t.val / 4) + r.val, row_lt t r⟩ l := by
  blk_ext [X, iblk, V_main_arg2, hi2 t]
theorem rd3 (c : Dev nD) (t : Fin cfg0.N) (r l : Fin 1024) :
    iblk m c 3 t (ix2 (n0 := 1024) (n1 := 1024) r l) = O m c ⟨1024 * (t.val / 4) + r.val, row_lt t r⟩ l := by
  blk_ext [O, iblk, V_main_arg3, hi3 t]
theorem rd4 (c : Dev nD) (t : Fin cfg0.N) (l : Fin 3072) :
    iblk m c 4 t (ix3 (n0 := 1) (n1 := 1) (n2 := 3072) 0 0 l) = M m c ⟨t.val / 8, b_lt t⟩ l := by
  blk_ext [M, iblk, V_main_arg4, hi4 t]
theorem rd5 (c : Dev nD) (t : Fin cfg0.N) (l : Fin 1024) :
    iblk m c 5 t (ix2 (n0 := 1) (n1 := 1024) 0 l) = Gn m c l := by
  blk_ext [Gn, iblk, V_main_arg5, hi5 t]

/-- The call's numbers. -/
def A (c : Dev nD) : Data where
  w := 2048
  dt row l k := D m c (Fin.ofNat 4 (k / 2048)) (Fin.ofNat 4096 row) (Fin.ofNat 2048 k) * W m c (Fin.ofNat 4 (k / 2048)) l (Fin.ofNat 2048 k)
  x row l := X m c (Fin.ofNat 4096 row) l
  ox row l := O m c (Fin.ofNat 4096 row) l
  fac row l := 1 + M m c (Fin.ofNat 2 (row / 2048)) ⟨1024 + l.val, by omega⟩
  g l := Gn m c l

theorem step_sum (c : Dev nD) (t : Fin cfg0.N) (xs : Vec Ideal S1024x1024 .f32) (r l : Fin 1024) :
    (k0_pay2 (F := Ideal) xs (iblk m c 0 t) (iblk m c 1 t) (ix2 r l) : EReal)
      = xs (ix2 r l) + ∑ s : Fin 2048, (A m c).dt (1024 * (t.val / 4) + r.val) l (2048 * (t.val % 4) + s.val) := by
  rw [pay2]
  refine congrArg _ (Finset.sum_congr rfl fun s _ => ?_)
  have e : (2048 * (t.val % 4) + s.val) / 2048 = t.val % 4 := by omega
  have es : Fin.ofNat 2048 (2048 * (t.val % 4) + s.val) = s := Fin.ext (by show _ % 2048 = _; omega)
  dsimp only [A]
  rw [e, es, Norm.ofNat_eq (sec_lt t.val), Norm.ofNat_eq (row_lt t r)]
  exact congrArg₂ (fun a b : EReal => a * b) (rd0 m c t r s) (rd1 m c t l s)

theorem blk (c : Dev nD) (t : Fin cfg0.N) : Blk (A m c) t.val (iblk m c 2 t) (iblk m c 3 t) (iblk m c 4 t) (iblk m c 5 t) where
  x r l := (rd2 m c t r l).trans (by dsimp only [A]; rw [Norm.ofNat_eq (row_lt t r)])
  o r l := (rd3 m c t r l).trans (by dsimp only [A]; rw [Norm.ofNat_eq (row_lt t r)])
  m r l := (congrArg (fun a : EReal => 1 + a) (rd4 m c t ⟨1024 + l.val, by omega⟩)).trans (by
    have hr := r.isLt
    dsimp only [A]
    rw [show (1024 * (t.val / 4) + r.val) / 2048 = t.val / 8 by omega, Norm.ofNat_eq (b_lt t)])
  g l := rd5 m c t l

/-- The point's new scratch. -/
def scr (c : Dev nD) (t : Fin cfg0.N) (T : St) : Vec Ideal S1024x1024 .f32 :=
  k0_pay2 (F := Ideal) (if t.val % 4 = 0 then k0_pay1 (F := Ideal) else T.2.2.2.2) (iblk m c 0 t) (iblk m c 1 t)

theorem step (c : Dev nD) (n : ℕ) (hn : n < cfg0.N) (T : St) (h : n ≠ 0 → Inv (A m c) (n - 1) T) : Inv (A m c) n (Value.stAt0 m c n hn T) := by
  have h16 : n < 16 := t_lt ⟨n, hn⟩
  refine Sums.step (A m c) n h16 T _ h (blk m c ⟨n, hn⟩) (scr m c ⟨n, hn⟩ T) (fun z r l => ?_) (fun z r l => ?_) (fun k => ?_) (fun k k4 => ?_) (fun k k4 k8 => ?_) (fun k k4 k8 => ?_)
  · rw [scr, if_pos z]
    exact (step_sum m c ⟨n, hn⟩ _ r l).trans (by rw [pay1, zero_add]; rfl)
  · rw [scr, if_neg z]
    exact step_sum m c ⟨n, hn⟩ _ r l
  · by_cases z : n % 4 = 0
    · rw [scr, if_pos z]
      exact stA m c ⟨n, hn⟩ T z k
    · rw [scr, if_neg z]
      exact stB m c ⟨n, hn⟩ T z k
  all_goals rw [scr, if_neg (by show ¬n % 4 = 0; omega)]
  · exact stC m c ⟨n, hn⟩ T (by show ¬n % 4 = 0; omega) k (.inr (.inr (.inr (by show n % 8 = 3; omega)))) (by show ¬(n % 8 = 4 ∨ n % 8 = 5 ∨ n % 8 = 6 ∨ n % 8 = 7); omega) k4 (by show ¬4 ≤ n; omega) _ rfl
  · exact stD m c ⟨n, hn⟩ T (by show ¬n % 4 = 0; omega) k (by show ¬(n % 8 = 0 ∨ n % 8 = 1 ∨ n % 8 = 2 ∨ n % 8 = 3); omega) (by show n % 8 = 4 ∨ n % 8 = 5 ∨ n % 8 = 6 ∨ n % 8 = 7; omega) k4 (by show 4 ≤ n; omega) _ rfl
  · exact stE m c ⟨n, hn⟩ T (by show ¬n % 4 = 0; omega) k (.inr (.inr (.inr k8))) (by show ¬(n % 8 = 4 ∨ n % 8 = 5 ∨ n % 8 = 6 ∨ n % 8 = 7); omega) k4 (by show 4 ≤ n; omega) _ rfl

theorem inv (c : Dev nD) (n : ℕ) (h : 0 + n < cfg0.N) : Inv (A m c) n (Pipeline.accAt (fun n h => Value.stAt0 m c n h Value.junk0) (Value.stAt0 m c) 0 n h) :=
  Norm.sweep (Inv (A m c)) (Value.stAt0 m c) Value.junk0 (step m c) n h

/-- The kernel's four results at an index. -/
theorem result6 (c : Dev nD) (row : Fin 4096) (l : Fin 1024) : (Value.G6 m c (ix2 (n0 := 4096) (n1 := 1024) row l) : EReal) = (A m c).fdx row.val l := by
  have hr := row.isLt
  have hl := l.isLt
  have hN : cfg0.N = 16 := N_0
  have hp : Value.pt6Of (ix2 (n0 := 4096) (n1 := 1024) row l) = 4 * (row.val / 1024) + 3 := by
    show 4 * (1 * (row.val / 1024 - 0) + 1 * (l.val / 1024 - 0)) + 3 = _
    omega
  have hx : Value.loc6Of (ix2 (n0 := 4096) (n1 := 1024) row l) = ix2 (n0 := 1024) (n1 := 1024) ⟨row.val % 1024, Nat.mod_lt _ (by decide)⟩ l := by
    funext a
    apply Fin.ext
    match a with
    | ⟨0, _⟩ => rfl
    | ⟨1, _⟩ => show l.val % 1024 = l.val; omega
  unfold Value.G6
  rw [dif_pos (by omega), hx]
  refine ((inv m c _ _).dx (by omega) _ _).trans ?_
  exact congrArg (fun q => (A m c).fdx q l) (by show 1024 * (Value.pt6Of (ix2 (n0 := 4096) (n1 := 1024) row l) / 4) + row.val % 1024 = row.val; omega)

theorem result7 (c : Dev nD) (b : Fin 2) (l : Fin 1024) : (Value.G7 m c (ix3 (n0 := 2) (n1 := 1) (n2 := 1024) b 0 l) : EReal) = ∑ s : Fin 2048, (A m c).dh (2048 * b.val + s.val) l := by
  have hb := b.isLt
  have hl := l.isLt
  have hN : cfg0.N = 16 := N_0
  have hp : Value.pt7Of (ix3 (n0 := 2) (n1 := 1) (n2 := 1024) b 0 l) = 8 * b.val + 7 := by
    show 8 * (1 * (b.val / 1 - 0) + 1 * (0 / 1 - 0) + 1 * (l.val / 1024 - 0)) + 7 = _
    omega
  have hx : Value.loc7Of (ix3 (n0 := 2) (n1 := 1) (n2 := 1024) b 0 l) = ix3 (n0 := 1) (n1 := 1) (n2 := 1024) 0 0 l := by
    funext a
    apply Fin.ext
    match a with
    | ⟨0, _⟩ => show b.val % 1 = 0; omega
    | ⟨1, _⟩ => rfl
    | ⟨2, _⟩ => show l.val % 1024 = l.val; omega
  unfold Value.G7
  rw [dif_pos (by omega), hx]
  refine ((inv m c _ _).sh (by omega) _).trans ?_
  rw [show Value.pt7Of (ix3 (n0 := 2) (n1 := 1) (n2 := 1024) b 0 l) / 8 = b.val by omega,
    show (Value.pt7Of (ix3 (n0 := 2) (n1 := 1) (n2 := 1024) b 0 l) % 8 + 1) / 4 = 2 by omega]
  exact part_all 1024 2 _

theorem result8 (c : Dev nD) (b : Fin 2) (l : Fin 1024) : (Value.G8 m c (ix3 (n0 := 2) (n1 := 1) (n2 := 1024) b 0 l) : EReal) = ∑ s : Fin 2048, (A m c).fsc (2048 * b.val + s.val) l := by
  have hb := b.isLt
  have hl := l.isLt
  have hN : cfg0.N = 16 := N_0
  have hp : Value.pt8Of (ix3 (n0 := 2) (n1 := 1) (n2 := 1024) b 0 l) = 8 * b.val + 7 := by
    show 8 * (1 * (b.val / 1 - 0) + 1 * (0 / 1 - 0) + 1 * (l.val / 1024 - 0)) + 7 = _
    omega
  have hx : Value.loc8Of (ix3 (n0 := 2) (n1 := 1) (n2 := 1024) b 0 l) = ix3 (n0 := 1) (n1 := 1) (n2 := 1024) 0 0 l := by
    funext a
    apply Fin.ext
    match a with
    | ⟨0, _⟩ => show b.val % 1 = 0; omega
    | ⟨1, _⟩ => rfl
    | ⟨2, _⟩ => show l.val % 1024 = l.val; omega
  unfold Value.G8
  rw [dif_pos (by omega), hx]
  refine ((inv m c _ _).sc (by omega) _).trans ?_
  rw [show Value.pt8Of (ix3 (n0 := 2) (n1 := 1) (n2 := 1024) b 0 l) / 8 = b.val by omega,
    show (Value.pt8Of (ix3 (n0 := 2) (n1 := 1) (n2 := 1024) b 0 l) % 8 + 1) / 4 = 2 by omega]
  exact part_all 1024 2 _

theorem result9 (c : Dev nD) (l : Fin 1024) : (Value.G9 m c (ix2 (n0 := 1) (n1 := 1024) 0 l) : EReal) = ∑ q : Fin 4096, (A m c).fng q.val l := by
  have hl := l.isLt
  have hN : cfg0.N = 16 := N_0
  have hp : Value.pt9Of (ix2 (n0 := 1) (n1 := 1024) 0 l) = 15 := by
    show 16 * (1 * (0 / 1 - 0) + 1 * (l.val / 1024 - 0)) + 15 = _
    omega
  have hx : Value.loc9Of (ix2 (n0 := 1) (n1 := 1024) 0 l) = ix2 (n0 := 1) (n1 := 1024) 0 l := by
    funext a
    apply Fin.ext
    match a with
    | ⟨0, _⟩ => rfl
    | ⟨1, _⟩ => show l.val % 1024 = l.val; omega
  unfold Value.G9
  rw [dif_pos (by omega), hx]
  refine ((inv m c _ _).ng (by omega) _).trans ?_
  rw [show (Value.pt9Of (ix2 (n0 := 1) (n1 := 1024) 0 l) + 1) / 4 = 4 by omega]
  exact part_all 1024 4 _

section reference
open Cert.UpRefIdeal Cert.UpRefIdeal.Gen
/-- The reference's gradient that reaches the modulated norm. -/
def rh (d : FVec Ideal UpRefIdeal.S4x4096x2048 .bf16) (w : FVec Ideal UpRefIdeal.S4x1024x2048 .bf16) : FVec Ideal UpRefIdeal.S2x2048x1024 .f32 :=
  Host.dotGeneral dot_S2x2048x8192_S1024x8192_S2x2048x1024_2_1_01_0_n_n none (shapeCast _ (transpose S4096x4x2048 [1, 0, 2] (extf .f32 d bitsLt_bf16_f32) transposes_S4x4096x2048_S4096x4x2048_1_0_2) shapeCasts_S4096x4x2048_S2x2048x8192) (shapeCast _ (transpose S1024x4x2048 [1, 0, 2] (extf .f32 w bitsLt_bf16_f32) transposes_S4x1024x2048_S1024x4x2048_1_0_2) shapeCasts_S1024x4x2048_S1024x8192)
theorem rh_apply (d : FVec Ideal UpRefIdeal.S4x4096x2048 .bf16) (w : FVec Ideal UpRefIdeal.S4x1024x2048 .bf16) (b : Fin 2) (s : Fin 2048) (l : Fin 1024) :
    (rh d w (ix3 b s l) : EReal) = ∑ k : Fin 8192, (d (ix3 ⟨k.val / 2048, by omega⟩ ⟨b.val * 2048 + s.val, UpRef.row_lt b s⟩ ⟨k.val % 2048, by omega⟩) : EReal) * w (ix3 ⟨k.val / 2048, by omega⟩ l ⟨k.val % 2048, by omega⟩) := by
  pointwise [rh]

theorem grad_eq (m : (ℓ : Loc UpRefIdeal.nD UpRefIdeal.τ UpRefIdeal.sig) → Buf (Elt Ideal) ℓ) (c : Dev UpRefIdeal.nD) :
    UpRefIdeal.Value.res_main_v62 m c = UpRef.grad (rh (m ((c.tc : Thread UpRefIdeal.nD UpRefIdeal.τ).loc UpRefIdeal.main_arg0)) (m ((c.tc : Thread UpRefIdeal.nD UpRefIdeal.τ).loc UpRefIdeal.main_arg1)))
      (m ((c.tc : Thread UpRefIdeal.nD UpRefIdeal.τ).loc UpRefIdeal.main_arg2)) (m ((c.tc : Thread UpRefIdeal.nD UpRefIdeal.τ).loc UpRefIdeal.main_arg3)) (m ((c.tc : Thread UpRefIdeal.nD UpRefIdeal.τ).loc UpRefIdeal.main_arg4)) (m ((c.tc : Thread UpRefIdeal.nD UpRefIdeal.τ).loc UpRefIdeal.main_arg5)) := rfl
end reference

/-- The arguments as the reference takes them. -/
abbrev A0 (c : Dev nD) : FVec Ideal S4x4096x2048 .bf16 := m ((c : Thread nD τ).loc main_arg0)
abbrev A1 (c : Dev nD) : FVec Ideal S4x1024x2048 .bf16 := m ((c : Thread nD τ).loc main_arg1)
abbrev A2 (c : Dev nD) : FVec Ideal S4096x1024 .f32 := m ((c : Thread nD τ).loc main_arg2)
abbrev A3 (c : Dev nD) : FVec Ideal S4096x1024 .f32 := m ((c : Thread nD τ).loc main_arg3)
abbrev A4 (c : Dev nD) : FVec Ideal S2x1x3072 .f32 := m ((c : Thread nD τ).loc main_arg4)
abbrev A5 (c : Dev nD) : FVec Ideal S1x1024 .f32 := m ((c : Thread nD τ).loc main_arg5)

theorem isA (c : Dev nD) : UpRef.Is (A m c) (rh (A0 m c) (A1 m c)) (A2 m c) (A3 m c) (A4 m c) (A5 m c) where
  h b s l := by
    refine (rh_apply _ _ b s l).trans (Eq.trans (Finset.sum_congr rfl fun k _ => ?_) (part_all 2048 4 ((A m c).dt (b.val * 2048 + s.val) l)).symm)
    dsimp only [A]
    rw [Norm.ofNat_eq (show k.val / 2048 < 4 by omega), Norm.ofNat_eq (UpRef.row_lt b s)]
    rfl
  x row l := by
    dsimp only [A]
    rw [Norm.ofNat_eq row.isLt]
    rfl
  e row l := by
    dsimp only [A]
    rw [Norm.ofNat_eq row.isLt]
    rfl
  o b s l := by
    dsimp only [A]
    rw [show (b.val * 2048 + s.val) / 2048 = b.val by omega, Norm.ofNat_eq b.isLt]
    rfl
  g l := rfl

theorem tie6 (c : Dev nD) : UpRef.grad (rh (A0 m c) (A1 m c)) (A2 m c) (A3 m c) (A4 m c) (A5 m c) = Value.G6 m c :=
  ext2 _ _ fun row l => (UpRef.grad_eq (isA m c) l row).trans (result6 m c row l).symm

theorem tie7 (c : Dev nD) : UpRef.overSeq (rh (A0 m c) (A1 m c)) = Value.G7 m c :=
  ext3 _ _ fun b z l => by
    obtain rfl : z = 0 := Subsingleton.elim _ _
    exact (UpRef.shift_eq (isA m c) b l).trans (result7 m c b l).symm

theorem tie8 (c : Dev nD) : UpRef.overSeq (mulf (mulf (mulf (UpRef.rows (A2 m c)) (UpRef.inv (UpRef.var (UpRef.rows (A2 m c))))) (UpRef.gains (A5 m c))) (rh (A0 m c) (A1 m c))) = Value.G8 m c :=
  ext3 _ _ fun b z l => by
    obtain rfl : z = 0 := Subsingleton.elim _ _
    exact (UpRef.scale_eq (isA m c) b l).trans (result8 m c b l).symm

theorem tie9 (c : Dev nD) : UpRef.overAll (mulf (mulf (UpRef.rows (A2 m c)) (UpRef.inv (UpRef.var (UpRef.rows (A2 m c))))) (UpRef.scaled (rh (A0 m c) (A1 m c)) (A4 m c))) = Value.G9 m c :=
  ext2 _ _ fun z l => by
    obtain rfl : z = 0 := Subsingleton.elim _ _
    exact (UpRef.gain_eq (isA m c) l).trans (result9 m c l).symm

end Cert.Up
end
-- ==== Proof.UpA.lean ====
module
public import proofs.«01_k».proof.Proof.Sums
public import proofs.«01_k».proof.Proof.Gen.UpAIdeal.Value
import Idealize.ShloMosaic.Lib.Pipeline.ValueKit
import Idealize.ShloMosaic.Lib.Pipeline.ReadBack

/-! # The gradient of mixer A's input projection to its input: what the grid's points leave -/

@[expose] public section
set_option maxRecDepth 16384
set_option maxHeartbeats 200000
noncomputable section
namespace Cert.UpA
open Idealize.ShloMosaic Idealize.ShloMosaic.TcCoe Cert.Prod Cert.Sums Cert.UpAIdeal Cert.UpAIdeal.Gen

variable (m : (ℓ : Loc nD τ sig) → Buf (Elt Ideal) ℓ)

/-- A block's first point leaves its section's product, added to zero. -/
theorem stA (c : Dev nD) (t : Fin cfg0.N) (acc) (h0 : t.val % 4 = 0) (h1 : ¬t.val % 4 = 3) :
    (Value.stAt0 m c t.val t.isLt acc).2 = (acc.2.1, acc.2.2.1, acc.2.2.2.1, k0_pay2 k0_pay1 (iblk m c 0 t) (iblk m c 1 t)) := by
  rw [Value.stAt0_A m c t acc h0 h1]
  refine Prod.ext rfl (Prod.ext rfl (Prod.ext rfl ?_))
  dsimp only
  unfold sout0_A_0
  rw [View.read_writes_eq_canon _ _ _ (fun y => scover0_A_0 (y := y) ..)]
  unfold kernelRun0_A
  dsimp only
  sl_unfold_words
  rw [View.canon_cons_unit_zero (S := S1024x1024) hz2, View.readCov_unit_zero (S := S1024x1024) _ hz2]
  simp only [View.readAt_eq_ld, (hs0_0 t).read_unread, (hs0_1 t).read_unread, View.ld_unit_zero (S := S1024x1536) hz2, View.ld_unit_zero (S := S1x1024x1536) hz3]

/-- A later point adds its section's product to what the scratch holds. -/
theorem stB (c : Dev nD) (t : Fin cfg0.N) (acc) (h0 : ¬t.val % 4 = 0) (h1 : ¬t.val % 4 = 3) :
    (Value.stAt0 m c t.val t.isLt acc).2 = (acc.2.1, acc.2.2.1, acc.2.2.2.1, k0_pay2 acc.2.2.2.2 (iblk m c 0 t) (iblk m c 1 t)) := by
  rw [Value.stAt0_B m c t acc h0 h1]
  refine Prod.ext rfl (Prod.ext rfl (Prod.ext rfl ?_))
  dsimp only
  unfold sout0_B_0
  rw [View.read_writes_eq_canon _ _ _ (fun y => scover0_B_0 (y := y) ..)]
  unfold kernelRun0_B
  dsimp only
  sl_unfold_words
  rw [View.canon_unit_zero hz2]
  simp only [View.readAt_eq_ld, (hs0_0 t).read_unread, (hs0_1 t).read_unread, (Memref.isWhole_whole _).read_unread, View.ld_unit_zero (S := S1024x1536) hz2, View.ld_unit_zero (S := S1x1024x1536) hz3, View.ld_unit_zero (S := S1024x1024) hz2]

/-- The first block's last point: the gradient's block, and its partial sums. -/
theorem stC (c : Dev nD) (t : Fin cfg0.N) (acc) (h0 : ¬t.val % 4 = 0) (h1 : t.val % 4 = 3) (h2 : (t.val % 8 = 0 ∨ t.val % 8 = 1 ∨ t.val % 8 = 2 ∨ t.val % 8 = 3))
    (h3 : ¬(t.val % 8 = 4 ∨ t.val % 8 = 5 ∨ t.val % 8 = 6 ∨ t.val % 8 = 7)) (h4 : t.val < 4) (h5 : ¬4 ≤ t.val)
    (dh : Vec Ideal S1024x1024 .f32) (e : k0_pay2 (F := Ideal) acc.2.2.2.2 (iblk m c 0 t) (iblk m c 1 t) = dh) :
    Value.stAt0 m c t.val t.isLt acc = (k0_pay11 (F := Ideal) (k0_pay10 dh (iblk m c 2 t) (iblk m c 4 t) (iblk m c 5 t)) (iblk m c 3 t),
      k0_pay12 (F := Ideal) (k0_pay6 dh), k0_pay13 (F := Ideal) (k0_pay7 dh (iblk m c 2 t) (iblk m c 5 t)),
      k0_pay9 (F := Ideal) dh (iblk m c 2 t) (iblk m c 4 t), dh) := by
  subst e
  rw [Value.stAt0_C m c t acc h0 h1 h2 h3 h4 h5]
  refine Prod.ext ?_ (Prod.ext ?_ (Prod.ext ?_ (Prod.ext ?_ ?_))) <;> dsimp only
  all_goals first
    | (unfold out0_C_6; rw [View.read_writes_eq_canon _ _ _ (fun y => cover0_C_6 (y := y) ..)])
    | (unfold out0_C_7; rw [View.read_writes_eq_canon _ _ _ (fun y => cover0_C_7 (y := y) ..)])
    | (unfold out0_C_8; rw [View.read_writes_eq_canon _ _ _ (fun y => cover0_C_8 (y := y) ..)])
    | (unfold out0_C_9; rw [View.read_writes_eq_canon _ _ _ (fun y => cover0_C_9 (y := y) ..)])
    | (unfold sout0_C_0; rw [View.read_writes_eq_canon _ _ _ (fun y => scover0_C_0 (y := y) ..)])
  all_goals
    unfold kernelRun0_C
    dsimp only
    sl_unfold_words
    first | rw [View.canon_unit_zero hz2] | rw [View.canon_unit_zero hz3]
    simp only [View.readCov_unit_zero (S := S1024x1024) _ hz2, View.readAt_eq_ld, (hs0_0 t).read_unread, (hs0_1 t).read_unread, (hs0_2 t).read_unread,
      (hs0_3 t).read_unread, (hs0_4 t).read_unread, (hs0_5 t).read_unread, (hs0_7 t).read_unread, (hs0_8 t).read_unread, (hs0_9 t).read_unread,
      (Memref.isWhole_whole _).read_unread, View.ld_unit_zero (S := S1024x1536) hz2, View.ld_unit_zero (S := S1x1024x1536) hz3, View.ld_unit_zero (S := S1024x1024) hz2,
      View.ld_unit_zero (S := S1x1024) hz2, View.ld_unit_zero (S := S1x1x3072) hz3, View.ld_unit_zero (S := S1x1x1024) hz3]

/-- A later block of the same batch entry adds its partial sums to each of the three. -/
theorem stD (c : Dev nD) (t : Fin cfg0.N) (acc) (h0 : ¬t.val % 4 = 0) (h1 : t.val % 4 = 3) (h2 : ¬(t.val % 8 = 0 ∨ t.val % 8 = 1 ∨ t.val % 8 = 2 ∨ t.val % 8 = 3))
    (h3 : (t.val % 8 = 4 ∨ t.val % 8 = 5 ∨ t.val % 8 = 6 ∨ t.val % 8 = 7)) (h4 : ¬t.val < 4) (h5 : 4 ≤ t.val)
    (dh : Vec Ideal S1024x1024 .f32) (e : k0_pay2 (F := Ideal) acc.2.2.2.2 (iblk m c 0 t) (iblk m c 1 t) = dh) :
    Value.stAt0 m c t.val t.isLt acc = (k0_pay11 (F := Ideal) (k0_pay10 dh (iblk m c 2 t) (iblk m c 4 t) (iblk m c 5 t)) (iblk m c 3 t),
      k0_pay14 (F := Ideal) (k0_pay6 dh) acc.2.1, k0_pay15 (F := Ideal) (k0_pay7 dh (iblk m c 2 t) (iblk m c 5 t)) acc.2.2.1,
      k0_pay3 (F := Ideal) (k0_pay9 (F := Ideal) dh (iblk m c 2 t) (iblk m c 4 t)) acc.2.2.2.1, dh) := by
  subst e
  rw [Value.stAt0_D m c t acc h0 h1 h2 h3 h4 h5]
  refine Prod.ext ?_ (Prod.ext ?_ (Prod.ext ?_ (Prod.ext ?_ ?_))) <;> dsimp only
  all_goals first
    | (unfold out0_D_6; rw [View.read_writes_eq_canon _ _ _ (fun y => cover0_D_6 (y := y) ..)])
    | (unfold out0_D_7; rw [View.read_writes_eq_canon _ _ _ (fun y => cover0_D_7 (y := y) ..)])
    | (unfold out0_D_8; rw [View.read_writes_eq_canon _ _ _ (fun y => cover0_D_8 (y := y) ..)])
    | (unfold out0_D_9; rw [View.read_writes_eq_canon _ _ _ (fun y => cover0_D_9 (y := y) ..)])
    | (unfold sout0_D_0; rw [View.read_writes_eq_canon _ _ _ (fun y => scover0_D_0 (y := y) ..)])
  all_goals
    unfold kernelRun0_D
    dsimp only
    sl_unfold_words
    first | rw [View.canon_unit_zero hz2] | rw [View.canon_unit_zero hz3]
    simp only [View.readCov_unit_zero (S := S1024x1024) _ hz2, View.readAt_eq_ld, (hs0_0 t).read_unread, (hs0_1 t).read_unread, (hs0_2 t).read_unread,
      (hs0_3 t).read_unread, (hs0_4 t).read_unread, (hs0_5 t).read_unread, (hs0_7 t).read_unread, (hs0_8 t).read_unread, (hs0_9 t).read_unread,
      (Memref.isWhole_whole _).read_unread, View.ld_unit_zero (S := S1024x1536) hz2, View.ld_unit_zero (S := S1x1024x1536) hz3, View.ld_unit_zero (S := S1024x1024) hz2,
      View.ld_unit_zero (S := S1x1024) hz2, View.ld_unit_zero (S := S1x1x3072) hz3, View.ld_unit_zero (S := S1x1x1024) hz3]

/-- A batch entry's first block starts two of the sums anew and adds to the third. -/
theorem stE (c : Dev nD) (t : Fin cfg0.N) (acc) (h0 : ¬t.val % 4 = 0) (h1 : t.val % 4 = 3) (h2 : (t.val % 8 = 0 ∨ t.val % 8 = 1 ∨ t.val % 8 = 2 ∨ t.val % 8 = 3))
    (h3 : ¬(t.val % 8 = 4 ∨ t.val % 8 = 5 ∨ t.val % 8 = 6 ∨ t.val % 8 = 7)) (h4 : ¬t.val < 4) (h5 : 4 ≤ t.val)
    (dh : Vec Ideal S1024x1024 .f32) (e : k0_pay2 (F := Ideal) acc.2.2.2.2 (iblk m c 0 t) (iblk m c 1 t) = dh) :
    Value.stAt0 m c t.val t.isLt acc = (k0_pay11 (F := Ideal) (k0_pay10 dh (iblk m c 2 t) (iblk m c 4 t) (iblk m c 5 t)) (iblk m c 3 t),
      k0_pay12 (F := Ideal) (k0_pay6 dh), k0_pay13 (F := Ideal) (k0_pay7 dh (iblk m c 2 t) (iblk m c 5 t)),
      k0_pay3 (F := Ideal) (k0_pay9 (F := Ideal) dh (iblk m c 2 t) (iblk m c 4 t)) acc.2.2.2.1, dh) := by
  subst e
  rw [Value.stAt0_E m c t acc h0 h1 h2 h3 h4 h5]
  refine Prod.ext ?_ (Prod.ext ?_ (Prod.ext ?_ (Prod.ext ?_ ?_))) <;> dsimp only
  all_goals first
    | (unfold out0_E_6; rw [View.read_writes_eq_canon _ _ _ (fun y => cover0_E_6 (y := y) ..)])
    | (unfold out0_E_7; rw [View.read_writes_eq_canon _ _ _ (fun y => cover0_E_7 (y := y) ..)])
    | (unfold out0_E_8; rw [View.read_writes_eq_canon _ _ _ (fun y => cover0_E_8 (y := y) ..)])
    | (unfold out0_E_9; rw [View.read_writes_eq_canon _ _ _ (fun y => cover0_E_9 (y := y) ..)])
    | (unfold sout0_E_0; rw [View.read_writes_eq_canon _ _ _ (fun y => scover0_E_0 (y := y) ..)])
  all_goals
    unfold kernelRun0_E
    dsimp only
    sl_unfold_words
    first | rw [View.canon_unit_zero hz2] | rw [View.canon_unit_zero hz3]
    simp only [View.readCov_unit_zero (S := S1024x1024) _ hz2, View.readAt_eq_ld, (hs0_0 t).read_unread, (hs0_1 t).read_unread, (hs0_2 t).read_unread,
      (hs0_3 t).read_unread, (hs0_4 t).read_unread, (hs0_5 t).read_unread, (hs0_7 t).read_unread, (hs0_8 t).read_unread, (hs0_9 t).read_unread,
      (Memref.isWhole_whole _).read_unread, View.ld_unit_zero (S := S1024x1536) hz2, View.ld_unit_zero (S := S1x1024x1536) hz3, View.ld_unit_zero (S := S1024x1024) hz2,
      View.ld_unit_zero (S := S1x1024) hz2, View.ld_unit_zero (S := S1x1x3072) hz3, View.ld_unit_zero (S := S1x1x1024) hz3]
end Cert.UpA
end
-- ==== Proof.UpATie.lean ====
module
public import proofs.«01_k».proof.Proof.UpA
public import proofs.«01_k».proof.Proof.UpRef
public import proofs.«01_k».proof.Proof.Gen.UpARefIdeal.Run
import Idealize.ShloMosaic.Lib.Pipeline.ValueKit
import Idealize.ShloMosaic.Lib.Pipeline.ReadBack

/-! # The gradient of mixer A's input projection to its input: the kernel's results are the reference's -/

@[expose] public section
set_option maxRecDepth 16384
set_option maxHeartbeats 400000
noncomputable section
namespace Cert.UpA
open Idealize.ShloMosaic Idealize.ShloMosaic.TcCoe Cert.Prod Cert.Sums Cert.UpAIdeal Cert.UpAIdeal.Gen

variable (m : (ℓ : Loc nD τ sig) → Buf (Elt Ideal) ℓ)

theorem pay1 (r l : Fin 1024) : (k0_pay1 (F := Ideal) (ix2 r l) : EReal) = 0 := by
  pointwise [k0_pay1]

theorem pay2 (x0 : Vec Ideal S1024x1536 .bf16) (x1 : Vec Ideal S1x1024x1536 .bf16) (xs : Vec Ideal S1024x1024 .f32) (r l : Fin 1024) :
    (k0_pay2 (F := Ideal) xs x0 x1 (ix2 r l) : EReal) = xs (ix2 r l) + ∑ s : Fin 1536, (x0 (ix2 r s) : EReal) * x1 (ix3 0 l s) := by
  pointwise [k0_pay2]

theorem hi0 : ∀ t : Fin cfg0.N, win0_0.index t (0 : Fin 2) = t.val / 4 ∧ win0_0.index t (1 : Fin 2) = t.val % 4 := (by decide +kernel : ∀ t : Fin grid0.N, _)
theorem hi1 : ∀ t : Fin cfg0.N, win0_1.index t (0 : Fin 3) = t.val % 4 ∧ win0_1.index t (1 : Fin 3) = 0 ∧ win0_1.index t (2 : Fin 3) = 0 := (by decide +kernel : ∀ t : Fin grid0.N, _)
theorem hi2 : ∀ t : Fin cfg0.N, win0_2.index t (0 : Fin 2) = t.val / 4 ∧ win0_2.index t (1 : Fin 2) = 0 := (by decide +kernel : ∀ t : Fin grid0.N, _)
theorem hi3 : ∀ t : Fin cfg0.N, win0_3.index t (0 : Fin 2) = t.val / 4 ∧ win0_3.index t (1 : Fin 2) = 0 := (by decide +kernel : ∀ t : Fin grid0.N, _)
theorem hi4 : ∀ t : Fin cfg0.N, win0_4.index t (0 : Fin 3) = t.val / 8 ∧ win0_4.index t (1 : Fin 3) = 0 ∧ win0_4.index t (2 : Fin 3) = 0 := (by decide +kernel : ∀ t : Fin grid0.N, _)
theorem hi5 : ∀ t : Fin cfg0.N, win0_5.index t (0 : Fin 2) = 0 ∧ win0_5.index t (1 : Fin 2) = 0 := (by decide +kernel : ∀ t : Fin grid0.N, _)

theorem t_lt (t : Fin cfg0.N) : t.val < 16 := lt_of_lt_of_eq t.isLt N_0

/-- The arguments' entries, by numbers below the extents. -/
def D (c : Dev nD) (row : Fin 4096) (k : Fin 6144) : EReal := m ((c : Thread nD τ).loc main_arg0) (ix2 (n0 := 4096) (n1 := 6144) row k)
def W (c : Dev nD) (j : Fin 4) (l : Fin 1024) (k : Fin 1536) : EReal := m ((c : Thread nD τ).loc main_arg1) (ix3 (n0 := 4) (n1 := 1024) (n2 := 1536) j l k)
def X (c : Dev nD) (row : Fin 4096) (l : Fin 1024) : EReal := m ((c : Thread nD τ).loc main_arg2) (ix2 (n0 := 4096) (n1 := 1024) row l)
def O (c : Dev nD) (row : Fin 4096) (l : Fin 1024) : EReal := m ((c : Thread nD τ).loc main_arg3) (ix2 (n0 := 4096) (n1 := 1024) row l)
def M (c : Dev nD) (b : Fin 2) (l : Fin 3072) : EReal := m ((c : Thread nD τ).loc main_arg4) (ix3 (n0 := 2) (n1 := 1) (n2 := 3072) b 0 l)
def Gn (c : Dev nD) (l : Fin 1024) : EReal := m ((c : Thread nD τ).loc main_arg5) (ix2 (n0 := 1) (n1 := 1024) 0 l)

theorem row_lt (t : Fin cfg0.N) (r : Fin 1024) : 1024 * (t.val / 4) + r.val < 4096 := by have := t_lt t; omega
theorem b_lt (t : Fin cfg0.N) : t.val / 8 < 2 := by have := t_lt t; omega
theorem sec_lt (n : ℕ) : n % 4 < 4 := Nat.mod_lt _ (by decide)

theorem col_lt (n : ℕ) (s : Fin 1536) : 1536 * (n % 4) + s.val < 6144 := by omega
theorem rd0 (c : Dev nD) (t : Fin cfg0.N) (r : Fin 1024) (s : Fin 1536) :
    iblk m c 0 t (ix2 (n0 := 1024) (n1 := 1536) r s) = D m c ⟨1024 * (t.val / 4) + r.val, row_lt t r⟩ ⟨1536 * (t.val % 4) + s.val, col_lt t.val s⟩ := by
  blk_ext [D, iblk, V_main_arg0, hi0 t]
theorem rd1 (c : Dev nD) (t : Fin cfg0.N) (r : Fin 1024) (s : Fin 1536) :
    iblk m c 1 t (ix3 (n0 := 1) (n1 := 1024) (n2 := 1536) 0 r s) = W m c ⟨t.val % 4, sec_lt _⟩ r s := by
  blk_ext [W, iblk, V_main_arg1, hi1 t]
theorem rd2 (c : Dev nD) (t : Fin cfg0.N) (r l : Fin 1024) :
    iblk m c 2 t (ix2 (n0 := 1024) (n1 := 1024) r l) = X m c ⟨1024 * (t.val / 4) + r.val, row_lt t r⟩ l := by
  blk_ext [X, iblk, V_main_arg2, hi2 t]
theorem rd3 (c : Dev nD) (t : Fin cfg0.N) (r l : Fin 1024) :
    iblk m c 3 t (ix2 (n0 := 1024) (n1 := 1024) r l) = O m c ⟨1024 * (t.val / 4) + r.val, row_lt t r⟩ l := by
  blk_ext [O, iblk, V_main_arg3, hi3 t]
theorem rd4 (c : Dev nD) (t : Fin cfg0.N) (l : Fin 3072) :
    iblk m c 4 t (ix3 (n0 := 1) (n1 := 1) (n2 := 3072) 0 0 l) = M m c ⟨t.val / 8, b_lt t⟩ l := by
  blk_ext [M, iblk, V_main_arg4, hi4 t]
theorem rd5 (c : Dev nD) (t : Fin cfg0.N) (l : Fin 1024) :
    iblk m c 5 t (ix2 (n0 := 1) (n1 := 1024) 0 l) = Gn m c l := by
  blk_ext [Gn, iblk, V_main_arg5, hi5 t]

/-- The call's numbers. -/
def A (c : Dev nD) : Data where
  w := 1536
  dt row l k := D m c (Fin.ofNat 4096 row) (Fin.ofNat 6144 k) * W m c (Fin.ofNat 4 (k / 1536)) l (Fin.ofNat 1536 k)
  x row l := X m c (Fin.ofNat 4096 row) l
  ox row l := O m c (Fin.ofNat 4096 row) l
  fac row l := 1 + M m c (Fin.ofNat 2 (row / 2048)) ⟨1024 + l.val, by omega⟩
  g l := Gn m c l

theorem step_sum (c : Dev nD) (t : Fin cfg0.N) (xs : Vec Ideal S1024x1024 .f32) (r l : Fin 1024) :
    (k0_pay2 (F := Ideal) xs (iblk m c 0 t) (iblk m c 1 t) (ix2 r l) : EReal)
      = xs (ix2 r l) + ∑ s : Fin 1536, (A m c).dt (1024 * (t.val / 4) + r.val) l (1536 * (t.val % 4) + s.val) := by
  rw [pay2]
  refine congrArg _ (Finset.sum_congr rfl fun s _ => ?_)
  have e : (1536 * (t.val % 4) + s.val) / 1536 = t.val % 4 := by omega
  have es : Fin.ofNat 1536 (1536 * (t.val % 4) + s.val) = s := Fin.ext (by show _ % 1536 = _; omega)
  dsimp only [A]
  rw [e, es, Norm.ofNat_eq (sec_lt t.val), Norm.ofNat_eq (row_lt t r), Norm.ofNat_eq (col_lt t.val s)]
  exact congrArg₂ (fun a b : EReal => a * b) (rd0 m c t r s) (rd1 m c t l s)

theorem blk (c : Dev nD) (t : Fin cfg0.N) : Blk (A m c) t.val (iblk m c 2 t) (iblk m c 3 t) (iblk m c 4 t) (iblk m c 5 t) where
  x r l := (rd2 m c t r l).trans (by dsimp only [A]; rw [Norm.ofNat_eq (row_lt t r)])
  o r l := (rd3 m c t r l).trans (by dsimp only [A]; rw [Norm.ofNat_eq (row_lt t r)])
  m r l := (congrArg (fun a : EReal => 1 + a) (rd4 m c t ⟨1024 + l.val, by omega⟩)).trans (by
    have hr := r.isLt
    dsimp only [A]
    rw [show (1024 * (t.val / 4) + r.val) / 2048 = t.val / 8 by omega, Norm.ofNat_eq (b_lt t)])
  g l := rd5 m c t l

/-- The point's new scratch. -/
def scr (c : Dev nD) (t : Fin cfg0.N) (T : St) : Vec Ideal S1024x1024 .f32 :=
  k0_pay2 (F := Ideal) (if t.val % 4 = 0 then k0_pay1 (F := Ideal) else T.2.2.2.2) (iblk m c 0 t) (iblk m c 1 t)

theorem step (c : Dev nD) (n : ℕ) (hn : n < cfg0.N) (T : St) (h : n ≠ 0 → Inv (A m c) (n - 1) T) : Inv (A m c) n (Value.stAt0 m c n hn T) := by
  have h16 : n < 16 := t_lt ⟨n, hn⟩
  refine Sums.step (A m c) n h16 T _ h (blk m c ⟨n, hn⟩) (scr m c ⟨n, hn⟩ T) (fun z r l => ?_) (fun z r l => ?_) (fun k => ?_) (fun k k4 => ?_) (fun k k4 k8 => ?_) (fun k k4 k8 => ?_)
  · rw [scr, if_pos z]
    exact (step_sum m c ⟨n, hn⟩ _ r l).trans (by rw [pay1, zero_add]; rfl)
  · rw [scr, if_neg z]
    exact step_sum m c ⟨n, hn⟩ _ r l
  · by_cases z : n % 4 = 0
    · rw [scr, if_pos z]
      exact stA m c ⟨n, hn⟩ T z k
    · rw [scr, if_neg z]
      exact stB m c ⟨n, hn⟩ T z k
  all_goals rw [scr, if_neg (by show ¬n % 4 = 0; omega)]
  · exact stC m c ⟨n, hn⟩ T (by show ¬n % 4 = 0; omega) k (.inr (.inr (.inr (by show n % 8 = 3; omega)))) (by show ¬(n % 8 = 4 ∨ n % 8 = 5 ∨ n % 8 = 6 ∨ n % 8 = 7); omega) k4 (by show ¬4 ≤ n; omega) _ rfl
  · exact stD m c ⟨n, hn⟩ T (by show ¬n % 4 = 0; omega) k (by show ¬(n % 8 = 0 ∨ n % 8 = 1 ∨ n % 8 = 2 ∨ n % 8 = 3); omega) (by show n % 8 = 4 ∨ n % 8 = 5 ∨ n % 8 = 6 ∨ n % 8 = 7; omega) k4 (by show 4 ≤ n; omega) _ rfl
  · exact stE m c ⟨n, hn⟩ T (by show ¬n % 4 = 0; omega) k (.inr (.inr (.inr k8))) (by show ¬(n % 8 = 4 ∨ n % 8 = 5 ∨ n % 8 = 6 ∨ n % 8 = 7); omega) k4 (by show 4 ≤ n; omega) _ rfl

theorem inv (c : Dev nD) (n : ℕ) (h : 0 + n < cfg0.N) : Inv (A m c) n (Pipeline.accAt (fun n h => Value.stAt0 m c n h Value.junk0) (Value.stAt0 m c) 0 n h) :=
  Norm.sweep (Inv (A m c)) (Value.stAt0 m c) Value.junk0 (step m c) n h

/-- The kernel's four results at an index. -/
theorem result6 (c : Dev nD) (row : Fin 4096) (l : Fin 1024) : (Value.G6 m c (ix2 (n0 := 4096) (n1 := 1024) row l) : EReal) = (A m c).fdx row.val l := by
  have hr := row.isLt
  have hl := l.isLt
  have hN : cfg0.N = 16 := N_0
  have hp : Value.pt6Of (ix2 (n0 := 4096) (n1 := 1024) row l) = 4 * (row.val / 1024) + 3 := by
    show 4 * (1 * (row.val / 1024 - 0) + 1 * (l.val / 1024 - 0)) + 3 = _
    omega
  have hx : Value.loc6Of (ix2 (n0 := 4096) (n1 := 1024) row l) = ix2 (n0 := 1024) (n1 := 1024) ⟨row.val % 1024, Nat.mod_lt _ (by decide)⟩ l := by
    funext a
    apply Fin.ext
    match a with
    | ⟨0, _⟩ => rfl
    | ⟨1, _⟩ => show l.val % 1024 = l.val; omega
  unfold Value.G6
  rw [dif_pos (by omega), hx]
  refine ((inv m c _ _).dx (by omega) _ _).trans ?_
  exact congrArg (fun q => (A m c).fdx q l) (by show 1024 * (Value.pt6Of (ix2 (n0 := 4096) (n1 := 1024) row l) / 4) + row.val % 1024 = row.val; omega)

theorem result7 (c : Dev nD) (b : Fin 2) (l : Fin 1024) : (Value.G7 m c (ix3 (n0 := 2) (n1 := 1) (n2 := 1024) b 0 l) : EReal) = ∑ s : Fin 2048, (A m c).dh (2048 * b.val + s.val) l := by
  have hb := b.isLt
  have hl := l.isLt
  have hN : cfg0.N = 16 := N_0
  have hp : Value.pt7Of (ix3 (n0 := 2) (n1 := 1) (n2 := 1024) b 0 l) = 8 * b.val + 7 := by
    show 8 * (1 * (b.val / 1 - 0) + 1 * (0 / 1 - 0) + 1 * (l.val / 1024 - 0)) + 7 = _
    omega
  have hx : Value.loc7Of (ix3 (n0 := 2) (n1 := 1) (n2 := 1024) b 0 l) = ix3 (n0 := 1) (n1 := 1) (n2 := 1024) 0 0 l := by
    funext a
    apply Fin.ext
    match a with
    | ⟨0, _⟩ => show b.val % 1 = 0; omega
    | ⟨1, _⟩ => rfl
    | ⟨2, _⟩ => show l.val % 1024 = l.val; omega
  unfold Value.G7
  rw [dif_pos (by omega), hx]
  refine ((inv m c _ _).sh (by omega) _).trans ?_
  rw [show Value.pt7Of (ix3 (n0 := 2) (n1 := 1) (n2 := 1024) b 0 l) / 8 = b.val by omega,
    show (Value.pt7Of (ix3 (n0 := 2) (n1 := 1) (n2 := 1024) b 0 l) % 8 + 1) / 4 = 2 by omega]
  exact part_all 1024 2 _

theorem result8 (c : Dev nD) (b : Fin 2) (l : Fin 1024) : (Value.G8 m c (ix3 (n0 := 2) (n1 := 1) (n2 := 1024) b 0 l) : EReal) = ∑ s : Fin 2048, (A m c).fsc (2048 * b.val + s.val) l := by
  have hb := b.isLt
  have hl := l.isLt
  have hN : cfg0.N = 16 := N_0
  have hp : Value.pt8Of (ix3 (n0 := 2) (n1 := 1) (n2 := 1024) b 0 l) = 8 * b.val + 7 := by
    show 8 * (1 * (b.val / 1 - 0) + 1 * (0 / 1 - 0) + 1 * (l.val / 1024 - 0)) + 7 = _
    omega
  have hx : Value.loc8Of (ix3 (n0 := 2) (n1 := 1) (n2 := 1024) b 0 l) = ix3 (n0 := 1) (n1 := 1) (n2 := 1024) 0 0 l := by
    funext a
    apply Fin.ext
    match a with
    | ⟨0, _⟩ => show b.val % 1 = 0; omega
    | ⟨1, _⟩ => rfl
    | ⟨2, _⟩ => show l.val % 1024 = l.val; omega
  unfold Value.G8
  rw [dif_pos (by omega), hx]
  refine ((inv m c _ _).sc (by omega) _).trans ?_
  rw [show Value.pt8Of (ix3 (n0 := 2) (n1 := 1) (n2 := 1024) b 0 l) / 8 = b.val by omega,
    show (Value.pt8Of (ix3 (n0 := 2) (n1 := 1) (n2 := 1024) b 0 l) % 8 + 1) / 4 = 2 by omega]
  exact part_all 1024 2 _

theorem result9 (c : Dev nD) (l : Fin 1024) : (Value.G9 m c (ix2 (n0 := 1) (n1 := 1024) 0 l) : EReal) = ∑ q : Fin 4096, (A m c).fng q.val l := by
  have hl := l.isLt
  have hN : cfg0.N = 16 := N_0
  have hp : Value.pt9Of (ix2 (n0 := 1) (n1 := 1024) 0 l) = 15 := by
    show 16 * (1 * (0 / 1 - 0) + 1 * (l.val / 1024 - 0)) + 15 = _
    omega
  have hx : Value.loc9Of (ix2 (n0 := 1) (n1 := 1024) 0 l) = ix2 (n0 := 1) (n1 := 1024) 0 l := by
    funext a
    apply Fin.ext
    match a with
    | ⟨0, _⟩ => rfl
    | ⟨1, _⟩ => show l.val % 1024 = l.val; omega
  unfold Value.G9
  rw [dif_pos (by omega), hx]
  refine ((inv m c _ _).ng (by omega) _).trans ?_
  rw [show (Value.pt9Of (ix2 (n0 := 1) (n1 := 1024) 0 l) + 1) / 4 = 4 by omega]
  exact part_all 1024 4 _

section reference
open Cert.UpARefIdeal Cert.UpARefIdeal.Gen
/-- The reference's gradient that reaches the modulated norm. -/
def rh (d : FVec Ideal UpARefIdeal.S4096x6144 .bf16) (w : FVec Ideal UpARefIdeal.S4x1024x1536 .bf16) : FVec Ideal UpARefIdeal.S2x2048x1024 .f32 :=
  Host.dotGeneral dot_S2x2048x6144_S1024x6144_S2x2048x1024_2_1_01_0_n_n none (shapeCast _ (extf .f32 d bitsLt_bf16_f32) shapeCasts_S4096x6144_S2x2048x6144) (shapeCast _ (transpose S1024x4x1536 [1, 0, 2] (extf .f32 w bitsLt_bf16_f32) transposes_S4x1024x1536_S1024x4x1536_1_0_2) shapeCasts_S1024x4x1536_S1024x6144)
theorem rh_apply (d : FVec Ideal UpARefIdeal.S4096x6144 .bf16) (w : FVec Ideal UpARefIdeal.S4x1024x1536 .bf16) (b : Fin 2) (s : Fin 2048) (l : Fin 1024) :
    (rh d w (ix3 b s l) : EReal) = ∑ k : Fin 6144, (d (ix2 ⟨b.val * 2048 + s.val, UpRef.row_lt b s⟩ k) : EReal) * w (ix3 ⟨k.val / 1536, by omega⟩ l ⟨k.val % 1536, by omega⟩) := by
  pointwise [rh]

theorem grad_eq (m : (ℓ : Loc UpARefIdeal.nD UpARefIdeal.τ UpARefIdeal.sig) → Buf (Elt Ideal) ℓ) (c : Dev UpARefIdeal.nD) :
    UpARefIdeal.Value.res_main_v61 m c = UpRef.grad (rh (m ((c.tc : Thread UpARefIdeal.nD UpARefIdeal.τ).loc UpARefIdeal.main_arg0)) (m ((c.tc : Thread UpARefIdeal.nD UpARefIdeal.τ).loc UpARefIdeal.main_arg1)))
      (m ((c.tc : Thread UpARefIdeal.nD UpARefIdeal.τ).loc UpARefIdeal.main_arg2)) (m ((c.tc : Thread UpARefIdeal.nD UpARefIdeal.τ).loc UpARefIdeal.main_arg3)) (m ((c.tc : Thread UpARefIdeal.nD UpARefIdeal.τ).loc UpARefIdeal.main_arg4)) (m ((c.tc : Thread UpARefIdeal.nD UpARefIdeal.τ).loc UpARefIdeal.main_arg5)) := rfl
end reference

/-- The arguments as the reference takes them. -/
abbrev A0 (c : Dev nD) : FVec Ideal S4096x6144 .bf16 := m ((c : Thread nD τ).loc main_arg0)
abbrev A1 (c : Dev nD) : FVec Ideal S4x1024x1536 .bf16 := m ((c : Thread nD τ).loc main_arg1)
abbrev A2 (c : Dev nD) : FVec Ideal S4096x1024 .f32 := m ((c : Thread nD τ).loc main_arg2)
abbrev A3 (c : Dev nD) : FVec Ideal S4096x1024 .f32 := m ((c : Thread nD τ).loc main_arg3)
abbrev A4 (c : Dev nD) : FVec Ideal S2x1x3072 .f32 := m ((c : Thread nD τ).loc main_arg4)
abbrev A5 (c : Dev nD) : FVec Ideal S1x1024 .f32 := m ((c : Thread nD τ).loc main_arg5)

theorem isA (c : Dev nD) : UpRef.Is (A m c) (rh (A0 m c) (A1 m c)) (A2 m c) (A3 m c) (A4 m c) (A5 m c) where
  h b s l := by
    refine (rh_apply _ _ b s l).trans (Eq.trans (Finset.sum_congr rfl fun k _ => ?_) (part_all 1536 4 ((A m c).dt (b.val * 2048 + s.val) l)).symm)
    dsimp only [A]
    rw [Norm.ofNat_eq (show k.val / 1536 < 4 by omega), Norm.ofNat_eq (UpRef.row_lt b s), Norm.ofNat_eq k.isLt]
    rfl
  x row l := by
    dsimp only [A]
    rw [Norm.ofNat_eq row.isLt]
    rfl
  e row l := by
    dsimp only [A]
    rw [Norm.ofNat_eq row.isLt]
    rfl
  o b s l := by
    dsimp only [A]
    rw [show (b.val * 2048 + s.val) / 2048 = b.val by omega, Norm.ofNat_eq b.isLt]
    rfl
  g l := rfl

theorem tie6 (c : Dev nD) : UpRef.grad (rh (A0 m c) (A1 m c)) (A2 m c) (A3 m c) (A4 m c) (A5 m c) = Value.G6 m c :=
  ext2 _ _ fun row l => (UpRef.grad_eq (isA m c) l row).trans (result6 m c row l).symm

theorem tie7 (c : Dev nD) : UpRef.overSeq (rh (A0 m c) (A1 m c)) = Value.G7 m c :=
  ext3 _ _ fun b z l => by
    obtain rfl : z = 0 := Subsingleton.elim _ _
    exact (UpRef.shift_eq (isA m c) b l).trans (result7 m c b l).symm

theorem tie8 (c : Dev nD) : UpRef.overSeq (mulf (mulf (mulf (UpRef.rows (A2 m c)) (UpRef.inv (UpRef.var (UpRef.rows (A2 m c))))) (UpRef.gains (A5 m c))) (rh (A0 m c) (A1 m c))) = Value.G8 m c :=
  ext3 _ _ fun b z l => by
    obtain rfl : z = 0 := Subsingleton.elim _ _
    exact (UpRef.scale_eq (isA m c) b l).trans (result8 m c b l).symm

theorem tie9 (c : Dev nD) : UpRef.overAll (mulf (mulf (UpRef.rows (A2 m c)) (UpRef.inv (UpRef.var (UpRef.rows (A2 m c))))) (UpRef.scaled (rh (A0 m c) (A1 m c)) (A4 m c))) = Value.G9 m c :=
  ext2 _ _ fun z l => by
    obtain rfl : z = 0 := Subsingleton.elim _ _
    exact (UpRef.gain_eq (isA m c) l).trans (result9 m c l).symm

end Cert.UpA
end
-- ==== Proof.ProjFrame.lean ====
module
public import proofs.«01_k».proof.Proof.Gen.ProjIdeal.Frame
public import proofs.«01_k».proof.Proof.Gen.ProjIdeal.Skeleton
public import Idealize.ShloMosaic.Lib.Pipeline.ValueKit
public import Idealize.ShloMosaic.Lib.Pipeline.TableIdle
public import proofs.«01_k».proof.Proof.Prod

/-! # The projection of mixer B: the run of the call

The grid has 2 blocks of 2048 rows by 8 tiles of 1024 columns. A block's first point stores the modulated norm of its rows,
rounded to bf16; it stays in place for the block's other points, which read it, and is written back after the last one.
Every point stores one tile of the product. -/

@[expose] public section
set_option maxRecDepth 16384
noncomputable section
namespace Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The points that make the rows are the first of each block. -/
theorem starts : ∀ t : Fin cfg0.N, k0_cond1 (grid0.coords t) = 1#1 ↔ t.val % 8 = 0 :=
  (by decide +kernel : ∀ t : Fin grid0.N, k0_cond1 (grid0.coords t) = 1#1 ↔ t.val % 8 = 0)

/-- The rows' window is idle exactly at the other points. -/
theorem rests : ∀ t : Fin cfg0.N, cfg0.idle 5 (grid0.coords t) = !decide (t.val % 8 = 0) :=
  (by decide +kernel : ∀ t : Fin grid0.N, cfg0.idle 5 (grid0.coords t) = !decide (t.val % 8 = 0))

/-- Its buffer holds the block's rows at those points. -/
theorem holds : ∀ t : Fin cfg0.N, ¬t.val % 8 = 0 → cfg0.fresh 5 t.val = false :=
  (by decide +kernel : ∀ t : Fin grid0.N, ¬t.val % 8 = 0 → cfg0.fresh 5 t.val = false)

/-- The first point of a point's block of rows. -/
def first (t : Fin cfg0.N) : Fin cfg0.N := ⟨t.val / 8 * 8, lt_of_le_of_lt (Nat.div_mul_le_self _ _) t.isLt⟩

/-- The block's rows, normed and modulated. -/
def rows (c : Dev nD) (t : Fin cfg0.N) : Vec F S2048x1024 .bf16 :=
  k0_pay1 (iblk m c 0 (first t)) (iblk m c 1 (first t)) (iblk m c 2 (first t))

/-- A point's tile of the product. -/
def tile (c : Dev nD) (t : Fin cfg0.N) : Vec F S1x2048x1024 .f32 := k0_pay2 (rows m c t) (iblk m c 3 t)

section body
variable (c : Dev nD) (i : grid0.Coords) (a2 : Memref sig .tc .vmem S2048x1024 .f32) (h2 : a2.IsWhole) (a3 : Memref sig .tc .vmem S1x1x3072 .f32) (h3 : a3.IsWhole)
  (a4 : Memref sig .tc .vmem S1x1024 .f32) (h4 : a4.IsWhole) (a5 : Memref sig .tc .vmem S1x1024x1024 .bf16) (h5 : a5.IsWhole)
  (a6 : Memref sig .tc .vmem S1x2048x1024 .f32) (h6 : a6.IsWhole) (a7 : Memref sig .tc .vmem S2048x1024 .bf16) (h7 : a7.IsWhole)
  (x0 : Vec F S2048x1024 .f32) (x1 : Vec F S1x1x3072 .f32) (x2 : Vec F S1x1024 .f32) (x3 : Vec F S1x1024x1024 .bf16)

set_option maxHeartbeats 1000000 in
/-- A block's first point stores the rows and their first tile. -/
theorem runA (hc : k0_cond1 i = 1#1) (K : PUnit → sProp (MT nD τ sig Unit (Elt F) ℕ (UR sig nD τ) ℕ)) :
    iprop(owns (c : Thread nD τ) a2 fullShare x0 ∗ owns (c : Thread nD τ) a3 fullShare x1 ∗ owns (c : Thread nD τ) a4 fullShare x2 ∗ owns (c : Thread nD τ) a5 fullShare x3
      ∗ (∃ d, owns (c : Thread nD τ) a6 fullShare d) ∗ (∃ d, owns (c : Thread nD τ) a7 fullShare d)
      ∗ (iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare (k0_pay2 (k0_pay1 x0 x1 x2) x3) ∗ owns (c : Thread nD τ) a7 fullShare (k0_pay1 x0 x1 x2)) -∗ K ⟨⟩))
      ⊢ wp frame (wpE (defs₀ (F := F)) Variants.none c none) Set.univ (cc0_b_inproj i a2 h2 a3 h3 a4 h4 a5 h5 a6 h6 a7 h7) K := by
  simp only [cc0_b_inproj_eq_skeleton]; unfold cc0_b_inproj_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, Hk⟩
  obtain rfl := h2.eq_unread e0; obtain rfl := h3.eq_unread e1; obtain rfl := h4.eq_unread e2; obtain rfl := h5.eq_unread e3
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    rw [View.read_writes_eq_canon _ _ _ (fun y => View.cover_of_tiledL _ S1x2048x1024.size (by sl_kernel_rfl) y)]
    sl_unfold_words
    rw [View.canon_unit_zero Cert.Prod.hz3]
    simp only [View.readCov_unit_zero (S := S2048x1024) _ Cert.Prod.hz2, View.readAt_eq_ld, h2.read_unread, h3.read_unread, h4.read_unread, h5.read_unread,
      View.ld_unit_zero (S := S2048x1024) Cert.Prod.hz2, View.ld_unit_zero (S := S1x1x3072) Cert.Prod.hz3, View.ld_unit_zero (S := S1x1024) Cert.Prod.hz2, View.ld_unit_zero (S := S1x1024x1024) Cert.Prod.hz3]
  · iexists _; isplitr
    swap; · iexact H5
    ipureintro
    rw [View.read_writes_eq_canon _ _ _ (fun y => View.cover_of_tiledL _ S2048x1024.size (by sl_kernel_rfl) y)]
    sl_unfold_words
    rw [View.canon_unit_zero Cert.Prod.hz2]
    simp only [View.readAt_eq_ld, h2.read_unread, h3.read_unread, h4.read_unread,
      View.ld_unit_zero (S := S2048x1024) Cert.Prod.hz2, View.ld_unit_zero (S := S1x1x3072) Cert.Prod.hz3, View.ld_unit_zero (S := S1x1024) Cert.Prod.hz2]

set_option maxHeartbeats 1000000 in
/-- Another point reads the rows and stores their next tile. -/
theorem runB (hc : ¬k0_cond1 i = 1#1) (x5 : Vec F S2048x1024 .bf16) (K : PUnit → sProp (MT nD τ sig Unit (Elt F) ℕ (UR sig nD τ) ℕ)) :
    iprop(owns (c : Thread nD τ) a2 fullShare x0 ∗ owns (c : Thread nD τ) a3 fullShare x1 ∗ owns (c : Thread nD τ) a4 fullShare x2 ∗ owns (c : Thread nD τ) a5 fullShare x3
      ∗ (∃ d, owns (c : Thread nD τ) a6 fullShare d) ∗ owns (c : Thread nD τ) a7 fullShare x5
      ∗ (iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare (k0_pay2 x5 x3) ∗ owns (c : Thread nD τ) a7 fullShare x5) -∗ K ⟨⟩))
      ⊢ wp frame (wpE (defs₀ (F := F)) Variants.none c none) Set.univ (cc0_b_inproj i a2 h2 a3 h3 a4 h4 a5 h5 a6 h6 a7 h7) K := by
  simp only [cc0_b_inproj_eq_skeleton]; unfold cc0_b_inproj_skel
  unfold owns
  iintro ⟨⟨%f0, %e0, H0⟩, ⟨%f1, %e1, H1⟩, ⟨%f2, %e2, H2⟩, ⟨%f3, %e3, H3⟩, ⟨%d4, %f4, -, H4⟩, ⟨%f5, %e5, H5⟩, Hk⟩
  obtain rfl := h5.eq_unread e3; obtain rfl := h7.eq_unread e5
  sl_exec (disch := first | sl_exact hc)
  sl_step
  iapply Hk
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _; isplitr; · ipureintro; exact h5.read_unread _
    iexact H3
  isplitl [H4]
  · iexists _; isplitr
    swap; · iexact H4
    ipureintro
    rw [View.read_writes_eq_canon _ _ _ (fun y => View.cover_of_tiledL _ S1x2048x1024.size (by sl_kernel_rfl) y), View.canon_unit_zero Cert.Prod.hz3]
    simp only [View.readAt_eq_ld, h5.read_unread, h7.read_unread, View.ld_unit_zero (S := S2048x1024) Cert.Prod.hz2, View.ld_unit_zero (S := S1x1024x1024) Cert.Prod.hz3]
  · iexists _; isplitr; · ipureintro; exact h7.read_unread _
    iexact H5
end body

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile m c t
    | ⟨5, _⟩ => rows m c t
  Φ _ := Pipeline.ΦA spec0 c
  q _ := fullShare
  owed _ := 0

theorem A_eq (c : Dev nD) (w : Fin cfg0.W) : (dats m 0 c).A w = V m c (Pipeline.arrRef spec0 w) := by
  dsimp only [dats]

/-- The rows stay through a block. -/
theorem stays (c : Dev nD) (t : Fin cfg0.N) (h : ¬t.val % 8 = 0) : rows m c t = rows m c ⟨t.val - 1, by omega⟩ := by
  have e : first t = first ⟨t.val - 1, by omega⟩ := Fin.ext (by unfold first; dsimp only; omega)
  unfold rows; rw [e]

/-- A later point of a block finds the block's rows. -/
theorem finds (c : Dev nD) (t : Fin cfg0.N) (h : ¬t.val % 8 = 0) (d) : (dats m 0 c).before 5 t d = rows m c t := by
  rw [Dat.before_out_traj (dats m 0 c) 5 rfl (fun _ _ => rfl) (fun s _ hi _ => by
      have hs : ¬s.val % 8 = 0 := fun hs => by rw [rests, hs] at hi; exact absurd hi (by decide)
      exact stays m c s hs) t.val t rfl d, if_neg (by rw [holds t h]; exact Bool.false_ne_true)]
  exact (stays m c t h).symm

/-- What a point starts from. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What a point leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t)

/-- A window that is live at a point, or written back there, is left at what the data say. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-- The rows' window may be left at the rows at every point: where it is idle it is found so. -/
theorem leaves_rows (c : Dev nD) (t : Fin cfg0.N) (h : ¬t.val % 8 = 0) :
    owns (c : Thread nD τ) (st0_5 t) fullShare (rows m c t) ⊢ (dats m 0 c).leavesExact 5 t := by
  have hi : cfg0.idle 5 (cfg0.grid.coords t) = true := by
    rw [show cfg0.idle 5 (cfg0.grid.coords t) = !decide (t.val % 8 = 0) from rests t]; simp [h]
  unfold Dat.leavesExact
  rw [hi]
  by_cases hf : (cfg0.win 5).flush t = true
  · rw [hf]; exact Idealize.SL.BI.Entails.refl _
  · rw [Bool.not_eq_true] at hf
    rw [hf]; dsimp only
    simp only [finds m c t h]
    iintro H
    iexists (rows m c t); iexact H

set_option maxHeartbeats 4000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) rfl (fun _ => rfl), before0_1_of m (dats m 0 c) rfl (fun _ => rfl), before0_2_of m (dats m 0 c) rfl (fun _ => rfl), before0_3_of m (dats m 0 c) rfl (fun _ => rfl)]
  rw [show (dats m 0 c).owesAt () t.succ = (dats m 0 c).owesAt () t.castSucc from rfl, show (dats m 0 c).Φ t.succ = (dats m 0 c).Φ t.castSucc from rfl,
    leaves_live m c 0 t rfl, leaves_live m c 1 t rfl, leaves_live m c 2 t rfl, leaves_live m c 3 t rfl, leaves_live m c 4 t rfl]
  by_cases h : t.val % 8 = 0
  · have e : first t = t := Fin.ext (by unfold first; dsimp only; omega)
    rw [leaves_live m c 5 t (by rw [rests, h]; rfl),
      show (dats m 0 c).after 4 t = k0_pay2 (k0_pay1 (iblk m c 0 t) (iblk m c 1 t) (iblk m c 2 t)) (iblk m c 3 t) from by
        show tile m c t = _; unfold tile rows; rw [e],
      show (dats m 0 c).after 5 t = k0_pay1 (iblk m c 0 t) (iblk m c 1 t) (iblk m c 2 t) from by
        show rows m c t = _; unfold rows; rw [e]]
    iintro ⟨Hg, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ (iblk m c 0 t) (iblk m c 1 t) (iblk m c 2 t) (iblk m c 3 t) ((starts t).mpr h) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    iexact H5
  · simp only [finds m c t h]
    iintro ⟨Hg, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ (iblk m c 0 t) (iblk m c 1 t) (iblk m c 2 t) (iblk m c 3 t) (fun k => h ((starts t).mp k)) (rows m c t) _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    iapply (leaves_rows m c t h)
    iexact H5

/-- The body of the pipeline is the call's body. -/
theorem row_body (t : Fin cfg0.N) : defs₀ (F := F) .tc cfg0.body (cfg0.bodyArgs t (cfg0.slots t)) = bodyAt0 t := by
  unfold defs₀; rw [Defs.onTc_tc]

theorem obliged (c : Dev nD) : BodyObligation (dats (F := F) m 0 c) (defs₀ (F := F)) Variants.none () Set.univ := fun t => by
  rw [bigSep_W0, bigSep_W0, row_body]
  exact triple_restated (sound_body m c t) rfl .rfl fun _ => .rfl

set_option backward.isDefEq.respectTransparency.types false in
/-- The run ends with every array at what the data say, and every counter at zero. -/
theorem run_still : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obliged m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

theorem run_main : θ_run defs (onTc (τ := τ) (main (F := F))) (s₀ m ρ) (Pipeline.FramePost cfgs (dats m) 0 (V m)) :=
  (θ_run defs _ _).mono (fun _ h => h.1) (run_still m ρ)

/-- The arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) (run_main m ρ)) ((θ_run defs _ _).mono (fun _ h => h.2) (run_still m ρ))

end Cert.ProjIdeal.Gen
end
-- ==== Proof.ProjRef.lean ====
module
public import proofs.«01_k».proof.Proof.UpRef
public import proofs.«01_k».proof.Proof.Gen.ProjRefIdeal.Run
import Idealize.ShloMosaic.Lib.Pipeline.ValueKit

/-! # The reference's modulated norm, and its product with mixer B's input weights, at an index -/

@[expose] public section
set_option maxRecDepth 16384
set_option maxHeartbeats 400000
noncomputable section
namespace Cert.ProjRef
open Idealize.ShloMosaic Idealize.ShloMosaic.TcCoe Cert.ProjRefIdeal Cert.ProjRefIdeal.Gen

/-- The modulated norm of a row, from the row, the gain, the scale and the shift. -/
def hid (x g sc sh : Fin 1024 → EReal) (l : Fin 1024) : EReal := x l * Norm.rr x * g l * (1 + sc l) + sh l

/-- The reference's intermediate values, from its arguments. -/
def shift (o : FVec Ideal S2x1x3072 .f32) : FVec Ideal S2x2048x1024 .f32 :=
  broadcastInDim S2x2048x1024 ![0, 1, 2] bcast_S2x1x1024_S2x2048x1024_0_1_2 (extractStridedSlice S2x1x1024 ![0, 0, 0] o slices_S2x1x3072_S2x1x1024_0_0_0)
def hidden (x : FVec Ideal S4096x1024 .f32) (o : FVec Ideal S2x1x3072 .f32) (g : FVec Ideal S1x1024 .f32) : FVec Ideal S2x2048x1024 .f32 :=
  addf (UpRef.scaled (mulf (mulf (UpRef.rows x) (UpRef.inv (UpRef.var (UpRef.rows x)))) (UpRef.gains g)) o) (shift o)
def flat (h : FVec Ideal S2x2048x1024 .f32) : FVec Ideal S4096x1024 .bf16 :=
  truncf .bf16 (shapeCast _ h shapeCasts_S2x2048x1024_S4096x1024) bitsLt_bf16_f32
def wide (h : FVec Ideal S2x2048x1024 .f32) (w : FVec Ideal S4x1024x2048 .bf16) : FVec Ideal S4x4096x2048 .f32 :=
  transpose S4x4096x2048 [1, 0, 2] (shapeCast _ (Host.dotGeneral dot_S2x2048x1024_S1024x8192_S2x2048x8192_2_0_01_1_n_n none h (shapeCast _ (transpose S1024x4x2048 [1, 0, 2] (extf .f32 w bitsLt_bf16_f32) transposes_S4x1024x2048_S1024x4x2048_1_0_2) shapeCasts_S1024x4x2048_S1024x8192)) shapeCasts_S2x2048x8192_S4096x4x2048) transposes_S4096x4x2048_S4x4096x2048_1_0_2

theorem shift_apply (o : FVec Ideal S2x1x3072 .f32) (b : Fin 2) (s : Fin 2048) (l : Fin 1024) :
    (shift o (ix3 b s l) : EReal) = o (ix3 b 0 ⟨l.val, by omega⟩) := by
  pointwise [shift]
theorem flat_apply (h : FVec Ideal S2x2048x1024 .f32) (row : Fin 4096) (l : Fin 1024) :
    (flat h (ix2 row l) : EReal) = h (ix3 ⟨row.val / 2048, by omega⟩ ⟨row.val % 2048, by omega⟩ l) := by
  pointwise [flat]
theorem wide_apply (h : FVec Ideal S2x2048x1024 .f32) (w : FVec Ideal S4x1024x2048 .bf16) (j : Fin 4) (row : Fin 4096) (l : Fin 2048) :
    (wide h w (ix3 j row l) : EReal) = ∑ k : Fin 1024, (h (ix3 ⟨row.val / 2048, by omega⟩ ⟨row.val % 2048, by omega⟩ k) : EReal) * w (ix3 j k l) := by
  pointwise [wide]

/-- The modulated norm at an index, by the call's row. -/
theorem hidden_apply (x : FVec Ideal S4096x1024 .f32) (o : FVec Ideal S2x1x3072 .f32) (g : FVec Ideal S1x1024 .f32) (row : Fin 4096) (l : Fin 1024) :
    (hidden x o g (ix3 ⟨row.val / 2048, by omega⟩ ⟨row.val % 2048, by omega⟩ l) : EReal)
      = hid (fun k => x (ix2 row k)) (fun k => g (ix2 0 k)) (fun k => o (ix3 ⟨row.val / 2048, by omega⟩ 0 ⟨1024 + k.val, by omega⟩)) (fun k => o (ix3 ⟨row.val / 2048, by omega⟩ 0 ⟨k.val, by omega⟩)) l := by
  have hr := row.isLt
  have ek : (⟨row.val / 2048 * 2048 + row.val % 2048, by omega⟩ : Fin 4096) = row := Fin.ext (by dsimp only; omega)
  have ex (k : Fin 1024) : (UpRef.rows x (ix3 ⟨row.val / 2048, by omega⟩ ⟨row.val % 2048, by omega⟩ k) : EReal) = x (ix2 row k) := by
    rw [UpRef.rows_apply]; exact congrArg (fun q : Fin 4096 => (x (ix2 q k) : EReal)) ek
  have ev : (UpRef.inv (UpRef.var (UpRef.rows x)) (ix3 ⟨row.val / 2048, by omega⟩ ⟨row.val % 2048, by omega⟩ l) : EReal) = Norm.rr fun k => x (ix2 row k) := by
    rw [UpRef.inv_apply, UpRef.var_apply]; simp only [ex, Norm.rr]
  refine congrArg₂ (fun a b : EReal => a + b) ((UpRef.scaled_apply _ _ _ _ _).trans (congrArg (fun a : EReal => a * _) ?_)) (shift_apply _ _ _ _)
  exact congrArg₂ (fun a b : EReal => a * b) (congrArg₂ (fun a b : EReal => a * b) (ex l) ev) (UpRef.gains_apply _ _ _ _)

end Cert.ProjRef
end
-- ==== Proof.ProjTie.lean ====
module
public import proofs.«01_k».proof.Proof.ProjFrame
public import proofs.«01_k».proof.Proof.ProjRef
import Idealize.ShloMosaic.Lib.Pipeline.ValueKit
import Idealize.ShloMosaic.Lib.Pipeline.ReadBack

/-! # The projection of mixer B: the kernel's results are the reference's -/

@[expose] public section
set_option maxRecDepth 16384
set_option maxHeartbeats 400000
noncomputable section
namespace Cert.ProjTie
open Idealize.ShloMosaic Idealize.ShloMosaic.TcCoe Cert.Prod Cert.ProjIdeal Cert.ProjIdeal.Gen
open Idealize.ShloMosaic.Pipeline (Dat)
open Cert.ProjRef (hid hidden)

variable (m : (ℓ : Loc nD τ sig) → Buf (Elt Ideal) ℓ)

theorem pay1 (x0 : Vec Ideal S2048x1024 .f32) (x1 : Vec Ideal S1x1x3072 .f32) (x2 : Vec Ideal S1x1024 .f32) (r : Fin 2048) (l : Fin 1024) :
    (k0_pay1 (F := Ideal) x0 x1 x2 (ix2 r l) : EReal)
      = hid (fun k => x0 (ix2 r k)) (fun k => x2 (ix2 0 k)) (fun k => x1 (ix3 0 0 ⟨1024 + k.val, by omega⟩)) (fun k => x1 (ix3 0 0 ⟨k.val, by omega⟩)) l := by
  pointwise [k0_pay1, hid, Norm.rr, Norm.vv]

theorem pay2 (x0 : Vec Ideal S2048x1024 .bf16) (x1 : Vec Ideal S1x1024x1024 .bf16) (r : Fin 2048) (l : Fin 1024) :
    (k0_pay2 (F := Ideal) x0 x1 (ix3 0 r l) : EReal) = ∑ k : Fin 1024, (x0 (ix2 r k) : EReal) * x1 (ix3 0 k l) := by
  pointwise [k0_pay2]

theorem hi0 : ∀ t : Fin cfg0.N, win0_0.index t (0 : Fin 2) = t.val / 8 ∧ win0_0.index t (1 : Fin 2) = 0 := (by decide +kernel : ∀ t : Fin grid0.N, _)
theorem hi1 : ∀ t : Fin cfg0.N, win0_1.index t (0 : Fin 3) = t.val / 8 ∧ win0_1.index t (1 : Fin 3) = 0 ∧ win0_1.index t (2 : Fin 3) = 0 := (by decide +kernel : ∀ t : Fin grid0.N, _)
theorem hi2 : ∀ t : Fin cfg0.N, win0_2.index t (0 : Fin 2) = 0 ∧ win0_2.index t (1 : Fin 2) = 0 := (by decide +kernel : ∀ t : Fin grid0.N, _)
theorem hi3 : ∀ t : Fin cfg0.N, win0_3.index t (0 : Fin 3) = t.val % 8 / 2 ∧ win0_3.index t (1 : Fin 3) = 0 ∧ win0_3.index t (2 : Fin 3) = t.val % 2 := (by decide +kernel : ∀ t : Fin grid0.N, _)
theorem hi4 : ∀ t : Fin cfg0.N, win0_4.index t (0 : Fin 3) = t.val % 8 / 2 ∧ win0_4.index t (1 : Fin 3) = t.val / 8 ∧ win0_4.index t (2 : Fin 3) = t.val % 2 := (by decide +kernel : ∀ t : Fin grid0.N, _)
theorem hi5 : ∀ t : Fin cfg0.N, win0_5.index t (0 : Fin 2) = t.val / 8 ∧ win0_5.index t (1 : Fin 2) = 0 := (by decide +kernel : ∀ t : Fin grid0.N, _)

theorem t_lt (t : Fin cfg0.N) : t.val < 16 := lt_of_lt_of_eq t.isLt N_0

/-- The arguments' entries. -/
def X (c : Dev nD) (row : Fin 4096) (l : Fin 1024) : EReal := m ((c : Thread nD τ).loc main_arg0) (ix2 (n0 := 4096) (n1 := 1024) row l)
def M (c : Dev nD) (b : Fin 2) (l : Fin 3072) : EReal := m ((c : Thread nD τ).loc main_arg1) (ix3 (n0 := 2) (n1 := 1) (n2 := 3072) b 0 l)
def Gn (c : Dev nD) (l : Fin 1024) : EReal := m ((c : Thread nD τ).loc main_arg2) (ix2 (n0 := 1) (n1 := 1024) 0 l)
def W (c : Dev nD) (j : Fin 4) (k : Fin 1024) (l : Fin 2048) : EReal := m ((c : Thread nD τ).loc main_arg3) (ix3 (n0 := 4) (n1 := 1024) (n2 := 2048) j k l)

/-- The modulated norm at an index of the call's rows, and the projection at a section's column. -/
def H (c : Dev nD) (row : Fin 4096) (l : Fin 1024) : EReal :=
  hid (X m c row) (Gn m c) (fun k => M m c ⟨row.val / 2048, by omega⟩ ⟨1024 + k.val, by omega⟩) (fun k => M m c ⟨row.val / 2048, by omega⟩ ⟨k.val, by omega⟩) l
def Q (c : Dev nD) (j : Fin 4) (row : Fin 4096) (l : Fin 2048) : EReal := ∑ k : Fin 1024, H m c row k * W m c j k l

theorem row_lt (t : Fin cfg0.N) (r : Fin 2048) : 2048 * (t.val / 8) + r.val < 4096 := by have := t_lt t; omega
theorem b_lt (t : Fin cfg0.N) : t.val / 8 < 2 := by have := t_lt t; omega
theorem sec_lt (n : ℕ) : n % 8 / 2 < 4 := by omega
theorem col_lt (n : ℕ) (l : Fin 1024) : 1024 * (n % 2) + l.val < 2048 := by omega

theorem rd0 (c : Dev nD) (t : Fin cfg0.N) (r : Fin 2048) (l : Fin 1024) :
    iblk m c 0 t (ix2 (n0 := 2048) (n1 := 1024) r l) = X m c ⟨2048 * (t.val / 8) + r.val, row_lt t r⟩ l := by
  blk_ext [X, iblk, V_main_arg0, hi0 t]
theorem rd1 (c : Dev nD) (t : Fin cfg0.N) (l : Fin 3072) :
    iblk m c 1 t (ix3 (n0 := 1) (n1 := 1) (n2 := 3072) 0 0 l) = M m c ⟨t.val / 8, b_lt t⟩ l := by
  blk_ext [M, iblk, V_main_arg1, hi1 t]
theorem rd2 (c : Dev nD) (t : Fin cfg0.N) (l : Fin 1024) :
    iblk m c 2 t (ix2 (n0 := 1) (n1 := 1024) 0 l) = Gn m c l := by
  blk_ext [Gn, iblk, V_main_arg2, hi2 t]
theorem rd3 (c : Dev nD) (t : Fin cfg0.N) (k l : Fin 1024) :
    iblk m c 3 t (ix3 (n0 := 1) (n1 := 1024) (n2 := 1024) 0 k l) = W m c ⟨t.val % 8 / 2, sec_lt _⟩ k ⟨1024 * (t.val % 2) + l.val, col_lt _ l⟩ := by
  blk_ext [W, iblk, V_main_arg3, hi3 t]

/-- A block's rows, and a point's tile, at an index. -/
theorem rows_at (c : Dev nD) (t : Fin cfg0.N) (r : Fin 2048) (l : Fin 1024) :
    (rows m c t (ix2 r l) : EReal) = H m c ⟨2048 * (t.val / 8) + r.val, row_lt t r⟩ l := by
  have hr := r.isLt
  have e : (first t).val / 8 = t.val / 8 := by unfold first; dsimp only; omega
  have eb : (2048 * (t.val / 8) + r.val) / 2048 = t.val / 8 := by omega
  unfold rows
  rw [pay1]
  unfold H
  simp only [rd0, rd1, rd2, e, eb]
theorem tile_at (c : Dev nD) (t : Fin cfg0.N) (r : Fin 2048) (l : Fin 1024) :
    (tile m c t (ix3 0 r l) : EReal) = Q m c ⟨t.val % 8 / 2, sec_lt _⟩ ⟨2048 * (t.val / 8) + r.val, row_lt t r⟩ ⟨1024 * (t.val % 2) + l.val, col_lt _ l⟩ := by
  unfold tile
  rw [pay2]
  exact Finset.sum_congr rfl fun k _ => congrArg₂ (fun a b : EReal => a * b) (rows_at m c t r k) (rd3 m c t k l)

/-- The two results, as arrays. -/
def G4 (c : Dev nD) : Buf (Elt Ideal) ((c : Thread nD τ).loc main_v0_0) := fun i : S4x4096x2048.Idx => Q m c (i 0) (i 1) (i 2)
def G5 (c : Dev nD) : Buf (Elt Ideal) ((c : Thread nD τ).loc main_v0_1) := fun i : S4096x1024.Idx => H m c (i 0) (i 1)

theorem flushed4 (c : Dev nD) (t : Fin cfg0.N) : (dats m 0 c).flushed 4 t = ((cfg0.win 4).blk t).view.read (Elt Ideal) (G4 m c) := by
  show (cfg0.win 4).cut (grid0.coords t) (tile m c t) = _
  obtain ⟨e0, e1, e2⟩ := hi4 t
  refine ext3 (a := 1) (b := 2048) (d := 1024) _ _ fun z r l => ?_
  obtain rfl : z = 0 := Subsingleton.elim _ _
  refine (tile_at m c t r l).trans ?_
  have h0 : (((cfg0.win 4).blk t).view.emb (ix3 (n0 := 1) (n1 := 2048) (n2 := 1024) 0 r l) 0).val = win0_4.index t (0 : Fin 3) * 1 + 1 * 0 := rfl
  have h1 : (((cfg0.win 4).blk t).view.emb (ix3 (n0 := 1) (n1 := 2048) (n2 := 1024) 0 r l) 1).val = win0_4.index t (1 : Fin 3) * 2048 + 1 * r.val := rfl
  have h2 : (((cfg0.win 4).blk t).view.emb (ix3 (n0 := 1) (n1 := 2048) (n2 := 1024) 0 r l) 2).val = win0_4.index t (2 : Fin 3) * 1024 + 1 * l.val := rfl
  show _ = Q m c (((cfg0.win 4).blk t).view.emb (ix3 (n0 := 1) (n1 := 2048) (n2 := 1024) 0 r l) 0) (((cfg0.win 4).blk t).view.emb (ix3 (n0 := 1) (n1 := 2048) (n2 := 1024) 0 r l) 1) (((cfg0.win 4).blk t).view.emb (ix3 (n0 := 1) (n1 := 2048) (n2 := 1024) 0 r l) 2)
  congr 1 <;> apply Fin.ext
  · rw [h0, e0]; show t.val % 8 / 2 = _; omega
  · rw [h1, e1]; show 2048 * (t.val / 8) + r.val = _; omega
  · rw [h2, e2]; show 1024 * (t.val % 2) + l.val = _; omega

theorem flushed5 (c : Dev nD) (t : Fin cfg0.N) : (dats m 0 c).flushed 5 t = ((cfg0.win 5).blk t).view.read (Elt Ideal) (G5 m c) := by
  show (cfg0.win 5).cut (grid0.coords t) (rows m c t) = _
  obtain ⟨e0, e1⟩ := hi5 t
  refine ext2 (a := 2048) (b := 1024) _ _ fun r l => ?_
  refine (rows_at m c t r l).trans ?_
  have h0 : (((cfg0.win 5).blk t).view.emb (ix2 (n0 := 2048) (n1 := 1024) r l) 0).val = win0_5.index t (0 : Fin 2) * 2048 + 1 * r.val := rfl
  have h1 : (((cfg0.win 5).blk t).view.emb (ix2 (n0 := 2048) (n1 := 1024) r l) 1).val = win0_5.index t (1 : Fin 2) * 1024 + 1 * l.val := rfl
  show _ = H m c (((cfg0.win 5).blk t).view.emb (ix2 (n0 := 2048) (n1 := 1024) r l) 0) (((cfg0.win 5).blk t).view.emb (ix2 (n0 := 2048) (n1 := 1024) r l) 1)
  congr 1 <;> apply Fin.ext
  · rw [h0, e0]; show 2048 * (t.val / 8) + r.val = _; omega
  · rw [h1, e1]; show l.val = _; omega

/-- The written blocks cover the two arrays. -/
theorem cover4 (i : S4x4096x2048.Idx) : ∃ t : Fin cfg0.N, (cfg0.win 4).flush t = true ∧ i ∈ ((cfg0.win 4).blk t).view.set := by
  have b0 : (i 0).val < 4 := (i 0).isLt
  have b1 : (i 1).val < 4096 := (i 1).isLt
  have b2 : (i 2).val < 2048 := (i 2).isLt
  have hN : cfg0.N = 16 := N_0
  let t : Fin cfg0.N := ⟨(i 1).val / 2048 * 8 + (i 0).val * 2 + (i 2).val / 1024, by omega⟩
  have ht : t.val = (i 1).val / 2048 * 8 + (i 0).val * 2 + (i 2).val / 1024 := rfl
  obtain ⟨e0, e1, e2⟩ := hi4 t
  refine ⟨t, flush0_4 t, ?_⟩
  show i ∈ ((View.whole main_v0_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 1024 ≤ (i 2).val ∧ (i 2).val < win0_4.index t (2 : Fin 3) * 1024 + 1024; omega
theorem cover5 (i : S4096x1024.Idx) : ∃ t : Fin cfg0.N, (cfg0.win 5).flush t = true ∧ i ∈ ((cfg0.win 5).blk t).view.set := by
  have b0 : (i 0).val < 4096 := (i 0).isLt
  have b1 : (i 1).val < 1024 := (i 1).isLt
  have hN : cfg0.N = 16 := N_0
  let t : Fin cfg0.N := ⟨(i 0).val / 2048 * 8 + 7, by omega⟩
  have ht : t.val = (i 0).val / 2048 * 8 + 7 := rfl
  obtain ⟨e0, e1⟩ := hi5 t
  refine ⟨t, (flush0_5 t).mpr (by omega), ?_⟩
  show i ∈ ((View.whole main_v0_1).slice (win0_5.rect t)).set
  rw [View.set_slice_whole, Rect.mem_set_unit]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 1024 ≤ (i 1).val ∧ (i 1).val < win0_5.index t (1 : Fin 2) * 1024 + 1024; omega

/-- The run leaves the two arrays. -/
theorem run (ρ : Dev nD → PrngReg) : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h.1 c).1 4).trans ((dats m 0 c).arrAt_eq_of_cover 4 _ (fun t _ => flushed4 m c t) cover4),
        ((h.1 c).1 5).trans ((dats m 0 c).arrAt_eq_of_cover 5 _ (fun t _ => flushed5 m c t) cover5), h.2 c⟩)
    (θ_run_and (run_main m ρ) (frame_of m ρ (dats m) (A_eq m) (run_main m ρ)))

/-- The arguments as the reference takes them. -/
abbrev A0 (c : Dev nD) : FVec Ideal S4096x1024 .f32 := m ((c : Thread nD τ).loc main_arg0)
abbrev A1 (c : Dev nD) : FVec Ideal S2x1x3072 .f32 := m ((c : Thread nD τ).loc main_arg1)
abbrev A2 (c : Dev nD) : FVec Ideal S1x1024 .f32 := m ((c : Thread nD τ).loc main_arg2)
abbrev A3 (c : Dev nD) : FVec Ideal S4x1024x2048 .bf16 := m ((c : Thread nD τ).loc main_arg3)

/-- The reference's results are the call's. -/
theorem tie5 (c : Dev nD) : ProjRef.flat (hidden (A0 m c) (A1 m c) (A2 m c)) = G5 m c :=
  ext2 _ _ fun row l => (ProjRef.flat_apply _ row l).trans (ProjRef.hidden_apply _ _ _ row l)
theorem tie4 (c : Dev nD) : ProjRef.wide (hidden (A0 m c) (A1 m c) (A2 m c)) (A3 m c) = G4 m c :=
  ext3 _ _ fun j row l => (ProjRef.wide_apply _ _ j row l).trans
    (Finset.sum_congr rfl fun k _ => congrArg (fun a : EReal => a * _) (ProjRef.hidden_apply _ _ _ row k))

end Cert.ProjTie
end
-- ==== Proof.ProjAFrame.lean ====
module
public import proofs.«01_k».proof.Proof.Gen.ProjAIdeal.Frame
public import proofs.«01_k».proof.Proof.Gen.ProjAIdeal.Skeleton
public import Idealize.ShloMosaic.Lib.Pipeline.ValueKit
public import Idealize.ShloMosaic.Lib.Pipeline.TableIdle
public import proofs.«01_k».proof.Proof.Prod

/-! # The projection of mixer A: the run of the call

The grid has 2 blocks of 2048 rows by 8 tiles of 768 columns. A block's first point stores the modulated norm of its rows,
rounded to bf16; it stays in place for the block's other points, which read it, and is written back after the last one.
Every point stores one tile of the product. -/

@[expose] public section
set_option maxRecDepth 16384
noncomputable section
namespace Cert.ProjAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The points that make the rows are the first of each block. -/
theorem starts : ∀ t : Fin cfg0.N, k0_cond1 (grid0.coords t) = 1#1 ↔ t.val % 8 = 0 :=
  (by decide +kernel : ∀ t : Fin grid0.N, k0_cond1 (grid0.coords t) = 1#1 ↔ t.val % 8 = 0)

/-- The rows' window is idle exactly at the other points. -/
theorem rests : ∀ t : Fin cfg0.N, cfg0.idle 5 (grid0.coords t) = !decide (t.val % 8 = 0) :=
  (by decide +kernel : ∀ t : Fin grid0.N, cfg0.idle 5 (grid0.coords t) = !decide (t.val % 8 = 0))

/-- Its buffer holds the block's rows at those points. -/
theorem holds : ∀ t : Fin cfg0.N, ¬t.val % 8 = 0 → cfg0.fresh 5 t.val = false :=
  (by decide +kernel : ∀ t : Fin grid0.N, ¬t.val % 8 = 0 → cfg0.fresh 5 t.val = false)

/-- The first point of a point's block of rows. -/
def first (t : Fin cfg0.N) : Fin cfg0.N := ⟨t.val / 8 * 8, lt_of_le_of_lt (Nat.div_mul_le_self _ _) t.isLt⟩

/-- The block's rows, normed and modulated. -/
def rows (c : Dev nD) (t : Fin cfg0.N) : Vec F S2048x1024 .bf16 :=
  k0_pay1 (iblk m c 0 (first t)) (iblk m c 1 (first t)) (iblk m c 2 (first t))

/-- A point's tile of the product. -/
def tile (c : Dev nD) (t : Fin cfg0.N) : Vec F S2048x768 .f32 := k0_pay2 (rows m c t) (iblk m c 3 t)

section body
variable (c : Dev nD) (i : grid0.Coords) (a2 : Memref sig .tc .vmem S2048x1024 .f32) (h2 : a2.IsWhole) (a3 : Memref sig .tc .vmem S1x1x3072 .f32) (h3 : a3.IsWhole)
  (a4 : Memref sig .tc .vmem S1x1024 .f32) (h4 : a4.IsWhole) (a5 : Memref sig .tc .vmem S1x1024x768 .bf16) (h5 : a5.IsWhole)
  (a6 : Memref sig .tc .vmem S2048x768 .f32) (h6 : a6.IsWhole) (a7 : Memref sig .tc .vmem S2048x1024 .bf16) (h7 : a7.IsWhole)
  (x0 : Vec F S2048x1024 .f32) (x1 : Vec F S1x1x3072 .f32) (x2 : Vec F S1x1024 .f32) (x3 : Vec F S1x1024x768 .bf16)

set_option maxHeartbeats 1000000 in
/-- A block's first point stores the rows and their first tile. -/
theorem runA (hc : k0_cond1 i = 1#1) (K : PUnit → sProp (MT nD τ sig Unit (Elt F) ℕ (UR sig nD τ) ℕ)) :
    iprop(owns (c : Thread nD τ) a2 fullShare x0 ∗ owns (c : Thread nD τ) a3 fullShare x1 ∗ owns (c : Thread nD τ) a4 fullShare x2 ∗ owns (c : Thread nD τ) a5 fullShare x3
      ∗ (∃ d, owns (c : Thread nD τ) a6 fullShare d) ∗ (∃ d, owns (c : Thread nD τ) a7 fullShare d)
      ∗ (iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare (k0_pay2 (k0_pay1 x0 x1 x2) x3) ∗ owns (c : Thread nD τ) a7 fullShare (k0_pay1 x0 x1 x2)) -∗ K ⟨⟩))
      ⊢ wp frame (wpE (defs₀ (F := F)) Variants.none c none) Set.univ (cc0_a_inproj i a2 h2 a3 h3 a4 h4 a5 h5 a6 h6 a7 h7) K := by
  simp only [cc0_a_inproj_eq_skeleton]; unfold cc0_a_inproj_skel
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, Hk⟩
  obtain rfl := h2.eq_unread e0; obtain rfl := h3.eq_unread e1; obtain rfl := h4.eq_unread e2; obtain rfl := h5.eq_unread e3
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    rw [View.read_writes_eq_canon _ _ _ (fun y => View.cover_of_tiledL _ S2048x768.size (by sl_kernel_rfl) y)]
    sl_unfold_words
    rw [View.canon_unit_zero Cert.Prod.hz2]
    simp only [View.readCov_unit_zero (S := S2048x1024) _ Cert.Prod.hz2, View.readAt_eq_ld, h2.read_unread, h3.read_unread, h4.read_unread, h5.read_unread,
      View.ld_unit_zero (S := S2048x1024) Cert.Prod.hz2, View.ld_unit_zero (S := S1x1x3072) Cert.Prod.hz3, View.ld_unit_zero (S := S1x1024) Cert.Prod.hz2, View.ld_unit_zero (S := S1x1024x768) Cert.Prod.hz3]
  · iexists _; isplitr
    swap; · iexact H5
    ipureintro
    rw [View.read_writes_eq_canon _ _ _ (fun y => View.cover_of_tiledL _ S2048x1024.size (by sl_kernel_rfl) y)]
    sl_unfold_words
    rw [View.canon_unit_zero Cert.Prod.hz2]
    simp only [View.readAt_eq_ld, h2.read_unread, h3.read_unread, h4.read_unread,
      View.ld_unit_zero (S := S2048x1024) Cert.Prod.hz2, View.ld_unit_zero (S := S1x1x3072) Cert.Prod.hz3, View.ld_unit_zero (S := S1x1024) Cert.Prod.hz2]

set_option maxHeartbeats 1000000 in
/-- Another point reads the rows and stores their next tile. -/
theorem runB (hc : ¬k0_cond1 i = 1#1) (x5 : Vec F S2048x1024 .bf16) (K : PUnit → sProp (MT nD τ sig Unit (Elt F) ℕ (UR sig nD τ) ℕ)) :
    iprop(owns (c : Thread nD τ) a2 fullShare x0 ∗ owns (c : Thread nD τ) a3 fullShare x1 ∗ owns (c : Thread nD τ) a4 fullShare x2 ∗ owns (c : Thread nD τ) a5 fullShare x3
      ∗ (∃ d, owns (c : Thread nD τ) a6 fullShare d) ∗ owns (c : Thread nD τ) a7 fullShare x5
      ∗ (iprop(owns (c : Thread nD τ) a2 fullShare x0 ∗ owns (c : Thread nD τ) a3 fullShare x1 ∗ owns (c : Thread nD τ) a4 fullShare x2 ∗ owns (c : Thread nD τ) a5 fullShare x3
        ∗ owns (c : Thread nD τ) a6 fullShare (k0_pay2 x5 x3) ∗ owns (c : Thread nD τ) a7 fullShare x5) -∗ K ⟨⟩))
      ⊢ wp frame (wpE (defs₀ (F := F)) Variants.none c none) Set.univ (cc0_a_inproj i a2 h2 a3 h3 a4 h4 a5 h5 a6 h6 a7 h7) K := by
  simp only [cc0_a_inproj_eq_skeleton]; unfold cc0_a_inproj_skel
  unfold owns
  iintro ⟨⟨%f0, %e0, H0⟩, ⟨%f1, %e1, H1⟩, ⟨%f2, %e2, H2⟩, ⟨%f3, %e3, H3⟩, ⟨%d4, %f4, -, H4⟩, ⟨%f5, %e5, H5⟩, Hk⟩
  obtain rfl := h5.eq_unread e3; obtain rfl := h7.eq_unread e5
  sl_exec (disch := first | sl_exact hc)
  sl_step
  iapply Hk
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _; isplitr; · ipureintro; exact h5.read_unread _
    iexact H3
  isplitl [H4]
  · iexists _; isplitr
    swap; · iexact H4
    ipureintro
    rw [View.read_writes_eq_canon _ _ _ (fun y => View.cover_of_tiledL _ S2048x768.size (by sl_kernel_rfl) y), View.canon_unit_zero Cert.Prod.hz2]
    simp only [View.readAt_eq_ld, h5.read_unread, h7.read_unread, View.ld_unit_zero (S := S2048x1024) Cert.Prod.hz2, View.ld_unit_zero (S := S1x1024x768) Cert.Prod.hz3]
  · iexists _; isplitr; · ipureintro; exact h7.read_unread _
    iexact H5
end body

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tile m c t
    | ⟨5, _⟩ => rows m c t
  Φ _ := Pipeline.ΦA spec0 c
  q _ := fullShare
  owed _ := 0

theorem A_eq (c : Dev nD) (w : Fin cfg0.W) : (dats m 0 c).A w = V m c (Pipeline.arrRef spec0 w) := by
  dsimp only [dats]

/-- The rows stay through a block. -/
theorem stays (c : Dev nD) (t : Fin cfg0.N) (h : ¬t.val % 8 = 0) : rows m c t = rows m c ⟨t.val - 1, by omega⟩ := by
  have e : first t = first ⟨t.val - 1, by omega⟩ := Fin.ext (by unfold first; dsimp only; omega)
  unfold rows; rw [e]

/-- A later point of a block finds the block's rows. -/
theorem finds (c : Dev nD) (t : Fin cfg0.N) (h : ¬t.val % 8 = 0) (d) : (dats m 0 c).before 5 t d = rows m c t := by
  rw [Dat.before_out_traj (dats m 0 c) 5 rfl (fun _ _ => rfl) (fun s _ hi _ => by
      have hs : ¬s.val % 8 = 0 := fun hs => by rw [rests, hs] at hi; exact absurd hi (by decide)
      exact stays m c s hs) t.val t rfl d, if_neg (by rw [holds t h]; exact Bool.false_ne_true)]
  exact (stays m c t h).symm

/-- What a point starts from. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What a point leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t)

/-- A window that is live at a point, or written back there, is left at what the data say. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-- The rows' window may be left at the rows at every point: where it is idle it is found so. -/
theorem leaves_rows (c : Dev nD) (t : Fin cfg0.N) (h : ¬t.val % 8 = 0) :
    owns (c : Thread nD τ) (st0_5 t) fullShare (rows m c t) ⊢ (dats m 0 c).leavesExact 5 t := by
  have hi : cfg0.idle 5 (cfg0.grid.coords t) = true := by
    rw [show cfg0.idle 5 (cfg0.grid.coords t) = !decide (t.val % 8 = 0) from rests t]; simp [h]
  unfold Dat.leavesExact
  rw [hi]
  by_cases hf : (cfg0.win 5).flush t = true
  · rw [hf]; exact Idealize.SL.BI.Entails.refl _
  · rw [Bool.not_eq_true] at hf
    rw [hf]; dsimp only
    simp only [finds m c t h]
    iintro H
    iexists (rows m c t); iexact H

set_option maxHeartbeats 4000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) rfl (fun _ => rfl), before0_1_of m (dats m 0 c) rfl (fun _ => rfl), before0_2_of m (dats m 0 c) rfl (fun _ => rfl), before0_3_of m (dats m 0 c) rfl (fun _ => rfl)]
  rw [show (dats m 0 c).owesAt () t.succ = (dats m 0 c).owesAt () t.castSucc from rfl, show (dats m 0 c).Φ t.succ = (dats m 0 c).Φ t.castSucc from rfl,
    leaves_live m c 0 t rfl, leaves_live m c 1 t rfl, leaves_live m c 2 t rfl, leaves_live m c 3 t rfl, leaves_live m c 4 t rfl]
  by_cases h : t.val % 8 = 0
  · have e : first t = t := Fin.ext (by unfold first; dsimp only; omega)
    rw [leaves_live m c 5 t (by rw [rests, h]; rfl),
      show (dats m 0 c).after 4 t = k0_pay2 (k0_pay1 (iblk m c 0 t) (iblk m c 1 t) (iblk m c 2 t)) (iblk m c 3 t) from by
        show tile m c t = _; unfold tile rows; rw [e],
      show (dats m 0 c).after 5 t = k0_pay1 (iblk m c 0 t) (iblk m c 1 t) (iblk m c 2 t) from by
        show rows m c t = _; unfold rows; rw [e]]
    iintro ⟨Hg, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ (iblk m c 0 t) (iblk m c 1 t) (iblk m c 2 t) (iblk m c 3 t) ((starts t).mpr h) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    iexact H5
  · simp only [finds m c t h]
    iintro ⟨Hg, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ (iblk m c 0 t) (iblk m c 1 t) (iblk m c 2 t) (iblk m c 3 t) (fun k => h ((starts t).mp k)) (rows m c t) _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    iapply (leaves_rows m c t h)
    iexact H5

/-- The body of the pipeline is the call's body. -/
theorem row_body (t : Fin cfg0.N) : defs₀ (F := F) .tc cfg0.body (cfg0.bodyArgs t (cfg0.slots t)) = bodyAt0 t := by
  unfold defs₀; rw [Defs.onTc_tc]

theorem obliged (c : Dev nD) : BodyObligation (dats (F := F) m 0 c) (defs₀ (F := F)) Variants.none () Set.univ := fun t => by
  rw [bigSep_W0, bigSep_W0, row_body]
  exact triple_restated (sound_body m c t) rfl .rfl fun _ => .rfl

set_option backward.isDefEq.respectTransparency.types false in
/-- The run ends with every array at what the data say, and every counter at zero. -/
theorem run_still : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obliged m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

theorem run_main : θ_run defs (onTc (τ := τ) (main (F := F))) (s₀ m ρ) (Pipeline.FramePost cfgs (dats m) 0 (V m)) :=
  (θ_run defs _ _).mono (fun _ h => h.1) (run_still m ρ)

/-- The arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) (run_main m ρ)) ((θ_run defs _ _).mono (fun _ h => h.2) (run_still m ρ))

end Cert.ProjAIdeal.Gen
end
-- ==== Proof.ProjARef.lean ====
module
public import proofs.«01_k».proof.Proof.ProjRef
public import proofs.«01_k».proof.Proof.Gen.ProjARefIdeal.Run
import Idealize.ShloMosaic.Lib.Pipeline.ValueKit

/-! # The reference's product of the modulated norm with mixer A's input weights, at an index -/

@[expose] public section
set_option maxRecDepth 16384
set_option maxHeartbeats 400000
noncomputable section
namespace Cert.ProjARef
open Idealize.ShloMosaic Idealize.ShloMosaic.TcCoe Cert.ProjARefIdeal Cert.ProjARefIdeal.Gen

def wide (h : FVec Ideal S2x2048x1024 .f32) (w : FVec Ideal S4x1024x1536 .bf16) : FVec Ideal S4096x6144 .f32 :=
  shapeCast _ (Host.dotGeneral dot_S2x2048x1024_S1024x6144_S2x2048x6144_2_0_01_1_n_n none h (shapeCast _ (transpose S1024x4x1536 [1, 0, 2] (extf .f32 w bitsLt_bf16_f32) transposes_S4x1024x1536_S1024x4x1536_1_0_2) shapeCasts_S1024x4x1536_S1024x6144)) shapeCasts_S2x2048x6144_S4096x6144

theorem wide_apply (h : FVec Ideal S2x2048x1024 .f32) (w : FVec Ideal S4x1024x1536 .bf16) (row : Fin 4096) (l : Fin 6144) :
    (wide h w (ix2 row l) : EReal) = ∑ k : Fin 1024, (h (ix3 ⟨row.val / 2048, by omega⟩ ⟨row.val % 2048, by omega⟩ k) : EReal) * w (ix3 ⟨l.val / 1536, by omega⟩ k ⟨l.val % 1536, by omega⟩) := by
  pointwise [wide]

end Cert.ProjARef
end
-- ==== Proof.ProjATie.lean ====
module
public import proofs.«01_k».proof.Proof.ProjAFrame
public import proofs.«01_k».proof.Proof.ProjARef
import Idealize.ShloMosaic.Lib.Pipeline.ValueKit
import Idealize.ShloMosaic.Lib.Pipeline.ReadBack

/-! # The projection of mixer A: the kernel's results are the reference's -/

@[expose] public section
set_option maxRecDepth 16384
set_option maxHeartbeats 400000
noncomputable section
namespace Cert.ProjATie
open Idealize.ShloMosaic Idealize.ShloMosaic.TcCoe Cert.Prod Cert.ProjAIdeal Cert.ProjAIdeal.Gen
open Idealize.ShloMosaic.Pipeline (Dat)
open Cert.ProjRef (hid hidden)

variable (m : (ℓ : Loc nD τ sig) → Buf (Elt Ideal) ℓ)

theorem pay1 (x0 : Vec Ideal S2048x1024 .f32) (x1 : Vec Ideal S1x1x3072 .f32) (x2 : Vec Ideal S1x1024 .f32) (r : Fin 2048) (l : Fin 1024) :
    (k0_pay1 (F := Ideal) x0 x1 x2 (ix2 r l) : EReal)
      = hid (fun k => x0 (ix2 r k)) (fun k => x2 (ix2 0 k)) (fun k => x1 (ix3 0 0 ⟨1024 + k.val, by omega⟩)) (fun k => x1 (ix3 0 0 ⟨k.val, by omega⟩)) l := by
  pointwise [k0_pay1, hid, Norm.rr, Norm.vv]

theorem pay2 (x0 : Vec Ideal S2048x1024 .bf16) (x1 : Vec Ideal S1x1024x768 .bf16) (r : Fin 2048) (l : Fin 768) :
    (k0_pay2 (F := Ideal) x0 x1 (ix2 r l) : EReal) = ∑ k : Fin 1024, (x0 (ix2 r k) : EReal) * x1 (ix3 0 k l) := by
  pointwise [k0_pay2]

theorem hi0 : ∀ t : Fin cfg0.N, win0_0.index t (0 : Fin 2) = t.val / 8 ∧ win0_0.index t (1 : Fin 2) = 0 := (by decide +kernel : ∀ t : Fin grid0.N, _)
theorem hi1 : ∀ t : Fin cfg0.N, win0_1.index t (0 : Fin 3) = t.val / 8 ∧ win0_1.index t (1 : Fin 3) = 0 ∧ win0_1.index t (2 : Fin 3) = 0 := (by decide +kernel : ∀ t : Fin grid0.N, _)
theorem hi2 : ∀ t : Fin cfg0.N, win0_2.index t (0 : Fin 2) = 0 ∧ win0_2.index t (1 : Fin 2) = 0 := (by decide +kernel : ∀ t : Fin grid0.N, _)
theorem hi3 : ∀ t : Fin cfg0.N, win0_3.index t (0 : Fin 3) = t.val % 8 / 2 ∧ win0_3.index t (1 : Fin 3) = 0 ∧ win0_3.index t (2 : Fin 3) = t.val % 2 := (by decide +kernel : ∀ t : Fin grid0.N, _)
theorem hi4 : ∀ t : Fin cfg0.N, win0_4.index t (0 : Fin 2) = t.val / 8 ∧ win0_4.index t (1 : Fin 2) = t.val % 8 := (by decide +kernel : ∀ t : Fin grid0.N, _)
theorem hi5 : ∀ t : Fin cfg0.N, win0_5.index t (0 : Fin 2) = t.val / 8 ∧ win0_5.index t (1 : Fin 2) = 0 := (by decide +kernel : ∀ t : Fin grid0.N, _)

theorem t_lt (t : Fin cfg0.N) : t.val < 16 := lt_of_lt_of_eq t.isLt N_0

/-- The arguments' entries. -/
def X (c : Dev nD) (row : Fin 4096) (l : Fin 1024) : EReal := m ((c : Thread nD τ).loc main_arg0) (ix2 (n0 := 4096) (n1 := 1024) row l)
def M (c : Dev nD) (b : Fin 2) (l : Fin 3072) : EReal := m ((c : Thread nD τ).loc main_arg1) (ix3 (n0 := 2) (n1 := 1) (n2 := 3072) b 0 l)
def Gn (c : Dev nD) (l : Fin 1024) : EReal := m ((c : Thread nD τ).loc main_arg2) (ix2 (n0 := 1) (n1 := 1024) 0 l)
def W (c : Dev nD) (j : Fin 4) (k : Fin 1024) (l : Fin 1536) : EReal := m ((c : Thread nD τ).loc main_arg3) (ix3 (n0 := 4) (n1 := 1024) (n2 := 1536) j k l)

/-- The modulated norm at an index of the call's rows, and the projection at a column. -/
def H (c : Dev nD) (row : Fin 4096) (l : Fin 1024) : EReal :=
  hid (X m c row) (Gn m c) (fun k => M m c ⟨row.val / 2048, by omega⟩ ⟨1024 + k.val, by omega⟩) (fun k => M m c ⟨row.val / 2048, by omega⟩ ⟨k.val, by omega⟩) l
def Q (c : Dev nD) (row : Fin 4096) (l : Fin 6144) : EReal := ∑ k : Fin 1024, H m c row k * W m c ⟨l.val / 1536, by omega⟩ k ⟨l.val % 1536, by omega⟩

theorem row_lt (t : Fin cfg0.N) (r : Fin 2048) : 2048 * (t.val / 8) + r.val < 4096 := by have := t_lt t; omega
theorem b_lt (t : Fin cfg0.N) : t.val / 8 < 2 := by have := t_lt t; omega
theorem sec_lt (n : ℕ) : n % 8 / 2 < 4 := by omega
theorem sub_lt (n : ℕ) (l : Fin 768) : 768 * (n % 2) + l.val < 1536 := by omega
theorem col_lt (n : ℕ) (l : Fin 768) : 768 * (n % 8) + l.val < 6144 := by omega

theorem rd0 (c : Dev nD) (t : Fin cfg0.N) (r : Fin 2048) (l : Fin 1024) :
    iblk m c 0 t (ix2 (n0 := 2048) (n1 := 1024) r l) = X m c ⟨2048 * (t.val / 8) + r.val, row_lt t r⟩ l := by
  blk_ext [X, iblk, V_main_arg0, hi0 t]
theorem rd1 (c : Dev nD) (t : Fin cfg0.N) (l : Fin 3072) :
    iblk m c 1 t (ix3 (n0 := 1) (n1 := 1) (n2 := 3072) 0 0 l) = M m c ⟨t.val / 8, b_lt t⟩ l := by
  blk_ext [M, iblk, V_main_arg1, hi1 t]
theorem rd2 (c : Dev nD) (t : Fin cfg0.N) (l : Fin 1024) :
    iblk m c 2 t (ix2 (n0 := 1) (n1 := 1024) 0 l) = Gn m c l := by
  blk_ext [Gn, iblk, V_main_arg2, hi2 t]
theorem rd3 (c : Dev nD) (t : Fin cfg0.N) (k : Fin 1024) (l : Fin 768) :
    iblk m c 3 t (ix3 (n0 := 1) (n1 := 1024) (n2 := 768) 0 k l) = W m c ⟨t.val % 8 / 2, sec_lt _⟩ k ⟨768 * (t.val % 2) + l.val, sub_lt _ l⟩ := by
  blk_ext [W, iblk, V_main_arg3, hi3 t]

/-- A block's rows, and a point's tile, at an index. -/
theorem rows_at (c : Dev nD) (t : Fin cfg0.N) (r : Fin 2048) (l : Fin 1024) :
    (rows m c t (ix2 r l) : EReal) = H m c ⟨2048 * (t.val / 8) + r.val, row_lt t r⟩ l := by
  have hr := r.isLt
  have e : (first t).val / 8 = t.val / 8 := by unfold first; dsimp only; omega
  have eb : (2048 * (t.val / 8) + r.val) / 2048 = t.val / 8 := by omega
  unfold rows
  rw [pay1]
  unfold H
  simp only [rd0, rd1, rd2, e, eb]
theorem tile_at (c : Dev nD) (t : Fin cfg0.N) (r : Fin 2048) (l : Fin 768) :
    (tile m c t (ix2 r l) : EReal) = Q m c ⟨2048 * (t.val / 8) + r.val, row_lt t r⟩ ⟨768 * (t.val % 8) + l.val, col_lt _ l⟩ := by
  have hl := l.isLt
  have es : (768 * (t.val % 8) + l.val) / 1536 = t.val % 8 / 2 := by omega
  have ec : (768 * (t.val % 8) + l.val) % 1536 = 768 * (t.val % 2) + l.val := by omega
  unfold tile Q
  rw [pay2]
  simp only [es, ec]
  exact Finset.sum_congr rfl fun k _ => congrArg₂ (fun a b : EReal => a * b) (rows_at m c t r k) (rd3 m c t k l)

/-- The two results, as arrays. -/
def G4 (c : Dev nD) : Buf (Elt Ideal) ((c : Thread nD τ).loc main_v0_0) := fun i : S4096x6144.Idx => Q m c (i 0) (i 1)
def G5 (c : Dev nD) : Buf (Elt Ideal) ((c : Thread nD τ).loc main_v0_1) := fun i : S4096x1024.Idx => H m c (i 0) (i 1)

theorem flushed4 (c : Dev nD) (t : Fin cfg0.N) : (dats m 0 c).flushed 4 t = ((cfg0.win 4).blk t).view.read (Elt Ideal) (G4 m c) := by
  show (cfg0.win 4).cut (grid0.coords t) (tile m c t) = _
  obtain ⟨e0, e1⟩ := hi4 t
  refine ext2 (a := 2048) (b := 768) _ _ fun r l => ?_
  refine (tile_at m c t r l).trans ?_
  have h0 : (((cfg0.win 4).blk t).view.emb (ix2 (n0 := 2048) (n1 := 768) r l) 0).val = win0_4.index t (0 : Fin 2) * 2048 + 1 * r.val := rfl
  have h1 : (((cfg0.win 4).blk t).view.emb (ix2 (n0 := 2048) (n1 := 768) r l) 1).val = win0_4.index t (1 : Fin 2) * 768 + 1 * l.val := rfl
  show _ = Q m c (((cfg0.win 4).blk t).view.emb (ix2 (n0 := 2048) (n1 := 768) r l) 0) (((cfg0.win 4).blk t).view.emb (ix2 (n0 := 2048) (n1 := 768) r l) 1)
  congr 1 <;> apply Fin.ext
  · rw [h0, e0]; show 2048 * (t.val / 8) + r.val = _; omega
  · rw [h1, e1]; show 768 * (t.val % 8) + l.val = _; omega

theorem flushed5 (c : Dev nD) (t : Fin cfg0.N) : (dats m 0 c).flushed 5 t = ((cfg0.win 5).blk t).view.read (Elt Ideal) (G5 m c) := by
  show (cfg0.win 5).cut (grid0.coords t) (rows m c t) = _
  obtain ⟨e0, e1⟩ := hi5 t
  refine ext2 (a := 2048) (b := 1024) _ _ fun r l => ?_
  refine (rows_at m c t r l).trans ?_
  have h0 : (((cfg0.win 5).blk t).view.emb (ix2 (n0 := 2048) (n1 := 1024) r l) 0).val = win0_5.index t (0 : Fin 2) * 2048 + 1 * r.val := rfl
  have h1 : (((cfg0.win 5).blk t).view.emb (ix2 (n0 := 2048) (n1 := 1024) r l) 1).val = win0_5.index t (1 : Fin 2) * 1024 + 1 * l.val := rfl
  show _ = H m c (((cfg0.win 5).blk t).view.emb (ix2 (n0 := 2048) (n1 := 1024) r l) 0) (((cfg0.win 5).blk t).view.emb (ix2 (n0 := 2048) (n1 := 1024) r l) 1)
  congr 1 <;> apply Fin.ext
  · rw [h0, e0]; show 2048 * (t.val / 8) + r.val = _; omega
  · rw [h1, e1]; show l.val = _; omega

/-- The written blocks cover the two arrays. -/
theorem cover4 (i : S4096x6144.Idx) : ∃ t : Fin cfg0.N, (cfg0.win 4).flush t = true ∧ i ∈ ((cfg0.win 4).blk t).view.set := by
  have b0 : (i 0).val < 4096 := (i 0).isLt
  have b1 : (i 1).val < 6144 := (i 1).isLt
  have hN : cfg0.N = 16 := N_0
  let t : Fin cfg0.N := ⟨(i 0).val / 2048 * 8 + (i 1).val / 768, by omega⟩
  have ht : t.val = (i 0).val / 2048 * 8 + (i 1).val / 768 := rfl
  obtain ⟨e0, e1⟩ := hi4 t
  refine ⟨t, flush0_4 t, ?_⟩
  show i ∈ ((View.whole main_v0_0).slice (win0_4.rect t)).set
  rw [View.set_slice_whole, Rect.mem_set_unit]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 768 ≤ (i 1).val ∧ (i 1).val < win0_4.index t (1 : Fin 2) * 768 + 768; omega
theorem cover5 (i : S4096x1024.Idx) : ∃ t : Fin cfg0.N, (cfg0.win 5).flush t = true ∧ i ∈ ((cfg0.win 5).blk t).view.set := by
  have b0 : (i 0).val < 4096 := (i 0).isLt
  have b1 : (i 1).val < 1024 := (i 1).isLt
  have hN : cfg0.N = 16 := N_0
  let t : Fin cfg0.N := ⟨(i 0).val / 2048 * 8 + 7, by omega⟩
  have ht : t.val = (i 0).val / 2048 * 8 + 7 := rfl
  obtain ⟨e0, e1⟩ := hi5 t
  refine ⟨t, (flush0_5 t).mpr (by omega), ?_⟩
  show i ∈ ((View.whole main_v0_1).slice (win0_5.rect t)).set
  rw [View.set_slice_whole, Rect.mem_set_unit]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 1024 ≤ (i 1).val ∧ (i 1).val < win0_5.index t (1 : Fin 2) * 1024 + 1024; omega

/-- The run leaves the two arrays. -/
theorem run (ρ : Dev nD → PrngReg) : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h.1 c).1 4).trans ((dats m 0 c).arrAt_eq_of_cover 4 _ (fun t _ => flushed4 m c t) cover4),
        ((h.1 c).1 5).trans ((dats m 0 c).arrAt_eq_of_cover 5 _ (fun t _ => flushed5 m c t) cover5), h.2 c⟩)
    (θ_run_and (run_main m ρ) (frame_of m ρ (dats m) (A_eq m) (run_main m ρ)))

/-- The arguments as the reference takes them. -/
abbrev A0 (c : Dev nD) : FVec Ideal S4096x1024 .f32 := m ((c : Thread nD τ).loc main_arg0)
abbrev A1 (c : Dev nD) : FVec Ideal S2x1x3072 .f32 := m ((c : Thread nD τ).loc main_arg1)
abbrev A2 (c : Dev nD) : FVec Ideal S1x1024 .f32 := m ((c : Thread nD τ).loc main_arg2)
abbrev A3 (c : Dev nD) : FVec Ideal S4x1024x1536 .bf16 := m ((c : Thread nD τ).loc main_arg3)

/-- The reference's results are the call's. -/
theorem tie5 (c : Dev nD) : ProjRef.flat (hidden (A0 m c) (A1 m c) (A2 m c)) = G5 m c :=
  ext2 _ _ fun row l => (ProjRef.flat_apply _ row l).trans (ProjRef.hidden_apply _ _ _ row l)
theorem tie4 (c : Dev nD) : ProjARef.wide (hidden (A0 m c) (A1 m c) (A2 m c)) (A3 m c) = G4 m c :=
  ext2 _ _ fun row l => (ProjARef.wide_apply _ _ row l).trans
    (Finset.sum_congr rfl fun k _ => congrArg (fun a : EReal => a * _) (ProjRef.hidden_apply _ _ _ row k))

end Cert.ProjATie
end
-- ==== Proof.FwdTie.lean ====
module
public import proofs.«01_k».proof.Proof.Prod
public import proofs.«01_k».proof.Proof.UpRef
public import proofs.«01_k».proof.Proof.Gen.FwdIdeal.Frame
public import proofs.«01_k».proof.Proof.Gen.FwdRefIdeal.Run
import Idealize.ShloMosaic.Lib.Pipeline.ValueKit
import Idealize.ShloMosaic.Lib.Pipeline.ReadBack

/-! # The output projection of mixer A, with gate and residual: the kernel's results are the reference's -/

@[expose] public section
set_option maxRecDepth 16384
set_option maxHeartbeats 400000
noncomputable section
namespace Cert.FwdTie
open Idealize.ShloMosaic Idealize.ShloMosaic.TcCoe Cert.Prod

section reference
open Cert.FwdRefIdeal Cert.FwdRefIdeal.Gen

/-- The reference's product, and its two results from it. -/
def prod (y : FVec Ideal S4096x2048 .bf16) (w : FVec Ideal S2048x1024 .bf16) : FVec Ideal S2x2048x1024 .f32 :=
  Host.dotGeneral dot_S2x2048x2048_S2048x1024_S2x2048x1024_2_0_01_1_n_n none (shapeCast _ (extf .f32 y bitsLt_bf16_f32) shapeCasts_S4096x2048_S2x2048x2048) (extf .f32 w bitsLt_bf16_f32)
def next (p : FVec Ideal S2x2048x1024 .f32) (x : FVec Ideal S4096x1024 .f32) (o : FVec Ideal S2x1x3072 .f32) : FVec Ideal S4096x1024 .f32 :=
  shapeCast _ (addf (shapeCast _ x shapeCasts_S4096x1024_S2x2048x1024) (mulf (broadcastInDim S2x2048x1024 ![0, 1, 2] bcast_S2x1x1024_S2x2048x1024_0_1_2 (extractStridedSlice S2x1x1024 ![0, 0, 2048] o slices_S2x1x3072_S2x1x1024_0_0_2048)) p)) shapeCasts_S2x2048x1024_S4096x1024
def flat (p : FVec Ideal S2x2048x1024 .f32) : FVec Ideal S4096x1024 .bf16 :=
  truncf .bf16 (shapeCast _ p shapeCasts_S2x2048x1024_S4096x1024) bitsLt_bf16_f32

theorem back (row : Fin 4096) : (⟨row.val / 2048 * 2048 + row.val % 2048, by omega⟩ : Fin 4096) = row := Fin.ext (by dsimp only; omega)
theorem prod_apply (y : FVec Ideal S4096x2048 .bf16) (w : FVec Ideal S2048x1024 .bf16) (b : Fin 2) (s : Fin 2048) (l : Fin 1024) :
    (prod y w (ix3 b s l) : EReal) = ∑ k : Fin 2048, (y (ix2 ⟨b.val * 2048 + s.val, UpRef.row_lt b s⟩ k) : EReal) * w (ix2 k l) := by
  pointwise [prod]
theorem prod_row (y : FVec Ideal S4096x2048 .bf16) (w : FVec Ideal S2048x1024 .bf16) (row : Fin 4096) (l : Fin 1024) :
    (prod y w (ix3 ⟨row.val / 2048, by omega⟩ ⟨row.val % 2048, by omega⟩ l) : EReal) = ∑ k : Fin 2048, (y (ix2 row k) : EReal) * w (ix2 k l) := by
  rw [prod_apply]
  exact congrArg (fun q : Fin 4096 => ∑ k : Fin 2048, (y (ix2 q k) : EReal) * w (ix2 k l)) (back row)
theorem next_apply (p : FVec Ideal S2x2048x1024 .f32) (x : FVec Ideal S4096x1024 .f32) (o : FVec Ideal S2x1x3072 .f32) (row : Fin 4096) (l : Fin 1024) :
    (next p x o (ix2 row l) : EReal) = x (ix2 row l) + o (ix3 ⟨row.val / 2048, by omega⟩ 0 ⟨2048 + l.val, by omega⟩) * p (ix3 ⟨row.val / 2048, by omega⟩ ⟨row.val % 2048, by omega⟩ l) := by
  pointwise [next]
  try rw [show (⟨row.val / 2048 * 2048 + row.val % 2048, by omega⟩ : Fin 4096) = row from back row]
theorem flat_apply (p : FVec Ideal S2x2048x1024 .f32) (row : Fin 4096) (l : Fin 1024) :
    (flat p (ix2 row l) : EReal) = p (ix3 ⟨row.val / 2048, by omega⟩ ⟨row.val % 2048, by omega⟩ l) := by
  pointwise [flat]
end reference

open Cert.FwdIdeal Cert.FwdIdeal.Gen
open Idealize.ShloMosaic.Pipeline (Dat)
variable (m : (ℓ : Loc nD τ sig) → Buf (Elt Ideal) ℓ)

theorem pay1 (x0 : Vec Ideal S1024x2048 .bf16) (x1 : Vec Ideal S2048x1024 .bf16) (r l : Fin 1024) :
    (k0_pay1 (F := Ideal) x0 x1 (ix2 r l) : EReal) = ∑ k : Fin 2048, (x0 (ix2 r k) : EReal) * x1 (ix2 k l) := by
  pointwise [k0_pay1]
theorem pay2 (x0 : Vec Ideal S1024x2048 .bf16) (x1 : Vec Ideal S2048x1024 .bf16) (r l : Fin 1024) :
    (k0_pay2 (F := Ideal) x0 x1 (ix2 r l) : EReal) = ∑ k : Fin 2048, (x0 (ix2 r k) : EReal) * x1 (ix2 k l) := by
  pointwise [k0_pay2, pay1]
theorem pay3 (x0 : Vec Ideal S1024x2048 .bf16) (x1 : Vec Ideal S2048x1024 .bf16) (x2 : Vec Ideal S1024x1024 .f32) (x3 : Vec Ideal S1x1x3072 .f32) (r l : Fin 1024) :
    (k0_pay3 (F := Ideal) x0 x1 x2 x3 (ix2 r l) : EReal) = x2 (ix2 r l) + x3 (ix3 0 0 ⟨2048 + l.val, by omega⟩) * ∑ k : Fin 2048, (x0 (ix2 r k) : EReal) * x1 (ix2 k l) := by
  pointwise [k0_pay3, pay1]

theorem hi0 : ∀ t : Fin cfg0.N, win0_0.index t (0 : Fin 2) = t.val ∧ win0_0.index t (1 : Fin 2) = 0 := (by decide +kernel : ∀ t : Fin grid0.N, _)
theorem hi1 : ∀ t : Fin cfg0.N, win0_1.index t (0 : Fin 2) = 0 ∧ win0_1.index t (1 : Fin 2) = 0 := (by decide +kernel : ∀ t : Fin grid0.N, _)
theorem hi2 : ∀ t : Fin cfg0.N, win0_2.index t (0 : Fin 2) = t.val ∧ win0_2.index t (1 : Fin 2) = 0 := (by decide +kernel : ∀ t : Fin grid0.N, _)
theorem hi3 : ∀ t : Fin cfg0.N, win0_3.index t (0 : Fin 3) = t.val / 2 ∧ win0_3.index t (1 : Fin 3) = 0 ∧ win0_3.index t (2 : Fin 3) = 0 := (by decide +kernel : ∀ t : Fin grid0.N, _)
theorem hi4 : ∀ t : Fin cfg0.N, win0_4.index t (0 : Fin 2) = t.val ∧ win0_4.index t (1 : Fin 2) = 0 := (by decide +kernel : ∀ t : Fin grid0.N, _)
theorem hi5 : ∀ t : Fin cfg0.N, win0_5.index t (0 : Fin 2) = t.val ∧ win0_5.index t (1 : Fin 2) = 0 := (by decide +kernel : ∀ t : Fin grid0.N, _)
theorem t_lt (t : Fin cfg0.N) : t.val < 4 := lt_of_lt_of_eq t.isLt N_0
theorem row_lt (t : Fin cfg0.N) (r : Fin 1024) : 1024 * t.val + r.val < 4096 := by have := t_lt t; omega
theorem b_lt (t : Fin cfg0.N) : t.val / 2 < 2 := by have := t_lt t; omega

/-- The arguments as the reference takes them, and their entries. -/
abbrev A0 (c : Dev nD) : FVec Ideal S4096x2048 .bf16 := m ((c : Thread nD τ).loc main_arg0)
abbrev A1 (c : Dev nD) : FVec Ideal S2048x1024 .bf16 := m ((c : Thread nD τ).loc main_arg1)
abbrev A2 (c : Dev nD) : FVec Ideal S4096x1024 .f32 := m ((c : Thread nD τ).loc main_arg2)
abbrev A3 (c : Dev nD) : FVec Ideal S2x1x3072 .f32 := m ((c : Thread nD τ).loc main_arg3)
def Y (c : Dev nD) (row : Fin 4096) (k : Fin 2048) : EReal := m ((c : Thread nD τ).loc main_arg0) (ix2 (n0 := 4096) (n1 := 2048) row k)
def W (c : Dev nD) (k : Fin 2048) (l : Fin 1024) : EReal := m ((c : Thread nD τ).loc main_arg1) (ix2 (n0 := 2048) (n1 := 1024) k l)
def X (c : Dev nD) (row : Fin 4096) (l : Fin 1024) : EReal := m ((c : Thread nD τ).loc main_arg2) (ix2 (n0 := 4096) (n1 := 1024) row l)
def M (c : Dev nD) (b : Fin 2) (l : Fin 3072) : EReal := m ((c : Thread nD τ).loc main_arg3) (ix3 (n0 := 2) (n1 := 1) (n2 := 3072) b 0 l)

/-- The blocks that a point loads. -/
abbrev B0 (c : Dev nD) (t : Fin cfg0.N) : Vec Ideal S1024x2048 .bf16 := iblk m c 0 t
abbrev B1 (c : Dev nD) (t : Fin cfg0.N) : Vec Ideal S2048x1024 .bf16 := iblk m c 1 t
abbrev B2 (c : Dev nD) (t : Fin cfg0.N) : Vec Ideal S1024x1024 .f32 := iblk m c 2 t
abbrev B3 (c : Dev nD) (t : Fin cfg0.N) : Vec Ideal S1x1x3072 .f32 := iblk m c 3 t

theorem rd0 (c : Dev nD) (t : Fin cfg0.N) (r : Fin 1024) (k : Fin 2048) : iblk m c 0 t (ix2 (n0 := 1024) (n1 := 2048) r k) = Y m c ⟨1024 * t.val + r.val, row_lt t r⟩ k := by
  blk_ext [Y, iblk, V_main_arg0, hi0 t]
theorem rd1 (c : Dev nD) (t : Fin cfg0.N) (k : Fin 2048) (l : Fin 1024) : iblk m c 1 t (ix2 (n0 := 2048) (n1 := 1024) k l) = W m c k l := by
  blk_ext [W, iblk, V_main_arg1, hi1 t]
theorem rd2 (c : Dev nD) (t : Fin cfg0.N) (r l : Fin 1024) : iblk m c 2 t (ix2 (n0 := 1024) (n1 := 1024) r l) = X m c ⟨1024 * t.val + r.val, row_lt t r⟩ l := by
  blk_ext [X, iblk, V_main_arg2, hi2 t]
theorem rd3 (c : Dev nD) (t : Fin cfg0.N) (l : Fin 3072) : iblk m c 3 t (ix3 (n0 := 1) (n1 := 1) (n2 := 3072) 0 0 l) = M m c ⟨t.val / 2, b_lt t⟩ l := by
  blk_ext [M, iblk, V_main_arg3, hi3 t]

/-- The two results at an index, and as arrays. -/
def P (c : Dev nD) (row : Fin 4096) (l : Fin 1024) : EReal := ∑ k : Fin 2048, Y m c row k * W m c k l
def R (c : Dev nD) (row : Fin 4096) (l : Fin 1024) : EReal := X m c row l + M m c ⟨row.val / 2048, by omega⟩ ⟨2048 + l.val, by omega⟩ * P m c row l
def G4 (c : Dev nD) : Buf (Elt Ideal) ((c : Thread nD τ).loc main_v0_0) := fun i : S4096x1024.Idx => R m c (i 0) (i 1)
def G5 (c : Dev nD) : Buf (Elt Ideal) ((c : Thread nD τ).loc main_v0_1) := fun i : S4096x1024.Idx => P m c (i 0) (i 1)

theorem out4 (x0 : Vec Ideal S1024x2048 .bf16) (x1 : Vec Ideal S2048x1024 .bf16) (x2 : Vec Ideal S1024x1024 .f32) (x3 : Vec Ideal S1x1x3072 .f32) :
    out0_4 x0 x1 x2 x3 = k0_pay3 x0 x1 x2 x3 := by
  unfold out0_4
  rw [View.canon_unit_zero hz2]
  simp only [View.ld_unit_zero (S := S1024x2048) hz2, View.ld_unit_zero (S := S2048x1024) hz2, View.ld_unit_zero (S := S1024x1024) hz2, View.ld_unit_zero (S := S1x1x3072) hz3]
theorem out5 (x0 : Vec Ideal S1024x2048 .bf16) (x1 : Vec Ideal S2048x1024 .bf16) (x2 : Vec Ideal S1024x1024 .f32) (x3 : Vec Ideal S1x1x3072 .f32) :
    out0_5 x0 x1 x2 x3 = k0_pay2 x0 x1 := by
  unfold out0_5
  rw [View.canon_unit_zero hz2]
  simp only [View.ld_unit_zero (S := S1024x2048) hz2, View.ld_unit_zero (S := S2048x1024) hz2]

theorem val5 (c : Dev nD) (t : Fin cfg0.N) (r l : Fin 1024) :
    (k0_pay2 (F := Ideal) (B0 m c t) (B1 m c t) (ix2 r l) : EReal) = P m c ⟨1024 * t.val + r.val, row_lt t r⟩ l :=
  (pay2 _ _ r l).trans (Finset.sum_congr rfl fun k _ => congrArg₂ (fun a b : EReal => a * b) (rd0 m c t r k) (rd1 m c t k l))
theorem val4 (c : Dev nD) (t : Fin cfg0.N) (r l : Fin 1024) :
    (k0_pay3 (F := Ideal) (B0 m c t) (B1 m c t) (B2 m c t) (B3 m c t) (ix2 r l) : EReal) = R m c ⟨1024 * t.val + r.val, row_lt t r⟩ l := by
  have eb : (1024 * t.val + r.val) / 2048 = t.val / 2 := by have := r.isLt; omega
  unfold R
  simp only [eb]
  rw [← val5 m c t r l, pay2, pay3]
  exact congrArg₂ (fun a b : EReal => a + b) (rd2 m c t r l) (congrArg (fun a : EReal => a * _) (rd3 m c t _))

theorem flushed4 (c : Dev nD) (t : Fin cfg0.N) : (dats m 0 c).flushed 4 t = ((cfg0.win 4).blk t).view.read (Elt Ideal) (G4 m c) := by
  show (cfg0.win 4).cut (grid0.coords t) ((dats m 0 c).after 4 t) = _
  rw [after0_4, out4]
  obtain ⟨e0, e1⟩ := hi4 t
  refine ext2 (a := 1024) (b := 1024) _ _ fun r l => ?_
  refine (val4 m c t r l).trans ?_
  have h0 : (((cfg0.win 4).blk t).view.emb (ix2 (n0 := 1024) (n1 := 1024) r l) 0).val = win0_4.index t (0 : Fin 2) * 1024 + 1 * r.val := rfl
  have h1 : (((cfg0.win 4).blk t).view.emb (ix2 (n0 := 1024) (n1 := 1024) r l) 1).val = win0_4.index t (1 : Fin 2) * 1024 + 1 * l.val := rfl
  show _ = R m c (((cfg0.win 4).blk t).view.emb (ix2 (n0 := 1024) (n1 := 1024) r l) 0) (((cfg0.win 4).blk t).view.emb (ix2 (n0 := 1024) (n1 := 1024) r l) 1)
  congr 1 <;> apply Fin.ext
  · rw [h0, e0]; show 1024 * t.val + r.val = _; omega
  · rw [h1, e1]; show l.val = _; omega

theorem flushed5 (c : Dev nD) (t : Fin cfg0.N) : (dats m 0 c).flushed 5 t = ((cfg0.win 5).blk t).view.read (Elt Ideal) (G5 m c) := by
  show (cfg0.win 5).cut (grid0.coords t) ((dats m 0 c).after 5 t) = _
  rw [after0_5, out5]
  obtain ⟨e0, e1⟩ := hi5 t
  refine ext2 (a := 1024) (b := 1024) _ _ fun r l => ?_
  refine (val5 m c t r l).trans ?_
  have h0 : (((cfg0.win 5).blk t).view.emb (ix2 (n0 := 1024) (n1 := 1024) r l) 0).val = win0_5.index t (0 : Fin 2) * 1024 + 1 * r.val := rfl
  have h1 : (((cfg0.win 5).blk t).view.emb (ix2 (n0 := 1024) (n1 := 1024) r l) 1).val = win0_5.index t (1 : Fin 2) * 1024 + 1 * l.val := rfl
  show _ = P m c (((cfg0.win 5).blk t).view.emb (ix2 (n0 := 1024) (n1 := 1024) r l) 0) (((cfg0.win 5).blk t).view.emb (ix2 (n0 := 1024) (n1 := 1024) r l) 1)
  congr 1 <;> apply Fin.ext
  · rw [h0, e0]; show 1024 * t.val + r.val = _; omega
  · rw [h1, e1]; show l.val = _; omega

/-- The written blocks cover the two arrays. -/
theorem cover4 (i : S4096x1024.Idx) : ∃ t : Fin cfg0.N, (cfg0.win 4).flush t = true ∧ i ∈ ((cfg0.win 4).blk t).view.set := by
  have b0 : (i 0).val < 4096 := (i 0).isLt
  have b1 : (i 1).val < 1024 := (i 1).isLt
  have hN : cfg0.N = 4 := N_0
  let t : Fin cfg0.N := ⟨(i 0).val / 1024, by omega⟩
  have ht : t.val = (i 0).val / 1024 := rfl
  obtain ⟨e0, e1⟩ := hi4 t
  refine ⟨t, flush0_4 t, ?_⟩
  show i ∈ ((View.whole main_v0_0).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega
theorem cover5 (i : S4096x1024.Idx) : ∃ t : Fin cfg0.N, (cfg0.win 5).flush t = true ∧ i ∈ ((cfg0.win 5).blk t).view.set := by
  have b0 : (i 0).val < 4096 := (i 0).isLt
  have b1 : (i 1).val < 1024 := (i 1).isLt
  have hN : cfg0.N = 4 := N_0
  let t : Fin cfg0.N := ⟨(i 0).val / 1024, by omega⟩
  have ht : t.val = (i 0).val / 1024 := rfl
  obtain ⟨e0, e1⟩ := hi5 t
  refine ⟨t, flush0_5 t, ?_⟩
  show i ∈ ((View.whole main_v0_1).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- The run leaves the two arrays. -/
theorem run (ρ : Dev nD → PrngReg) : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h.1 c).1 4).trans ((dats m 0 c).arrAt_eq_of_cover 4 _ (fun t _ => flushed4 m c t) cover4),
        ((h.1 c).1 5).trans ((dats m 0 c).arrAt_eq_of_cover 5 _ (fun t _ => flushed5 m c t) cover5), h.2 c⟩)
    (θ_run_and (run_main m ρ) (frame_of m ρ (dats m) (A_eq m) (run_main m ρ)))

/-- The reference's results are the call's. -/
theorem tie5 (c : Dev nD) : flat (prod (A0 m c) (A1 m c)) = G5 m c :=
  ext2 _ _ fun row l => (flat_apply _ row l).trans (prod_row _ _ row l)
theorem tie4 (c : Dev nD) : next (prod (A0 m c) (A1 m c)) (A2 m c) (A3 m c) = G4 m c :=
  ext2 _ _ fun row l => (next_apply _ _ _ row l).trans (congrArg (fun a : EReal => _ + _ * a) (prod_row _ _ row l))

end Cert.FwdTie
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Tie
public import proofs.«01_k».proof.Proof.Gen.GradIn.Frame
public import proofs.«01_k».proof.Proof.Gen.GradInIdeal.Value
public import proofs.«01_k».proof.Proof.Gen.GradInRefIdeal.Run
public import proofs.«01_k».proof.Proof.Gen.GradOut.Frame
public import proofs.«01_k».proof.Proof.Gen.GradOutIdeal.Value
public import proofs.«01_k».proof.Proof.Gen.GradOutRefIdeal.Run
public import proofs.«01_k».proof.Proof.Gen.GradInA.Frame
public import proofs.«01_k».proof.Proof.Gen.GradInAIdeal.Value
public import proofs.«01_k».proof.Proof.Gen.GradInARefIdeal.Run
public import proofs.«01_k».proof.Proof.Gen.Up.Frame
public import proofs.«01_k».proof.Proof.Gen.UpIdeal.Value
public import proofs.«01_k».proof.Proof.Gen.UpRefIdeal.Run
public import proofs.«01_k».proof.Proof.Gen.UpA.Frame
public import proofs.«01_k».proof.Proof.Gen.UpAIdeal.Value
public import proofs.«01_k».proof.Proof.Gen.UpARefIdeal.Run
public import proofs.«01_k».proof.Proof.Gen.Proj.Frame
public import proofs.«01_k».proof.Proof.Gen.Proj.Skeleton
public import proofs.«01_k».proof.Proof.Gen.ProjIdeal.Frame
public import proofs.«01_k».proof.Proof.Gen.ProjIdeal.Skeleton
public import proofs.«01_k».proof.Proof.Gen.ProjRefIdeal.Run
public import proofs.«01_k».proof.Proof.Gen.ProjA.Frame
public import proofs.«01_k».proof.Proof.Gen.ProjA.Skeleton
public import proofs.«01_k».proof.Proof.Gen.ProjAIdeal.Frame
public import proofs.«01_k».proof.Proof.Gen.ProjAIdeal.Skeleton
public import proofs.«01_k».proof.Proof.Gen.ProjARefIdeal.Run
public import proofs.«01_k».proof.Proof.Gen.Fwd.Frame
public import proofs.«01_k».proof.Proof.Gen.FwdIdeal.Frame
public import proofs.«01_k».proof.Proof.Gen.FwdRefIdeal.Run
public import proofs.«01_k».proof.Proof.GradIn
public import proofs.«01_k».proof.Proof.GradOut
public import proofs.«01_k».proof.Proof.GradInA
public import proofs.«01_k».proof.Proof.UpTie
public import proofs.«01_k».proof.Proof.UpATie
public import proofs.«01_k».proof.Proof.ProjKFrame
public import proofs.«01_k».proof.Proof.ProjTie
public import proofs.«01_k».proof.Proof.ProjAKFrame
public import proofs.«01_k».proof.Proof.ProjATie
public import proofs.«01_k».proof.Proof.FwdTie
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

/-- The reference runs to its end: its arguments are unchanged, and it declares no semaphore. -/
theorem frame_ref : Cert.quiescent_ReferenceIdeal := fun m ρ _ =>
  (θ_run _ _ _).mono (fun r h => ⟨fun c => (h c).2.2.2.2.2, sem_eq_zero_of_no_sems (by decide) r.2⟩) (Cert.ReferenceIdeal.Value.run m ρ)

/-- The two constants that the ideal kernel names are the reals they stand for. -/
theorem preserves : Cert.preserves_Kernel_KernelIdeal :=
  ⟨IdealRules.named_const.statement Cert.KernelIdeal.κ "gelu_c1" .f32 0x3D372713#32 ((8943 / 200000 : ℝ) : EReal) rfl,
    IdealRules.named_const.statement Cert.KernelIdeal.κ "gelu_c1_times_3" .f32 0x3E095D4F#32 ((26829 / 200000 : ℝ) : EReal) rfl⟩

/-- Over the extended reals the two programs leave the same five gradients. -/
theorem algebraic : Cert.algebraic_KernelIdeal_ReferenceIdeal_pre_finite := by
  intro m g m' g' hpre hagree
  refine ⟨Cert.KernelIdeal.Value.G6 m, Cert.KernelIdeal.Value.G7 m, Cert.KernelIdeal.Value.G8 m, Cert.KernelIdeal.Value.G9 m, Cert.KernelIdeal.Value.G10 m,
    Cert.KernelIdeal.Value.run m g, (θ_run _ _ _).mono (fun r h c => ?_) (Cert.ReferenceIdeal.Value.run m' g')⟩
  have R := Cert.Sgu.reads_of m hpre c
  have Q : Cert.Sgu.RReads (Cert.Sgu.arrAt m c) (StableHlo.launchContents m' c) :=
    R.toRef (hagree c).1 (hagree c).2.1 (hagree c).2.2.1 (hagree c).2.2.2.1 (hagree c).2.2.2.2.1 (hagree c).2.2.2.2.2
  obtain ⟨h1, h2, h3, h4, h5, ha⟩ := h c
  exact ⟨h1.trans (Cert.Sgu.tie6 R Q), h2.trans (Cert.Sgu.tie7 R Q), h3.trans (Cert.Sgu.tie8 R Q), h4.trans (Cert.Sgu.tie9 R Q), h5.trans (Cert.Sgu.tie10 R Q), ha⟩

theorem frame_ref_GradIn : Cert.quiescent_GradInRefIdeal := fun m ρ _ =>
  (θ_run _ _ _).mono (fun r h => ⟨fun c => (h c).2, sem_eq_zero_of_no_sems (by decide) r.2⟩) (Cert.GradInRefIdeal.Value.run m ρ)

/-- The gradient of mixer B's input projection's weights. -/
theorem algebraic_GradIn : Cert.algebraic_GradInIdeal_GradInRefIdeal := by
  intro m g m' g' _ hagree
  refine ⟨Cert.GradInIdeal.Value.G2 m, Cert.GradInIdeal.Value.run m g, (θ_run _ _ _).mono (fun r h c => ⟨?_, (h c).2⟩) (Cert.GradInRefIdeal.Value.run m' g')⟩
  rw [(h c).1, (hagree c).1, (hagree c).2]
  exact Cert.GradIn.tie m c

theorem frame_ref_GradOut : Cert.quiescent_GradOutRefIdeal := fun m ρ _ =>
  (θ_run _ _ _).mono (fun r h => ⟨fun c => (h c).2, sem_eq_zero_of_no_sems (by decide) r.2⟩) (Cert.GradOutRefIdeal.Value.run m ρ)

/-- The gradient of an output projection's weights. -/
theorem algebraic_GradOut : Cert.algebraic_GradOutIdeal_GradOutRefIdeal := by
  intro m g m' g' _ hagree
  refine ⟨Cert.GradOutIdeal.Value.G2 m, Cert.GradOutIdeal.Value.run m g, (θ_run _ _ _).mono (fun r h c => ⟨?_, (h c).2⟩) (Cert.GradOutRefIdeal.Value.run m' g')⟩
  rw [(h c).1, (hagree c).1, (hagree c).2]
  exact Cert.GradOut.tie m c

theorem frame_ref_GradInA : Cert.quiescent_GradInARefIdeal := fun m ρ _ =>
  (θ_run _ _ _).mono (fun r h => ⟨fun c => (h c).2, sem_eq_zero_of_no_sems (by decide) r.2⟩) (Cert.GradInARefIdeal.Value.run m ρ)

/-- The gradient of mixer A's input projection's weights. -/
theorem algebraic_GradInA : Cert.algebraic_GradInAIdeal_GradInARefIdeal := by
  intro m g m' g' _ hagree
  refine ⟨Cert.GradInAIdeal.Value.G2 m, Cert.GradInAIdeal.Value.run m g, (θ_run _ _ _).mono (fun r h c => ⟨?_, (h c).2⟩) (Cert.GradInARefIdeal.Value.run m' g')⟩
  rw [(h c).1, (hagree c).1, (hagree c).2]
  exact Cert.GradInA.tie m c

theorem frame_ref_Up : Cert.quiescent_UpRefIdeal := fun m ρ _ =>
  (θ_run _ _ _).mono (fun r h => ⟨fun c => (h c).2.2.2.2, sem_eq_zero_of_no_sems (by decide) r.2⟩) (Cert.UpRefIdeal.Value.run m ρ)

/-- The gradient of mixer B's input projection and its norm: to the rows, the shift, the scale and the gain. -/
theorem algebraic_Up : Cert.algebraic_UpIdeal_UpRefIdeal := by
  intro m g m' g' _ hagree
  refine ⟨Cert.UpIdeal.Value.G6 m, Cert.UpIdeal.Value.G7 m, Cert.UpIdeal.Value.G8 m, Cert.UpIdeal.Value.G9 m, Cert.UpIdeal.Value.run m g,
    (θ_run _ _ _).mono (fun r h c => ?_) (Cert.UpRefIdeal.Value.run m' g')⟩
  have e0 := (hagree c).1
  have e1 := (hagree c).2.1
  have e2 := (hagree c).2.2.1
  have e3 := (hagree c).2.2.2.1
  have e4 := (hagree c).2.2.2.2.1
  have e5 := (hagree c).2.2.2.2.2
  refine ⟨?_, ?_, ?_, ?_, (h c).2.2.2.2⟩
  · rw [(h c).1, Cert.Up.grad_eq, e0, e1, e2, e3, e4, e5]
    exact Cert.Up.tie6 m c
  · rw [(h c).2.1, e0, e1]
    exact Cert.Up.tie7 m c
  · rw [(h c).2.2.1, e0, e1, e2, e5]
    exact Cert.Up.tie8 m c
  · rw [(h c).2.2.2.1, e0, e1, e2, e4]
    exact Cert.Up.tie9 m c

theorem frame_ref_UpA : Cert.quiescent_UpARefIdeal := fun m ρ _ =>
  (θ_run _ _ _).mono (fun r h => ⟨fun c => (h c).2.2.2.2, sem_eq_zero_of_no_sems (by decide) r.2⟩) (Cert.UpARefIdeal.Value.run m ρ)

/-- The gradient of mixer A's input projection and its norm: to the rows, the shift, the scale and the gain. -/
theorem algebraic_UpA : Cert.algebraic_UpAIdeal_UpARefIdeal := by
  intro m g m' g' _ hagree
  refine ⟨Cert.UpAIdeal.Value.G6 m, Cert.UpAIdeal.Value.G7 m, Cert.UpAIdeal.Value.G8 m, Cert.UpAIdeal.Value.G9 m, Cert.UpAIdeal.Value.run m g,
    (θ_run _ _ _).mono (fun r h c => ?_) (Cert.UpARefIdeal.Value.run m' g')⟩
  have e0 := (hagree c).1
  have e1 := (hagree c).2.1
  have e2 := (hagree c).2.2.1
  have e3 := (hagree c).2.2.2.1
  have e4 := (hagree c).2.2.2.2.1
  have e5 := (hagree c).2.2.2.2.2
  refine ⟨?_, ?_, ?_, ?_, (h c).2.2.2.2⟩
  · rw [(h c).1, Cert.UpA.grad_eq, e0, e1, e2, e3, e4, e5]
    exact Cert.UpA.tie6 m c
  · rw [(h c).2.1, e0, e1]
    exact Cert.UpA.tie7 m c
  · rw [(h c).2.2.1, e0, e1, e2, e5]
    exact Cert.UpA.tie8 m c
  · rw [(h c).2.2.2.1, e0, e1, e2, e4]
    exact Cert.UpA.tie9 m c

theorem frame_ref_Proj : Cert.quiescent_ProjRefIdeal := fun m ρ _ =>
  (θ_run _ _ _).mono (fun r h => ⟨fun c => (h c).2.2, sem_eq_zero_of_no_sems (by decide) r.2⟩) (Cert.ProjRefIdeal.Value.run m ρ)

/-- Mixer B's input projection: the product, and the normed rows that enter it. -/
theorem algebraic_Proj : Cert.algebraic_ProjIdeal_ProjRefIdeal := by
  intro m g m' g' _ hagree
  refine ⟨Cert.ProjTie.G4 m, Cert.ProjTie.G5 m, Cert.ProjTie.run m g,
    (θ_run _ _ _).mono (fun r h c => ?_) (Cert.ProjRefIdeal.Value.run m' g')⟩
  have e0 := (hagree c).1
  have e1 := (hagree c).2.1
  have e2 := (hagree c).2.2.1
  have e3 := (hagree c).2.2.2
  refine ⟨?_, ?_, (h c).2.2⟩
  · rw [(h c).1, e0, e1, e2, e3]
    exact Cert.ProjTie.tie4 m c
  · rw [(h c).2.1, e0, e1, e2]
    exact Cert.ProjTie.tie5 m c

theorem frame_ref_ProjA : Cert.quiescent_ProjARefIdeal := fun m ρ _ =>
  (θ_run _ _ _).mono (fun r h => ⟨fun c => (h c).2.2, sem_eq_zero_of_no_sems (by decide) r.2⟩) (Cert.ProjARefIdeal.Value.run m ρ)

/-- Mixer A's input projection: the product, and the normed rows that enter it. -/
theorem algebraic_ProjA : Cert.algebraic_ProjAIdeal_ProjARefIdeal := by
  intro m g m' g' _ hagree
  refine ⟨Cert.ProjATie.G4 m, Cert.ProjATie.G5 m, Cert.ProjATie.run m g,
    (θ_run _ _ _).mono (fun r h c => ?_) (Cert.ProjARefIdeal.Value.run m' g')⟩
  have e0 := (hagree c).1
  have e1 := (hagree c).2.1
  have e2 := (hagree c).2.2.1
  have e3 := (hagree c).2.2.2
  refine ⟨?_, ?_, (h c).2.2⟩
  · rw [(h c).1, e0, e1, e2, e3]
    exact Cert.ProjATie.tie4 m c
  · rw [(h c).2.1, e0, e1, e2]
    exact Cert.ProjATie.tie5 m c

theorem frame_ref_Fwd : Cert.quiescent_FwdRefIdeal := fun m ρ _ =>
  (θ_run _ _ _).mono (fun r h => ⟨fun c => (h c).2.2, sem_eq_zero_of_no_sems (by decide) r.2⟩) (Cert.FwdRefIdeal.Value.run m ρ)

/-- Mixer A's output projection: the rows after gate and residual, and the product. -/
theorem algebraic_Fwd : Cert.algebraic_FwdIdeal_FwdRefIdeal := by
  intro m g m' g' _ hagree
  refine ⟨Cert.FwdTie.G4 m, Cert.FwdTie.G5 m, Cert.FwdTie.run m g,
    (θ_run _ _ _).mono (fun r h c => ?_) (Cert.FwdRefIdeal.Value.run m' g')⟩
  have e0 := (hagree c).1
  have e1 := (hagree c).2.1
  have e2 := (hagree c).2.2.1
  have e3 := (hagree c).2.2.2
  refine ⟨?_, ?_, (h c).2.2⟩
  · rw [(h c).1, e0, e1, e2, e3]
    exact Cert.FwdTie.tie4 m c
  · rw [(h c).2.1, e0, e1]
    exact Cert.FwdTie.tie5 m c

theorem claim : Cert.Claim :=
  ⟨Cert.Kernel.Gen.facts, Cert.KernelIdeal.Gen.facts, Cert.ReferenceIdeal.Gen.facts,
    Cert.GradIn.Gen.facts, Cert.GradInIdeal.Gen.facts, Cert.GradInRefIdeal.Gen.facts, Cert.GradOut.Gen.facts, Cert.GradOutIdeal.Gen.facts, Cert.GradOutRefIdeal.Gen.facts, Cert.GradInA.Gen.facts, Cert.GradInAIdeal.Gen.facts, Cert.GradInARefIdeal.Gen.facts, Cert.Up.Gen.facts, Cert.UpIdeal.Gen.facts, Cert.UpRefIdeal.Gen.facts, Cert.UpA.Gen.facts, Cert.UpAIdeal.Gen.facts, Cert.UpARefIdeal.Gen.facts,
    Cert.Proj.Gen.facts, Cert.ProjIdeal.Gen.facts, Cert.ProjRefIdeal.Gen.facts, Cert.ProjA.Gen.facts, Cert.ProjAIdeal.Gen.facts, Cert.ProjARefIdeal.Gen.facts, Cert.Fwd.Gen.facts, Cert.FwdIdeal.Gen.facts, Cert.FwdRefIdeal.Gen.facts,
    Cert.Pre_finite.Gen.facts,
    frame_kernel, frame_ideal, fun m ρ _ => frame_ideal m ρ trivial, frame_ref, fun m ρ _ => frame_ref m ρ trivial,
    fun m ρ _ => Cert.GradIn.Gen.frame m ρ, fun m ρ _ => Cert.GradInIdeal.Gen.frame m ρ, frame_ref_GradIn, fun m ρ _ => Cert.GradOut.Gen.frame m ρ, fun m ρ _ => Cert.GradOutIdeal.Gen.frame m ρ, frame_ref_GradOut, fun m ρ _ => Cert.GradInA.Gen.frame m ρ, fun m ρ _ => Cert.GradInAIdeal.Gen.frame m ρ, frame_ref_GradInA,
    fun m ρ _ => Cert.Up.Gen.frame m ρ, fun m ρ _ => Cert.UpIdeal.Gen.frame m ρ, frame_ref_Up,
    fun m ρ _ => Cert.UpA.Gen.frame m ρ, fun m ρ _ => Cert.UpAIdeal.Gen.frame m ρ, frame_ref_UpA,
    fun m ρ _ => Cert.Proj.Gen.frame_run m ρ, fun m ρ _ => Cert.ProjIdeal.Gen.frame_run m ρ, frame_ref_Proj,
    fun m ρ _ => Cert.ProjA.Gen.frame_run m ρ, fun m ρ _ => Cert.ProjAIdeal.Gen.frame_run m ρ, frame_ref_ProjA,
    fun m ρ _ => Cert.Fwd.Gen.frame m ρ, fun m ρ _ => Cert.FwdIdeal.Gen.frame m ρ, frame_ref_Fwd,
    preserves, algebraic, (trivial : preserves_GradIn_GradInIdeal), algebraic_GradIn, (trivial : preserves_GradOut_GradOutIdeal), algebraic_GradOut, (trivial : preserves_GradInA_GradInAIdeal), algebraic_GradInA,
    (trivial : preserves_Up_UpIdeal), algebraic_Up, (trivial : preserves_UpA_UpAIdeal), algebraic_UpA,
    (trivial : preserves_Proj_ProjIdeal), algebraic_Proj, (trivial : preserves_ProjA_ProjAIdeal), algebraic_ProjA, (trivial : preserves_Fwd_FwdIdeal), algebraic_Fwd⟩

end Cert.Proof

end
